-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 [hPre_pre2 : Cert.Pre_pre2.Facts] (m : (ℓ : Loc Cert.Kernel2.nD Cert.Kernel2.τ Cert.Kernel2.sig) → Buf (Elt Bits) ℓ) : Prop :=
  ∀ c : Dev Cert.Kernel2.nD,
    (Cert.Pre_pre2.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4))) = (fun _ => 1#1)

def Pre_Kernel2Ideal [hPre_pre2 : Cert.Pre_pre2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_pre2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal [hPre_pre2 : Cert.Pre_pre2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_pre2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 [hPre_pre3 : Cert.Pre_pre3.Facts] (m : (ℓ : Loc Cert.Kernel3.nD Cert.Kernel3.τ Cert.Kernel3.sig) → Buf (Elt Bits) ℓ) : Prop :=
  ∀ c : Dev Cert.Kernel3.nD,
    (Cert.Pre_pre3.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2))) = (fun _ => 1#1)

def Pre_Kernel3Ideal [hPre_pre3 : Cert.Pre_pre3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_pre3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))) = (fun _ => 1#1)

def Pre_Reference3Ideal [hPre_pre3 : Cert.Pre_pre3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_pre3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] [hPre_pre2 : Cert.Pre_pre2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] [hPre_pre2 : Cert.Pre_pre2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] [hPre_pre2 : Cert.Pre_pre2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] [hPre_pre3 : Cert.Pre_pre3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] [hPre_pre3 : Cert.Pre_pre3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] [hPre_pre3 : Cert.Pre_pre3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def preserves_Kernel_KernelIdeal : Prop :=
  True

def algebraic_KernelIdeal_ReferenceIdeal_on_written_pre_pre [hKernelIdeal : Cert.KernelIdeal.Facts] [hReferenceIdeal : Cert.ReferenceIdeal.Facts] [hPre_pre : Cert.Pre_pre.Facts] [hOn_written : Cert.On_written.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![8320, 8192]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 i = 1#1 → r.2.mem ((c.tc : Thread Cert.KernelIdeal.nD Cert.KernelIdeal.τ).loc Cert.KernelIdeal.main_v15_0) i = v0 c i)
          ∧ (∀ i : (⟨4, ![4, 128, 64, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2 i = 1#1 → r.2.mem ((c.tc : Thread Cert.KernelIdeal.nD Cert.KernelIdeal.τ).loc Cert.KernelIdeal.main_v15_1) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![8320, 8192]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 i = 1#1 → r.2.mem ((c.tc : Thread Cert.ReferenceIdeal.nD Cert.ReferenceIdeal.τ).loc Cert.ReferenceIdeal.main_v234) i = v0 c i)
          ∧ (∀ i : (⟨4, ![4, 128, 64, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2 i = 1#1 → r.2.mem ((c.tc : Thread Cert.ReferenceIdeal.nD Cert.ReferenceIdeal.τ).loc Cert.ReferenceIdeal.main_v235) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] [hPre_pre2 : Cert.Pre_pre2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v30)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v30) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v38) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] [hPre_pre3 : Cert.Pre_pre3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v30)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v30) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v30) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v10) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v13) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v13) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v10) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_pre : Cert.Pre_pre.Facts) (hPre_pre2 : Cert.Pre_pre2.Facts) (hPre_pre3 : Cert.Pre_pre3.Facts) (hOn_written : Cert.On_written.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ quiescent_Kernel2 (hKernel2 := hKernel2) (hPre_pre2 := hPre_pre2)
    ∧ quiescent_Kernel2Ideal (hKernel2Ideal := hKernel2Ideal) (hPre_pre2 := hPre_pre2)
    ∧ quiescent_Reference2Ideal (hReference2Ideal := hReference2Ideal) (hPre_pre2 := hPre_pre2)
    ∧ quiescent_Kernel3 (hKernel3 := hKernel3) (hPre_pre3 := hPre_pre3)
    ∧ quiescent_Kernel3Ideal (hKernel3Ideal := hKernel3Ideal) (hPre_pre3 := hPre_pre3)
    ∧ quiescent_Reference3Ideal (hReference3Ideal := hReference3Ideal) (hPre_pre3 := hPre_pre3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ algebraic_KernelIdeal_ReferenceIdeal_on_written_pre_pre (hKernelIdeal := hKernelIdeal) (hReferenceIdeal := hReferenceIdeal) (hPre_pre := hPre_pre) (hOn_written := hOn_written)
    ∧ preserves_Kernel2_Kernel2Ideal
    ∧ algebraic_Kernel2Ideal_Reference2Ideal (hKernel2Ideal := hKernel2Ideal) (hReference2Ideal := hReference2Ideal) (hPre_pre2 := hPre_pre2)
    ∧ preserves_Kernel3_Kernel3Ideal
    ∧ algebraic_Kernel3Ideal_Reference3Ideal (hKernel3Ideal := hKernel3Ideal) (hReference3Ideal := hReference3Ideal) (hPre_pre3 := hPre_pre3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
-- ==== On_written.lean ====
abbrev S8320x8192 : Shape := ⟨2, ![8320, 8192]⟩
abbrev S8320x2048 : Shape := ⟨2, ![8320, 2048]⟩
abbrev S8320x128 : Shape := ⟨2, ![8320, 128]⟩
abbrev S8192 : Shape := ⟨1, ![8192]⟩
abbrev S128 : Shape := ⟨1, ![128]⟩
abbrev S_ : Shape := ⟨0, ![]⟩
abbrev S4x128x64x128 : Shape := ⟨4, ![4, 128, 64, 128]⟩

class Facts : Prop where
  bcast_S_S8320x8192 : S_.BroadcastsInDim S8320x8192 (![] : Fin 0 → Fin S8320x8192.rank)
  bcast_S_S4x128x64x128 : S_.BroadcastsInDim S4x128x64x128 (![] : Fin 0 → Fin S4x128x64x128.rank)

variable [Facts]

def fn {F : FTy → Type} [FloatOps F] (main_arg0 : FVec F S8320x8192 .f32) (main_arg1 : FVec F S8320x2048 .bf16) (main_arg2 : FVec F S8320x128 .f32) (main_arg3 : FVec F S8320x8192 .f32) (main_arg4 : FVec F S8192 .f32) (main_arg5 : FVec F S128 .f32) (main_arg6 : FVec F S128 .f32) (main_arg7 : FVec F S128 .f32) : IVec S8320x8192 1 × IVec S4x128x64x128 1 :=
  let main_v0 : IVec S8320x8192 32 := iotaInDim S8320x8192 32 0
  let main_c : IVec S_ 32 := constantI S_ 32 8192#32
  let main_v1 : IVec S8320x8192 32 := broadcastInDim S8320x8192 ![] bcast_S_S8320x8192 main_c
  let main_v2 : IVec S8320x8192 1 := cmpi .slt main_v0 main_v1
  let main_c_0 : IVec S_ 1 := constantI S_ 1 1#1
  let main_v3 : IVec S4x128x64x128 1 := broadcastInDim S4x128x64x128 ![] bcast_S_S4x128x64x128 main_c_0
  (main_v2, main_v3)
-- ==== Pre_pre.lean ====
abbrev S8320x8192 : Shape := ⟨2, ![8320, 8192]⟩
abbrev S8320x2048 : Shape := ⟨2, ![8320, 2048]⟩
abbrev S8320x128 : Shape := ⟨2, ![8320, 128]⟩
abbrev S8192 : Shape := ⟨1, ![8192]⟩
abbrev S128 : Shape := ⟨1, ![128]⟩
abbrev S_ : Shape := ⟨0, ![]⟩

class Facts : Prop where
  bcast_S_S8320x128 : S_.BroadcastsInDim S8320x128 (![] : Fin 0 → Fin S8320x128.rank)
  reducesTo_S8320x128_S_d0_1 : S8320x128.ReducesTo [0, 1] S_
  h_S_ : 0 < S_.numel
  bcast_S_S128 : S_.BroadcastsInDim S128 (![] : Fin 0 → Fin S128.rank)
  reducesTo_S128_S_d0 : S128.ReducesTo [0] S_

variable [Facts]

def fn {F : FTy → Type} [FloatOps F] (main_arg0 : FVec F S8320x8192 .f32) (main_arg1 : FVec F S8320x2048 .bf16) (main_arg2 : FVec F S8320x128 .f32) (main_arg3 : FVec F S8320x8192 .f32) (main_arg4 : FVec F S8192 .f32) (main_arg5 : FVec F S128 .f32) (main_arg6 : FVec F S128 .f32) (main_arg7 : FVec F S128 .f32) : IVec S_ 1 :=
  let main_cst : FVec F S_ .f32 := constant S_ .f32 0x7F800000#32
  let main_v0 : FVec F S8320x128 .f32 := broadcastInDim S8320x128 ![] bcast_S_S8320x128 main_cst
  let main_v1 : IVec S8320x128 1 := cmpf .olt main_arg2 main_v0
  let main_c : IVec S_ 1 := constantI S_ 1 1#1
  let main_v2 : IVec S_ 1 := (fun x v => Host.reduce IntOp.andi x v reducesTo_S8320x128_S_d0_1 h_S_) main_v1 main_c
  let main_cst_0 : FVec F S_ .f32 := constant S_ .f32 0x7F800000#32
  let main_v3 : FVec F S128 .f32 := broadcastInDim S128 ![] bcast_S_S128 main_cst_0
  let main_v4 : IVec S128 1 := cmpf .olt main_arg5 main_v3
  let main_c_1 : IVec S_ 1 := constantI S_ 1 1#1
  let main_v5 : IVec S_ 1 := (fun x v => Host.reduce IntOp.andi x v reducesTo_S128_S_d0 h_S_) main_v4 main_c_1
  let main_v6 : IVec S_ 1 := andi main_v2 main_v5
  let main_cst_2 : FVec F S_ .f32 := constant S_ .f32 0x7F800000#32
  let main_v7 : FVec F S128 .f32 := broadcastInDim S128 ![] bcast_S_S128 main_cst_2
  let main_v8 : IVec S128 1 := cmpf .olt main_arg6 main_v7
  let main_c_3 : IVec S_ 1 := constantI S_ 1 1#1
  let main_v9 : IVec S_ 1 := (fun x v => Host.reduce IntOp.andi x v reducesTo_S128_S_d0 h_S_) main_v8 main_c_3
  let main_v10 : IVec S_ 1 := andi main_v6 main_v9
  main_v10
-- ==== Pre_pre2.lean ====
abbrev S24832x4096 : Shape := ⟨2, ![24832, 4096]⟩
abbrev S24832x1 : Shape := ⟨2, ![24832, 1]⟩
abbrev S2x32x4096x1024 : Shape := ⟨4, ![2, 32, 4096, 1024]⟩
abbrev S32 : Shape := ⟨1, ![32]⟩
abbrev S1 : Shape := ⟨1, ![1]⟩
abbrev S_ : Shape := ⟨0, ![]⟩

class Facts : Prop where
  slices_S32_S1_31 : S32.Slices ![31] S1
  shapeCasts_S1_S_ : S1.ShapeCasts S_

variable [Facts]

def fn {F : FTy → Type} [FloatOps F] (main_arg0 : FVec F S24832x4096 .bf16) (main_arg1 : FVec F S24832x1 .f32) (main_arg2 : FVec F S2x32x4096x1024 .f32) (main_arg3 : FVec F S2x32x4096x1024 .f32) (main_arg4 : IVec S32 32) : IVec S_ 1 :=
  let main_v0 : IVec S1 32 := (extractStridedSlice S1 ![31] · slices_S32_S1_31) main_arg4
  let main_v1 : IVec S_ 32 := shapeCast S_ main_v0 shapeCasts_S1_S_
  let main_c : IVec S_ 32 := constantI S_ 32 1#32
  let main_v2 : IVec S_ 1 := cmpi .sge main_v1 main_c
  main_v2
-- ==== Pre_pre3.lean ====
abbrev S24832x1024 : Shape := ⟨2, ![24832, 1024]⟩
abbrev S2x32x1024x4096 : Shape := ⟨4, ![2, 32, 1024, 4096]⟩
abbrev S32 : Shape := ⟨1, ![32]⟩
abbrev S1 : Shape := ⟨1, ![1]⟩
abbrev S_ : Shape := ⟨0, ![]⟩

class Facts : Prop where
  slices_S32_S1_31 : S32.Slices ![31] S1
  shapeCasts_S1_S_ : S1.ShapeCasts S_

variable [Facts]

def fn {F : FTy → Type} [FloatOps F] (main_arg0 : FVec F S24832x1024 .bf16) (main_arg1 : FVec F S2x32x1024x4096 .f32) (main_arg2 : IVec S32 32) : IVec S_ 1 :=
  let main_v0 : IVec S1 32 := (extractStridedSlice S1 ![31] · slices_S32_S1_31) main_arg2
  let main_v1 : IVec S_ 32 := shapeCast S_ main_v0 shapeCasts_S1_S_
  let main_c : IVec S_ 32 := constantI S_ 32 1#32
  let main_v2 : IVec S_ 1 := cmpi .sge main_v1 main_c
  main_v2
-- ==== Kernel.lean ====
abbrev S8320x8192 : Shape := ⟨2, ![8320, 8192]⟩
abbrev S8320x2048 : Shape := ⟨2, ![8320, 2048]⟩
abbrev S8320x128 : Shape := ⟨2, ![8320, 128]⟩
abbrev S8192 : Shape := ⟨1, ![8192]⟩
abbrev S128 : Shape := ⟨1, ![128]⟩
abbrev S128x64 : Shape := ⟨2, ![128, 64]⟩
abbrev S128x1 : Shape := ⟨2, ![128, 1]⟩
abbrev S_ : Shape := ⟨0, ![]⟩
abbrev S1x8192 : Shape := ⟨2, ![1, 8192]⟩
abbrev S128x8192 : Shape := ⟨2, ![128, 8192]⟩
abbrev S1x128 : Shape := ⟨2, ![1, 128]⟩
abbrev S4x128x64x128 : Shape := ⟨4, ![4, 128, 64, 128]⟩
abbrev S128x1024 : Shape := ⟨2, ![128, 1024]⟩
abbrev S128x128 : Shape := ⟨2, ![128, 128]⟩
abbrev S1x1024 : Shape := ⟨2, ![1, 1024]⟩
abbrev S1x128x64x128 : Shape := ⟨4, ![1, 128, 64, 128]⟩
abbrev S8x128x1024 : Shape := ⟨3, ![8, 128, 1024]⟩
abbrev S1x128x1024 : Shape := ⟨3, ![1, 128, 1024]⟩
abbrev S1024x128 : Shape := ⟨2, ![1024, 128]⟩
abbrev S16x64x128 : Shape := ⟨3, ![16, 64, 128]⟩
abbrev S1x16x64x128 : Shape := ⟨4, ![1, 16, 64, 128]⟩

abbrev nBuf : Space → Nat
  | .hbm => 42
  | .vmem => 26
  | .smem => 0
  | _ => 0

abbrev bufTy : (tb : Table) → Fin (tcTables nBuf tb) → BufTy
  | .hbm, ⟨0, _⟩ => ⟨S8320x8192, .f32⟩
  | .hbm, ⟨1, _⟩ => ⟨S8320x2048, .bf16⟩
  | .hbm, ⟨2, _⟩ => ⟨S8320x128, .f32⟩
  | .hbm, ⟨3, _⟩ => ⟨S8320x8192, .f32⟩
  | .hbm, ⟨4, _⟩ => ⟨S8192, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x64, .f32⟩
  | .hbm, ⟨9, _⟩ => ⟨S8192, .f32⟩
  | .hbm, ⟨10, _⟩ => ⟨S128, .i32⟩
  | .hbm, ⟨11, _⟩ => ⟨S128x1, .i32⟩
  | .hbm, ⟨12, _⟩ => ⟨S8192, .i32⟩
  | .hbm, ⟨13, _⟩ => ⟨S_, .i32⟩
  | .hbm, ⟨14, _⟩ => ⟨S_, .i32⟩
  | .hbm, ⟨15, _⟩ => ⟨S8192, .i32⟩
  | .hbm, ⟨16, _⟩ => ⟨S8192, .i32⟩
  | .hbm, ⟨17, _⟩ => ⟨S8192, .i32⟩
  | .hbm, ⟨18, _⟩ => ⟨S_, .i32⟩
  | .hbm, ⟨19, _⟩ => ⟨S8192, .i32⟩
  | .hbm, ⟨20, _⟩ => ⟨S8192, .i1⟩
  | .hbm, ⟨21, _⟩ => ⟨S8192, .i32⟩
  | .hbm, ⟨22, _⟩ => ⟨S8192, .i32⟩
  | .hbm, ⟨23, _⟩ => ⟨S_, .i32⟩
  | .hbm, ⟨24, _⟩ => ⟨S8192, .i32⟩
  | .hbm, ⟨25, _⟩ => ⟨S8192, .i1⟩
  | .hbm, ⟨26, _⟩ => ⟨S8192, .i1⟩
  | .hbm, ⟨27, _⟩ => ⟨S_, .i32⟩
  | .hbm, ⟨28, _⟩ => ⟨S8192, .i32⟩
  | .hbm, ⟨29, _⟩ => ⟨S8192, .i32⟩
  | .hbm, ⟨30, _⟩ => ⟨S8192, .i32⟩
  | .hbm, ⟨31, _⟩ => ⟨S1x8192, .i32⟩
  | .hbm, ⟨32, _⟩ => ⟨S128x8192, .i32⟩
  | .hbm, ⟨33, _⟩ => ⟨S128x8192, .i32⟩
  | .hbm, ⟨34, _⟩ => ⟨S128x8192, .i1⟩
  | .hbm, ⟨35, _⟩ => ⟨S128x8192, .bf16⟩
  | .hbm, ⟨36, _⟩ => ⟨S1x8192, .f32⟩
  | .hbm, ⟨37, _⟩ => ⟨S1x128, .f32⟩
  | .hbm, ⟨38, _⟩ => ⟨S1x128, .f32⟩
  | .hbm, ⟨39, _⟩ => ⟨S1x8192, .f32⟩
  | .hbm, ⟨40, _⟩ => ⟨S8320x8192, .bf16⟩
  | .hbm, ⟨41, _⟩ => ⟨S4x128x64x128, .f32⟩
  | .local _ .vmem, ⟨0, _⟩ => ⟨S128x1024, .f32⟩
  | .local _ .vmem, ⟨1, _⟩ => ⟨S128x1024, .f32⟩
  | .local _ .vmem, ⟨2, _⟩ => ⟨S128x128, .bf16⟩
  | .local _ .vmem, ⟨3, _⟩ => ⟨S128x128, .bf16⟩
  | .local _ .vmem, ⟨4, _⟩ => ⟨S128x128, .bf16⟩
  | .local _ .vmem, ⟨5, _⟩ => ⟨S128x128, .bf16⟩
  | .local _ .vmem, ⟨6, _⟩ => ⟨S128x128, .f32⟩
  | .local _ .vmem, ⟨7, _⟩ => ⟨S128x128, .f32⟩
  | .local _ .vmem, ⟨8, _⟩ => ⟨S128x1024, .f32⟩
  | .local _ .vmem, ⟨9, _⟩ => ⟨S128x1024, .f32⟩
  | .local _ .vmem, ⟨10, _⟩ => ⟨S1x1024, .f32⟩
  | .local _ .vmem, ⟨11, _⟩ => ⟨S1x1024, .f32⟩
  | .local _ .vmem, ⟨12, _⟩ => ⟨S1x128, .f32⟩
  | .local _ .vmem, ⟨13, _⟩ => ⟨S1x128, .f32⟩
  | .local _ .vmem, ⟨14, _⟩ => ⟨S1x1024, .f32⟩
  | .local _ .vmem, ⟨15, _⟩ => ⟨S1x1024, .f32⟩
  | .local _ .vmem, ⟨16, _⟩ => ⟨S128x1024, .bf16⟩
  | .local _ .vmem, ⟨17, _⟩ => ⟨S128x1024, .bf16⟩
  | .local _ .vmem, ⟨18, _⟩ => ⟨S128x1024, .bf16⟩
  | .local _ .vmem, ⟨19, _⟩ => ⟨S128x1024, .bf16⟩
  | .local _ .vmem, ⟨20, _⟩ => ⟨S1x128x64x128, .f32⟩
  | .local _ .vmem, ⟨21, _⟩ => ⟨S1x128x64x128, .f32⟩
  | .local _ .vmem, ⟨22, _⟩ => ⟨S8x128x1024, .f32⟩
  | .local _ .vmem, ⟨23, _⟩ => ⟨S128x128, .f32⟩
  | .local _ .vmem, ⟨24, _⟩ => ⟨S128x128, .f32⟩
  | .local _ .vmem, ⟨25, _⟩ => ⟨S128x128, .f32⟩
  | _, _ => ⟨S8320x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15_0 : Ref sig .tc := ⟨.hbm, 40, rfl⟩
abbrev main_v15_1 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨3, ![4, 16, 8], ![false, false, false]⟩

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let v4 : BitVec 32 := Scalar.extui v3
  let c0_i32_2 : BitVec 32 := 0#32
  let v5 : BitVec 1 := Scalar.cmpi .ne v4 c0_i32_2
  v5

def k0_off1 (i : grid0.Coords) : Fin 3 → Nat :=
  let arg2 : BitVec 32 := BitVec.ofNat 32 (i 2).val
  let v342 : Index := Scalar.indexCast arg2
  let c0_104 : Index := 0#32
  let c0_105 : Index := 0#32
  ![v342.toNat, 0, 0]
def k0_off2 (i : grid0.Coords) (c0_i32_20 : BitVec 32) : Fin 2 → Nat :=
  let arg2 : BitVec 32 := BitVec.ofNat 32 (i 2).val
  let c16_i32 : BitVec 32 := 16#32
  let v47 : BitVec 32 := Scalar.muli arg2 c16_i32
  let v48 : BitVec 32 := Scalar.addi v47 c0_i32_20
  let v49 : Index := Scalar.indexCast v48
  let c0_21 : Index := 0#32
  ![v49.toNat, 0]
def k0_off3 (i : grid0.Coords) : Fin 3 → Nat :=
  let arg2 : BitVec 32 := BitVec.ofNat 32 (i 2).val
  let v286 : Index := Scalar.indexCast arg2
  let c0_84 : Index := 0#32
  let c0_85 : Index := 0#32
  ![v286.toNat, 0, 0]
def k0_cond3 (i : grid0.Coords) : BitVec 1 :=
  let arg1 : BitVec 32 := BitVec.ofNat 32 (i 1).val
  let c15_i32_90 : BitVec 32 := 15#32
  let v313 : BitVec 1 := Scalar.cmpi .eq arg1 c15_i32_90
  let v314 : BitVec 32 := Scalar.extui v313
  let c0_i32_91 : BitVec 32 := 0#32
  let v315 : BitVec 1 := Scalar.cmpi .ne v314 c0_i32_91
  v315

def k0_off4 (i : grid0.Coords) : Fin 4 → Nat :=
  let c0_104 : Index := 0#32
  let arg2 : BitVec 32 := BitVec.ofNat 32 (i 2).val
  let c16_i32_103 : BitVec 32 := 16#32
  let v343 : BitVec 32 := Scalar.muli arg2 c16_i32_103
  let v344 : Index := Scalar.indexCast v343
  let c0_105 : Index := 0#32
  let c0_106 : Index := 0#32
  ![0, v344.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c0_i32 : BitVec 32 := 0#32
  ![v1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c0_i32 : BitVec 32 := 0#32
  ![v1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c8_i32 : BitVec 32 := 8#32
  let v2 : BitVec 32 := Scalar.addi c8_i32 arg2
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c0_i32 : BitVec 32 := 0#32
  ![v1.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg1
  let c0_i32 : BitVec 32 := 0#32
  ![v1.toNat, arg2.toNat]

def cc0_transform_11 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, false, true]

abbrev stage0_9 : Fin 2 → Memref sig .tc .vmem S128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, false, true]

abbrev stage0_10 : Fin 2 → Memref sig .tc .vmem S128x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x128x64x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false, false]
-- ==== ReferenceIdeal.lean ====
abbrev S8320x8192 : Shape := ⟨2, ![8320, 8192]⟩
abbrev S8320x2048 : Shape := ⟨2, ![8320, 2048]⟩
abbrev S8320x128 : Shape := ⟨2, ![8320, 128]⟩
abbrev S8192 : Shape := ⟨1, ![8192]⟩
abbrev S128 : Shape := ⟨1, ![128]⟩
abbrev S8192x8192 : Shape := ⟨2, ![8192, 8192]⟩
abbrev S4x16x128x8x16x64 : Shape := ⟨6, ![4, 16, 128, 8, 16, 64]⟩
abbrev S8192x1024 : Shape := ⟨2, ![8192, 1024]⟩
abbrev S4x16x128x8x128 : Shape := ⟨5, ![4, 16, 128, 8, 128]⟩
abbrev S8192x128 : Shape := ⟨2, ![8192, 128]⟩
abbrev S1x128 : Shape := ⟨2, ![1, 128]⟩
abbrev S_ : Shape := ⟨0, ![]⟩
abbrev S4x16x128x8x16 : Shape := ⟨5, ![4, 16, 128, 8, 16]⟩
abbrev S8x16 : Shape := ⟨2, ![8, 16]⟩
abbrev S1x1x1x8x16 : Shape := ⟨5, ![1, 1, 1, 8, 16]⟩
abbrev S4x16x8x16x128 : Shape := ⟨5, ![4, 16, 8, 16, 128]⟩
abbrev S128x1 : Shape := ⟨2, ![128, 1]⟩
abbrev S128x128 : Shape := ⟨2, ![128, 128]⟩
abbrev S4x16x8x16x128x1 : Shape := ⟨6, ![4, 16, 8, 16, 128, 1]⟩
abbrev S4x16x8x16x1x128 : Shape := ⟨6, ![4, 16, 8, 16, 1, 128]⟩
abbrev S4x16x8x16x128x128 : Shape := ⟨6, ![4, 16, 8, 16, 128, 128]⟩
abbrev S4x16x128x8x16x1 : Shape := ⟨6, ![4, 16, 128, 8, 16, 1]⟩
abbrev S4x16x8x128x128 : Shape := ⟨5, ![4, 16, 8, 128, 128]⟩
abbrev S4x16x8x1x128x128 : Shape := ⟨6, ![4, 16, 8, 1, 128, 128]⟩
abbrev S4x16x8x16x64x128 : Shape := ⟨6, ![4, 16, 8, 16, 64, 128]⟩
abbrev S4x16x1x8x16 : Shape := ⟨5, ![4, 16, 1, 8, 16]⟩
abbrev S4x16x8x16 : Shape := ⟨4, ![4, 16, 8, 16]⟩
abbrev S4x8x16x64x128 : Shape := ⟨5, ![4, 8, 16, 64, 128]⟩
abbrev S4x1x8x16 : Shape := ⟨4, ![4, 1, 8, 16]⟩
abbrev S4x8x16 : Shape := ⟨3, ![4, 8, 16]⟩
abbrev S4x8x16x1x1 : Shape := ⟨5, ![4, 8, 16, 1, 1]⟩
abbrev S4x1x8x16x64x128 : Shape := ⟨6, ![4, 1, 8, 16, 64, 128]⟩
abbrev S8x16x1 : Shape := ⟨3, ![8, 16, 1]⟩
abbrev S1x1x1x8x16x1 : Shape := ⟨6, ![1, 1, 1, 8, 16, 1]⟩
abbrev S8192x8x1024 : Shape := ⟨3, ![8192, 8, 1024]⟩
abbrev S8192x8 : Shape := ⟨2, ![8192, 8]⟩
abbrev S8192x8x1 : Shape := ⟨3, ![8192, 8, 1]⟩
abbrev S1x8192 : Shape := ⟨2, ![1, 8192]⟩
abbrev S128x8192 : Shape := ⟨2, ![128, 8192]⟩
abbrev S4x128x64x128 : Shape := ⟨4, ![4, 128, 64, 128]⟩

abbrev nBuf : Space → Nat
  | .hbm => 276
  | .vmem => 0
  | .smem => 0
  | _ => 0

abbrev hbmTy0_0 (i : Nat) : BufTy := match i % 128 with
  | 0 => ⟨S8320x8192, .f32⟩
  | 1 => ⟨S8320x2048, .bf16⟩
  | 2 => ⟨S8320x128, .f32⟩
  | 3 => ⟨S8320x8192, .f32⟩
  | 4 => ⟨S8192, .f32⟩
  | 5 => ⟨S128, .f32⟩
  | 6 => ⟨S128, .f32⟩
  | 7 => ⟨S128, .f32⟩
  | 8 => ⟨S8192x8192, .f32⟩
  | 9 => ⟨S4x16x128x8x16x64, .f32⟩
  | 10 => ⟨S8320x2048, .f32⟩
  | 11 => ⟨S8192x1024, .f32⟩
  | 12 => ⟨S4x16x128x8x128, .f32⟩
  | 13 => ⟨S8192x1024, .f32⟩
  | 14 => ⟨S4x16x128x8x128, .f32⟩
  | 15 => ⟨S8192x128, .f32⟩
  | 16 => ⟨S1x128, .f32⟩
  | 17 => ⟨S8192x128, .f32⟩
  | 18 => ⟨S8192x128, .f32⟩
  | 19 => ⟨S_, .f32⟩
  | 20 => ⟨S8192x128, .f32⟩
  | 21 => ⟨S8192x128, .f32⟩
  | 22 => ⟨S8192x128, .f32⟩
  | 23 => ⟨S8192x128, .f32⟩
  | 24 => ⟨S8192x128, .i1⟩
  | 25 => ⟨S8192x128, .f32⟩
  | 26 => ⟨S8192x128, .f32⟩
  | 27 => ⟨S8192x128, .f32⟩
  | 28 => ⟨S8192x128, .f32⟩
  | 29 => ⟨S8192x128, .f32⟩
  | 30 => ⟨S8192x128, .f32⟩
  | 31 => ⟨S8192x128, .f32⟩
  | 32 => ⟨S8192x128, .f32⟩
  | 33 => ⟨S4x16x128x8x16, .f32⟩
  | 34 => ⟨S128, .f32⟩
  | 35 => ⟨S8x16, .f32⟩
  | 36 => ⟨S8x16, .f32⟩
  | 37 => ⟨S1x1x1x8x16, .f32⟩
  | 38 => ⟨S4x16x128x8x16, .f32⟩
  | 39 => ⟨S4x16x128x8x16, .f32⟩
  | 40 => ⟨S_, .f32⟩
  | 41 => ⟨S_, .f32⟩
  | 42 => ⟨S4x16x128x8x16, .f32⟩
  | 43 => ⟨S4x16x8x16x128, .f32⟩
  | 44 => ⟨S128, .i32⟩
  | 45 => ⟨S128x1, .i32⟩
  | 46 => ⟨S128, .i32⟩
  | 47 => ⟨S1x128, .i32⟩
  | 48 => ⟨S128x128, .i32⟩
  | 49 => ⟨S128x128, .i32⟩
  | 50 => ⟨S128x128, .i1⟩
  | 51 => ⟨S4x16x8x16x128x1, .f32⟩
  | 52 => ⟨S4x16x8x16x1x128, .f32⟩
  | 53 => ⟨S4x16x8x16x128x128, .f32⟩
  | 54 => ⟨S4x16x8x16x128x128, .f32⟩
  | 55 => ⟨S4x16x8x16x128x128, .f32⟩
  | 56 => ⟨S_, .f32⟩
  | 57 => ⟨S_, .f32⟩
  | 58 => ⟨S4x16x8x16x128x128, .i1⟩
  | 59 => ⟨S4x16x8x16x128x128, .f32⟩
  | 60 => ⟨S4x16x8x16x128x128, .f32⟩
  | 61 => ⟨S4x16x8x16x128x128, .f32⟩
  | 62 => ⟨S4x16x128x8x16x1, .f32⟩
  | 63 => ⟨S4x16x128x8x16x64, .f32⟩
  | 64 => ⟨S4x16x128x8x16x64, .f32⟩
  | 65 => ⟨S4x16x8x128x128, .f32⟩
  | 66 => ⟨S4x16x8x1x128x128, .f32⟩
  | 67 => ⟨S4x16x8x16x128x128, .f32⟩
  | 68 => ⟨S4x16x8x16x128x128, .f32⟩
  | 69 => ⟨S4x16x8x16x64x128, .f32⟩
  | 70 => ⟨S4x16x128x8x16x64, .f32⟩
  | 71 => ⟨S4x16x1x8x16, .f32⟩
  | 72 => ⟨S4x16x128x8x16, .f32⟩
  | 73 => ⟨S4x16x128x8x16, .f32⟩
  | 74 => ⟨S4x16x128x8x16, .f32⟩
  | 75 => ⟨S4x16x128x8x16x1, .f32⟩
  | 76 => ⟨S4x16x128x8x16x64, .f32⟩
  | 77 => ⟨S4x16x128x8x16x64, .f32⟩
  | 78 => ⟨S4x16x8x16x64x128, .f32⟩
  | 79 => ⟨S4x16x1x8x16, .f32⟩
  | 80 => ⟨S4x16x8x16, .f32⟩
  | 81 => ⟨S4x16x8x16, .f32⟩
  | 82 => ⟨S_, .f32⟩
  | 83 => ⟨S4x8x16x64x128, .f32⟩
  | 84 => ⟨S4x1x8x16, .f32⟩
  | 85 => ⟨S4x8x16, .f32⟩
  | 86 => ⟨S4x8x16x1x1, .f32⟩
  | 87 => ⟨S4x8x16x64x128, .f32⟩
  | 88 => ⟨S4x8x16x64x128, .f32⟩
  | 89 => ⟨S4x1x8x16x64x128, .f32⟩
  | 90 => ⟨S4x8x16x64x128, .f32⟩
  | 91 => ⟨S4x8x16x64x128, .f32⟩
  | 92 => ⟨S4x1x8x16, .f32⟩
  | 93 => ⟨S4x8x16, .f32⟩
  | 94 => ⟨S4x8x16x1x1, .f32⟩
  | 95 => ⟨S4x8x16x64x128, .f32⟩
  | 96 => ⟨S4x8x16x64x128, .f32⟩
  | 97 => ⟨S4x1x8x16x64x128, .f32⟩
  | 98 => ⟨S4x8x16x64x128, .f32⟩
  | 99 => ⟨S4x8x16x64x128, .f32⟩
  | 100 => ⟨S4x1x8x16, .f32⟩
  | 101 => ⟨S4x8x16, .f32⟩
  | 102 => ⟨S4x8x16x1x1, .f32⟩
  | 103 => ⟨S4x8x16x64x128, .f32⟩
  | 104 => ⟨S4x8x16x64x128, .f32⟩
  | 105 => ⟨S4x1x8x16x64x128, .f32⟩
  | 106 => ⟨S4x8x16x64x128, .f32⟩
  | 107 => ⟨S4x8x16x64x128, .f32⟩
  | 108 => ⟨S4x1x8x16, .f32⟩
  | 109 => ⟨S4x8x16, .f32⟩
  | 110 => ⟨S4x8x16x1x1, .f32⟩
  | 111 => ⟨S4x8x16x64x128, .f32⟩
  | 112 => ⟨S4x8x16x64x128, .f32⟩
  | 113 => ⟨S4x1x8x16x64x128, .f32⟩
  | 114 => ⟨S4x8x16x64x128, .f32⟩
  | 115 => ⟨S4x8x16x64x128, .f32⟩
  | 116 => ⟨S4x1x8x16, .f32⟩
  | 117 => ⟨S4x8x16, .f32⟩
  | 118 => ⟨S4x8x16x1x1, .f32⟩
  | 119 => ⟨S4x8x16x64x128, .f32⟩
  | 120 => ⟨S4x8x16x64x128, .f32⟩
  | 121 => ⟨S4x1x8x16x64x128, .f32⟩
  | 122 => ⟨S4x8x16x64x128, .f32⟩
  | 123 => ⟨S4x8x16x64x128, .f32⟩
  | 124 => ⟨S4x1x8x16, .f32⟩
  | 125 => ⟨S4x8x16, .f32⟩
  | 126 => ⟨S4x8x16x1x1, .f32⟩
  | 127 => ⟨S4x8x16x64x128, .f32⟩
  | _ => ⟨S8320x8192, .f32⟩

abbrev hbmTy0_1 (i : Nat) : BufTy := match i % 128 with
  | 0 => ⟨S4x8x16x64x128, .f32⟩
  | 1 => ⟨S4x1x8x16x64x128, .f32⟩
  | 2 => ⟨S4x8x16x64x128, .f32⟩
  | 3 => ⟨S4x8x16x64x128, .f32⟩
  | 4 => ⟨S4x1x8x16, .f32⟩
  | 5 => ⟨S4x8x16, .f32⟩
  | 6 => ⟨S4x8x16x1x1, .f32⟩
  | 7 => ⟨S4x8x16x64x128, .f32⟩
  | 8 => ⟨S4x8x16x64x128, .f32⟩
  | 9 => ⟨S4x1x8x16x64x128, .f32⟩
  | 10 => ⟨S4x8x16x64x128, .f32⟩
  | 11 => ⟨S4x8x16x64x128, .f32⟩
  | 12 => ⟨S4x1x8x16, .f32⟩
  | 13 => ⟨S4x8x16, .f32⟩
  | 14 => ⟨S4x8x16x1x1, .f32⟩
  | 15 => ⟨S4x8x16x64x128, .f32⟩
  | 16 => ⟨S4x8x16x64x128, .f32⟩
  | 17 => ⟨S4x1x8x16x64x128, .f32⟩
  | 18 => ⟨S4x8x16x64x128, .f32⟩
  | 19 => ⟨S4x8x16x64x128, .f32⟩
  | 20 => ⟨S4x1x8x16, .f32⟩
  | 21 => ⟨S4x8x16, .f32⟩
  | 22 => ⟨S4x8x16x1x1, .f32⟩
  | 23 => ⟨S4x8x16x64x128, .f32⟩
  | 24 => ⟨S4x8x16x64x128, .f32⟩
  | 25 => ⟨S4x1x8x16x64x128, .f32⟩
  | 26 => ⟨S4x8x16x64x128, .f32⟩
  | 27 => ⟨S4x8x16x64x128, .f32⟩
  | 28 => ⟨S4x1x8x16, .f32⟩
  | 29 => ⟨S4x8x16, .f32⟩
  | 30 => ⟨S4x8x16x1x1, .f32⟩
  | 31 => ⟨S4x8x16x64x128, .f32⟩
  | 32 => ⟨S4x8x16x64x128, .f32⟩
  | 33 => ⟨S4x1x8x16x64x128, .f32⟩
  | 34 => ⟨S4x8x16x64x128, .f32⟩
  | 35 => ⟨S4x8x16x64x128, .f32⟩
  | 36 => ⟨S4x1x8x16, .f32⟩
  | 37 => ⟨S4x8x16, .f32⟩
  | 38 => ⟨S4x8x16x1x1, .f32⟩
  | 39 => ⟨S4x8x16x64x128, .f32⟩
  | 40 => ⟨S4x8x16x64x128, .f32⟩
  | 41 => ⟨S4x1x8x16x64x128, .f32⟩
  | 42 => ⟨S4x8x16x64x128, .f32⟩
  | 43 => ⟨S4x8x16x64x128, .f32⟩
  | 44 => ⟨S4x1x8x16, .f32⟩
  | 45 => ⟨S4x8x16, .f32⟩
  | 46 => ⟨S4x8x16x1x1, .f32⟩
  | 47 => ⟨S4x8x16x64x128, .f32⟩
  | 48 => ⟨S4x8x16x64x128, .f32⟩
  | 49 => ⟨S4x1x8x16x64x128, .f32⟩
  | 50 => ⟨S4x8x16x64x128, .f32⟩
  | 51 => ⟨S4x8x16x64x128, .f32⟩
  | 52 => ⟨S4x1x8x16, .f32⟩
  | 53 => ⟨S4x8x16, .f32⟩
  | 54 => ⟨S4x8x16x1x1, .f32⟩
  | 55 => ⟨S4x8x16x64x128, .f32⟩
  | 56 => ⟨S4x8x16x64x128, .f32⟩
  | 57 => ⟨S4x1x8x16x64x128, .f32⟩
  | 58 => ⟨S4x8x16x64x128, .f32⟩
  | 59 => ⟨S4x8x16x64x128, .f32⟩
  | 60 => ⟨S4x1x8x16, .f32⟩
  | 61 => ⟨S4x8x16, .f32⟩
  | 62 => ⟨S4x8x16x1x1, .f32⟩
  | 63 => ⟨S4x8x16x64x128, .f32⟩
  | 64 => ⟨S4x8x16x64x128, .f32⟩
  | 65 => ⟨S4x1x8x16x64x128, .f32⟩
  | 66 => ⟨S4x8x16x64x128, .f32⟩
  | 67 => ⟨S4x8x16x64x128, .f32⟩
  | 68 => ⟨S4x1x8x16, .f32⟩
  | 69 => ⟨S4x8x16, .f32⟩
  | 70 => ⟨S4x8x16x1x1, .f32⟩
  | 71 => ⟨S4x8x16x64x128, .f32⟩
  | 72 => ⟨S4x8x16x64x128, .f32⟩
  | 73 => ⟨S4x1x8x16x64x128, .f32⟩
  | 74 => ⟨S4x8x16x64x128, .f32⟩
  | 75 => ⟨S4x8x16x64x128, .f32⟩
  | 76 => ⟨S4x1x8x16, .f32⟩
  | 77 => ⟨S4x8x16, .f32⟩
  | 78 => ⟨S4x8x16x1x1, .f32⟩
  | 79 => ⟨S4x8x16x64x128, .f32⟩
  | 80 => ⟨S4x8x16x64x128, .f32⟩
  | 81 => ⟨S4x1x8x16x64x128, .f32⟩
  | 82 => ⟨S4x8x16x64x128, .f32⟩
  | 83 => ⟨S4x8x16x64x128, .f32⟩
  | 84 => ⟨S4x1x8x16x64x128, .f32⟩
  | 85 => ⟨S4x1x8x16x64x128, .f32⟩
  | 86 => ⟨S4x1x8x16x64x128, .f32⟩
  | 87 => ⟨S4x1x8x16x64x128, .f32⟩
  | 88 => ⟨S4x1x8x16x64x128, .f32⟩
  | 89 => ⟨S4x1x8x16x64x128, .f32⟩
  | 90 => ⟨S4x1x8x16x64x128, .f32⟩
  | 91 => ⟨S4x1x8x16x64x128, .f32⟩
  | 92 => ⟨S4x1x8x16x64x128, .f32⟩
  | 93 => ⟨S4x1x8x16x64x128, .f32⟩
  | 94 => ⟨S4x1x8x16x64x128, .f32⟩
  | 95 => ⟨S4x1x8x16x64x128, .f32⟩
  | 96 => ⟨S4x1x8x16x64x128, .f32⟩
  | 97 => ⟨S4x1x8x16x64x128, .f32⟩
  | 98 => ⟨S4x1x8x16x64x128, .f32⟩
  | 99 => ⟨S4x1x8x16x64x128, .f32⟩
  | 100 => ⟨S4x16x8x16x64x128, .f32⟩
  | 101 => ⟨S4x16x8x16x64x128, .f32⟩
  | 102 => ⟨S4x16x128x8x16x64, .f32⟩
  | 103 => ⟨S4x16x128x8x16, .f32⟩
  | 104 => ⟨S4x16x128x8x16x1, .f32⟩
  | 105 => ⟨S4x16x128x8x16x64, .f32⟩
  | 106 => ⟨S4x16x128x8x16x64, .f32⟩
  | 107 => ⟨S4x16x128x8x16x64, .f32⟩
  | 108 => ⟨S8x16x1, .f32⟩
  | 109 => ⟨S1x1x1x8x16x1, .f32⟩
  | 110 => ⟨S4x16x128x8x16x64, .f32⟩
  | 111 => ⟨S4x16x128x8x16x64, .f32⟩
  | 112 => ⟨S4x16x128x8x16x64, .f32⟩
  | 113 => ⟨S8192x8x1024, .f32⟩
  | 114 => ⟨S8192x8192, .f32⟩
  | 115 => ⟨S8192x8192, .f32⟩
  | 116 => ⟨S8192x8192, .f32⟩
  | 117 => ⟨S_, .f32⟩
  | 118 => ⟨S8192x8192, .f32⟩
  | 119 => ⟨S8192x8192, .f32⟩
  | 120 => ⟨S_, .f32⟩
  | 121 => ⟨S8192x8192, .f32⟩
  | 122 => ⟨S8192x8192, .f32⟩
  | 123 => ⟨S8192x8192, .f32⟩
  | 124 => ⟨S8192x8x1024, .f32⟩
  | 125 => ⟨S8192x8x1024, .f32⟩
  | 126 => ⟨S8192x8x1024, .f32⟩
  | 127 => ⟨S_, .f32⟩
  | _ => ⟨S8320x8192, .f32⟩

abbrev hbmTy0_2 (i : Nat) : BufTy := match i % 128 with
  | 0 => ⟨S8192x8, .f32⟩
  | 1 => ⟨S8192x8x1, .f32⟩
  | 2 => ⟨S_, .f32⟩
  | 3 => ⟨S8192x8x1, .f32⟩
  | 4 => ⟨S8192x8x1, .f32⟩
  | 5 => ⟨S_, .f32⟩
  | 6 => ⟨S8192x8x1, .f32⟩
  | 7 => ⟨S8192x8x1, .f32⟩
  | 8 => ⟨S8192x8x1, .f32⟩
  | 9 => ⟨S8192x8x1024, .f32⟩
  | 10 => ⟨S8192x8x1024, .f32⟩
  | 11 => ⟨S8192x8192, .f32⟩
  | 12 => ⟨S1x8192, .f32⟩
  | 13 => ⟨S8192x8192, .f32⟩
  | 14 => ⟨S8192x8192, .f32⟩
  | 15 => ⟨S_, .f32⟩
  | 16 => ⟨S128x8192, .f32⟩
  | 17 => ⟨S8320x8192, .f32⟩
  | 18 => ⟨S8320x8192, .bf16⟩
  | 19 => ⟨S4x128x64x128, .f32⟩
  | _ => ⟨S8320x8192, .f32⟩

abbrev hbmTy (i : Nat) : BufTy := match i / 128 with
  | 0 => hbmTy0_0 i
  | 1 => hbmTy0_1 i
  | 2 => hbmTy0_2 i
  | _ => ⟨S8320x8192, .f32⟩

abbrev bufTy : (tb : Table) → Fin (tcTables nBuf tb) → BufTy
  | .hbm, ⟨i, _⟩ => hbmTy i
  | _, _ => ⟨S8320x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call0_cst : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_call1_call0_cst : Ref sig .tc := ⟨.hbm, 40, rfl⟩
abbrev main_call1_call0_v0 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_0 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩
abbrev main_v162 : Ref sig .tc := ⟨.hbm, 190, rfl⟩
abbrev main_v163 : Ref sig .tc := ⟨.hbm, 191, rfl⟩
abbrev main_v164 : Ref sig .tc := ⟨.hbm, 192, rfl⟩
abbrev main_v165 : Ref sig .tc := ⟨.hbm, 193, rfl⟩
abbrev main_v166 : Ref sig .tc := ⟨.hbm, 194, rfl⟩
abbrev main_v167 : Ref sig .tc := ⟨.hbm, 195, rfl⟩
abbrev main_v168 : Ref sig .tc := ⟨.hbm, 196, rfl⟩
abbrev main_v169 : Ref sig .tc := ⟨.hbm, 197, rfl⟩
abbrev main_v170 : Ref sig .tc := ⟨.hbm, 198, rfl⟩
abbrev main_v171 : Ref sig .tc := ⟨.hbm, 199, rfl⟩
abbrev main_v172 : Ref sig .tc := ⟨.hbm, 200, rfl⟩
abbrev main_v173 : Ref sig .tc := ⟨.hbm, 201, rfl⟩
abbrev main_v174 : Ref sig .tc := ⟨.hbm, 202, rfl⟩
abbrev main_v175 : Ref sig .tc := ⟨.hbm, 203, rfl⟩
abbrev main_v176 : Ref sig .tc := ⟨.hbm, 204, rfl⟩
abbrev main_v177 : Ref sig .tc := ⟨.hbm, 205, rfl⟩
abbrev main_v178 : Ref sig .tc := ⟨.hbm, 206, rfl⟩
abbrev main_v179 : Ref sig .tc := ⟨.hbm, 207, rfl⟩
abbrev main_v180 : Ref sig .tc := ⟨.hbm, 208, rfl⟩
abbrev main_v181 : Ref sig .tc := ⟨.hbm, 209, rfl⟩
abbrev main_v182 : Ref sig .tc := ⟨.hbm, 210, rfl⟩
abbrev main_v183 : Ref sig .tc := ⟨.hbm, 211, rfl⟩
abbrev main_v184 : Ref sig .tc := ⟨.hbm, 212, rfl⟩
abbrev main_v185 : Ref sig .tc := ⟨.hbm, 213, rfl⟩
abbrev main_v186 : Ref sig .tc := ⟨.hbm, 214, rfl⟩
abbrev main_v187 : Ref sig .tc := ⟨.hbm, 215, rfl⟩
abbrev main_v188 : Ref sig .tc := ⟨.hbm, 216, rfl⟩
abbrev main_v189 : Ref sig .tc := ⟨.hbm, 217, rfl⟩
abbrev main_v190 : Ref sig .tc := ⟨.hbm, 218, rfl⟩
abbrev main_v191 : Ref sig .tc := ⟨.hbm, 219, rfl⟩
abbrev main_v192 : Ref sig .tc := ⟨.hbm, 220, rfl⟩
abbrev main_v193 : Ref sig .tc := ⟨.hbm, 221, rfl⟩
abbrev main_v194 : Ref sig .tc := ⟨.hbm, 222, rfl⟩
abbrev main_v195 : Ref sig .tc := ⟨.hbm, 223, rfl⟩
abbrev main_v196 : Ref sig .tc := ⟨.hbm, 224, rfl⟩
abbrev main_v197 : Ref sig .tc := ⟨.hbm, 225, rfl⟩
abbrev main_v198 : Ref sig .tc := ⟨.hbm, 226, rfl⟩
abbrev main_v199 : Ref sig .tc := ⟨.hbm, 227, rfl⟩
abbrev main_v200 : Ref sig .tc := ⟨.hbm, 228, rfl⟩
abbrev main_v201 : Ref sig .tc := ⟨.hbm, 229, rfl⟩
abbrev main_v202 : Ref sig .tc := ⟨.hbm, 230, rfl⟩
abbrev main_v203 : Ref sig .tc := ⟨.hbm, 231, rfl⟩
abbrev main_v204 : Ref sig .tc := ⟨.hbm, 232, rfl⟩
abbrev main_v205 : Ref sig .tc := ⟨.hbm, 233, rfl⟩
abbrev main_v206 : Ref sig .tc := ⟨.hbm, 234, rfl⟩
abbrev main_v207 : Ref sig .tc := ⟨.hbm, 235, rfl⟩
abbrev main_v208 : Ref sig .tc := ⟨.hbm, 236, rfl⟩
abbrev main_v209 : Ref sig .tc := ⟨.hbm, 237, rfl⟩
abbrev main_v210 : Ref sig .tc := ⟨.hbm, 238, rfl⟩
abbrev main_v211 : Ref sig .tc := ⟨.hbm, 239, rfl⟩
abbrev main_v212 : Ref sig .tc := ⟨.hbm, 240, rfl⟩
abbrev main_v213 : Ref sig .tc := ⟨.hbm, 241, rfl⟩
abbrev main_v214 : Ref sig .tc := ⟨.hbm, 242, rfl⟩
abbrev main_call3_v0 : Ref sig .tc := ⟨.hbm, 243, rfl⟩
abbrev main_call3_v1 : Ref sig .tc := ⟨.hbm, 244, rfl⟩
abbrev main_call3_cst : Ref sig .tc := ⟨.hbm, 245, rfl⟩
abbrev main_call3_v2 : Ref sig .tc := ⟨.hbm, 246, rfl⟩
abbrev main_call3_v3 : Ref sig .tc := ⟨.hbm, 247, rfl⟩
abbrev main_call3_cst_0 : Ref sig .tc := ⟨.hbm, 248, rfl⟩
abbrev main_call3_v4 : Ref sig .tc := ⟨.hbm, 249, rfl⟩
abbrev main_call3_v5 : Ref sig .tc := ⟨.hbm, 250, rfl⟩
abbrev main_v215 : Ref sig .tc := ⟨.hbm, 251, rfl⟩
abbrev main_v216 : Ref sig .tc := ⟨.hbm, 252, rfl⟩
abbrev main_v217 : Ref sig .tc := ⟨.hbm, 253, rfl⟩
abbrev main_v218 : Ref sig .tc := ⟨.hbm, 254, rfl⟩
abbrev main_cst_1 : Ref sig .tc := ⟨.hbm, 255, rfl⟩
abbrev main_v219 : Ref sig .tc := ⟨.hbm, 256, rfl⟩
abbrev main_v220 : Ref sig .tc := ⟨.hbm, 257, rfl⟩
abbrev main_cst_2 : Ref sig .tc := ⟨.hbm, 258, rfl⟩
abbrev main_v221 : Ref sig .tc := ⟨.hbm, 259, rfl⟩
abbrev main_v222 : Ref sig .tc := ⟨.hbm, 260, rfl⟩
abbrev main_cst_3 : Ref sig .tc := ⟨.hbm, 261, rfl⟩
abbrev main_v223 : Ref sig .tc := ⟨.hbm, 262, rfl⟩
abbrev main_v224 : Ref sig .tc := ⟨.hbm, 263, rfl⟩
abbrev main_v225 : Ref sig .tc := ⟨.hbm, 264, rfl⟩
abbrev main_v226 : Ref sig .tc := ⟨.hbm, 265, rfl⟩
abbrev main_v227 : Ref sig .tc := ⟨.hbm, 266, rfl⟩
abbrev main_v228 : Ref sig .tc := ⟨.hbm, 267, rfl⟩
abbrev main_v229 : Ref sig .tc := ⟨.hbm, 268, rfl⟩
abbrev main_v230 : Ref sig .tc := ⟨.hbm, 269, rfl⟩
abbrev main_v231 : Ref sig .tc := ⟨.hbm, 270, rfl⟩
abbrev main_cst_4 : Ref sig .tc := ⟨.hbm, 271, rfl⟩
abbrev main_v232 : Ref sig .tc := ⟨.hbm, 272, rfl⟩
abbrev main_v233 : Ref sig .tc := ⟨.hbm, 273, rfl⟩
abbrev main_v234 : Ref sig .tc := ⟨.hbm, 274, rfl⟩
abbrev main_v235 : Ref sig .tc := ⟨.hbm, 275, rfl⟩

abbrev nD : Nat := 1
abbrev τ : Topo := Topo.v7x

variable {F : FTy → Type} [FloatOps F]
-- ==== Kernel2.lean ====
abbrev S24832x4096 : Shape := ⟨2, ![24832, 4096]⟩
abbrev S24832x1 : Shape := ⟨2, ![24832, 1]⟩
abbrev S2x32x4096x1024 : Shape := ⟨4, ![2, 32, 4096, 1024]⟩
abbrev S32 : Shape := ⟨1, ![32]⟩
abbrev S1 : Shape := ⟨1, ![1]⟩
abbrev S97 : Shape := ⟨1, ![97]⟩
abbrev S1x32 : Shape := ⟨2, ![1, 32]⟩
abbrev S97x1 : Shape := ⟨2, ![97, 1]⟩
abbrev S97x32 : Shape := ⟨2, ![97, 32]⟩
abbrev S_ : Shape := ⟨0, ![]⟩
abbrev S96 : Shape := ⟨1, ![96]⟩
abbrev S24832x1024 : Shape := ⟨2, ![24832, 1024]⟩
abbrev S256x4096 : Shape := ⟨2, ![256, 4096]⟩
abbrev S256x1 : Shape := ⟨2, ![256, 1]⟩
abbrev S1x1x4096x512 : Shape := ⟨4, ![1, 1, 4096, 512]⟩
abbrev S256x512 : Shape := ⟨2, ![256, 512]⟩
abbrev S4096x512 : Shape := ⟨2, ![4096, 512]⟩
abbrev S1x1x512x512 : Shape := ⟨4, ![1, 1, 512, 512]⟩
abbrev S512x512 : Shape := ⟨2, ![512, 512]⟩

abbrev nBuf : Space → Nat
  | .hbm => 39
  | .vmem => 12
  | .smem => 3
  | _ => 0

abbrev bufTy : (tb : Table) → Fin (tcTables nBuf tb) → BufTy
  | .hbm, ⟨0, _⟩ => ⟨S24832x4096, .bf16⟩
  | .hbm, ⟨1, _⟩ => ⟨S24832x1, .f32⟩
  | .hbm, ⟨2, _⟩ => ⟨S2x32x4096x1024, .f32⟩
  | .hbm, ⟨3, _⟩ => ⟨S2x32x4096x1024, .f32⟩
  | .hbm, ⟨4, _⟩ => ⟨S32, .i32⟩
  | .hbm, ⟨5, _⟩ => ⟨S97, .i32⟩
  | .hbm, ⟨6, _⟩ => ⟨S1x32, .i32⟩
  | .hbm, ⟨7, _⟩ => ⟨S97x1, .i32⟩
  | .hbm, ⟨8, _⟩ => ⟨S97x32, .i32⟩
  | .hbm, ⟨9, _⟩ => ⟨S97x32, .i32⟩
  | .hbm, ⟨10, _⟩ => ⟨S97x32, .i1⟩
  | .hbm, ⟨11, _⟩ => ⟨S97x32, .i32⟩
  | .hbm, ⟨12, _⟩ => ⟨S_, .i32⟩
  | .hbm, ⟨13, _⟩ => ⟨S97, .i32⟩
  | .hbm, ⟨14, _⟩ => ⟨S_, .i32⟩
  | .hbm, ⟨15, _⟩ => ⟨S97, .i32⟩
  | .hbm, ⟨16, _⟩ => ⟨S97, .i32⟩
  | .hbm, ⟨17, _⟩ => ⟨S_, .i32⟩
  | .hbm, ⟨18, _⟩ => ⟨S1, .i32⟩
  | .hbm, ⟨19, _⟩ => ⟨S96, .i32⟩
  | .hbm, ⟨20, _⟩ => ⟨S96, .i32⟩
  | .hbm, ⟨21, _⟩ => ⟨S96, .i1⟩
  | .hbm, ⟨22, _⟩ => ⟨S96, .i32⟩
  | .hbm, ⟨23, _⟩ => ⟨S_, .i32⟩
  | .hbm, ⟨24, _⟩ => ⟨S1, .i32⟩
  | .hbm, ⟨25, _⟩ => ⟨S1, .i32⟩
  | .hbm, ⟨26, _⟩ => ⟨S97, .i32⟩
  | .hbm, ⟨27, _⟩ => ⟨S97, .i32⟩
  | .hbm, ⟨28, _⟩ => ⟨S1x32, .i32⟩
  | .hbm, ⟨29, _⟩ => ⟨S97x1, .i32⟩
  | .hbm, ⟨30, _⟩ => ⟨S97x32, .i32⟩
  | .hbm, ⟨31, _⟩ => ⟨S97x32, .i32⟩
  | .hbm, ⟨32, _⟩ => ⟨S97x32, .i1⟩
  | .hbm, ⟨33, _⟩ => ⟨S97x32, .i32⟩
  | .hbm, ⟨34, _⟩ => ⟨S_, .i32⟩
  | .hbm, ⟨35, _⟩ => ⟨S97, .i32⟩
  | .hbm, ⟨36, _⟩ => ⟨S_, .i32⟩
  | .hbm, ⟨37, _⟩ => ⟨S97, .i32⟩
  | .hbm, ⟨38, _⟩ => ⟨S24832x1024, .bf16⟩
  | .local _ .vmem, ⟨0, _⟩ => ⟨S256x4096, .bf16⟩
  | .local _ .vmem, ⟨1, _⟩ => ⟨S256x4096, .bf16⟩
  | .local _ .vmem, ⟨2, _⟩ => ⟨S256x1, .f32⟩
  | .local _ .vmem, ⟨3, _⟩ => ⟨S256x1, .f32⟩
  | .local _ .vmem, ⟨4, _⟩ => ⟨S1x1x4096x512, .f32⟩
  | .local _ .vmem, ⟨5, _⟩ => ⟨S1x1x4096x512, .f32⟩
  | .local _ .vmem, ⟨6, _⟩ => ⟨S1x1x4096x512, .f32⟩
  | .local _ .vmem, ⟨7, _⟩ => ⟨S1x1x4096x512, .f32⟩
  | .local _ .vmem, ⟨8, _⟩ => ⟨S256x512, .bf16⟩
  | .local _ .vmem, ⟨9, _⟩ => ⟨S256x512, .bf16⟩
  | .local _ .vmem, ⟨10, _⟩ => ⟨S4096x512, .bf16⟩
  | .local _ .vmem, ⟨11, _⟩ => ⟨S4096x512, .bf16⟩
  | .local _ .smem, ⟨0, _⟩ => ⟨S97, .i32⟩
  | .local _ .smem, ⟨1, _⟩ => ⟨S97, .i32⟩
  | .local _ .smem, ⟨2, _⟩ => ⟨S1, .i32⟩
  | _, _ => ⟨S24832x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_c_3 : Ref sig .tc := ⟨.hbm, 34, rfl⟩
abbrev main_v27 : Ref sig .tc := ⟨.hbm, 35, rfl⟩
abbrev main_c_4 : Ref sig .tc := ⟨.hbm, 36, rfl⟩
abbrev main_v28 : Ref sig .tc := ⟨.hbm, 37, rfl⟩
abbrev main_v30 : Ref sig .tc := ⟨.hbm, 38, rfl⟩
abbrev main_v29 : Ref sig .tc := ⟨.smem, 0, rfl⟩
abbrev main_v16 : Ref sig .tc := ⟨.smem, 1, rfl⟩
abbrev main_v0 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 97], ![false, false]⟩

abbrev pre0 : Pipeline.Prefetch sig := ⟨3, ![main_v29.idx, main_v16.idx, main_v0.idx], fun | 0 => main_v29.names | 1 => main_v16.names | 2 => main_v0.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond1 (i : grid0.Coords) (v0 : BitVec 32) (v3 : BitVec 32) : BitVec 1 :=
  let arg1 : BitVec 32 := BitVec.ofNat 32 (i 1).val
  let v1 : BitVec 1 := Scalar.cmpi .slt arg1 v0
  let c1_i32 : BitVec 32 := 1#32
  let v4 : BitVec 1 := Scalar.cmpi .eq v3 c1_i32
  let v5 : BitVec 1 := Scalar.andi v1 v4
  let v6 : BitVec 32 := Scalar.extui v5
  let c0_i32 : BitVec 32 := 0#32
  let v7 : BitVec 1 := Scalar.cmpi .ne v6 c0_i32
  v7

def k0_cond2 (i : grid0.Coords) (v0 : BitVec 32) (v3 : BitVec 32) : BitVec 1 :=
  let arg1 : BitVec 32 := BitVec.ofNat 32 (i 1).val
  let v1 : BitVec 1 := Scalar.cmpi .slt arg1 v0
  let c1_i32 : BitVec 32 := 1#32
  let v4 : BitVec 1 := Scalar.cmpi .eq v3 c1_i32
  let v_true : BitVec 1 := 1#1
  let v8 : BitVec 1 := Scalar.xori v4 v_true
  let v9 : BitVec 1 := Scalar.andi v1 v8
  let v10 : BitVec 32 := Scalar.extui v9
  let c0_i32_0 : BitVec 32 := 0#32
  let v11 : BitVec 1 := Scalar.cmpi .ne v10 c0_i32_0
  v11

def k0_cond3 (i : grid0.Coords) (v0 : BitVec 32) : BitVec 1 :=
  let arg1 : BitVec 32 := BitVec.ofNat 32 (i 1).val
  let v1 : BitVec 1 := Scalar.cmpi .slt arg1 v0
  let true_1 : BitVec 1 := 1#1
  let v12 : BitVec 1 := Scalar.xori v1 true_1
  let v13 : BitVec 32 := Scalar.extui v12
  let c0_i32_2 : BitVec 32 := 0#32
  let v14 : BitVec 1 := Scalar.cmpi .ne v13 c0_i32_2
  v14

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_2 (k0_off1_inb : ∀ i : grid0.Coords, ∀ a, (k0_off1 i) a + S1.size a ≤ S97.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S97) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_3 (k0_off1_inb : ∀ i : grid0.Coords, ∀ a, (k0_off1 i) a + S1.size a ≤ S97.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S97) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4096x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S24832x4096 : Shape := ⟨2, ![24832, 4096]⟩
abbrev S24832x1 : Shape := ⟨2, ![24832, 1]⟩
abbrev S2x32x4096x1024 : Shape := ⟨4, ![2, 32, 4096, 1024]⟩
abbrev S32 : Shape := ⟨1, ![32]⟩
abbrev S97 : Shape := ⟨1, ![97]⟩
abbrev S97x1 : Shape := ⟨2, ![97, 1]⟩
abbrev S97x256 : Shape := ⟨2, ![97, 256]⟩
abbrev S24832 : Shape := ⟨1, ![24832]⟩
abbrev S1x32 : Shape := ⟨2, ![1, 32]⟩
abbrev S24832x32 : Shape := ⟨2, ![24832, 32]⟩
abbrev S_ : Shape := ⟨0, ![]⟩
abbrev S1 : Shape := ⟨1, ![1]⟩
abbrev S1x32x4096x1024 : Shape := ⟨4, ![1, 32, 4096, 1024]⟩
abbrev S32x4096x1024 : Shape := ⟨3, ![32, 4096, 1024]⟩
abbrev S24832x32x1024 : Shape := ⟨3, ![24832, 32, 1024]⟩
abbrev S24832x32x1 : Shape := ⟨3, ![24832, 32, 1]⟩
abbrev S24832x1024 : Shape := ⟨2, ![24832, 1024]⟩

abbrev nBuf : Space → Nat
  | .hbm => 58
  | .vmem => 0
  | .smem => 0
  | _ => 0

abbrev bufTy : (tb : Table) → Fin (tcTables nBuf tb) → BufTy
  | .hbm, ⟨0, _⟩ => ⟨S24832x4096, .bf16⟩
  | .hbm, ⟨1, _⟩ => ⟨S24832x1, .f32⟩
  | .hbm, ⟨2, _⟩ => ⟨S2x32x4096x1024, .f32⟩
  | .hbm, ⟨3, _⟩ => ⟨S2x32x4096x1024, .f32⟩
  | .hbm, ⟨4, _⟩ => ⟨S32, .i32⟩
  | .hbm, ⟨5, _⟩ => ⟨S24832x4096, .f32⟩
  | .hbm, ⟨6, _⟩ => ⟨S97, .i32⟩
  | .hbm, ⟨7, _⟩ => ⟨S97x1, .i32⟩
  | .hbm, ⟨8, _⟩ => ⟨S97x256, .i32⟩
  | .hbm, ⟨9, _⟩ => ⟨S24832, .i32⟩
  | .hbm, ⟨10, _⟩ => ⟨S1x32, .i32⟩
  | .hbm, ⟨11, _⟩ => ⟨S24832x1, .i32⟩
  | .hbm, ⟨12, _⟩ => ⟨S24832x32, .i32⟩
  | .hbm, ⟨13, _⟩ => ⟨S24832x32, .i32⟩
  | .hbm, ⟨14, _⟩ => ⟨S24832x32, .i1⟩
  | .hbm, ⟨15, _⟩ => ⟨S24832x32, .i32⟩
  | .hbm, ⟨16, _⟩ => ⟨S_, .i32⟩
  | .hbm, ⟨17, _⟩ => ⟨S24832, .i32⟩
  | .hbm, ⟨18, _⟩ => ⟨S1, .i32⟩
  | .hbm, ⟨19, _⟩ => ⟨S_, .i32⟩
  | .hbm, ⟨20, _⟩ => ⟨S24832, .i32⟩
  | .hbm, ⟨21, _⟩ => ⟨S24832, .i1⟩
  | .hbm, ⟨22, _⟩ => ⟨S24832x1, .i1⟩
  | .hbm, ⟨23, _⟩ => ⟨S24832x1, .i32⟩
  | .hbm, ⟨24, _⟩ => ⟨S32, .i32⟩
  | .hbm, ⟨25, _⟩ => ⟨S1x32, .i32⟩
  | .hbm, ⟨26, _⟩ => ⟨S24832x32, .i32⟩
  | .hbm, ⟨27, _⟩ => ⟨S24832x32, .i32⟩
  | .hbm, ⟨28, _⟩ => ⟨S24832x32, .i1⟩
  | .hbm, ⟨29, _⟩ => ⟨S24832x32, .i1⟩
  | .hbm, ⟨30, _⟩ => ⟨S24832x32, .i1⟩
  | .hbm, ⟨31, _⟩ => ⟨S1x32x4096x1024, .f32⟩
  | .hbm, ⟨32, _⟩ => ⟨S32x4096x1024, .f32⟩
  | .hbm, ⟨33, _⟩ => ⟨S24832x32x1024, .f32⟩
  | .hbm, ⟨34, _⟩ => ⟨S24832x32x1024, .f32⟩
  | .hbm, ⟨35, _⟩ => ⟨S24832x32x1024, .f32⟩
  | .hbm, ⟨36, _⟩ => ⟨S_, .f32⟩
  | .hbm, ⟨37, _⟩ => ⟨S24832x32x1024, .f32⟩
  | .hbm, ⟨38, _⟩ => ⟨S24832x32x1024, .f32⟩
  | .hbm, ⟨39, _⟩ => ⟨S_, .f32⟩
  | .hbm, ⟨40, _⟩ => ⟨S24832x32x1024, .f32⟩
  | .hbm, ⟨41, _⟩ => ⟨S24832x32x1024, .f32⟩
  | .hbm, ⟨42, _⟩ => ⟨S24832x32x1024, .f32⟩
  | .hbm, ⟨43, _⟩ => ⟨S1x32x4096x1024, .f32⟩
  | .hbm, ⟨44, _⟩ => ⟨S32x4096x1024, .f32⟩
  | .hbm, ⟨45, _⟩ => ⟨S24832x32x1024, .f32⟩
  | .hbm, ⟨46, _⟩ => ⟨S24832x32x1024, .f32⟩
  | .hbm, ⟨47, _⟩ => ⟨S_, .f32⟩
  | .hbm, ⟨48, _⟩ => ⟨S_, .f32⟩
  | .hbm, ⟨49, _⟩ => ⟨S24832x32, .f32⟩
  | .hbm, ⟨50, _⟩ => ⟨S24832x32, .f32⟩
  | .hbm, ⟨51, _⟩ => ⟨S24832x32, .f32⟩
  | .hbm, ⟨52, _⟩ => ⟨S24832x32x1, .f32⟩
  | .hbm, ⟨53, _⟩ => ⟨S24832x32x1024, .f32⟩
  | .hbm, ⟨54, _⟩ => ⟨S24832x32x1024, .f32⟩
  | .hbm, ⟨55, _⟩ => ⟨S_, .f32⟩
  | .hbm, ⟨56, _⟩ => ⟨S24832x1024, .f32⟩
  | .hbm, ⟨57, _⟩ => ⟨S24832x1024, .bf16⟩
  | _, _ => ⟨S24832x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_0 : Ref sig .tc := ⟨.hbm, 55, rfl⟩
abbrev main_v37 : Ref sig .tc := ⟨.hbm, 56, rfl⟩
abbrev main_v38 : Ref sig .tc := ⟨.hbm, 57, rfl⟩

abbrev nD : Nat := 1
abbrev τ : Topo := Topo.v7x

variable {F : FTy → Type} [FloatOps F]
-- ==== Kernel3.lean ====
abbrev S24832x1024 : Shape := ⟨2, ![24832, 1024]⟩
abbrev S2x32x1024x4096 : Shape := ⟨4, ![2, 32, 1024, 4096]⟩
abbrev S32 : Shape := ⟨1, ![32]⟩
abbrev S1 : Shape := ⟨1, ![1]⟩
abbrev S97 : Shape := ⟨1, ![97]⟩
abbrev S1x32 : Shape := ⟨2, ![1, 32]⟩
abbrev S97x1 : Shape := ⟨2, ![97, 1]⟩
abbrev S97x32 : Shape := ⟨2, ![97, 32]⟩
abbrev S_ : Shape := ⟨0, ![]⟩
abbrev S96 : Shape := ⟨1, ![96]⟩
abbrev S24832x4096 : Shape := ⟨2, ![24832, 4096]⟩
abbrev S256x1024 : Shape := ⟨2, ![256, 1024]⟩
abbrev S1x1x1024x4096 : Shape := ⟨4, ![1, 1, 1024, 4096]⟩
abbrev S256x4096 : Shape := ⟨2, ![256, 4096]⟩
abbrev S1024x4096 : Shape := ⟨2, ![1024, 4096]⟩
abbrev S1x1x256x4096 : Shape := ⟨4, ![1, 1, 256, 4096]⟩
abbrev S256x256 : Shape := ⟨2, ![256, 256]⟩

abbrev nBuf : Space → Nat
  | .hbm => 37
  | .vmem => 7
  | .smem => 3
  | _ => 0

abbrev bufTy : (tb : Table) → Fin (tcTables nBuf tb) → BufTy
  | .hbm, ⟨0, _⟩ => ⟨S24832x1024, .bf16⟩
  | .hbm, ⟨1, _⟩ => ⟨S2x32x1024x4096, .f32⟩
  | .hbm, ⟨2, _⟩ => ⟨S32, .i32⟩
  | .hbm, ⟨3, _⟩ => ⟨S97, .i32⟩
  | .hbm, ⟨4, _⟩ => ⟨S1x32, .i32⟩
  | .hbm, ⟨5, _⟩ => ⟨S97x1, .i32⟩
  | .hbm, ⟨6, _⟩ => ⟨S97x32, .i32⟩
  | .hbm, ⟨7, _⟩ => ⟨S97x32, .i32⟩
  | .hbm, ⟨8, _⟩ => ⟨S97x32, .i1⟩
  | .hbm, ⟨9, _⟩ => ⟨S97x32, .i32⟩
  | .hbm, ⟨10, _⟩ => ⟨S_, .i32⟩
  | .hbm, ⟨11, _⟩ => ⟨S97, .i32⟩
  | .hbm, ⟨12, _⟩ => ⟨S_, .i32⟩
  | .hbm, ⟨13, _⟩ => ⟨S97, .i32⟩
  | .hbm, ⟨14, _⟩ => ⟨S97, .i32⟩
  | .hbm, ⟨15, _⟩ => ⟨S_, .i32⟩
  | .hbm, ⟨16, _⟩ => ⟨S1, .i32⟩
  | .hbm, ⟨17, _⟩ => ⟨S96, .i32⟩
  | .hbm, ⟨18, _⟩ => ⟨S96, .i32⟩
  | .hbm, ⟨19, _⟩ => ⟨S96, .i1⟩
  | .hbm, ⟨20, _⟩ => ⟨S96, .i32⟩
  | .hbm, ⟨21, _⟩ => ⟨S_, .i32⟩
  | .hbm, ⟨22, _⟩ => ⟨S1, .i32⟩
  | .hbm, ⟨23, _⟩ => ⟨S1, .i32⟩
  | .hbm, ⟨24, _⟩ => ⟨S97, .i32⟩
  | .hbm, ⟨25, _⟩ => ⟨S97, .i32⟩
  | .hbm, ⟨26, _⟩ => ⟨S1x32, .i32⟩
  | .hbm, ⟨27, _⟩ => ⟨S97x1, .i32⟩
  | .hbm, ⟨28, _⟩ => ⟨S97x32, .i32⟩
  | .hbm, ⟨29, _⟩ => ⟨S97x32, .i32⟩
  | .hbm, ⟨30, _⟩ => ⟨S97x32, .i1⟩
  | .hbm, ⟨31, _⟩ => ⟨S97x32, .i32⟩
  | .hbm, ⟨32, _⟩ => ⟨S_, .i32⟩
  | .hbm, ⟨33, _⟩ => ⟨S97, .i32⟩
  | .hbm, ⟨34, _⟩ => ⟨S_, .i32⟩
  | .hbm, ⟨35, _⟩ => ⟨S97, .i32⟩
  | .hbm, ⟨36, _⟩ => ⟨S24832x4096, .f32⟩
  | .local _ .vmem, ⟨0, _⟩ => ⟨S256x1024, .bf16⟩
  | .local _ .vmem, ⟨1, _⟩ => ⟨S256x1024, .bf16⟩
  | .local _ .vmem, ⟨2, _⟩ => ⟨S1x1x1024x4096, .f32⟩
  | .local _ .vmem, ⟨3, _⟩ => ⟨S1x1x1024x4096, .f32⟩
  | .local _ .vmem, ⟨4, _⟩ => ⟨S256x4096, .f32⟩
  | .local _ .vmem, ⟨5, _⟩ => ⟨S256x4096, .f32⟩
  | .local _ .vmem, ⟨6, _⟩ => ⟨S1024x4096, .bf16⟩
  | .local _ .smem, ⟨0, _⟩ => ⟨S97, .i32⟩
  | .local _ .smem, ⟨1, _⟩ => ⟨S97, .i32⟩
  | .local _ .smem, ⟨2, _⟩ => ⟨S1, .i32⟩
  | _, _ => ⟨S24832x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_c_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c_2 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_c_3 : Ref sig .tc := ⟨.hbm, 32, rfl⟩
abbrev main_v27 : Ref sig .tc := ⟨.hbm, 33, rfl⟩
abbrev main_c_4 : Ref sig .tc := ⟨.hbm, 34, rfl⟩
abbrev main_v28 : Ref sig .tc := ⟨.hbm, 35, rfl⟩
abbrev main_v30 : Ref sig .tc := ⟨.hbm, 36, rfl⟩
abbrev main_v29 : Ref sig .tc := ⟨.smem, 0, rfl⟩
abbrev main_v16 : Ref sig .tc := ⟨.smem, 1, rfl⟩
abbrev main_v0 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![1, 97], ![false, false]⟩

abbrev pre0 : Pipeline.Prefetch sig := ⟨3, ![main_v29.idx, main_v16.idx, main_v0.idx], fun | 0 => main_v29.names | 1 => main_v16.names | 2 => main_v0.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond1 (i : grid0.Coords) (v0 : BitVec 32) (v3 : BitVec 32) : BitVec 1 :=
  let arg1 : BitVec 32 := BitVec.ofNat 32 (i 1).val
  let v1 : BitVec 1 := Scalar.cmpi .slt arg1 v0
  let c1_i32 : BitVec 32 := 1#32
  let v4 : BitVec 1 := Scalar.cmpi .eq v3 c1_i32
  let v5 : BitVec 1 := Scalar.andi v1 v4
  let v6 : BitVec 32 := Scalar.extui v5
  let c0_i32 : BitVec 32 := 0#32
  let v7 : BitVec 1 := Scalar.cmpi .ne v6 c0_i32
  v7

def k0_cond2 (i : grid0.Coords) (v0 : BitVec 32) (v3 : BitVec 32) : BitVec 1 :=
  let arg1 : BitVec 32 := BitVec.ofNat 32 (i 1).val
  let v1 : BitVec 1 := Scalar.cmpi .slt arg1 v0
  let c1_i32 : BitVec 32 := 1#32
  let v4 : BitVec 1 := Scalar.cmpi .eq v3 c1_i32
  let v_true : BitVec 1 := 1#1
  let v8 : BitVec 1 := Scalar.xori v4 v_true
  let v9 : BitVec 1 := Scalar.andi v1 v8
  let v10 : BitVec 32 := Scalar.extui v9
  let c0_i32_0 : BitVec 32 := 0#32
  let v11 : BitVec 1 := Scalar.cmpi .ne v10 c0_i32_0
  v11

def k0_cond3 (i : grid0.Coords) (v0 : BitVec 32) : BitVec 1 :=
  let arg1 : BitVec 32 := BitVec.ofNat 32 (i 1).val
  let v1 : BitVec 1 := Scalar.cmpi .slt arg1 v0
  let true_1 : BitVec 1 := 1#1
  let v12 : BitVec 1 := Scalar.xori v1 true_1
  let v13 : BitVec 32 := Scalar.extui v12
  let c0_i32_2 : BitVec 32 := 0#32
  let v14 : BitVec 1 := Scalar.cmpi .ne v13 c0_i32_2
  v14

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S97.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S97) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1024x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S24832x1024 : Shape := ⟨2, ![24832, 1024]⟩
abbrev S2x32x1024x4096 : Shape := ⟨4, ![2, 32, 1024, 4096]⟩
abbrev S32 : Shape := ⟨1, ![32]⟩
abbrev S97 : Shape := ⟨1, ![97]⟩
abbrev S97x1 : Shape := ⟨2, ![97, 1]⟩
abbrev S97x256 : Shape := ⟨2, ![97, 256]⟩
abbrev S24832 : Shape := ⟨1, ![24832]⟩
abbrev S1x32 : Shape := ⟨2, ![1, 32]⟩
abbrev S24832x1 : Shape := ⟨2, ![24832, 1]⟩
abbrev S24832x32 : Shape := ⟨2, ![24832, 32]⟩
abbrev S_ : Shape := ⟨0, ![]⟩
abbrev S1 : Shape := ⟨1, ![1]⟩
abbrev S24832x32x1 : Shape := ⟨3, ![24832, 32, 1]⟩
abbrev S24832x1x1024 : Shape := ⟨3, ![24832, 1, 1024]⟩
abbrev S24832x32x1024 : Shape := ⟨3, ![24832, 32, 1024]⟩
abbrev S1x32x1024x4096 : Shape := ⟨4, ![1, 32, 1024, 4096]⟩
abbrev S32x1024x4096 : Shape := ⟨3, ![32, 1024, 4096]⟩
abbrev S24832x4096 : Shape := ⟨2, ![24832, 4096]⟩

abbrev nBuf : Space → Nat
  | .hbm => 40
  | .vmem => 0
  | .smem => 0
  | _ => 0

abbrev bufTy : (tb : Table) → Fin (tcTables nBuf tb) → BufTy
  | .hbm, ⟨0, _⟩ => ⟨S24832x1024, .bf16⟩
  | .hbm, ⟨1, _⟩ => ⟨S2x32x1024x4096, .f32⟩
  | .hbm, ⟨2, _⟩ => ⟨S32, .i32⟩
  | .hbm, ⟨3, _⟩ => ⟨S24832x1024, .f32⟩
  | .hbm, ⟨4, _⟩ => ⟨S97, .i32⟩
  | .hbm, ⟨5, _⟩ => ⟨S97x1, .i32⟩
  | .hbm, ⟨6, _⟩ => ⟨S97x256, .i32⟩
  | .hbm, ⟨7, _⟩ => ⟨S24832, .i32⟩
  | .hbm, ⟨8, _⟩ => ⟨S1x32, .i32⟩
  | .hbm, ⟨9, _⟩ => ⟨S24832x1, .i32⟩
  | .hbm, ⟨10, _⟩ => ⟨S24832x32, .i32⟩
  | .hbm, ⟨11, _⟩ => ⟨S24832x32, .i32⟩
  | .hbm, ⟨12, _⟩ => ⟨S24832x32, .i1⟩
  | .hbm, ⟨13, _⟩ => ⟨S24832x32, .i32⟩
  | .hbm, ⟨14, _⟩ => ⟨S_, .i32⟩
  | .hbm, ⟨15, _⟩ => ⟨S24832, .i32⟩
  | .hbm, ⟨16, _⟩ => ⟨S1, .i32⟩
  | .hbm, ⟨17, _⟩ => ⟨S_, .i32⟩
  | .hbm, ⟨18, _⟩ => ⟨S24832, .i32⟩
  | .hbm, ⟨19, _⟩ => ⟨S24832, .i1⟩
  | .hbm, ⟨20, _⟩ => ⟨S24832x1, .i1⟩
  | .hbm, ⟨21, _⟩ => ⟨S24832x1, .i32⟩
  | .hbm, ⟨22, _⟩ => ⟨S32, .i32⟩
  | .hbm, ⟨23, _⟩ => ⟨S1x32, .i32⟩
  | .hbm, ⟨24, _⟩ => ⟨S24832x32, .i32⟩
  | .hbm, ⟨25, _⟩ => ⟨S24832x32, .i32⟩
  | .hbm, ⟨26, _⟩ => ⟨S24832x32, .i1⟩
  | .hbm, ⟨27, _⟩ => ⟨S24832x32, .i1⟩
  | .hbm, ⟨28, _⟩ => ⟨S24832x32, .i1⟩
  | .hbm, ⟨29, _⟩ => ⟨S24832x32x1, .i1⟩
  | .hbm, ⟨30, _⟩ => ⟨S24832x1x1024, .f32⟩
  | .hbm, ⟨31, _⟩ => ⟨S_, .f32⟩
  | .hbm, ⟨32, _⟩ => ⟨S_, .f32⟩
  | .hbm, ⟨33, _⟩ => ⟨S24832x32x1024, .i1⟩
  | .hbm, ⟨34, _⟩ => ⟨S24832x32x1024, .f32⟩
  | .hbm, ⟨35, _⟩ => ⟨S24832x32x1024, .f32⟩
  | .hbm, ⟨36, _⟩ => ⟨S24832x32x1024, .f32⟩
  | .hbm, ⟨37, _⟩ => ⟨S1x32x1024x4096, .f32⟩
  | .hbm, ⟨38, _⟩ => ⟨S32x1024x4096, .f32⟩
  | .hbm, ⟨39, _⟩ => ⟨S24832x4096, .f32⟩
  | _, _ => ⟨S24832x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]
-- ==== Kernel4.lean ====
abbrev S1024x4096 : Shape := ⟨2, ![1024, 4096]⟩
abbrev S2x4096x512 : Shape := ⟨3, ![2, 4096, 512]⟩
abbrev S1024x512 : Shape := ⟨2, ![1024, 512]⟩
abbrev S1x4096x512 : Shape := ⟨3, ![1, 4096, 512]⟩
abbrev S4096x512 : Shape := ⟨2, ![4096, 512]⟩
abbrev S1x512x512 : Shape := ⟨3, ![1, 512, 512]⟩
abbrev S512x512 : Shape := ⟨2, ![512, 512]⟩

abbrev nBuf : Space → Nat
  | .hbm => 3
  | .vmem => 4
  | .smem => 0
  | _ => 0

abbrev bufTy : (tb : Table) → Fin (tcTables nBuf tb) → BufTy
  | .hbm, ⟨0, _⟩ => ⟨S1024x4096, .bf16⟩
  | .hbm, ⟨1, _⟩ => ⟨S2x4096x512, .f32⟩
  | .hbm, ⟨2, _⟩ => ⟨S1024x512, .f32⟩
  | .local _ .vmem, ⟨0, _⟩ => ⟨S1024x4096, .bf16⟩
  | .local _ .vmem, ⟨1, _⟩ => ⟨S1x4096x512, .f32⟩
  | .local _ .vmem, ⟨2, _⟩ => ⟨S1024x512, .f32⟩
  | .local _ .vmem, ⟨3, _⟩ => ⟨S4096x512, .bf16⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .ne arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S1x4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference4Ideal.lean ====
abbrev S1024x4096 : Shape := ⟨2, ![1024, 4096]⟩
abbrev S2x4096x512 : Shape := ⟨3, ![2, 4096, 512]⟩
abbrev S1x4096x512 : Shape := ⟨3, ![1, 4096, 512]⟩
abbrev S4096x512 : Shape := ⟨2, ![4096, 512]⟩
abbrev S1024x512 : Shape := ⟨2, ![1024, 512]⟩

abbrev nBuf : Space → Nat
  | .hbm => 6
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S2x4096x512, .f32⟩
  | .hbm, ⟨2, _⟩ => ⟨S1024x4096, .f32⟩
  | .hbm, ⟨3, _⟩ => ⟨S1x4096x512, .f32⟩
  | .hbm, ⟨4, _⟩ => ⟨S4096x512, .f32⟩
  | .hbm, ⟨5, _⟩ => ⟨S1024x512, .f32⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel5.lean ====
abbrev S8320x4096 : Shape := ⟨2, ![8320, 4096]⟩
abbrev S2x4096x39040 : Shape := ⟨3, ![2, 4096, 39040]⟩
abbrev S8320x12288 : Shape := ⟨2, ![8320, 12288]⟩
abbrev S1664x4096 : Shape := ⟨2, ![1664, 4096]⟩
abbrev S1x4096x512 : Shape := ⟨3, ![1, 4096, 512]⟩
abbrev S1664x512 : Shape := ⟨2, ![1664, 512]⟩
abbrev S4096x512 : Shape := ⟨2, ![4096, 512]⟩
abbrev S1x512x512 : Shape := ⟨3, ![1, 512, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8320x4096, .bf16⟩
  | .hbm, ⟨1, _⟩ => ⟨S2x4096x39040, .f32⟩
  | .hbm, ⟨2, _⟩ => ⟨S8320x12288, .f32⟩
  | .local _ .vmem, ⟨0, _⟩ => ⟨S1664x4096, .bf16⟩
  | .local _ .vmem, ⟨1, _⟩ => ⟨S1664x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1664x512, .f32⟩
  | .local _ .vmem, ⟨5, _⟩ => ⟨S1664x512, .f32⟩
  | .local _ .vmem, ⟨6, _⟩ => ⟨S4096x512, .bf16⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![24, 5], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .ne arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1664x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1664x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S8320x4096 : Shape := ⟨2, ![8320, 4096]⟩
abbrev S2x4096x39040 : Shape := ⟨3, ![2, 4096, 39040]⟩
abbrev S1x4096x39040 : Shape := ⟨3, ![1, 4096, 39040]⟩
abbrev S4096x39040 : Shape := ⟨2, ![4096, 39040]⟩
abbrev S4096x12288 : Shape := ⟨2, ![4096, 12288]⟩
abbrev S8320x12288 : Shape := ⟨2, ![8320, 12288]⟩

abbrev nBuf : Space → Nat
  | .hbm => 7
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S2x4096x39040, .f32⟩
  | .hbm, ⟨2, _⟩ => ⟨S8320x4096, .f32⟩
  | .hbm, ⟨3, _⟩ => ⟨S1x4096x39040, .f32⟩
  | .hbm, ⟨4, _⟩ => ⟨S4096x39040, .f32⟩
  | .hbm, ⟨5, _⟩ => ⟨S4096x12288, .f32⟩
  | .hbm, ⟨6, _⟩ => ⟨S8320x12288, .f32⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel6.lean ====
abbrev S8320x4096 : Shape := ⟨2, ![8320, 4096]⟩
abbrev S2x4096x39040 : Shape := ⟨3, ![2, 4096, 39040]⟩
abbrev S8320x8192 : Shape := ⟨2, ![8320, 8192]⟩
abbrev S1664x4096 : Shape := ⟨2, ![1664, 4096]⟩
abbrev S1x4096x512 : Shape := ⟨3, ![1, 4096, 512]⟩
abbrev S1664x512 : Shape := ⟨2, ![1664, 512]⟩
abbrev S4096x512 : Shape := ⟨2, ![4096, 512]⟩
abbrev S1x512x512 : Shape := ⟨3, ![1, 512, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8320x4096, .bf16⟩
  | .hbm, ⟨1, _⟩ => ⟨S2x4096x39040, .f32⟩
  | .hbm, ⟨2, _⟩ => ⟨S8320x8192, .f32⟩
  | .local _ .vmem, ⟨0, _⟩ => ⟨S1664x4096, .bf16⟩
  | .local _ .vmem, ⟨1, _⟩ => ⟨S1664x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1664x512, .f32⟩
  | .local _ .vmem, ⟨5, _⟩ => ⟨S1664x512, .f32⟩
  | .local _ .vmem, ⟨6, _⟩ => ⟨S4096x512, .bf16⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 5], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .ne arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1664x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1664x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S8320x4096 : Shape := ⟨2, ![8320, 4096]⟩
abbrev S2x4096x39040 : Shape := ⟨3, ![2, 4096, 39040]⟩
abbrev S1x4096x39040 : Shape := ⟨3, ![1, 4096, 39040]⟩
abbrev S4096x39040 : Shape := ⟨2, ![4096, 39040]⟩
abbrev S4096x8192 : Shape := ⟨2, ![4096, 8192]⟩
abbrev S8320x8192 : Shape := ⟨2, ![8320, 8192]⟩

abbrev nBuf : Space → Nat
  | .hbm => 7
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S2x4096x39040, .f32⟩
  | .hbm, ⟨2, _⟩ => ⟨S8320x4096, .f32⟩
  | .hbm, ⟨3, _⟩ => ⟨S1x4096x39040, .f32⟩
  | .hbm, ⟨4, _⟩ => ⟨S4096x39040, .f32⟩
  | .hbm, ⟨5, _⟩ => ⟨S4096x8192, .f32⟩
  | .hbm, ⟨6, _⟩ => ⟨S8320x8192, .f32⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel7.lean ====
abbrev S8320x4096 : Shape := ⟨2, ![8320, 4096]⟩
abbrev S2x4096x39040 : Shape := ⟨3, ![2, 4096, 39040]⟩
abbrev S8320x10240 : Shape := ⟨2, ![8320, 10240]⟩
abbrev S1664x4096 : Shape := ⟨2, ![1664, 4096]⟩
abbrev S1x4096x512 : Shape := ⟨3, ![1, 4096, 512]⟩
abbrev S1664x512 : Shape := ⟨2, ![1664, 512]⟩
abbrev S4096x512 : Shape := ⟨2, ![4096, 512]⟩
abbrev S1x512x512 : Shape := ⟨3, ![1, 512, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8320x4096, .bf16⟩
  | .hbm, ⟨1, _⟩ => ⟨S2x4096x39040, .f32⟩
  | .hbm, ⟨2, _⟩ => ⟨S8320x10240, .f32⟩
  | .local _ .vmem, ⟨0, _⟩ => ⟨S1664x4096, .bf16⟩
  | .local _ .vmem, ⟨1, _⟩ => ⟨S1664x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1664x512, .f32⟩
  | .local _ .vmem, ⟨5, _⟩ => ⟨S1664x512, .f32⟩
  | .local _ .vmem, ⟨6, _⟩ => ⟨S4096x512, .bf16⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![20, 5], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .ne arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg0
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1664x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1664x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S8320x4096 : Shape := ⟨2, ![8320, 4096]⟩
abbrev S2x4096x39040 : Shape := ⟨3, ![2, 4096, 39040]⟩
abbrev S1x4096x39040 : Shape := ⟨3, ![1, 4096, 39040]⟩
abbrev S4096x39040 : Shape := ⟨2, ![4096, 39040]⟩
abbrev S4096x10240 : Shape := ⟨2, ![4096, 10240]⟩
abbrev S8320x10240 : Shape := ⟨2, ![8320, 10240]⟩

abbrev nBuf : Space → Nat
  | .hbm => 7
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S2x4096x39040, .f32⟩
  | .hbm, ⟨2, _⟩ => ⟨S8320x4096, .f32⟩
  | .hbm, ⟨3, _⟩ => ⟨S1x4096x39040, .f32⟩
  | .hbm, ⟨4, _⟩ => ⟨S4096x39040, .f32⟩
  | .hbm, ⟨5, _⟩ => ⟨S4096x10240, .f32⟩
  | .hbm, ⟨6, _⟩ => ⟨S8320x10240, .f32⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel8.lean ====
abbrev S8320x4096 : Shape := ⟨2, ![8320, 4096]⟩
abbrev S2x4096x39040 : Shape := ⟨3, ![2, 4096, 39040]⟩
abbrev S8320x8192 : Shape := ⟨2, ![8320, 8192]⟩
abbrev S1664x4096 : Shape := ⟨2, ![1664, 4096]⟩
abbrev S1x4096x512 : Shape := ⟨3, ![1, 4096, 512]⟩
abbrev S1664x512 : Shape := ⟨2, ![1664, 512]⟩
abbrev S4096x512 : Shape := ⟨2, ![4096, 512]⟩
abbrev S1x512x512 : Shape := ⟨3, ![1, 512, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8320x4096, .bf16⟩
  | .hbm, ⟨1, _⟩ => ⟨S2x4096x39040, .f32⟩
  | .hbm, ⟨2, _⟩ => ⟨S8320x8192, .f32⟩
  | .local _ .vmem, ⟨0, _⟩ => ⟨S1664x4096, .bf16⟩
  | .local _ .vmem, ⟨1, _⟩ => ⟨S1664x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1664x512, .f32⟩
  | .local _ .vmem, ⟨5, _⟩ => ⟨S1664x512, .f32⟩
  | .local _ .vmem, ⟨6, _⟩ => ⟨S4096x512, .bf16⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 5], ![false, false]⟩

def k0_mult1 (i : grid0.Coords) : BitVec 32 :=
  let c30848_i32 : BitVec 32 := 30848#32
  let arg0 : BitVec 32 := BitVec.ofNat 32 (i 0).val
  let c512_i32 : BitVec 32 := 512#32
  let v0 : BitVec 32 := Scalar.muli arg0 c512_i32
  let v1 : BitVec 32 := Scalar.addi c30848_i32 v0
  v1
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .ne arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c30848_i32 : BitVec 32 := 30848#32
  let v1 : BitVec 32 := Scalar.addi c30848_i32 v0
  let v2 : BitVec 32 := v1
  let c0_i32 : BitVec 32 := 0#32
  let c0_i32_0 : BitVec 32 := 0#32
  let c0_i32_1 : BitVec 32 := 0#32
  ![c0_i32.toNat, c0_i32_0.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1664x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1664x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S8320x4096 : Shape := ⟨2, ![8320, 4096]⟩
abbrev S2x4096x39040 : Shape := ⟨3, ![2, 4096, 39040]⟩
abbrev S1x4096x39040 : Shape := ⟨3, ![1, 4096, 39040]⟩
abbrev S4096x39040 : Shape := ⟨2, ![4096, 39040]⟩
abbrev S4096x8192 : Shape := ⟨2, ![4096, 8192]⟩
abbrev S8320x8192 : Shape := ⟨2, ![8320, 8192]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S2x4096x39040, .f32⟩
  | .hbm, ⟨2, _⟩ => ⟨S8320x4096, .f32⟩
  | .hbm, ⟨3, _⟩ => ⟨S1x4096x39040, .f32⟩
  | .hbm, ⟨4, _⟩ => ⟨S4096x39040, .f32⟩
  | .hbm, ⟨5, _⟩ => ⟨S4096x8192, .f32⟩
  | .hbm, ⟨6, _⟩ => ⟨S8320x8192, .f32⟩
  | .hbm, ⟨7, _⟩ => ⟨S8320x8192, .f32⟩
  | .hbm, ⟨8, _⟩ => ⟨S8320x8192, .f32⟩
  | .hbm, ⟨9, _⟩ => ⟨S_, .f32⟩
  | .hbm, ⟨10, _⟩ => ⟨S8320x8192, .f32⟩
  | .hbm, ⟨11, _⟩ => ⟨S8320x8192, .f32⟩
  | .hbm, ⟨12, _⟩ => ⟨S_, .f32⟩
  | .hbm, ⟨13, _⟩ => ⟨S8320x8192, .f32⟩
  | .hbm, ⟨14, _⟩ => ⟨S8320x8192, .f32⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel9.lean ====
abbrev S8320x8192 : Shape := ⟨2, ![8320, 8192]⟩
abbrev S2x8192x4096 : Shape := ⟨3, ![2, 8192, 4096]⟩
abbrev S8320x4096 : Shape := ⟨2, ![8320, 4096]⟩
abbrev S1664x4096 : Shape := ⟨2, ![1664, 4096]⟩
abbrev S1x4096x512 : Shape := ⟨3, ![1, 4096, 512]⟩
abbrev S1664x512 : Shape := ⟨2, ![1664, 512]⟩
abbrev S4096x512 : Shape := ⟨2, ![4096, 512]⟩
abbrev S1x512x512 : Shape := ⟨3, ![1, 512, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S8320x8192, .bf16⟩
  | .hbm, ⟨1, _⟩ => ⟨S2x8192x4096, .f32⟩
  | .hbm, ⟨2, _⟩ => ⟨S8320x4096, .f32⟩
  | .local _ .vmem, ⟨0, _⟩ => ⟨S1664x4096, .bf16⟩
  | .local _ .vmem, ⟨1, _⟩ => ⟨S1664x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1664x512, .f32⟩
  | .local _ .vmem, ⟨5, _⟩ => ⟨S1664x512, .f32⟩
  | .local _ .vmem, ⟨6, _⟩ => ⟨S4096x512, .bf16⟩
  | _, _ => ⟨S8320x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 5], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .ne arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1664x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1664x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S8320x8192 : Shape := ⟨2, ![8320, 8192]⟩
abbrev S2x8192x4096 : Shape := ⟨3, ![2, 8192, 4096]⟩
abbrev S8320x4096 : Shape := ⟨2, ![8320, 4096]⟩
abbrev S1x8192x4096 : Shape := ⟨3, ![1, 8192, 4096]⟩
abbrev S8192x4096 : Shape := ⟨2, ![8192, 4096]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8320x8192, .bf16⟩
  | .hbm, ⟨1, _⟩ => ⟨S2x8192x4096, .f32⟩
  | .hbm, ⟨2, _⟩ => ⟨S8320x4096, .bf16⟩
  | .hbm, ⟨3, _⟩ => ⟨S8320x4096, .f32⟩
  | .hbm, ⟨4, _⟩ => ⟨S1x8192x4096, .f32⟩
  | .hbm, ⟨5, _⟩ => ⟨S8192x4096, .f32⟩
  | .hbm, ⟨6, _⟩ => ⟨S4096x4096, .f32⟩
  | .hbm, ⟨7, _⟩ => ⟨S8320x4096, .f32⟩
  | _, _ => ⟨S8320x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel10.lean ====
abbrev S8320x4096 : Shape := ⟨2, ![8320, 4096]⟩
abbrev S4096 : Shape := ⟨1, ![4096]⟩
abbrev S1x4096 : Shape := ⟨2, ![1, 4096]⟩
abbrev S8192x4096 : Shape := ⟨2, ![8192, 4096]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8320x4096, .f32⟩
  | .hbm, ⟨1, _⟩ => ⟨S4096, .f32⟩
  | .hbm, ⟨2, _⟩ => ⟨S1x4096, .f32⟩
  | .hbm, ⟨3, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .f32⟩
  | .local _ .vmem, ⟨4, _⟩ => ⟨S512x4096, .f32⟩
  | _, _ => ⟨S8320x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference10Ideal.lean ====
abbrev S8320x4096 : Shape := ⟨2, ![8320, 4096]⟩
abbrev S4096 : Shape := ⟨1, ![4096]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S8320x4096, .f32⟩
  | .hbm, ⟨1, _⟩ => ⟨S4096, .f32⟩
  | .hbm, ⟨2, _⟩ => ⟨S8192x4096, .f32⟩
  | .hbm, ⟨3, _⟩ => ⟨S8192x4096, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x4096, .f32⟩
  | .hbm, ⟨15, _⟩ => ⟨S8192x4096, .f32⟩
  | .hbm, ⟨16, _⟩ => ⟨S1x4096, .f32⟩
  | .hbm, ⟨17, _⟩ => ⟨S8192x4096, .f32⟩
  | .hbm, ⟨18, _⟩ => ⟨S8192x4096, .f32⟩
  | _, _ => ⟨S8320x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel11.lean ====
abbrev S8320x4096 : Shape := ⟨2, ![8320, 4096]⟩
abbrev S4096 : Shape := ⟨1, ![4096]⟩
abbrev S1x4096 : Shape := ⟨2, ![1, 4096]⟩
abbrev S128x4096 : Shape := ⟨2, ![128, 4096]⟩
abbrev S128 : Shape := ⟨1, ![128]⟩
abbrev S128x1 : Shape := ⟨2, ![128, 1]⟩

abbrev nBuf : Space → Nat
  | .hbm => 4
  | .vmem => 3
  | .smem => 0
  | _ => 0

abbrev bufTy : (tb : Table) → Fin (tcTables nBuf tb) → BufTy
  | .hbm, ⟨0, _⟩ => ⟨S8320x4096, .f32⟩
  | .hbm, ⟨1, _⟩ => ⟨S4096, .f32⟩
  | .hbm, ⟨2, _⟩ => ⟨S1x4096, .f32⟩
  | .hbm, ⟨3, _⟩ => ⟨S128x4096, .f32⟩
  | .local _ .vmem, ⟨0, _⟩ => ⟨S128x4096, .f32⟩
  | .local _ .vmem, ⟨1, _⟩ => ⟨S1x4096, .f32⟩
  | .local _ .vmem, ⟨2, _⟩ => ⟨S128x4096, .f32⟩
  | _, _ => ⟨S8320x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference11Ideal.lean ====
abbrev S8320x4096 : Shape := ⟨2, ![8320, 4096]⟩
abbrev S4096 : Shape := ⟨1, ![4096]⟩
abbrev S128x4096 : Shape := ⟨2, ![128, 4096]⟩
abbrev S_ : Shape := ⟨0, ![]⟩
abbrev S128 : Shape := ⟨1, ![128]⟩
abbrev S128x1 : Shape := ⟨2, ![128, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S8320x4096, .f32⟩
  | .hbm, ⟨1, _⟩ => ⟨S4096, .f32⟩
  | .hbm, ⟨2, _⟩ => ⟨S128x4096, .f32⟩
  | .hbm, ⟨3, _⟩ => ⟨S128x4096, .f32⟩
  | .hbm, ⟨4, _⟩ => ⟨S_, .f32⟩
  | .hbm, ⟨5, _⟩ => ⟨S128, .f32⟩
  | .hbm, ⟨6, _⟩ => ⟨S128x1, .f32⟩
  | .hbm, ⟨7, _⟩ => ⟨S_, .f32⟩
  | .hbm, ⟨8, _⟩ => ⟨S128x1, .f32⟩
  | .hbm, ⟨9, _⟩ => ⟨S128x1, .f32⟩
  | .hbm, ⟨10, _⟩ => ⟨S_, .f32⟩
  | .hbm, ⟨11, _⟩ => ⟨S128x1, .f32⟩
  | .hbm, ⟨12, _⟩ => ⟨S128x1, .f32⟩
  | .hbm, ⟨13, _⟩ => ⟨S128x1, .f32⟩
  | .hbm, ⟨14, _⟩ => ⟨S128x4096, .f32⟩
  | .hbm, ⟨15, _⟩ => ⟨S128x4096, .f32⟩
  | .hbm, ⟨16, _⟩ => ⟨S1x4096, .f32⟩
  | .hbm, ⟨17, _⟩ => ⟨S128x4096, .f32⟩
  | .hbm, ⟨18, _⟩ => ⟨S128x4096, .f32⟩
  | _, _ => ⟨S8320x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel12.lean ====
abbrev S8320x4096 : Shape := ⟨2, ![8320, 4096]⟩
abbrev S2x4096x4096 : Shape := ⟨3, ![2, 4096, 4096]⟩
abbrev S1040x4096 : Shape := ⟨2, ![1040, 4096]⟩
abbrev S1x4096x512 : Shape := ⟨3, ![1, 4096, 512]⟩
abbrev S1040x512 : Shape := ⟨2, ![1040, 512]⟩
abbrev S4096x512 : Shape := ⟨2, ![4096, 512]⟩
abbrev S1x512x512 : Shape := ⟨3, ![1, 512, 512]⟩
abbrev S512x512 : Shape := ⟨2, ![512, 512]⟩

abbrev nBuf : Space → Nat
  | .hbm => 4
  | .vmem => 9
  | .smem => 0
  | _ => 0

abbrev bufTy : (tb : Table) → Fin (tcTables nBuf tb) → BufTy
  | .hbm, ⟨0, _⟩ => ⟨S8320x4096, .bf16⟩
  | .hbm, ⟨1, _⟩ => ⟨S2x4096x4096, .f32⟩
  | .hbm, ⟨2, _⟩ => ⟨S8320x4096, .f32⟩
  | .hbm, ⟨3, _⟩ => ⟨S8320x4096, .f32⟩
  | .local _ .vmem, ⟨0, _⟩ => ⟨S1040x4096, .bf16⟩
  | .local _ .vmem, ⟨1, _⟩ => ⟨S1040x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1040x512, .f32⟩
  | .local _ .vmem, ⟨5, _⟩ => ⟨S1040x512, .f32⟩
  | .local _ .vmem, ⟨6, _⟩ => ⟨S1040x512, .f32⟩
  | .local _ .vmem, ⟨7, _⟩ => ⟨S1040x512, .f32⟩
  | .local _ .vmem, ⟨8, _⟩ => ⟨S4096x512, .bf16⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .ne arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1040x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1040x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1040x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference12Ideal.lean ====
abbrev S8320x4096 : Shape := ⟨2, ![8320, 4096]⟩
abbrev S2x4096x4096 : Shape := ⟨3, ![2, 4096, 4096]⟩
abbrev S1x4096x4096 : Shape := ⟨3, ![1, 4096, 4096]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S2x4096x4096, .f32⟩
  | .hbm, ⟨2, _⟩ => ⟨S8320x4096, .f32⟩
  | .hbm, ⟨3, _⟩ => ⟨S8320x4096, .f32⟩
  | .hbm, ⟨4, _⟩ => ⟨S1x4096x4096, .f32⟩
  | .hbm, ⟨5, _⟩ => ⟨S4096x4096, .f32⟩
  | .hbm, ⟨6, _⟩ => ⟨S8320x4096, .f32⟩
  | .hbm, ⟨7, _⟩ => ⟨S8320x4096, .f32⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S8320x4096 : Shape := ⟨2, ![8320, 4096]⟩
abbrev S2x4096x4096 : Shape := ⟨3, ![2, 4096, 4096]⟩
abbrev S8320x8192 : Shape := ⟨2, ![8320, 8192]⟩
abbrev S1040x4096 : Shape := ⟨2, ![1040, 4096]⟩
abbrev S1x4096x512 : Shape := ⟨3, ![1, 4096, 512]⟩
abbrev S1040x512 : Shape := ⟨2, ![1040, 512]⟩
abbrev S4096x512 : Shape := ⟨2, ![4096, 512]⟩
abbrev S1x512x512 : Shape := ⟨3, ![1, 512, 512]⟩
abbrev S512x512 : Shape := ⟨2, ![512, 512]⟩

abbrev nBuf : Space → Nat
  | .hbm => 4
  | .vmem => 9
  | .smem => 0
  | _ => 0

abbrev bufTy : (tb : Table) → Fin (tcTables nBuf tb) → BufTy
  | .hbm, ⟨0, _⟩ => ⟨S8320x4096, .bf16⟩
  | .hbm, ⟨1, _⟩ => ⟨S2x4096x4096, .f32⟩
  | .hbm, ⟨2, _⟩ => ⟨S8320x8192, .f32⟩
  | .hbm, ⟨3, _⟩ => ⟨S8320x4096, .f32⟩
  | .local _ .vmem, ⟨0, _⟩ => ⟨S1040x4096, .bf16⟩
  | .local _ .vmem, ⟨1, _⟩ => ⟨S1040x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1040x512, .f32⟩
  | .local _ .vmem, ⟨5, _⟩ => ⟨S1040x512, .f32⟩
  | .local _ .vmem, ⟨6, _⟩ => ⟨S1040x512, .f32⟩
  | .local _ .vmem, ⟨7, _⟩ => ⟨S1040x512, .f32⟩
  | .local _ .vmem, ⟨8, _⟩ => ⟨S4096x512, .bf16⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .ne arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1040x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1040x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1040x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference13Ideal.lean ====
abbrev S8320x4096 : Shape := ⟨2, ![8320, 4096]⟩
abbrev S2x4096x4096 : Shape := ⟨3, ![2, 4096, 4096]⟩
abbrev S8320x8192 : Shape := ⟨2, ![8320, 8192]⟩
abbrev S1x4096x4096 : Shape := ⟨3, ![1, 4096, 4096]⟩
abbrev S4096x4096 : Shape := ⟨2, ![4096, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S2x4096x4096, .f32⟩
  | .hbm, ⟨2, _⟩ => ⟨S8320x8192, .f32⟩
  | .hbm, ⟨3, _⟩ => ⟨S8320x4096, .f32⟩
  | .hbm, ⟨4, _⟩ => ⟨S8320x4096, .f32⟩
  | .hbm, ⟨5, _⟩ => ⟨S1x4096x4096, .f32⟩
  | .hbm, ⟨6, _⟩ => ⟨S4096x4096, .f32⟩
  | .hbm, ⟨7, _⟩ => ⟨S8320x4096, .f32⟩
  | .hbm, ⟨8, _⟩ => ⟨S8320x4096, .f32⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel14.lean ====
abbrev S8320x8192 : Shape := ⟨2, ![8320, 8192]⟩
abbrev S2x8192x4096 : Shape := ⟨3, ![2, 8192, 4096]⟩
abbrev S8320x4096 : Shape := ⟨2, ![8320, 4096]⟩
abbrev S1040x4096 : Shape := ⟨2, ![1040, 4096]⟩
abbrev S1x4096x512 : Shape := ⟨3, ![1, 4096, 512]⟩
abbrev S1040x512 : Shape := ⟨2, ![1040, 512]⟩
abbrev S4096x512 : Shape := ⟨2, ![4096, 512]⟩
abbrev S1x512x512 : Shape := ⟨3, ![1, 512, 512]⟩
abbrev S512x512 : Shape := ⟨2, ![512, 512]⟩

abbrev nBuf : Space → Nat
  | .hbm => 6
  | .vmem => 13
  | .smem => 0
  | _ => 0

abbrev bufTy : (tb : Table) → Fin (tcTables nBuf tb) → BufTy
  | .hbm, ⟨0, _⟩ => ⟨S8320x8192, .bf16⟩
  | .hbm, ⟨1, _⟩ => ⟨S2x8192x4096, .f32⟩
  | .hbm, ⟨2, _⟩ => ⟨S8320x4096, .f32⟩
  | .hbm, ⟨3, _⟩ => ⟨S8320x4096, .f32⟩
  | .hbm, ⟨4, _⟩ => ⟨S8320x8192, .f32⟩
  | .hbm, ⟨5, _⟩ => ⟨S8320x4096, .bf16⟩
  | .local _ .vmem, ⟨0, _⟩ => ⟨S1040x4096, .bf16⟩
  | .local _ .vmem, ⟨1, _⟩ => ⟨S1040x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1040x512, .f32⟩
  | .local _ .vmem, ⟨5, _⟩ => ⟨S1040x512, .f32⟩
  | .local _ .vmem, ⟨6, _⟩ => ⟨S1040x512, .f32⟩
  | .local _ .vmem, ⟨7, _⟩ => ⟨S1040x512, .f32⟩
  | .local _ .vmem, ⟨8, _⟩ => ⟨S1040x512, .f32⟩
  | .local _ .vmem, ⟨9, _⟩ => ⟨S1040x512, .f32⟩
  | .local _ .vmem, ⟨10, _⟩ => ⟨S1040x512, .bf16⟩
  | .local _ .vmem, ⟨11, _⟩ => ⟨S1040x512, .bf16⟩
  | .local _ .vmem, ⟨12, _⟩ => ⟨S4096x512, .bf16⟩
  | _, _ => ⟨S8320x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .ne arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, c1_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c1_i32 : BitVec 32 := 1#32
  let c0_i32_1 : BitVec 32 := 0#32
  ![c0_i32_0.toNat, c1_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1040x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1040x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1040x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1040x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1040x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference14Ideal.lean ====
abbrev S8320x8192 : Shape := ⟨2, ![8320, 8192]⟩
abbrev S2x8192x4096 : Shape := ⟨3, ![2, 8192, 4096]⟩
abbrev S8320x4096 : Shape := ⟨2, ![8320, 4096]⟩
abbrev S1x8192x4096 : Shape := ⟨3, ![1, 8192, 4096]⟩
abbrev S8192x4096 : Shape := ⟨2, ![8192, 4096]⟩
abbrev S4096x4096 : Shape := ⟨2, ![4096, 4096]⟩

abbrev nBuf : Space → Nat
  | .hbm => 16
  | .vmem => 0
  | .smem => 0
  | _ => 0

abbrev bufTy : (tb : Table) → Fin (tcTables nBuf tb) → BufTy
  | .hbm, ⟨0, _⟩ => ⟨S8320x8192, .bf16⟩
  | .hbm, ⟨1, _⟩ => ⟨S2x8192x4096, .f32⟩
  | .hbm, ⟨2, _⟩ => ⟨S8320x4096, .f32⟩
  | .hbm, ⟨3, _⟩ => ⟨S8320x4096, .f32⟩
  | .hbm, ⟨4, _⟩ => ⟨S8320x8192, .f32⟩
  | .hbm, ⟨5, _⟩ => ⟨S8320x4096, .bf16⟩
  | .hbm, ⟨6, _⟩ => ⟨S8320x4096, .f32⟩
  | .hbm, ⟨7, _⟩ => ⟨S1x8192x4096, .f32⟩
  | .hbm, ⟨8, _⟩ => ⟨S8192x4096, .f32⟩
  | .hbm, ⟨9, _⟩ => ⟨S4096x4096, .f32⟩
  | .hbm, ⟨10, _⟩ => ⟨S8320x4096, .f32⟩
  | .hbm, ⟨11, _⟩ => ⟨S8320x4096, .f32⟩
  | .hbm, ⟨12, _⟩ => ⟨S8320x4096, .f32⟩
  | .hbm, ⟨13, _⟩ => ⟨S8320x4096, .f32⟩
  | .hbm, ⟨14, _⟩ => ⟨S8320x4096, .f32⟩
  | .hbm, ⟨15, _⟩ => ⟨S8320x4096, .bf16⟩
  | _, _ => ⟨S8320x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Proof.Body.lean ====
module

public import proofs.«01_k».proof.Proof.Gen.KernelIdeal.Frame
public import proofs.«01_k».proof.Proof.Gen.KernelIdeal.Skeleton
public import Idealize.ShloMosaic.Lib.Pipeline.Frame
public import Idealize.ShloMosaic.Lib.Tactic

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body computes, from the contents of its operands -/

/-- The test "first group of the chunk" as the body makes it. -/
def condG (i : grid0.Coords) : Prop :=
  Scalar.cmpi .ne (Scalar.extui (Scalar.cmpi .eq (BitVec.ofNat 32 (i 2).val) 0#32) : BitVec 32) 0#32 = 1#1

instance (i : grid0.Coords) : Decidable (condG i) := by unfold condG; infer_instance

/-- Step sizes, their running sums down the chunk's rows, and those sums with the two axes exchanged. -/
def dthV (X6 : Vec F S128x128 .f32) (X9 : Vec F S1x128 .f32) : Vec F S128x128 .f32 := k0_pay9 (k0_pay5 X6 X9)
def achV (X6 : Vec F S128x128 .f32) (X9 X10 : Vec F S1x128 .f32) : Vec F S128x128 .f32 :=
  k0_pay10 (iota .tc S128x128 32 [0] iota_S128x128_d0_w32) (k0_pay6 X6 X9 X10) k0_pay7
def actV (X6 : Vec F S128x128 .f32) (X9 X10 : Vec F S1x128 .f32) : Vec F S128x128 .f32 :=
  k0_pay11 (iota .tc S128x128 32 [0] iota_S128x128_d0_w32) (k0_pay6 X6 X9 X10) k0_pay7

/-- The same three as the body leaves them in scratch: computed at the first group, kept afterwards. -/
def dthN (i : grid0.Coords) (X6 : Vec F S128x128 .f32) (X9 : Vec F S1x128 .f32) (D : Vec F S128x128 .f32) : Vec F S128x128 .f32 :=
  if condG i then dthV X6 X9 else D
def achN (i : grid0.Coords) (X6 : Vec F S128x128 .f32) (X9 X10 : Vec F S1x128 .f32) (A : Vec F S128x128 .f32) : Vec F S128x128 .f32 :=
  if condG i then achV X6 X9 X10 else A
def actN (i : grid0.Coords) (X6 : Vec F S128x128 .f32) (X9 X10 : Vec F S1x128 .f32) (T : Vec F S128x128 .f32) : Vec F S128x128 .f32 :=
  if condG i then actV X6 X9 X10 else T

/-- The group's slab of the state buffer. -/
abbrev slabR (i : grid0.Coords) : Rect S8x128x1024 := Rect.unit (s := S8x128x1024) (k0_off3 i) S1x128x1024.size (k0_off3_inb i)

/-- The group's state as the body reads it: zero at the first chunk, what the buffer holds afterwards. -/
def slabN (i : grid0.Coords) (X15 : Vec F S8x128x1024 .f32) : Vec F S1x128x1024 .f32 :=
  if k0_cond2 i = 1#1 then k0_pay12 (F := F) else View.ld X15 (slabR i)

/-- The row of running sums of the group's `r`-th head. -/
def rowT (i : grid0.Coords) (r : Fin 16) (T : Vec F S128x128 .f32) : Vec F S1x128 .f32 :=
  View.ld T (Rect.unit (s := S128x128) (k0_off2 i (BitVec.ofNat 32 r.val)) S1x128.size (k0_off2_inb i r))

/-- The group's output before the skip term, the gate and the norm. -/
def yV (i : grid0.Coords) (X3 : Vec F S128x1024 .f32) (X4 X5 : Vec F S128x128 .bf16) (X12 : Vec F S128x1024 .bf16)
    (D A T : Vec F S128x128 .f32) (S : Vec F S1x128x1024 .f32) : FVec F S128x1024 .f32 :=
  k0_pay40 (k0_pay15 X12 A) X5 (k0_pay17 X4 X5) k0_pay18 k0_pay19
    (k0_pay20 (k0_pay14 X12 D) (k0_pay15 X12 A) X3 X4 X5 (rowT i 0 T) (rowT i 1 T))
    (k0_pay23 (k0_pay15 X12 A) (k0_pay17 X4 X5) k0_pay18 k0_pay19 (k0_pay21 (k0_pay14 X12 D) X3) (k0_pay22 (k0_pay15 X12 A)) (rowT i 2 T) (rowT i 3 T))
    (k0_pay27 (k0_pay17 X4 X5) k0_pay18 k0_pay19 (k0_pay24 (k0_pay16 (k0_pay14 X12 D) X3)) (k0_pay25 (k0_pay15 X12 A) (k0_pay16 (k0_pay14 X12 D) X3) (k0_pay17 X4 X5) k0_pay18 (rowT i 4 T)) (k0_pay26 (k0_pay15 X12 A)) (rowT i 5 T))
    (k0_pay28 (k0_pay15 X12 A) (k0_pay16 (k0_pay14 X12 D) X3) (k0_pay17 X4 X5) k0_pay18 k0_pay19 (rowT i 6 T) (rowT i 7 T))
    (k0_pay31 (k0_pay15 X12 A) (k0_pay17 X4 X5) k0_pay18 k0_pay19 (k0_pay29 (k0_pay16 (k0_pay14 X12 D) X3)) (k0_pay30 (k0_pay15 X12 A)) (rowT i 8 T) (rowT i 9 T))
    (k0_pay35 (k0_pay17 X4 X5) k0_pay18 k0_pay19 (k0_pay32 (k0_pay16 (k0_pay14 X12 D) X3)) (k0_pay33 (k0_pay15 X12 A) (k0_pay16 (k0_pay14 X12 D) X3) (k0_pay17 X4 X5) k0_pay18 (rowT i 10 T)) (k0_pay34 (k0_pay15 X12 A)) (rowT i 11 T))
    (k0_pay36 (k0_pay15 X12 A) (k0_pay16 (k0_pay14 X12 D) X3) (k0_pay17 X4 X5) k0_pay18 k0_pay19 (rowT i 12 T) (rowT i 13 T))
    (k0_pay37 (k0_pay16 (k0_pay14 X12 D) X3)) (k0_pay38 (k0_pay15 X12 A)) (rowT i 14 T) (rowT i 15 T) S

/-- The group's normed output block. -/
def ynV (i : grid0.Coords) (X3 : Vec F S128x1024 .f32) (X4 X5 : Vec F S128x128 .bf16) (X7 : Vec F S128x1024 .f32)
    (X8 X11 : Vec F S1x1024 .f32) (X12 : Vec F S128x1024 .bf16)
    (D A T : Vec F S128x128 .f32) (S : Vec F S1x128x1024 .f32) : Vec F S128x1024 .bf16 :=
  k0_pay4 X3 (yV i X3 X4 X5 X12 D A T S) X11 X7 X8

/-- The group's state after the chunk. -/
def stV (X3 : Vec F S128x1024 .f32) (X4 : Vec F S128x128 .bf16) (X12 : Vec F S128x1024 .bf16)
    (D A : Vec F S128x128 .f32) (S : Vec F S1x128x1024 .f32) : Vec F S1x128x1024 .f32 :=
  k0_pay2 (k0_pay42 (k0_pay14 X12 D) (k0_pay15 X12 A) X3) (k0_pay43 X4) (k0_pay44 (k0_pay15 X12 A) S) (constant S128x1024 .f32 0x00000000#32)

/-- The same state laid out by head, head coordinate and state coordinate. -/
def hfV (X3 : Vec F S128x1024 .f32) (X4 : Vec F S128x128 .bf16) (X12 : Vec F S128x1024 .bf16)
    (D A : Vec F S128x128 .f32) (S : Vec F S1x128x1024 .f32) : Vec F S1x16x64x128 .f32 :=
  k0_pay3 (k0_pay42 (k0_pay14 X12 D) (k0_pay15 X12 A) X3) (k0_pay43 X4) (k0_pay44 (k0_pay15 X12 A) S) (constant S128x1024 .f32 0x00000000#32)

/-- The final-state block after the body: the group's heads overwritten at the last chunk, untouched before. -/
def finN (i : grid0.Coords) (w : Vec F S1x16x64x128 .f32) (X14 : Vec F S1x128x64x128 .f32) : Vec F S1x128x64x128 .f32 :=
  if h : k0_cond3 i = 1#1 then
    (Rect.unit (s := S1x128x64x128) (k0_off4 i) S1x16x64x128.size (k0_off4_inb i h)).overlay X14 w
  else X14

/-! ## Reads of whole buffers and of a buffer one piece was written over -/

theorem read_writes_one {sig' : RefSig} {κ : Kind} {sp : Space} {s : Shape} {e : EltTy} {Val : EltTy → Type}
    (v : View sig' κ sp s e) (f : v.ty.Contents Val) (r : Rect s) (w : r.shape.Idx → Val e) (L : List (View.Piece Val s e)) :
    v.read Val (v.writes Val f (⟨r, w⟩ :: L)) = r.overlay (v.read Val (v.writes Val f L)) w := by
  funext y
  by_cases hy : y ∈ r.set
  · obtain ⟨x, rfl⟩ := r.exists_idx_of_mem hy
    exact (View.read_writes_cons_emb v f r w L x).trans (r.overlay_emb _ _ x).symm
  · rw [View.read_writes_cons_miss _ _ _ _ _ hy]; exact (r.overlay_of_not_mem _ _ hy).symm

theorem overlay_overlay {s : Shape} {α : Type} (r : Rect s) (f : s.Idx → α) (w w' : r.shape.Idx → α) :
    r.overlay (r.overlay f w) w' = r.overlay f w' := by
  funext y
  by_cases hy : y ∈ r.set
  · obtain ⟨x, rfl⟩ := r.exists_idx_of_mem hy
    exact (r.overlay_emb _ _ x).trans (r.overlay_emb _ _ x).symm
  · rw [r.overlay_of_not_mem _ _ hy, r.overlay_of_not_mem _ _ hy, r.overlay_of_not_mem _ _ hy]

theorem idx_full {d0 d1 : ℕ} (inb : ∀ a, (![0, 0] : Fin 2 → ℕ) a + (![d0, d1] : Fin 2 → ℕ) a ≤ (![d0, d1] : Fin 2 → ℕ) a)
    (x : (Rect.unit (s := ⟨2, ![d0, d1]⟩) ![0, 0] ![d0, d1] inb).shape.Idx) :
    (Rect.unit (s := ⟨2, ![d0, d1]⟩) ![0, 0] ![d0, d1] inb).emb x = x := by
  funext a; apply Fin.ext; fin_cases a <;> exact (Nat.zero_add _).trans (Nat.one_mul _)

theorem overlay_full {d0 d1 : ℕ} {α : Type} (inb : ∀ a, (![0, 0] : Fin 2 → ℕ) a + (![d0, d1] : Fin 2 → ℕ) a ≤ (![d0, d1] : Fin 2 → ℕ) a)
    (f w : (⟨2, ![d0, d1]⟩ : Shape).Idx → α) :
    (Rect.unit (s := ⟨2, ![d0, d1]⟩) ![0, 0] ![d0, d1] inb).overlay f w = w := by
  funext y
  have h := (Rect.unit (s := ⟨2, ![d0, d1]⟩) ![0, 0] ![d0, d1] inb).overlay_emb f w y
  have e : (Rect.unit (s := ⟨2, ![d0, d1]⟩) ![0, 0] ![d0, d1] inb).emb y = y := idx_full inb y
  rw [e] at h; exact h

theorem readAt_full {sig' : RefSig} {κ : Kind} {sp : Space} {d0 d1 : ℕ} {e : EltTy} {Val : EltTy → Type}
    (inb : ∀ a, (![0, 0] : Fin 2 → ℕ) a + (![d0, d1] : Fin 2 → ℕ) a ≤ (![d0, d1] : Fin 2 → ℕ) a)
    (v : View sig' κ sp (⟨2, ![d0, d1]⟩ : Shape) e) (f : v.ty.Contents Val) :
    v.readAt Val (Rect.unit (s := ⟨2, ![d0, d1]⟩) ![0, 0] ![d0, d1] inb).toLoadRect f = v.read Val f := by
  rw [View.readAt_eq_ld]; funext x; exact congrArg (v.read Val f) (idx_full inb x)

theorem ld_full {d0 d1 : ℕ} {e : EltTy} {Val : EltTy → Type}
    (inb : ∀ a, (![0, 0] : Fin 2 → ℕ) a + (![d0, d1] : Fin 2 → ℕ) a ≤ (![d0, d1] : Fin 2 → ℕ) a)
    (X : (⟨2, ![d0, d1]⟩ : Shape).Idx → Val e) :
    View.ld X (Rect.unit (s := ⟨2, ![d0, d1]⟩) ![0, 0] ![d0, d1] inb) = X := by
  funext x; exact congrArg X (idx_full inb x)

theorem readCov_full_piece {sig' : RefSig} {κ : Kind} {sp : Space} {d0 d1 : ℕ} {e : EltTy} {Val : EltTy → Type} [∀ e, Nonempty (Val e)]
    (inb : ∀ a, (![0, 0] : Fin 2 → ℕ) a + (![d0, d1] : Fin 2 → ℕ) a ≤ (![d0, d1] : Fin 2 → ℕ) a)
    (v : View sig' κ sp (⟨2, ![d0, d1]⟩ : Shape) e) (w : (⟨2, ![d0, d1]⟩ : Shape).Idx → Val e) (r : Rect (⟨2, ![d0, d1]⟩ : Shape)) :
    v.readCov [⟨Rect.unit (s := ⟨2, ![d0, d1]⟩) ![0, 0] ![d0, d1] inb, w⟩] r.toLoadRect = View.ld w r := by
  rw [View.readCov_eq_canon']; funext j
  rw [View.canon_cons, overlay_full]

theorem off1_eq (i : grid0.Coords) : k0_off1 i = k0_off3 i := rfl

/-! ## The body, run once -/

set_option maxHeartbeats 1000000 in
theorem body_run (c : Dev nD) (i : grid0.Coords) (a3 : Memref sig .tc .vmem S128x1024 .f32) (h3 : a3.IsWhole) (a4 : Memref sig .tc .vmem S128x128 .bf16) (h4 : a4.IsWhole) (a5 : Memref sig .tc .vmem S128x128 .bf16) (h5 : a5.IsWhole) (a6 : Memref sig .tc .vmem S128x128 .f32) (h6 : a6.IsWhole) (a7 : Memref sig .tc .vmem S128x1024 .f32) (h7 : a7.IsWhole) (a8 : Memref sig .tc .vmem S1x1024 .f32) (h8 : a8.IsWhole) (a9 : Memref sig .tc .vmem S1x128 .f32) (h9 : a9.IsWhole) (a10 : Memref sig .tc .vmem S1x128 .f32) (h10 : a10.IsWhole) (a11 : Memref sig .tc .vmem S1x1024 .f32) (h11 : a11.IsWhole) (a12 : Memref sig .tc .vmem S128x1024 .bf16) (h12 : a12.IsWhole) (a13 : Memref sig .tc .vmem S128x1024 .bf16) (h13 : a13.IsWhole) (a14 : Memref sig .tc .vmem S1x128x64x128 .f32) (h14 : a14.IsWhole) (a15 : Memref sig .tc .vmem S8x128x1024 .f32) (h15 : a15.IsWhole) (a16 : Memref sig .tc .vmem S128x128 .f32) (h16 : a16.IsWhole) (a17 : Memref sig .tc .vmem S128x128 .f32) (h17 : a17.IsWhole) (a18 : Memref sig .tc .vmem S128x128 .f32) (h18 : a18.IsWhole) (X3 : Vec F S128x1024 .f32) (X4 : Vec F S128x128 .bf16) (X5 : Vec F S128x128 .bf16) (X6 : Vec F S128x128 .f32) (X7 : Vec F S128x1024 .f32) (X8 : Vec F S1x1024 .f32) (X9 : Vec F S1x128 .f32) (X10 : Vec F S1x128 .f32) (X11 : Vec F S1x1024 .f32) (X12 : Vec F S128x1024 .bf16) (X13 : Vec F S128x1024 .bf16) (X14 : Vec F S1x128x64x128 .f32) (X15 : Vec F S8x128x1024 .f32) (X16 : Vec F S128x128 .f32) (X17 : Vec F S128x128 .f32) (X18 : Vec F S128x128 .f32) (K : PUnit → sProp 𝕄) :
    iprop(owns (c : Thread nD τ) a3 fullShare X3
      ∗ owns (c : Thread nD τ) a4 fullShare X4
      ∗ owns (c : Thread nD τ) a5 fullShare X5
      ∗ owns (c : Thread nD τ) a6 fullShare X6
      ∗ owns (c : Thread nD τ) a7 fullShare X7
      ∗ owns (c : Thread nD τ) a8 fullShare X8
      ∗ owns (c : Thread nD τ) a9 fullShare X9
      ∗ owns (c : Thread nD τ) a10 fullShare X10
      ∗ owns (c : Thread nD τ) a11 fullShare X11
      ∗ owns (c : Thread nD τ) a12 fullShare X12
      ∗ owns (c : Thread nD τ) a13 fullShare X13
      ∗ owns (c : Thread nD τ) a14 fullShare X14
      ∗ owns (c : Thread nD τ) a15 fullShare X15
      ∗ owns (c : Thread nD τ) a16 fullShare X16
      ∗ owns (c : Thread nD τ) a17 fullShare X17
      ∗ owns (c : Thread nD τ) a18 fullShare X18
      ∗ (iprop(owns (c : Thread nD τ) a3 fullShare X3
      ∗ owns (c : Thread nD τ) a4 fullShare X4
      ∗ owns (c : Thread nD τ) a5 fullShare X5
      ∗ owns (c : Thread nD τ) a6 fullShare X6
      ∗ owns (c : Thread nD τ) a7 fullShare X7
      ∗ owns (c : Thread nD τ) a8 fullShare X8
      ∗ owns (c : Thread nD τ) a9 fullShare X9
      ∗ owns (c : Thread nD τ) a10 fullShare X10
      ∗ owns (c : Thread nD τ) a11 fullShare X11
      ∗ owns (c : Thread nD τ) a12 fullShare X12
      ∗ owns (c : Thread nD τ) a13 fullShare (ynV i X3 X4 X5 X7 X8 X11 X12 (dthN i X6 X9 X17) (achN i X6 X9 X10 X18) (actN i X6 X9 X10 X16) (slabN i X15))
      ∗ owns (c : Thread nD τ) a14 fullShare (finN i (hfV X3 X4 X12 (dthN i X6 X9 X17) (achN i X6 X9 X10 X18) (slabN i X15)) X14)
      ∗ owns (c : Thread nD τ) a15 fullShare ((slabR i).overlay X15 (stV X3 X4 X12 (dthN i X6 X9 X17) (achN i X6 X9 X10 X18) (slabN i X15)))
      ∗ owns (c : Thread nD τ) a16 fullShare (actN i X6 X9 X10 X16)
      ∗ owns (c : Thread nD τ) a17 fullShare (dthN i X6 X9 X17)
      ∗ owns (c : Thread nD τ) a18 fullShare (achN i X6 X9 X10 X18)) -∗ K ⟨⟩))
      ⊢ wp frame (wpE (defs₀ (F := F)) Variants.none c none) Set.univ
          (cc0_ssd_prompt i a3 h3 a4 h4 a5 h5 a6 h6 a7 h7 a8 h8 a9 h9 a10 h10 a11 h11 a12 h12 a13 h13 a14 h14 a15 h15 a16 h16 a17 h17 a18 h18) K := by
  simp only [cc0_ssd_prompt_eq_skeleton]; unfold cc0_ssd_prompt_skel
  unfold owns
  iintro ⟨⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩, HK⟩
  subst e3 e4 e5 e6 e7 e8 e9 e10 e11 e12 e13 e14 e15 e16 e17 e18
  by_cases c1 : condG i <;> by_cases c2 : k0_cond2 i = 1#1 <;> by_cases c3 : k0_cond3 i = 1#1
  all_goals
    have c1' := c1
    unfold condG at c1'
    sl_exec
    sl_step
    iapply HK
    isplitl [H3]
    · iexists _; isplitr; swap; · iexact H3
      ipureintro
      rfl
    isplitl [H4]
    · iexists _; isplitr; swap; · iexact H4
      ipureintro
      rfl
    isplitl [H5]
    · iexists _; isplitr; swap; · iexact H5
      ipureintro
      rfl
    isplitl [H6]
    · iexists _; isplitr; swap; · iexact H6
      ipureintro
      rfl
    isplitl [H7]
    · iexists _; isplitr; swap; · iexact H7
      ipureintro
      rfl
    isplitl [H8]
    · iexists _; isplitr; swap; · iexact H8
      ipureintro
      rfl
    isplitl [H9]
    · iexists _; isplitr; swap; · iexact H9
      ipureintro
      rfl
    isplitl [H10]
    · iexists _; isplitr; swap; · iexact H10
      ipureintro
      rfl
    isplitl [H11]
    · iexists _; isplitr; swap; · iexact H11
      ipureintro
      rfl
    isplitl [H12]
    · iexists _; isplitr; swap; · iexact H12
      ipureintro
      rfl
    isplitl [H13]
    · iexists _; isplitr; swap; · iexact H13
      ipureintro
      (try sl_unfold_run_names); (try dsimp only [off1_eq]); (try simp only [read_writes_one, overlay_full, overlay_overlay, View.readAt_eq_ld, readCov_full_piece, View.readCov_cons_toLoadRect, ld_full, ynV, yV, stV, hfV, dthN, achN, actN, slabN, finN, rowT, c1, c2, c3, if_true, if_false, dite_true, dite_false, View.writes_nil]); (try with_reducible rfl); (try simp only [dthV, achV, actV]); (try rfl)
    isplitl [H14]
    · iexists _; isplitr; swap; · iexact H14
      ipureintro
      (try sl_unfold_run_names); (try dsimp only [off1_eq]); (try simp only [read_writes_one, overlay_full, overlay_overlay, View.readAt_eq_ld, readCov_full_piece, View.readCov_cons_toLoadRect, ld_full, ynV, yV, stV, hfV, dthN, achN, actN, slabN, finN, rowT, c1, c2, c3, if_true, if_false, dite_true, dite_false, View.writes_nil]); (try with_reducible rfl); (try simp only [dthV, achV, actV]); (try rfl)
    isplitl [H15]
    · iexists _; isplitr; swap; · iexact H15
      ipureintro
      (try sl_unfold_run_names); (try dsimp only [off1_eq]); (try simp only [read_writes_one, overlay_full, overlay_overlay, View.readAt_eq_ld, readCov_full_piece, View.readCov_cons_toLoadRect, ld_full, ynV, yV, stV, hfV, dthN, achN, actN, slabN, finN, rowT, c1, c2, c3, if_true, if_false, dite_true, dite_false, View.writes_nil]); (try with_reducible rfl); (try simp only [dthV, achV, actV]); (try rfl)
    isplitl [H16]
    · iexists _; isplitr; swap; · iexact H16
      ipureintro
      (try sl_unfold_run_names); (try dsimp only [off1_eq]); (try simp only [read_writes_one, overlay_full, overlay_overlay, View.readAt_eq_ld, readCov_full_piece, View.readCov_cons_toLoadRect, ld_full, ynV, yV, stV, hfV, dthN, achN, actN, slabN, finN, rowT, c1, c2, c3, if_true, if_false, dite_true, dite_false, View.writes_nil]); (try with_reducible rfl); (try simp only [dthV, achV, actV]); (try rfl)
    isplitl [H17]
    · iexists _; isplitr; swap; · iexact H17
      ipureintro
      (try sl_unfold_run_names); (try dsimp only [off1_eq]); (try simp only [read_writes_one, overlay_full, overlay_overlay, View.readAt_eq_ld, readCov_full_piece, View.readCov_cons_toLoadRect, ld_full, ynV, yV, stV, hfV, dthN, achN, actN, slabN, finN, rowT, c1, c2, c3, if_true, if_false, dite_true, dite_false, View.writes_nil]); (try with_reducible rfl); (try simp only [dthV, achV, actV]); (try rfl)
    · iexists _; isplitr; swap; · iexact H18
      ipureintro
      (try sl_unfold_run_names); (try dsimp only [off1_eq]); (try simp only [read_writes_one, overlay_full, overlay_overlay, View.readAt_eq_ld, readCov_full_piece, View.readCov_cons_toLoadRect, ld_full, ynV, yV, stV, hfV, dthN, achN, actN, slabN, finN, rowT, c1, c2, c3, if_true, if_false, dite_true, dite_false, View.writes_nil]); (try with_reducible rfl); (try simp only [dthV, achV, actV]); (try rfl)

end Cert.KernelIdeal.Scan

end
-- ==== Proof.Run.lean ====
module

public import proofs.«01_k».proof.Proof.Gen.KernelIdeal.Frame
public import proofs.«01_k».proof.Proof.Gen.KernelIdeal.Skeleton
public import Idealize.ShloMosaic.Lib.Pipeline.Frame
public import Idealize.ShloMosaic.Lib.Tactic
public import Idealize.ShloMosaic.Lib.Pipeline.ArrRel
public import Idealize.ShloMosaic.Lib.Pipeline.ValueKit
public import Idealize.ShloMosaic.Lib.Pipeline.DatRel
public import proofs.«01_k».proof.Proof.Gen.KernelIdeal.Points
public import proofs.«01_k».proof.Proof.Body

@[expose] public section

set_option maxRecDepth 16384

noncomputable section

namespace Cert.KernelIdeal.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Facts of the grid's points -/

theorem co0 : ∀ t : Fin cfg0.N, (grid0.coords t 0).val = t.val / 128 :=
  (by decide +kernel : ∀ t : Fin grid0.N, (grid0.coords t 0).val = t.val / 128)
theorem co1 : ∀ t : Fin cfg0.N, (grid0.coords t 1).val = t.val / 8 % 16 :=
  (by decide +kernel : ∀ t : Fin grid0.N, (grid0.coords t 1).val = t.val / 8 % 16)
theorem co2 : ∀ t : Fin cfg0.N, (grid0.coords t 2).val = t.val % 8 :=
  (by decide +kernel : ∀ t : Fin grid0.N, (grid0.coords t 2).val = t.val % 8)
theorem condG_iff : ∀ t : Fin cfg0.N, condG (grid0.coords t) ↔ t.val % 8 = 0 :=
  (by decide +kernel : ∀ t : Fin grid0.N, condG (grid0.coords t) ↔ t.val % 8 = 0)
theorem cond2_iff : ∀ t : Fin cfg0.N, k0_cond2 (grid0.coords t) = 1#1 ↔ t.val / 8 % 16 = 0 :=
  (by decide +kernel : ∀ t : Fin grid0.N, k0_cond2 (grid0.coords t) = 1#1 ↔ t.val / 8 % 16 = 0)
theorem cond3_iff : ∀ t : Fin cfg0.N, k0_cond3 (grid0.coords t) = 1#1 ↔ t.val / 8 % 16 = 15 :=
  (by decide +kernel : ∀ t : Fin grid0.N, k0_cond3 (grid0.coords t) = 1#1 ↔ t.val / 8 % 16 = 15)
theorem off3_eq : ∀ t : Fin cfg0.N, k0_off3 (grid0.coords t) = ![t.val % 8, 0, 0] :=
  (by decide +kernel : ∀ t : Fin grid0.N, k0_off3 (grid0.coords t) = ![t.val % 8, 0, 0])
theorem off4_eq : ∀ t : Fin cfg0.N, k0_off4 (grid0.coords t) = ![0, 16 * (t.val % 8), 0, 0] :=
  (by decide +kernel : ∀ t : Fin grid0.N, k0_off4 (grid0.coords t) = ![0, 16 * (t.val % 8), 0, 0])
theorem fetch11 : ∀ t : Fin cfg0.N, (cfg0.win 11).fetch t = false :=
  (by decide +kernel : ∀ t : Fin grid0.N, win0_11.fetch t = false)

/-! ## The blocks the points read -/

abbrev blk0 (c : Dev nD) (t : Fin cfg0.N) : Vec F S128x1024 .f32 := iblk m c 0 t
abbrev blk1 (c : Dev nD) (t : Fin cfg0.N) : Vec F S128x128 .bf16 := iblk m c 1 t
abbrev blk2 (c : Dev nD) (t : Fin cfg0.N) : Vec F S128x128 .bf16 := iblk m c 2 t
abbrev blk3 (c : Dev nD) (t : Fin cfg0.N) : Vec F S128x128 .f32 := iblk m c 3 t
abbrev blk4 (c : Dev nD) (t : Fin cfg0.N) : Vec F S128x1024 .f32 := iblk m c 4 t
abbrev blk5 (c : Dev nD) (t : Fin cfg0.N) : Vec F S1x1024 .f32 := iblk m c 5 t
abbrev blk6 (c : Dev nD) (t : Fin cfg0.N) : Vec F S1x128 .f32 := iblk m c 6 t
abbrev blk7 (c : Dev nD) (t : Fin cfg0.N) : Vec F S1x128 .f32 := iblk m c 7 t
abbrev blk8 (c : Dev nD) (t : Fin cfg0.N) : Vec F S1x1024 .f32 := iblk m c 8 t
abbrev blk9 (c : Dev nD) (t : Fin cfg0.N) : Vec F S128x1024 .bf16 := iblk m c 9 t

/-- The grid point of a batch, a chunk and a group. -/
def pt (b c g : ℕ) : Fin cfg0.N := if h : 128 * b + 8 * c + g < 512 then ⟨128 * b + 8 * c + g, h⟩ else ⟨0, by decide⟩

theorem pt_self (t : Fin cfg0.N) : pt (t.val / 128) (t.val / 8 % 16) (t.val % 8) = t := by
  have h : t.val < 512 := t.isLt
  unfold pt; rw [dif_pos (by omega)]; exact Fin.ext (by show 128 * (t.val / 128) + 8 * (t.val / 8 % 16) + t.val % 8 = t.val; omega)

/-- Step sizes, running sums, and transposed running sums at a point. -/
def dthP (c : Dev nD) (t : Fin cfg0.N) : Vec F S128x128 .f32 := dthV (blk3 m c t) (blk6 m c t)
def achP (c : Dev nD) (t : Fin cfg0.N) : Vec F S128x128 .f32 := achV (blk3 m c t) (blk6 m c t) (blk7 m c t)
def actP (c : Dev nD) (t : Fin cfg0.N) : Vec F S128x128 .f32 := actV (blk3 m c t) (blk6 m c t) (blk7 m c t)

/-- A group's state after a chunk, from its state before it. -/
def stStep (c : Dev nD) (t : Fin cfg0.N) (S : Vec F S1x128x1024 .f32) : Vec F S1x128x1024 .f32 :=
  stV (blk0 m c t) (blk1 m c t) (blk9 m c t) (dthP m c t) (achP m c t) S

/-- A group's state before chunk `k` of a batch: zero, then chunk by chunk. -/
def sIn (c : Dev nD) (b g : ℕ) : ℕ → Vec F S1x128x1024 .f32
  | 0 => k0_pay12 (F := F)
  | k + 1 => stStep m c (pt b k g) (sIn c b g k)

/-- The state the body reads at a point. -/
def sAt (c : Dev nD) (t : Fin cfg0.N) : Vec F S1x128x1024 .f32 := sIn m c (t.val / 128) (t.val % 8) (t.val / 8 % 16)

theorem sIn_next (c : Dev nD) (t : Fin cfg0.N) :
    sIn m c (t.val / 128) (t.val % 8) (t.val / 8 % 16 + 1) = stStep m c t (sAt m c t) := by
  show stStep m c (pt _ _ _) _ = _
  rw [pt_self]; rfl

/-- What the body leaves in the two outputs at a point: its block of the first, and its group's heads of the second. -/
def ynP (c : Dev nD) (t : Fin cfg0.N) : Vec F S128x1024 .bf16 :=
  ynV (grid0.coords t) (blk0 m c t) (blk1 m c t) (blk2 m c t) (blk4 m c t) (blk5 m c t) (blk8 m c t) (blk9 m c t)
    (dthP m c t) (achP m c t) (actP m c t) (sAt m c t)
def hfP (c : Dev nD) (t : Fin cfg0.N) : Vec F S1x16x64x128 .f32 :=
  hfV (blk0 m c t) (blk1 m c t) (blk9 m c t) (dthP m c t) (achP m c t) (sAt m c t)

/-! ## The blocks that stay within a chunk -/

theorem idx0 : ∀ t : Fin cfg0.N, (cfg0.win 0).index t = ![t.val / 8, t.val % 8] :=
  (by decide +kernel : ∀ t : Fin grid0.N, win0_0.index t = ![t.val / 8, t.val % 8])
theorem idx1 : ∀ t : Fin cfg0.N, (cfg0.win 1).index t = ![t.val / 8, t.val % 8] :=
  (by decide +kernel : ∀ t : Fin grid0.N, win0_1.index t = ![t.val / 8, t.val % 8])
theorem idx2 : ∀ t : Fin cfg0.N, (cfg0.win 2).index t = ![t.val / 8, 8 + t.val % 8] :=
  (by decide +kernel : ∀ t : Fin grid0.N, win0_2.index t = ![t.val / 8, 8 + t.val % 8])
theorem idx3 : ∀ t : Fin cfg0.N, (cfg0.win 3).index t = ![t.val / 8, 0] :=
  (by decide +kernel : ∀ t : Fin grid0.N, win0_3.index t = ![t.val / 8, 0])
theorem idx4 : ∀ t : Fin cfg0.N, (cfg0.win 4).index t = ![t.val / 8, t.val % 8] :=
  (by decide +kernel : ∀ t : Fin grid0.N, win0_4.index t = ![t.val / 8, t.val % 8])
theorem idx5 : ∀ t : Fin cfg0.N, (cfg0.win 5).index t = ![0, t.val % 8] :=
  (by decide +kernel : ∀ t : Fin grid0.N, win0_5.index t = ![0, t.val % 8])
theorem idx6 : ∀ t : Fin cfg0.N, (cfg0.win 6).index t = ![0, 0] :=
  (by decide +kernel : ∀ t : Fin grid0.N, win0_6.index t = ![0, 0])
theorem idx7 : ∀ t : Fin cfg0.N, (cfg0.win 7).index t = ![0, 0] :=
  (by decide +kernel : ∀ t : Fin grid0.N, win0_7.index t = ![0, 0])
theorem idx8 : ∀ t : Fin cfg0.N, (cfg0.win 8).index t = ![0, t.val % 8] :=
  (by decide +kernel : ∀ t : Fin grid0.N, win0_8.index t = ![0, t.val % 8])
theorem idx9 : ∀ t : Fin cfg0.N, (cfg0.win 9).index t = ![0, t.val % 8] :=
  (by decide +kernel : ∀ t : Fin grid0.N, win0_9.index t = ![0, t.val % 8])

theorem blk3_congr (c : Dev nD) (t u : Fin cfg0.N) (h : t.val / 8 = u.val / 8) : blk3 m c t = blk3 m c u := by
  funext j; obtain ⟨a, b, rfl⟩ : ∃ a b, j = ix2 a b := ⟨_, _, eq_ix2 (n0 := 128) (n1 := 128) j⟩
  show V m c main_arg2 _ = V m c main_arg2 _
  blk_ext [iblk, idx3 t, idx3 u, h]

theorem blk6_congr (c : Dev nD) (t u : Fin cfg0.N) : blk6 m c t = blk6 m c u := by
  funext j; obtain ⟨a, b, rfl⟩ : ∃ a b, j = ix2 a b := ⟨_, _, eq_ix2 (n0 := 1) (n1 := 128) j⟩
  show V m c main_v12 _ = V m c main_v12 _
  blk_ext [iblk, idx6 t, idx6 u]

theorem blk7_congr (c : Dev nD) (t u : Fin cfg0.N) : blk7 m c t = blk7 m c u := by
  funext j; obtain ⟨a, b, rfl⟩ : ∃ a b, j = ix2 a b := ⟨_, _, eq_ix2 (n0 := 1) (n1 := 128) j⟩
  show V m c main_v13 _ = V m c main_v13 _
  blk_ext [iblk, idx7 t, idx7 u]

/-! ## The state buffer's slabs and the heads of the final state -/

theorem ld_unit_congr {s : Shape} {e : EltTy} {Val : EltTy → Type} (X : s.Idx → Val e) (sz : Fin s.rank → ℕ) {o o' : Fin s.rank → ℕ}
    (h : o = o') (hi : ∀ a, o a + sz a ≤ s.size a) (hi' : ∀ a, o' a + sz a ≤ s.size a) :
    View.ld (Val := Val) X (Rect.unit (s := s) o sz hi) = View.ld X (Rect.unit (s := s) o' sz hi') := by
  subst h; rfl

theorem ld_overlay_self {s : Shape} {e : EltTy} {Val : EltTy → Type} (X : s.Idx → Val e) (r : Rect s) (w : r.shape.Idx → Val e) :
    View.ld (Val := Val) (r.overlay X w) r = w := by
  funext x; exact r.overlay_emb X w x

theorem ld_overlay_other {s : Shape} {e : EltTy} {Val : EltTy → Type} (X : s.Idx → Val e) (r r' : Rect s) (w : r.shape.Idx → Val e)
    (h : ∀ x : r'.shape.Idx, r'.emb x ∉ r.set) : View.ld (Val := Val) (r.overlay X w) r' = View.ld X r' := by
  funext x; exact r.overlay_of_not_mem X w (h x)

theorem slab_apart (t u : Fin cfg0.N) (h : t.val % 8 ≠ u.val % 8) (x : (slabR (grid0.coords u)).shape.Idx) :
    (slabR (grid0.coords u)).emb x ∉ (slabR (grid0.coords t)).set := fun hx => by
  have hm := (Rect.mem_set_unit.mp hx) 0
  rw [off3_eq t] at hm
  have e : ((slabR (grid0.coords u)).emb x 0 : ℕ) = u.val % 8 + 1 * (x 0).val := by
    rw [Rect.emb_apply]; show k0_off3 (grid0.coords u) 0 + _ = _; rw [off3_eq u]; rfl
  have hx0 : (x 0).val < 1 := (x 0).isLt
  have h1 : t.val % 8 ≤ ((slabR (grid0.coords u)).emb x 0 : ℕ) := hm.1
  have h2 : ((slabR (grid0.coords u)).emb x 0 : ℕ) < t.val % 8 + 1 := hm.2
  omega

/-- The heads of the final state that a point of the last chunk writes. -/
abbrev headR (u : Fin cfg0.N) (h : k0_cond3 (grid0.coords u) = 1#1) : Rect S1x128x64x128 :=
  Rect.unit (s := S1x128x64x128) (k0_off4 (grid0.coords u)) S1x16x64x128.size (k0_off4_inb (grid0.coords u) h)

theorem head_apart (t u : Fin cfg0.N) (ht : k0_cond3 (grid0.coords t) = 1#1) (hu : k0_cond3 (grid0.coords u) = 1#1)
    (h : t.val % 8 ≠ u.val % 8) (x : (headR u hu).shape.Idx) : (headR u hu).emb x ∉ (headR t ht).set := fun hx => by
  have hm := (Rect.mem_set_unit.mp hx) 1
  rw [off4_eq t] at hm
  have e : ((headR u hu).emb x 1 : ℕ) = 16 * (u.val % 8) + 1 * (x 1).val := by
    rw [Rect.emb_apply]; show k0_off4 (grid0.coords u) 1 + _ = _; rw [off4_eq u]; rfl
  have hx0 : (x 1).val < 16 := (x 1).isLt
  have h1 : 16 * (t.val % 8) ≤ ((headR u hu).emb x 1 : ℕ) := hm.1
  have h2 : ((headR u hu).emb x 1 : ℕ) < 16 * (t.val % 8) + 16 := hm.2
  omega

/-! ## What the scratch buffers hold between points -/

/-- Before point `n`: the three tables of the chunk under way, and of each group the state after its last point. -/
def Inv (c : Dev nD) (n : ℕ) (S : Vec F S8x128x1024 .f32) (T D A : Vec F S128x128 .f32) : Prop :=
  (n % 8 ≠ 0 → ∀ u : Fin cfg0.N, u.val + 1 = n → D = dthP m c u ∧ A = achP m c u ∧ T = actP m c u)
    ∧ ∀ u : Fin cfg0.N, u.val < n → n ≤ u.val + 8 → View.ld (Val := Elt F) S (slabR (grid0.coords u)) = stStep m c u (sAt m c u)

/-- The final-state block after point `t`: the heads of every point of the last chunk so far. -/
def FinAt (c : Dev nD) (t : Fin cfg0.N) (X : Vec F S1x128x64x128 .f32) : Prop :=
  ∀ u : Fin cfg0.N, u.val ≤ t.val → u.val / 128 = t.val / 128 → ∀ h : k0_cond3 (grid0.coords u) = 1#1,
    View.ld (Val := Elt F) X (headR u h) = hfP m c u

theorem tables_keep (c : Dev nD) (t u : Fin cfg0.N) (h : t.val / 8 = u.val / 8) :
    dthP m c t = dthP m c u ∧ achP m c t = achP m c u ∧ actP m c t = actP m c u := by
  have e3 := blk3_congr m c t u h
  have e6 := blk6_congr m c t u
  have e7 := blk7_congr m c t u
  unfold dthP achP actP
  rw [e3, e6, e7]; exact ⟨rfl, rfl, rfl⟩

section Step
variable {c : Dev nD} {t : Fin cfg0.N} {S : Vec F S8x128x1024 .f32} {T D A : Vec F S128x128 .f32} (hI : Inv m c t.val S T D A)
include hI

theorem tables_at : dthN (grid0.coords t) (blk3 m c t) (blk6 m c t) D = dthP m c t
    ∧ achN (grid0.coords t) (blk3 m c t) (blk6 m c t) (blk7 m c t) A = achP m c t
    ∧ actN (grid0.coords t) (blk3 m c t) (blk6 m c t) (blk7 m c t) T = actP m c t := by
  unfold dthN achN actN
  by_cases h : condG (grid0.coords t)
  · simp only [if_pos h]; exact ⟨rfl, rfl, rfl⟩
  · simp only [if_neg h]
    have h8 : t.val % 8 ≠ 0 := fun e => h ((condG_iff t).mpr e)
    have hlt : t.val < 512 := t.isLt
    have hp : t.val - 1 < cfg0.N := by show t.val - 1 < 512; omega
    have hd := hI.1 h8 ⟨t.val - 1, hp⟩ (by show t.val - 1 + 1 = t.val; omega)
    have hk := tables_keep m c t ⟨t.val - 1, hp⟩ (by show t.val / 8 = (t.val - 1) / 8; omega)
    exact ⟨hd.1.trans hk.1.symm, hd.2.1.trans hk.2.1.symm, hd.2.2.trans hk.2.2.symm⟩

theorem state_at : slabN (grid0.coords t) S = sAt m c t := by
  have hlt : t.val < 512 := t.isLt
  unfold slabN
  by_cases h : k0_cond2 (grid0.coords t) = 1#1
  · rw [if_pos h]
    have hz := (cond2_iff t).mp h
    unfold sAt; rw [hz]; rfl
  · rw [if_neg h]
    have hz : t.val / 8 % 16 ≠ 0 := fun e => h ((cond2_iff t).mpr e)
    have hp : t.val - 8 < cfg0.N := by show t.val - 8 < 512; omega
    have hs := hI.2 ⟨t.val - 8, hp⟩ (by show t.val - 8 < t.val; omega) (by show t.val ≤ t.val - 8 + 8; omega)
    have ho : k0_off3 (grid0.coords t) = k0_off3 (grid0.coords ⟨t.val - 8, hp⟩) := by
      rw [off3_eq, off3_eq]; show ![t.val % 8, 0, 0] = ![(t.val - 8) % 8, 0, 0]
      rw [show (t.val - 8) % 8 = t.val % 8 by omega]
    refine (ld_unit_congr (Val := Elt F) S S1x128x1024.size ho _ _).trans (hs.trans ?_)
    rw [← sIn_next]; unfold sAt
    show sIn m c ((t.val - 8) / 128) ((t.val - 8) % 8) ((t.val - 8) / 8 % 16 + 1) = _
    rw [show (t.val - 8) / 128 = t.val / 128 by omega, show (t.val - 8) % 8 = t.val % 8 by omega,
      show (t.val - 8) / 8 % 16 + 1 = t.val / 8 % 16 by omega]

theorem inv_next : Inv m c (t.val + 1) ((slabR (grid0.coords t)).overlay S (stStep m c t (sAt m c t))) (actP m c t) (dthP m c t) (achP m c t) := by
  refine ⟨fun _ u hu => ?_, fun u hu hu' => ?_⟩
  · obtain rfl : u = t := Fin.ext (by omega)
    exact ⟨rfl, rfl, rfl⟩
  · by_cases he : u = t
    · subst he; exact ld_overlay_self (Val := Elt F) S _ _
    · have hne : u.val ≠ t.val := fun e => he (Fin.ext e)
      rw [ld_overlay_other (Val := Elt F) S _ _ _ (slab_apart t u (by omega))]
      exact hI.2 u (by omega) (by omega)

end Step

/-! ## The proof data -/

/-- The scratch buffers at contents the invariant describes, and the generator register. -/
def PhiAt (c : Dev nD) (n : ℕ) : sProp 𝕄 :=
  iprop(∃ S T D A, ⌜Inv m c n S T D A⌝ ∗ owns (c : Thread nD τ) (Memref.whole cc0_scratch0) fullShare S
    ∗ owns (c : Thread nD τ) (Memref.whole cc0_scratch1) fullShare T ∗ owns (c : Thread nD τ) (Memref.whole cc0_scratch2) fullShare D
    ∗ owns (c : Thread nD τ) (Memref.whole cc0_scratch3) fullShare A ∗ ∃ r, prngReg c r)

def fgt0 : Fin cfg0.W → Bool := fun | 0 => false | 1 => false | 2 => false | 3 => false | 4 => false | 5 => false | 6 => false | 7 => false | 8 => false | 9 => false | 10 => true | 11 => true | ⟨_ + 12, h⟩ => absurd h (Nat.not_lt.2 (Nat.le_add_left _ _))

def Rl0 (c : Dev nD) : (w : Fin cfg0.W) → Fin cfg0.N → ((cfg0.win w).block.Idx → Elt F (cfg0.win w).elt) → Prop :=
  fun | 0 => fun _ _ => True | 1 => fun _ _ => True | 2 => fun _ _ => True | 3 => fun _ _ => True | 4 => fun _ _ => True | 5 => fun _ _ => True | 6 => fun _ _ => True | 7 => fun _ _ => True | 8 => fun _ _ => True | 9 => fun _ _ => True | 10 => fun t X => X = ynP m c t | 11 => fun t X => FinAt m c t X | ⟨_ + 12, h⟩ => absurd h (Nat.not_lt.2 (Nat.le_add_left _ _))

def dats (_ : Fin 1) (c : Dev nD) : Dat τ (Elt F) Unit ℕ (UR sig nD τ) ℕ cfg0 c where
  A w := V m c (Pipeline.arrRef spec0 w)
  after := fun | 0 => iblk m c 0 | 1 => iblk m c 1 | 2 => iblk m c 2 | 3 => iblk m c 3 | 4 => iblk m c 4 | 5 => iblk m c 5 | 6 => iblk m c 6 | 7 => iblk m c 7 | 8 => iblk m c 8 | 9 => iblk m c 9 | 10 => Pipeline.Dat.unnamed (cfg := cfg0) 10 | 11 => Pipeline.Dat.unnamed (cfg := cfg0) 11 | ⟨_ + 12, h⟩ => absurd h (Nat.not_lt.2 (Nat.le_add_left _ _))
  Φ n := PhiAt m c n.val
  q w := Pipeline.shareOf spec0 w
  owed _ := 0

theorem A_eq (c : Dev nD) (w : Fin cfg0.W) : (dats m 0 c).A w = V m c (Pipeline.arrRef spec0 w) := by dsimp only [dats]

abbrev rdat0 (c : Dev nD) : Pipeline.RDat τ (Elt F) Unit ℕ (UR sig nD τ) ℕ cfg0 c := (dats m 0 c).toRRel fgt0 (Rl0 m c)

theorem before_0 (c : Dev nD) (t : Fin cfg0.N) (d) : (dats m 0 c).before 0 t d = iblk m c 0 t :=
  before0_0_of m (dats m 0 c) rfl (fun _ => rfl) t d
theorem before_1 (c : Dev nD) (t : Fin cfg0.N) (d) : (dats m 0 c).before 1 t d = iblk m c 1 t :=
  before0_1_of m (dats m 0 c) rfl (fun _ => rfl) t d
theorem before_2 (c : Dev nD) (t : Fin cfg0.N) (d) : (dats m 0 c).before 2 t d = iblk m c 2 t :=
  before0_2_of m (dats m 0 c) rfl (fun _ => rfl) t d
theorem before_3 (c : Dev nD) (t : Fin cfg0.N) (d) : (dats m 0 c).before 3 t d = iblk m c 3 t :=
  before0_3_of m (dats m 0 c) rfl (fun _ => rfl) t d
theorem before_4 (c : Dev nD) (t : Fin cfg0.N) (d) : (dats m 0 c).before 4 t d = iblk m c 4 t :=
  before0_4_of m (dats m 0 c) rfl (fun _ => rfl) t d
theorem before_5 (c : Dev nD) (t : Fin cfg0.N) (d) : (dats m 0 c).before 5 t d = iblk m c 5 t :=
  before0_5_of m (dats m 0 c) rfl (fun _ => rfl) t d
theorem before_6 (c : Dev nD) (t : Fin cfg0.N) (d) : (dats m 0 c).before 6 t d = iblk m c 6 t :=
  before0_6_of m (dats m 0 c) rfl (fun _ => rfl) t d
theorem before_7 (c : Dev nD) (t : Fin cfg0.N) (d) : (dats m 0 c).before 7 t d = iblk m c 7 t :=
  before0_7_of m (dats m 0 c) rfl (fun _ => rfl) t d
theorem before_8 (c : Dev nD) (t : Fin cfg0.N) (d) : (dats m 0 c).before 8 t d = iblk m c 8 t :=
  before0_8_of m (dats m 0 c) rfl (fun _ => rfl) t d
theorem before_9 (c : Dev nD) (t : Fin cfg0.N) (d) : (dats m 0 c).before 9 t d = iblk m c 9 t :=
  before0_9_of m (dats m 0 c) rfl (fun _ => rfl) t d

/-- What the body finds in the final-state block is what the points of the batch so far left there. -/
theorem fin_found (c : Dev nD) (t : Fin cfg0.N) (Y : Vec F S1x128x64x128 .f32) (hY : (rdat0 m c).Finds 11 t Y) (u : Fin cfg0.N)
    (hu : u.val < t.val) (hb : u.val / 128 = t.val / 128) (h : k0_cond3 (grid0.coords u) = 1#1) :
    View.ld (Val := Elt F) Y (headR u h) = hfP m c u := by
  have hlt : t.val < 512 := t.isLt
  rcases ((rdat0 m c).finds_of_pos (fetch11 t) (by omega) Y).mp hY with hf | hl
  · have := (flush0_11 _).mp hf
    change (t.val - 1) % 128 = 127 at this
    omega
  · have hR : FinAt m c _ Y := (dats m 0 c).toRRel_leaves (fgt := fgt0) (Rl := Rl0 m c) (w := 11) rfl hl
    exact hR u (by show u.val ≤ t.val - 1; omega) (by show u.val / 128 = (t.val - 1) / 128; omega) h

theorem fin_next (c : Dev nD) (t : Fin cfg0.N) (Y : Vec F S1x128x64x128 .f32) (hY : (rdat0 m c).Finds 11 t Y) :
    FinAt m c t (finN (grid0.coords t) (hfP m c t) Y) := fun u hu hb h => by
  have hlt : t.val < 512 := t.isLt
  have hc := (cond3_iff u).mp h
  have ht : k0_cond3 (grid0.coords t) = 1#1 := (cond3_iff t).mpr (by omega)
  unfold finN; rw [dif_pos ht]
  by_cases he : u = t
  · subst he; exact ld_overlay_self (Val := Elt F) Y _ _
  · have hne : u.val ≠ t.val := fun e => he (Fin.ext e)
    exact (ld_overlay_other (Val := Elt F) Y (headR t ht) (headR u h) _ (head_apart t u ht h (by omega))).trans (fin_found m c t Y hY u (by omega) hb h)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ Y, ⌜(rdat0 m c).Finds 10 t Y⌝ ∗ owns (c : Thread nD τ) (st0_10 t) fullShare Y)
    ∗ (∃ Y, ⌜(rdat0 m c).Finds 11 t Y⌝ ∗ owns (c : Thread nD τ) (st0_11 t) fullShare Y))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ (∃ X, ⌜X = ynP m c t⌝ ∗ owns (c : Thread nD τ) (st0_10 t) fullShare X)
    ∗ (∃ X, ⌜FinAt m c t X⌝ ∗ owns (c : Thread nD τ) (st0_11 t) fullShare X))

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.castSucc = PhiAt m c t.val from rfl, show (dats m 0 c).Φ t.succ = PhiAt m c (t.val + 1) from rfl,
    show (dats m 0 c).owesAt () t.succ = (dats m 0 c).owesAt () t.castSucc from rfl]
  unfold PhiAt
  simp only [before_0, before_1, before_2, before_3, before_4, before_5, before_6, before_7, before_8, before_9]
  iintro ⟨⟨%S, %T, %D, %A, %hI, HS, HT, HD, HA, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%Y10, -, H10⟩, ⟨%Y11, %hY, H11⟩⟩
  have hT := tables_at m hI
  have hS := state_at m hI
  iapply (body_run c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) _ (hstage0_11 ((cfg0.slots t 11).cast nbuf0_11)) _ (Memref.isWhole_whole _) _ (Memref.isWhole_whole _) _ (Memref.isWhole_whole _) _ (Memref.isWhole_whole _)
    (blk0 m c t) (blk1 m c t) (blk2 m c t) (blk3 m c t) (blk4 m c t) (blk5 m c t) (blk6 m c t) (blk7 m c t) (blk8 m c t) (blk9 m c t) Y10 Y11 S T D A _)
  rw [hT.1, hT.2.1, hT.2.2, hS]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS]; · iexact HS
  isplitl [HT]; · iexact HT
  isplitl [HD]; · iexact HD
  isplitl [HA]; · iexact HA
  iintro ⟨H0, H1, H2, H3, H4, H5, H6, H7, H8, H9, H10, H11, HS, HT, HD, HA⟩
  isplitl [HS HT HD HA Hg]
  · iexists _, _, _, _; isplitr; swap
    · isplitl [HS]; · iexact HS
      isplitl [HT]; · iexact HT
      isplitl [HD]; · iexact HD
      isplitl [HA]; · iexact HA
      iexact Hg
    · ipureintro; exact inv_next m hI
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · iexists _; isplitr; swap; · iexact H10
    ipureintro; rfl
  · iexists _; isplitr; swap; · iexact H11
    ipureintro; exact fin_next m c t Y11 hY

theorem defs₀_row (t : Fin cfg0.N) : defs₀ (F := F) .tc cfg0.body (cfg0.bodyArgs t (cfg0.slots t)) = bodyAt0 t := by
  unfold defs₀; rw [Defs.onTc_tc]

theorem body_obligation (c : Dev nD) :
    Pipeline.BodyObligationRel (dats (F := F) m 0 c) (defs₀ (F := F)) Variants.none () Set.univ fgt0 (Rl0 m c) := fun t => by
  rw [bigSep_W0, bigSep_W0, defs₀_row]
  exact triple_restated (sound_body m c t) rfl .rfl fun _ => .rfl

/-- Before the first point the scratch buffers hold anything; after the last their contents are forgotten. -/
theorem phi_in (c : Dev nD) : (Pipeline.ΦA (Val := Elt F) (U := UR sig nD τ) spec0 c : sProp 𝕄) ⊢ (rdat0 m c).Φ 0 := by
  show _ ⊢ PhiAt m c 0
  unfold Pipeline.ΦA PhiAt
  rw [scopedRest0_eq]; simp only [owns_whole]
  iintro ⟨⟨⟨%S, HS⟩, ⟨%T, HT⟩, ⟨%D, HD⟩, ⟨%A, HA⟩⟩, Hg⟩
  iexists S, T, D, A; isplitr
  · ipureintro; exact ⟨fun h => absurd rfl h, fun u hu _ => absurd hu (Nat.not_lt_zero _)⟩
  isplitl [HS]; · iexact HS
  isplitl [HT]; · iexact HT
  isplitl [HD]; · iexact HD
  isplitl [HA]; · iexact HA
  iexact Hg

theorem phi_out (c : Dev nD) : (rdat0 m c).Φ (Fin.last cfg0.N) ⊢ (Pipeline.ΦA (Val := Elt F) (U := UR sig nD τ) spec0 c : sProp 𝕄) := by
  show PhiAt m c cfg0.N ⊢ _
  unfold Pipeline.ΦA PhiAt
  rw [scopedRest0_eq]; simp only [owns_whole]
  iintro ⟨%S, %T, %D, %A, -, HS, HT, HD, HA, Hg⟩
  isplitr [Hg]
  · isplitl [HS]; · iexists S; iexact HS
    isplitl [HT]; · iexists T; iexact HT
    isplitl [HD]; · iexists D; iexact HD
    iexists A; iexact HA
  iexact Hg

/-! ## The launch -/

set_option backward.isDefEq.respectTransparency.types false in
/-- Every weakly fair execution of @main terminates, and every final state has the windowed arrays at contents the proof data allow,
    every other unscoped buffer as the region found it, and every semaphore counter at zero. -/
theorem run_main :
    θ_run defs (onTc (τ := τ) (main (F := F))) (s₀ m ρ)
      (fun r => Pipeline.RDat.FramePost (cfgs 0) (fun c => rdat0 m c) (V m) r ∧ r.2.sem = fun _ => 0) :=
  Pipeline.RDat.θ_run_frame_track_shared (Q' := _) cfgs (0 : Fin 1) launch₀0 defs₀ Variants.none (fun c => rdat0 m c) m ρ main
    (hbody := fun c => (body_obligation m c).toRRel) (hq := fun _ _ _ => rfl)
    (howed := fun _ _ => rfl) (V := V m) (hmain := hmain m Variants.none) (hA := A_eq m)
    (hin := fun c => phi_in m c) (hout := fun c => phi_out m c) (hQ' := fun _ h => h)

/-- A final state of the run holds the arguments as launched. -/
theorem final_args {r : PUnit × MemSt nD τ sig (Elt F)}
    (h : Pipeline.RDat.FramePost (cfgs 0) (fun c => rdat0 m c) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7) :=
  ⟨(h.arr_in c 0 rfl).trans ((A_eq m c 0).trans (V_main_arg0 m c)),
   (h.arr_in c 2 rfl).trans ((A_eq m c 2).trans (V_main_arg1 m c)),
   (h.arr_in c 3 rfl).trans ((A_eq m c 3).trans (V_main_arg2 m c)),
   (h.arr_in c 4 rfl).trans ((A_eq m c 4).trans (V_main_arg3 m c)),
   ((h c).2 main_arg4 (Pipeline.mem_restRefs_of main_arg4 (by decide) (by decide))).trans (V_main_arg4 m c),
   ((h c).2 main_arg5 (Pipeline.mem_restRefs_of main_arg5 (by decide) (by decide))).trans (V_main_arg5 m c),
   ((h c).2 main_arg6 (Pipeline.mem_restRefs_of main_arg6 (by decide) (by decide))).trans (V_main_arg6 m c),
   ((h c).2 main_arg7 (Pipeline.mem_restRefs_of main_arg7 (by decide) (by decide))).trans (V_main_arg7 m c)⟩

/-- Every weakly fair execution of @main terminates with the arguments as launched and every semaphore counter at zero. -/
theorem run_frame :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => final_args m h.1 c, h.2⟩) (run_main m ρ)

end Cert.KernelIdeal.Scan

end
-- ==== Proof.Twin.lean ====
module
public import proofs.«01_k».proof.Proof.Gen.Kernel
public import proofs.«01_k».proof.Proof.Gen.KernelIdeal
public import Idealize.ShloMosaic.Init

/-! The kernel and its ideal program have the same text: over any float values they are the same program. -/

@[expose] public section

noncomputable section

namespace Cert.Twin

open Idealize.ShloMosaic Idealize.SL.Sem

variable {F : FTy → Type} [FloatOps F]

set_option maxHeartbeats 4000000 in
/-- The two programs' kernel bodies are the same. -/
theorem bodies_eq : Cert.Kernel.defs₀ (F := F) = Cert.KernelIdeal.defs₀ (F := F) := by
  unfold Cert.Kernel.defs₀ Cert.KernelIdeal.defs₀
  refine congrArg (Defs.onTc (nD := Cert.KernelIdeal.nD) (τ := Cert.KernelIdeal.τ)) ?_
  funext l a
  match l, a with
  | 0, (t, s) => rfl
  | ⟨_ + 1, h⟩, _ => exact absurd h (Nat.not_lt.2 (Nat.le_add_left _ _))

/-- So are their body tables. -/
theorem defs_eq : Cert.Kernel.defs (F := F) = Cert.KernelIdeal.defs (F := F) :=
  congrArg (Pipeline.defs (Cert.KernelIdeal.pcfgs (F := F))) bodies_eq

set_option maxHeartbeats 4000000 in
/-- So is @main. -/
theorem main_eq : Cert.Kernel.main (F := F) = Cert.KernelIdeal.main (F := F) := rfl

/-- What holds of every run of the one holds of every run of the other. -/
theorem run_eq (σ : MemSt Cert.KernelIdeal.nD Cert.KernelIdeal.τ Cert.KernelIdeal.sig (Elt F)) (Q : PUnit × MemSt Cert.KernelIdeal.nD Cert.KernelIdeal.τ Cert.KernelIdeal.sig (Elt F) → Prop)
    (h : θ_run (Cert.KernelIdeal.defs (F := F)) (onTc (τ := Cert.KernelIdeal.τ) (Cert.KernelIdeal.main (F := F))) σ Q) :
    θ_run (Cert.Kernel.defs (F := F)) (onTc (τ := Cert.Kernel.τ) (Cert.Kernel.main (F := F))) σ Q := by
  rw [← defs_eq, ← main_eq] at h
  exact h

end Cert.Twin

end
-- ==== Proof.Spec.lean ====
module

public import Idealize.ShloMosaic.Lib.Pointwise
public import Idealize.ShloMosaic.Lib.WordCmp

@[expose] public section

noncomputable section

namespace Cert.Ssd

open Idealize.ShloMosaic

/-! ## One chunk of one group, as plain functions -/

/-- The head of a group that a lane belongs to. -/
def hd (j : Fin 1024) : Fin 16 := ⟨j.val / 64, by omega⟩

/-- `log (1 + exp x)`, as both programs write it. -/
def sp (x : EReal) : EReal := max x 0 + Ideal.log1p (Ideal.exp (-(max x (-x))))

/-- What a chunk of a group is computed from: 128 rows of the group's 16 heads. -/
structure Chunk where
  x : Fin 128 → Fin 1024 → EReal
  b : Fin 128 → Fin 128 → EReal
  cc : Fin 128 → Fin 128 → EReal
  z : Fin 128 → Fin 1024 → EReal
  dr : Fin 128 → Fin 16 → EReal
  db : Fin 16 → EReal
  al : Fin 16 → EReal
  dsk : Fin 1024 → EReal
  nw : Fin 1024 → EReal

namespace Chunk

variable (k : Chunk) (S : Fin 128 → Fin 1024 → EReal)

/-- Step size of a row and a head. -/
def dt (s : Fin 128) (h : Fin 16) : EReal := sp (k.dr s h + k.db h)

/-- Log-decay of a row and a head. -/
def la (s : Fin 128) (h : Fin 16) : EReal := k.dt s h * -Ideal.exp (k.al h)

/-- Log-decay summed from the chunk's first row. -/
def ac (l : Fin 128) (h : Fin 16) : EReal := ∑ s : Fin 128, if s.val ≤ l.val then k.la s h else 0

/-- A row's input times its step size. -/
def xd (s : Fin 128) (j : Fin 1024) : EReal := k.x s j * k.dt s (hd j)

/-- The group's state after the chunk, from its state before. -/
def next (n : Fin 128) (j : Fin 1024) : EReal :=
  Ideal.exp (k.ac 127 (hd j)) * S n j + ∑ s, k.b s n * (k.xd s j * Ideal.exp (k.ac 127 (hd j) - k.ac s (hd j)))

/-- The rows' outputs before the skip term, the gate and the norm. -/
def y (l : Fin 128) (j : Fin 1024) : EReal :=
  (∑ s, (∑ n, k.cc l n * k.b s n) * (if s.val ≤ l.val then Ideal.exp (k.ac l (hd j) - k.ac s (hd j)) else 0) * k.xd s j)
    + (∑ n, k.cc l n * S n j) * Ideal.exp (k.ac l (hd j))

/-- The rows' outputs before the norm. -/
def v (l : Fin 128) (j : Fin 1024) : EReal :=
  (k.y S l j + k.dsk j * k.x l j) * (k.z l j * Ideal.logistic (k.z l j))

/-- The rows' outputs. -/
def out (l : Fin 128) (j : Fin 1024) : EReal :=
  k.v S l j * Ideal.rsqrt (Ideal.div (∑ x, k.v S l x * k.v S l x) (Ideal.ofBits .f32 1149239296#32) + Ideal.ofBits .f32 897988541#32) * k.nw j

/-- No input of the step sizes is infinite upwards. -/
def Ok : Prop := (∀ s h, k.dr s h < ⊤) ∧ (∀ h, k.db h < ⊤) ∧ ∀ h, k.al h < ⊤

end Chunk

/-- A group's state before chunk `n`, from the chunks of its batch. -/
def states (K : ℕ → Chunk) : ℕ → Fin 128 → Fin 1024 → EReal
  | 0 => fun _ _ => 0
  | n + 1 => (K n).next (states K n)

/-! ## Finite values -/

/-- A value that is a real number. -/
def Fn (x : EReal) : Prop := ∃ r : ℝ, x = (r : EReal)

theorem Fn.zero : Fn 0 := ⟨0, rfl⟩
theorem Fn.mul {x y : EReal} (hx : Fn x) (hy : Fn y) : Fn (x * y) := by
  obtain ⟨a, rfl⟩ := hx; obtain ⟨b, rfl⟩ := hy; exact ⟨a * b, (EReal.coe_mul a b).symm⟩
theorem Fn.add {x y : EReal} (hx : Fn x) (hy : Fn y) : Fn (x + y) := by
  obtain ⟨a, rfl⟩ := hx; obtain ⟨b, rfl⟩ := hy; exact ⟨a + b, (EReal.coe_add a b).symm⟩
theorem Fn.neg {x : EReal} (hx : Fn x) : Fn (-x) := by
  obtain ⟨a, rfl⟩ := hx; exact ⟨-a, (EReal.coe_neg a).symm⟩
theorem Fn.sum {ι : Type} (s : Finset ι) {f : ι → EReal} (h : ∀ i, Fn (f i)) : Fn (∑ i ∈ s, f i) :=
  Finset.sum_induction f Fn (fun _ _ => Fn.add) Fn.zero (fun i _ => h i)
theorem Fn.sub_self {x : EReal} (hx : Fn x) : x - x = 0 := by
  obtain ⟨a, rfl⟩ := hx; rw [← EReal.coe_sub, _root_.sub_self]; rfl

theorem exp_fn {x : EReal} (h : x < ⊤) : Fn (Ideal.exp x) := by
  induction x using EReal.rec with
  | bot => exact ⟨0, Ideal.exp_bot⟩
  | coe r => exact ⟨Real.exp r, Ideal.exp_coe r⟩
  | top => exact absurd h (lt_irrefl _)

theorem sp_fn {x : EReal} (h : x < ⊤) : Fn (sp x) := by
  induction x using EReal.rec with
  | bot =>
    refine ⟨0, ?_⟩
    have h1 : Ideal.log1p (Ideal.exp (-(max (⊥ : EReal) (-⊥)))) = 0 := by
      have e : Ideal.exp (-(max (⊥ : EReal) (-⊥))) = 0 := by simp
      rw [e, Ideal.log1p, add_zero]
      show (if (1 : ℝ) ≤ 0 then ⊥ else ((Real.log 1 : ℝ) : EReal)) = 0
      rw [if_neg (by norm_num), Real.log_one]; rfl
    unfold sp; rw [h1, add_zero]; simp
  | coe r =>
    have hm : max (r : EReal) 0 = ((max r 0 : ℝ) : EReal) := (EReal.coe_strictMono.monotone.map_max (a := r) (b := 0)).symm
    have ha : -(max (r : EReal) (-(r : EReal))) = ((-(max r (-r)) : ℝ) : EReal) := by
      rw [← EReal.coe_neg, EReal.coe_neg (max r (-r)), EReal.coe_strictMono.monotone.map_max]
    unfold sp
    rw [hm, ha, Ideal.exp_coe]
    refine Fn.add ⟨_, rfl⟩ ?_
    refine ⟨Real.log (1 + Real.exp (-(max r (-r)))), ?_⟩
    have hp : ¬ (1 + Real.exp (-(max r (-r))) ≤ 0) := not_le.mpr (by positivity)
    unfold Ideal.log1p
    rw [← EReal.coe_one, ← EReal.coe_add]
    show (if 1 + Real.exp (-(max r (-r))) ≤ 0 then ⊥ else ((Real.log (1 + Real.exp (-(max r (-r)))) : ℝ) : EReal)) = _
    rw [if_neg hp]
  | top => exact absurd h (lt_irrefl _)

namespace Chunk
variable {k : Chunk} (hk : k.Ok)
include hk

theorem dt_fn (s : Fin 128) (h : Fin 16) : Fn (k.dt s h) := sp_fn (EReal.add_lt_top (hk.1 s h).ne (hk.2.1 h).ne)
theorem la_fn (s : Fin 128) (h : Fin 16) : Fn (k.la s h) := (dt_fn hk s h).mul (exp_fn (hk.2.2 h)).neg
theorem ac_fn (l : Fin 128) (h : Fin 16) : Fn (k.ac l h) := by
  refine Fn.sum _ fun s => ?_
  split
  · exact la_fn hk s h
  · exact Fn.zero

end Chunk

/-! ## Running sums by doubling -/

/-- The sum of the `w` entries up to `i`. -/
def win (w : ℕ) (f : Fin 128 → EReal) (i : Fin 128) : EReal := ∑ l : Fin 128, if l.val ≤ i.val ∧ i.val < l.val + w then f l else 0

theorem win_one (f : Fin 128 → EReal) (i : Fin 128) : win 1 f i = f i := by
  unfold win
  rw [Finset.sum_eq_single i]
  · rw [if_pos ⟨le_refl _, Nat.lt_succ_self _⟩]
  · intro l _ hl; rw [if_neg]; rintro ⟨h1, h2⟩; exact hl (Fin.ext (by omega))
  · intro h; exact absurd (Finset.mem_univ _) h

theorem win_double (w : ℕ) (hw : 0 < w) (f : Fin 128 → EReal) (i : Fin 128) :
    win (w + w) f i = win w f i + if h : w ≤ i.val then win w f ⟨i.val - w, by omega⟩ else 0 := by
  unfold win
  split
  · rename_i h
    rw [← Finset.sum_add_distrib]
    refine Finset.sum_congr rfl fun l _ => ?_
    by_cases h1 : l.val ≤ i.val ∧ i.val < l.val + w
    · rw [if_pos h1, if_pos ⟨h1.1, by omega⟩, if_neg (by show ¬ (l.val ≤ i.val - w ∧ i.val - w < l.val + w); omega), add_zero]
    · rw [if_neg h1, zero_add]
      by_cases h2 : l.val ≤ i.val - w ∧ i.val - w < l.val + w
      · rw [if_pos (by omega), if_pos h2]
      · rw [if_neg (by omega), if_neg h2]
  · rw [add_zero]
    refine Finset.sum_congr rfl fun l _ => ?_
    by_cases h1 : l.val ≤ i.val ∧ i.val < l.val + w
    · rw [if_pos h1, if_pos (by omega)]
    · rw [if_neg h1, if_neg (by omega)]

theorem win_all (f : Fin 128 → EReal) (i : Fin 128) : win 128 f i = ∑ l : Fin 128, if l.val ≤ i.val then f l else 0 := by
  unfold win
  refine Finset.sum_congr rfl fun l _ => ?_
  by_cases h1 : l.val ≤ i.val
  · rw [if_pos h1, if_pos (by omega)]
  · rw [if_neg h1, if_neg (by omega)]

/-! ## Picking an entry with a row of zeros and a one -/

theorem pick (f : Fin 128 → EReal) (e : Fin 128) : ∑ x, f x * (if x = e then 1 else 0) = f e := by
  rw [Finset.sum_eq_single e]
  · rw [if_pos rfl, mul_one]
  · intro x _ hx; rw [if_neg hx, mul_zero]
  · intro h; exact absurd (Finset.mem_univ _) h

/-- The three-part product with such a row gives the entry picked, when every entry is finite. -/
theorem pick3 (f : Fin 128 → EReal) (hf : ∀ x, Fn (f x)) (e : Fin 128) :
    ∑ x, f x * (if x = e then 1 else 0) + ∑ x, (f x - f x) * (if x = e then 1 else 0)
      + ∑ x, (f x - f x - (f x - f x)) * (if x = e then 1 else 0) = f e := by
  rw [pick, pick (fun x => f x - f x), pick (fun x => f x - f x - (f x - f x)), (hf e).sub_self, sub_zero, add_zero, add_zero]

/-! ## The masked exponential -/

theorem neg_inf : Ideal.ofBits .f32 4286578688#32 = ⊥ := by
  show Ideal.ieee 8 23 (4286578688#32) = ⊥
  unfold Ideal.ieee; simp

theorem mask_exp (a b : Fin 128) (v : EReal) :
    Ideal.exp (Scalar.select (IntOp.cmpi .sge (BitVec.ofNat 32 a.val) (BitVec.ofNat 32 b.val)) v (Ideal.ofBits .f32 4286578688#32))
      = if b.val ≤ a.val then Ideal.exp v else 0 := by
  have ha := a.isLt; have hb := b.isLt
  rw [WordCmp.cmpi_sge_ofNat (by omega) (by omega), WordCmp.select_ofBool, neg_inf]
  by_cases h : b.val ≤ a.val
  · simp only [h, decide_true, if_true]
  · simp only [h, decide_false, if_false]; exact Ideal.exp_bot

/-- Both branches of a case split give the same value. -/
theorem dite_same {α : Type} {P : Prop} [Decidable P] {a : P → α} {b : ¬ P → α} {c : α} (ha : ∀ h, a h = c) (hb : ∀ h, b h = c) : dite P a b = c := by
  by_cases h : P
  · rw [dif_pos h]; exact ha h
  · rw [dif_neg h]; exact hb h

/-! ## The chunks of the whole arrays -/

/-- The arrays both programs are given, entry by entry. -/
structure Args where
  xs : Fin 8320 → Fin 8192 → EReal
  bc : Fin 8320 → Fin 2048 → EReal
  dr : Fin 8320 → Fin 128 → EReal
  z : Fin 8320 → Fin 8192 → EReal
  nw : Fin 8192 → EReal
  db : Fin 128 → EReal
  al : Fin 128 → EReal
  ds : Fin 128 → EReal

namespace Args

/-- A row of a chunk of a batch. -/
def row (b k : ℕ) (s : Fin 128) : Fin 8320 := ⟨(b * 2048 + k * 128 + s.val) % 8320, Nat.mod_lt _ (by omega)⟩

theorem row_eq {b k : ℕ} (hb : b < 4) (hk : k < 16) (s : Fin 128) (h : b * 2048 + k * 128 + s.val < 8320) :
    row b k s = ⟨b * 2048 + k * 128 + s.val, h⟩ := Fin.ext (Nat.mod_eq_of_lt h)

/-- The chunk `k` of batch `b` and group `g`. -/
def chunk (A : Args) (b : ℕ) (g : Fin 8) (k : ℕ) : Chunk where
  x s j := A.xs (row b k s) ⟨g.val * 1024 + j.val, by omega⟩
  b s n := A.bc (row b k s) ⟨g.val * 128 + n.val, by omega⟩
  cc s n := A.bc (row b k s) ⟨1024 + (g.val * 128 + n.val), by omega⟩
  z s j := A.z (row b k s) ⟨g.val * 1024 + j.val, by omega⟩
  dr s h := A.dr (row b k s) ⟨g.val * 16 + h.val, by omega⟩
  db h := A.db ⟨g.val * 16 + h.val, by omega⟩
  al h := A.al ⟨g.val * 16 + h.val, by omega⟩
  dsk j := A.ds ⟨g.val * 16 + j.val / 64, by omega⟩
  nw j := A.nw ⟨g.val * 1024 + j.val, by omega⟩

/-- No step-size input is infinite upwards. -/
def Ok (A : Args) : Prop := (∀ r h, A.dr r h < ⊤) ∧ (∀ h, A.db h < ⊤) ∧ ∀ h, A.al h < ⊤

/-- The state of a group before chunk `k` of a batch. -/
def st (A : Args) (b : ℕ) (g : Fin 8) (k : ℕ) : Fin 128 → Fin 1024 → EReal := states (A.chunk b g) k

/-- An entry of the first result, for a row of some chunk. -/
def yn (A : Args) (r : ℕ) (j : Fin 8192) : EReal :=
  (A.chunk (r / 2048) ⟨j.val / 1024, by omega⟩ (r / 128 % 16)).out (A.st (r / 2048) ⟨j.val / 1024, by omega⟩ (r / 128 % 16))
    ⟨r % 128, Nat.mod_lt _ (by omega)⟩ ⟨j.val % 1024, Nat.mod_lt _ (by omega)⟩

/-- An entry of the final states. -/
def hfin (A : Args) (b : ℕ) (h : Fin 128) (p : Fin 64) (n : Fin 128) : EReal :=
  A.st b ⟨h.val / 16, by omega⟩ 16 n ⟨h.val % 16 * 64 + p.val, by omega⟩

end Args

end Cert.Ssd

end
-- ==== Proof.Local.lean ====
module

public import proofs.«01_k».proof.Proof.Body
public import proofs.«01_k».proof.Proof.Spec
public import Idealize.ShloMosaic.Lib.Pointwise

@[expose] public section

set_option maxRecDepth 16384

noncomputable section

namespace Cert.KernelIdeal.Scan

open Cert.KernelIdeal Cert.KernelIdeal.Gen Cert.Ssd
open Idealize.ShloMosaic Idealize.ShloMosaic.TcCoe

/-! ## Running sums down the rows -/

/-- One doubling step of the running sums. -/
def stepV (w : BitVec 32) (x : FVec Ideal S128x128 .f32) : FVec Ideal S128x128 .f32 :=
  addf x (select (cmpi .sge (iota .tc S128x128 32 [0] iota_S128x128_d0_w32) (broadcast S128x128 w))
    (dynamicRotate 0 w none x rotates_S128x128_d0) (broadcast S128x128 (Scalar.ofBits .f32 0x00000000#32)))

/-- The log-decays of a chunk's rows and heads. -/
def laV (X6 : FVec Ideal S128x128 .f32) (X9 X10 : FVec Ideal S1x128 .f32) : FVec Ideal S128x128 .f32 :=
  mulf (k0_pay5 X6 X9) (broadcastTo S128x128 (subf (broadcast S1x128 (Scalar.ofBits .f32 0x00000000#32)) (exp (shapeCast S1x128 X10 shapeCasts_S1x128_S1x128))) broadcasts_S1x128_S128x128)

theorem sums_eq (X6 : FVec Ideal S128x128 .f32) (X9 X10 : FVec Ideal S1x128 .f32) :
    k0_pay8 (F := Ideal) (iota .tc S128x128 32 [0] iota_S128x128_d0_w32) (k0_pay6 X6 X9 X10) k0_pay7
      = stepV 64#32 (stepV 32#32 (stepV 16#32 (stepV 8#32 (stepV 4#32 (stepV 2#32 (stepV 1#32 (laV X6 X9 X10))))))) := rfl

theorem stepV_at (w : ℕ) (hw : w < 128) (hw0 : 0 < w) (x : FVec Ideal S128x128 .f32) (f : Fin 128 → Fin 128 → EReal)
    (hx : ∀ i h, x (ix2 i h) = win w (fun l => f l h) i) (i h : Fin 128) :
    stepV (BitVec.ofNat 32 w) x (ix2 i h) = win (w + w) (fun l => f l h) i := by
  rw [win_double w hw0]
  pointwise [stepV]
  rw [WordCmp.cmpi_sge_ofNat (by have := i.isLt; omega) (by omega), WordCmp.select_ofBool, hx i h]
  by_cases hwi : w ≤ i.val
  · rw [dif_pos hwi]
    simp only [hwi, decide_true, if_true]
    rw [hx]
    refine congrArg (fun e => win w (fun l => f l h) i + win w (fun l => f l h) e) (Fin.ext ?_)
    show (i.val + 128 - (BitVec.ofNat 32 w).toNat % 128) % 128 = i.val - w
    have := i.isLt
    rw [BitVec.toNat_ofNat, Nat.mod_eq_of_lt (show w < 2 ^ 32 by omega), Nat.mod_eq_of_lt hw]; omega
  · rw [dif_neg hwi]
    simp only [hwi, decide_false]; rfl

theorem dthV_at (X6 : FVec Ideal S128x128 .f32) (X9 : FVec Ideal S1x128 .f32) (i h : Fin 128) :
    dthV (F := Ideal) X6 X9 (ix2 i h) = sp (X6 (ix2 i h) + X9 (ix2 0 h)) := by
  pointwise [dthV, k0_pay9, k0_pay5]
  rw [zero_sub]; rfl

theorem laV_at (X6 : FVec Ideal S128x128 .f32) (X9 X10 : FVec Ideal S1x128 .f32) (i h : Fin 128) :
    laV X6 X9 X10 (ix2 i h) = sp (X6 (ix2 i h) + X9 (ix2 0 h)) * -Ideal.exp (X10 (ix2 0 h)) := by
  pointwise [laV, k0_pay5]
  rw [zero_sub, zero_sub]; rfl

theorem sums_at (X6 : FVec Ideal S128x128 .f32) (X9 X10 : FVec Ideal S1x128 .f32) (i h : Fin 128) :
    k0_pay8 (F := Ideal) (iota .tc S128x128 32 [0] iota_S128x128_d0_w32) (k0_pay6 X6 X9 X10) k0_pay7 (ix2 i h)
      = ∑ l : Fin 128, if l.val ≤ i.val then sp (X6 (ix2 l h) + X9 (ix2 0 h)) * -Ideal.exp (X10 (ix2 0 h)) else 0 := by
  rw [sums_eq]
  have h0 : ∀ i h, laV X6 X9 X10 (ix2 i h) = win 1 (fun l => sp (X6 (ix2 l h) + X9 (ix2 0 h)) * -Ideal.exp (X10 (ix2 0 h))) i :=
    fun i h => (laV_at X6 X9 X10 i h).trans (win_one (fun l => sp (X6 (ix2 l h) + X9 (ix2 0 h)) * -Ideal.exp (X10 (ix2 0 h))) i).symm
  have h1 := stepV_at 1 (by omega) (by omega) _ _ h0
  have h2 := stepV_at 2 (by omega) (by omega) _ _ h1
  have h3 := stepV_at 4 (by omega) (by omega) _ _ h2
  have h4 := stepV_at 8 (by omega) (by omega) _ _ h3
  have h5 := stepV_at 16 (by omega) (by omega) _ _ h4
  have h6 := stepV_at 32 (by omega) (by omega) _ _ h5
  have h7 := stepV_at 64 (by omega) (by omega) _ _ h6
  exact (h7 i h).trans (win_all _ i)

theorem achV_at (X6 : FVec Ideal S128x128 .f32) (X9 X10 : FVec Ideal S1x128 .f32) (i h : Fin 128) :
    achV (F := Ideal) X6 X9 X10 (ix2 i h)
      = ∑ l : Fin 128, if l.val ≤ i.val then sp (X6 (ix2 l h) + X9 (ix2 0 h)) * -Ideal.exp (X10 (ix2 0 h)) else 0 := by
  rw [← sums_at]
  pointwise [achV, k0_pay10]

theorem actV_at (X6 : FVec Ideal S128x128 .f32) (X9 X10 : FVec Ideal S1x128 .f32) (i h : Fin 128) :
    actV (F := Ideal) X6 X9 X10 (ix2 h i)
      = ∑ l : Fin 128, if l.val ≤ i.val then sp (X6 (ix2 l h) + X9 (ix2 0 h)) * -Ideal.exp (X10 (ix2 0 h)) else 0 := by
  rw [← sums_at]
  pointwise [actV, k0_pay11]

/-! ## A table spread over the lanes of a group -/

/-- The row of head `h` of group `g`. -/
def hrow (g : Fin 8) (h : Fin 16) : Fin 128 := ⟨16 * g.val + h.val, by omega⟩

/-- The lane table of group `g`: lane `j` holds a one at its head's row, and zeros elsewhere. -/
def OneHot (g : Fin 8) (X12 : FVec Ideal S128x1024 .bf16) : Prop :=
  ∀ (x : Fin 128) (j : Fin 1024), X12 (ix2 x j) = if x = hrow g (hd j) then (1 : EReal) else 0

theorem spread14 (g : Fin 8) (X : FVec Ideal S128x1024 .bf16) (hX : OneHot g X) (D : FVec Ideal S128x128 .f32)
    (hD : ∀ i h, Fn (D (ix2 i h))) (i : Fin 128) (j : Fin 1024) : k0_pay14 (F := Ideal) X D (ix2 i j) = D (ix2 i (hrow g (hd j))) := by
  refine Eq.trans ?_ (pick3 (fun x => D (ix2 i x)) (fun x => hD i x) (hrow g (hd j)))
  pointwise [k0_pay14, k0_pay13]
  simp only [hX _ j]

theorem spread15 (g : Fin 8) (X : FVec Ideal S128x1024 .bf16) (hX : OneHot g X) (D : FVec Ideal S128x128 .f32)
    (hD : ∀ i h, Fn (D (ix2 i h))) (i : Fin 128) (j : Fin 1024) : k0_pay15 (F := Ideal) X D (ix2 i j) = D (ix2 i (hrow g (hd j))) := by
  refine Eq.trans ?_ (pick3 (fun x => D (ix2 i x)) (fun x => hD i x) (hrow g (hd j)))
  pointwise [k0_pay15, k0_pay13]
  simp only [hX _ j]

/-! ## The chunk of a group, from the blocks the body reads -/

section Blocks

variable (g : Fin 8) (X3 : FVec Ideal S128x1024 .f32) (X4 X5 : FVec Ideal S128x128 .bf16) (X6 : FVec Ideal S128x128 .f32)
  (X7 : FVec Ideal S128x1024 .f32) (X8 : FVec Ideal S1x1024 .f32) (X9 X10 : FVec Ideal S1x128 .f32) (X11 : FVec Ideal S1x1024 .f32)
  (X12 : FVec Ideal S128x1024 .bf16) (S : FVec Ideal S1x128x1024 .f32)

def chunkV : Chunk where
  x s j := X3 (ix2 s j)
  b s n := X4 (ix2 s n)
  cc s n := X5 (ix2 s n)
  z s j := X7 (ix2 s j)
  dr s h := X6 (ix2 s (hrow g h))
  db h := X9 (ix2 0 (hrow g h))
  al h := X10 (ix2 0 (hrow g h))
  dsk j := X11 (ix2 0 j)
  nw j := X8 (ix2 0 j)

/-- No step-size input of any head is infinite upwards. -/
def OkV : Prop := (∀ s h, X6 (ix2 s h) < (⊤ : EReal)) ∧ (∀ h, X9 (ix2 0 h) < (⊤ : EReal)) ∧ ∀ h, X10 (ix2 0 h) < (⊤ : EReal)

variable {X6 X9 X10 X12 g}

theorem ach_fn (hk : OkV X6 X9 X10) (i h : Fin 128) : Fn (achV (F := Ideal) X6 X9 X10 (ix2 i h)) := by
  rw [achV_at]
  refine Fn.sum _ fun s => ?_
  split
  · exact (sp_fn (EReal.add_lt_top (hk.1 s h).ne (hk.2.1 h).ne)).mul (exp_fn (hk.2.2 h)).neg
  · exact Fn.zero

theorem dth_fn (hk : OkV X6 X9 X10) (i h : Fin 128) : Fn (dthV (F := Ideal) X6 X9 (ix2 i h)) := by
  rw [dthV_at]; exact sp_fn (EReal.add_lt_top (hk.1 i h).ne (hk.2.1 h).ne)

theorem spread_dt (hk : OkV X6 X9 X10) (hX : OneHot g X12) (s : Fin 128) (j : Fin 1024) :
    k0_pay14 (F := Ideal) X12 (dthV (F := Ideal) X6 X9) (ix2 s j) = (chunkV g X3 X4 X5 X6 X7 X8 X9 X10 X11).dt s (hd j) := by
  rw [spread14 g X12 hX _ (dth_fn hk), dthV_at]; rfl

theorem spread_ac (hk : OkV X6 X9 X10) (hX : OneHot g X12) (s : Fin 128) (j : Fin 1024) :
    k0_pay15 (F := Ideal) X12 (achV (F := Ideal) X6 X9 X10) (ix2 s j) = (chunkV g X3 X4 X5 X6 X7 X8 X9 X10 X11).ac s (hd j) := by
  rw [spread15 g X12 hX _ (ach_fn hk), achV_at]; rfl

theorem stV_at (hk : OkV X6 X9 X10) (hX : OneHot g X12) (n : Fin 128) (j : Fin 1024) :
    stV (F := Ideal) X3 X4 X12 (dthV (F := Ideal) X6 X9) (achV (F := Ideal) X6 X9 X10) S (ix3 0 n j)
      = (chunkV g X3 X4 X5 X6 X7 X8 X9 X10 X11).next (fun n j => S (ix3 0 n j)) n j := by
  pointwise [stV, k0_pay2, k0_pay1, k0_pay42, k0_pay43, k0_pay44, k0_pay41, k0_pay39]
  simp only [spread_dt X3 X4 X5 X7 X8 X11 hk hX, spread_ac X3 X4 X5 X7 X8 X11 hk hX]
  rfl

theorem hfV_at (D A : FVec Ideal S128x128 .f32) (h : Fin 16) (p : Fin 64) (n : Fin 128) :
    (hfV (F := Ideal) X3 X4 X12 D A S (ix4 0 h p n) : EReal) = stV (F := Ideal) X3 X4 X12 D A S (ix3 0 n ⟨h.val * 64 + p.val, by omega⟩) := by
  pointwise [hfV, stV, k0_pay2, k0_pay3]

/-- The within-chunk part of the output, from the head's running sums as a column and as a row. -/
def y1 (A D : FVec Ideal S128x1024 .f32) (i : grid0.Coords) (T : FVec Ideal S128x128 .f32) (l : Fin 128) (r : Fin 16) (e j : Fin 1024) : EReal :=
  ∑ s, (∑ n, X5 (ix2 l n) * X4 (ix2 s n) : EReal)
    * (if s.val ≤ l.val then Ideal.exp (A (ix2 l e) - rowT (F := Ideal) i r T (ix2 0 s)) else 0) * (X3 (ix2 s j) * D (ix2 s j))

/-- Two heads side by side: the left 64 lanes from the first, the right 64 from the second. -/
theorem pair_at (A D : FVec Ideal S128x1024 .f32) (i : grid0.Coords) (T : FVec Ideal S128x128 .f32) (l : Fin 128) (r0 r1 : Fin 16)
    (e0 e1 j' j : Fin 1024) (q : ℕ) (hq : q = j.val % 128) (hj : j' = j) (he0 : e0.val = 128 * (j.val / 128)) (he1 : e1.val = 128 * (j.val / 128) + 64)
    (hr0 : r0.val = 2 * (j.val / 128)) (hr1 : r1.val = 2 * (j.val / 128) + 1) :
    Scalar.select (IntOp.cmpi .slt (BitVec.ofNat 32 q) 64#32)
        (∑ x : Fin 128, (∑ n, X5 (ix2 l n) * X4 (ix2 x n) : EReal)
          * Ideal.exp (Scalar.select (IntOp.cmpi .sge (BitVec.ofNat 32 l.val) (BitVec.ofNat 32 x.val)) (A (ix2 l e0) - rowT (F := Ideal) i r0 T (ix2 0 x)) (Ideal.ofBits .f32 4286578688#32))
          * (X3 (ix2 x j') * D (ix2 x j')))
        (∑ x : Fin 128, (∑ n, X5 (ix2 l n) * X4 (ix2 x n) : EReal)
          * Ideal.exp (Scalar.select (IntOp.cmpi .sge (BitVec.ofNat 32 l.val) (BitVec.ofNat 32 x.val)) (A (ix2 l e1) - rowT (F := Ideal) i r1 T (ix2 0 x)) (Ideal.ofBits .f32 4286578688#32))
          * (X3 (ix2 x j') * D (ix2 x j')))
      = y1 X3 X4 X5 A D i T l (hd j) ⟨64 * (hd j).val, by have := (hd j).isLt; omega⟩ j := by
  subst hj
  have hd' : (hd j').val = j'.val / 64 := rfl
  rw [WordCmp.cmpi_slt_ofNat (by omega) (by omega), WordCmp.select_ofBool]
  simp only [mask_exp]
  unfold y1
  by_cases h : q < 64
  · obtain rfl : r0 = hd j' := Fin.ext (by omega)
    have e : e0 = ⟨64 * (hd j').val, by omega⟩ := Fin.ext (by show e0.val = 64 * (hd j').val; omega)
    rw [← e]; simp only [h, decide_true, if_true]
  · obtain rfl : r1 = hd j' := Fin.ext (by omega)
    have e : e1 = ⟨64 * (hd j').val, by omega⟩ := Fin.ext (by show e1.val = 64 * (hd j').val; omega)
    rw [← e]; simp only [h, decide_false]; rfl

theorem yV_at (i : grid0.Coords) (D A T : FVec Ideal S128x128 .f32) (l : Fin 128) (j : Fin 1024) :
    yV (F := Ideal) i X3 X4 X5 X12 D A T S (ix2 l j)
      = y1 X3 X4 X5 (k0_pay15 (F := Ideal) X12 A) (k0_pay14 (F := Ideal) X12 D) i T l (hd j) ⟨64 * (hd j).val, by have := (hd j).isLt; omega⟩ j
        + (∑ n, X5 (ix2 l n) * S (ix3 0 n j)) * Ideal.exp (k0_pay15 (F := Ideal) X12 A (ix2 l j)) := by
  have hj := j.isLt
  pointwise [yV, k0_pay40, k0_pay39, k0_pay20, k0_pay23, k0_pay27, k0_pay28, k0_pay31, k0_pay35, k0_pay36, k0_pay16, k0_pay17, k0_pay18, k0_pay19,
    k0_pay21, k0_pay22, k0_pay24, k0_pay25, k0_pay26, k0_pay29, k0_pay30, k0_pay32, k0_pay33, k0_pay34, k0_pay37, k0_pay38]
  refine congrArg (· + _) ?_
  iterate 7 (refine dite_same (fun _ => ?_) (fun _ => ?_); swap)
  all_goals
    refine pair_at X3 X4 X5 _ _ i T l _ _ _ _ _ j _ ?_ ?_ ?_ ?_ ?_ ?_
    · omega
    · exact Fin.ext (by show _ = j.val; first | rfl | (simp only []; omega))
    all_goals first | omega | (simp; omega)

theorem row_word : ∀ (g : Fin 8) (r : Fin 16),
    (Scalar.indexCast (Scalar.addi (Scalar.muli (BitVec.ofNat 32 g.val) 16#32) (BitVec.ofNat 32 r.val)) : Index).toNat = 16 * g.val + r.val := by decide +kernel

theorem rowT_at (i : grid0.Coords) (hi : (i 2).val = g.val) (r : Fin 16) (T : FVec Ideal S128x128 .f32) (s : Fin 128) :
    rowT (F := Ideal) i r T (ix2 0 s) = T (ix2 (hrow g r) s) := by
  pointwise [rowT]
  refine congrArg₂ (fun a b => T (ix2 a b)) (Fin.ext ?_) (Fin.ext (Nat.zero_add _))
  show (Scalar.indexCast (Scalar.addi (Scalar.muli (BitVec.ofNat 32 (i 2).val) 16#32) (BitVec.ofNat 32 r.val)) : Index).toNat = 16 * g.val + r.val
  rw [hi]; exact row_word g r

theorem y_at (hk : OkV X6 X9 X10) (hX : OneHot g X12) (i : grid0.Coords) (hi : (i 2).val = g.val) (l : Fin 128) (j : Fin 1024) :
    yV (F := Ideal) i X3 X4 X5 X12 (dthV (F := Ideal) X6 X9) (achV (F := Ideal) X6 X9 X10) (actV (F := Ideal) X6 X9 X10) S (ix2 l j)
      = (chunkV g X3 X4 X5 X6 X7 X8 X9 X10 X11).y (fun n j => S (ix3 0 n j)) l j := by
  have hl : hd (⟨64 * (hd j).val, by have := (hd j).isLt; omega⟩ : Fin 1024) = hd j := Fin.ext (by show 64 * (hd j).val / 64 = (hd j).val; omega)
  rw [yV_at]
  unfold y1
  simp only [spread_dt X3 X4 X5 X7 X8 X11 hk hX, spread_ac X3 X4 X5 X7 X8 X11 hk hX, rowT_at i hi, actV_at, hl]
  rfl

theorem ynV_at (hk : OkV X6 X9 X10) (hX : OneHot g X12) (i : grid0.Coords) (hi : (i 2).val = g.val) (l : Fin 128) (j : Fin 1024) :
    (ynV (F := Ideal) i X3 X4 X5 X7 X8 X11 X12 (dthV (F := Ideal) X6 X9) (achV (F := Ideal) X6 X9 X10) (actV (F := Ideal) X6 X9 X10) S (ix2 l j) : EReal)
      = (chunkV g X3 X4 X5 X6 X7 X8 X9 X10 X11).out (fun n j => S (ix3 0 n j)) l j := by
  pointwise [ynV, k0_pay4]
  simp only [y_at X3 X4 X5 X7 X8 X11 S hk hX i hi]
  rfl

end Blocks

end Cert.KernelIdeal.Scan

end
-- ==== Proof.Blocks.lean ====
module

public import proofs.«01_k».proof.Proof.Run
public import proofs.«01_k».proof.Proof.Local
public import Idealize.ShloMosaic.Lib.Claim
public import Idealize.ShloMosaic.Lib.Pointwise

@[expose] public section

set_option maxRecDepth 16384

noncomputable section

namespace Cert.KernelIdeal.Scan

open Cert.KernelIdeal Cert.KernelIdeal.Gen Cert.Ssd
open Idealize.ShloMosaic Idealize.ShloMosaic.TcCoe Idealize.ShloMosaic.Tactic

variable (m : (ℓ : Loc nD τ sig) → Buf (Elt Ideal) ℓ) (c : Dev nD)

/-! ## The operands computed outside the grid -/

/-- The floor division of a word by 64, as the program writes it. -/
def headWord (w : BitVec 32) : BitVec 32 :=
  Scalar.select
    (IntOp.andi
      (IntOp.cmpi .ne (if w = 0 then (0 : BitVec 32) else if w.msb = true then -1 else 1) (if (64#32) = 0 then (0 : BitVec 32) else if (64#32).msb = true then -1 else 1))
      (IntOp.cmpi .ne (IntOp.remsi .host w 64#32) 0#32))
    (IntOp.subi (IntOp.divsi .host w 64#32) 1#32) (IntOp.divsi .host w 64#32)

/-- A lane's head. -/
theorem headWord_eq : ∀ j : Fin 8192, headWord (BitVec.ofNat 32 j.val) = BitVec.ofNat 32 (j.val / 64) := by decide +kernel

theorem V10_at (x : Fin 128) (j : Fin 8192) : (V m c main_v10 (ix2 x j) : EReal) = if x.val = j.val / 64 then (1 : EReal) else (0 : EReal) := by
  simp only [V, hostOps0, hostOps0_1, hostOps0_2, List.flatten_cons, List.flatten_nil, List.append_nil, List.cons_append, List.nil_append]
  after_results
  simp only [StableHlo.TRef.ofBuf_toBuf]
  simp only [StableHlo.TRef.ofBuf, StableHlo.TRef.toBuf, cast_eq]
  pointwise
  show FloatOps.uitofp (F := Ideal) .bf16 (IntOp.cmpi .eq (BitVec.ofNat 32 x.val) (headWord (BitVec.ofNat 32 j.val))) = _
  rw [headWord_eq, WordCmp.cmpi_eq_ofNat (by omega) (by omega)]
  by_cases h : x.val = j.val / 64
  · rw [if_pos h, decide_eq_true h]
    show (((1 : ℕ) : ℝ) : EReal) = 1
    rw [Nat.cast_one]; rfl
  · rw [if_neg h, decide_eq_false h]
    show (((0 : ℕ) : ℝ) : EReal) = 0
    rw [Nat.cast_zero]; rfl

theorem V11_at (j : Fin 8192) : (V m c main_v11 (ix2 0 j) : EReal) = m ((c : Dev nD), Proc.tc.devRef main_arg4) (ix1 j) := by
  simp only [V, hostOps0, hostOps0_1, hostOps0_2, List.flatten_cons, List.flatten_nil, List.append_nil, List.cons_append, List.nil_append]
  after_results
  pointwise

theorem V12_at (j : Fin 128) : (V m c main_v12 (ix2 0 j) : EReal) = m ((c : Dev nD), Proc.tc.devRef main_arg5) (ix1 j) := by
  simp only [V, hostOps0, hostOps0_1, hostOps0_2, List.flatten_cons, List.flatten_nil, List.append_nil, List.cons_append, List.nil_append]
  after_results
  pointwise

theorem V13_at (j : Fin 128) : (V m c main_v13 (ix2 0 j) : EReal) = m ((c : Dev nD), Proc.tc.devRef main_arg6) (ix1 j) := by
  simp only [V, hostOps0, hostOps0_1, hostOps0_2, List.flatten_cons, List.flatten_nil, List.append_nil, List.cons_append, List.nil_append]
  after_results
  pointwise

theorem V14_at (j : Fin 8192) : (V m c main_v14 (ix2 0 j) : EReal) = m ((c : Dev nD), Proc.tc.devRef main_arg7) (ix1 ⟨j.val / 64, by omega⟩) := by
  simp only [V, hostOps0, hostOps0_1, hostOps0_2, List.flatten_cons, List.flatten_nil, List.append_nil, List.cons_append, List.nil_append]
  after_results
  pointwise

/-! ## The blocks, entry by entry -/

theorem blk0_at (t : Fin cfg0.N) (s : Fin 128) (j : Fin 1024) : (blk0 m c t (ix2 s j) : EReal) =
    V m c main_arg0 (ix2 ⟨128 * (t.val / 8) + s.val, by have : t.val < 512 := t.isLt; omega⟩ ⟨1024 * (t.val % 8) + j.val, by omega⟩) := by
  show V m c main_arg0 _ = _
  blk_ext [iblk, idx0 t]

theorem blk1_at (t : Fin cfg0.N) (s n : Fin 128) : (blk1 m c t (ix2 s n) : EReal) =
    V m c main_arg1 (ix2 ⟨128 * (t.val / 8) + s.val, by have : t.val < 512 := t.isLt; omega⟩ ⟨128 * (t.val % 8) + n.val, by omega⟩) := by
  show V m c main_arg1 _ = _
  blk_ext [iblk, idx1 t]

theorem blk2_at (t : Fin cfg0.N) (s n : Fin 128) : (blk2 m c t (ix2 s n) : EReal) =
    V m c main_arg1 (ix2 ⟨128 * (t.val / 8) + s.val, by have : t.val < 512 := t.isLt; omega⟩ ⟨1024 + 128 * (t.val % 8) + n.val, by omega⟩) := by
  show V m c main_arg1 _ = _
  blk_ext [iblk, idx2 t]

theorem blk3_at (t : Fin cfg0.N) (s h : Fin 128) : (blk3 m c t (ix2 s h) : EReal) =
    V m c main_arg2 (ix2 ⟨128 * (t.val / 8) + s.val, by have : t.val < 512 := t.isLt; omega⟩ h) := by
  show V m c main_arg2 _ = _
  blk_ext [iblk, idx3 t]

theorem blk4_at (t : Fin cfg0.N) (s : Fin 128) (j : Fin 1024) : (blk4 m c t (ix2 s j) : EReal) =
    V m c main_arg3 (ix2 ⟨128 * (t.val / 8) + s.val, by have : t.val < 512 := t.isLt; omega⟩ ⟨1024 * (t.val % 8) + j.val, by omega⟩) := by
  show V m c main_arg3 _ = _
  blk_ext [iblk, idx4 t]

theorem blk5_at (t : Fin cfg0.N) (j : Fin 1024) : (blk5 m c t (ix2 0 j) : EReal) = V m c main_v11 (ix2 0 ⟨1024 * (t.val % 8) + j.val, by omega⟩) := by
  show V m c main_v11 _ = _
  blk_ext [iblk, idx5 t]

theorem blk6_at (t : Fin cfg0.N) (h : Fin 128) : (blk6 m c t (ix2 0 h) : EReal) = V m c main_v12 (ix2 0 h) := by
  show V m c main_v12 _ = _
  blk_ext [iblk, idx6 t]

theorem blk7_at (t : Fin cfg0.N) (h : Fin 128) : (blk7 m c t (ix2 0 h) : EReal) = V m c main_v13 (ix2 0 h) := by
  show V m c main_v13 _ = _
  blk_ext [iblk, idx7 t]

theorem blk8_at (t : Fin cfg0.N) (j : Fin 1024) : (blk8 m c t (ix2 0 j) : EReal) = V m c main_v14 (ix2 0 ⟨1024 * (t.val % 8) + j.val, by omega⟩) := by
  show V m c main_v14 _ = _
  blk_ext [iblk, idx8 t]

theorem blk9_at (t : Fin cfg0.N) (x : Fin 128) (j : Fin 1024) : (blk9 m c t (ix2 x j) : EReal) = V m c main_v10 (ix2 x ⟨1024 * (t.val % 8) + j.val, by omega⟩) := by
  show V m c main_v10 _ = _
  blk_ext [iblk, idx9 t]

/-! ## The points' values, from the arrays -/

/-- The kernel's arguments, entry by entry. -/
def args : Args where
  xs r j := m ((c : Dev nD), Proc.tc.devRef main_arg0) (ix2 r j)
  bc r j := m ((c : Dev nD), Proc.tc.devRef main_arg1) (ix2 r j)
  dr r h := m ((c : Dev nD), Proc.tc.devRef main_arg2) (ix2 r h)
  z r j := m ((c : Dev nD), Proc.tc.devRef main_arg3) (ix2 r j)
  nw j := m ((c : Dev nD), Proc.tc.devRef main_arg4) (ix1 j)
  db h := m ((c : Dev nD), Proc.tc.devRef main_arg5) (ix1 h)
  al h := m ((c : Dev nD), Proc.tc.devRef main_arg6) (ix1 h)
  ds h := m ((c : Dev nD), Proc.tc.devRef main_arg7) (ix1 h)

/-- A point's group. -/
def grp (t : Fin cfg0.N) : Fin 8 := ⟨t.val % 8, Nat.mod_lt _ (by decide)⟩

theorem oneHot_blk9 (t : Fin cfg0.N) : OneHot (grp t) (blk9 m c t) := fun x j => by
  rw [blk9_at, V10_at]
  refine if_congr ?_ rfl rfl
  rw [Fin.ext_iff]
  show x.val = (1024 * (t.val % 8) + j.val) / 64 ↔ x.val = 16 * (t.val % 8) + j.val / 64
  omega

theorem chunk_eq (t : Fin cfg0.N) :
    chunkV (grp t) (blk0 m c t) (blk1 m c t) (blk2 m c t) (blk3 m c t) (blk4 m c t) (blk5 m c t) (blk6 m c t) (blk7 m c t) (blk8 m c t)
      = (args m c).chunk (t.val / 128) (grp t) (t.val / 8 % 16) := by
  have ht : t.val < 512 := t.isLt
  have hr : ∀ s : Fin 128, Args.row (t.val / 128) (t.val / 8 % 16) s = ⟨128 * (t.val / 8) + s.val, by omega⟩ := fun s => by
    rw [Args.row_eq (by omega) (by omega) s (by omega)]; exact Fin.ext (by show t.val / 128 * 2048 + t.val / 8 % 16 * 128 + s.val = 128 * (t.val / 8) + s.val; omega)
  unfold chunkV Args.chunk args grp
  simp only [Chunk.mk.injEq]
  refine ⟨?_, ?_, ?_, ?_, ?_, ?_, ?_, ?_, ?_⟩
  · funext s j; rw [blk0_at, V_main_arg0, hr]; simp only [Nat.mul_comm]
  · funext s j; rw [blk1_at, V_main_arg1, hr]; simp only [Nat.mul_comm]
  · funext s j; rw [blk2_at, V_main_arg1, hr]; simp only [Nat.mul_comm, Nat.add_assoc]
  · funext s j; rw [blk4_at, V_main_arg3, hr]; simp only [Nat.mul_comm]
  · funext s h; rw [blk3_at, V_main_arg2, hr]; simp only [hrow, Nat.mul_comm]
  · funext h; rw [blk6_at, V12_at]; simp only [hrow, Nat.mul_comm]
  · funext h; rw [blk7_at, V13_at]; simp only [hrow, Nat.mul_comm]
  · funext j; rw [blk8_at, V14_at]
    congr 2; exact Fin.ext (by show (1024 * (t.val % 8) + j.val) / 64 = t.val % 8 * 16 + j.val / 64; omega)
  · funext j; rw [blk5_at, V11_at]; simp only [Nat.mul_comm]

theorem okV (hA : (args m c).Ok) (t : Fin cfg0.N) : OkV (blk3 m c t) (blk6 m c t) (blk7 m c t) := by
  refine ⟨fun s h => ?_, fun h => ?_, fun h => ?_⟩
  · rw [blk3_at, V_main_arg2]; exact hA.1 _ _
  · rw [blk6_at, V12_at]; exact hA.2.1 _
  · rw [blk7_at, V13_at]; exact hA.2.2 _

theorem step_at (hA : (args m c).Ok) (t : Fin cfg0.N) (S : Vec Ideal S1x128x1024 .f32) (n : Fin 128) (j : Fin 1024) :
    stStep m c t S (ix3 0 n j) = ((args m c).chunk (t.val / 128) (grp t) (t.val / 8 % 16)).next (fun n j => S (ix3 0 n j)) n j := by
  refine (stV_at (blk0 m c t) (blk1 m c t) (blk2 m c t) (blk4 m c t) (blk5 m c t) (blk8 m c t) S (okV m c hA t) (oneHot_blk9 m c t) n j).trans ?_
  rw [chunk_eq]

theorem sIn_at (hA : (args m c).Ok) (b : ℕ) (hb : b < 4) (g : Fin 8) : ∀ (k : ℕ) (_ : k ≤ 16) (n : Fin 128) (j : Fin 1024),
    sIn m c b g.val k (ix3 0 n j) = (args m c).st b g k n j
  | 0, _, n, j => by
    show k0_pay12 (F := Ideal) (ix3 0 n j) = (0 : EReal)
    pointwise [k0_pay12]
  | k + 1, hk, n, j => by
    have hv : (pt b k g.val).val = 128 * b + 8 * k + g.val := by unfold pt; rw [dif_pos (by omega)]
    have e1 : (pt b k g.val).val / 128 = b := by omega
    have e2 : (pt b k g.val).val / 8 % 16 = k := by omega
    have e3 : grp (pt b k g.val) = g := Fin.ext (by show (pt b k g.val).val % 8 = g.val; omega)
    show stStep m c (pt b k g.val) (sIn m c b g.val k) (ix3 0 n j) = ((args m c).chunk b g k).next ((args m c).st b g k) n j
    rw [step_at m c hA, e1, e2, e3]
    congr 1
    funext n j; exact sIn_at hA b hb g k (by omega) n j

theorem ynP_at (hA : (args m c).Ok) (t : Fin cfg0.N) (l : Fin 128) (j : Fin 1024) :
    ynP m c t (ix2 l j) = ((args m c).chunk (t.val / 128) (grp t) (t.val / 8 % 16)).out
      ((args m c).st (t.val / 128) (grp t) (t.val / 8 % 16)) l j := by
  have ht : t.val < 512 := t.isLt
  refine (ynV_at (blk0 m c t) (blk1 m c t) (blk2 m c t) (blk4 m c t) (blk5 m c t) (blk8 m c t) (sAt m c t) (okV m c hA t) (oneHot_blk9 m c t)
    (grid0.coords t) (co2 t) l j).trans ?_
  rw [chunk_eq]
  congr 1
  funext n j; exact sIn_at m c hA (t.val / 128) (by omega) (grp t) _ (by omega) n j

theorem hfP_at (hA : (args m c).Ok) (t : Fin cfg0.N) (h : Fin 16) (p : Fin 64) (n : Fin 128) :
    (hfP m c t (ix4 0 h p n) : EReal) = (args m c).st (t.val / 128) (grp t) (t.val / 8 % 16 + 1) n ⟨h.val * 64 + p.val, by omega⟩ := by
  have ht : t.val < 512 := t.isLt
  refine (hfV_at _ _ _ _ _ h p n).trans ((step_at m c hA t (sAt m c t) n _).trans ?_)
  show _ = ((args m c).chunk (t.val / 128) (grp t) (t.val / 8 % 16)).next ((args m c).st (t.val / 128) (grp t) (t.val / 8 % 16)) n _
  congr 1
  funext n j; exact sIn_at m c hA (t.val / 128) (by omega) (grp t) _ (by omega) n j

end Cert.KernelIdeal.Scan

end
-- ==== Proof.Final.lean ====
module

public import proofs.«01_k».proof.Proof.Blocks

@[expose] public section

set_option maxRecDepth 16384

noncomputable section

namespace Cert.KernelIdeal.Scan

open Cert.KernelIdeal Cert.KernelIdeal.Gen Cert.Ssd
open Idealize.ShloMosaic Idealize.ShloMosaic.TcCoe Idealize.ShloMosaic.Tactic Idealize.SL.Sem

variable (m : (ℓ : Loc nD τ sig) → Buf (Elt Ideal) ℓ) (c : Dev nD)

theorem idx10 : ∀ t : Fin cfg0.N, (cfg0.win 10).index t = ![t.val / 8, t.val % 8] :=
  (by decide +kernel : ∀ t : Fin grid0.N, win0_10.index t = ![t.val / 8, t.val % 8])
theorem idx11 : ∀ t : Fin cfg0.N, (cfg0.win 11).index t = ![t.val / 128, 0, 0, 0] :=
  (by decide +kernel : ∀ t : Fin grid0.N, win0_11.index t = ![t.val / 128, 0, 0, 0])

/-- The last chunk's block of final states, from what its points leave there. -/
theorem fin_block (hA : (args m c).Ok) (t : Fin cfg0.N) (ht : t.val % 128 = 127) (X : Vec Ideal S1x128x64x128 .f32) (hX : FinAt m c t X)
    (h : Fin 128) (p : Fin 64) (n : Fin 128) : (X (ix4 0 h p n) : EReal) = (args m c).hfin (t.val / 128) h p n := by
  have hlt : t.val < 512 := t.isLt
  have hu : t.val / 128 * 128 + 120 + h.val / 16 < cfg0.N := by show _ < 512; omega
  let u : Fin cfg0.N := ⟨t.val / 128 * 128 + 120 + h.val / 16, hu⟩
  have hc : k0_cond3 (grid0.coords u) = 1#1 := (cond3_iff u).mpr (by show (t.val / 128 * 128 + 120 + h.val / 16) / 8 % 16 = 15; omega)
  have e := congrFun (hX u (by show t.val / 128 * 128 + 120 + h.val / 16 ≤ t.val; omega)
    (by show (t.val / 128 * 128 + 120 + h.val / 16) / 128 = t.val / 128; omega) hc) (ix4 0 ⟨h.val % 16, by omega⟩ p n)
  have e2 : (hfP m c u (ix4 0 ⟨h.val % 16, by omega⟩ p n) : EReal) = (args m c).hfin (t.val / 128) h p n := by
    refine (hfP_at m c hA u ⟨h.val % 16, by omega⟩ p n).trans ?_
    unfold Args.hfin
    rw [show u.val / 128 = t.val / 128 from by show (t.val / 128 * 128 + 120 + h.val / 16) / 128 = t.val / 128; omega,
      show u.val / 8 % 16 + 1 = 16 from by show (t.val / 128 * 128 + 120 + h.val / 16) / 8 % 16 + 1 = 16; omega,
      show grp u = ⟨h.val / 16, by omega⟩ from Fin.ext (by show (t.val / 128 * 128 + 120 + h.val / 16) % 8 = h.val / 16; omega)]
  refine Eq.trans ?_ (e.trans e2)
  show X _ = X _
  congr 1
  funext a
  refine Fin.ext ?_
  have ho := congrFun (off4_eq u) a
  show _ = k0_off4 (grid0.coords u) a + 1 * _
  rw [ho]
  have hh : h.val = 16 * (u.val % 8) + 1 * (h.val % 16) := by show h.val = 16 * ((t.val / 128 * 128 + 120 + h.val / 16) % 8) + 1 * (h.val % 16); omega
  match a with
  | 0 => rfl
  | 1 => exact hh
  | 2 => show p.val = 0 + 1 * p.val; omega
  | 3 => show n.val = 0 + 1 * n.val; omega

/-- An entry of the first result by its point and its place in the point's block. -/
theorem yn_split (A : Args) (t : ℕ) (l : Fin 128) (q : Fin 1024) (r : ℕ) (j : Fin 8192) (hr : r = t / 8 * 128 + l.val) (hj : j.val = t % 8 * 1024 + q.val) :
    A.yn r j = (A.chunk (t / 128) ⟨t % 8, Nat.mod_lt _ (by decide)⟩ (t / 8 % 16)).out (A.st (t / 128) ⟨t % 8, Nat.mod_lt _ (by decide)⟩ (t / 8 % 16)) l q := by
  subst hr
  unfold Args.yn
  simp only [show (t / 8 * 128 + l.val) / 2048 = t / 128 by omega, show (t / 8 * 128 + l.val) / 128 % 16 = t / 8 % 16 by omega,
    show (t / 8 * 128 + l.val) % 128 = l.val by omega, show j.val / 1024 = t % 8 by omega, show j.val % 1024 = q.val by omega]

theorem hfin_congr (A : Args) {b b' : ℕ} {h h' : Fin 128} {p p' : Fin 64} {n n' : Fin 128} (eb : b = b') (eh : h = h') (ep : p = p') (en : n = n') :
    A.hfin b' h' p' n' = A.hfin b h p n := by subst eb eh ep en; rfl

set_option maxHeartbeats 2000000 in
/-- What a final state of the run holds in the two results. -/
theorem final_out (hA : (args m c).Ok) {r : PUnit × MemSt nD τ sig (Elt Ideal)}
    (h : Pipeline.RDat.FramePost (cfgs 0) (fun c => rdat0 m c) (V m) r) :
    (∀ (i : Fin 8320) (j : Fin 8192), i.val < 8192 → (r.2.mem ((c.tc : Thread nD τ).loc main_v15_0) (ix2 i j) : EReal) = (args m c).yn i.val j)
    ∧ ∀ (b : Fin 4) (h : Fin 128) (p : Fin 64) (n : Fin 128),
        (r.2.mem ((c.tc : Thread nD τ).loc main_v15_1) (ix4 b h p n) : EReal) = (args m c).hfin b.val h p n := by
  obtain ⟨after, hL, hE⟩ := h.exists_exact c
  constructor
  · intro i j hi
    refine (congrFun ((hE 10).trans (Pipeline.Dat.arrAt_eq_of_coversWhere ((rdat0 m c).withAfter after) 10
      (fun i => (args m c).yn (i 0).val (i 1)) (P := fun i => (i 0).val / 128 < 64) (fun β => β (0 : Fin 2) < 64) (by decide +kernel)
      (fun t hf y => ?_) (fun j => Iff.rfl))) (ix2 i j)).trans ?_
    · have e1 : after 10 t = ynP m c t := (dats m 0 c).toRRel_leaves (fgt := fgt0) (Rl := Rl0 m c) (w := 10) rfl (hL 10 t hf)
      obtain ⟨l, q, hy⟩ : ∃ l q, (cfg0.win 10).xinj (cfg0.grid.coords t) y = ix2 l q := ⟨_, _, eq_ix2 (n0 := 128) (n1 := 1024) _⟩
      have h0 : (y 0).val = l.val := congrArg (fun x : S128x1024.Idx => (x 0).val) hy
      have h1 : (y 1).val = q.val := congrArg (fun x : S128x1024.Idx => (x 1).val) hy
      show after 10 t ((cfg0.win 10).xinj (cfg0.grid.coords t) y) = _
      rw [e1, hy]
      refine (ynP_at m c hA t l q).trans ?_
      have g0 : (((cfg0.win 10).blk t).view.emb y 0).val = t.val / 8 * 128 + l.val := by
        rw [← h0]; blk_simp [idx10 t]
      have g1 : (((cfg0.win 10).blk t).view.emb y 1).val = t.val % 8 * 1024 + q.val := by
        rw [← h1]; blk_simp [idx10 t]
      exact (yn_split (args m c) t.val l q _ _ g0 g1).symm
    · exact if_pos (by show i.val / 128 < 64; omega)
  · intro b h p n
    refine (congrFun ((hE 11).trans (Pipeline.Dat.arrAt_eq_of_coversWhere ((rdat0 m c).withAfter after) 11
      (fun i => (args m c).hfin (i 0).val (i 1) (i 2) (i 3)) (P := fun i => (i 0).val / 1 < 4) (fun β => β (0 : Fin 4) < 4) (by decide +kernel)
      (fun t hf y => ?_) (fun j => Iff.rfl))) (ix4 b h p n)).trans ?_
    · have ht : t.val % 128 = 127 := (flush0_11 t).mp hf
      have e1 : FinAt m c t (after 11 t) := (dats m 0 c).toRRel_leaves (fgt := fgt0) (Rl := Rl0 m c) (w := 11) rfl (hL 11 t hf)
      obtain ⟨z, h', p', n', hy⟩ : ∃ z h' p' n', (cfg0.win 11).xinj (cfg0.grid.coords t) y = ix4 z h' p' n' :=
        ⟨_, _, _, _, eq_ix4 (n0 := 1) (n1 := 128) (n2 := 64) (n3 := 128) _⟩
      obtain rfl : z = 0 := Fin.fin_one_eq_zero z
      have h1 : (y 1).val = h'.val := congrArg (fun x : S1x128x64x128.Idx => (x 1).val) hy
      have h2 : (y 2).val = p'.val := congrArg (fun x : S1x128x64x128.Idx => (x 2).val) hy
      have h3 : (y 3).val = n'.val := congrArg (fun x : S1x128x64x128.Idx => (x 3).val) hy
      show after 11 t ((cfg0.win 11).xinj (cfg0.grid.coords t) y) = _
      rw [hy]
      refine (fin_block m c hA t ht _ e1 h' p' n').trans ?_
      have g0 : (((cfg0.win 11).blk t).view.emb y 0).val = t.val / 128 := by blk_simp [idx11 t]
      have g1 : ((cfg0.win 11).blk t).view.emb y 1 = h' := Fin.ext (by rw [← h1]; blk_simp [idx11 t])
      have g2 : ((cfg0.win 11).blk t).view.emb y 2 = p' := Fin.ext (by rw [← h2]; blk_simp [idx11 t])
      have g3 : ((cfg0.win 11).blk t).view.emb y 3 = n' := Fin.ext (by rw [← h3]; blk_simp [idx11 t])
      exact hfin_congr (args m c) g0 g1 g2 g3
    · exact if_pos (by show b.val / 1 < 4; omega)

end Cert.KernelIdeal.Scan

end
-- ==== Proof.Cumsum.lean ====
module

public import proofs.«01_k».proof.Proof.Gen.ReferenceIdeal.Run
public import Idealize.ShloMosaic.Lib.Pointwise

@[expose] public section

set_option maxRecDepth 16384

noncomputable section

namespace Cert.ReferenceIdeal.Value

open Cert.ReferenceIdeal Cert.ReferenceIdeal.Gen
open Idealize.ShloMosaic

/-! ## The running sum over a chunk's rows -/

theorem foldl_sum {N : ℕ} (f : Fin N → EReal) (v : EReal) : (List.finRange N).foldl (fun r n => r + f n) v = v + ∑ n, f n := by
  rw [Fin.sum_univ_def]
  generalize List.finRange N = l
  induction l generalizing v with
  | nil => rw [List.map_nil, List.sum_nil, add_zero]; rfl
  | cons a l ih => rw [List.foldl_cons, ih, List.map_cons, List.sum_cons, add_assoc]

/-- The window's shape. -/
abbrev Wd : Shape := ⟨5, ![1, 1, 128, 1, 1]⟩

/-- A place of the window, by its row. -/
def winRow : Wd.Idx ≃ Fin 128 where
  toFun x := x 2
  invFun k := ix5 0 0 k 0 0
  left_inv x := by
    obtain ⟨a, b, k, d, e, rfl⟩ : ∃ a b k d e, x = ix5 a b k d e := ⟨_, _, _, _, _, eq_ix5 (n0 := 1) (n1 := 1) (n2 := 128) (n3 := 1) (n4 := 1) x⟩
    obtain rfl := Fin.fin_one_eq_zero a
    obtain rfl := Fin.fin_one_eq_zero b
    obtain rfl := Fin.fin_one_eq_zero d
    obtain rfl := Fin.fin_one_eq_zero e
    rfl
  right_inv _ := rfl

/-- The window's rows in bounds are the rows up to the one asked for. -/
theorem window_rows (f : Fin 128 → EReal) (q : Fin 128) :
    (∑ k : Fin 128, if 127 ≤ q.val + k.val then f ⟨(q.val + k.val + 1) % 128, Nat.mod_lt _ (by decide)⟩ else 0)
      = ∑ s : Fin 128, if s.val ≤ q.val then f s else 0 := by
  have hq := q.isLt
  rw [← Finset.sum_filter, ← Finset.sum_filter]
  refine Finset.sum_bij' (fun k _ => ⟨(q.val + k.val + 1) % 128, Nat.mod_lt _ (by decide)⟩)
    (fun s _ => ⟨(s.val + 127 - q.val) % 128, Nat.mod_lt _ (by decide)⟩) ?_ ?_ ?_ ?_ ?_
  · intro k hk
    have h := (Finset.mem_filter.mp hk).2
    refine Finset.mem_filter.mpr ⟨Finset.mem_univ _, ?_⟩
    show (q.val + k.val + 1) % 128 ≤ q.val
    omega
  · intro s hs
    have h := (Finset.mem_filter.mp hs).2
    refine Finset.mem_filter.mpr ⟨Finset.mem_univ _, ?_⟩
    show 127 ≤ q.val + (s.val + 127 - q.val) % 128
    omega
  · intro k hk
    have h := (Finset.mem_filter.mp hk).2
    exact Fin.ext (by show ((q.val + k.val + 1) % 128 + 127 - q.val) % 128 = k.val; omega)
  · intro s hs
    have h := (Finset.mem_filter.mp hs).2
    exact Fin.ext (by show (q.val + (s.val + 127 - q.val) % 128 + 1) % 128 = s.val; omega)
  · intro k _; rfl

theorem cumsum_at (x : FVec Ideal S4x16x128x8x16 .f32) (v : FVec Ideal S_ .f32) (hr) (hu) (hv : v (Shape.Idx.first hu) = (0 : EReal))
    (b : Fin 4) (c : Fin 16) (q : Fin 128) (g : Fin 8) (h : Fin 16) :
    (Host.reduceWindowAdd (F := Ideal) (t := S4x16x128x8x16) (u := S_) ![1, 1, 128, 1, 1] ![1, 1, 1, 1, 1] ![0, 0, 127, 0, 0] ![0, 0, 0, 0, 0] x v hr hu (ix5 b c q g h) : EReal)
      = ∑ s : Fin 128, if s.val ≤ q.val then (x (ix5 b c s g h) : EReal) else 0 := by
  have hb := b.isLt; have hc := c.isLt; have hq := q.isLt; have hg := g.isLt; have hh := h.isLt
  rw [← window_rows (fun s => x (ix5 b c s g h)) q]
  refine (foldl_sum _ _).trans ?_
  refine (congrArg (· + _) hv).trans ((zero_add _).trans ?_)
  refine Fintype.sum_equiv (Wd.rowMajor.symm.trans winRow) _ _ fun n => ?_
  obtain ⟨a0, a1, k, a3, a4, hi⟩ : ∃ a b k d e, Wd.rowMajor.symm n = ix5 a b k d e := ⟨_, _, _, _, _, eq_ix5 (n0 := 1) (n1 := 1) (n2 := 128) (n3 := 1) (n4 := 1) _⟩
  have hk : (Wd.rowMajor.symm.trans winRow) n = k := by show Wd.rowMajor.symm n 2 = k; rw [hi]; rfl
  rw [hk]
  have hkl := k.isLt
  have hz0 : (Wd.rowMajor.symm n 0).val = 0 := by rw [hi]; exact congrArg Fin.val (Fin.fin_one_eq_zero a0)
  have hz1 : (Wd.rowMajor.symm n 1).val = 0 := by rw [hi]; exact congrArg Fin.val (Fin.fin_one_eq_zero a1)
  have hz2 : (Wd.rowMajor.symm n 2).val = k.val := by rw [hi]; rfl
  have hz3 : (Wd.rowMajor.symm n 3).val = 0 := by rw [hi]; exact congrArg Fin.val (Fin.fin_one_eq_zero a3)
  have hz4 : (Wd.rowMajor.symm n 4).val = 0 := by rw [hi]; exact congrArg Fin.val (Fin.fin_one_eq_zero a4)
  by_cases hle : 127 ≤ q.val + k.val
  · rw [if_pos hle]
    refine (dif_pos ?_).trans (congrArg x (funext fun a => Fin.ext ?_))
    · intro a
      match a with
      | 0 => show 0 ≤ b.val * 1 + (Wd.rowMajor.symm n 0).val ∧ b.val * 1 + (Wd.rowMajor.symm n 0).val - 0 < 4; rw [hz0]; omega
      | 1 => show 0 ≤ c.val * 1 + (Wd.rowMajor.symm n 1).val ∧ c.val * 1 + (Wd.rowMajor.symm n 1).val - 0 < 16; rw [hz1]; omega
      | 2 => show 127 ≤ q.val * 1 + (Wd.rowMajor.symm n 2).val ∧ q.val * 1 + (Wd.rowMajor.symm n 2).val - 127 < 128; rw [hz2]; omega
      | 3 => show 0 ≤ g.val * 1 + (Wd.rowMajor.symm n 3).val ∧ g.val * 1 + (Wd.rowMajor.symm n 3).val - 0 < 8; rw [hz3]; omega
      | 4 => show 0 ≤ h.val * 1 + (Wd.rowMajor.symm n 4).val ∧ h.val * 1 + (Wd.rowMajor.symm n 4).val - 0 < 16; rw [hz4]; omega
    · match a with
      | 0 => show b.val * 1 + (Wd.rowMajor.symm n 0).val - 0 = b.val; rw [hz0]; omega
      | 1 => show c.val * 1 + (Wd.rowMajor.symm n 1).val - 0 = c.val; rw [hz1]; omega
      | 2 => show q.val * 1 + (Wd.rowMajor.symm n 2).val - 127 = (q.val + k.val + 1) % 128; rw [hz2]; omega
      | 3 => show g.val * 1 + (Wd.rowMajor.symm n 3).val - 0 = g.val; rw [hz3]; omega
      | 4 => show h.val * 1 + (Wd.rowMajor.symm n 4).val - 0 = h.val; rw [hz4]; omega
  · rw [if_neg hle]
    refine (dif_neg fun hin => hle ?_).trans hv
    have h2 : 127 ≤ q.val * 1 + (Wd.rowMajor.symm n 2).val := (hin 2).1
    rw [hz2] at h2; omega

end Cert.ReferenceIdeal.Value

end
-- ==== Proof.Ref.lean ====
module

public import proofs.«01_k».proof.Proof.Cumsum
public import proofs.«01_k».proof.Proof.Spec

@[expose] public section

set_option maxRecDepth 16384

noncomputable section

namespace Cert.ReferenceIdeal.Value

open Cert.ReferenceIdeal Cert.ReferenceIdeal.Gen Cert.Ssd
open Idealize.ShloMosaic Idealize.ShloMosaic.TcCoe Idealize.SL.Sem

variable (V0 : Valuation τ sig (Elt Ideal))

/-- The reference's arguments, entry by entry. -/
def args : Args where
  xs r j := V0 (Proc.devRef .tc main_arg0) (ix2 r j)
  bc r j := V0 (Proc.devRef .tc main_arg1) (ix2 r j)
  dr r h := V0 (Proc.devRef .tc main_arg2) (ix2 r h)
  z r j := V0 (Proc.devRef .tc main_arg3) (ix2 r j)
  nw j := V0 (Proc.devRef .tc main_arg4) (ix1 j)
  db h := V0 (Proc.devRef .tc main_arg5) (ix1 h)
  al h := V0 (Proc.devRef .tc main_arg6) (ix1 h)
  ds h := V0 (Proc.devRef .tc main_arg7) (ix1 h)

/-- A head's lane of its group. -/
def ln (h : Fin 16) (p : Fin 64) : Fin 1024 := ⟨h.val * 64 + p.val, by omega⟩

theorem hd_ln (h : Fin 16) (p : Fin 64) : hd (ln h p) = h := Fin.ext (by show (h.val * 64 + p.val) / 64 = h.val; omega)

variable (b : Fin 4) (c : Fin 16) (q : Fin 128) (g : Fin 8) (h : Fin 16) (p : Fin 64) (n : Fin 128)

/-- The chunk of a batch and a group. -/
abbrev ck : Chunk := (args V0).chunk b.val g c.val

theorem row_at : Args.row b.val c.val q = ⟨b.val * 2048 + c.val * 128 + q.val, by omega⟩ := Args.row_eq b.isLt c.isLt q (by omega)

theorem v1_at : ((res_main_v1 V0 : FVec Ideal S4x16x128x8x16x64 .f32) (ix6 b c q g h p) : EReal) = (ck V0 b c g).x q (ln h p) := by
  show _ = V0 (Proc.devRef .tc main_arg0) (ix2 (Args.row b.val c.val q) ⟨g.val * 1024 + (h.val * 64 + p.val), by omega⟩)
  rw [row_at]
  pointwise [res_main_v1]
  simp only [Nat.add_assoc]

theorem v4_at : ((res_main_v4 V0 : FVec Ideal S4x16x128x8x128 .f32) (ix5 b c q g n) : EReal) = (ck V0 b c g).b q n := by
  show _ = V0 (Proc.devRef .tc main_arg1) (ix2 (Args.row b.val c.val q) ⟨g.val * 128 + n.val, by omega⟩)
  rw [row_at]
  pointwise [res_main_v4, res_main_v2]

theorem v6_at : ((res_main_v6 V0 : FVec Ideal S4x16x128x8x128 .f32) (ix5 b c q g n) : EReal) = (ck V0 b c g).cc q n := by
  show _ = V0 (Proc.devRef .tc main_arg1) (ix2 (Args.row b.val c.val q) ⟨1024 + (g.val * 128 + n.val), by omega⟩)
  rw [row_at]
  pointwise [res_main_v6, res_main_v2]

theorem v12_at : ((res_main_v12 V0 : FVec Ideal S4x16x128x8x16 .f32) (ix5 b c q g h) : EReal) = (ck V0 b c g).dt q h := by
  show _ = sp ((args V0).dr (Args.row b.val c.val q) ⟨g.val * 16 + h.val, by omega⟩ + (args V0).db ⟨g.val * 16 + h.val, by omega⟩)
  rw [row_at]
  pointwise [res_main_v12, res_main_call0_v3, res_main_v10, res_main_call0_cst]
  exact if_neg fun h => h rfl

theorem v19_at : ((res_main_v19 V0 : FVec Ideal S4x16x128x8x16 .f32) (ix5 b c q g h) : EReal) = (ck V0 b c g).ac q h := by
  unfold res_main_v19
  refine (cumsum_at _ _ _ _ ?_ b c q g h).trans ?_
  · pointwise
  · unfold Chunk.ac
    refine Finset.sum_congr rfl fun s _ => if_congr Iff.rfl ?_ rfl
    show _ = (ck V0 b c g).dt s h * -Ideal.exp (V0 (Proc.devRef .tc main_arg6) (ix1 ⟨g.val * 16 + h.val, by omega⟩))
    rw [← v12_at]
    pointwise

theorem v20_at : ((res_main_v20 V0 : FVec Ideal S4x16x8x16x128 .f32) (ix5 b c g h q) : EReal) = (ck V0 b c g).ac q h := by
  rw [← v19_at]
  pointwise [res_main_v20]

theorem v37_at : ((res_main_v37 V0 : FVec Ideal S4x16x128x8x16x64 .f32) (ix6 b c q g h p) : EReal) = (ck V0 b c g).xd q (ln h p) := by
  unfold Chunk.xd
  rw [hd_ln, ← v1_at, ← v12_at]
  pointwise [res_main_v37]

theorem v51_at : ((res_main_v51 V0 : FVec Ideal S4x16x8x16x64x128 .f32) (ix6 b c g h p n) : EReal)
    = ∑ s, (ck V0 b c g).b s n * ((ck V0 b c g).xd s (ln h p) * Ideal.exp ((ck V0 b c g).ac 127 h - (ck V0 b c g).ac s h)) := by
  pointwise [res_main_v51]
  change @Eq EReal _ _
  refine Finset.sum_congr rfl fun s _ => ?_
  rw [← v37_at, ← v19_at, ← v19_at, ← v4_at]
  exact mul_comm (_ : EReal) _

theorem v54_at : ((res_main_v54 V0 : FVec Ideal S4x16x8x16 .f32) (ix4 b c g h) : EReal) = Ideal.exp ((ck V0 b c g).ac 127 h) := by
  rw [← v19_at]
  pointwise [res_main_v54]

/-! ## The states -/

/-- A chunk's decay and its rows' contribution to the state, entry by entry. -/
def decay (k : Fin 16) : EReal := res_main_v54 V0 (ix4 b k g h)
def contrib (k : Fin 16) : EReal := res_main_v51 V0 (ix6 b k g h p n)

theorem step_at (k : Fin 16) (S : EReal) (hS : S = (args V0).st b.val g k.val n (ln h p)) :
    decay V0 b g h k * S + contrib V0 b g h p n k = (args V0).st b.val g (k.val + 1) n (ln h p) := by
  rw [hS, show decay V0 b g h k = _ from v54_at V0 b k g h, show contrib V0 b g h p n k = _ from v51_at V0 b k g h p n]
  show _ = (ck V0 b k g).next ((args V0).st b.val g k.val) n (ln h p)
  unfold Chunk.next
  rw [hd_ln]

theorem v55_at : ((res_main_v55 V0 : FVec Ideal S4x8x16x64x128 .f32) (ix5 b g h p n) : EReal) = (args V0).st b.val g 0 n (ln h p) := by
  show _ = (0 : EReal)
  pointwise [res_main_v55]

theorem v63_at : ((res_main_v63 V0 : FVec Ideal S4x8x16x64x128 .f32) (ix5 b g h p n) : EReal) = (args V0).st b.val g 1 n (ln h p) := by
  refine Eq.trans ?_ (step_at V0 b g h p n 0 _ (v55_at V0 b g h p n))
  pointwise [res_main_v63, decay, contrib]

theorem v71_at : ((res_main_v71 V0 : FVec Ideal S4x8x16x64x128 .f32) (ix5 b g h p n) : EReal) = (args V0).st b.val g 2 n (ln h p) := by
  refine Eq.trans ?_ (step_at V0 b g h p n 1 _ (v63_at V0 b g h p n))
  pointwise [res_main_v71, decay, contrib]

theorem v79_at : ((res_main_v79 V0 : FVec Ideal S4x8x16x64x128 .f32) (ix5 b g h p n) : EReal) = (args V0).st b.val g 3 n (ln h p) := by
  refine Eq.trans ?_ (step_at V0 b g h p n 2 _ (v71_at V0 b g h p n))
  pointwise [res_main_v79, decay, contrib]

theorem v87_at : ((res_main_v87 V0 : FVec Ideal S4x8x16x64x128 .f32) (ix5 b g h p n) : EReal) = (args V0).st b.val g 4 n (ln h p) := by
  refine Eq.trans ?_ (step_at V0 b g h p n 3 _ (v79_at V0 b g h p n))
  pointwise [res_main_v87, decay, contrib]

theorem v95_at : ((res_main_v95 V0 : FVec Ideal S4x8x16x64x128 .f32) (ix5 b g h p n) : EReal) = (args V0).st b.val g 5 n (ln h p) := by
  refine Eq.trans ?_ (step_at V0 b g h p n 4 _ (v87_at V0 b g h p n))
  pointwise [res_main_v95, decay, contrib]

theorem v103_at : ((res_main_v103 V0 : FVec Ideal S4x8x16x64x128 .f32) (ix5 b g h p n) : EReal) = (args V0).st b.val g 6 n (ln h p) := by
  refine Eq.trans ?_ (step_at V0 b g h p n 5 _ (v95_at V0 b g h p n))
  pointwise [res_main_v103, decay, contrib]

theorem v111_at : ((res_main_v111 V0 : FVec Ideal S4x8x16x64x128 .f32) (ix5 b g h p n) : EReal) = (args V0).st b.val g 7 n (ln h p) := by
  refine Eq.trans ?_ (step_at V0 b g h p n 6 _ (v103_at V0 b g h p n))
  pointwise [res_main_v111, decay, contrib]

theorem v119_at : ((res_main_v119 V0 : FVec Ideal S4x8x16x64x128 .f32) (ix5 b g h p n) : EReal) = (args V0).st b.val g 8 n (ln h p) := by
  refine Eq.trans ?_ (step_at V0 b g h p n 7 _ (v111_at V0 b g h p n))
  pointwise [res_main_v119, decay, contrib]

theorem v127_at : ((res_main_v127 V0 : FVec Ideal S4x8x16x64x128 .f32) (ix5 b g h p n) : EReal) = (args V0).st b.val g 9 n (ln h p) := by
  refine Eq.trans ?_ (step_at V0 b g h p n 8 _ (v119_at V0 b g h p n))
  pointwise [res_main_v127, decay, contrib]

theorem v135_at : ((res_main_v135 V0 : FVec Ideal S4x8x16x64x128 .f32) (ix5 b g h p n) : EReal) = (args V0).st b.val g 10 n (ln h p) := by
  refine Eq.trans ?_ (step_at V0 b g h p n 9 _ (v127_at V0 b g h p n))
  pointwise [res_main_v135, decay, contrib]

theorem v143_at : ((res_main_v143 V0 : FVec Ideal S4x8x16x64x128 .f32) (ix5 b g h p n) : EReal) = (args V0).st b.val g 11 n (ln h p) := by
  refine Eq.trans ?_ (step_at V0 b g h p n 10 _ (v135_at V0 b g h p n))
  pointwise [res_main_v143, decay, contrib]

theorem v151_at : ((res_main_v151 V0 : FVec Ideal S4x8x16x64x128 .f32) (ix5 b g h p n) : EReal) = (args V0).st b.val g 12 n (ln h p) := by
  refine Eq.trans ?_ (step_at V0 b g h p n 11 _ (v143_at V0 b g h p n))
  pointwise [res_main_v151, decay, contrib]

theorem v159_at : ((res_main_v159 V0 : FVec Ideal S4x8x16x64x128 .f32) (ix5 b g h p n) : EReal) = (args V0).st b.val g 13 n (ln h p) := by
  refine Eq.trans ?_ (step_at V0 b g h p n 12 _ (v151_at V0 b g h p n))
  pointwise [res_main_v159, decay, contrib]

theorem v167_at : ((res_main_v167 V0 : FVec Ideal S4x8x16x64x128 .f32) (ix5 b g h p n) : EReal) = (args V0).st b.val g 14 n (ln h p) := by
  refine Eq.trans ?_ (step_at V0 b g h p n 13 _ (v159_at V0 b g h p n))
  pointwise [res_main_v167, decay, contrib]

theorem v175_at : ((res_main_v175 V0 : FVec Ideal S4x8x16x64x128 .f32) (ix5 b g h p n) : EReal) = (args V0).st b.val g 15 n (ln h p) := by
  refine Eq.trans ?_ (step_at V0 b g h p n 14 _ (v167_at V0 b g h p n))
  pointwise [res_main_v175, decay, contrib]

theorem v207_at : ((res_main_v207 V0 : FVec Ideal S4x16x128x8x16x64 .f32) (ix6 b c q g h p) : EReal) = (ck V0 b c g).y ((args V0).st b.val g c.val) q (ln h p) := by
  unfold Chunk.y
  rw [hd_ln]
  pointwise [res_main_v207]
  refine congrArg₂ (fun x y : EReal => x + y) (Finset.sum_congr rfl fun s _ => ?_)
    (congrArg₂ (fun x y : EReal => x * y) (Finset.sum_congr rfl fun k _ => ?_) ?_)
  · rw [v37_at, v20_at, v20_at]
    refine (mul_comm (_ : EReal) _).trans (congrArg (fun x : EReal => x * (ck V0 b c g).xd s (ln h p)) ?_)
    exact congrArg₂ (fun x y : EReal => x * y) (Finset.sum_congr rfl fun k _ =>
      congrArg₂ (fun x y : EReal => x * y) (v6_at V0 b c q g k) (v4_at V0 b c s g k)) (mask_exp q s _)
  · rw [v6_at]
    refine (mul_comm (_ : EReal) _).trans (congrArg (fun x : EReal => (ck V0 b c g).cc q k * x) ?_)
    simp only [v55_at, v63_at, v71_at, v79_at, v87_at, v95_at, v103_at, v111_at, v119_at, v127_at, v135_at, v143_at, v151_at, v159_at, v167_at, v175_at]
    have hc := c.isLt
    iterate 15 (refine dite_same (fun _ => ?_) (fun _ => ?_); swap)
    all_goals exact congrArg (fun i => (args V0).st b.val g i k (ln h p)) (by omega)
  · rw [v19_at]

theorem v217_at (r : Fin 8192) (j : Fin 1024) : ((res_main_v217 V0 : FVec Ideal S8192x8x1024 .f32) (ix3 r g j) : EReal)
    = ((args V0).chunk (r.val / 2048) g (r.val / 128 % 16)).v ((args V0).st (r.val / 2048) g (r.val / 128 % 16)) ⟨r.val % 128, Nat.mod_lt _ (by decide)⟩ j := by
  have hr := r.isLt
  have hrow : Args.row (r.val / 2048) (r.val / 128 % 16) ⟨r.val % 128, Nat.mod_lt _ (by decide)⟩ = ⟨r.val, by omega⟩ := by
    rw [Args.row_eq (by omega) (by omega) _ (by show r.val / 2048 * 2048 + r.val / 128 % 16 * 128 + r.val % 128 < 8320; omega)]
    exact Fin.ext (by show r.val / 2048 * 2048 + r.val / 128 % 16 * 128 + r.val % 128 = r.val; omega)
  have hj : ln ⟨j.val / 64, by omega⟩ ⟨j.val % 64, by omega⟩ = j := Fin.ext (by show j.val / 64 * 64 + j.val % 64 = j.val; omega)
  have hz : ((args V0).chunk (r.val / 2048) g (r.val / 128 % 16)).z ⟨r.val % 128, Nat.mod_lt _ (by decide)⟩ j
      = V0 (Proc.devRef .tc main_arg3) (ix2 ⟨r.val, by omega⟩ ⟨g.val * 1024 + j.val, by omega⟩) := by
    show V0 (Proc.devRef .tc main_arg3) (ix2 (Args.row _ _ _) _) = _
    rw [hrow]
  unfold Chunk.v
  rw [hz]
  pointwise [res_main_v217, res_main_v214]
  rw [v207_at, v1_at, hj]
  rfl

theorem yn_at (r : Fin 8320) (j : Fin 8192) (hr : r.val < 8192) (v : FVec Ideal S8320x8192 .bf16)
    (hv : v = truncf .bf16 (concatenate S8320x8192 0 [⟨S8192x8192, (mulf (shapeCast _ (mulf (res_main_v217 V0) (broadcastInDim S8192x8x1024 ![0, 1, 2] bcast_S8192x8x1_S8192x8x1024_0_1_2 (Host.rsqrt (addf (Host.divf (broadcastInDim S8192x8x1 ![0, 1] bcast_S8192x8_S8192x8x1_0_1 (Host.reduceAdd (mulf (res_main_v217 V0) (res_main_v217 V0)) (constant S_ .f32 0x00000000#32) reducesTo_S8192x8x1024_S8192x8_d2 h_S_)) (broadcastInDim S8192x8x1 ![] bcast_S_S8192x8x1 (constant S_ .f32 0x44800000#32))) (broadcastInDim S8192x8x1 ![] bcast_S_S8192x8x1 (constant S_ .f32 0x358637BD#32)))))) shapeCasts_S8192x8x1024_S8192x8192) (broadcastInDim S8192x8192 ![0, 1] bcast_S1x8192_S8192x8192_0_1 (broadcastInDim S1x8192 ![1] bcast_S8192_S1x8192_1 (V0 (Proc.devRef .tc main_arg4)))))⟩, ⟨S128x8192, (broadcastInDim S128x8192 ![] bcast_S_S128x8192 (constant S_ .f32 0x00000000#32))⟩] concatenates_S8192x8192_S128x8192_S8320x8192_d0) bitsLt_bf16_f32) :
    (v (ix2 r j) : EReal) = (args V0).yn r.val j := by
  rw [hv]
  pointwise
  rw [dif_pos hr]
  unfold Args.yn Chunk.out
  have hn : ((args V0).chunk (r.val / 2048) ⟨j.val / 1024, by omega⟩ (r.val / 128 % 16)).nw ⟨j.val % 1024, Nat.mod_lt _ (by decide)⟩
      = V0 (Proc.devRef .tc main_arg4) (ix1 j) := by
    show (args V0).nw ⟨j.val / 1024 * 1024 + j.val % 1024, _⟩ = (args V0).nw j
    exact congrArg (args V0).nw (Fin.ext (by show j.val / 1024 * 1024 + j.val % 1024 = j.val; omega))
  rw [hn]
  simp only [v217_at]

theorem hfin_at (b : Fin 4) (h : Fin 128) (p : Fin 64) (n : Fin 128) (v : FVec Ideal S4x128x64x128 .f32)
    (hv : v = shapeCast _ (addf (mulf (broadcastInDim S4x8x16x64x128 ![0, 1, 2, 3, 4] bcast_S4x8x16x1x1_S4x8x16x64x128_0_1_2_3_4 (broadcastInDim S4x8x16x1x1 ![0, 1, 2] bcast_S4x8x16_S4x8x16x1x1_0_1_2 (shapeCast _ (extractStridedSlice S4x1x8x16 ![0, 15, 0, 0] (res_main_v54 V0) slices_S4x16x8x16_S4x1x8x16_0_15_0_0) shapeCasts_S4x1x8x16_S4x8x16))) (res_main_v175 V0)) (shapeCast _ (extractStridedSlice S4x1x8x16x64x128 ![0, 15, 0, 0, 0, 0] (res_main_v51 V0) slices_S4x16x8x16x64x128_S4x1x8x16x64x128_0_15_0_0_0_0) shapeCasts_S4x1x8x16x64x128_S4x8x16x64x128)) shapeCasts_S4x8x16x64x128_S4x128x64x128) :
    (v (ix4 b h p n) : EReal) = (args V0).hfin b.val h p n := by
  rw [hv]
  refine Eq.trans ?_ (step_at V0 b ⟨h.val / 16, by omega⟩ ⟨h.val % 16, by omega⟩ p n 15 _ (v175_at V0 b _ _ p n))
  pointwise [decay, contrib]

end Cert.ReferenceIdeal.Value

end
-- ==== Proof.Algebra.lean ====
module

public import proofs.«01_k».proof.Defs
public import proofs.«01_k».proof.Proof.Final
public import proofs.«01_k».proof.Proof.Ref
public import Idealize.ShloMosaic.Lib.ReduceAll

@[expose] public section

set_option maxRecDepth 16384

noncomputable section

namespace Cert.Ssd

open Idealize.ShloMosaic Idealize.ShloMosaic.TcCoe Idealize.SL.Sem

instance preFacts : Cert.Pre_pre.Facts where
  bcast_S_S8320x128 := by decide
  reducesTo_S8320x128_S_d0_1 := by decide
  h_S_ := by decide
  bcast_S_S128 := by decide
  reducesTo_S128_S_d0 := by decide

instance writtenFacts : Cert.On_written.Facts where
  bcast_S_S8320x8192 := by decide
  bcast_S_S4x128x64x128 := by decide

/-- An ordered comparison with the infinite pattern that holds puts its left side below the top. -/
theorem lt_top_of_cmpf (x : EReal) (h : Ideal.cmp .olt x (Ideal.ofBits .f32 0x7F800000#32) = 1#1) : x < ⊤ := by
  have ht : Ideal.ofBits .f32 0x7F800000#32 = ⊤ := by simp [Ideal.ofBits, Ideal.ieee]
  rw [ht] at h
  by_contra hx
  simp [Ideal.cmp, hx] at h

theorem andi_one {a b : BitVec 1} (h : IntOp.andi a b = 1#1) : a = 1#1 ∧ b = 1#1 := by
  revert a b; decide

instance : Subsingleton Cert.Pre_pre.S_.Idx := ⟨fun _ _ => funext fun k => k.elim0⟩

/-- The precondition, entry by entry: no step, bias or decay logarithm is plus infinity. -/
theorem ok_of_pre (m : (ℓ : Loc Cert.KernelIdeal.nD Cert.KernelIdeal.τ Cert.KernelIdeal.sig) → Buf (Elt Ideal) ℓ)
    (h : Cert.Pre_KernelIdeal_pre m) (c : Dev Cert.KernelIdeal.nD) : (Cert.KernelIdeal.Scan.args m c).Ok := by
  have e := congrFun (h c) (fun k => k.elim0)
  obtain ⟨e1, e3⟩ := andi_one e
  obtain ⟨e1, e2⟩ := andi_one e1
  exact ⟨fun r k => lt_top_of_cmpf _ (Host.reduce_andi_all _ _ _ _ _ e1 (ix2 r k)),
    fun k => lt_top_of_cmpf _ (Host.reduce_andi_all _ _ _ _ _ e2 (ix1 k)),
    fun k => lt_top_of_cmpf _ (Host.reduce_andi_all _ _ _ _ _ e3 (ix1 k))⟩

/-- The mask of the first result holds at the rows of the prompts alone. -/
theorem row_of_written (a0 : FVec Ideal Cert.On_written.S8320x8192 .f32) (a1 : FVec Ideal Cert.On_written.S8320x2048 .bf16)
    (a2 : FVec Ideal Cert.On_written.S8320x128 .f32) (a3 : FVec Ideal Cert.On_written.S8320x8192 .f32)
    (a4 : FVec Ideal Cert.On_written.S8192 .f32) (a5 a6 a7 : FVec Ideal Cert.On_written.S128 .f32) (i : Fin 8320) (j : Fin 8192)
    (h : (Cert.On_written.fn (F := Ideal) a0 a1 a2 a3 a4 a5 a6 a7).1 (ix2 i j) = 1#1) : i.val < 8192 :=
  (WordCmp.cmpi_slt_ofNat_eq_one_iff (w := 32) (by omega) (by omega)).mp h

/-- From the same arguments the kernel and the reference write the same results, at the written entries. -/
theorem algebraic : Cert.algebraic_KernelIdeal_ReferenceIdeal_on_written_pre_pre := by
  intro m g m' g' hpre harg
  have hargs : ∀ c : Dev Cert.KernelIdeal.nD,
      Cert.ReferenceIdeal.Value.args (StableHlo.launchContents m' c) = Cert.KernelIdeal.Scan.args m c := by
    intro c
    obtain ⟨h0, h1, h2, h3, h4, h5, h6, h7⟩ := harg c
    unfold Cert.ReferenceIdeal.Value.args Cert.KernelIdeal.Scan.args
    congr 1
    · funext r j; exact congrFun h0 (ix2 r j)
    · funext r j; exact congrFun h1 (ix2 r j)
    · funext r j; exact congrFun h2 (ix2 r j)
    · funext r j; exact congrFun h3 (ix2 r j)
    · funext j; exact congrFun h4 (ix1 j)
    · funext j; exact congrFun h5 (ix1 j)
    · funext j; exact congrFun h6 (ix1 j)
    · funext j; exact congrFun h7 (ix1 j)
  refine ⟨fun c i => (Cert.KernelIdeal.Scan.args m c).yn (i 0).val (i 1),
    fun c i => (Cert.KernelIdeal.Scan.args m c).hfin (i 0).val (i 1) (i 2) (i 3), ?_, ?_⟩
  · refine (θ_run Cert.KernelIdeal.defs _ _).mono (fun r h c => ?_) (Cert.KernelIdeal.Scan.run_main (F := Ideal) m g)
    have e := Cert.KernelIdeal.Scan.final_out m c (ok_of_pre m hpre c) h.1
    refine ⟨fun i hi => ?_, fun i _ => ?_, Cert.KernelIdeal.Scan.final_args m h.1 c⟩
    · obtain ⟨a, b, rfl⟩ : ∃ a b, i = ix2 a b := ⟨_, _, eq_ix2 (n0 := 8320) (n1 := 8192) i⟩
      exact e.1 a b (row_of_written _ _ _ _ _ _ _ _ a b hi)
    · obtain ⟨a, b, d, f, rfl⟩ : ∃ a b d f, i = ix4 a b d f :=
        ⟨_, _, _, _, eq_ix4 (n0 := 4) (n1 := 128) (n2 := 64) (n3 := 128) i⟩
      exact e.2 a b d f
  · refine (θ_run Cert.ReferenceIdeal.defs _ _).mono (fun r h c => ?_) (Cert.ReferenceIdeal.Value.run (F := Ideal) m' g')
    obtain ⟨e0, e1, ea⟩ := h c
    refine ⟨fun i hi => ?_, fun i _ => ?_, ea⟩
    · obtain ⟨a, b, rfl⟩ : ∃ a b, i = ix2 a b := ⟨_, _, eq_ix2 (n0 := 8320) (n1 := 8192) i⟩
      refine (Cert.ReferenceIdeal.Value.yn_at (StableHlo.launchContents m' c) a b (row_of_written _ _ _ _ _ _ _ _ a b hi) _ e0).trans ?_
      rw [hargs c]
      rfl
    · obtain ⟨a, b, d, f, rfl⟩ : ∃ a b d f, i = ix4 a b d f :=
        ⟨_, _, _, _, eq_ix4 (n0 := 4) (n1 := 128) (n2 := 64) (n3 := 128) i⟩
      refine (Cert.ReferenceIdeal.Value.hfin_at (StableHlo.launchContents m' c) a b d f _ e1).trans ?_
      rw [hargs c]
      rfl

end Cert.Ssd

end
-- ==== Proof.UpBody.lean ====
module

public import proofs.«01_k».proof.Proof.Gen.Kernel2Ideal.Launch
public import proofs.«01_k».proof.Proof.Gen.Kernel2Ideal.Skeleton
public import proofs.«01_k».proof.Proof.Body
public import Idealize.ShloMosaic.Lib.Pipeline.Frame
public import Idealize.ShloMosaic.Lib.Tactic

@[expose] public section

set_option maxRecDepth 16384

noncomputable section

namespace Cert.Kernel2Ideal.Up

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Scan (read_writes_one overlay_overlay overlay_full ld_full readCov_full_piece)

variable {F : FTy → Type} [FloatOps F]

local notation "𝕄" => MT nD τ sig Unit (Elt F) ℕ (UR sig nD τ) ℕ

/-! ## The three cases of a tile: the first of its expert, a later one, none -/

theorem bit_cases : ∀ b d : BitVec 1,
    (Scalar.cmpi .ne (Scalar.extui (Scalar.andi b d) : BitVec 32) 0#32 = 1#1 ↔ b = 1#1 ∧ d = 1#1)
      ∧ (Scalar.cmpi .ne (Scalar.extui (Scalar.andi b (Scalar.xori d 1#1)) : BitVec 32) 0#32 = 1#1 ↔ b = 1#1 ∧ ¬ d = 1#1)
      ∧ (Scalar.cmpi .ne (Scalar.extui (Scalar.xori b 1#1) : BitVec 32) 0#32 = 1#1 ↔ ¬ b = 1#1) := by
  decide

/-- Whether the tile has rows: its number is below the count of tiles. -/
def act (i : grid0.Coords) (v0 : BitVec 32) : Prop := Scalar.cmpi .slt (BitVec.ofNat 32 (i 1).val) v0 = 1#1
/-- Whether the tile is marked the first of its expert. -/
def fst (v3 : BitVec 32) : Prop := Scalar.cmpi .eq v3 1#32 = 1#1

instance (i : grid0.Coords) (v0 : BitVec 32) : Decidable (act i v0) := by unfold act; infer_instance
instance (v3 : BitVec 32) : Decidable (fst v3) := by unfold fst; infer_instance

theorem c1_iff (i : grid0.Coords) (v0 v3 : BitVec 32) : k0_cond1 i v0 v3 = 1#1 ↔ act i v0 ∧ fst v3 := (bit_cases _ _).1
theorem c2_iff (i : grid0.Coords) (v0 v3 : BitVec 32) : k0_cond2 i v0 v3 = 1#1 ↔ act i v0 ∧ ¬ fst v3 := (bit_cases _ _).2.1
theorem c3_iff (i : grid0.Coords) (v0 : BitVec 32) : k0_cond3 i v0 = 1#1 ↔ ¬ act i v0 := (bit_cases _ (0#1)).2.2

/-! ## What the body computes, from the contents of its operands -/

abbrev wR0 : Rect S1x1x4096x512 := Rect.unit (s := S1x1x4096x512) ![0, 0, 0, 0] S1x1x512x512.size inb_S1x1x4096x512_S1x1x512x512_0_0_0_0
abbrev sR0 : Rect S4096x512 := Rect.unit (s := S4096x512) ![0, 0] S512x512.size inb_S4096x512_S512x512_0_0
abbrev xR0 : Rect S256x4096 := Rect.unit (s := S256x4096) ![0, 0] S256x512.size inb_S256x4096_S256x512_0_0

abbrev wR1 : Rect S1x1x4096x512 := Rect.unit (s := S1x1x4096x512) ![0, 0, 512, 0] S1x1x512x512.size inb_S1x1x4096x512_S1x1x512x512_0_0_512_0
abbrev sR1 : Rect S4096x512 := Rect.unit (s := S4096x512) ![512, 0] S512x512.size inb_S4096x512_S512x512_512_0
abbrev xR1 : Rect S256x4096 := Rect.unit (s := S256x4096) ![0, 512] S256x512.size inb_S256x4096_S256x512_0_512

abbrev wR2 : Rect S1x1x4096x512 := Rect.unit (s := S1x1x4096x512) ![0, 0, 1024, 0] S1x1x512x512.size inb_S1x1x4096x512_S1x1x512x512_0_0_1024_0
abbrev sR2 : Rect S4096x512 := Rect.unit (s := S4096x512) ![1024, 0] S512x512.size inb_S4096x512_S512x512_1024_0
abbrev xR2 : Rect S256x4096 := Rect.unit (s := S256x4096) ![0, 1024] S256x512.size inb_S256x4096_S256x512_0_1024

abbrev wR3 : Rect S1x1x4096x512 := Rect.unit (s := S1x1x4096x512) ![0, 0, 1536, 0] S1x1x512x512.size inb_S1x1x4096x512_S1x1x512x512_0_0_1536_0
abbrev sR3 : Rect S4096x512 := Rect.unit (s := S4096x512) ![1536, 0] S512x512.size inb_S4096x512_S512x512_1536_0
abbrev xR3 : Rect S256x4096 := Rect.unit (s := S256x4096) ![0, 1536] S256x512.size inb_S256x4096_S256x512_0_1536

abbrev wR4 : Rect S1x1x4096x512 := Rect.unit (s := S1x1x4096x512) ![0, 0, 2048, 0] S1x1x512x512.size inb_S1x1x4096x512_S1x1x512x512_0_0_2048_0
abbrev sR4 : Rect S4096x512 := Rect.unit (s := S4096x512) ![2048, 0] S512x512.size inb_S4096x512_S512x512_2048_0
abbrev xR4 : Rect S256x4096 := Rect.unit (s := S256x4096) ![0, 2048] S256x512.size inb_S256x4096_S256x512_0_2048

abbrev wR5 : Rect S1x1x4096x512 := Rect.unit (s := S1x1x4096x512) ![0, 0, 2560, 0] S1x1x512x512.size inb_S1x1x4096x512_S1x1x512x512_0_0_2560_0
abbrev sR5 : Rect S4096x512 := Rect.unit (s := S4096x512) ![2560, 0] S512x512.size inb_S4096x512_S512x512_2560_0
abbrev xR5 : Rect S256x4096 := Rect.unit (s := S256x4096) ![0, 2560] S256x512.size inb_S256x4096_S256x512_0_2560

abbrev wR6 : Rect S1x1x4096x512 := Rect.unit (s := S1x1x4096x512) ![0, 0, 3072, 0] S1x1x512x512.size inb_S1x1x4096x512_S1x1x512x512_0_0_3072_0
abbrev sR6 : Rect S4096x512 := Rect.unit (s := S4096x512) ![3072, 0] S512x512.size inb_S4096x512_S512x512_3072_0
abbrev xR6 : Rect S256x4096 := Rect.unit (s := S256x4096) ![0, 3072] S256x512.size inb_S256x4096_S256x512_0_3072

abbrev wR7 : Rect S1x1x4096x512 := Rect.unit (s := S1x1x4096x512) ![0, 0, 3584, 0] S1x1x512x512.size inb_S1x1x4096x512_S1x1x512x512_0_0_3584_0
abbrev sR7 : Rect S4096x512 := Rect.unit (s := S4096x512) ![3584, 0] S512x512.size inb_S4096x512_S512x512_3584_0
abbrev xR7 : Rect S256x4096 := Rect.unit (s := S256x4096) ![0, 3584] S256x512.size inb_S256x4096_S256x512_0_3584

/-- The gate and up weights cast chunk by chunk. -/
abbrev gc0 (X7 : Vec F S1x1x4096x512 .f32) : FVec F S512x512 .bf16 := k0_pay3 (View.ld X7 wR0)
abbrev gc1 (X7 : Vec F S1x1x4096x512 .f32) : FVec F S512x512 .bf16 := k0_pay4 (View.ld X7 wR1)
abbrev gc2 (X7 : Vec F S1x1x4096x512 .f32) : FVec F S512x512 .bf16 := k0_pay6 (View.ld X7 wR2)
abbrev gc3 (X7 : Vec F S1x1x4096x512 .f32) : FVec F S512x512 .bf16 := k0_pay7 (View.ld X7 wR3)
abbrev gc4 (X7 : Vec F S1x1x4096x512 .f32) : FVec F S512x512 .bf16 := k0_pay8 (View.ld X7 wR4)
abbrev gc5 (X7 : Vec F S1x1x4096x512 .f32) : FVec F S512x512 .bf16 := k0_pay11 (k0_pay10 (View.ld X7 wR5))
abbrev gc6 (X7 : Vec F S1x1x4096x512 .f32) : FVec F S512x512 .bf16 := k0_pay12 (View.ld X7 wR6)
abbrev gc7 (X7 : Vec F S1x1x4096x512 .f32) : FVec F S512x512 .bf16 := k0_pay13 (View.ld X7 wR7)
abbrev uc0 (X8 : Vec F S1x1x4096x512 .f32) : FVec F S512x512 .bf16 := k0_pay15 (View.ld X8 wR0)
abbrev uc1 (X8 : Vec F S1x1x4096x512 .f32) : FVec F S512x512 .bf16 := k0_pay16 (View.ld X8 wR1)
abbrev uc2 (X8 : Vec F S1x1x4096x512 .f32) : FVec F S512x512 .bf16 := k0_pay17 (View.ld X8 wR2)
abbrev uc3 (X8 : Vec F S1x1x4096x512 .f32) : FVec F S512x512 .bf16 := k0_pay19 (View.ld X8 wR3)
abbrev uc4 (X8 : Vec F S1x1x4096x512 .f32) : FVec F S512x512 .bf16 := k0_pay20 (View.ld X8 wR4)
abbrev uc5 (X8 : Vec F S1x1x4096x512 .f32) : FVec F S512x512 .bf16 := k0_pay22 (View.ld X8 wR5)
abbrev uc6 (X8 : Vec F S1x1x4096x512 .f32) : FVec F S512x512 .bf16 := k0_pay23 (View.ld X8 wR6)
abbrev uc7 (X8 : Vec F S1x1x4096x512 .f32) : FVec F S512x512 .bf16 := k0_pay24 (View.ld X8 wR7)

/-- The scratch buffers after the eight chunks are written. -/
def gN (X7 : Vec F S1x1x4096x512 .f32) (S : Vec F S4096x512 .bf16) : Vec F S4096x512 .bf16 :=
  (sR7.overlay (sR6.overlay (sR5.overlay (sR4.overlay (sR3.overlay (sR2.overlay (sR1.overlay (sR0.overlay S (gc0 X7)) (gc1 X7)) (gc2 X7)) (gc3 X7)) (gc4 X7)) (gc5 X7)) (gc6 X7)) (gc7 X7))
def uN (X8 : Vec F S1x1x4096x512 .f32) (S : Vec F S4096x512 .bf16) : Vec F S4096x512 .bf16 :=
  (sR7.overlay (sR6.overlay (sR5.overlay (sR4.overlay (sR3.overlay (sR2.overlay (sR1.overlay (sR0.overlay S (uc0 X8)) (uc1 X8)) (uc2 X8)) (uc3 X8)) (uc4 X8)) (uc5 X8)) (uc6 X8)) (uc7 X8))

/-- What the first tile of an expert stores. -/
def outF (X5 : Vec F S256x4096 .bf16) (X6 : Vec F S256x1 .f32) (X7 X8 : Vec F S1x1x4096x512 .f32) : Vec F S256x512 .bf16 :=
  k0_pay25
    (k0_pay14 (k0_pay9 (k0_pay5 (View.ld X5 xR0) (gc0 X7) (View.ld X5 xR1) (gc1 X7)) (View.ld X5 xR2) (gc2 X7) (View.ld X5 xR3) (gc3 X7) (View.ld X5 xR4) (gc4 X7))
      (View.ld X5 xR5) (gc5 X7) (View.ld X5 xR6) (gc6 X7) (View.ld X5 xR7) (gc7 X7))
    (k0_pay21 (k0_pay18 (View.ld X5 xR0) (uc0 X8) (View.ld X5 xR1) (uc1 X8) (View.ld X5 xR2) (uc2 X8)) (View.ld X5 xR3) (uc3 X8) (View.ld X5 xR4) (uc4 X8))
    (View.ld X5 xR5) (uc5 X8) (View.ld X5 xR6) (uc6 X8) (View.ld X5 xR7) (uc7 X8) X6

/-- What the body stores at a tile, from the two scratch buffers it finds. -/
def outV (i : grid0.Coords) (v0 v3 : BitVec 32) (X5 : Vec F S256x4096 .bf16) (X6 : Vec F S256x1 .f32) (X7 X8 : Vec F S1x1x4096x512 .f32)
    (G U : Vec F S4096x512 .bf16) : Vec F S256x512 .bf16 :=
  if act i v0 then (if fst v3 then outF X5 X6 X7 X8 else k0_pay1 X5 G U X6) else k0_pay2
/-- The scratch buffers after the body. -/
def gS (i : grid0.Coords) (v0 v3 : BitVec 32) (X7 : Vec F S1x1x4096x512 .f32) (G : Vec F S4096x512 .bf16) : Vec F S4096x512 .bf16 :=
  if act i v0 ∧ fst v3 then gN X7 G else G
def uS (i : grid0.Coords) (v0 v3 : BitVec 32) (X8 : Vec F S1x1x4096x512 .f32) (U : Vec F S4096x512 .bf16) : Vec F S4096x512 .bf16 :=
  if act i v0 ∧ fst v3 then uN X8 U else U

/-- The word a whole one-word table holds, and the word of a table at a point. -/
abbrev word4 (a4 : Memref sig .tc .smem S1 .i32) (f : a4.view.ty.Contents (Elt F)) : BitVec 32 :=
  View.ld (Val := Elt F) (a4.view.read (Elt F) f) (Rect.unit (s := S1) ![0] S1.size inb_S1_S1_0) (Shape.Idx.first (show 0 < S1.numel from numel1_S1.symm ▸ Nat.one_pos))
abbrev word3 (a3 : Memref sig .tc .smem S97 .i32) (i : grid0.Coords) (f : a3.view.ty.Contents (Elt F)) : BitVec 32 :=
  View.ld (Val := Elt F) (a3.view.read (Elt F) f) (Rect.unit (s := S97) (k0_off1 i) S1.size (k0_off1_inb i)) (Shape.Idx.first (show 0 < S1.numel from numel1_S1.symm ▸ Nat.one_pos))

/-! ## The body, run once -/

set_option maxHeartbeats 4000000 in
theorem body_run (c : Dev nD) (i : grid0.Coords) (q : PosShare TreeShare) (a2 : Memref sig .tc .smem S97 .i32) (h2 : a2.IsWhole) (a3 : Memref sig .tc .smem S97 .i32) (h3 : a3.IsWhole) (a4 : Memref sig .tc .smem S1 .i32) (h4 : a4.IsWhole) (a5 : Memref sig .tc .vmem S256x4096 .bf16) (h5 : a5.IsWhole) (a6 : Memref sig .tc .vmem S256x1 .f32) (h6 : a6.IsWhole) (a7 : Memref sig .tc .vmem S1x1x4096x512 .f32) (h7 : a7.IsWhole) (a8 : Memref sig .tc .vmem S1x1x4096x512 .f32) (h8 : a8.IsWhole) (a9 : Memref sig .tc .vmem S256x512 .bf16) (h9 : a9.IsWhole) (a10 : Memref sig .tc .vmem S4096x512 .bf16) (h10 : a10.IsWhole) (a11 : Memref sig .tc .vmem S4096x512 .bf16) (h11 : a11.IsWhole)
    (f3 : a3.view.ty.Contents (Elt F)) (f4 : a4.view.ty.Contents (Elt F)) (X5 : Vec F S256x4096 .bf16) (X6 : Vec F S256x1 .f32) (X7 : Vec F S1x1x4096x512 .f32) (X8 : Vec F S1x1x4096x512 .f32) (X9 : Vec F S256x512 .bf16) (X10 : Vec F S4096x512 .bf16) (X11 : Vec F S4096x512 .bf16) (K : PUnit → sProp 𝕄) :
    iprop(((a3.view.loc (c : Thread nD τ)) ↦{q} f3)
      ∗ ((a4.view.loc (c : Thread nD τ)) ↦{q} f4)
      ∗ owns (c : Thread nD τ) a5 fullShare X5
      ∗ owns (c : Thread nD τ) a6 fullShare X6
      ∗ owns (c : Thread nD τ) a7 fullShare X7
      ∗ owns (c : Thread nD τ) a8 fullShare X8
      ∗ owns (c : Thread nD τ) a9 fullShare X9
      ∗ owns (c : Thread nD τ) a10 fullShare X10
      ∗ owns (c : Thread nD τ) a11 fullShare X11
      ∗ (iprop(((a3.view.loc (c : Thread nD τ)) ↦{q} f3)
      ∗ ((a4.view.loc (c : Thread nD τ)) ↦{q} f4)
      ∗ owns (c : Thread nD τ) a5 fullShare X5
      ∗ owns (c : Thread nD τ) a6 fullShare X6
      ∗ owns (c : Thread nD τ) a7 fullShare X7
      ∗ owns (c : Thread nD τ) a8 fullShare X8
      ∗ owns (c : Thread nD τ) a9 fullShare (outV i (word4 a4 f4) (word3 a3 i f3) X5 X6 X7 X8 X10 X11)
      ∗ owns (c : Thread nD τ) a10 fullShare (gS i (word4 a4 f4) (word3 a3 i f3) X7 X10)
      ∗ owns (c : Thread nD τ) a11 fullShare (uS i (word4 a4 f4) (word3 a3 i f3) X8 X11)) -∗ K ⟨⟩))
      ⊢ wp frame (wpE (defs₀ (F := F)) Variants.none c none) Set.univ
          (cc0_moe_up i a2 h2 a3 h3 a4 h4 a5 h5 a6 h6 a7 h7 a8 h8 a9 h9 a10 h10 a11 h11) K := by
  simp only [cc0_moe_up_eq_skeleton]; unfold cc0_moe_up_skel
  unfold owns
  iintro ⟨T3, T4, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, HK⟩
  subst e5 e6 e7 e8 e9 e10 e11
  by_cases ha : act i (word4 a4 f4) <;> by_cases hf : fst (word3 a3 i f3)
  all_goals
    have k1 := c1_iff i (word4 a4 f4) (word3 a3 i f3)
    have k2 := c2_iff i (word4 a4 f4) (word3 a3 i f3)
    have k3 := c3_iff i (word4 a4 f4)
    simp only [ha, hf, _root_.true_and, _root_.and_true, _root_.false_and, _root_.and_false, not_true_eq_false, not_false_eq_true, iff_true, iff_false] at k1 k2 k3
    simp only [word3, word4] at ha hf k1 k2 k3
    sl_exec
    sl_step
    iapply HK
    isplitl [T3]
    · iexact T3
    isplitl [T4]
    · iexact T4
    isplitl [H5]
    · iexists _; isplitr; swap; · iexact H5
      ipureintro
      rfl
    isplitl [H6]
    · iexists _; isplitr; swap; · iexact H6
      ipureintro
      rfl
    isplitl [H7]
    · iexists _; isplitr; swap; · iexact H7
      ipureintro
      rfl
    isplitl [H8]
    · iexists _; isplitr; swap; · iexact H8
      ipureintro
      rfl
    isplitl [H9]
    · iexists _; isplitr; swap; · iexact H9
      ipureintro
      (try sl_unfold_run_names); (try simp only [word3, word4, k1, k2, k3, ha, hf, dite_true, dite_false, dif_pos, dif_neg, not_false_eq_true, if_true, if_false, _root_.and_self, _root_.and_true, _root_.and_false, _root_.false_and, read_writes_one, View.writes_nil, overlay_full, View.readAt_eq_ld, readCov_full_piece, View.readCov_cons_toLoadRect, ld_full, outV, gS, uS]); (try with_reducible rfl); (try rfl)
    isplitl [H10]
    · iexists _; isplitr; swap; · iexact H10
      ipureintro
      (try sl_unfold_run_names); (try simp only [word3, word4, k1, k2, k3, ha, hf, dite_true, dite_false, dif_pos, dif_neg, not_false_eq_true, if_true, if_false, _root_.and_self, _root_.and_true, _root_.and_false, _root_.false_and, read_writes_one, View.writes_nil, overlay_full, View.readAt_eq_ld, readCov_full_piece, View.readCov_cons_toLoadRect, ld_full, outV, gS, uS]); (try with_reducible rfl); (try rfl)
    · iexists _; isplitr; swap; · iexact H11
      ipureintro
      (try sl_unfold_run_names); (try simp only [word3, word4, k1, k2, k3, ha, hf, dite_true, dite_false, dif_pos, dif_neg, not_false_eq_true, if_true, if_false, _root_.and_self, _root_.and_true, _root_.and_false, _root_.false_and, read_writes_one, View.writes_nil, overlay_full, View.readAt_eq_ld, readCov_full_piece, View.readCov_cons_toLoadRect, ld_full, outV, gS, uS]); (try with_reducible rfl); (try rfl)

end Cert.Kernel2Ideal.Up
-- ==== Proof.UpCast.lean ====
module

public import proofs.«01_k».proof.Proof.UpBody
public import Idealize.ShloMosaic.Lib.Pipeline.ValueKit
public import Idealize.ShloMosaic.Lib.ValueLayout

@[expose] public section

set_option maxRecDepth 16384

noncomputable section

namespace Cert.Kernel2Ideal.Up

open Cert.Kernel2Ideal Cert.Kernel2Ideal.Gen
open Idealize.ShloMosaic

variable {F : FTy → Type} [FloatOps F]

/-! ## The weights cast chunk by chunk are the weights cast whole -/

/-- An expert's weights at the narrower type, as a matrix. -/
def castW (X : Vec F S1x1x4096x512 .f32) : Vec F S4096x512 .bf16 :=
  fun y => FloatOps.truncf .bf16 bitsLt_bf16_f32 (X (ix4 (n0 := 1) (n1 := 1) (n2 := 4096) (n3 := 512) 0 0 (y 0) (y 1)))

theorem chunk_apply (o : ℕ) (inb : ∀ a, (![0, 0, o, 0] : Fin 4 → ℕ) a + S1x1x512x512.size a ≤ S1x1x4096x512.size a)
    (inb' : ∀ a, (![o, 0] : Fin 2 → ℕ) a + S512x512.size a ≤ S4096x512.size a) (X : Vec F S1x1x4096x512 .f32) (x : S512x512.Idx) :
    shapeCast S512x512 (truncf (F := F) .bf16 (shapeCast S512x512
        (View.ld (Val := Elt F) X (Rect.unit (s := S1x1x4096x512) ![0, 0, o, 0] S1x1x512x512.size inb)) shapeCasts_S1x1x512x512_S512x512) bitsLt_bf16_f32)
      shapeCasts_S512x512_S512x512 x
      = castW X ((Rect.unit (s := S4096x512) ![o, 0] S512x512.size inb').emb x) := by
  rw [shapeCast_self]
  obtain ⟨a, b, rfl⟩ : ∃ a b, x = ix2 a b := ⟨_, _, eq_ix2 (n0 := 512) (n1 := 512) x⟩
  show FloatOps.truncf .bf16 bitsLt_bf16_f32 (shapeCast (α := F .f32) S512x512 _ shapeCasts_S1x1x512x512_S512x512 (ix2 a b)) = _
  have e := shapeCast_apply (View.ld (Val := Elt F) X (Rect.unit (s := S1x1x4096x512) ![0, 0, o, 0] S1x1x512x512.size inb))
    shapeCasts_S1x1x512x512_S512x512 (ix2 a b) (ix4 (n0 := 1) (n1 := 1) (n2 := 512) (n3 := 512) 0 0 a b) (by
      rw [Shape.rowMajor_val_four, Shape.rowMajor_val_two]
      show ((0 * 1 + 0) * 512 + a.val) * 512 + b.val = a.val * 512 + b.val
      omega)
  refine (congrArg _ e).trans ?_
  unfold castW
  refine congrArg (fun z => FloatOps.truncf .bf16 bitsLt_bf16_f32 (X z)) ?_
  funext k
  apply Fin.ext
  fin_cases k
  · rfl
  · rfl
  · rfl
  · rfl

theorem agree_step (C : Vec F S4096x512 .bf16) (o : ℕ) (inb : ∀ a, (![o, 0] : Fin 2 → ℕ) a + S512x512.size a ≤ S4096x512.size a)
    (f : Vec F S4096x512 .bf16) (w : S512x512.Idx → Elt F .bf16) (h : ∀ y : S4096x512.Idx, (y 0).val < o → f y = C y)
    (hw : ∀ x, w x = C ((Rect.unit (s := S4096x512) ![o, 0] S512x512.size inb).emb x)) (y : S4096x512.Idx) (hy : (y 0).val < o + 512) :
    (Rect.unit (s := S4096x512) ![o, 0] S512x512.size inb).overlay f w y = C y := by
  by_cases hm : y ∈ (Rect.unit (s := S4096x512) ![o, 0] S512x512.size inb).set
  · obtain ⟨x, rfl⟩ := (Rect.unit (s := S4096x512) ![o, 0] S512x512.size inb).exists_idx_of_mem hm
    exact ((Rect.unit (s := S4096x512) ![o, 0] S512x512.size inb).overlay_emb f w x).trans (hw x)
  · refine ((Rect.unit (s := S4096x512) ![o, 0] S512x512.size inb).overlay_of_not_mem f w hm).trans (h y ?_)
    by_contra hlt
    refine hm (Rect.mem_set_unit.mpr fun a => ?_)
    fin_cases a
    · exact ⟨Nat.le_of_not_lt hlt, hy⟩
    · exact ⟨Nat.zero_le _, by show (y 1).val < 0 + 512; rw [Nat.zero_add]; exact (y 1).isLt⟩

theorem gN_eq (X : Vec F S1x1x4096x512 .f32) (S : Vec F S4096x512 .bf16) : gN X S = castW X := by
  funext y
  refine agree_step (castW X) 3584 _ _ _ ?_ (fun x => chunk_apply 3584 _ _ X x) y (y 0).isLt
  refine agree_step (castW X) 3072 _ _ _ ?_ (fun x => chunk_apply 3072 _ _ X x)
  refine agree_step (castW X) 2560 _ _ _ ?_ (fun x => chunk_apply 2560 _ _ X x)
  refine agree_step (castW X) 2048 _ _ _ ?_ (fun x => chunk_apply 2048 _ _ X x)
  refine agree_step (castW X) 1536 _ _ _ ?_ (fun x => chunk_apply 1536 _ _ X x)
  refine agree_step (castW X) 1024 _ _ _ ?_ (fun x => chunk_apply 1024 _ _ X x)
  refine agree_step (castW X) 512 _ _ _ ?_ (fun x => chunk_apply 512 _ _ X x)
  refine agree_step (castW X) 0 _ _ _ ?_ (fun x => chunk_apply 0 _ _ X x)
  exact fun y hy => absurd hy (Nat.not_lt_zero _)

theorem uN_eq (X : Vec F S1x1x4096x512 .f32) (S : Vec F S4096x512 .bf16) : uN X S = castW X := by
  funext y
  refine agree_step (castW X) 3584 _ _ _ ?_ (fun x => chunk_apply 3584 _ _ X x) y (y 0).isLt
  refine agree_step (castW X) 3072 _ _ _ ?_ (fun x => chunk_apply 3072 _ _ X x)
  refine agree_step (castW X) 2560 _ _ _ ?_ (fun x => chunk_apply 2560 _ _ X x)
  refine agree_step (castW X) 2048 _ _ _ ?_ (fun x => chunk_apply 2048 _ _ X x)
  refine agree_step (castW X) 1536 _ _ _ ?_ (fun x => chunk_apply 1536 _ _ X x)
  refine agree_step (castW X) 1024 _ _ _ ?_ (fun x => chunk_apply 1024 _ _ X x)
  refine agree_step (castW X) 512 _ _ _ ?_ (fun x => chunk_apply 512 _ _ X x)
  refine agree_step (castW X) 0 _ _ _ ?_ (fun x => chunk_apply 0 _ _ X x)
  exact fun y hy => absurd hy (Nat.not_lt_zero _)

end Cert.Kernel2Ideal.Up

end
-- ==== Proof.UpGood.lean ====
module

public import proofs.«01_k».proof.Proof.UpCast
public import Idealize.ShloMosaic.Lib.WordCmp
public import Idealize.ShloMosaic.Lib.WordArith
public import Idealize.ShloMosaic.Lib.Affine

@[expose] public section

set_option maxRecDepth 16384

noncomputable section

namespace Cert.Kernel2Ideal.Up

open Cert.Kernel2Ideal Cert.Kernel2Ideal.Gen
open Idealize.ShloMosaic

variable {F : FTy → Type} [FloatOps F]

/-! ## What the three tables say -/

/-- The tables of a call: `nt` tiles have rows, tile `j`'s weights are expert `te j`'s, and a tile with rows that is not
    marked first has the weights of the tile before it. -/
structure Good (pf : pre0.Contents (Elt F)) (nt : ℕ) (te : ℕ → ℕ) : Prop where
  pos : 1 ≤ nt
  lt : nt < 2 ^ 31
  te_lt : ∀ j, te j < 32
  n : ∀ x, (pf 2 : IVec S1 32) x = BitVec.ofNat 32 nt
  c : ∀ x : S97.Idx, (pf 0 : IVec S97 32) x = BitVec.ofNat 32 (te (x 0).val)
  f : ∀ x : S97.Idx, (x 0).val < nt → (pf 1 : IVec S97 32) x ≠ 1#32 → 0 < (x 0).val ∧ te (x 0).val = te ((x 0).val - 1)

/-- The count of tiles and a tile's mark, as the body reads them. -/
abbrev ntw (pf : pre0.Contents (Elt F)) : BitVec 32 := word4 (F := F) (Memref.whole main_v0) (pf 2)
abbrev fw (pf : pre0.Contents (Elt F)) (i : grid0.Coords) : BitVec 32 := word3 (F := F) (Memref.whole main_v16) i (pf 1)

theorem i1_lt (i : grid0.Coords) : (i 1).val < 97 := (i 1).isLt
theorem i0_lt (i : grid0.Coords) : (i 0).val < 2 := (i 0).isLt

theorem entry_val (i : grid0.Coords) :
    ((Rect.unit (s := S97) (k0_off1 i) S1.size (k0_off1_inb i)).emb (Shape.Idx.first (show 0 < S1.numel from numel1_S1.symm ▸ Nat.one_pos)) 0 : ℕ) = (i 1).val := by
  rw [Rect.emb_apply]
  have e : k0_off1 i 0 = (i 1).val := by rw [k0_off1_eq i]; rfl
  show k0_off1 i 0 + 1 * 0 = _
  omega

section
variable {pf : pre0.Contents (Elt F)} {nt : ℕ} {te : ℕ → ℕ} (G : Good pf nt te)
include G

theorem ntw_eq : ntw pf = BitVec.ofNat 32 nt := G.n _

theorem act_iff (i : grid0.Coords) : act i (ntw pf) ↔ (i 1).val < nt := by
  rw [ntw_eq G]
  exact WordCmp.cmpi_slt_ofNat_eq_one_iff (w := 32) (by have := i1_lt i; omega) G.lt

theorem not_fst (i : grid0.Coords) (ha : act i (ntw pf)) (hf : ¬ fst (fw pf i)) :
    0 < (i 1).val ∧ te (i 1).val = te ((i 1).val - 1) := by
  have hx := entry_val i
  have h := G.f ((Rect.unit (s := S97) (k0_off1 i) S1.size (k0_off1_inb i)).emb (Shape.Idx.first (show 0 < S1.numel from numel1_S1.symm ▸ Nat.one_pos)))
  rw [hx] at h
  refine h ((act_iff G i).mp ha) fun e => hf ?_
  refine (congrArg (fun z => Scalar.cmpi .eq z 1#32) (show fw pf i = 1#32 from e)).trans ?_
  decide

theorem tr0 (i : grid0.Coords) : cc0_transform_0 inb_S1_S1_0 numel1_S1 pf i = ![min (i 1).val (nt - 1), 0] := by
  have h1 := i1_lt i
  have hp := G.pos
  have hl := G.lt
  have e : (Scalar.minsi (BitVec.ofNat 32 (i 1).val) (Scalar.subi (BitVec.ofNat 32 nt) 1#32)).toNat = min (i 1).val (nt - 1) := by
    have e1 : Scalar.subi (BitVec.ofNat 32 nt) 1#32 = BitVec.ofNat 32 (nt - 1) := by
      apply BitVec.eq_of_toNat_eq
      show (BitVec.ofNat 32 nt - 1#32).toNat = _
      rw [BitVec.toNat_sub, BitVec.toNat_ofNat, BitVec.toNat_ofNat]
      rw [BitVec.toNat_ofNat]
      show (2 ^ 32 - 1 % 2 ^ 32 + nt % 2 ^ 32) % 2 ^ 32 = _
      omega
    rw [e1]
    refine (WordArith.toNat_minsi_of_lt _ _ ?_ ?_).trans ?_ <;> simp only [BitVec.toNat_ofNat]
    · omega
    · omega
    · rw [Nat.mod_eq_of_lt (by omega), Nat.mod_eq_of_lt (by omega)]
  unfold cc0_transform_0
  have en : pf.at 2 (Rect.unit (s := S1) ![0] S1.size inb_S1_S1_0) numel1_S1 = BitVec.ofNat 32 nt := G.n _
  rw [en]
  funext a
  fin_cases a
  · exact e
  · rfl

theorem tr1 (i : grid0.Coords) : cc0_transform_1 inb_S1_S1_0 numel1_S1 pf i = ![min (i 1).val (nt - 1), 0] := tr0 G i

theorem tr2 (i : grid0.Coords) : cc0_transform_2 k0_off1_inb numel1_S1 pf i = ![0, te (i 1).val, 0, (i 0).val] := by
  have h1 := i1_lt i
  have h0 := i0_lt i
  have hx := entry_val i
  have ec := G.c ((Rect.unit (s := S97) (k0_off1 i) S1.size (k0_off1_inb i)).emb (Shape.Idx.first (show 0 < S1.numel from numel1_S1.symm ▸ Nat.one_pos)))
  rw [hx] at ec
  have ht := G.te_lt (i 1).val
  funext a
  fin_cases a
  · rfl
  · show (pf.at 0 (Rect.unit (s := S97) (k0_off1 i) S1.size (k0_off1_inb i)) numel1_S1 : BitVec 32).toNat = te (i 1).val
    refine (congrArg BitVec.toNat ec).trans ?_
    rw [BitVec.toNat_ofNat]; omega
  · rfl
  · show (BitVec.ofNat 32 (i 0).val).toNat = (i 0).val
    rw [BitVec.toNat_ofNat]; omega

theorem tr3 (i : grid0.Coords) : cc0_transform_3 k0_off1_inb numel1_S1 pf i = ![0, te (i 1).val, 0, (i 0).val] := tr2 G i

theorem ok_of : ok0 pf := by
  have hb0 : ∀ i : grid0.Coords, ∀ a, (cc0_transform_0 inb_S1_S1_0 numel1_S1 pf i a + 1) * S256x4096.size a ≤ S24832x4096.size a := fun i a => by
    rw [tr0 G i]; have := i1_lt i
    fin_cases a
    · show (min (i 1).val (nt - 1) + 1) * 256 ≤ 24832; omega
    · show (0 + 1) * 4096 ≤ 4096; omega
  have hb1 : ∀ i : grid0.Coords, ∀ a, (cc0_transform_1 inb_S1_S1_0 numel1_S1 pf i a + 1) * S256x1.size a ≤ S24832x1.size a := fun i a => by
    rw [tr1 G i]; have := i1_lt i
    fin_cases a
    · show (min (i 1).val (nt - 1) + 1) * 256 ≤ 24832; omega
    · show (0 + 1) * 1 ≤ 1; omega
  have hb2 : ∀ i : grid0.Coords, ∀ a, (cc0_transform_2 k0_off1_inb numel1_S1 pf i a + 1) * S1x1x4096x512.size a ≤ S2x32x4096x1024.size a := fun i a => by
    rw [tr2 G i]; have := i0_lt i; have := G.te_lt (i 1).val
    fin_cases a
    · show (0 + 1) * 1 ≤ 2; omega
    · show (te (i 1).val + 1) * 1 ≤ 32; omega
    · show (0 + 1) * 4096 ≤ 4096; omega
    · show ((i 0).val + 1) * 512 ≤ 1024; omega
  exact ⟨fun i => ⟨hb0 i, .inr (Affine.block_words_dvd (of_decide_eq_true rfl) (by decide))⟩, fun i => ⟨hb1 i, .inl rfl⟩,
    fun i => ⟨hb2 i, .inl rfl⟩, fun i => ⟨hb2 i, .inl rfl⟩⟩

/-- The output block is stored at every tile. -/
theorem idle4 (i : grid0.Coords) : idle0 pf 4 i = false := by
  have h1 := c1_iff i (pf.atD 2 ![0]) (pf.atD 1 (k0_off1 i))
  have h2 := c2_iff i (pf.atD 2 ![0]) (pf.atD 1 (k0_off1 i))
  have h3 := c3_iff i (pf.atD 2 ![0])
  show (!(k0_cond1 i (pf.atD 2 ![0]) (pf.atD 1 (k0_off1 i)) == 1#1) && !(k0_cond2 i (pf.atD 2 ![0]) (pf.atD 1 (k0_off1 i)) == 1#1) && !(k0_cond3 i (pf.atD 2 ![0]) == 1#1)) = false
  by_cases ha : act i (pf.atD 2 ![0])
  · by_cases hf : fst (pf.atD 1 (k0_off1 i))
    · rw [h1.mpr ⟨ha, hf⟩]; rfl
    · rw [h2.mpr ⟨ha, hf⟩]; simp only [beq_self_eq_true, Bool.not_true, Bool.and_false, Bool.false_and]
  · rw [h3.mpr ha]; simp only [beq_self_eq_true, Bool.not_true, Bool.and_false]

end

end Cert.Kernel2Ideal.Up

end
-- ==== Proof.UpRun.lean ====
module

public import proofs.«01_k».proof.Proof.UpGood
public import Idealize.ShloMosaic.Lib.Pipeline.ArrRel
public import Idealize.ShloMosaic.Lib.Pipeline.DatRel
public import Idealize.ShloMosaic.Lib.Pipeline.FrameBody

@[expose] public section

set_option maxRecDepth 16384

noncomputable section

namespace Cert.Kernel2Ideal.Up

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the call is entered -/

/-- A core's buffers after the host operations. -/
abbrev V (c : Dev nD) (b : Ref sig .tc) : Buf (Elt F) ((c : Thread nD τ).loc b) :=
  StableHlo.after hostOps0 (fun b => m (c, b)) b

theorem host_fresh : (hostOps0 : List (HloOp τ sig (Elt F))).Forall fun op => op.fresh = ∅ := by
  simp only [List.Forall]; repeat' constructor

set_option maxHeartbeats 800000 in
theorem hmain : Pipeline.HMainP (Ix := Unit) (Name := ℕ) (U := UR sig nD τ) (Lvl := ℕ) pcfgs 0 defs₀ Variants.none m (main (F := F)) (V m) :=
  Pipeline.hmainP_prefix pcfgs 0 defs₀ Variants.none m main hostOps0 hostOps0_sub host_fresh main_chain

theorem keep_of (c : Dev nD) (b : Ref sig .tc)
    (h : (hostOps0 : List (HloOp τ sig (Elt F))).Forall fun op => Proc.devRef (τ := τ) .tc b ∉ op.writes) : V m c b = m ((c : Thread nD τ).loc b) :=
  StableHlo.after_of_forall_not_mem (b := Proc.devRef .tc b) _ _ (List.forall_iff_forall_mem.mp h)

theorem V_main_arg0 (c : Dev nD) : V m c main_arg0 = m ((c : Thread nD τ).loc main_arg0) :=
  keep_of m c main_arg0 (by
    simp only [hostOps0, List.Forall, StableHlo.nullary_writes, StableHlo.unary_writes, StableHlo.binary_writes, Finset.mem_singleton]
    repeat' apply And.intro
    all_goals exact StableHlo.devRef_ne_of_ne (by decide))
theorem V_main_arg1 (c : Dev nD) : V m c main_arg1 = m ((c : Thread nD τ).loc main_arg1) :=
  keep_of m c main_arg1 (by
    simp only [hostOps0, List.Forall, StableHlo.nullary_writes, StableHlo.unary_writes, StableHlo.binary_writes, Finset.mem_singleton]
    repeat' apply And.intro
    all_goals exact StableHlo.devRef_ne_of_ne (by decide))
theorem V_main_arg2 (c : Dev nD) : V m c main_arg2 = m ((c : Thread nD τ).loc main_arg2) :=
  keep_of m c main_arg2 (by
    simp only [hostOps0, List.Forall, StableHlo.nullary_writes, StableHlo.unary_writes, StableHlo.binary_writes, Finset.mem_singleton]
    repeat' apply And.intro
    all_goals exact StableHlo.devRef_ne_of_ne (by decide))
theorem V_main_arg3 (c : Dev nD) : V m c main_arg3 = m ((c : Thread nD τ).loc main_arg3) :=
  keep_of m c main_arg3 (by
    simp only [hostOps0, List.Forall, StableHlo.nullary_writes, StableHlo.unary_writes, StableHlo.binary_writes, Finset.mem_singleton]
    repeat' apply And.intro
    all_goals exact StableHlo.devRef_ne_of_ne (by decide))
theorem V_main_arg4 (c : Dev nD) : V m c main_arg4 = m ((c : Thread nD τ).loc main_arg4) :=
  keep_of m c main_arg4 (by
    simp only [hostOps0, List.Forall, StableHlo.nullary_writes, StableHlo.unary_writes, StableHlo.binary_writes, Finset.mem_singleton]
    repeat' apply And.intro
    all_goals exact StableHlo.devRef_ne_of_ne (by decide))

/-- The three tables at entry. -/
abbrev tbl : pre0.Contents (Elt F) := fun j => V m (0 : Dev nD) (pre0.ref j)

theorem V_pre (c : Dev nD) (j : Fin 3) : V m c (pre0.ref j) = tbl m j := by
  obtain rfl : c = 0 := Subsingleton.elim _ _; rfl

/-! ## Facts of the grid's points -/

theorem co0 : ∀ t : Fin grid0.N, (grid0.coords t 0).val = t.val / 97 := by decide +kernel
theorem co1 : ∀ t : Fin grid0.N, (grid0.coords t 1).val = t.val % 97 := by decide +kernel

section
variable {pf : pre0.Contents (Elt F)} (W : (c : Dev nD) → (b : Ref sig .tc) → Buf (Elt F) ((c : Thread nD τ).loc b)) {nt : ℕ} {te : ℕ → ℕ} (hG : Good pf nt te)

abbrev adm (hG : Good pf nt te) : (p : Fin 1) → (pcfgs (F := F) p).Adm := fun _ => ⟨pf, ok_of hG⟩
abbrev cfgM (hG : Good pf nt te) : Pipeline.Cfg sig Λ₀ := Pipeline.pin (pcfgs (F := F)) (adm hG) 0

/-- A window's block at a point, read off its array at entry. -/
def iblk (c : Dev nD) (w : Fin (cfgM hG).W) (t : Fin (cfgM hG).N) :
    (((cfgM hG).win w).xblock ((cfgM hG).grid.coords t)).Idx → Elt F ((cfgM hG).win w).elt :=
  (((cfgM hG).win w).blk t).view.read (Elt F) (W c (Pipeline.arrRef spec0 w))

abbrev blk0 (c : Dev nD) (t : Fin (cfgM hG).N) : Vec F S256x4096 .bf16 := iblk W hG c 0 t
abbrev blk1 (c : Dev nD) (t : Fin (cfgM hG).N) : Vec F S256x1 .f32 := iblk W hG c 1 t
abbrev blk2 (c : Dev nD) (t : Fin (cfgM hG).N) : Vec F S1x1x4096x512 .f32 := iblk W hG c 2 t
abbrev blk3 (c : Dev nD) (t : Fin (cfgM hG).N) : Vec F S1x1x4096x512 .f32 := iblk W hG c 3 t

theorem idx0 (t : Fin (cfgM hG).N) : ((cfgM hG).win 0).index t = ![min (t.val % 97) (nt - 1), 0] := by
  have h := tr0 hG (grid0.coords t); rw [co1 t] at h; exact h
theorem idx1 (t : Fin (cfgM hG).N) : ((cfgM hG).win 1).index t = ![min (t.val % 97) (nt - 1), 0] := by
  have h := tr1 hG (grid0.coords t); rw [co1 t] at h; exact h
theorem idx2 (t : Fin (cfgM hG).N) : ((cfgM hG).win 2).index t = ![0, te (t.val % 97), 0, t.val / 97] := by
  have h := tr2 hG (grid0.coords t); rw [co1 t, co0 t] at h; exact h
theorem idx3 (t : Fin (cfgM hG).N) : ((cfgM hG).win 3).index t = ![0, te (t.val % 97), 0, t.val / 97] := by
  have h := tr3 hG (grid0.coords t); rw [co1 t, co0 t] at h; exact h

/-- What each block holds, by the array's elements. -/
theorem blk0_apply (c : Dev nD) (t : Fin (cfgM hG).N) (a : Fin 256) (b : Fin 4096) :
    blk0 W hG c t (ix2 a b) = W c main_arg0 (ix2 (n0 := 24832) (n1 := 4096) ⟨min (t.val % 97) (nt - 1) * 256 + a.val, by have := a.isLt; omega⟩ b) := by
  show W c main_arg0 _ = W c main_arg0 _
  blk_ext [iblk, idx0 hG t]
theorem blk1_apply (c : Dev nD) (t : Fin (cfgM hG).N) (a : Fin 256) (b : Fin 1) :
    blk1 W hG c t (ix2 a b) = W c main_arg1 (ix2 (n0 := 24832) (n1 := 1) ⟨min (t.val % 97) (nt - 1) * 256 + a.val, by have := a.isLt; omega⟩ b) := by
  show W c main_arg1 _ = W c main_arg1 _
  blk_ext [iblk, idx1 hG t]

theorem blk2_apply (c : Dev nD) (t : Fin (cfgM hG).N) (a : Fin 4096) (b : Fin 512) :
    blk2 W hG c t (ix4 0 0 a b) = W c main_arg2 (ix4 (n0 := 2) (n1 := 32) (n2 := 4096) (n3 := 1024) 0 ⟨te (t.val % 97), hG.te_lt _⟩ a ⟨t.val / 97 * 512 + b.val, by have := b.isLt; have : t.val < 194 := t.isLt; omega⟩) := by
  show W c main_arg2 _ = W c main_arg2 _
  blk_ext [iblk, idx2 hG t]
theorem blk3_apply (c : Dev nD) (t : Fin (cfgM hG).N) (a : Fin 4096) (b : Fin 512) :
    blk3 W hG c t (ix4 0 0 a b) = W c main_arg3 (ix4 (n0 := 2) (n1 := 32) (n2 := 4096) (n3 := 1024) 0 ⟨te (t.val % 97), hG.te_lt _⟩ a ⟨t.val / 97 * 512 + b.val, by have := b.isLt; have : t.val < 194 := t.isLt; omega⟩) := by
  show W c main_arg3 _ = W c main_arg3 _
  blk_ext [iblk, idx3 hG t]

/-- Two tiles of one expert and one half of the columns have the same weights, cast. -/
theorem weights_keep (c : Dev nD) (t u : Fin (cfgM hG).N) (h : t.val / 97 = u.val / 97) (he : te (t.val % 97) = te (u.val % 97)) :
    castW (blk2 W hG c t) = castW (blk2 W hG c u) ∧ castW (blk3 W hG c t) = castW (blk3 W hG c u) := by
  constructor <;> funext y <;> unfold castW <;> refine congrArg _ ?_
  · refine (blk2_apply W hG c t (y 0) (y 1)).trans (Eq.trans ?_ (blk2_apply W hG c u (y 0) (y 1)).symm)
    refine congrArg _ ?_
    funext k; apply Fin.ext; fin_cases k
    · rfl
    · exact he
    · rfl
    · show t.val / 97 * 512 + _ = u.val / 97 * 512 + _; rw [h]
  · refine (blk3_apply W hG c t (y 0) (y 1)).trans (Eq.trans ?_ (blk3_apply W hG c u (y 0) (y 1)).symm)
    refine congrArg _ ?_
    funext k; apply Fin.ext; fin_cases k
    · rfl
    · exact he
    · rfl
    · show t.val / 97 * 512 + _ = u.val / 97 * 512 + _; rw [h]

/-! ## What the scratch buffers hold between tiles -/

/-- Before point `n`: the cast weights of the tile just done, if it had rows. -/
def Inv (c : Dev nD) (n : ℕ) (A B : Vec F S4096x512 .bf16) : Prop :=
  ∀ u : Fin (cfgM hG).N, u.val + 1 = n → act (grid0.coords u) (ntw pf) →
    A = castW (blk2 W hG c u) ∧ B = castW (blk3 W hG c u)

/-- What the body stores at a point. -/
def outP (c : Dev nD) (t : Fin (cfgM hG).N) : Vec F S256x512 .bf16 :=
  outV (grid0.coords t) (ntw pf) (fw pf (grid0.coords t)) (blk0 W hG c t) (blk1 W hG c t) (blk2 W hG c t) (blk3 W hG c t)
    (castW (blk2 W hG c t)) (castW (blk3 W hG c t))

theorem held_at {c : Dev nD} {t : Fin (cfgM hG).N} {A B : Vec F S4096x512 .bf16} (hI : Inv W hG c t.val A B)
    (ha : act (grid0.coords t) (ntw pf)) (hf : ¬ fst (fw pf (grid0.coords t))) :
    A = castW (blk2 W hG c t) ∧ B = castW (blk3 W hG c t) := by
  have hN : t.val < 194 := t.isLt
  have h := not_fst hG _ ha hf
  have hn := (act_iff hG _).mp ha
  rw [co1 t] at h hn
  have hp : t.val - 1 < (cfgM hG).N := by show t.val - 1 < 194; omega
  have hu : act (grid0.coords ⟨t.val - 1, hp⟩) (ntw pf) := (act_iff hG _).mpr (by
    rw [co1]; show (t.val - 1) % 97 < nt; omega)
  have hk := hI ⟨t.val - 1, hp⟩ (by show t.val - 1 + 1 = t.val; omega) hu
  have hw := weights_keep W hG c t ⟨t.val - 1, hp⟩ (by show t.val / 97 = (t.val - 1) / 97; omega) (by
    show te (t.val % 97) = te ((t.val - 1) % 97)
    rw [show (t.val - 1) % 97 = t.val % 97 - 1 by omega]; exact h.2)
  exact ⟨hk.1.trans hw.1.symm, hk.2.trans hw.2.symm⟩

section Step
variable {c : Dev nD} {t : Fin (cfgM hG).N} {A B : Vec F S4096x512 .bf16} (hI : Inv W hG c t.val A B)
include hI

theorem out_at : outV (grid0.coords t) (ntw pf) (fw pf (grid0.coords t)) (blk0 W hG c t) (blk1 W hG c t) (blk2 W hG c t) (blk3 W hG c t) A B
    = outP W hG c t := by
  unfold outP outV
  by_cases ha : act (grid0.coords t) (ntw pf)
  · by_cases hf : fst (fw pf (grid0.coords t))
    · simp only [if_pos ha, if_pos hf]
    · have h := held_at W hG hI ha hf
      rw [h.1, h.2]
  · simp only [if_neg ha]

theorem inv_next : Inv W hG c (t.val + 1) (gS (grid0.coords t) (ntw pf) (fw pf (grid0.coords t)) (blk2 W hG c t) A)
    (uS (grid0.coords t) (ntw pf) (fw pf (grid0.coords t)) (blk3 W hG c t) B) := fun u hu ha => by
  obtain rfl : u = t := Fin.ext (by omega)
  unfold gS uS
  by_cases hf : fst (fw pf (grid0.coords u))
  · simp only [if_pos (And.intro ha hf)]
    exact ⟨gN_eq _ _, uN_eq _ _⟩
  · have hn : ¬ (act (grid0.coords u) (ntw pf) ∧ fst (fw pf (grid0.coords u))) := fun h => hf h.2
    simp only [if_neg hn]
    exact held_at W hG hI ha hf

end Step

/-! ## The proof data -/

abbrev tbPt0 (c : Dev nD) (f : IVec S97 32) : sProp 𝕄 := (Memref.whole main_v29).view.loc (c : Thread nD τ) ↦{fullShare.right} f
abbrev tbPt1 (c : Dev nD) (f : IVec S97 32) : sProp 𝕄 := (Memref.whole main_v16).view.loc (c : Thread nD τ) ↦{fullShare.right} f
abbrev tbPt2 (c : Dev nD) (f : IVec S1 32) : sProp 𝕄 := (Memref.whole main_v0).view.loc (c : Thread nD τ) ↦{fullShare.right} f

theorem PhiT_eq (pf : pre0.Contents (Elt F)) (c : Dev nD) :
    (Pipeline.ΦT pre0 pf c : sProp 𝕄) = iprop(tbPt0 c (pf 0) ∗ tbPt1 c (pf 1) ∗ tbPt2 c (pf 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-- The scratch buffers at contents the invariant describes, the tables, and the generator register. -/
def PhiAt (c : Dev nD) (n : ℕ) : sProp 𝕄 :=
  iprop(∃ A B, ⌜Inv W hG c n A B⌝ ∗ owns (c : Thread nD τ) (Memref.whole cc0_scratch0) fullShare A
    ∗ owns (c : Thread nD τ) (Memref.whole cc0_scratch1) fullShare B
    ∗ (tbPt0 c (pf 0) ∗ tbPt1 c (pf 1) ∗ tbPt2 c (pf 2)) ∗ ∃ r, prngReg c r)

def dats (p : Fin 1) (c : Dev nD) : Dat τ (Elt F) Unit ℕ (UR sig nD τ) ℕ (Pipeline.pin (pcfgs (F := F)) (adm hG) p) c where
  A w := W c (Pipeline.arrRef spec0 w)
  after := fun | 0 => iblk W hG c 0 | 1 => iblk W hG c 1 | 2 => iblk W hG c 2 | 3 => iblk W hG c 3 | 4 => fun t => outP W hG c t | ⟨_ + 5, h⟩ => absurd h (Nat.not_lt.2 (Nat.le_add_left _ _))
  Φ n := PhiAt W hG c n.val
  q w := fullShare
  owed _ := 0

abbrev dat0 (c : Dev nD) : Dat τ (Elt F) Unit ℕ (UR sig nD τ) ℕ (cfgM hG) c := dats W hG 0 c

theorem A_eq (c : Dev nD) (w : Fin (cfgM hG).W) : (dat0 W hG c).A w = W c (Pipeline.arrRef spec0 w) := rfl

theorem before_0 (c : Dev nD) (t : Fin (cfgM hG).N) (d) : (dat0 W hG c).before 0 t d = iblk W hG c 0 t :=
  ((dat0 W hG c).before_in_eq_fetched 0 rfl (fun _ => rfl) (fun _ _ _ => rfl) (fun t => rfl) t d).trans rfl
theorem before_1 (c : Dev nD) (t : Fin (cfgM hG).N) (d) : (dat0 W hG c).before 1 t d = iblk W hG c 1 t :=
  ((dat0 W hG c).before_in_eq_fetched 1 rfl (fun _ => rfl) (fun _ _ _ => rfl) (fun t => rfl) t d).trans rfl
theorem before_2 (c : Dev nD) (t : Fin (cfgM hG).N) (d) : (dat0 W hG c).before 2 t d = iblk W hG c 2 t :=
  ((dat0 W hG c).before_in_eq_fetched 2 rfl (fun _ => rfl) (fun _ _ _ => rfl) (fun t => rfl) t d).trans rfl
theorem before_3 (c : Dev nD) (t : Fin (cfgM hG).N) (d) : (dat0 W hG c).before 3 t d = iblk W hG c 3 t :=
  ((dat0 W hG c).before_in_eq_fetched 3 rfl (fun _ => rfl) (fun _ _ _ => rfl) (fun t => rfl) t d).trans rfl

end

end Cert.Kernel2Ideal.Up

end
-- ==== Proof.UpTables.lean ====
module

public import proofs.«01_k».proof.Proof.UpRun
public import Idealize.ShloMosaic.Lib.StableHlo.Predicate
public import Idealize.ShloMosaic.Lib.WordArith

/-! The tables the host prepares for the up projection, in terms of the experts' last tiles. -/

@[expose] public section

set_option maxRecDepth 16384

noncomputable section

namespace Cert.Kernel2Ideal.Up

open Cert.Kernel2Ideal Cert.Kernel2Ideal.Gen
open Idealize.ShloMosaic Idealize.ShloMosaic.TcCoe Idealize.ShloMosaic.Tactic
open Idealize.ShloMosaic.StableHlo Idealize.ShloMosaic.StableHlo.Predicate

variable {F : FTy → Type} [FloatOps F]

/-- The number of experts whose last tile is at or before the tile numbered `w`. -/
def cnt (e : IVec ⟨1, ![32]⟩ 32) (w : BitVec 32) : ℕ :=
  (Finset.univ.filter fun q : Fin 32 => IntOp.cmpi .sle (e (Shape.Idx.ofFin q)) w = 1#1).card

theorem cnt_le (e : IVec ⟨1, ![32]⟩ 32) (w : BitVec 32) : cnt e w ≤ 32 :=
  (Finset.card_le_univ _).trans (by simp)

/-- The count as the host spells it. -/
theorem count_eq {n : ℕ} (h₁ : (⟨1, ![32]⟩ : Shape).BroadcastsInDim ⟨2, ![1, 32]⟩ ![1]) (h₂ : (⟨2, ![1, 32]⟩ : Shape).BroadcastsInDim ⟨2, ![n, 32]⟩ ![0, 1])
    (h₃ : (⟨1, ![n]⟩ : Shape).BroadcastsInDim ⟨2, ![n, 1]⟩ ![0]) (h₄ : (⟨2, ![n, 1]⟩ : Shape).BroadcastsInDim ⟨2, ![n, 32]⟩ ![0, 1])
    (hw : 1 < 32) (h : (⟨2, ![n, 32]⟩ : Shape).ReducesTo [1] ⟨1, ![n]⟩) {u : Shape} (hu : 0 < u.numel)
    (e : IVec ⟨1, ![32]⟩ 32) (v : IVec ⟨1, ![n]⟩ 32) (p : Fin n) :
    (Host.reduce IntOp.addi (extui 32 (cmpi .sle (broadcastInDim ⟨2, ![n, 32]⟩ ![0, 1] h₂ (broadcastInDim ⟨2, ![1, 32]⟩ ![1] h₁ e))
      (broadcastInDim ⟨2, ![n, 32]⟩ ![0, 1] h₄ (broadcastInDim ⟨2, ![n, 1]⟩ ![0] h₃ v))) hw) (constantI u 32 0#32) h hu (Shape.Idx.ofFin p)).toNat
      = cnt e (v (Shape.Idx.ofFin p)) := by
  rw [toNat_reduce_count_cols (by decide)]
  unfold cnt
  refine congrArg Finset.card (Finset.filter_congr fun q _ => ?_)
  show IntOp.cmpi .sle (broadcastInDim ⟨2, ![n, 32]⟩ ![0, 1] h₂ (broadcastInDim ⟨2, ![1, 32]⟩ ![1] h₁ e) (ij p q))
    (broadcastInDim ⟨2, ![n, 32]⟩ ![0, 1] h₄ (broadcastInDim ⟨2, ![n, 1]⟩ ![0] h₃ v) (ij p q)) = 1#1 ↔ _
  rw [bcast_cols, bcast_rows]

variable (m : (ℓ : Loc nD τ sig) → Buf (Elt F) ℓ)

abbrev ends (c : Dev nD) : IVec S32 32 := m ((c : Thread nD τ).loc main_arg4)

def rawW (e : IVec S32 32) (v : IVec S97 32) : IVec S97 32 :=
  minsi (Host.reduce IntOp.addi (extui 32 (cmpi .sle (broadcastInDim S97x32 ![0, 1] bcast_S1x32_S97x32_0_1 (broadcastInDim S1x32 ![1] bcast_S32_S1x32_1 e))
      (broadcastInDim S97x32 ![0, 1] bcast_S97x1_S97x32_0_1 (broadcastInDim S97x1 ![0] bcast_S97_S97x1_0 v))) natLt_1_32) (constantI S_ 32 0#32) reducesTo_S97x32_S97_d1 h_S_)
    (broadcastInDim S97 ![] bcast_S_S97 (constantI S_ 32 31#32))

def lastW (e : IVec S32 32) : IVec S1 32 := extractStridedSlice S1 ![31] e slices_S32_S1_31

def clampW (e : IVec S32 32) : IVec S97 32 :=
  minsi (iotaInDim S97 32 0) (broadcastInDim S97 ![0] bcast_S1_S97_0 (subi (lastW e) (broadcastInDim S1 ![] bcast_S_S1 (constantI S_ 32 1#32))))

def markW (r : IVec S97 32) : IVec S97 32 :=
  concatenate S97 0 [⟨S1, broadcastInDim S1 ![] bcast_S_S1 (constantI S_ 32 1#32)⟩,
    ⟨S96, extui 32 (cmpi .ne (extractStridedSlice S96 ![1] r slices_S97_S96_1) (extractStridedSlice S96 ![0] r slices_S97_S96_0)) natLt_1_32⟩] concatenates_S1_S96_S97_d0

set_option maxHeartbeats 2000000 in
theorem V_v0 (c : Dev nD) : V m c main_v0 = lastW (ends m c) := by
  simp only [V, hostOps0]
  after_results_simp <;> rfl
set_option maxHeartbeats 2000000 in
theorem V_v16 (c : Dev nD) : V m c main_v16 = markW (rawW (ends m c) (iotaInDim S97 32 0)) := by
  simp only [V, hostOps0]
  after_results_simp <;> rfl
set_option maxHeartbeats 2000000 in
theorem V_v29 (c : Dev nD) : V m c main_v29 = rawW (ends m c) (clampW (ends m c)) := by
  simp only [V, hostOps0]
  after_results_simp <;> rfl

/-! ## The tables' entries -/

theorem ofFin_eta {n : ℕ} (x : (⟨1, ![n]⟩ : Shape).Idx) : Shape.Idx.ofFin (x 0) = x := by
  funext a; match a with | ⟨0, _⟩ => rfl

theorem toNat_minsi_31 (w : BitVec 32) (h : w.toNat ≤ 32) : IntOp.minsi w 31#32 = BitVec.ofNat 32 (min w.toNat 31) := by
  apply BitVec.eq_of_toNat_eq
  refine (WordArith.toNat_minsi_of_lt _ _ (by omega) (by decide)).trans ?_
  rw [show (31#32 : BitVec 32).toNat = 31 from rfl]
  exact (show (BitVec.ofNat 32 (min w.toNat 31)).toNat = min w.toNat 31 from by rw [BitVec.toNat_ofNat]; exact Nat.mod_eq_of_lt (by omega)).symm

theorem ofNat_toNat_self (w : BitVec 32) : BitVec.ofNat 32 w.toNat = w := BitVec.eq_of_toNat_eq (by simp)

theorem rawW_apply (e : IVec S32 32) (v : IVec S97 32) (x : S97.Idx) : rawW e v x = BitVec.ofNat 32 (min (cnt e (v x)) 31) := by
  have h := count_eq bcast_S32_S1x32_1 bcast_S1x32_S97x32_0_1 bcast_S97_S97x1_0 bcast_S97x1_S97x32_0_1 natLt_1_32 reducesTo_S97x32_S97_d1 h_S_ e v (x 0)
  rw [show (Shape.Idx.ofFin (x 0) : S97.Idx) = x from ofFin_eta x] at h
  have hl := cnt_le e (v x)
  refine (toNat_minsi_31 _ (by rw [h]; exact hl)).trans ?_
  rw [h]

theorem lastW_apply (e : IVec S32 32) (x : S1.Idx) : lastW e x = e (Shape.Idx.ofFin 31) := by
  unfold lastW
  refine congrArg e ?_
  funext a
  match a with
  | ⟨0, _⟩ => exact Fin.ext (by have h : (x 0).val < 1 := (x 0).isLt; show 31 + (x 0).val = 31; omega)

/-- The number of tiles with rows. -/
def ntOf (e : IVec S32 32) : ℕ := (e (Shape.Idx.ofFin 31)).toNat
/-- The expert of a tile, as the kernel clamps it. -/
def teOf (e : IVec S32 32) (j : ℕ) : ℕ := min (cnt e (BitVec.ofNat 32 (min j (ntOf e - 1)))) 31

theorem clampW_apply (e : IVec S32 32) (h1 : 1 ≤ ntOf e) (h2 : ntOf e < 2 ^ 31) (x : S97.Idx) :
    clampW e x = BitVec.ofNat 32 (min (x 0).val (ntOf e - 1)) := by
  have hx : (x 0).val < 97 := (x 0).isLt
  show IntOp.minsi (BitVec.ofNat 32 (x 0).val) (lastW e _ - 1#32) = _
  rw [lastW_apply, show e (Shape.Idx.ofFin 31) = BitVec.ofNat 32 (ntOf e) from (ofNat_toNat_self _).symm, sub_one_ofNat _ h1 (by omega)]
  apply BitVec.eq_of_toNat_eq
  rw [WordArith.toNat_minsi_of_lt _ _ (by rw [BitVec.toNat_ofNat]; omega) (by rw [BitVec.toNat_ofNat]; omega), BitVec.toNat_ofNat, BitVec.toNat_ofNat, BitVec.toNat_ofNat]
  omega

theorem markW_zero (r : IVec S97 32) (x : S97.Idx) (h : (x 0).val = 0) : markW r x = 1#32 := by
  unfold markW
  refine (concatenate_pair_apply_left (s₁ := S1) (s₂ := S96) 0 _ _ _ x rfl (ix1 0) fun b => ?_).trans rfl
  match b with
  | ⟨0, _⟩ => exact h.symm

theorem markW_pos (r : IVec S97 32) (x : S97.Idx) (h : 0 < (x 0).val) (hne : markW r x ≠ 1#32) :
    r x = r (Shape.Idx.ofFin ⟨(x 0).val - 1, by have : (x 0).val < 97 := (x 0).isLt; omega⟩) := by
  have hx : (x 0).val < 97 := (x 0).isLt
  have e : markW r x = (IntOp.cmpi .ne (r x) (r (Shape.Idx.ofFin ⟨(x 0).val - 1, by omega⟩))).setWidth 32 := by
    unfold markW
    refine (concatenate_pair_apply_right (s₁ := S1) (s₂ := S96) 0 _ _ _ x rfl rfl (ix1 ⟨(x 0).val - 1, by omega⟩) (fun b hb => ?_) ?_).trans ?_
    · match b with
      | ⟨0, _⟩ => exact absurd rfl hb
    · show (x 0).val - 1 + 1 = (x 0).val; omega
    · refine congrArg₂ (fun a b => (IntOp.cmpi .ne a b).setWidth 32) (congrArg r ?_) (congrArg r ?_)
      · funext a
        match a with
        | ⟨0, _⟩ => exact Fin.ext (by show 1 + ((x 0).val - 1) = (x 0).val; omega)
      · funext a
        match a with
        | ⟨0, _⟩ => exact Fin.ext (by show 0 + ((x 0).val - 1) = (x 0).val - 1; omega)
  by_contra hd
  refine hne (e.trans ?_)
  have hb : IntOp.cmpi .ne (r x) (r (Shape.Idx.ofFin ⟨(x 0).val - 1, by omega⟩)) = 1#1 := by
    simp only [IntOp.cmpi, ofBool_eq_one_iff, bne_iff_ne, ne_eq]; exact hd
  rw [hb]; rfl

theorem good (h1 : 1 ≤ ntOf (ends m 0)) (h2 : ntOf (ends m 0) < 2 ^ 31) : Good (tbl m) (ntOf (ends m 0)) (teOf (ends m 0)) where
  pos := h1
  lt := h2
  te_lt j := by unfold teOf; omega
  n x := by
    refine (congrFun (V_v0 m 0) x).trans ((lastW_apply _ _).trans ?_)
    exact (ofNat_toNat_self _).symm
  c x := by
    refine (congrFun (V_v29 m 0) x).trans ((rawW_apply _ _ x).trans ?_)
    rw [clampW_apply _ h1 h2]; rfl
  f x hx hne := by
    have hb : (x 0).val < 97 := (x 0).isLt
    have hne' : markW (rawW (ends m 0) (iotaInDim S97 32 0)) x ≠ 1#32 := fun h => hne ((congrFun (V_v16 m 0) x).trans h)
    have h0 : 0 < (x 0).val := Nat.pos_of_ne_zero fun h => hne' (markW_zero _ x h)
    refine ⟨h0, ?_⟩
    have hr := markW_pos _ x h0 hne'
    rw [rawW_apply, rawW_apply] at hr
    have hr' := congrArg BitVec.toNat hr
    rw [BitVec.toNat_ofNat, BitVec.toNat_ofNat] at hr'
    unfold teOf
    rw [Nat.min_eq_left (show (x 0).val ≤ ntOf (ends m 0) - 1 by omega), Nat.min_eq_left (show (x 0).val - 1 ≤ ntOf (ends m 0) - 1 by omega)]
    have ea : iotaInDim S97 32 0 x = BitVec.ofNat 32 (x 0).val := rfl
    have eb : iotaInDim S97 32 0 (Shape.Idx.ofFin ⟨(x 0).val - 1, by omega⟩) = BitVec.ofNat 32 ((x 0).val - 1) := rfl
    rw [ea, eb] at hr'
    omega

end Cert.Kernel2Ideal.Up

end
-- ==== Proof.DownBody.lean ====
module

public import proofs.«01_k».proof.Proof.Gen.Kernel3Ideal.Launch
public import proofs.«01_k».proof.Proof.Gen.Kernel3Ideal.Skeleton
public import proofs.«01_k».proof.Proof.UpTables

/-! The down projection's body: what it stores and what it leaves in scratch, by one run of its text. -/

@[expose] public section

set_option maxRecDepth 16384

noncomputable section

namespace Cert.Kernel3Ideal.Down

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Scan (read_writes_one overlay_overlay overlay_full ld_full readCov_full_piece)
open Cert.Kernel2Ideal.Up (bit_cases fst)

variable {F : FTy → Type} [FloatOps F]

local notation "𝕄" => MT nD τ sig Unit (Elt F) ℕ (UR sig nD τ) ℕ

/-! ## The three cases of a tile: the first of its expert, a later one, none -/

/-- Whether the tile has rows: its number is below the count of tiles. -/
def act (i : grid0.Coords) (v0 : BitVec 32) : Prop := Scalar.cmpi .slt (BitVec.ofNat 32 (i 1).val) v0 = 1#1

instance (i : grid0.Coords) (v0 : BitVec 32) : Decidable (act i v0) := by unfold act; infer_instance

theorem c1_iff (i : grid0.Coords) (v0 v3 : BitVec 32) : k0_cond1 i v0 v3 = 1#1 ↔ act i v0 ∧ fst v3 := (bit_cases _ _).1
theorem c2_iff (i : grid0.Coords) (v0 v3 : BitVec 32) : k0_cond2 i v0 v3 = 1#1 ↔ act i v0 ∧ ¬ fst v3 := (bit_cases _ _).2.1
theorem c3_iff (i : grid0.Coords) (v0 : BitVec 32) : k0_cond3 i v0 = 1#1 ↔ ¬ act i v0 := (bit_cases _ (0#1)).2.2

/-! ## What the body computes, from the contents of its operands -/

abbrev wR0 : Rect S1x1x1024x4096 := Rect.unit (s := S1x1x1024x4096) ![0, 0, 0, 0] S1x1x256x4096.size inb_S1x1x1024x4096_S1x1x256x4096_0_0_0_0
abbrev sR0 : Rect S1024x4096 := Rect.unit (s := S1024x4096) ![0, 0] S256x4096.size inb_S1024x4096_S256x4096_0_0
abbrev xR0 : Rect S256x1024 := Rect.unit (s := S256x1024) ![0, 0] S256x256.size inb_S256x1024_S256x256_0_0

abbrev wR1 : Rect S1x1x1024x4096 := Rect.unit (s := S1x1x1024x4096) ![0, 0, 256, 0] S1x1x256x4096.size inb_S1x1x1024x4096_S1x1x256x4096_0_0_256_0
abbrev sR1 : Rect S1024x4096 := Rect.unit (s := S1024x4096) ![256, 0] S256x4096.size inb_S1024x4096_S256x4096_256_0
abbrev xR1 : Rect S256x1024 := Rect.unit (s := S256x1024) ![0, 256] S256x256.size inb_S256x1024_S256x256_0_256

abbrev wR2 : Rect S1x1x1024x4096 := Rect.unit (s := S1x1x1024x4096) ![0, 0, 512, 0] S1x1x256x4096.size inb_S1x1x1024x4096_S1x1x256x4096_0_0_512_0
abbrev sR2 : Rect S1024x4096 := Rect.unit (s := S1024x4096) ![512, 0] S256x4096.size inb_S1024x4096_S256x4096_512_0
abbrev xR2 : Rect S256x1024 := Rect.unit (s := S256x1024) ![0, 512] S256x256.size inb_S256x1024_S256x256_0_512

abbrev wR3 : Rect S1x1x1024x4096 := Rect.unit (s := S1x1x1024x4096) ![0, 0, 768, 0] S1x1x256x4096.size inb_S1x1x1024x4096_S1x1x256x4096_0_0_768_0
abbrev sR3 : Rect S1024x4096 := Rect.unit (s := S1024x4096) ![768, 0] S256x4096.size inb_S1024x4096_S256x4096_768_0
abbrev xR3 : Rect S256x1024 := Rect.unit (s := S256x1024) ![0, 768] S256x256.size inb_S256x1024_S256x256_0_768

/-- The weights cast chunk by chunk. -/
abbrev wc0 (X6 : Vec F S1x1x1024x4096 .f32) : FVec F S256x4096 .bf16 := k0_pay5 (View.ld X6 wR0)
abbrev wc1 (X6 : Vec F S1x1x1024x4096 .f32) : FVec F S256x4096 .bf16 := k0_pay6 (View.ld X6 wR1)
abbrev wc2 (X6 : Vec F S1x1x1024x4096 .f32) : FVec F S256x4096 .bf16 := k0_pay8 (View.ld X6 wR2)
abbrev wc3 (X6 : Vec F S1x1x1024x4096 .f32) : FVec F S256x4096 .bf16 := k0_pay1 (View.ld X6 wR3)

/-- The scratch buffer after the four chunks are written. -/
def wN (X6 : Vec F S1x1x1024x4096 .f32) (S : Vec F S1024x4096 .bf16) : Vec F S1024x4096 .bf16 :=
  (sR3.overlay (sR2.overlay (sR1.overlay (sR0.overlay S (wc0 X6)) (wc1 X6)) (wc2 X6)) (wc3 X6))

/-- What the first tile of an expert stores. -/
def outF (X5 : Vec F S256x1024 .bf16) (X6 : Vec F S1x1x1024x4096 .f32) : Vec F S256x4096 .f32 :=
  k0_pay2 (k0_pay7 (View.ld X5 xR0) (wc0 X6) (View.ld X5 xR1) (wc1 X6)) (View.ld X5 xR2) (wc2 X6) (View.ld X5 xR3) (wc3 X6)

/-- What the body stores at a tile, from the scratch buffer it finds. -/
def outV (i : grid0.Coords) (v0 v3 : BitVec 32) (X5 : Vec F S256x1024 .bf16) (X6 : Vec F S1x1x1024x4096 .f32) (W : Vec F S1024x4096 .bf16) : Vec F S256x4096 .f32 :=
  if act i v0 then (if fst v3 then outF X5 X6 else k0_pay3 X5 W) else k0_pay4
/-- The scratch buffer after the body. -/
def wS (i : grid0.Coords) (v0 v3 : BitVec 32) (X6 : Vec F S1x1x1024x4096 .f32) (W : Vec F S1024x4096 .bf16) : Vec F S1024x4096 .bf16 :=
  if act i v0 ∧ fst v3 then wN X6 W else W

/-- The word a whole one-word table holds, and the word of a table at a point. -/
abbrev word4 (a4 : Memref sig .tc .smem S1 .i32) (f : a4.view.ty.Contents (Elt F)) : BitVec 32 :=
  View.ld (Val := Elt F) (a4.view.read (Elt F) f) (Rect.unit (s := S1) ![0] S1.size inb_S1_S1_0) (Shape.Idx.first (show 0 < S1.numel from numel1_S1.symm ▸ Nat.one_pos))
abbrev word3 (a3 : Memref sig .tc .smem S97 .i32) (i : grid0.Coords) (f : a3.view.ty.Contents (Elt F)) : BitVec 32 :=
  View.ld (Val := Elt F) (a3.view.read (Elt F) f) (Rect.unit (s := S97) (k0_off1 i) S1.size (k0_off1_inb i)) (Shape.Idx.first (show 0 < S1.numel from numel1_S1.symm ▸ Nat.one_pos))

/-! ## The body, run once -/

set_option maxHeartbeats 4000000 in
theorem body_run (c : Dev nD) (i : grid0.Coords) (q : PosShare TreeShare) (a2 : Memref sig .tc .smem S97 .i32) (h2 : a2.IsWhole) (a3 : Memref sig .tc .smem S97 .i32) (h3 : a3.IsWhole) (a4 : Memref sig .tc .smem S1 .i32) (h4 : a4.IsWhole) (a5 : Memref sig .tc .vmem S256x1024 .bf16) (h5 : a5.IsWhole) (a6 : Memref sig .tc .vmem S1x1x1024x4096 .f32) (h6 : a6.IsWhole) (a7 : Memref sig .tc .vmem S256x4096 .f32) (h7 : a7.IsWhole) (a8 : Memref sig .tc .vmem S1024x4096 .bf16) (h8 : a8.IsWhole)
    (f3 : a3.view.ty.Contents (Elt F)) (f4 : a4.view.ty.Contents (Elt F)) (X5 : Vec F S256x1024 .bf16) (X6 : Vec F S1x1x1024x4096 .f32) (X7 : Vec F S256x4096 .f32) (X8 : Vec F S1024x4096 .bf16) (K : PUnit → sProp 𝕄) :
    iprop(((a3.view.loc (c : Thread nD τ)) ↦{q} f3)
      ∗ ((a4.view.loc (c : Thread nD τ)) ↦{q} f4)
      ∗ owns (c : Thread nD τ) a5 fullShare X5
      ∗ owns (c : Thread nD τ) a6 fullShare X6
      ∗ owns (c : Thread nD τ) a7 fullShare X7
      ∗ owns (c : Thread nD τ) a8 fullShare X8
      ∗ (iprop(((a3.view.loc (c : Thread nD τ)) ↦{q} f3)
      ∗ ((a4.view.loc (c : Thread nD τ)) ↦{q} f4)
      ∗ owns (c : Thread nD τ) a5 fullShare X5
      ∗ owns (c : Thread nD τ) a6 fullShare X6
      ∗ owns (c : Thread nD τ) a7 fullShare (outV i (word4 a4 f4) (word3 a3 i f3) X5 X6 X8)
      ∗ owns (c : Thread nD τ) a8 fullShare (wS i (word4 a4 f4) (word3 a3 i f3) X6 X8)) -∗ K ⟨⟩))
      ⊢ wp frame (wpE (defs₀ (F := F)) Variants.none c none) Set.univ
          (cc0_moe_down i a2 h2 a3 h3 a4 h4 a5 h5 a6 h6 a7 h7 a8 h8) K := by
  simp only [cc0_moe_down_eq_skeleton]; unfold cc0_moe_down_skel
  unfold owns
  iintro ⟨T3, T4, ⟨%f5, %e5, H5⟩, ⟨%f6, %e6, H6⟩, ⟨%f7, %e7, H7⟩, ⟨%f8, %e8, H8⟩, HK⟩
  subst e5 e6 e7 e8
  by_cases ha : act i (word4 a4 f4) <;> by_cases hf : fst (word3 a3 i f3)
  all_goals
    have k1 := c1_iff i (word4 a4 f4) (word3 a3 i f3)
    have k2 := c2_iff i (word4 a4 f4) (word3 a3 i f3)
    have k3 := c3_iff i (word4 a4 f4)
    simp only [ha, hf, _root_.true_and, _root_.and_true, _root_.false_and, _root_.and_false, not_true_eq_false, not_false_eq_true, iff_true, iff_false] at k1 k2 k3
    simp only [word3, word4] at ha hf k1 k2 k3
    sl_exec
    sl_step
    iapply HK
    isplitl [T3]
    · iexact T3
    isplitl [T4]
    · iexact T4
    isplitl [H5]
    · iexists _; isplitr; swap; · iexact H5
      ipureintro
      rfl
    isplitl [H6]
    · iexists _; isplitr; swap; · iexact H6
      ipureintro
      rfl
    isplitl [H7]
    · iexists _; isplitr; swap; · iexact H7
      ipureintro
      (try sl_unfold_run_names); (try simp only [word3, word4, k1, k2, k3, ha, hf, dite_true, dite_false, dif_pos, dif_neg, not_false_eq_true, if_true, if_false, _root_.and_self, _root_.and_true, _root_.and_false, _root_.false_and, read_writes_one, View.writes_nil, overlay_full, View.readAt_eq_ld, readCov_full_piece, View.readCov_cons_toLoadRect, ld_full, outV, wS]); (try with_reducible rfl); (try rfl)
    · iexists _; isplitr; swap; · iexact H8
      ipureintro
      (try sl_unfold_run_names); (try simp only [word3, word4, k1, k2, k3, ha, hf, dite_true, dite_false, dif_pos, dif_neg, not_false_eq_true, if_true, if_false, _root_.and_self, _root_.and_true, _root_.and_false, _root_.false_and, read_writes_one, View.writes_nil, overlay_full, View.readAt_eq_ld, readCov_full_piece, View.readCov_cons_toLoadRect, ld_full, outV, wS]); (try with_reducible rfl); (try rfl)

end Cert.Kernel3Ideal.Down

end
-- ==== Proof.DownCast.lean ====
module

public import proofs.«01_k».proof.Proof.DownBody
public import Idealize.ShloMosaic.Lib.Pipeline.ValueKit
public import Idealize.ShloMosaic.Lib.ValueLayout

@[expose] public section

set_option maxRecDepth 16384

noncomputable section

namespace Cert.Kernel3Ideal.Down

open Cert.Kernel3Ideal Cert.Kernel3Ideal.Gen
open Idealize.ShloMosaic

variable {F : FTy → Type} [FloatOps F]

/-! ## The weights cast chunk by chunk are the weights cast whole -/

/-- An expert's weights at the narrower type, as a matrix. -/
def castW (X : Vec F S1x1x1024x4096 .f32) : Vec F S1024x4096 .bf16 :=
  fun y => FloatOps.truncf .bf16 bitsLt_bf16_f32 (X (ix4 (n0 := 1) (n1 := 1) (n2 := 1024) (n3 := 4096) 0 0 (y 0) (y 1)))

theorem chunk_apply (o : ℕ) (inb : ∀ a, (![0, 0, o, 0] : Fin 4 → ℕ) a + S1x1x256x4096.size a ≤ S1x1x1024x4096.size a)
    (inb' : ∀ a, (![o, 0] : Fin 2 → ℕ) a + S256x4096.size a ≤ S1024x4096.size a) (X : Vec F S1x1x1024x4096 .f32) (x : S256x4096.Idx) :
    shapeCast S256x4096 (truncf (F := F) .bf16 (shapeCast S256x4096
        (View.ld (Val := Elt F) X (Rect.unit (s := S1x1x1024x4096) ![0, 0, o, 0] S1x1x256x4096.size inb)) shapeCasts_S1x1x256x4096_S256x4096) bitsLt_bf16_f32)
      shapeCasts_S256x4096_S256x4096 x
      = castW X ((Rect.unit (s := S1024x4096) ![o, 0] S256x4096.size inb').emb x) := by
  rw [shapeCast_self]
  obtain ⟨a, b, rfl⟩ : ∃ a b, x = ix2 a b := ⟨_, _, eq_ix2 (n0 := 256) (n1 := 4096) x⟩
  show FloatOps.truncf .bf16 bitsLt_bf16_f32 (shapeCast (α := F .f32) S256x4096 _ shapeCasts_S1x1x256x4096_S256x4096 (ix2 a b)) = _
  have e := shapeCast_apply (View.ld (Val := Elt F) X (Rect.unit (s := S1x1x1024x4096) ![0, 0, o, 0] S1x1x256x4096.size inb))
    shapeCasts_S1x1x256x4096_S256x4096 (ix2 a b) (ix4 (n0 := 1) (n1 := 1) (n2 := 256) (n3 := 4096) 0 0 a b) (by
      rw [Shape.rowMajor_val_four, Shape.rowMajor_val_two]
      show ((0 * 1 + 0) * 256 + a.val) * 4096 + b.val = a.val * 4096 + b.val
      omega)
  refine (congrArg _ e).trans ?_
  unfold castW
  refine congrArg (fun z => FloatOps.truncf .bf16 bitsLt_bf16_f32 (X z)) ?_
  funext k
  apply Fin.ext
  fin_cases k
  · rfl
  · rfl
  · rfl
  · rfl

theorem agree_step (C : Vec F S1024x4096 .bf16) (o : ℕ) (inb : ∀ a, (![o, 0] : Fin 2 → ℕ) a + S256x4096.size a ≤ S1024x4096.size a)
    (f : Vec F S1024x4096 .bf16) (w : S256x4096.Idx → Elt F .bf16) (h : ∀ y : S1024x4096.Idx, (y 0).val < o → f y = C y)
    (hw : ∀ x, w x = C ((Rect.unit (s := S1024x4096) ![o, 0] S256x4096.size inb).emb x)) (y : S1024x4096.Idx) (hy : (y 0).val < o + 256) :
    (Rect.unit (s := S1024x4096) ![o, 0] S256x4096.size inb).overlay f w y = C y := by
  by_cases hm : y ∈ (Rect.unit (s := S1024x4096) ![o, 0] S256x4096.size inb).set
  · obtain ⟨x, rfl⟩ := (Rect.unit (s := S1024x4096) ![o, 0] S256x4096.size inb).exists_idx_of_mem hm
    exact ((Rect.unit (s := S1024x4096) ![o, 0] S256x4096.size inb).overlay_emb f w x).trans (hw x)
  · refine ((Rect.unit (s := S1024x4096) ![o, 0] S256x4096.size inb).overlay_of_not_mem f w hm).trans (h y ?_)
    by_contra hlt
    refine hm (Rect.mem_set_unit.mpr fun a => ?_)
    fin_cases a
    · exact ⟨Nat.le_of_not_lt hlt, hy⟩
    · exact ⟨Nat.zero_le _, by show (y 1).val < 0 + 4096; rw [Nat.zero_add]; exact (y 1).isLt⟩

theorem wN_eq (X : Vec F S1x1x1024x4096 .f32) (S : Vec F S1024x4096 .bf16) : wN X S = castW X := by
  funext y
  refine agree_step (castW X) 768 _ _ _ ?_ (fun x => chunk_apply 768 _ _ X x) y (y 0).isLt
  refine agree_step (castW X) 512 _ _ _ ?_ (fun x => chunk_apply 512 _ _ X x)
  refine agree_step (castW X) 256 _ _ _ ?_ (fun x => chunk_apply 256 _ _ X x)
  refine agree_step (castW X) 0 _ _ _ ?_ (fun x => chunk_apply 0 _ _ X x)
  exact fun y hy => absurd hy (Nat.not_lt_zero _)

end Cert.Kernel3Ideal.Down

end
-- ==== Proof.DownVal.lean ====
module

public import proofs.«01_k».proof.Proof.DownCast
public import Idealize.ShloMosaic.Lib.Claim
public import Idealize.ShloMosaic.Lib.Pointwise
public import Idealize.ShloMosaic.Lib.Pipeline.ValueKit.Acc

/-! What a tile stores, entry by entry over the extended reals: both cases of a tile with rows store the same product. -/

@[expose] public section

set_option maxRecDepth 16384

noncomputable section

namespace Cert.Kernel3Ideal.Down

open Cert.Kernel3Ideal Cert.Kernel3Ideal.Gen
open Idealize.ShloMosaic Idealize.ShloMosaic.TcCoe Idealize.ShloMosaic.Tactic

/-- A row of activations against a column of weights. -/
def dotE (x w : Fin 1024 → EReal) : EReal := ∑ k, x k * w k

theorem pay3_at (X5 : Vec Ideal S256x1024 .bf16) (G : Vec Ideal S1024x4096 .bf16) (a : Fin 256) (b : Fin 4096) :
    (k0_pay3 X5 G (ix2 a b) : EReal) = dotE (fun k => X5 (ix2 a k)) (fun k => G (ix2 k b)) := by
  unfold dotE
  pointwise [k0_pay3]

theorem pay4_at (a : Fin 256) (b : Fin 4096) : ((k0_pay4 : FVec Ideal S256x4096 .f32) (ix2 a b) : EReal) = (0 : EReal) := by
  pointwise [k0_pay4]

/-- The sum over one chunk of 256 of the contracted coordinate. -/
def part (x w : Fin 1024 → EReal) (s : Fin 4) : EReal := ∑ k : Fin 256, x ⟨s.val * 256 + k.val, by omega⟩ * w ⟨s.val * 256 + k.val, by omega⟩

theorem dotE_parts (x w : Fin 1024 → EReal) : part x w 0 + part x w 1 + part x w 2 + part x w 3 = dotE x w :=
  (Fin.sum_univ_four (part x w)).symm.trans (Fin.sum_mul_add_fin 4 256 (fun k => x k * w k))

/-- One chunk's product. -/
def mm (A : FVec Ideal S256x256 .bf16) (B : FVec Ideal S256x4096 .bf16) : FVec Ideal S256x4096 .f32 :=
  matmul (φ₁ := .bf16) (φ₂ := .bf16) dot_S256x256_S256x4096_S256x4096_1_0_0_1_n_n none A B (constant S256x4096 .f32 0x00000000#32)

theorem mm_at (A : FVec Ideal S256x256 .bf16) (B : FVec Ideal S256x4096 .bf16) (a : Fin 256) (b : Fin 4096) :
    (mm A B (ix2 a b) : EReal) = ∑ k : Fin 256, (A (ix2 a k) : EReal) * (B (ix2 k b) : EReal) := by
  pointwise [mm]

theorem chunk_mm (s : Fin 4) (o : ℕ) (ho : o = s.val * 256) (inbX : ∀ a, (![0, o] : Fin 2 → ℕ) a + S256x256.size a ≤ S256x1024.size a)
    (inbS : ∀ a, (![o, 0] : Fin 2 → ℕ) a + S256x4096.size a ≤ S1024x4096.size a)
    (X : Vec Ideal S256x1024 .bf16) (C : Vec Ideal S1024x4096 .bf16) (B : Vec Ideal S256x4096 .bf16)
    (hB : ∀ x, B x = C ((Rect.unit (s := S1024x4096) ![o, 0] S256x4096.size inbS).emb x)) (a : Fin 256) (b : Fin 4096) :
    (mm (View.ld (Val := Elt Ideal) X (Rect.unit (s := S256x1024) ![0, o] S256x256.size inbX)) B (ix2 a b) : EReal)
      = part (fun k => X (ix2 a k)) (fun k => C (ix2 k b)) s := by
  subst ho
  rw [mm_at]
  unfold part
  refine Finset.sum_congr rfl fun k _ => ?_
  rw [hB]
  refine congrArg₂ (fun p q : EReal => p * q) ?_ ?_
  · show X _ = X _
    refine congrArg X ?_
    funext i; apply Fin.ext
    fin_cases i
    · show 0 + 1 * a.val = a.val; omega
    · show s.val * 256 + 1 * k.val = s.val * 256 + k.val; omega
  · refine congrArg C ?_
    funext i; apply Fin.ext
    fin_cases i
    · show s.val * 256 + 1 * k.val = s.val * 256 + k.val; omega
    · show 0 + 1 * b.val = b.val; omega

variable (X5 : Vec Ideal S256x1024 .bf16) (X6 : Vec Ideal S1x1x1024x4096 .f32)

theorem outF_eq : outF X5 X6 = addf (addf (addf (mm (View.ld X5 xR0) (wc0 X6)) (mm (View.ld X5 xR1) (wc1 X6))) (mm (View.ld X5 xR2) (wc2 X6)))
    (mm (View.ld X5 xR3) (wc3 X6)) := by
  unfold outF k0_pay2 k0_pay7 mm
  rfl

theorem outF_at (a : Fin 256) (b : Fin 4096) :
    (outF X5 X6 (ix2 a b) : EReal) = dotE (fun k => X5 (ix2 a k)) (fun k => castW X6 (ix2 k b)) := by
  rw [outF_eq, ← dotE_parts,
    ← chunk_mm 0 0 rfl inb_S256x1024_S256x256_0_0 inb_S1024x4096_S256x4096_0_0 X5 (castW X6) (wc0 X6) (fun x => chunk_apply 0 _ _ X6 x) a b,
    ← chunk_mm 1 256 rfl inb_S256x1024_S256x256_0_256 inb_S1024x4096_S256x4096_256_0 X5 (castW X6) (wc1 X6) (fun x => chunk_apply 256 _ _ X6 x) a b,
    ← chunk_mm 2 512 rfl inb_S256x1024_S256x256_0_512 inb_S1024x4096_S256x4096_512_0 X5 (castW X6) (wc2 X6) (fun x => chunk_apply 512 _ _ X6 x) a b,
    ← chunk_mm 3 768 rfl inb_S256x1024_S256x256_0_768 inb_S1024x4096_S256x4096_768_0 X5 (castW X6) (wc3 X6) (fun x => chunk_apply 768 _ _ X6 x) a b]
  rfl

/-- What a tile stores: the product if the tile has rows, zero otherwise. -/
theorem outV_at (i : grid0.Coords) (v0 v3 : BitVec 32) (a : Fin 256) (b : Fin 4096) :
    (outV i v0 v3 X5 X6 (castW X6) (ix2 a b) : EReal)
      = if act i v0 then dotE (fun k => X5 (ix2 a k)) (fun k => X6 (ix4 0 0 k b)) else 0 := by
  unfold outV
  by_cases ha : act i v0
  · rw [if_pos ha, if_pos ha]
    by_cases hf : Cert.Kernel2Ideal.Up.fst v3
    · rw [if_pos hf]; exact outF_at X5 X6 a b
    · rw [if_neg hf]; exact pay3_at X5 (castW X6) a b
  · rw [if_neg ha, if_neg ha]; exact pay4_at a b

end Cert.Kernel3Ideal.Down

end
-- ==== Proof.UpStep.lean ====
module

public import proofs.«01_k».proof.Proof.UpRun
public import Idealize.ShloMosaic.Lib.Pipeline.ArrRel
public import Idealize.ShloMosaic.Lib.Pipeline.DatRel
public import Idealize.ShloMosaic.Lib.Pipeline.FrameBody

@[expose] public section

set_option maxRecDepth 16384

noncomputable section

namespace Cert.Kernel2Ideal.Up

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable {pf : pre0.Contents (Elt F)} (W : (c : Dev nD) → (b : Ref sig .tc) → Buf (Elt F) ((c : Thread nD τ).loc b)) {nt : ℕ} {te : ℕ → ℕ} (hG : Good pf nt te)

/-! ## The body obligation -/

abbrev st (t : Fin (cfgM hG).N) (w : Fin (cfgM hG).W) := ((cfgM hG).win w).stage ((cfgM hG).slots t w)

abbrev bodyAt (t : Fin (cfgM hG).N) : Prog (TpuEff nD τ sig (Elt F) Λ₀ .tc) PUnit :=
  cc0_moe_up (grid0.coords t) (Memref.whole main_v29) (Memref.isWhole_whole _) (Memref.whole main_v16) (Memref.isWhole_whole _) (Memref.whole main_v0) (Memref.isWhole_whole _)
    (spec0_0.stage ((cfgM hG).slots t 0)) (hstage0_0 (((cfgM hG).slots t 0).cast nbuf0_0))
    (spec0_1.stage ((cfgM hG).slots t 1)) (hstage0_1 (((cfgM hG).slots t 1).cast nbuf0_1))
    (spec0_2.stage ((cfgM hG).slots t 2)) (hstage0_2 (((cfgM hG).slots t 2).cast nbuf0_2))
    (spec0_3.stage ((cfgM hG).slots t 3)) (hstage0_3 (((cfgM hG).slots t 3).cast nbuf0_3))
    (spec0_4.stage ((cfgM hG).slots t 4)) (hstage0_4 (((cfgM hG).slots t 4).cast nbuf0_4))
    (Memref.whole cc0_scratch0) (Memref.isWhole_whole _) (Memref.whole cc0_scratch1) (Memref.isWhole_whole _)

def bodyPre (c : Dev nD) (t : Fin (cfgM hG).N) : sProp 𝕄 :=
  iprop((dat0 W hG c).Φ t.castSucc ∗ (dat0 W hG c).owesAt () t.castSucc
    ∗ (∃ d, owns (c : Thread nD τ) (st hG t 0) fullShare ((dat0 W hG c).before 0 t d))
    ∗ (∃ d, owns (c : Thread nD τ) (st hG t 1) fullShare ((dat0 W hG c).before 1 t d))
    ∗ (∃ d, owns (c : Thread nD τ) (st hG t 2) fullShare ((dat0 W hG c).before 2 t d))
    ∗ (∃ d, owns (c : Thread nD τ) (st hG t 3) fullShare ((dat0 W hG c).before 3 t d))
    ∗ (∃ d, owns (c : Thread nD τ) (st hG t 4) fullShare ((dat0 W hG c).before 4 t d)))
def bodyPost (c : Dev nD) (t : Fin (cfgM hG).N) : sProp 𝕄 :=
  iprop((dat0 W hG c).Φ t.succ ∗ (dat0 W hG c).owesAt () t.succ
    ∗ owns (c : Thread nD τ) (st hG t 0) fullShare ((dat0 W hG c).after 0 t)
    ∗ owns (c : Thread nD τ) (st hG t 1) fullShare ((dat0 W hG c).after 1 t)
    ∗ owns (c : Thread nD τ) (st hG t 2) fullShare ((dat0 W hG c).after 2 t)
    ∗ owns (c : Thread nD τ) (st hG t 3) fullShare ((dat0 W hG c).after 3 t)
    ∗ owns (c : Thread nD τ) (st hG t 4) fullShare ((dat0 W hG c).after 4 t))

set_option maxHeartbeats 1000000 in
/-- One run of the body from what it finds between tiles. -/
theorem step (c : Dev nD) (t : Fin (cfgM hG).N) (O : sProp 𝕄)
    (a5 : Memref sig .tc .vmem S256x4096 .bf16) (h5 : a5.IsWhole) (a6 : Memref sig .tc .vmem S256x1 .f32) (h6 : a6.IsWhole) (a7 : Memref sig .tc .vmem S1x1x4096x512 .f32) (h7 : a7.IsWhole) (a8 : Memref sig .tc .vmem S1x1x4096x512 .f32) (h8 : a8.IsWhole) (a9 : Memref sig .tc .vmem S256x512 .bf16) (h9 : a9.IsWhole)
    (X9 : Vec F S256x512 .bf16 → Vec F S256x512 .bf16) :
    iprop(PhiAt W hG c t.val ∗ O
      ∗ (∃ d : Vec F S256x4096 .bf16, owns (c : Thread nD τ) a5 fullShare (blk0 W hG c t))
      ∗ (∃ d : Vec F S256x1 .f32, owns (c : Thread nD τ) a6 fullShare (blk1 W hG c t))
      ∗ (∃ d : Vec F S1x1x4096x512 .f32, owns (c : Thread nD τ) a7 fullShare (blk2 W hG c t))
      ∗ (∃ d : Vec F S1x1x4096x512 .f32, owns (c : Thread nD τ) a8 fullShare (blk3 W hG c t))
      ∗ (∃ d, owns (c : Thread nD τ) a9 fullShare (X9 d)))
    ⊢ wp frame (wpE (defs₀ (F := F)) Variants.none c none) Set.univ
      (cc0_moe_up (grid0.coords t) (Memref.whole main_v29) (Memref.isWhole_whole _) (Memref.whole main_v16) (Memref.isWhole_whole _) (Memref.whole main_v0) (Memref.isWhole_whole _)
        a5 h5 a6 h6 a7 h7 a8 h8 a9 h9 (Memref.whole cc0_scratch0) (Memref.isWhole_whole _) (Memref.whole cc0_scratch1) (Memref.isWhole_whole _))
      (fun _ => iprop(PhiAt W hG c (t.val + 1) ∗ O
        ∗ owns (c : Thread nD τ) a5 fullShare (blk0 W hG c t) ∗ owns (c : Thread nD τ) a6 fullShare (blk1 W hG c t)
        ∗ owns (c : Thread nD τ) a7 fullShare (blk2 W hG c t) ∗ owns (c : Thread nD τ) a8 fullShare (blk3 W hG c t)
        ∗ owns (c : Thread nD τ) a9 fullShare (outP W hG c t))) := by
  unfold PhiAt
  iintro ⟨⟨%A, %B, %hI, HA, HB, ⟨T0, T1, T2⟩, Hg⟩, HO, ⟨%d0, H0⟩, ⟨%d1, H1⟩, ⟨%d2, H2⟩, ⟨%d3, H3⟩, ⟨%d4, H4⟩⟩
  have ho := out_at W hG hI
  iapply (body_run c (grid0.coords t) fullShare.right (Memref.whole main_v29) (Memref.isWhole_whole _) (Memref.whole main_v16) (Memref.isWhole_whole _) (Memref.whole main_v0) (Memref.isWhole_whole _)
    a5 h5 a6 h6 a7 h7 a8 h8 a9 h9 (Memref.whole cc0_scratch0) (Memref.isWhole_whole _) (Memref.whole cc0_scratch1) (Memref.isWhole_whole _) (pf 1) (pf 2)
    (blk0 W hG c t) (blk1 W hG c t) (blk2 W hG c t) (blk3 W hG c t) (X9 d4) A B _)
  rw [ho]
  isplitl [T1]; · iexact T1
  isplitl [T2]; · iexact T2
  isplitl [H0]; · iexact H0
  isplitl [H1]; · iexact H1
  isplitl [H2]; · iexact H2
  isplitl [H3]; · iexact H3
  isplitl [H4]; · iexact H4
  isplitl [HA]; · iexact HA
  isplitl [HB]; · iexact HB
  iintro ⟨T1, T2, H0, H1, H2, H3, H4, HA, HB⟩
  isplitl [HA HB T0 T1 T2 Hg]
  · iexists _, _; isplitr; swap
    · isplitl [HA]; · iexact HA
      isplitl [HB]; · iexact HB
      isplitl [T0 T1 T2]
      · isplitl [T0]; · iexact T0
        isplitl [T1]; · iexact T1
        iexact T2
      iexact Hg
    · ipureintro; exact inv_next W hG hI
  isplitl [HO]; · iexact HO
  isplitl [H0]; · iexact H0
  isplitl [H1]; · iexact H1
  isplitl [H2]; · iexact H2
  isplitl [H3]; · iexact H3
  iexact H4

theorem phi_cast (c : Dev nD) (t : Fin (cfgM hG).N) : (dat0 W hG c).Φ t.castSucc = PhiAt W hG c t.val :=
  congrArg (PhiAt W hG c) (Fin.val_castSucc t)
theorem phi_succ (c : Dev nD) (t : Fin (cfgM hG).N) : (dat0 W hG c).Φ t.succ = PhiAt W hG c (t.val + 1) := rfl
theorem owes_succ (c : Dev nD) (t : Fin (cfgM hG).N) : (dat0 W hG c).owesAt () t.succ = (dat0 W hG c).owesAt () t.castSucc := rfl
theorem after_0 (c : Dev nD) (t : Fin (cfgM hG).N) : (dat0 W hG c).after 0 t = blk0 W hG c t := rfl
theorem after_1 (c : Dev nD) (t : Fin (cfgM hG).N) : (dat0 W hG c).after 1 t = blk1 W hG c t := rfl
theorem after_2 (c : Dev nD) (t : Fin (cfgM hG).N) : (dat0 W hG c).after 2 t = blk2 W hG c t := rfl
theorem after_3 (c : Dev nD) (t : Fin (cfgM hG).N) : (dat0 W hG c).after 3 t = blk3 W hG c t := rfl
theorem after_4 (c : Dev nD) (t : Fin (cfgM hG).N) : (dat0 W hG c).after 4 t = outP W hG c t := rfl

set_option maxHeartbeats 1000000 in
theorem sound_body (c : Dev nD) (t : Fin (cfgM hG).N) :
    bodyPre W hG c t ⊢ wp frame (wpE (defs₀ (F := F)) Variants.none c none) Set.univ (bodyAt hG t) (fun _ => bodyPost W hG c t) := by
  unfold bodyPre bodyPost bodyAt
  simp only [phi_cast, phi_succ, owes_succ, after_0, after_1, after_2, after_3, after_4, before_0, before_1, before_2, before_3]
  exact step W hG c t ((dat0 W hG c).owesAt () t.castSucc)
    (spec0_0.stage ((cfgM hG).slots t 0)) (hstage0_0 (((cfgM hG).slots t 0).cast nbuf0_0))
    (spec0_1.stage ((cfgM hG).slots t 1)) (hstage0_1 (((cfgM hG).slots t 1).cast nbuf0_1))
    (spec0_2.stage ((cfgM hG).slots t 2)) (hstage0_2 (((cfgM hG).slots t 2).cast nbuf0_2))
    (spec0_3.stage ((cfgM hG).slots t 3)) (hstage0_3 (((cfgM hG).slots t 3).cast nbuf0_3))
    (spec0_4.stage ((cfgM hG).slots t 4)) (hstage0_4 (((cfgM hG).slots t 4).cast nbuf0_4))
    (fun d => (dat0 W hG c).before 4 t d)

theorem defs₀_row (t : Fin (cfgM hG).N) :
    defs₀ (F := F) .tc (cfgM hG).body ((cfgM hG).bodyArgs t ((cfgM hG).slots t)) = bodyAt hG t := by
  unfold defs₀; rw [Defs.onTc_tc]

theorem live4 (t : Fin (cfgM hG).N) : (cfgM hG).idle 4 ((cfgM hG).grid.coords t) = false := idle4 hG (grid0.coords t)

theorem leaves_live (c : Dev nD) (w : Fin (cfgM hG).W) (t : Fin (cfgM hG).N) (hi : (cfgM hG).idle w ((cfgM hG).grid.coords t) = false) :
    owns (c : Thread nD τ) (((cfgM hG).win w).stage ((cfgM hG).slots t w)) fullShare ((dat0 W hG c).after w t) ⊢ ((dat0 W hG c).leavesExact w t : sProp 𝕄) := by
  unfold Pipeline.Dat.leavesExact; rw [hi]

set_option maxHeartbeats 1000000 in
theorem body_strict (c : Dev nD) :
    Pipeline.BodyObligation (dats W hG 0 c) (defs₀ (F := F)) Variants.none () Set.univ := fun t => by
  rw [bigSep_W0, bigSep_W0, defs₀_row]
  refine triple_restated (sound_body W hG c t) rfl .rfl fun _ => ?_
  refine BIClass.sep_mono (Entails.of_eq rfl) (BIClass.sep_mono (Entails.of_eq rfl) (BIClass.sep_mono ?_ (BIClass.sep_mono ?_ (BIClass.sep_mono ?_ (BIClass.sep_mono ?_ ?_)))))
  · exact leaves_live W hG c 0 t rfl
  · exact leaves_live W hG c 1 t rfl
  · exact leaves_live W hG c 2 t rfl
  · exact leaves_live W hG c 3 t rfl
  · exact leaves_live W hG c 4 t (live4 hG t)

theorem body_obligation (c : Dev nD) :
    Pipeline.BodyObligationLoose (dats W hG 0 c) (defs₀ (F := F)) Variants.none () Set.univ := (body_strict W hG c).loose

end

end Cert.Kernel2Ideal.Up

end
-- ==== Proof.UpFin.lean ====
module

public import proofs.«01_k».proof.Proof.UpStep

/-! The launch of the up projection's kernel: every run of it ends, with the arguments as they were. -/

@[expose] public section

set_option maxRecDepth 16384

noncomputable section

namespace Cert.Kernel2Ideal.Up

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable {pf : pre0.Contents (Elt F)} (W : (c : Dev nD) → (b : Ref sig .tc) → Buf (Elt F) ((c : Thread nD τ).loc b)) {nt : ℕ} {te : ℕ → ℕ} (hG : Good pf nt te)

/-- Before the first point the scratch buffers hold anything; after the last their contents are forgotten. -/
theorem phi_in (c : Dev nD) : iprop(Pipeline.ΦA (Val := Elt F) (U := UR sig nD τ) spec0 c ∗ Pipeline.ΦT pre0 pf c : sProp 𝕄) ⊢ PhiAt W hG c 0 := by
  rw [PhiT_eq]
  unfold Pipeline.ΦA PhiAt
  rw [scopedRest0_eq]; simp only [owns_whole]
  iintro ⟨⟨⟨⟨%A, HA⟩, ⟨%B, HB⟩⟩, Hg⟩, HT⟩
  iexists A, B; isplitr
  · ipureintro; exact fun u hu _ => absurd hu (Nat.succ_ne_zero _)
  isplitl [HA]; · iexact HA
  isplitl [HB]; · iexact HB
  isplitl [HT]; · iexact HT
  iexact Hg

theorem share_full (c : Dev nD) (w : Fin (cfgM hG).W) : (dat0 W hG c).share w = fullShare := by
  unfold Pipeline.Dat.share; split <;> rfl

theorem phi_out (c : Dev nD) (n : ℕ) : PhiAt W hG c n ⊢ (Pipeline.ΦA (Val := Elt F) (U := UR sig nD τ) spec0 c : sProp 𝕄) := by
  unfold Pipeline.ΦA PhiAt
  rw [scopedRest0_eq]; simp only [owns_whole]
  iintro ⟨%A, %B, -, HA, HB, -, Hg⟩
  isplitr [Hg]
  · isplitl [HA]; · iexists A; iexact HA
    iexists B; iexact HB
  iexact Hg

end

variable (m : (ℓ : Loc nD τ sig) → Buf (Elt F) ℓ) (ρ : Dev nD → PrngReg) {nt : ℕ} {te : ℕ → ℕ} (hG : Good (tbl m) nt te)

theorem phi_last (c : Dev nD) : (dat0 (V m) hG c).Φ (Fin.last (cfgM hG).N) = PhiAt (V m) hG c 194 := rfl
theorem phi_zero (c : Dev nD) : (dat0 (V m) hG c).Φ 0 = PhiAt (V m) hG c 0 := rfl

set_option backward.isDefEq.respectTransparency.types false in
set_option maxHeartbeats 1000000 in
/-- Every run of @main ends, the windowed arrays as the proof data say and every other buffer as the call found it. -/
theorem run_main :
    θ_run defs (onTc (τ := τ) (main (F := F))) ⟨m, fun _ => 0, ρ⟩
      (fun r => Pipeline.FramePost (Pipeline.pin pcfgs (adm hG)) (dats (V m) hG) 0 (V m) r ∧ r.2.sem = fun _ => 0) :=
  Pipeline.θ_run_frameP_track (Q' := _) pcfgs (adm hG) (dats (V m) hG) 0 launch0 defs₀ Variants.none m ρ main
    (hbody := fun c => body_obligation (V m) hG c) (hshare := fun c w => share_full (V m) hG c w)
    (howed := fun _ _ => rfl) (V := V m) (hmain := hmain m) (hA := A_eq (V m) hG) (hpf := fun c k => V_pre m c k)
    (hin := fun c => (phi_in (V m) hG c).trans (Entails.of_eq (phi_zero m hG c).symm))
    (hout := fun c => (Entails.of_eq (phi_last m hG c)).trans (phi_out (V m) hG c _)) (hQ' := fun _ h => h)

/-- A final state of the run holds the arguments as launched. -/
theorem final_args {r : PUnit × MemSt nD τ sig (Elt F)}
    (h : Pipeline.FramePost (Pipeline.pin pcfgs (adm hG)) (dats (V m) hG) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨((h c).1 0).trans (((dat0 (V m) hG c).arrAt_in 0 rfl _).trans (V_main_arg0 m c)),
   ((h c).1 1).trans (((dat0 (V m) hG c).arrAt_in 1 rfl _).trans (V_main_arg1 m c)),
   ((h c).1 2).trans (((dat0 (V m) hG c).arrAt_in 2 rfl _).trans (V_main_arg2 m c)),
   ((h c).1 3).trans (((dat0 (V m) hG c).arrAt_in 3 rfl _).trans (V_main_arg3 m c)),
   ((h c).2 main_arg4 (Pipeline.mem_restRefs_of (win := spec0) main_arg4 (by decide) (by decide))).trans (V_main_arg4 m c)⟩

include hG in
/-- Every run of @main ends with the arguments as launched and every semaphore counter at zero. -/
theorem run_frame :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => final_args m hG h.1 c, h.2⟩) (run_main m ρ hG)

end Cert.Kernel2Ideal.Up

end
-- ==== Proof.UpTwin.lean ====
module
public import proofs.«01_k».proof.Proof.Gen.Kernel2
public import proofs.«01_k».proof.Proof.Gen.Kernel2Ideal
public import Idealize.ShloMosaic.Init

/-! The experts' kernel and its ideal program have the same text: over any float values they are the same program. -/

@[expose] public section

noncomputable section

namespace Cert.Twin2

open Idealize.ShloMosaic Idealize.SL.Sem

variable {F : FTy → Type} [FloatOps F]

set_option maxHeartbeats 4000000 in
/-- The two programs' kernel bodies are the same. -/
theorem bodies_eq : Cert.Kernel2.defs₀ (F := F) = Cert.Kernel2Ideal.defs₀ (F := F) := by
  unfold Cert.Kernel2.defs₀ Cert.Kernel2Ideal.defs₀
  refine congrArg (Defs.onTc (nD := Cert.Kernel2Ideal.nD) (τ := Cert.Kernel2Ideal.τ)) ?_
  funext l a
  match l, a with
  | 0, (t, s) => rfl
  | ⟨_ + 1, h⟩, _ => exact absurd h (Nat.not_lt.2 (Nat.le_add_left _ _))

/-- So are their body tables. -/
theorem defs_eq : Cert.Kernel2.defs (F := F) = Cert.Kernel2Ideal.defs (F := F) :=
  congrArg (Pipeline.defs (Cert.Kernel2Ideal.pcfgs (F := F))) bodies_eq

set_option maxHeartbeats 4000000 in
/-- So is @main. -/
theorem main_eq : Cert.Kernel2.main (F := F) = Cert.Kernel2Ideal.main (F := F) := rfl

/-- What holds of every run of the one holds of every run of the other. -/
theorem run_eq (σ : MemSt Cert.Kernel2Ideal.nD Cert.Kernel2Ideal.τ Cert.Kernel2Ideal.sig (Elt F)) (Q : PUnit × MemSt Cert.Kernel2Ideal.nD Cert.Kernel2Ideal.τ Cert.Kernel2Ideal.sig (Elt F) → Prop)
    (h : θ_run (Cert.Kernel2Ideal.defs (F := F)) (onTc (τ := Cert.Kernel2Ideal.τ) (Cert.Kernel2Ideal.main (F := F))) σ Q) :
    θ_run (Cert.Kernel2.defs (F := F)) (onTc (τ := Cert.Kernel2.τ) (Cert.Kernel2.main (F := F))) σ Q := by
  rw [← defs_eq, ← main_eq] at h
  exact h

end Cert.Twin2

end
-- ==== Proof.UpPre.lean ====
module

public import proofs.«01_k».proof.Defs
public import proofs.«01_k».proof.Proof.UpFin
public import proofs.«01_k».proof.Proof.UpTables
public import proofs.«01_k».proof.Proof.UpTwin
public import proofs.«01_k».proof.Proof.Gen.Reference2Ideal.Run
public import Idealize.ShloMosaic.Init

/-! What the precondition says of the count of tiles, and the runs under it. -/

@[expose] public section

set_option maxRecDepth 16384

noncomputable section

namespace Cert.Kernel2Ideal.Up

open Idealize.ShloMosaic Idealize.ShloMosaic.TcCoe Idealize.SL.Sem

instance pre2Facts : Cert.Pre_pre2.Facts where
  slices_S32_S1_31 := by decide
  shapeCasts_S1_S_ := by decide

/-- A word that is at least one as a signed number is positive and below 2^31 as a natural number. -/
theorem pos_of_sge (w : BitVec 32) (h : IntOp.cmpi .sge w 1#32 = 1#1) : 1 ≤ w.toNat ∧ w.toNat < 2 ^ 31 := by
  have h' : (1#32).sle w = true := (StableHlo.Predicate.ofBool_eq_one_iff _).mp h
  rw [BitVec.sle_iff_toInt_le] at h'
  have e1 : (1#32 : BitVec 32).toInt = 1 := by decide
  rw [e1, BitVec.toInt_eq_toNat_cond] at h'
  have := w.isLt
  split at h' <;> omega

variable {F : FTy → Type} [FloatOps F]

/-- The precondition says that at least one tile has rows. -/
theorem pos_of_pre (x : FVec F Cert.Pre_pre2.S24832x4096 .bf16) (r : FVec F Cert.Pre_pre2.S24832x1 .f32)
    (g u : FVec F Cert.Pre_pre2.S2x32x4096x1024 .f32) (e : IVec Cert.Pre_pre2.S32 32)
    (h : Cert.Pre_pre2.fn (F := F) x r g u e = fun _ => 1#1) : 1 ≤ ntOf e ∧ ntOf e < 2 ^ 31 := by
  have h0 := congrFun h (fun k => k.elim0)
  refine pos_of_sge _ (Eq.trans ?_ h0)
  show IntOp.cmpi .sge (e (Shape.Idx.ofFin 31)) 1#32 = IntOp.cmpi .sge (shapeCast Cert.Pre_pre2.S_ (lastW e) _ _) 1#32
  refine congrArg (fun z => IntOp.cmpi .sge z 1#32) ?_
  exact (lastW_apply _ _).symm

theorem frame_ideal2 : Cert.quiescent_Kernel2Ideal := fun m ρ hp =>
  let h := pos_of_pre _ _ _ _ _ (hp 0)
  run_frame m ρ (good m h.1 h.2)

theorem frame_kernel2 : Cert.quiescent_Kernel2 := fun m ρ hp =>
  let h := pos_of_pre _ _ _ _ _ (hp 0)
  Cert.Twin2.run_eq _ _ (run_frame m ρ (good m h.1 h.2))

theorem frame_reference2 : Cert.quiescent_Reference2Ideal := fun m ρ _ =>
  (θ_run Cert.Reference2Ideal.defs _ _).mono
    (fun r h => ⟨fun c => (h c).2, sem_eq_zero_of_no_sems (by decide) r.2⟩)
    (Cert.Reference2Ideal.Value.run (F := Ideal) m ρ)

end Cert.Kernel2Ideal.Up

end
-- ==== Proof.DownGood.lean ====
module

public import proofs.«01_k».proof.Proof.DownCast
public import Idealize.ShloMosaic.Lib.WordCmp
public import Idealize.ShloMosaic.Lib.WordArith
public import Idealize.ShloMosaic.Lib.Affine

@[expose] public section

set_option maxRecDepth 16384

noncomputable section

namespace Cert.Kernel3Ideal.Down

open Cert.Kernel3Ideal Cert.Kernel3Ideal.Gen
open Idealize.ShloMosaic
open Cert.Kernel2Ideal.Up (fst)

variable {F : FTy → Type} [FloatOps F]

/-! ## What the three tables say -/

/-- The tables of a call: `nt` tiles have rows, tile `j`'s weights are expert `te j`'s, and a tile with rows that is not
    marked first has the weights of the tile before it. -/
structure Good (pf : pre0.Contents (Elt F)) (nt : ℕ) (te : ℕ → ℕ) : Prop where
  pos : 1 ≤ nt
  lt : nt < 2 ^ 31
  te_lt : ∀ j, te j < 32
  n : ∀ x, (pf 2 : IVec S1 32) x = BitVec.ofNat 32 nt
  c : ∀ x : S97.Idx, (pf 0 : IVec S97 32) x = BitVec.ofNat 32 (te (x 0).val)
  f : ∀ x : S97.Idx, (x 0).val < nt → (pf 1 : IVec S97 32) x ≠ 1#32 → 0 < (x 0).val ∧ te (x 0).val = te ((x 0).val - 1)

/-- The count of tiles and a tile's mark, as the body reads them. -/
abbrev ntw (pf : pre0.Contents (Elt F)) : BitVec 32 := word4 (F := F) (Memref.whole main_v0) (pf 2)
abbrev fw (pf : pre0.Contents (Elt F)) (i : grid0.Coords) : BitVec 32 := word3 (F := F) (Memref.whole main_v16) i (pf 1)

theorem i1_lt (i : grid0.Coords) : (i 1).val < 97 := (i 1).isLt
theorem i0_lt (i : grid0.Coords) : (i 0).val < 1 := (i 0).isLt

theorem entry_val (i : grid0.Coords) :
    ((Rect.unit (s := S97) (k0_off1 i) S1.size (k0_off1_inb i)).emb (Shape.Idx.first (show 0 < S1.numel from numel1_S1.symm ▸ Nat.one_pos)) 0 : ℕ) = (i 1).val := by
  rw [Rect.emb_apply]
  have e : k0_off1 i 0 = (i 1).val := by rw [k0_off1_eq i]; rfl
  show k0_off1 i 0 + 1 * 0 = _
  omega

section
variable {pf : pre0.Contents (Elt F)} {nt : ℕ} {te : ℕ → ℕ} (G : Good pf nt te)
include G

theorem ntw_eq : ntw pf = BitVec.ofNat 32 nt := G.n _

theorem act_iff (i : grid0.Coords) : act i (ntw pf) ↔ (i 1).val < nt := by
  rw [ntw_eq G]
  exact WordCmp.cmpi_slt_ofNat_eq_one_iff (w := 32) (by have := i1_lt i; omega) G.lt

theorem not_fst (i : grid0.Coords) (ha : act i (ntw pf)) (hf : ¬ fst (fw pf i)) :
    0 < (i 1).val ∧ te (i 1).val = te ((i 1).val - 1) := by
  have hx := entry_val i
  have h := G.f ((Rect.unit (s := S97) (k0_off1 i) S1.size (k0_off1_inb i)).emb (Shape.Idx.first (show 0 < S1.numel from numel1_S1.symm ▸ Nat.one_pos)))
  rw [hx] at h
  refine h ((act_iff G i).mp ha) fun e => hf ?_
  refine (congrArg (fun z => Scalar.cmpi .eq z 1#32) (show fw pf i = 1#32 from e)).trans ?_
  decide

theorem tr0 (i : grid0.Coords) : cc0_transform_0 inb_S1_S1_0 numel1_S1 pf i = ![min (i 1).val (nt - 1), 0] := by
  have h1 := i1_lt i
  have hp := G.pos
  have hl := G.lt
  have e : (Scalar.minsi (BitVec.ofNat 32 (i 1).val) (Scalar.subi (BitVec.ofNat 32 nt) 1#32)).toNat = min (i 1).val (nt - 1) := by
    have e1 : Scalar.subi (BitVec.ofNat 32 nt) 1#32 = BitVec.ofNat 32 (nt - 1) := by
      apply BitVec.eq_of_toNat_eq
      show (BitVec.ofNat 32 nt - 1#32).toNat = _
      rw [BitVec.toNat_sub, BitVec.toNat_ofNat, BitVec.toNat_ofNat]
      rw [BitVec.toNat_ofNat]
      show (2 ^ 32 - 1 % 2 ^ 32 + nt % 2 ^ 32) % 2 ^ 32 = _
      omega
    rw [e1]
    refine (WordArith.toNat_minsi_of_lt _ _ ?_ ?_).trans ?_ <;> simp only [BitVec.toNat_ofNat]
    · omega
    · omega
    · rw [Nat.mod_eq_of_lt (by omega), Nat.mod_eq_of_lt (by omega)]
  unfold cc0_transform_0
  have en : pf.at 2 (Rect.unit (s := S1) ![0] S1.size inb_S1_S1_0) numel1_S1 = BitVec.ofNat 32 nt := G.n _
  rw [en]
  funext a
  fin_cases a
  · exact e
  · rfl

theorem tr1 (i : grid0.Coords) : cc0_transform_1 k0_off1_inb numel1_S1 pf i = ![0, te (i 1).val, 0, (i 0).val] := by
  have h1 := i1_lt i
  have h0 := i0_lt i
  have hx := entry_val i
  have ec := G.c ((Rect.unit (s := S97) (k0_off1 i) S1.size (k0_off1_inb i)).emb (Shape.Idx.first (show 0 < S1.numel from numel1_S1.symm ▸ Nat.one_pos)))
  rw [hx] at ec
  have ht := G.te_lt (i 1).val
  funext a
  fin_cases a
  · rfl
  · show (pf.at 0 (Rect.unit (s := S97) (k0_off1 i) S1.size (k0_off1_inb i)) numel1_S1 : BitVec 32).toNat = te (i 1).val
    refine (congrArg BitVec.toNat ec).trans ?_
    rw [BitVec.toNat_ofNat]; omega
  · rfl
  · show (BitVec.ofNat 32 (i 0).val).toNat = (i 0).val
    rw [BitVec.toNat_ofNat]; omega

theorem ok_of : ok0 pf := by
  have hb0 : ∀ i : grid0.Coords, ∀ a, (cc0_transform_0 inb_S1_S1_0 numel1_S1 pf i a + 1) * S256x1024.size a ≤ S24832x1024.size a := fun i a => by
    rw [tr0 G i]; have := i1_lt i
    fin_cases a
    · show (min (i 1).val (nt - 1) + 1) * 256 ≤ 24832; omega
    · show (0 + 1) * 1024 ≤ 1024; omega
  have hb1 : ∀ i : grid0.Coords, ∀ a, (cc0_transform_1 k0_off1_inb numel1_S1 pf i a + 1) * S1x1x1024x4096.size a ≤ S2x32x1024x4096.size a := fun i a => by
    rw [tr1 G i]; have := i0_lt i; have := G.te_lt (i 1).val
    fin_cases a
    · show (0 + 1) * 1 ≤ 2; omega
    · show (te (i 1).val + 1) * 1 ≤ 32; omega
    · show (0 + 1) * 1024 ≤ 1024; omega
    · show ((i 0).val + 1) * 4096 ≤ 4096; omega
  exact ⟨fun i => ⟨hb0 i, .inr (Affine.block_words_dvd (of_decide_eq_true rfl) (by decide))⟩, fun i => ⟨hb1 i, .inl rfl⟩⟩

/-- The output block is stored at every tile. -/
theorem idle2 (i : grid0.Coords) : idle0 pf 2 i = false := by
  have h1 := c1_iff i (pf.atD 2 ![0]) (pf.atD 1 (k0_off1 i))
  have h2 := c2_iff i (pf.atD 2 ![0]) (pf.atD 1 (k0_off1 i))
  have h3 := c3_iff i (pf.atD 2 ![0])
  show (!(k0_cond1 i (pf.atD 2 ![0]) (pf.atD 1 (k0_off1 i)) == 1#1) && !(k0_cond2 i (pf.atD 2 ![0]) (pf.atD 1 (k0_off1 i)) == 1#1) && !(k0_cond3 i (pf.atD 2 ![0]) == 1#1)) = false
  by_cases ha : act i (pf.atD 2 ![0])
  · by_cases hf : fst (pf.atD 1 (k0_off1 i))
    · rw [h1.mpr ⟨ha, hf⟩]; rfl
    · rw [h2.mpr ⟨ha, hf⟩]; simp only [beq_self_eq_true, Bool.not_true, Bool.and_false, Bool.false_and]
  · rw [h3.mpr ha]; simp only [beq_self_eq_true, Bool.not_true, Bool.and_false]

end

end Cert.Kernel3Ideal.Down

end
-- ==== Proof.DownRun.lean ====
module

public import proofs.«01_k».proof.Proof.DownGood
public import Idealize.ShloMosaic.Lib.Pipeline.ArrRel
public import Idealize.ShloMosaic.Lib.Pipeline.DatRel
public import Idealize.ShloMosaic.Lib.Pipeline.FrameBody

@[expose] public section

set_option maxRecDepth 16384

noncomputable section

namespace Cert.Kernel3Ideal.Down

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal.Up (fst)
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the call is entered -/

/-- A core's buffers after the host operations. -/
abbrev V (c : Dev nD) (b : Ref sig .tc) : Buf (Elt F) ((c : Thread nD τ).loc b) :=
  StableHlo.after hostOps0 (fun b => m (c, b)) b

theorem host_fresh : (hostOps0 : List (HloOp τ sig (Elt F))).Forall fun op => op.fresh = ∅ := by
  simp only [List.Forall]; repeat' constructor

set_option maxHeartbeats 800000 in
theorem hmain : Pipeline.HMainP (Ix := Unit) (Name := ℕ) (U := UR sig nD τ) (Lvl := ℕ) pcfgs 0 defs₀ Variants.none m (main (F := F)) (V m) :=
  Pipeline.hmainP_prefix pcfgs 0 defs₀ Variants.none m main hostOps0 hostOps0_sub host_fresh main_chain

theorem keep_of (c : Dev nD) (b : Ref sig .tc)
    (h : (hostOps0 : List (HloOp τ sig (Elt F))).Forall fun op => Proc.devRef (τ := τ) .tc b ∉ op.writes) : V m c b = m ((c : Thread nD τ).loc b) :=
  StableHlo.after_of_forall_not_mem (b := Proc.devRef .tc b) _ _ (List.forall_iff_forall_mem.mp h)

theorem V_main_arg0 (c : Dev nD) : V m c main_arg0 = m ((c : Thread nD τ).loc main_arg0) :=
  keep_of m c main_arg0 (by
    simp only [hostOps0, List.Forall, StableHlo.nullary_writes, StableHlo.unary_writes, StableHlo.binary_writes, Finset.mem_singleton]
    repeat' apply And.intro
    all_goals exact StableHlo.devRef_ne_of_ne (by decide))
theorem V_main_arg1 (c : Dev nD) : V m c main_arg1 = m ((c : Thread nD τ).loc main_arg1) :=
  keep_of m c main_arg1 (by
    simp only [hostOps0, List.Forall, StableHlo.nullary_writes, StableHlo.unary_writes, StableHlo.binary_writes, Finset.mem_singleton]
    repeat' apply And.intro
    all_goals exact StableHlo.devRef_ne_of_ne (by decide))
theorem V_main_arg2 (c : Dev nD) : V m c main_arg2 = m ((c : Thread nD τ).loc main_arg2) :=
  keep_of m c main_arg2 (by
    simp only [hostOps0, List.Forall, StableHlo.nullary_writes, StableHlo.unary_writes, StableHlo.binary_writes, Finset.mem_singleton]
    repeat' apply And.intro
    all_goals exact StableHlo.devRef_ne_of_ne (by decide))

/-- The three tables at entry. -/
abbrev tbl : pre0.Contents (Elt F) := fun j => V m (0 : Dev nD) (pre0.ref j)

theorem V_pre (c : Dev nD) (j : Fin 3) : V m c (pre0.ref j) = tbl m j := by
  obtain rfl : c = 0 := Subsingleton.elim _ _; rfl

/-! ## Facts of the grid's points -/

theorem co0 : ∀ t : Fin grid0.N, (grid0.coords t 0).val = 0 := by decide +kernel
theorem co1 : ∀ t : Fin grid0.N, (grid0.coords t 1).val = t.val := by decide +kernel

section
variable {pf : pre0.Contents (Elt F)} (W : (c : Dev nD) → (b : Ref sig .tc) → Buf (Elt F) ((c : Thread nD τ).loc b)) {nt : ℕ} {te : ℕ → ℕ} (hG : Good pf nt te)

abbrev adm (hG : Good pf nt te) : (p : Fin 1) → (pcfgs (F := F) p).Adm := fun _ => ⟨pf, ok_of hG⟩
abbrev cfgM (hG : Good pf nt te) : Pipeline.Cfg sig Λ₀ := Pipeline.pin (pcfgs (F := F)) (adm hG) 0

/-- A window's block at a point, read off its array at entry. -/
def iblk (c : Dev nD) (w : Fin (cfgM hG).W) (t : Fin (cfgM hG).N) :
    (((cfgM hG).win w).xblock ((cfgM hG).grid.coords t)).Idx → Elt F ((cfgM hG).win w).elt :=
  (((cfgM hG).win w).blk t).view.read (Elt F) (W c (Pipeline.arrRef spec0 w))

abbrev blk0 (c : Dev nD) (t : Fin (cfgM hG).N) : Vec F S256x1024 .bf16 := iblk W hG c 0 t
abbrev blk1 (c : Dev nD) (t : Fin (cfgM hG).N) : Vec F S1x1x1024x4096 .f32 := iblk W hG c 1 t

theorem idx0 (t : Fin (cfgM hG).N) : ((cfgM hG).win 0).index t = ![min t.val (nt - 1), 0] := by
  have h := tr0 hG (grid0.coords t); rw [co1 t] at h; exact h
theorem idx1 (t : Fin (cfgM hG).N) : ((cfgM hG).win 1).index t = ![0, te t.val, 0, 0] := by
  have h := tr1 hG (grid0.coords t); rw [co1 t, co0 t] at h; exact h

/-- What each block holds, by the array's elements. -/
theorem blk0_apply (c : Dev nD) (t : Fin (cfgM hG).N) (a : Fin 256) (b : Fin 1024) :
    blk0 W hG c t (ix2 a b) = W c main_arg0 (ix2 (n0 := 24832) (n1 := 1024) ⟨min t.val (nt - 1) * 256 + a.val, by have := a.isLt; have : t.val < 97 := t.isLt; omega⟩ b) := by
  show W c main_arg0 _ = W c main_arg0 _
  blk_ext [iblk, idx0 hG t]
theorem blk1_apply (c : Dev nD) (t : Fin (cfgM hG).N) (a : Fin 1024) (b : Fin 4096) :
    blk1 W hG c t (ix4 0 0 a b) = W c main_arg1 (ix4 (n0 := 2) (n1 := 32) (n2 := 1024) (n3 := 4096) 0 ⟨te t.val, hG.te_lt _⟩ a b) := by
  show W c main_arg1 _ = W c main_arg1 _
  blk_ext [iblk, idx1 hG t]

/-- Two tiles of one expert have the same weights, cast. -/
theorem weights_keep (c : Dev nD) (t u : Fin (cfgM hG).N) (he : te t.val = te u.val) :
    castW (blk1 W hG c t) = castW (blk1 W hG c u) := by
  funext y; unfold castW; refine congrArg _ ?_
  refine (blk1_apply W hG c t (y 0) (y 1)).trans (Eq.trans ?_ (blk1_apply W hG c u (y 0) (y 1)).symm)
  refine congrArg _ ?_
  funext k; apply Fin.ext; fin_cases k
  · rfl
  · exact he
  · rfl
  · rfl

/-! ## What the scratch buffers hold between tiles -/

/-- Before point `n`: the cast weights of the tile just done, if it had rows. -/
def Inv (c : Dev nD) (n : ℕ) (A : Vec F S1024x4096 .bf16) : Prop :=
  ∀ u : Fin (cfgM hG).N, u.val + 1 = n → act (grid0.coords u) (ntw pf) → A = castW (blk1 W hG c u)

/-- What the body stores at a point. -/
def outP (c : Dev nD) (t : Fin (cfgM hG).N) : Vec F S256x4096 .f32 :=
  outV (grid0.coords t) (ntw pf) (fw pf (grid0.coords t)) (blk0 W hG c t) (blk1 W hG c t) (castW (blk1 W hG c t))

theorem held_at {c : Dev nD} {t : Fin (cfgM hG).N} {A : Vec F S1024x4096 .bf16} (hI : Inv W hG c t.val A)
    (ha : act (grid0.coords t) (ntw pf)) (hf : ¬ fst (fw pf (grid0.coords t))) : A = castW (blk1 W hG c t) := by
  have hN : t.val < 97 := t.isLt
  have h := not_fst hG _ ha hf
  have hn := (act_iff hG _).mp ha
  rw [co1 t] at h hn
  have hp : t.val - 1 < (cfgM hG).N := by show t.val - 1 < 97; omega
  have hu : act (grid0.coords ⟨t.val - 1, hp⟩) (ntw pf) := (act_iff hG _).mpr (by
    rw [co1]; show t.val - 1 < nt; omega)
  exact (hI ⟨t.val - 1, hp⟩ (by show t.val - 1 + 1 = t.val; omega) hu).trans (weights_keep W hG c t ⟨t.val - 1, hp⟩ h.2).symm

section Step
variable {c : Dev nD} {t : Fin (cfgM hG).N} {A : Vec F S1024x4096 .bf16} (hI : Inv W hG c t.val A)
include hI

theorem out_at : outV (grid0.coords t) (ntw pf) (fw pf (grid0.coords t)) (blk0 W hG c t) (blk1 W hG c t) A = outP W hG c t := by
  unfold outP outV
  by_cases ha : act (grid0.coords t) (ntw pf)
  · by_cases hf : fst (fw pf (grid0.coords t))
    · simp only [if_pos ha, if_pos hf]
    · rw [held_at W hG hI ha hf]
  · simp only [if_neg ha]

theorem inv_next : Inv W hG c (t.val + 1) (wS (grid0.coords t) (ntw pf) (fw pf (grid0.coords t)) (blk1 W hG c t) A) := fun u hu ha => by
  obtain rfl : u = t := Fin.ext (by omega)
  unfold wS
  by_cases hf : fst (fw pf (grid0.coords u))
  · simp only [if_pos (And.intro ha hf)]
    exact wN_eq _ _
  · have hn : ¬ (act (grid0.coords u) (ntw pf) ∧ fst (fw pf (grid0.coords u))) := fun h => hf h.2
    simp only [if_neg hn]
    exact held_at W hG hI ha hf

end Step

/-! ## The proof data -/

abbrev tbPt0 (c : Dev nD) (f : IVec S97 32) : sProp 𝕄 := (Memref.whole main_v29).view.loc (c : Thread nD τ) ↦{fullShare.right} f
abbrev tbPt1 (c : Dev nD) (f : IVec S97 32) : sProp 𝕄 := (Memref.whole main_v16).view.loc (c : Thread nD τ) ↦{fullShare.right} f
abbrev tbPt2 (c : Dev nD) (f : IVec S1 32) : sProp 𝕄 := (Memref.whole main_v0).view.loc (c : Thread nD τ) ↦{fullShare.right} f

theorem PhiT_eq (pf : pre0.Contents (Elt F)) (c : Dev nD) :
    (Pipeline.ΦT pre0 pf c : sProp 𝕄) = iprop(tbPt0 c (pf 0) ∗ tbPt1 c (pf 1) ∗ tbPt2 c (pf 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-- The scratch buffer at contents the invariant describes, the tables, and the generator register. -/
def PhiAt (c : Dev nD) (n : ℕ) : sProp 𝕄 :=
  iprop(∃ A, ⌜Inv W hG c n A⌝ ∗ owns (c : Thread nD τ) (Memref.whole cc0_scratch0) fullShare A
    ∗ (tbPt0 c (pf 0) ∗ tbPt1 c (pf 1) ∗ tbPt2 c (pf 2)) ∗ ∃ r, prngReg c r)

def dats (p : Fin 1) (c : Dev nD) : Dat τ (Elt F) Unit ℕ (UR sig nD τ) ℕ (Pipeline.pin (pcfgs (F := F)) (adm hG) p) c where
  A w := W c (Pipeline.arrRef spec0 w)
  after := fun | 0 => iblk W hG c 0 | 1 => iblk W hG c 1 | 2 => fun t => outP W hG c t | ⟨_ + 3, h⟩ => absurd h (Nat.not_lt.2 (Nat.le_add_left _ _))
  Φ n := PhiAt W hG c n.val
  q w := fullShare
  owed _ := 0

abbrev dat0 (c : Dev nD) : Dat τ (Elt F) Unit ℕ (UR sig nD τ) ℕ (cfgM hG) c := dats W hG 0 c

theorem A_eq (c : Dev nD) (w : Fin (cfgM hG).W) : (dat0 W hG c).A w = W c (Pipeline.arrRef spec0 w) := rfl

theorem before_0 (c : Dev nD) (t : Fin (cfgM hG).N) (d) : (dat0 W hG c).before 0 t d = iblk W hG c 0 t :=
  ((dat0 W hG c).before_in_eq_fetched 0 rfl (fun _ => rfl) (fun _ _ _ => rfl) (fun t => rfl) t d).trans rfl
theorem before_1 (c : Dev nD) (t : Fin (cfgM hG).N) (d) : (dat0 W hG c).before 1 t d = iblk W hG c 1 t :=
  ((dat0 W hG c).before_in_eq_fetched 1 rfl (fun _ => rfl) (fun _ _ _ => rfl) (fun t => rfl) t d).trans rfl

end

end Cert.Kernel3Ideal.Down

end
-- ==== Proof.DownStep.lean ====
module

public import proofs.«01_k».proof.Proof.DownRun
public import Idealize.ShloMosaic.Lib.Pipeline.ArrRel
public import Idealize.ShloMosaic.Lib.Pipeline.DatRel
public import Idealize.ShloMosaic.Lib.Pipeline.FrameBody

@[expose] public section

set_option maxRecDepth 16384

noncomputable section

namespace Cert.Kernel3Ideal.Down

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable {pf : pre0.Contents (Elt F)} (W : (c : Dev nD) → (b : Ref sig .tc) → Buf (Elt F) ((c : Thread nD τ).loc b)) {nt : ℕ} {te : ℕ → ℕ} (hG : Good pf nt te)

/-! ## The body obligation -/

abbrev st (t : Fin (cfgM hG).N) (w : Fin (cfgM hG).W) := ((cfgM hG).win w).stage ((cfgM hG).slots t w)

abbrev bodyAt (t : Fin (cfgM hG).N) : Prog (TpuEff nD τ sig (Elt F) Λ₀ .tc) PUnit :=
  cc0_moe_down (grid0.coords t) (Memref.whole main_v29) (Memref.isWhole_whole _) (Memref.whole main_v16) (Memref.isWhole_whole _) (Memref.whole main_v0) (Memref.isWhole_whole _)
    (spec0_0.stage ((cfgM hG).slots t 0)) (hstage0_0 (((cfgM hG).slots t 0).cast nbuf0_0))
    (spec0_1.stage ((cfgM hG).slots t 1)) (hstage0_1 (((cfgM hG).slots t 1).cast nbuf0_1))
    (spec0_2.stage ((cfgM hG).slots t 2)) (hstage0_2 (((cfgM hG).slots t 2).cast nbuf0_2))
    (Memref.whole cc0_scratch0) (Memref.isWhole_whole _)

def bodyPre (c : Dev nD) (t : Fin (cfgM hG).N) : sProp 𝕄 :=
  iprop((dat0 W hG c).Φ t.castSucc ∗ (dat0 W hG c).owesAt () t.castSucc
    ∗ (∃ d, owns (c : Thread nD τ) (st hG t 0) fullShare ((dat0 W hG c).before 0 t d))
    ∗ (∃ d, owns (c : Thread nD τ) (st hG t 1) fullShare ((dat0 W hG c).before 1 t d))
    ∗ (∃ d, owns (c : Thread nD τ) (st hG t 2) fullShare ((dat0 W hG c).before 2 t d)))
def bodyPost (c : Dev nD) (t : Fin (cfgM hG).N) : sProp 𝕄 :=
  iprop((dat0 W hG c).Φ t.succ ∗ (dat0 W hG c).owesAt () t.succ
    ∗ owns (c : Thread nD τ) (st hG t 0) fullShare ((dat0 W hG c).after 0 t)
    ∗ owns (c : Thread nD τ) (st hG t 1) fullShare ((dat0 W hG c).after 1 t)
    ∗ owns (c : Thread nD τ) (st hG t 2) fullShare ((dat0 W hG c).after 2 t))

set_option maxHeartbeats 1000000 in
/-- One run of the body from what it finds between tiles. -/
theorem step (c : Dev nD) (t : Fin (cfgM hG).N) (O : sProp 𝕄)
    (a5 : Memref sig .tc .vmem S256x1024 .bf16) (h5 : a5.IsWhole) (a6 : Memref sig .tc .vmem S1x1x1024x4096 .f32) (h6 : a6.IsWhole) (a7 : Memref sig .tc .vmem S256x4096 .f32) (h7 : a7.IsWhole)
    (X7 : Vec F S256x4096 .f32 → Vec F S256x4096 .f32) :
    iprop(PhiAt W hG c t.val ∗ O
      ∗ (∃ d : Vec F S256x1024 .bf16, owns (c : Thread nD τ) a5 fullShare (blk0 W hG c t))
      ∗ (∃ d : Vec F S1x1x1024x4096 .f32, owns (c : Thread nD τ) a6 fullShare (blk1 W hG c t))
      ∗ (∃ d, owns (c : Thread nD τ) a7 fullShare (X7 d)))
    ⊢ wp frame (wpE (defs₀ (F := F)) Variants.none c none) Set.univ
      (cc0_moe_down (grid0.coords t) (Memref.whole main_v29) (Memref.isWhole_whole _) (Memref.whole main_v16) (Memref.isWhole_whole _) (Memref.whole main_v0) (Memref.isWhole_whole _)
        a5 h5 a6 h6 a7 h7 (Memref.whole cc0_scratch0) (Memref.isWhole_whole _))
      (fun _ => iprop(PhiAt W hG c (t.val + 1) ∗ O
        ∗ owns (c : Thread nD τ) a5 fullShare (blk0 W hG c t) ∗ owns (c : Thread nD τ) a6 fullShare (blk1 W hG c t)
        ∗ owns (c : Thread nD τ) a7 fullShare (outP W hG c t))) := by
  unfold PhiAt
  iintro ⟨⟨%A, %hI, HA, ⟨T0, T1, T2⟩, Hg⟩, HO, ⟨%d0, H0⟩, ⟨%d1, H1⟩, ⟨%d2, H2⟩⟩
  have ho := out_at W hG hI
  iapply (body_run c (grid0.coords t) fullShare.right (Memref.whole main_v29) (Memref.isWhole_whole _) (Memref.whole main_v16) (Memref.isWhole_whole _) (Memref.whole main_v0) (Memref.isWhole_whole _)
    a5 h5 a6 h6 a7 h7 (Memref.whole cc0_scratch0) (Memref.isWhole_whole _) (pf 1) (pf 2)
    (blk0 W hG c t) (blk1 W hG c t) (X7 d2) A _)
  rw [ho]
  isplitl [T1]; · iexact T1
  isplitl [T2]; · iexact T2
  isplitl [H0]; · iexact H0
  isplitl [H1]; · iexact H1
  isplitl [H2]; · iexact H2
  isplitl [HA]; · iexact HA
  iintro ⟨T1, T2, H0, H1, H2, HA⟩
  isplitl [HA T0 T1 T2 Hg]
  · iexists _; isplitr; swap
    · isplitl [HA]; · iexact HA
      isplitl [T0 T1 T2]
      · isplitl [T0]; · iexact T0
        isplitl [T1]; · iexact T1
        iexact T2
      iexact Hg
    · ipureintro; exact inv_next W hG hI
  isplitl [HO]; · iexact HO
  isplitl [H0]; · iexact H0
  isplitl [H1]; · iexact H1
  iexact H2

theorem phi_cast (c : Dev nD) (t : Fin (cfgM hG).N) : (dat0 W hG c).Φ t.castSucc = PhiAt W hG c t.val :=
  congrArg (PhiAt W hG c) (Fin.val_castSucc t)
theorem phi_succ (c : Dev nD) (t : Fin (cfgM hG).N) : (dat0 W hG c).Φ t.succ = PhiAt W hG c (t.val + 1) := rfl
theorem owes_succ (c : Dev nD) (t : Fin (cfgM hG).N) : (dat0 W hG c).owesAt () t.succ = (dat0 W hG c).owesAt () t.castSucc := rfl
theorem after_0 (c : Dev nD) (t : Fin (cfgM hG).N) : (dat0 W hG c).after 0 t = blk0 W hG c t := rfl
theorem after_1 (c : Dev nD) (t : Fin (cfgM hG).N) : (dat0 W hG c).after 1 t = blk1 W hG c t := rfl
theorem after_2 (c : Dev nD) (t : Fin (cfgM hG).N) : (dat0 W hG c).after 2 t = outP W hG c t := rfl

set_option maxHeartbeats 1000000 in
theorem sound_body (c : Dev nD) (t : Fin (cfgM hG).N) :
    bodyPre W hG c t ⊢ wp frame (wpE (defs₀ (F := F)) Variants.none c none) Set.univ (bodyAt hG t) (fun _ => bodyPost W hG c t) := by
  unfold bodyPre bodyPost bodyAt
  simp only [phi_cast, phi_succ, owes_succ, after_0, after_1, after_2, before_0, before_1]
  exact step W hG c t ((dat0 W hG c).owesAt () t.castSucc)
    (spec0_0.stage ((cfgM hG).slots t 0)) (hstage0_0 (((cfgM hG).slots t 0).cast nbuf0_0))
    (spec0_1.stage ((cfgM hG).slots t 1)) (hstage0_1 (((cfgM hG).slots t 1).cast nbuf0_1))
    (spec0_2.stage ((cfgM hG).slots t 2)) (hstage0_2 (((cfgM hG).slots t 2).cast nbuf0_2))
    (fun d => (dat0 W hG c).before 2 t d)

theorem defs₀_row (t : Fin (cfgM hG).N) :
    defs₀ (F := F) .tc (cfgM hG).body ((cfgM hG).bodyArgs t ((cfgM hG).slots t)) = bodyAt hG t := by
  unfold defs₀; rw [Defs.onTc_tc]

theorem live2 (t : Fin (cfgM hG).N) : (cfgM hG).idle 2 ((cfgM hG).grid.coords t) = false := idle2 hG (grid0.coords t)

theorem leaves_live (c : Dev nD) (w : Fin (cfgM hG).W) (t : Fin (cfgM hG).N) (hi : (cfgM hG).idle w ((cfgM hG).grid.coords t) = false) :
    owns (c : Thread nD τ) (((cfgM hG).win w).stage ((cfgM hG).slots t w)) fullShare ((dat0 W hG c).after w t) ⊢ ((dat0 W hG c).leavesExact w t : sProp 𝕄) := by
  unfold Pipeline.Dat.leavesExact; rw [hi]

set_option maxHeartbeats 1000000 in
theorem body_strict (c : Dev nD) :
    Pipeline.BodyObligation (dats W hG 0 c) (defs₀ (F := F)) Variants.none () Set.univ := fun t => by
  rw [bigSep_W0, bigSep_W0, defs₀_row]
  refine triple_restated (sound_body W hG c t) rfl .rfl fun _ => ?_
  refine BIClass.sep_mono (Entails.of_eq rfl) (BIClass.sep_mono (Entails.of_eq rfl) (BIClass.sep_mono ?_ (BIClass.sep_mono ?_ ?_)))
  · exact leaves_live W hG c 0 t rfl
  · exact leaves_live W hG c 1 t rfl
  · exact leaves_live W hG c 2 t (live2 hG t)

theorem body_obligation (c : Dev nD) :
    Pipeline.BodyObligationLoose (dats W hG 0 c) (defs₀ (F := F)) Variants.none () Set.univ := (body_strict W hG c).loose

end

end Cert.Kernel3Ideal.Down

end
-- ==== Proof.DownFin.lean ====
module

public import proofs.«01_k».proof.Proof.DownStep

/-! The launch of the down projection's kernel: every run of it ends, with the arguments as they were. -/

@[expose] public section

set_option maxRecDepth 16384

noncomputable section

namespace Cert.Kernel3Ideal.Down

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable {pf : pre0.Contents (Elt F)} (W : (c : Dev nD) → (b : Ref sig .tc) → Buf (Elt F) ((c : Thread nD τ).loc b)) {nt : ℕ} {te : ℕ → ℕ} (hG : Good pf nt te)

/-- Before the first point the scratch buffer holds anything; after the last its contents are forgotten. -/
theorem phi_in (c : Dev nD) : iprop(Pipeline.ΦA (Val := Elt F) (U := UR sig nD τ) spec0 c ∗ Pipeline.ΦT pre0 pf c : sProp 𝕄) ⊢ PhiAt W hG c 0 := by
  rw [PhiT_eq]
  unfold Pipeline.ΦA PhiAt
  rw [scopedRest0_eq]; simp only [owns_whole]
  iintro ⟨⟨⟨%A, HA⟩, Hg⟩, HT⟩
  iexists A; isplitr
  · ipureintro; exact fun u hu _ => absurd hu (Nat.succ_ne_zero _)
  isplitl [HA]; · iexact HA
  isplitl [HT]; · iexact HT
  iexact Hg

theorem share_full (c : Dev nD) (w : Fin (cfgM hG).W) : (dat0 W hG c).share w = fullShare := by
  unfold Pipeline.Dat.share; split <;> rfl

theorem phi_out (c : Dev nD) (n : ℕ) : PhiAt W hG c n ⊢ (Pipeline.ΦA (Val := Elt F) (U := UR sig nD τ) spec0 c : sProp 𝕄) := by
  unfold Pipeline.ΦA PhiAt
  rw [scopedRest0_eq]; simp only [owns_whole]
  iintro ⟨%A, -, HA, -, Hg⟩
  isplitr [Hg]
  · iexists A; iexact HA
  iexact Hg

end

variable (m : (ℓ : Loc nD τ sig) → Buf (Elt F) ℓ) (ρ : Dev nD → PrngReg) {nt : ℕ} {te : ℕ → ℕ} (hG : Good (tbl m) nt te)

theorem phi_last (c : Dev nD) : (dat0 (V m) hG c).Φ (Fin.last (cfgM hG).N) = PhiAt (V m) hG c 97 := rfl
theorem phi_zero (c : Dev nD) : (dat0 (V m) hG c).Φ 0 = PhiAt (V m) hG c 0 := rfl

set_option backward.isDefEq.respectTransparency.types false in
set_option maxHeartbeats 1000000 in
/-- Every run of @main ends, the windowed arrays as the proof data say and every other buffer as the call found it. -/
theorem run_main :
    θ_run defs (onTc (τ := τ) (main (F := F))) ⟨m, fun _ => 0, ρ⟩
      (fun r => Pipeline.FramePost (Pipeline.pin pcfgs (adm hG)) (dats (V m) hG) 0 (V m) r ∧ r.2.sem = fun _ => 0) :=
  Pipeline.θ_run_frameP_track (Q' := _) pcfgs (adm hG) (dats (V m) hG) 0 launch0 defs₀ Variants.none m ρ main
    (hbody := fun c => body_obligation (V m) hG c) (hshare := fun c w => share_full (V m) hG c w)
    (howed := fun _ _ => rfl) (V := V m) (hmain := hmain m) (hA := A_eq (V m) hG) (hpf := fun c k => V_pre m c k)
    (hin := fun c => (phi_in (V m) hG c).trans (Entails.of_eq (phi_zero m hG c).symm))
    (hout := fun c => (Entails.of_eq (phi_last m hG c)).trans (phi_out (V m) hG c _)) (hQ' := fun _ h => h)

/-- A final state of the run holds the arguments as launched. -/
theorem final_args {r : PUnit × MemSt nD τ sig (Elt F)}
    (h : Pipeline.FramePost (Pipeline.pin pcfgs (adm hG)) (dats (V m) hG) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  ⟨((h c).1 0).trans (((dat0 (V m) hG c).arrAt_in 0 rfl _).trans (V_main_arg0 m c)),
   ((h c).1 1).trans (((dat0 (V m) hG c).arrAt_in 1 rfl _).trans (V_main_arg1 m c)),
   ((h c).2 main_arg2 (Pipeline.mem_restRefs_of (win := spec0) main_arg2 (by decide) (by decide))).trans (V_main_arg2 m c)⟩

include hG in
/-- Every run of @main ends with the arguments as launched and every semaphore counter at zero. -/
theorem run_frame :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => final_args m hG h.1 c, h.2⟩) (run_main m ρ hG)

end Cert.Kernel3Ideal.Down

end
-- ==== Proof.DownTables.lean ====
module
public import proofs.«01_k».proof.Proof.UpTables
public import proofs.«01_k».proof.Proof.DownRun

/-! The tables of the down projection's launch: the host computes them from the tiles' ends as it does for the
    up projection's. -/

@[expose] public section

noncomputable section

namespace Cert.Kernel3Ideal.Down

open Idealize.ShloMosaic Idealize.ShloMosaic.TcCoe
open Cert.Kernel3Ideal Cert.Kernel3Ideal.Gen
open Idealize.ShloMosaic.Tactic Idealize.ShloMosaic.StableHlo Idealize.ShloMosaic.StableHlo.Predicate
open Cert.Kernel2Ideal.Up (rawW lastW clampW markW ntOf teOf rawW_apply lastW_apply clampW_apply markW_zero markW_pos ofNat_toNat_self cnt)

variable {F : FTy → Type} [FloatOps F]
variable (m : (ℓ : Loc nD τ sig) → Buf (Elt F) ℓ)

/-- The tiles' ends. -/
abbrev ends (c : Dev nD) : IVec S32 32 := m ((c : Thread nD τ).loc main_arg2)

set_option maxHeartbeats 2000000 in
theorem V_v0 (c : Dev nD) : V m c main_v0 = lastW (ends m c) := by
  simp only [V, hostOps0]
  after_results_simp <;> rfl
set_option maxHeartbeats 2000000 in
theorem V_v16 (c : Dev nD) : V m c main_v16 = markW (rawW (ends m c) (iotaInDim S97 32 0)) := by
  simp only [V, hostOps0]
  after_results_simp <;> rfl
set_option maxHeartbeats 2000000 in
theorem V_v29 (c : Dev nD) : V m c main_v29 = rawW (ends m c) (clampW (ends m c)) := by
  simp only [V, hostOps0]
  after_results_simp <;> rfl

theorem good (h1 : 1 ≤ ntOf (ends m 0)) (h2 : ntOf (ends m 0) < 2 ^ 31) : Good (tbl m) (ntOf (ends m 0)) (teOf (ends m 0)) where
  pos := h1
  lt := h2
  te_lt j := by unfold teOf; omega
  n x := by
    refine (congrFun (V_v0 m 0) x).trans ((lastW_apply _ _).trans ?_)
    exact (ofNat_toNat_self _).symm
  c x := by
    refine (congrFun (V_v29 m 0) x).trans ((rawW_apply _ _ x).trans ?_)
    rw [clampW_apply _ h1 h2]; rfl
  f x hx hne := by
    have hb : (x 0).val < 97 := (x 0).isLt
    have hne' : markW (rawW (ends m 0) (iotaInDim S97 32 0)) x ≠ 1#32 := fun h => hne ((congrFun (V_v16 m 0) x).trans h)
    have h0 : 0 < (x 0).val := Nat.pos_of_ne_zero fun h => hne' (markW_zero _ x h)
    refine ⟨h0, ?_⟩
    have hr := markW_pos _ x h0 hne'
    rw [rawW_apply, rawW_apply] at hr
    have hr' := congrArg BitVec.toNat hr
    rw [BitVec.toNat_ofNat, BitVec.toNat_ofNat] at hr'
    unfold teOf
    rw [Nat.min_eq_left (show (x 0).val ≤ ntOf (ends m 0) - 1 by omega), Nat.min_eq_left (show (x 0).val - 1 ≤ ntOf (ends m 0) - 1 by omega)]
    have ea : iotaInDim S97 32 0 x = BitVec.ofNat 32 (x 0).val := rfl
    have eb : iotaInDim S97 32 0 (Shape.Idx.ofFin ⟨(x 0).val - 1, by omega⟩) = BitVec.ofNat 32 ((x 0).val - 1) := rfl
    rw [ea, eb] at hr'
    omega

end Cert.Kernel3Ideal.Down

end
-- ==== Proof.DownTwin.lean ====
module
public import proofs.«01_k».proof.Proof.Gen.Kernel3
public import proofs.«01_k».proof.Proof.Gen.Kernel3Ideal
public import Idealize.ShloMosaic.Init

/-! The down projection's kernel and its ideal program have the same text: over any float values they are the same program. -/

@[expose] public section

noncomputable section

namespace Cert.Twin3

open Idealize.ShloMosaic Idealize.SL.Sem

variable {F : FTy → Type} [FloatOps F]

set_option maxHeartbeats 4000000 in
/-- The two programs' kernel bodies are the same. -/
theorem bodies_eq : Cert.Kernel3.defs₀ (F := F) = Cert.Kernel3Ideal.defs₀ (F := F) := by
  unfold Cert.Kernel3.defs₀ Cert.Kernel3Ideal.defs₀
  refine congrArg (Defs.onTc (nD := Cert.Kernel3Ideal.nD) (τ := Cert.Kernel3Ideal.τ)) ?_
  funext l a
  match l, a with
  | 0, (t, s) => rfl
  | ⟨_ + 1, h⟩, _ => exact absurd h (Nat.not_lt.2 (Nat.le_add_left _ _))

/-- So are their body tables. -/
theorem defs_eq : Cert.Kernel3.defs (F := F) = Cert.Kernel3Ideal.defs (F := F) :=
  congrArg (Pipeline.defs (Cert.Kernel3Ideal.pcfgs (F := F))) bodies_eq

set_option maxHeartbeats 4000000 in
/-- So is @main. -/
theorem main_eq : Cert.Kernel3.main (F := F) = Cert.Kernel3Ideal.main (F := F) := rfl

/-- What holds of every run of the one holds of every run of the other. -/
theorem run_eq (σ : MemSt Cert.Kernel3Ideal.nD Cert.Kernel3Ideal.τ Cert.Kernel3Ideal.sig (Elt F)) (Q : PUnit × MemSt Cert.Kernel3Ideal.nD Cert.Kernel3Ideal.τ Cert.Kernel3Ideal.sig (Elt F) → Prop)
    (h : θ_run (Cert.Kernel3Ideal.defs (F := F)) (onTc (τ := Cert.Kernel3Ideal.τ) (Cert.Kernel3Ideal.main (F := F))) σ Q) :
    θ_run (Cert.Kernel3.defs (F := F)) (onTc (τ := Cert.Kernel3.τ) (Cert.Kernel3.main (F := F))) σ Q := by
  rw [← defs_eq, ← main_eq] at h
  exact h

end Cert.Twin3

end
-- ==== Proof.DownPre.lean ====
module

public import proofs.«01_k».proof.Defs
public import proofs.«01_k».proof.Proof.UpPre
public import proofs.«01_k».proof.Proof.DownFin
public import proofs.«01_k».proof.Proof.DownTables
public import proofs.«01_k».proof.Proof.DownTwin
public import proofs.«01_k».proof.Proof.Gen.Reference3Ideal.Run
public import Idealize.ShloMosaic.Init

/-! What the precondition says of the count of tiles, and the runs under it. -/

@[expose] public section

set_option maxRecDepth 16384

noncomputable section

namespace Cert.Kernel3Ideal.Down

open Idealize.ShloMosaic Idealize.ShloMosaic.TcCoe Idealize.SL.Sem

instance pre3Facts : Cert.Pre_pre3.Facts where
  slices_S32_S1_31 := by decide
  shapeCasts_S1_S_ := by decide

open Cert.Kernel2Ideal.Up (pos_of_sge lastW lastW_apply ntOf)

variable {F : FTy → Type} [FloatOps F]

/-- The precondition says that at least one tile has rows. -/
theorem pos_of_pre (x : FVec F Cert.Pre_pre3.S24832x1024 .bf16)
    (w : FVec F Cert.Pre_pre3.S2x32x1024x4096 .f32) (e : IVec Cert.Pre_pre3.S32 32)
    (h : Cert.Pre_pre3.fn (F := F) x w e = fun _ => 1#1) : 1 ≤ ntOf e ∧ ntOf e < 2 ^ 31 := by
  have h0 := congrFun h (fun k => k.elim0)
  refine pos_of_sge _ (Eq.trans ?_ h0)
  show IntOp.cmpi .sge (e (Shape.Idx.ofFin 31)) 1#32 = IntOp.cmpi .sge (shapeCast Cert.Pre_pre3.S_ (lastW e) _ _) 1#32
  refine congrArg (fun z => IntOp.cmpi .sge z 1#32) ?_
  exact (lastW_apply _ _).symm

theorem frame_ideal3 : Cert.quiescent_Kernel3Ideal := fun m ρ hp =>
  let h := pos_of_pre _ _ _ (hp 0)
  run_frame m ρ (good m h.1 h.2)

theorem frame_kernel3 : Cert.quiescent_Kernel3 := fun m ρ hp =>
  let h := pos_of_pre _ _ _ (hp 0)
  Cert.Twin3.run_eq _ _ (run_frame m ρ (good m h.1 h.2))

theorem frame_reference3 : Cert.quiescent_Reference3Ideal := fun m ρ _ =>
  (θ_run Cert.Reference3Ideal.defs _ _).mono
    (fun r h => ⟨fun c => (h c).2, sem_eq_zero_of_no_sems (by decide) r.2⟩)
    (Cert.Reference3Ideal.Value.run (F := Ideal) m ρ)

end Cert.Kernel3Ideal.Down

end
-- ==== Proof.DownFinal.lean ====
module

public import proofs.«01_k».proof.Proof.DownVal
public import proofs.«01_k».proof.Proof.DownPre
public import Idealize.ShloMosaic.Lib.Pipeline.ValueKit.Geometry

/-! What a final state of the run holds in the down projection's result, entry by entry. -/

@[expose] public section

set_option maxRecDepth 16384

noncomputable section

namespace Cert.Kernel3Ideal.Down

open Cert.Kernel3Ideal Cert.Kernel3Ideal.Gen
open Idealize.ShloMosaic Idealize.ShloMosaic.TcCoe Idealize.ShloMosaic.Tactic Idealize.SL.Sem

/-- An entry of the result: the product with the expert of the row's tile if the tile has rows, zero otherwise. -/
def outE (h : FVec Ideal S24832x1024 .bf16) (w : FVec Ideal S2x32x1024x4096 .f32) (nt : ℕ) (te : ℕ → Fin 32)
    (r : Fin 24832) (j : Fin 4096) : EReal :=
  if r.val / 256 < nt then dotE (fun k => h (ix2 r k)) (fun k => w (ix4 0 (te (r.val / 256)) k j)) else 0

theorem idxOut : ∀ t : Fin grid0.N, cc0_transform_2 (grid0.coords t) = ![t.val, 0] := by decide +kernel
theorem flushOut : ∀ t : Fin grid0.N, Pipeline.Window.flushOf grid0 true cc0_transform_2 t = true := by decide +kernel

variable {pf : pre0.Contents (Elt Ideal)} (W : (c : Dev nD) → (b : Ref sig .tc) → Buf (Elt Ideal) ((c : Thread nD τ).loc b)) {nt : ℕ} {te : ℕ → ℕ} (hG : Good pf nt te)

theorem idx2 (t : Fin (cfgM hG).N) : ((cfgM hG).win 2).index t = ![t.val, 0] := idxOut t
theorem flush2 (t : Fin (cfgM hG).N) : ((cfgM hG).win 2).flush t = true := flushOut t

theorem covers2 : ((cfgM hG).win 2).Covers := by
  refine ⟨(by decide : ∀ a : Fin 2, 0 < S256x4096.size a), fun β => ?_⟩
  have h0 : (β (0 : Fin 2)).val < 97 := lt_of_lt_of_eq (β (0 : Fin 2)).isLt (show (S24832x4096.size 0 + S256x4096.size 0 - 1) / S256x4096.size 0 = 97 by decide)
  have h1 : (β (1 : Fin 2)).val < 1 := lt_of_lt_of_eq (β (1 : Fin 2)).isLt (show (S24832x4096.size 1 + S256x4096.size 1 - 1) / S256x4096.size 1 = 1 by decide)
  refine ⟨⟨(β (0 : Fin 2)).val, h0⟩, flush2 hG _, fun a => ⟨?_, Or.inl rfl⟩⟩
  rw [idx2 hG]
  exact (show ∀ a : Fin 2, (![(β (0 : Fin 2)).val, 0] : Fin 2 → ℕ) a = (β a).val from fun a => by
    match a with
    | 0 => rfl
    | 1 => show 0 = (β (1 : Fin 2)).val; omega) a

/-- A point's block of the result, entry by entry. -/
theorem outP_at (c : Dev nD) (t : Fin (cfgM hG).N) (a : Fin 256) (b : Fin 4096) (r : Fin 24832) (j : Fin 4096)
    (hr : r.val = t.val * 256 + a.val) (hj : j.val = b.val) :
    (outP W hG c t (ix2 a b) : EReal) = outE (W c main_arg0) (W c main_arg1) nt (fun n => ⟨te n, hG.te_lt n⟩) r j := by
  obtain rfl : j = b := Fin.ext hj
  unfold outP outE
  have ha := a.isLt
  have hrt : r.val / 256 = t.val := by omega
  refine (outV_at _ _ _ _ _ a j).trans ?_
  have hiff : act (grid0.coords t) (ntw pf) ↔ r.val / 256 < nt := by
    rw [act_iff hG, co1 t, hrt]
  refine if_ctx_congr hiff (fun h => ?_) (fun _ => rfl)
  have hm : min t.val (nt - 1) = t.val := by omega
  have er : ∀ h', (⟨min t.val (nt - 1) * 256 + a.val, h'⟩ : Fin 24832) = r := fun h' => Fin.ext (by show min t.val (nt - 1) * 256 + a.val = _; rw [hm]; exact hr.symm)
  have ee : (⟨te t.val, hG.te_lt _⟩ : Fin 32) = ⟨te (r.val / 256), hG.te_lt _⟩ := Fin.ext (by rw [hrt])
  congr 1
  · funext k
    exact (blk0_apply W hG c t a k).trans (congrArg (fun z => W c main_arg0 (ix2 (n0 := 24832) (n1 := 1024) z k)) (er _))
  · funext k
    refine (blk1_apply W hG c t k j).trans ?_
    rw [ee]

/-- The result's array after the whole run. -/
theorem arr_out (c : Dev nD) :
    (dat0 W hG c).arrAt 2 (cfgM hG).N = fun i : S24832x4096.Idx =>
      (outE (W c main_arg0) (W c main_arg1) nt (fun n => ⟨te n, hG.te_lt n⟩) (i 0) (i 1) : EReal) := by
  refine Pipeline.Dat.arrAt_eq_of_covers (dat0 W hG c) 2 _ (covers2 hG) (fun t _ y => ?_)
  obtain ⟨a, b, hy⟩ : ∃ a b, ((cfgM hG).win 2).xinj ((cfgM hG).grid.coords t) y = ix2 a b := ⟨_, _, eq_ix2 (n0 := 256) (n1 := 4096) _⟩
  have h0 : (y (0 : Fin 2)).val = a.val := congrArg (fun x : S256x4096.Idx => (x 0).val) hy
  have h1 : (y (1 : Fin 2)).val = b.val := congrArg (fun x : S256x4096.Idx => (x 1).val) hy
  show outP W hG c t (((cfgM hG).win 2).xinj ((cfgM hG).grid.coords t) y) = _
  rw [hy]
  refine outP_at W hG c t a b _ _ ?_ ?_
  · rw [← h0]; blk_simp [idx2 hG t]
  · rw [← h1]; blk_simp [idx2 hG t]

end Cert.Kernel3Ideal.Down

end
-- ==== Proof.UpVal.lean ====
module

public import proofs.«01_k».proof.Proof.UpCast
public import Idealize.ShloMosaic.Lib.Claim
public import Idealize.ShloMosaic.Lib.Pointwise
public import Idealize.ShloMosaic.Lib.Pipeline.ValueKit.Acc

/-! What a tile stores, entry by entry over the extended reals: both cases of a tile with rows store the same product. -/

@[expose] public section

set_option maxRecDepth 16384

noncomputable section

namespace Cert.Kernel2Ideal.Up

open Cert.Kernel2Ideal Cert.Kernel2Ideal.Gen
open Idealize.ShloMosaic Idealize.ShloMosaic.TcCoe Idealize.ShloMosaic.Tactic

/-- A row of activations against a column of weights. -/
def dotE (x w : Fin 4096 → EReal) : EReal := ∑ k, x k * w k

/-- The gated product of a row, times the row's weight. -/
def gated (x g u : Fin 4096 → EReal) (w : EReal) : EReal :=
  dotE x g * Ideal.logistic (dotE x g) * dotE x u * w

theorem pay1_at (X5 : Vec Ideal S256x4096 .bf16) (G U : Vec Ideal S4096x512 .bf16) (X6 : Vec Ideal S256x1 .f32) (a : Fin 256) (b : Fin 512) :
    (k0_pay1 X5 G U X6 (ix2 a b) : EReal)
      = gated (fun k => X5 (ix2 a k)) (fun k => G (ix2 k b)) (fun k => U (ix2 k b)) (X6 (ix2 a 0)) := by
  unfold gated dotE
  pointwise [k0_pay1]

theorem pay2_at (a : Fin 256) (b : Fin 512) : ((k0_pay2 : FVec Ideal S256x512 .bf16) (ix2 a b) : EReal) = (0 : EReal) := by
  pointwise [k0_pay2]

/-- The sum over one chunk of 512 of the contracted coordinate. -/
def part (x w : Fin 4096 → EReal) (s : Fin 8) : EReal := ∑ k : Fin 512, x ⟨s.val * 512 + k.val, by omega⟩ * w ⟨s.val * 512 + k.val, by omega⟩

theorem dotE_parts (x w : Fin 4096 → EReal) :
    part x w 0 + part x w 1 + part x w 2 + part x w 3 + part x w 4 + part x w 5 + part x w 6 + part x w 7 = dotE x w :=
  (Fin.sum_univ_eight (part x w)).symm.trans (Fin.sum_mul_add_fin 8 512 (fun k => x k * w k))

/-- One chunk's product. -/
def mm (A : FVec Ideal S256x512 .bf16) (B : FVec Ideal S512x512 .bf16) : FVec Ideal S256x512 .f32 :=
  matmul (φ₁ := .bf16) (φ₂ := .bf16) dot_S256x512_S512x512_S256x512_1_0_0_1_n_n none A B (constant S256x512 .f32 0x00000000#32)

theorem mm_at (A : FVec Ideal S256x512 .bf16) (B : FVec Ideal S512x512 .bf16) (a : Fin 256) (b : Fin 512) :
    (mm A B (ix2 a b) : EReal) = ∑ k : Fin 512, (A (ix2 a k) : EReal) * (B (ix2 k b) : EReal) := by
  pointwise [mm]

theorem chunk_mm (s : Fin 8) (o : ℕ) (ho : o = s.val * 512) (inbX : ∀ a, (![0, o] : Fin 2 → ℕ) a + S256x512.size a ≤ S256x4096.size a)
    (inbS : ∀ a, (![o, 0] : Fin 2 → ℕ) a + S512x512.size a ≤ S4096x512.size a)
    (X : Vec Ideal S256x4096 .bf16) (C : Vec Ideal S4096x512 .bf16) (B : Vec Ideal S512x512 .bf16)
    (hB : ∀ x, B x = C ((Rect.unit (s := S4096x512) ![o, 0] S512x512.size inbS).emb x)) (a : Fin 256) (b : Fin 512) :
    (mm (View.ld (Val := Elt Ideal) X (Rect.unit (s := S256x4096) ![0, o] S256x512.size inbX)) B (ix2 a b) : EReal)
      = part (fun k => X (ix2 a k)) (fun k => C (ix2 k b)) s := by
  subst ho
  rw [mm_at]
  unfold part
  refine Finset.sum_congr rfl fun k _ => ?_
  rw [hB]
  refine congrArg₂ (fun p q : EReal => p * q) ?_ ?_
  · show X _ = X _
    refine congrArg X ?_
    funext i; apply Fin.ext
    fin_cases i
    · show 0 + 1 * a.val = a.val; omega
    · show s.val * 512 + 1 * k.val = s.val * 512 + k.val; omega
  · refine congrArg C ?_
    funext i; apply Fin.ext
    fin_cases i
    · show s.val * 512 + 1 * k.val = s.val * 512 + k.val; omega
    · show 0 + 1 * b.val = b.val; omega

variable (X5 : Vec Ideal S256x4096 .bf16) (X6 : Vec Ideal S256x1 .f32) (X7 X8 : Vec Ideal S1x1x4096x512 .f32)

/-- The eight chunks' products added in order, for the gate and for the up weights. -/
def gSum : FVec Ideal S256x512 .f32 :=
  addf (addf (addf (addf (addf (addf (addf (mm (View.ld X5 xR0) (gc0 X7)) (mm (View.ld X5 xR1) (gc1 X7))) (mm (View.ld X5 xR2) (gc2 X7)))
    (mm (View.ld X5 xR3) (gc3 X7))) (mm (View.ld X5 xR4) (gc4 X7))) (mm (View.ld X5 xR5) (gc5 X7))) (mm (View.ld X5 xR6) (gc6 X7))) (mm (View.ld X5 xR7) (gc7 X7))
def uSum : FVec Ideal S256x512 .f32 :=
  addf (addf (addf (addf (addf (addf (addf (mm (View.ld X5 xR0) (uc0 X8)) (mm (View.ld X5 xR1) (uc1 X8))) (mm (View.ld X5 xR2) (uc2 X8)))
    (mm (View.ld X5 xR3) (uc3 X8))) (mm (View.ld X5 xR4) (uc4 X8))) (mm (View.ld X5 xR5) (uc5 X8))) (mm (View.ld X5 xR6) (uc6 X8))) (mm (View.ld X5 xR7) (uc7 X8))

theorem outF_eq : outF X5 X6 X7 X8
    = truncf .bf16 (mulf (mulf (mulf (gSum X5 X7) (logistic (gSum X5 X7))) (uSum X5 X8)) (broadcastTo S256x512 X6 broadcasts_S256x1_S256x512)) bitsLt_bf16_f32 := by
  unfold outF k0_pay25 k0_pay14 k0_pay9 k0_pay5 k0_pay21 k0_pay18 gSum uSum mm
  rfl

theorem gSum_at (a : Fin 256) (b : Fin 512) :
    (gSum X5 X7 (ix2 a b) : EReal) = dotE (fun k => X5 (ix2 a k)) (fun k => castW X7 (ix2 k b)) := by
  rw [← dotE_parts,
    ← chunk_mm 0 0 rfl inb_S256x4096_S256x512_0_0 inb_S4096x512_S512x512_0_0 X5 (castW X7) (gc0 X7) (fun x => chunk_apply 0 _ _ X7 x) a b,
    ← chunk_mm 1 512 rfl inb_S256x4096_S256x512_0_512 inb_S4096x512_S512x512_512_0 X5 (castW X7) (gc1 X7) (fun x => chunk_apply 512 _ _ X7 x) a b,
    ← chunk_mm 2 1024 rfl inb_S256x4096_S256x512_0_1024 inb_S4096x512_S512x512_1024_0 X5 (castW X7) (gc2 X7) (fun x => chunk_apply 1024 _ _ X7 x) a b,
    ← chunk_mm 3 1536 rfl inb_S256x4096_S256x512_0_1536 inb_S4096x512_S512x512_1536_0 X5 (castW X7) (gc3 X7) (fun x => chunk_apply 1536 _ _ X7 x) a b,
    ← chunk_mm 4 2048 rfl inb_S256x4096_S256x512_0_2048 inb_S4096x512_S512x512_2048_0 X5 (castW X7) (gc4 X7) (fun x => chunk_apply 2048 _ _ X7 x) a b,
    ← chunk_mm 5 2560 rfl inb_S256x4096_S256x512_0_2560 inb_S4096x512_S512x512_2560_0 X5 (castW X7) (gc5 X7) (fun x => chunk_apply 2560 _ _ X7 x) a b,
    ← chunk_mm 6 3072 rfl inb_S256x4096_S256x512_0_3072 inb_S4096x512_S512x512_3072_0 X5 (castW X7) (gc6 X7) (fun x => chunk_apply 3072 _ _ X7 x) a b,
    ← chunk_mm 7 3584 rfl inb_S256x4096_S256x512_0_3584 inb_S4096x512_S512x512_3584_0 X5 (castW X7) (gc7 X7) (fun x => chunk_apply 3584 _ _ X7 x) a b]
  rfl

theorem uSum_at (a : Fin 256) (b : Fin 512) :
    (uSum X5 X8 (ix2 a b) : EReal) = dotE (fun k => X5 (ix2 a k)) (fun k => castW X8 (ix2 k b)) := by
  rw [← dotE_parts,
    ← chunk_mm 0 0 rfl inb_S256x4096_S256x512_0_0 inb_S4096x512_S512x512_0_0 X5 (castW X8) (uc0 X8) (fun x => chunk_apply 0 _ _ X8 x) a b,
    ← chunk_mm 1 512 rfl inb_S256x4096_S256x512_0_512 inb_S4096x512_S512x512_512_0 X5 (castW X8) (uc1 X8) (fun x => chunk_apply 512 _ _ X8 x) a b,
    ← chunk_mm 2 1024 rfl inb_S256x4096_S256x512_0_1024 inb_S4096x512_S512x512_1024_0 X5 (castW X8) (uc2 X8) (fun x => chunk_apply 1024 _ _ X8 x) a b,
    ← chunk_mm 3 1536 rfl inb_S256x4096_S256x512_0_1536 inb_S4096x512_S512x512_1536_0 X5 (castW X8) (uc3 X8) (fun x => chunk_apply 1536 _ _ X8 x) a b,
    ← chunk_mm 4 2048 rfl inb_S256x4096_S256x512_0_2048 inb_S4096x512_S512x512_2048_0 X5 (castW X8) (uc4 X8) (fun x => chunk_apply 2048 _ _ X8 x) a b,
    ← chunk_mm 5 2560 rfl inb_S256x4096_S256x512_0_2560 inb_S4096x512_S512x512_2560_0 X5 (castW X8) (uc5 X8) (fun x => chunk_apply 2560 _ _ X8 x) a b,
    ← chunk_mm 6 3072 rfl inb_S256x4096_S256x512_0_3072 inb_S4096x512_S512x512_3072_0 X5 (castW X8) (uc6 X8) (fun x => chunk_apply 3072 _ _ X8 x) a b,
    ← chunk_mm 7 3584 rfl inb_S256x4096_S256x512_0_3584 inb_S4096x512_S512x512_3584_0 X5 (castW X8) (uc7 X8) (fun x => chunk_apply 3584 _ _ X8 x) a b]
  rfl

theorem outF_at (a : Fin 256) (b : Fin 512) :
    (outF X5 X6 X7 X8 (ix2 a b) : EReal)
      = gated (fun k => X5 (ix2 a k)) (fun k => castW X7 (ix2 k b)) (fun k => castW X8 (ix2 k b)) (X6 (ix2 a 0)) := by
  rw [outF_eq]
  unfold gated
  rw [← gSum_at, ← uSum_at]
  pointwise [mm]

/-- What a tile stores: the gated product if the tile has rows, zero otherwise. -/
theorem outV_at (i : grid0.Coords) (v0 v3 : BitVec 32) (a : Fin 256) (b : Fin 512) :
    (outV i v0 v3 X5 X6 X7 X8 (castW X7) (castW X8) (ix2 a b) : EReal)
      = if act i v0 then gated (fun k => X5 (ix2 a k)) (fun k => X7 (ix4 0 0 k b)) (fun k => X8 (ix4 0 0 k b)) (X6 (ix2 a 0)) else 0 := by
  unfold outV
  by_cases ha : act i v0
  · rw [if_pos ha, if_pos ha]
    by_cases hf : fst v3
    · rw [if_pos hf]; exact outF_at X5 X6 X7 X8 a b
    · rw [if_neg hf]; exact pay1_at X5 (castW X7) (castW X8) X6 a b
  · rw [if_neg ha, if_neg ha]; exact pay2_at a b

end Cert.Kernel2Ideal.Up

end
-- ==== Proof.UpFinal.lean ====
module

public import proofs.«01_k».proof.Proof.UpVal
public import proofs.«01_k».proof.Proof.UpPre
public import Idealize.ShloMosaic.Lib.Pipeline.ValueKit.Geometry

/-! What a final state of the run holds in the up projection's result, entry by entry. -/

@[expose] public section

set_option maxRecDepth 16384

noncomputable section

namespace Cert.Kernel2Ideal.Up

open Cert.Kernel2Ideal Cert.Kernel2Ideal.Gen
open Idealize.ShloMosaic Idealize.ShloMosaic.TcCoe Idealize.ShloMosaic.Tactic Idealize.SL.Sem

/-- An entry of the result: the gated product with the expert of the row's tile if the tile has rows, zero otherwise. -/
def outE (x : FVec Ideal S24832x4096 .bf16) (w : FVec Ideal S24832x1 .f32) (g u : FVec Ideal S2x32x4096x1024 .f32) (nt : ℕ) (te : ℕ → Fin 32)
    (r : Fin 24832) (j : Fin 1024) : EReal :=
  if r.val / 256 < nt then
    gated (fun k => x (ix2 r k)) (fun k => g (ix4 0 (te (r.val / 256)) k j)) (fun k => u (ix4 0 (te (r.val / 256)) k j)) (w (ix2 r 0))
  else 0

theorem idxOut : ∀ t : Fin grid0.N, cc0_transform_4 (grid0.coords t) = ![t.val % 97, t.val / 97] := by decide +kernel
theorem flushOut : ∀ t : Fin grid0.N, Pipeline.Window.flushOf grid0 true cc0_transform_4 t = true := by decide +kernel

variable {pf : pre0.Contents (Elt Ideal)} (W : (c : Dev nD) → (b : Ref sig .tc) → Buf (Elt Ideal) ((c : Thread nD τ).loc b)) {nt : ℕ} {te : ℕ → ℕ} (hG : Good pf nt te)

theorem idx4 (t : Fin (cfgM hG).N) : ((cfgM hG).win 4).index t = ![t.val % 97, t.val / 97] := idxOut t
theorem flush4 (t : Fin (cfgM hG).N) : ((cfgM hG).win 4).flush t = true := flushOut t

theorem covers4 : ((cfgM hG).win 4).Covers := by
  refine ⟨(by decide : ∀ a : Fin 2, 0 < S256x512.size a), fun β => ?_⟩
  have h0 : (β (0 : Fin 2)).val < 97 := lt_of_lt_of_eq (β (0 : Fin 2)).isLt (show (S24832x1024.size 0 + S256x512.size 0 - 1) / S256x512.size 0 = 97 by decide)
  have h1 : (β (1 : Fin 2)).val < 2 := lt_of_lt_of_eq (β (1 : Fin 2)).isLt (show (S24832x1024.size 1 + S256x512.size 1 - 1) / S256x512.size 1 = 2 by decide)
  refine ⟨⟨(β (1 : Fin 2)).val * 97 + (β (0 : Fin 2)).val, by show _ < 194; omega⟩, flush4 hG _, fun a => ⟨?_, Or.inl rfl⟩⟩
  rw [idx4 hG]
  exact (show ∀ a : Fin 2, (![((β (1 : Fin 2)).val * 97 + (β (0 : Fin 2)).val) % 97, ((β (1 : Fin 2)).val * 97 + (β (0 : Fin 2)).val) / 97] : Fin 2 → ℕ) a = (β a).val from fun a => by
    match a with
    | 0 => show ((β (1 : Fin 2)).val * 97 + (β (0 : Fin 2)).val) % 97 = (β (0 : Fin 2)).val; omega
    | 1 => show ((β (1 : Fin 2)).val * 97 + (β (0 : Fin 2)).val) / 97 = (β (1 : Fin 2)).val; omega) a

/-- A point's block of the result, entry by entry. -/
theorem outP_at (c : Dev nD) (t : Fin (cfgM hG).N) (a : Fin 256) (b : Fin 512) (r : Fin 24832) (j : Fin 1024)
    (hr : r.val = t.val % 97 * 256 + a.val) (hj : j.val = t.val / 97 * 512 + b.val) :
    (outP W hG c t (ix2 a b) : EReal)
      = outE (W c main_arg0) (W c main_arg1) (W c main_arg2) (W c main_arg3) nt (fun n => ⟨te n, hG.te_lt n⟩) r j := by
  unfold outP outE
  have ha := a.isLt
  have hrt : r.val / 256 = t.val % 97 := by omega
  refine (outV_at _ _ _ _ _ _ _ a b).trans ?_
  have hiff : act (grid0.coords t) (ntw pf) ↔ r.val / 256 < nt := by
    rw [act_iff hG, co1 t, hrt]
  refine if_ctx_congr hiff (fun h => ?_) (fun _ => rfl)
  have hm : min (t.val % 97) (nt - 1) = t.val % 97 := by omega
  have er : ∀ h', (⟨min (t.val % 97) (nt - 1) * 256 + a.val, h'⟩ : Fin 24832) = r := fun h' => Fin.ext (by show min (t.val % 97) (nt - 1) * 256 + a.val = _; rw [hm]; exact hr.symm)
  have ej : ∀ h', (⟨t.val / 97 * 512 + b.val, h'⟩ : Fin 1024) = j := fun h' => Fin.ext hj.symm
  have ee : (⟨te (t.val % 97), hG.te_lt _⟩ : Fin 32) = ⟨te (r.val / 256), hG.te_lt _⟩ := Fin.ext (by rw [hrt])
  congr 1
  · funext k
    exact (blk0_apply W hG c t a k).trans (congrArg (fun z => W c main_arg0 (ix2 (n0 := 24832) (n1 := 4096) z k)) (er _))
  · funext k
    refine (blk2_apply W hG c t k b).trans ?_
    rw [ee]
    exact congrArg (fun z => W c main_arg2 (ix4 (n0 := 2) (n1 := 32) (n2 := 4096) (n3 := 1024) 0 _ k z)) (ej _)
  · funext k
    refine (blk3_apply W hG c t k b).trans ?_
    rw [ee]
    exact congrArg (fun z => W c main_arg3 (ix4 (n0 := 2) (n1 := 32) (n2 := 4096) (n3 := 1024) 0 _ k z)) (ej _)
  · exact (blk1_apply W hG c t a 0).trans (congrArg (fun z => W c main_arg1 (ix2 (n0 := 24832) (n1 := 1) z 0)) (er _))

/-- The result's array after the whole run. -/
theorem arr_out (c : Dev nD) :
    (dat0 W hG c).arrAt 4 (cfgM hG).N = fun i : S24832x1024.Idx =>
      (outE (W c main_arg0) (W c main_arg1) (W c main_arg2) (W c main_arg3) nt (fun n => ⟨te n, hG.te_lt n⟩) (i 0) (i 1) : EReal) := by
  refine Pipeline.Dat.arrAt_eq_of_covers (dat0 W hG c) 4 _ (covers4 hG) (fun t _ y => ?_)
  obtain ⟨a, b, hy⟩ : ∃ a b, ((cfgM hG).win 4).xinj ((cfgM hG).grid.coords t) y = ix2 a b := ⟨_, _, eq_ix2 (n0 := 256) (n1 := 512) _⟩
  have h0 : (y (0 : Fin 2)).val = a.val := congrArg (fun x : S256x512.Idx => (x 0).val) hy
  have h1 : (y (1 : Fin 2)).val = b.val := congrArg (fun x : S256x512.Idx => (x 1).val) hy
  show outP W hG c t (((cfgM hG).win 4).xinj ((cfgM hG).grid.coords t) y) = _
  rw [hy]
  refine outP_at W hG c t a b _ _ ?_ ?_
  · rw [← h0]; blk_simp [idx4 hG t]
  · rw [← h1]; blk_simp [idx4 hG t]

end Cert.Kernel2Ideal.Up

end
-- ==== Proof.UpRef.lean ====
module

public import proofs.«01_k».proof.Proof.UpFinal

/-! The up projection's reference, entry by entry: every expert's product for every row, weighted so that one remains. -/

@[expose] public section

set_option maxRecDepth 16384

noncomputable section

namespace Cert.Reference2Ideal.Up

open Cert.Reference2Ideal Cert.Reference2Ideal.Gen
open Idealize.ShloMosaic Idealize.ShloMosaic.TcCoe Idealize.ShloMosaic.Tactic Idealize.SL.Sem
open Cert.Kernel2Ideal.Up (cnt cnt_le count_eq ntOf teOf lastW lastW_apply dotE gated outE ofNat_toNat_self)

/-- A row's tile, its count of experts that end at or before the tile, and the mask of the rows' experts. -/
def tileV : IVec S24832 32 :=
  shapeCast _ (broadcastInDim S97x256 ![0, 1] bcast_S97x1_S97x256_0_1 (broadcastInDim S97x1 ![0] bcast_S97_S97x1_0 (iotaInDim S97 32 0))) shapeCasts_S97x256_S24832
def cntV (e : IVec S32 32) : IVec S24832 32 :=
  Host.reduce IntOp.addi (extui 32 (cmpi .sle (broadcastInDim S24832x32 ![0, 1] bcast_S1x32_S24832x32_0_1 (broadcastInDim S1x32 ![1] bcast_S32_S1x32_1 e))
    (broadcastInDim S24832x32 ![0, 1] bcast_S24832x1_S24832x32_0_1 (broadcastInDim S24832x1 ![0] bcast_S24832_S24832x1_0 tileV))) natLt_1_32)
    (constantI S_ 32 0#32) reducesTo_S24832x32_S24832_d1 h_S_
def lastV (e : IVec S32 32) : IVec S_ 32 := shapeCast _ (extractStridedSlice S1 ![31] e slices_S32_S1_31) shapeCasts_S1_S_
def maskV (e : IVec S32 32) : IVec S24832x32 1 :=
  andi (broadcastInDim S24832x32 ![0, 1] bcast_S24832x1_S24832x32_0_1 (broadcastInDim S24832x1 ![0] bcast_S24832_S24832x1_0
      (cmpi .slt tileV (broadcastInDim S24832 ![] bcast_S_S24832 (lastV e)))))
    (cmpi .eq (broadcastInDim S24832x32 ![0, 1] bcast_S24832x1_S24832x32_0_1 (broadcastInDim S24832x1 ![0] bcast_S24832_S24832x1_0 (cntV e)))
      (broadcastInDim S24832x32 ![0, 1] bcast_S1x32_S24832x32_0_1 (broadcastInDim S1x32 ![1] bcast_S32_S1x32_1 (iotaInDim S32 32 0))))

/-- Every expert's product for every row. -/
def dotV (x : FVec Ideal S24832x4096 .bf16) (g : FVec Ideal S2x32x4096x1024 .f32) : FVec Ideal S24832x32x1024 .f32 :=
  Host.dotGeneral dot_S24832x4096_S32x4096x1024_S24832x32x1024_1_1_0_02_n_n none (extf .f32 x bitsLt_bf16_f32)
    (shapeCast _ (extractStridedSlice S1x32x4096x1024 ![0, 0, 0, 0] g slices_S2x32x4096x1024_S1x32x4096x1024_0_0_0_0) shapeCasts_S1x32x4096x1024_S32x4096x1024)

/-- The reference's result. -/
def outR (x : FVec Ideal S24832x4096 .bf16) (w : FVec Ideal S24832x1 .f32) (g u : FVec Ideal S2x32x4096x1024 .f32) (e : IVec S32 32) : FVec Ideal S24832x1024 .bf16 :=
  truncf .bf16 (Host.reduceAdd (mulf (mulf (mulf (dotV x g) (Host.divf (broadcastInDim S24832x32x1024 ![] bcast_S_S24832x32x1024 (constant S_ .f32 0x3F800000#32))
      (addf (broadcastInDim S24832x32x1024 ![] bcast_S_S24832x32x1024 (constant S_ .f32 0x3F800000#32)) (Host.exp (Host.negf (dotV x g)))))) (dotV x u))
    (broadcastInDim S24832x32x1024 ![0, 1, 2] bcast_S24832x32x1_S24832x32x1024_0_1_2 (broadcastInDim S24832x32x1 ![0, 1] bcast_S24832x32_S24832x32x1_0_1
      (select (maskV e) (broadcastInDim S24832x32 ![0, 1] bcast_S24832x1_S24832x32_0_1 w)
        (broadcastInDim S24832x32 ![] bcast_S_S24832x32 (id (constant (F := Ideal) S_ .f32 0x00000000#32)))))))
    (constant S_ .f32 0x00000000#32) reducesTo_S24832x32x1024_S24832x1024_d1 h_S_) bitsLt_bf16_f32

theorem tileV_at (r : Fin 24832) : tileV (Shape.Idx.ofFin r) = BitVec.ofNat 32 (r.val / 256) := by
  unfold tileV
  refine (shapeCast_apply _ shapeCasts_S97x256_S24832 (Shape.Idx.ofFin r) (ix2 (n0 := 97) (n1 := 256) ⟨r.val / 256, by omega⟩ ⟨r.val % 256, by omega⟩) (by
    rw [Shape.rowMajor_val_two, Shape.rowMajor_val_one]
    show r.val / 256 * 256 + r.val % 256 = r.val
    omega)).trans ?_
  rfl

theorem lastV_at (e : IVec S32 32) (x : S_.Idx) : lastV e x = e (Shape.Idx.ofFin 31) := lastW_apply e _

theorem cntV_at (e : IVec S32 32) (r : Fin 24832) : (cntV e (Shape.Idx.ofFin r)).toNat = cnt e (BitVec.ofNat 32 (r.val / 256)) := by
  rw [← tileV_at]
  exact count_eq _ _ _ _ _ _ _ e tileV r

/-- Below the count of tiles not every expert ends at or before a tile. -/
theorem cnt_lt (e : IVec S32 32) (n : ℕ) (hn : n < ntOf e) (h2 : ntOf e < 2 ^ 31) : cnt e (BitVec.ofNat 32 n) ≤ 31 := by
  have hlt : cnt e (BitVec.ofNat 32 n) < 32 := by
    refine lt_of_lt_of_eq (Finset.card_lt_card (t := (Finset.univ : Finset (Fin 32))) ?_) (by simp)
    refine Finset.ssubset_univ_iff.mpr fun he => ?_
    have h31 := (Finset.mem_filter.mp (he ▸ Finset.mem_univ (31 : Fin 32))).2
    have e1 : (BitVec.ofNat 32 n).toNat = n := by rw [BitVec.toNat_ofNat]; omega
    have := (StableHlo.Predicate.sle_iff_toNat (a := e (Shape.Idx.ofFin 31)) (b := BitVec.ofNat 32 n) h2 (by omega)).mp h31
    unfold ntOf at hn
    omega
  omega

theorem and_iff : ∀ a b : BitVec 1, IntOp.andi a b = 1#1 ↔ a = 1#1 ∧ b = 1#1 := by decide

/-- The mask marks a row's expert, if the row's tile has rows. -/
theorem maskV_iff (e : IVec S32 32) (h2 : ntOf e < 2 ^ 31) (r : Fin 24832) (k : Fin 32) :
    maskV e (ix2 r k) = 1#1 ↔ r.val / 256 < ntOf e ∧ k.val = teOf e (r.val / 256) := by
  have hr := r.isLt
  have hm : maskV e (ix2 r k) = IntOp.andi (IntOp.cmpi .slt (tileV (Shape.Idx.ofFin r)) (lastV e (fun i => i.elim0)))
      (IntOp.cmpi .eq (cntV e (Shape.Idx.ofFin r)) (BitVec.ofNat 32 k.val)) := by
    unfold maskV
    generalize tileV = tv
    generalize cntV e = cv
    refine congrArg₂ IntOp.andi ?_ ?_
    · show cmpi .slt tv (broadcastInDim S24832 ![] bcast_S_S24832 (lastV e)) _ = _
      refine congrArg₂ (IntOp.cmpi .slt) (congrArg tv ?_) (congrArg (lastV e) (funext fun i => i.elim0))
      funext i; fin_cases i; rfl
    · refine congrArg₂ (IntOp.cmpi .eq) (congrArg cv ?_) rfl
      funext i; fin_cases i; rfl
  rw [hm, and_iff, tileV_at, lastV_at]
  have e1 : (BitVec.ofNat 32 (r.val / 256)).toNat = r.val / 256 := by rw [BitVec.toNat_ofNat]; omega
  rw [StableHlo.Predicate.slt_iff_toNat (by omega) h2, e1, StableHlo.Predicate.cmpi_eq_iff]
  refine and_congr_right fun hlt => ?_
  have hc := cnt_lt e _ hlt h2
  have ht : teOf e (r.val / 256) = cnt e (BitVec.ofNat 32 (r.val / 256)) := by
    unfold teOf
    change r.val / 256 < ntOf e at hlt
    rw [Nat.min_eq_left (show r.val / 256 ≤ ntOf e - 1 by omega)]
    exact Nat.min_eq_left hc
  rw [ht, ← cntV_at]
  have hk := k.isLt
  constructor
  · intro h; rw [h, BitVec.toNat_ofNat]; omega
  · intro h; rw [h]; exact (ofNat_toNat_self _).symm

theorem dotV_at (x : FVec Ideal S24832x4096 .bf16) (g : FVec Ideal S2x32x4096x1024 .f32) (r : Fin 24832) (k : Fin 32) (j : Fin 1024) :
    (dotV x g (ix3 r k j) : EReal) = dotE (fun i => x (ix2 r i)) (fun i => g (ix4 0 k i j)) := by
  unfold dotE
  pointwise [dotV]

theorem outR_sum (x : FVec Ideal S24832x4096 .bf16) (w : FVec Ideal S24832x1 .f32) (g u : FVec Ideal S2x32x4096x1024 .f32) (e : IVec S32 32)
    (r : Fin 24832) (j : Fin 1024) :
    (outR x w g u e (ix2 r j) : EReal) = ∑ k : Fin 32,
      (dotV x g (ix3 r k j) : EReal) * Ideal.logistic (dotV x g (ix3 r k j)) * (dotV x u (ix3 r k j) : EReal)
        * (if maskV e (ix2 r k) = 1#1 then (w (ix2 r 0) : EReal) else 0) := by
  unfold Ideal.logistic
  pointwise [outR]
  change @Eq EReal _ _
  refine Finset.sum_congr rfl fun k _ => congrArg (fun z : EReal => (dotV x g (ix3 r k j) : EReal) * Ideal.div 1 (1 + Ideal.exp (-dotV x g (ix3 r k j))) * (dotV x u (ix3 r k j) : EReal) * z) ?_
  exact congrArg (fun z : EReal => if maskV e (ix2 r k) = 1#1 then (w (ix2 r 0) : EReal) else z) (Ideal.ofBits_zero_f32)

theorem outR_at (x : FVec Ideal S24832x4096 .bf16) (w : FVec Ideal S24832x1 .f32) (g u : FVec Ideal S2x32x4096x1024 .f32) (e : IVec S32 32)
    (h2 : ntOf e < 2 ^ 31) (te : ℕ → Fin 32) (ht : ∀ n, (te n).val = teOf e n) (r : Fin 24832) (j : Fin 1024) :
    (outR x w g u e (ix2 r j) : EReal) = outE x w g u (ntOf e) te r j := by
  rw [outR_sum]
  unfold outE
  by_cases ha : r.val / 256 < ntOf e
  · rw [if_pos ha, Finset.sum_eq_single (te (r.val / 256))]
    · rw [if_pos ((maskV_iff e h2 r _).mpr ⟨ha, ht _⟩), dotV_at, dotV_at]
      rfl
    · intro k _ hk
      rw [if_neg (fun h => hk (Fin.ext (((maskV_iff e h2 r k).mp h).2.trans (ht _).symm)))]
      exact mul_zero _
    · exact fun h => absurd (Finset.mem_univ _) h
  · rw [if_neg ha]
    refine Finset.sum_eq_zero fun k _ => ?_
    rw [if_neg (fun h => ha ((maskV_iff e h2 r k).mp h).1)]
    exact mul_zero _

end Cert.Reference2Ideal.Up

end
-- ==== Proof.DownRef.lean ====
module

public import proofs.«01_k».proof.Proof.DownFinal
public import proofs.«01_k».proof.Proof.UpRef
public import proofs.«01_k».proof.Proof.Gen.Reference3Ideal.Run

/-! The down projection's reference, entry by entry: the rows with every expert but their own masked out, against all
    the experts' weights, so that one expert's product remains. -/

@[expose] public section

set_option maxRecDepth 16384

noncomputable section

namespace Cert.Reference3Ideal.Down

open Cert.Reference3Ideal Cert.Reference3Ideal.Gen
open Idealize.ShloMosaic Idealize.ShloMosaic.TcCoe Idealize.ShloMosaic.Tactic Idealize.SL.Sem
open Cert.Kernel2Ideal.Up (ntOf teOf)
open Cert.Kernel3Ideal.Down (dotE outE)
open Cert.Reference2Ideal.Up (maskV maskV_iff)

/-- The rows, once for every expert, zero but for their own. -/
def rowsV (h : FVec Ideal S24832x1024 .bf16) (e : IVec S32 32) : FVec Ideal S24832x32x1024 .f32 :=
  select (broadcastInDim S24832x32x1024 ![0, 1, 2] bcast_S24832x32x1_S24832x32x1024_0_1_2
      (broadcastInDim S24832x32x1 ![0, 1] bcast_S24832x32_S24832x32x1_0_1 (maskV e)))
    (broadcastInDim S24832x32x1024 ![0, 1, 2] bcast_S24832x1x1024_S24832x32x1024_0_1_2
      (broadcastInDim S24832x1x1024 ![0, 2] bcast_S24832x1024_S24832x1x1024_0_2 (extf .f32 h bitsLt_bf16_f32)))
    (broadcastInDim S24832x32x1024 ![] bcast_S_S24832x32x1024 (id (constant (F := Ideal) S_ .f32 0x00000000#32)))

/-- The layer's weights. -/
def layerV (w : FVec Ideal S2x32x1024x4096 .f32) : FVec Ideal S32x1024x4096 .f32 :=
  shapeCast _ (extractStridedSlice S1x32x1024x4096 ![0, 0, 0, 0] w slices_S2x32x1024x4096_S1x32x1024x4096_0_0_0_0) shapeCasts_S1x32x1024x4096_S32x1024x4096

/-- The reference's result. -/
def outR (h : FVec Ideal S24832x1024 .bf16) (w : FVec Ideal S2x32x1024x4096 .f32) (e : IVec S32 32) : FVec Ideal S24832x4096 .f32 :=
  Host.dotGeneral dot_S24832x32x1024_S32x1024x4096_S24832x4096_12_01_0_2_n_n none (rowsV h e) (layerV w)

/-- The contraction over experts and features, entry by entry. -/
theorem dot_at (L : FVec Ideal S24832x32x1024 .f32) (R : FVec Ideal S32x1024x4096 .f32) (r : Fin 24832) (j : Fin 4096) :
    (Host.dotGeneral (φ₁ := .f32) (φ₂ := .f32) dot_S24832x32x1024_S32x1024x4096_S24832x4096_12_01_0_2_n_n none L R (ix2 r j) : EReal)
      = ∑ e : Fin 32, ∑ k : Fin 1024, (L (ix3 r e k) : EReal) * (R (ix3 e k j) : EReal) := by
  pointwise []

theorem rowsV_at (h : FVec Ideal S24832x1024 .bf16) (e : IVec S32 32) (r : Fin 24832) (q : Fin 32) (k : Fin 1024) :
    (rowsV h e (ix3 r q k) : EReal) = if maskV e (ix2 r q) = 1#1 then (h (ix2 r k) : EReal) else 0 := by
  unfold rowsV
  generalize maskV e = M
  pointwise []
  change @Eq EReal _ _
  exact congrArg (fun z : EReal => if M (ix2 r q) = 1#1 then (h (ix2 r k) : EReal) else z) Ideal.ofBits_zero_f32

theorem layerV_at (w : FVec Ideal S2x32x1024x4096 .f32) (q : Fin 32) (k : Fin 1024) (j : Fin 4096) :
    (layerV w (ix3 q k j) : EReal) = w (ix4 0 q k j) := by
  pointwise [layerV]

theorem outR_at (h : FVec Ideal S24832x1024 .bf16) (w : FVec Ideal S2x32x1024x4096 .f32) (e : IVec S32 32)
    (h2 : ntOf e < 2 ^ 31) (te : ℕ → Fin 32) (ht : ∀ n, (te n).val = teOf e n) (r : Fin 24832) (j : Fin 4096) :
    (outR h w e (ix2 r j) : EReal) = outE h w (ntOf e) te r j := by
  refine (dot_at _ _ r j).trans ?_
  unfold outE dotE
  by_cases ha : r.val / 256 < ntOf e
  · rw [if_pos ha, Finset.sum_eq_single (te (r.val / 256))]
    · refine Finset.sum_congr rfl fun k _ => ?_
      rw [rowsV_at, layerV_at, if_pos ((maskV_iff e h2 r _).mpr ⟨ha, ht _⟩)]
    · intro q _ hq
      refine Finset.sum_eq_zero fun k _ => ?_
      rw [rowsV_at, if_neg (fun h => hq (Fin.ext (((maskV_iff e h2 r q).mp h).2.trans (ht _).symm)))]
      exact zero_mul _
    · exact fun h => absurd (Finset.mem_univ _) h
  · rw [if_neg ha]
    refine Finset.sum_eq_zero fun q _ => Finset.sum_eq_zero fun k _ => ?_
    rw [rowsV_at, if_neg (fun h => ha ((maskV_iff e h2 r q).mp h).1)]
    exact zero_mul _

end Cert.Reference3Ideal.Down

end
-- ==== Proof.UpAlgebra.lean ====
module

public import proofs.«01_k».proof.Proof.UpRef

/-! The up projection's run and its reference's, with one and the same result. -/

@[expose] public section

set_option maxRecDepth 16384

noncomputable section

namespace Cert.Kernel2Ideal.Up

open Cert.Kernel2Ideal Cert.Kernel2Ideal.Gen
open Idealize.ShloMosaic Idealize.ShloMosaic.TcCoe Idealize.SL.Sem

variable (m : (ℓ : Loc nD τ sig) → Buf (Elt Ideal) ℓ)

/-- The expert of a tile, as a coordinate. -/
def teF (e : IVec S32 32) (n : ℕ) : Fin 32 := ⟨teOf e n, by unfold teOf; omega⟩

/-- The result of a run from the arguments. -/
def res (c : Dev nD) : FVec Ideal S24832x1024 .bf16 := fun i =>
  (outE (m ((c : Thread nD τ).loc main_arg0)) (m ((c : Thread nD τ).loc main_arg1)) (m ((c : Thread nD τ).loc main_arg2)) (m ((c : Thread nD τ).loc main_arg3))
    (ntOf (ends m c)) (teF (ends m c)) (i 0) (i 1) : EReal)

theorem final_res (h1 : 1 ≤ ntOf (ends m 0)) (h2 : ntOf (ends m 0) < 2 ^ 31) {r : PUnit × MemSt nD τ sig (Elt Ideal)}
    (h : Pipeline.FramePost (Pipeline.pin pcfgs (adm (good m h1 h2))) (dats (V m) (good m h1 h2)) 0 (V m) r) (c : Dev nD) :
    r.2.mem ((c.tc : Thread nD τ).loc main_v30) = res m c := by
  obtain rfl : c = 0 := Subsingleton.elim _ _
  refine ((h 0).1 4).trans ((arr_out (V m) (good m h1 h2) 0).trans ?_)
  rw [V_main_arg0, V_main_arg1, V_main_arg2, V_main_arg3]
  rfl

theorem algebraic2 : Cert.algebraic_Kernel2Ideal_Reference2Ideal := by
  intro m g m' g' hp hm
  have h := pos_of_pre _ _ _ _ _ (hp 0)
  refine ⟨fun c => res m c, ?_, ?_⟩
  · exact (θ_run defs _ _).mono (fun r hr c => ⟨final_res m h.1 h.2 hr.1 c, final_args m (good m h.1 h.2) hr.1 c⟩) (run_main m g (good m h.1 h.2))
  · refine (θ_run Cert.Reference2Ideal.defs _ _).mono (fun r hr c => ⟨(hr c).1.trans ?_, (hr c).2⟩) (Cert.Reference2Ideal.Value.run (F := Ideal) m' g')
    obtain ⟨e0, e1, e2, e3, e4⟩ := hm c
    rw [e0, e1, e2, e3, e4]
    obtain rfl : c = 0 := Subsingleton.elim _ _
    funext i
    obtain ⟨a, b, rfl⟩ : ∃ a b, i = ix2 a b := ⟨_, _, eq_ix2 (n0 := 24832) (n1 := 1024) i⟩
    exact Cert.Reference2Ideal.Up.outR_at (m ((0 : Dev nD).tc.loc main_arg0)) (m ((0 : Dev nD).tc.loc main_arg1)) (m ((0 : Dev nD).tc.loc main_arg2)) (m ((0 : Dev nD).tc.loc main_arg3))
      (ends m 0) h.2 (teF (ends m 0)) (fun _ => rfl) a b

end Cert.Kernel2Ideal.Up

end
-- ==== Proof.DownAlgebra.lean ====
module

public import proofs.«01_k».proof.Proof.DownRef
public import proofs.«01_k».proof.Proof.UpAlgebra

/-! The down projection's run and its reference's, with one and the same result. -/

@[expose] public section

set_option maxRecDepth 16384

noncomputable section

namespace Cert.Kernel3Ideal.Down

open Cert.Kernel3Ideal Cert.Kernel3Ideal.Gen
open Idealize.ShloMosaic Idealize.ShloMosaic.TcCoe Idealize.SL.Sem
open Cert.Kernel2Ideal.Up (ntOf teOf teF)

variable (m : (ℓ : Loc nD τ sig) → Buf (Elt Ideal) ℓ)

/-- The result of a run from the arguments. -/
def res (c : Dev nD) : FVec Ideal S24832x4096 .f32 := fun i =>
  (outE (m ((c : Thread nD τ).loc main_arg0)) (m ((c : Thread nD τ).loc main_arg1))
    (ntOf (ends m c)) (teF (ends m c)) (i 0) (i 1) : EReal)

theorem final_res (h1 : 1 ≤ ntOf (ends m 0)) (h2 : ntOf (ends m 0) < 2 ^ 31) {r : PUnit × MemSt nD τ sig (Elt Ideal)}
    (h : Pipeline.FramePost (Pipeline.pin pcfgs (adm (good m h1 h2))) (dats (V m) (good m h1 h2)) 0 (V m) r) (c : Dev nD) :
    r.2.mem ((c.tc : Thread nD τ).loc main_v30) = res m c := by
  obtain rfl : c = 0 := Subsingleton.elim _ _
  refine ((h 0).1 2).trans ((arr_out (V m) (good m h1 h2) 0).trans ?_)
  rw [V_main_arg0, V_main_arg1]
  rfl

theorem algebraic3 : Cert.algebraic_Kernel3Ideal_Reference3Ideal := by
  intro m g m' g' hp hm
  have h := pos_of_pre _ _ _ (hp 0)
  refine ⟨fun c => res m c, ?_, ?_⟩
  · exact (θ_run defs _ _).mono (fun r hr c => ⟨final_res m h.1 h.2 hr.1 c, final_args m (good m h.1 h.2) hr.1 c⟩) (run_main m g (good m h.1 h.2))
  · refine (θ_run Cert.Reference3Ideal.defs _ _).mono (fun r hr c => ⟨(hr c).1.trans ?_, (hr c).2⟩) (Cert.Reference3Ideal.Value.run (F := Ideal) m' g')
    obtain ⟨e0, e1, e2⟩ := hm c
    rw [e0, e1, e2]
    obtain rfl : c = 0 := Subsingleton.elim _ _
    funext i
    obtain ⟨a, b, rfl⟩ : ∃ a b, i = ix2 a b := ⟨_, _, eq_ix2 (n0 := 24832) (n1 := 4096) i⟩
    exact Cert.Reference3Ideal.Down.outR_at (m ((0 : Dev nD).tc.loc main_arg0)) (m ((0 : Dev nD).tc.loc main_arg1))
      (ends m 0) h.2 (teF (ends m 0)) (fun _ => rfl) a b

end Cert.Kernel3Ideal.Down

end
-- ==== Proof.InVal.lean ====
module

public import proofs.«01_k».proof.Proof.Gen.Kernel5Ideal.Value
public import proofs.«01_k».proof.Proof.UpVal
public import Idealize.ShloMosaic.Lib.Pipeline.Value
public import Idealize.ShloMosaic.Lib.Pipeline.ValueKit
public import Idealize.ShloMosaic.Lib.ValueLayout
public import Idealize.ShloMosaic.Lib.Pointwise
public import Idealize.ShloMosaic.Lib.Tactic

/-! The input projection: what a run of the body leaves, entry by entry. -/

@[expose] public section

set_option maxRecDepth 16384

noncomputable section

namespace Cert.Kernel5Ideal.In

open Cert.Kernel5Ideal Cert.Kernel5Ideal.Gen
open Idealize.ShloMosaic Idealize.ShloMosaic.TcCoe
open Cert.Kernel2Ideal.Up (part dotE dotE_parts)

variable {F : FTy → Type} [FloatOps F]

theorem hz : (![0, 0] : Fin 2 → Nat) = fun _ => 0 := funext fun a => by fin_cases a <;> rfl

/-- A block of weights at the narrower type, as a matrix. -/
def castW (X : Vec F S1x4096x512 .f32) : Vec F S4096x512 .bf16 :=
  fun y => FloatOps.truncf .bf16 bitsLt_bf16_f32 (X (ix3 (n0 := 1) (n1 := 4096) (n2 := 512) 0 (y 0) (y 1)))

/-- A chunk of 512 rows, cast, is those rows of the cast block. -/
theorem chunk_apply (o : ℕ) (inb : ∀ a, (![0, o, 0] : Fin 3 → ℕ) a + S1x512x512.size a ≤ S1x4096x512.size a)
    (inb' : ∀ a, (![o, 0] : Fin 2 → ℕ) a + S512x512.size a ≤ S4096x512.size a) (X : Vec F S1x4096x512 .f32) (x : S512x512.Idx) :
    shapeCast S512x512 (truncf (F := F) .bf16 (shapeCast S512x512
        (View.ld (Val := Elt F) X (Rect.unit (s := S1x4096x512) ![0, o, 0] S1x512x512.size inb)) shapeCasts_S1x512x512_S512x512) bitsLt_bf16_f32)
      shapeCasts_S512x512_S512x512 x
      = castW X ((Rect.unit (s := S4096x512) ![o, 0] S512x512.size inb').emb x) := by
  rw [shapeCast_self]
  obtain ⟨a, b, rfl⟩ : ∃ a b, x = ix2 a b := ⟨_, _, eq_ix2 (n0 := 512) (n1 := 512) x⟩
  show FloatOps.truncf .bf16 bitsLt_bf16_f32 (shapeCast (α := F .f32) S512x512 _ shapeCasts_S1x512x512_S512x512 (ix2 a b)) = _
  have e := shapeCast_apply (View.ld (Val := Elt F) X (Rect.unit (s := S1x4096x512) ![0, o, 0] S1x512x512.size inb))
    shapeCasts_S1x512x512_S512x512 (ix2 a b) (ix3 (n0 := 1) (n1 := 512) (n2 := 512) 0 a b) (by
      rw [Shape.rowMajor_val_three, Shape.rowMajor_val_two]
      show (0 * 512 + a.val) * 512 + b.val = a.val * 512 + b.val
      omega)
  refine (congrArg _ e).trans ?_
  unfold castW
  refine congrArg (fun z => FloatOps.truncf .bf16 bitsLt_bf16_f32 (X z)) ?_
  funext k
  apply Fin.ext
  fin_cases k
  · rfl
  · rfl
  · rfl

/-! ## The chunks of weights, cast, and of rows -/

def w0 (X : Vec F S1x4096x512 .f32) : FVec F S512x512 .bf16 := k0_pay5 (View.ld X (Rect.unit (s := S1x4096x512) ![0, 0, 0] S1x512x512.size inb_S1x4096x512_S1x512x512_0_0_0))
def x0 (X : Vec F S1664x4096 .bf16) : Vec F S1664x512 .bf16 := View.ld X (Rect.unit (s := S1664x4096) ![0, 0] S1664x512.size inb_S1664x4096_S1664x512_0_0)
def w1 (X : Vec F S1x4096x512 .f32) : FVec F S512x512 .bf16 := k0_pay6 (View.ld X (Rect.unit (s := S1x4096x512) ![0, 512, 0] S1x512x512.size inb_S1x4096x512_S1x512x512_0_512_0))
def x1 (X : Vec F S1664x4096 .bf16) : Vec F S1664x512 .bf16 := View.ld X (Rect.unit (s := S1664x4096) ![0, 512] S1664x512.size inb_S1664x4096_S1664x512_0_512)
def w2 (X : Vec F S1x4096x512 .f32) : FVec F S512x512 .bf16 := k0_pay8 (View.ld X (Rect.unit (s := S1x4096x512) ![0, 1024, 0] S1x512x512.size inb_S1x4096x512_S1x512x512_0_1024_0))
def x2 (X : Vec F S1664x4096 .bf16) : Vec F S1664x512 .bf16 := View.ld X (Rect.unit (s := S1664x4096) ![0, 1024] S1664x512.size inb_S1664x4096_S1664x512_0_1024)
def w3 (X : Vec F S1x4096x512 .f32) : FVec F S512x512 .bf16 := k0_pay9 (View.ld X (Rect.unit (s := S1x4096x512) ![0, 1536, 0] S1x512x512.size inb_S1x4096x512_S1x512x512_0_1536_0))
def x3 (X : Vec F S1664x4096 .bf16) : Vec F S1664x512 .bf16 := View.ld X (Rect.unit (s := S1664x4096) ![0, 1536] S1664x512.size inb_S1664x4096_S1664x512_0_1536)
def w4 (X : Vec F S1x4096x512 .f32) : FVec F S512x512 .bf16 := k0_pay10 (View.ld X (Rect.unit (s := S1x4096x512) ![0, 2048, 0] S1x512x512.size inb_S1x4096x512_S1x512x512_0_2048_0))
def x4 (X : Vec F S1664x4096 .bf16) : Vec F S1664x512 .bf16 := View.ld X (Rect.unit (s := S1664x4096) ![0, 2048] S1664x512.size inb_S1664x4096_S1664x512_0_2048)
def w5 (X : Vec F S1x4096x512 .f32) : FVec F S512x512 .bf16 := k0_pay12 (View.ld X (Rect.unit (s := S1x4096x512) ![0, 2560, 0] S1x512x512.size inb_S1x4096x512_S1x512x512_0_2560_0))
def x5 (X : Vec F S1664x4096 .bf16) : Vec F S1664x512 .bf16 := View.ld X (Rect.unit (s := S1664x4096) ![0, 2560] S1664x512.size inb_S1664x4096_S1664x512_0_2560)
def w6 (X : Vec F S1x4096x512 .f32) : FVec F S512x512 .bf16 := k0_pay1 (View.ld X (Rect.unit (s := S1x4096x512) ![0, 3072, 0] S1x512x512.size inb_S1x4096x512_S1x512x512_0_3072_0))
def x6 (X : Vec F S1664x4096 .bf16) : Vec F S1664x512 .bf16 := View.ld X (Rect.unit (s := S1664x4096) ![0, 3072] S1664x512.size inb_S1664x4096_S1664x512_0_3072)
def w7 (X : Vec F S1x4096x512 .f32) : FVec F S512x512 .bf16 := k0_pay2 (View.ld X (Rect.unit (s := S1x4096x512) ![0, 3584, 0] S1x512x512.size inb_S1x4096x512_S1x512x512_0_3584_0))
def x7 (X : Vec F S1664x4096 .bf16) : Vec F S1664x512 .bf16 := View.ld X (Rect.unit (s := S1664x4096) ![0, 3584] S1664x512.size inb_S1664x4096_S1664x512_0_3584)

/-- What the body stores where it casts the weights. -/
def outF (X : Vec F S1664x4096 .bf16) (W : Vec F S1x4096x512 .f32) : FVec F S1664x512 .f32 :=
  k0_pay3 (k0_pay11 (k0_pay7 (x0 X) (w0 W) (x1 X) (w1 W)) (x2 X) (w2 W) (constant S1664x512 .f32 0x00000000#32) (x3 X) (w3 W) (x4 X) (w4 W))
    (x5 X) (w5 W) (x6 X) (w6 W) (x7 X) (w7 W)

theorem out_A (c : Dev nD) (i : grid0.Coords) (arg2 : Memref sig .tc .vmem S1664x4096 .bf16) (harg2 : arg2.IsWhole)
    (arg3 : Memref sig .tc .vmem S1x4096x512 .f32) (harg3 : arg3.IsWhole) (arg4 : Memref sig .tc .vmem S1664x512 .f32) (harg4 : arg4.IsWhole)
    (arg5 : Memref sig .tc .vmem S4096x512 .bf16) (harg5 : arg5.IsWhole)
    (hc0 : cond0_0 i) (hc1 : ¬cond0_1 i) (x0 : Vec F S1664x4096 .bf16) (x1 : Vec F S1x4096x512 .f32) :
    out0_A_2 c i arg2 harg2 arg3 harg3 arg4 harg4 arg5 harg5 hc0 hc1 x0 x1 = outF x0 x1 := by
  unfold out0_A_2
  rw [View.read_writes_eq_canon _ _ _ (cover0_A_2 c i arg2 harg2 arg3 harg3 arg4 harg4 arg5 harg5 hc0 hc1 x0 x1)]
  unfold kernelRun0_A
  dsimp only
  rw [View.canon_unit_zero hz]
  sl_unfold_words
  simp only [View.readAt_eq_ld, harg2.read_unread, harg3.read_unread, View.readCov_cons_toLoadRect]
  rfl

theorem out_B (c : Dev nD) (i : grid0.Coords) (arg2 : Memref sig .tc .vmem S1664x4096 .bf16) (harg2 : arg2.IsWhole)
    (arg3 : Memref sig .tc .vmem S1x4096x512 .f32) (harg3 : arg3.IsWhole) (arg4 : Memref sig .tc .vmem S1664x512 .f32) (harg4 : arg4.IsWhole)
    (arg5 : Memref sig .tc .vmem S4096x512 .bf16) (harg5 : arg5.IsWhole)
    (hc0 : ¬cond0_0 i) (hc1 : cond0_1 i) (x0 : Vec F S1664x4096 .bf16) (x1 : Vec F S1x4096x512 .f32) (xs0 : Vec F S4096x512 .bf16) :
    out0_B_2 c i arg2 harg2 arg3 harg3 arg4 harg4 arg5 harg5 hc0 hc1 x0 x1 xs0 = k0_pay4 x0 xs0 := by
  unfold out0_B_2
  rw [View.read_writes_eq_canon _ _ _ (cover0_B_2 c i arg2 harg2 arg3 harg3 arg4 harg4 arg5 harg5 hc0 hc1 x0 x1 xs0)]
  unfold kernelRun0_B
  dsimp only
  rw [View.canon_unit_zero hz]
  simp only [View.readAt_eq_ld, harg2.read_unread, harg5.read_unread, View.ld_unit_zero (S := S1664x4096) hz, View.ld_unit_zero (S := S4096x512) hz]

theorem sout_A (c : Dev nD) (i : grid0.Coords) (arg2 : Memref sig .tc .vmem S1664x4096 .bf16) (harg2 : arg2.IsWhole)
    (arg3 : Memref sig .tc .vmem S1x4096x512 .f32) (harg3 : arg3.IsWhole) (arg4 : Memref sig .tc .vmem S1664x512 .f32) (harg4 : arg4.IsWhole)
    (arg5 : Memref sig .tc .vmem S4096x512 .bf16) (harg5 : arg5.IsWhole)
    (hc0 : cond0_0 i) (hc1 : ¬cond0_1 i) (x0 : Vec F S1664x4096 .bf16) (x1 : Vec F S1x4096x512 .f32) :
    sout0_A_0 c i arg2 harg2 arg3 harg3 arg4 harg4 arg5 harg5 hc0 hc1 x0 x1 = castW x1 := by
  have hcov := scover0_A_0 c i arg2 harg2 arg3 harg3 arg4 harg4 arg5 harg5 hc0 hc1 x0 x1
  funext y
  have hy := hcov y
  unfold sout0_A_0
  rw [View.read_writes_eq_canon _ _ _ hcov]
  revert hy
  unfold kernelRun0_A
  dsimp only
  sl_unfold_words
  simp only [View.readAt_eq_ld, harg2.read_unread, harg3.read_unread]
  intro hy
  refine View.canon_apply_of_pieces (castW x1) _ (fun p hp => ?_) y hy
  simp only [List.mem_cons, List.mem_nil_iff, or_false] at hp
  rcases hp with rfl | rfl | rfl | rfl | rfl | rfl | rfl | rfl
  · exact fun x => chunk_apply 3584 _ inb_S4096x512_S512x512_3584_0 x1 x
  · exact fun x => chunk_apply 3072 _ inb_S4096x512_S512x512_3072_0 x1 x
  · exact fun x => chunk_apply 2560 _ inb_S4096x512_S512x512_2560_0 x1 x
  · exact fun x => chunk_apply 2048 _ inb_S4096x512_S512x512_2048_0 x1 x
  · exact fun x => chunk_apply 1536 _ inb_S4096x512_S512x512_1536_0 x1 x
  · exact fun x => chunk_apply 1024 _ inb_S4096x512_S512x512_1024_0 x1 x
  · exact fun x => chunk_apply 512 _ inb_S4096x512_S512x512_512_0 x1 x
  · exact fun x => chunk_apply 0 _ inb_S4096x512_S512x512_0_0 x1 x

/-! ## Over the extended reals -/

/-- One chunk's product. -/
def mm (A : FVec Ideal S1664x512 .bf16) (B : FVec Ideal S512x512 .bf16) : FVec Ideal S1664x512 .f32 :=
  matmul (φ₁ := .bf16) (φ₂ := .bf16) dot_S1664x512_S512x512_S1664x512_1_0_0_1_n_n none A B (constant S1664x512 .f32 0x00000000#32)

theorem mm_at (A : FVec Ideal S1664x512 .bf16) (B : FVec Ideal S512x512 .bf16) (a : Fin 1664) (b : Fin 512) :
    (mm A B (ix2 a b) : EReal) = ∑ k : Fin 512, (A (ix2 a k) : EReal) * (B (ix2 k b) : EReal) := by
  pointwise [mm]

theorem chunk_mm (s : Fin 8) (o : ℕ) (ho : o = s.val * 512) (inbX : ∀ a, (![0, o] : Fin 2 → ℕ) a + S1664x512.size a ≤ S1664x4096.size a)
    (inbS : ∀ a, (![o, 0] : Fin 2 → ℕ) a + S512x512.size a ≤ S4096x512.size a)
    (X : Vec Ideal S1664x4096 .bf16) (C : Vec Ideal S4096x512 .bf16) (B : Vec Ideal S512x512 .bf16)
    (hB : ∀ x, B x = C ((Rect.unit (s := S4096x512) ![o, 0] S512x512.size inbS).emb x)) (a : Fin 1664) (b : Fin 512) :
    (mm (View.ld (Val := Elt Ideal) X (Rect.unit (s := S1664x4096) ![0, o] S1664x512.size inbX)) B (ix2 a b) : EReal)
      = part (fun k => X (ix2 a k)) (fun k => C (ix2 k b)) s := by
  subst ho
  rw [mm_at]
  unfold part
  refine Finset.sum_congr rfl fun k _ => ?_
  rw [hB]
  refine congrArg₂ (fun p q : EReal => p * q) ?_ ?_
  · show X _ = X _
    refine congrArg X ?_
    funext i; apply Fin.ext
    fin_cases i
    · show 0 + 1 * a.val = a.val; omega
    · show s.val * 512 + 1 * k.val = s.val * 512 + k.val; omega
  · refine congrArg C ?_
    funext i; apply Fin.ext
    fin_cases i
    · show s.val * 512 + 1 * k.val = s.val * 512 + k.val; omega
    · show 0 + 1 * b.val = b.val; omega

variable (X : Vec Ideal S1664x4096 .bf16) (W : Vec Ideal S1x4096x512 .f32)

theorem outF_eq : outF X W
    = addf (addf (addf (addf (addf (addf (addf (mm (x0 X) (w0 W)) (mm (x1 X) (w1 W))) (mm (x2 X) (w2 W))) (mm (x3 X) (w3 W))) (mm (x4 X) (w4 W)))
      (mm (x5 X) (w5 W))) (mm (x6 X) (w6 W))) (mm (x7 X) (w7 W)) := by
  unfold outF k0_pay3 k0_pay11 k0_pay7 mm
  rfl

theorem outF_at (a : Fin 1664) (b : Fin 512) :
    (outF X W (ix2 a b) : EReal) = dotE (fun k => X (ix2 a k)) (fun k => W (ix3 0 k b)) := by
  rw [outF_eq]
  refine Eq.trans ?_ (dotE_parts (fun k => X (ix2 a k)) (fun k => castW W (ix2 k b)))
  rw [← chunk_mm 0 0 rfl inb_S1664x4096_S1664x512_0_0 inb_S4096x512_S512x512_0_0 X (castW W) (w0 W) (fun x => chunk_apply 0 _ _ W x) a b,
    ← chunk_mm 1 512 rfl inb_S1664x4096_S1664x512_0_512 inb_S4096x512_S512x512_512_0 X (castW W) (w1 W) (fun x => chunk_apply 512 _ _ W x) a b,
    ← chunk_mm 2 1024 rfl inb_S1664x4096_S1664x512_0_1024 inb_S4096x512_S512x512_1024_0 X (castW W) (w2 W) (fun x => chunk_apply 1024 _ _ W x) a b,
    ← chunk_mm 3 1536 rfl inb_S1664x4096_S1664x512_0_1536 inb_S4096x512_S512x512_1536_0 X (castW W) (w3 W) (fun x => chunk_apply 1536 _ _ W x) a b,
    ← chunk_mm 4 2048 rfl inb_S1664x4096_S1664x512_0_2048 inb_S4096x512_S512x512_2048_0 X (castW W) (w4 W) (fun x => chunk_apply 2048 _ _ W x) a b,
    ← chunk_mm 5 2560 rfl inb_S1664x4096_S1664x512_0_2560 inb_S4096x512_S512x512_2560_0 X (castW W) (w5 W) (fun x => chunk_apply 2560 _ _ W x) a b,
    ← chunk_mm 6 3072 rfl inb_S1664x4096_S1664x512_0_3072 inb_S4096x512_S512x512_3072_0 X (castW W) (w6 W) (fun x => chunk_apply 3072 _ _ W x) a b,
    ← chunk_mm 7 3584 rfl inb_S1664x4096_S1664x512_0_3584 inb_S4096x512_S512x512_3584_0 X (castW W) (w7 W) (fun x => chunk_apply 3584 _ _ W x) a b]
  rfl

theorem pay4_at (a : Fin 1664) (b : Fin 512) :
    (k0_pay4 X (castW W) (ix2 a b) : EReal) = dotE (fun k => X (ix2 a k)) (fun k => W (ix3 0 k b)) := by
  unfold dotE
  pointwise [k0_pay4, castW]

end Cert.Kernel5Ideal.In

end
-- ==== Proof.InAlgebra.lean ====
module

public import proofs.«01_k».proof.Defs
public import proofs.«01_k».proof.Proof.InVal
public import proofs.«01_k».proof.Proof.Gen.Kernel5.Frame
public import proofs.«01_k».proof.Proof.Gen.Reference5Ideal.Run
public import Idealize.ShloMosaic.Lib.Pipeline.ValueKit.Geometry

/-! The input projection: the run and the reference's, with one and the same result. -/

@[expose] public section

set_option maxRecDepth 16384

noncomputable section

namespace Cert.Kernel5Ideal.In

open Cert.Kernel5Ideal Cert.Kernel5Ideal.Gen
open Idealize.ShloMosaic Idealize.ShloMosaic.TcCoe Idealize.ShloMosaic.Tactic Idealize.SL.Sem
open Cert.Kernel2Ideal.Up (dotE)

/-! ## Which blocks a point sees -/

theorem idxIn : ∀ t : Fin grid0.N, cc0_transform_0 (grid0.coords t) = ![t.val % 5, 0] := by decide +kernel
theorem idxWt : ∀ t : Fin grid0.N, cc0_transform_1 (grid0.coords t) = ![0, 0, t.val / 5] := by decide +kernel
theorem idxOut : ∀ t : Fin grid0.N, cc0_transform_2 (grid0.coords t) = ![t.val % 5, t.val / 5] := by decide +kernel
theorem flushOut : ∀ t : Fin grid0.N, Pipeline.Window.flushOf grid0 true cc0_transform_2 t = true := by decide +kernel

theorem idx0 (t : Fin cfg0.N) : (cfg0.win 0).index t = ![t.val % 5, 0] := idxIn t
theorem idx1 (t : Fin cfg0.N) : (cfg0.win 1).index t = ![0, 0, t.val / 5] := idxWt t
theorem idx2 (t : Fin cfg0.N) : (cfg0.win 2).index t = ![t.val % 5, t.val / 5] := idxOut t
theorem flush2 (t : Fin cfg0.N) : (cfg0.win 2).flush t = true := flushOut t

variable {F : FTy → Type} [FloatOps F] (m : (ℓ : Loc nD τ sig) → Buf (Elt F) ℓ)

theorem blk0_apply (c : Dev nD) (t : Fin cfg0.N) (a : Fin 1664) (k : Fin 4096) :
    (iblk m c 0 t : Vec F S1664x4096 .bf16) (ix2 a k)
      = V m c main_arg0 (ix2 (n0 := 8320) (n1 := 4096) ⟨t.val % 5 * 1664 + a.val, by have := a.isLt; omega⟩ k) := by
  show V m c main_arg0 _ = V m c main_arg0 _
  blk_ext [iblk, idx0 t]

theorem blk1_apply (c : Dev nD) (t : Fin cfg0.N) (k : Fin 4096) (b : Fin 512) :
    (X0_1 m c t : Vec F S1x4096x512 .f32) (ix3 0 k b)
      = V m c main_arg1 (ix3 (n0 := 2) (n1 := 4096) (n2 := 39040) 0 k
          ⟨t.val / 5 * 512 + b.val, by have := b.isLt; have : t.val < 120 := t.isLt; omega⟩) := by
  unfold X0_1 Pipeline.Window.fill
  rw [dif_pos (moved0_1 t _)]
  show V m c main_arg1 _ = V m c main_arg1 _
  blk_ext [iblk, idx1 t]

/-! ## What the scratch buffer holds between points: the cast weights of the column block -/

theorem weights_keep (c : Dev nD) (t u : Fin cfg0.N) (h : t.val / 5 = u.val / 5) :
    castW (X0_1 m c t) = castW (X0_1 m c u) := by
  funext y; unfold castW; refine congrArg _ ?_
  refine (blk1_apply m c t (y 0) (y 1)).trans (Eq.trans ?_ (blk1_apply m c u (y 0) (y 1)).symm)
  refine congrArg (V m c main_arg1) ?_
  funext k; apply Fin.ext; fin_cases k
  · rfl
  · rfl
  · exact congrArg (fun z => z * 512 + (y 1).val) h

theorem scratch_A (c : Dev nD) (t : Fin cfg0.N) (h : t.val % 5 = 0) : (outsAt0 m c t.val t.isLt).2 = castW (X0_1 m c t) := by
  rw [outsAt0_A m c t h (by omega)]
  dsimp only
  rw [sout_A]

theorem scratch_B (c : Dev nD) (t : Fin cfg0.N) (h : ¬t.val % 5 = 0) :
    (outsAt0 m c t.val t.isLt).2 = (outsAt0 m c (t.val - 1) (Nat.lt_of_le_of_lt (Nat.sub_le _ _) t.isLt)).2 := by
  rw [outsAt0_B m c t h (by omega)]
  dsimp only
  unfold sout0_B_0
  rfl

theorem scratch_eq (c : Dev nD) : ∀ (n : ℕ) (t : Fin cfg0.N), t.val = n → (outsAt0 m c t.val t.isLt).2 = castW (X0_1 m c t) := by
  intro n
  induction n with
  | zero => exact fun t ht => scratch_A m c t (by omega)
  | succ n ih =>
    intro t ht
    by_cases h : t.val % 5 = 0
    · exact scratch_A m c t h
    · have e := ih ⟨t.val - 1, Nat.lt_of_le_of_lt (Nat.sub_le _ _) t.isLt⟩ (show t.val - 1 = n by omega)
      exact (scratch_B m c t h).trans (e.trans (weights_keep m c _ t (show (t.val - 1) / 5 = t.val / 5 by omega)))

/-! ## The result -/

/-- What a point leaves of the result, entry by entry. -/
theorem out_at (m : (ℓ : Loc nD τ sig) → Buf (Elt Ideal) ℓ) (c : Dev nD) (t : Fin cfg0.N) (a : Fin 1664) (b : Fin 512) :
    ((outsAt0 m c t.val t.isLt).1 (ix2 a b) : EReal)
      = dotE (fun k => (iblk m c 0 t : Vec Ideal S1664x4096 .bf16) (ix2 a k)) (fun k => (X0_1 m c t : Vec Ideal S1x4096x512 .f32) (ix3 0 k b)) := by
  by_cases h : t.val % 5 = 0
  · rw [outsAt0_A m c t h (by omega)]
    dsimp only
    rw [out_A]
    exact outF_at _ _ a b
  · rw [outsAt0_B m c t h (by omega)]
    dsimp only
    rw [out_B, ← scratch_B m c t h, scratch_eq m c t.val t rfl]
    exact pay4_at _ _ a b

/-- The result, entry by entry: a row of the operand against a column of the layer's weights. -/
def res (x : FVec Ideal S8320x4096 .bf16) (w : FVec Ideal S2x4096x39040 .f32) : FVec Ideal S8320x12288 .f32 := fun i =>
  (dotE (fun k => x (ix2 (i 0) k)) (fun k => w (ix3 0 k ⟨(i 1).val, lt_of_lt_of_le (i 1).isLt (by decide)⟩)) : EReal)

theorem covers2 : (cfg0.win 2).Covers := by
  refine ⟨(by decide : ∀ a : Fin 2, 0 < S1664x512.size a), fun β => ?_⟩
  have h0 : (β (0 : Fin 2)).val < 5 := lt_of_lt_of_eq (β (0 : Fin 2)).isLt (show (S8320x12288.size 0 + S1664x512.size 0 - 1) / S1664x512.size 0 = 5 by decide)
  have h1 : (β (1 : Fin 2)).val < 24 := lt_of_lt_of_eq (β (1 : Fin 2)).isLt (show (S8320x12288.size 1 + S1664x512.size 1 - 1) / S1664x512.size 1 = 24 by decide)
  refine ⟨⟨5 * (β (1 : Fin 2)).val + (β (0 : Fin 2)).val, lt_of_lt_of_eq (by omega : _ < 120) N_0.symm⟩, flush2 _, fun a => ⟨?_, Or.inl rfl⟩⟩
  rw [idx2]
  match a with
  | ⟨0, _⟩ => show (5 * (β (1 : Fin 2)).val + (β (0 : Fin 2)).val) % 5 = (β (0 : Fin 2)).val; omega
  | ⟨1, _⟩ => show (5 * (β (1 : Fin 2)).val + (β (0 : Fin 2)).val) / 5 = (β (1 : Fin 2)).val; omega

theorem entry_at (m : (ℓ : Loc nD τ sig) → Buf (Elt Ideal) ℓ) (c : Dev nD) (t : Fin cfg0.N) (a : Fin 1664) (b : Fin 512)
    (r : Fin 8320) (j : Fin 12288) (hr : r.val = t.val % 5 * 1664 + a.val) (hj : j.val = t.val / 5 * 512 + b.val) :
    ((outsAt0 m c t.val t.isLt).1 (ix2 a b) : EReal) = res (V m c main_arg0) (V m c main_arg1) (ix2 r j) := by
  refine (out_at m c t a b).trans ?_
  unfold res
  refine congrArg₂ dotE (funext fun k => ?_) (funext fun k => ?_)
  · refine (blk0_apply m c t a k).trans (congrArg (fun z => V m c main_arg0 (ix2 (n0 := 8320) (n1 := 4096) z k)) (Fin.ext ?_))
    exact hr.symm
  · refine (blk1_apply m c t k b).trans (congrArg (fun z => V m c main_arg1 (ix3 (n0 := 2) (n1 := 4096) (n2 := 39040) 0 k z)) (Fin.ext ?_))
    exact hj.symm

/-- The result's array after the whole run. -/
theorem arr_out (m : (ℓ : Loc nD τ sig) → Buf (Elt Ideal) ℓ) (c : Dev nD) :
    (dats m 0 c).arrAt 2 cfg0.N = res (V m c main_arg0) (V m c main_arg1) := by
  refine Pipeline.Dat.arrAt_eq_of_covers (dats m 0 c) 2 _ covers2 (fun t _ y => ?_)
  obtain ⟨a, b, hy⟩ : ∃ a b, (cfg0.win 2).xinj (cfg0.grid.coords t) y = ix2 a b := ⟨_, _, eq_ix2 (n0 := 1664) (n1 := 512) _⟩
  have h0 : (y (0 : Fin 2)).val = a.val := congrArg (fun x : S1664x512.Idx => (x 0).val) hy
  have h1 : (y (1 : Fin 2)).val = b.val := congrArg (fun x : S1664x512.Idx => (x 1).val) hy
  refine (congrFun (after0_2 m c t) _).trans ?_
  rw [hy]
  obtain ⟨r, j, hz⟩ : ∃ r j, ((cfg0.win 2).blk t).view.emb y = ix2 r j := ⟨_, _, eq_ix2 (n0 := 8320) (n1 := 12288) _⟩
  have g0 : r.val = t.val % 5 * 1664 + a.val := by
    rw [← h0, ← show (((cfg0.win 2).blk t).view.emb y (0 : Fin 2)).val = r.val from congrArg (fun x : S8320x12288.Idx => (x 0).val) hz]
    blk_simp [idx2 t]
  have g1 : j.val = t.val / 5 * 512 + b.val := by
    rw [← h1, ← show (((cfg0.win 2).blk t).view.emb y (1 : Fin 2)).val = j.val from congrArg (fun x : S8320x12288.Idx => (x 1).val) hz]
    blk_simp [idx2 t]
  refine (entry_at m c t a b r j g0 g1).trans ?_
  exact (congrArg (res (V m c main_arg0) (V m c main_arg1)) hz).symm

/-! ## The reference -/

theorem ref_eq (x : FVec Ideal S8320x4096 .bf16) (w : FVec Ideal S2x4096x39040 .f32) : Host.dotGeneral (φ₁ := .f32) (φ₂ := .f32) Cert.Reference5Ideal.dot_S8320x4096_S4096x12288_S8320x12288_1_0_0_1_n_n none (extf .f32 x Cert.Reference5Ideal.Gen.bitsLt_bf16_f32)
    (extractStridedSlice Cert.Reference5Ideal.S4096x12288 ![0, 0] (shapeCast _ (extractStridedSlice Cert.Reference5Ideal.S1x4096x39040 ![0, 0, 0] w Cert.Reference5Ideal.Gen.slices_S2x4096x39040_S1x4096x39040_0_0_0)
      Cert.Reference5Ideal.Gen.shapeCasts_S1x4096x39040_S4096x39040) Cert.Reference5Ideal.Gen.slices_S4096x39040_S4096x12288_0_0) = res x w := by
  funext i
  obtain ⟨r, j, rfl⟩ : ∃ r j, i = ix2 r j := ⟨_, _, eq_ix2 (n0 := 8320) (n1 := 12288) i⟩
  unfold res dotE
  pointwise []

/-! ## The claims -/

theorem frame_kernel5 : Cert.quiescent_Kernel5 := fun m ρ _ => Cert.Kernel5.Gen.frame m ρ

theorem frame_ideal5 : Cert.quiescent_Kernel5Ideal := fun m ρ _ => Cert.Kernel5Ideal.Gen.frame m ρ

theorem frame_reference5 : Cert.quiescent_Reference5Ideal := fun m ρ _ =>
  (θ_run Cert.Reference5Ideal.defs _ _).mono
    (fun r h => ⟨fun c => (h c).2, sem_eq_zero_of_no_sems (by decide) r.2⟩)
    (Cert.Reference5Ideal.Value.run (F := Ideal) m ρ)

theorem algebraic5 : Cert.algebraic_Kernel5Ideal_Reference5Ideal := by
  intro m g m' g' hp hm
  refine ⟨fun c => res (m ((c : Thread nD τ).loc main_arg0)) (m ((c : Thread nD τ).loc main_arg1)), ?_, ?_⟩
  · refine (θ_run defs _ _).mono (fun r hr c => ⟨(hr c).1.trans ((arr_out m c).trans ?_), (hr c).2⟩) (Cert.Kernel5Ideal.Value.run_blocks (F := Ideal) m g)
    rw [V_main_arg0, V_main_arg1]
  · refine (θ_run Cert.Reference5Ideal.defs _ _).mono (fun r hr c => ⟨(hr c).1.trans ?_, (hr c).2⟩) (Cert.Reference5Ideal.Value.run (F := Ideal) m' g')
    obtain ⟨e0, e1⟩ := hm c
    rw [e0, e1]
    exact ref_eq _ _

end Cert.Kernel5Ideal.In

end
-- ==== Proof.InZVal.lean ====
module

public import proofs.«01_k».proof.Proof.Gen.Kernel6Ideal.Value
public import proofs.«01_k».proof.Proof.UpVal
public import Idealize.ShloMosaic.Lib.Pipeline.Value
public import Idealize.ShloMosaic.Lib.Pipeline.ValueKit
public import Idealize.ShloMosaic.Lib.ValueLayout
public import Idealize.ShloMosaic.Lib.Pointwise
public import Idealize.ShloMosaic.Lib.Tactic

/-! The gate's projection: what a run of the body leaves, entry by entry. -/

@[expose] public section

set_option maxRecDepth 16384

noncomputable section

namespace Cert.Kernel6Ideal.Gate

open Cert.Kernel6Ideal Cert.Kernel6Ideal.Gen
open Idealize.ShloMosaic Idealize.ShloMosaic.TcCoe
open Cert.Kernel2Ideal.Up (part dotE dotE_parts)

variable {F : FTy → Type} [FloatOps F]

theorem hz : (![0, 0] : Fin 2 → Nat) = fun _ => 0 := funext fun a => by fin_cases a <;> rfl

/-- A block of weights at the narrower type, as a matrix. -/
def castW (X : Vec F S1x4096x512 .f32) : Vec F S4096x512 .bf16 :=
  fun y => FloatOps.truncf .bf16 bitsLt_bf16_f32 (X (ix3 (n0 := 1) (n1 := 4096) (n2 := 512) 0 (y 0) (y 1)))

/-- A chunk of 512 rows, cast, is those rows of the cast block. -/
theorem chunk_apply (o : ℕ) (inb : ∀ a, (![0, o, 0] : Fin 3 → ℕ) a + S1x512x512.size a ≤ S1x4096x512.size a)
    (inb' : ∀ a, (![o, 0] : Fin 2 → ℕ) a + S512x512.size a ≤ S4096x512.size a) (X : Vec F S1x4096x512 .f32) (x : S512x512.Idx) :
    shapeCast S512x512 (truncf (F := F) .bf16 (shapeCast S512x512
        (View.ld (Val := Elt F) X (Rect.unit (s := S1x4096x512) ![0, o, 0] S1x512x512.size inb)) shapeCasts_S1x512x512_S512x512) bitsLt_bf16_f32)
      shapeCasts_S512x512_S512x512 x
      = castW X ((Rect.unit (s := S4096x512) ![o, 0] S512x512.size inb').emb x) := by
  rw [shapeCast_self]
  obtain ⟨a, b, rfl⟩ : ∃ a b, x = ix2 a b := ⟨_, _, eq_ix2 (n0 := 512) (n1 := 512) x⟩
  show FloatOps.truncf .bf16 bitsLt_bf16_f32 (shapeCast (α := F .f32) S512x512 _ shapeCasts_S1x512x512_S512x512 (ix2 a b)) = _
  have e := shapeCast_apply (View.ld (Val := Elt F) X (Rect.unit (s := S1x4096x512) ![0, o, 0] S1x512x512.size inb))
    shapeCasts_S1x512x512_S512x512 (ix2 a b) (ix3 (n0 := 1) (n1 := 512) (n2 := 512) 0 a b) (by
      rw [Shape.rowMajor_val_three, Shape.rowMajor_val_two]
      show (0 * 512 + a.val) * 512 + b.val = a.val * 512 + b.val
      omega)
  refine (congrArg _ e).trans ?_
  unfold castW
  refine congrArg (fun z => FloatOps.truncf .bf16 bitsLt_bf16_f32 (X z)) ?_
  funext k
  apply Fin.ext
  fin_cases k
  · rfl
  · rfl
  · rfl

/-! ## The chunks of weights, cast, and of rows -/

def w0 (X : Vec F S1x4096x512 .f32) : FVec F S512x512 .bf16 := k0_pay5 (View.ld X (Rect.unit (s := S1x4096x512) ![0, 0, 0] S1x512x512.size inb_S1x4096x512_S1x512x512_0_0_0))
def x0 (X : Vec F S1664x4096 .bf16) : Vec F S1664x512 .bf16 := View.ld X (Rect.unit (s := S1664x4096) ![0, 0] S1664x512.size inb_S1664x4096_S1664x512_0_0)
def w1 (X : Vec F S1x4096x512 .f32) : FVec F S512x512 .bf16 := k0_pay6 (View.ld X (Rect.unit (s := S1x4096x512) ![0, 512, 0] S1x512x512.size inb_S1x4096x512_S1x512x512_0_512_0))
def x1 (X : Vec F S1664x4096 .bf16) : Vec F S1664x512 .bf16 := View.ld X (Rect.unit (s := S1664x4096) ![0, 512] S1664x512.size inb_S1664x4096_S1664x512_0_512)
def w2 (X : Vec F S1x4096x512 .f32) : FVec F S512x512 .bf16 := k0_pay8 (View.ld X (Rect.unit (s := S1x4096x512) ![0, 1024, 0] S1x512x512.size inb_S1x4096x512_S1x512x512_0_1024_0))
def x2 (X : Vec F S1664x4096 .bf16) : Vec F S1664x512 .bf16 := View.ld X (Rect.unit (s := S1664x4096) ![0, 1024] S1664x512.size inb_S1664x4096_S1664x512_0_1024)
def w3 (X : Vec F S1x4096x512 .f32) : FVec F S512x512 .bf16 := k0_pay9 (View.ld X (Rect.unit (s := S1x4096x512) ![0, 1536, 0] S1x512x512.size inb_S1x4096x512_S1x512x512_0_1536_0))
def x3 (X : Vec F S1664x4096 .bf16) : Vec F S1664x512 .bf16 := View.ld X (Rect.unit (s := S1664x4096) ![0, 1536] S1664x512.size inb_S1664x4096_S1664x512_0_1536)
def w4 (X : Vec F S1x4096x512 .f32) : FVec F S512x512 .bf16 := k0_pay10 (View.ld X (Rect.unit (s := S1x4096x512) ![0, 2048, 0] S1x512x512.size inb_S1x4096x512_S1x512x512_0_2048_0))
def x4 (X : Vec F S1664x4096 .bf16) : Vec F S1664x512 .bf16 := View.ld X (Rect.unit (s := S1664x4096) ![0, 2048] S1664x512.size inb_S1664x4096_S1664x512_0_2048)
def w5 (X : Vec F S1x4096x512 .f32) : FVec F S512x512 .bf16 := k0_pay12 (View.ld X (Rect.unit (s := S1x4096x512) ![0, 2560, 0] S1x512x512.size inb_S1x4096x512_S1x512x512_0_2560_0))
def x5 (X : Vec F S1664x4096 .bf16) : Vec F S1664x512 .bf16 := View.ld X (Rect.unit (s := S1664x4096) ![0, 2560] S1664x512.size inb_S1664x4096_S1664x512_0_2560)
def w6 (X : Vec F S1x4096x512 .f32) : FVec F S512x512 .bf16 := k0_pay1 (View.ld X (Rect.unit (s := S1x4096x512) ![0, 3072, 0] S1x512x512.size inb_S1x4096x512_S1x512x512_0_3072_0))
def x6 (X : Vec F S1664x4096 .bf16) : Vec F S1664x512 .bf16 := View.ld X (Rect.unit (s := S1664x4096) ![0, 3072] S1664x512.size inb_S1664x4096_S1664x512_0_3072)
def w7 (X : Vec F S1x4096x512 .f32) : FVec F S512x512 .bf16 := k0_pay2 (View.ld X (Rect.unit (s := S1x4096x512) ![0, 3584, 0] S1x512x512.size inb_S1x4096x512_S1x512x512_0_3584_0))
def x7 (X : Vec F S1664x4096 .bf16) : Vec F S1664x512 .bf16 := View.ld X (Rect.unit (s := S1664x4096) ![0, 3584] S1664x512.size inb_S1664x4096_S1664x512_0_3584)

/-- What the body stores where it casts the weights. -/
def outF (X : Vec F S1664x4096 .bf16) (W : Vec F S1x4096x512 .f32) : FVec F S1664x512 .f32 :=
  k0_pay3 (k0_pay11 (k0_pay7 (x0 X) (w0 W) (x1 X) (w1 W)) (x2 X) (w2 W) (constant S1664x512 .f32 0x00000000#32) (x3 X) (w3 W) (x4 X) (w4 W))
    (x5 X) (w5 W) (x6 X) (w6 W) (x7 X) (w7 W)

theorem out_A (c : Dev nD) (i : grid0.Coords) (arg2 : Memref sig .tc .vmem S1664x4096 .bf16) (harg2 : arg2.IsWhole)
    (arg3 : Memref sig .tc .vmem S1x4096x512 .f32) (harg3 : arg3.IsWhole) (arg4 : Memref sig .tc .vmem S1664x512 .f32) (harg4 : arg4.IsWhole)
    (arg5 : Memref sig .tc .vmem S4096x512 .bf16) (harg5 : arg5.IsWhole)
    (hc0 : cond0_0 i) (hc1 : ¬cond0_1 i) (x0 : Vec F S1664x4096 .bf16) (x1 : Vec F S1x4096x512 .f32) :
    out0_A_2 c i arg2 harg2 arg3 harg3 arg4 harg4 arg5 harg5 hc0 hc1 x0 x1 = outF x0 x1 := by
  unfold out0_A_2
  rw [View.read_writes_eq_canon _ _ _ (cover0_A_2 c i arg2 harg2 arg3 harg3 arg4 harg4 arg5 harg5 hc0 hc1 x0 x1)]
  unfold kernelRun0_A
  dsimp only
  rw [View.canon_unit_zero hz]
  sl_unfold_words
  simp only [View.readAt_eq_ld, harg2.read_unread, harg3.read_unread, View.readCov_cons_toLoadRect]
  rfl

theorem out_B (c : Dev nD) (i : grid0.Coords) (arg2 : Memref sig .tc .vmem S1664x4096 .bf16) (harg2 : arg2.IsWhole)
    (arg3 : Memref sig .tc .vmem S1x4096x512 .f32) (harg3 : arg3.IsWhole) (arg4 : Memref sig .tc .vmem S1664x512 .f32) (harg4 : arg4.IsWhole)
    (arg5 : Memref sig .tc .vmem S4096x512 .bf16) (harg5 : arg5.IsWhole)
    (hc0 : ¬cond0_0 i) (hc1 : cond0_1 i) (x0 : Vec F S1664x4096 .bf16) (x1 : Vec F S1x4096x512 .f32) (xs0 : Vec F S4096x512 .bf16) :
    out0_B_2 c i arg2 harg2 arg3 harg3 arg4 harg4 arg5 harg5 hc0 hc1 x0 x1 xs0 = k0_pay4 x0 xs0 := by
  unfold out0_B_2
  rw [View.read_writes_eq_canon _ _ _ (cover0_B_2 c i arg2 harg2 arg3 harg3 arg4 harg4 arg5 harg5 hc0 hc1 x0 x1 xs0)]
  unfold kernelRun0_B
  dsimp only
  rw [View.canon_unit_zero hz]
  simp only [View.readAt_eq_ld, harg2.read_unread, harg5.read_unread, View.ld_unit_zero (S := S1664x4096) hz, View.ld_unit_zero (S := S4096x512) hz]

theorem sout_A (c : Dev nD) (i : grid0.Coords) (arg2 : Memref sig .tc .vmem S1664x4096 .bf16) (harg2 : arg2.IsWhole)
    (arg3 : Memref sig .tc .vmem S1x4096x512 .f32) (harg3 : arg3.IsWhole) (arg4 : Memref sig .tc .vmem S1664x512 .f32) (harg4 : arg4.IsWhole)
    (arg5 : Memref sig .tc .vmem S4096x512 .bf16) (harg5 : arg5.IsWhole)
    (hc0 : cond0_0 i) (hc1 : ¬cond0_1 i) (x0 : Vec F S1664x4096 .bf16) (x1 : Vec F S1x4096x512 .f32) :
    sout0_A_0 c i arg2 harg2 arg3 harg3 arg4 harg4 arg5 harg5 hc0 hc1 x0 x1 = castW x1 := by
  have hcov := scover0_A_0 c i arg2 harg2 arg3 harg3 arg4 harg4 arg5 harg5 hc0 hc1 x0 x1
  funext y
  have hy := hcov y
  unfold sout0_A_0
  rw [View.read_writes_eq_canon _ _ _ hcov]
  revert hy
  unfold kernelRun0_A
  dsimp only
  sl_unfold_words
  simp only [View.readAt_eq_ld, harg2.read_unread, harg3.read_unread]
  intro hy
  refine View.canon_apply_of_pieces (castW x1) _ (fun p hp => ?_) y hy
  simp only [List.mem_cons, List.mem_nil_iff, or_false] at hp
  rcases hp with rfl | rfl | rfl | rfl | rfl | rfl | rfl | rfl
  · exact fun x => chunk_apply 3584 _ inb_S4096x512_S512x512_3584_0 x1 x
  · exact fun x => chunk_apply 3072 _ inb_S4096x512_S512x512_3072_0 x1 x
  · exact fun x => chunk_apply 2560 _ inb_S4096x512_S512x512_2560_0 x1 x
  · exact fun x => chunk_apply 2048 _ inb_S4096x512_S512x512_2048_0 x1 x
  · exact fun x => chunk_apply 1536 _ inb_S4096x512_S512x512_1536_0 x1 x
  · exact fun x => chunk_apply 1024 _ inb_S4096x512_S512x512_1024_0 x1 x
  · exact fun x => chunk_apply 512 _ inb_S4096x512_S512x512_512_0 x1 x
  · exact fun x => chunk_apply 0 _ inb_S4096x512_S512x512_0_0 x1 x

/-! ## Over the extended reals -/

/-- One chunk's product. -/
def mm (A : FVec Ideal S1664x512 .bf16) (B : FVec Ideal S512x512 .bf16) : FVec Ideal S1664x512 .f32 :=
  matmul (φ₁ := .bf16) (φ₂ := .bf16) dot_S1664x512_S512x512_S1664x512_1_0_0_1_n_n none A B (constant S1664x512 .f32 0x00000000#32)

theorem mm_at (A : FVec Ideal S1664x512 .bf16) (B : FVec Ideal S512x512 .bf16) (a : Fin 1664) (b : Fin 512) :
    (mm A B (ix2 a b) : EReal) = ∑ k : Fin 512, (A (ix2 a k) : EReal) * (B (ix2 k b) : EReal) := by
  pointwise [mm]

theorem chunk_mm (s : Fin 8) (o : ℕ) (ho : o = s.val * 512) (inbX : ∀ a, (![0, o] : Fin 2 → ℕ) a + S1664x512.size a ≤ S1664x4096.size a)
    (inbS : ∀ a, (![o, 0] : Fin 2 → ℕ) a + S512x512.size a ≤ S4096x512.size a)
    (X : Vec Ideal S1664x4096 .bf16) (C : Vec Ideal S4096x512 .bf16) (B : Vec Ideal S512x512 .bf16)
    (hB : ∀ x, B x = C ((Rect.unit (s := S4096x512) ![o, 0] S512x512.size inbS).emb x)) (a : Fin 1664) (b : Fin 512) :
    (mm (View.ld (Val := Elt Ideal) X (Rect.unit (s := S1664x4096) ![0, o] S1664x512.size inbX)) B (ix2 a b) : EReal)
      = part (fun k => X (ix2 a k)) (fun k => C (ix2 k b)) s := by
  subst ho
  rw [mm_at]
  unfold part
  refine Finset.sum_congr rfl fun k _ => ?_
  rw [hB]
  refine congrArg₂ (fun p q : EReal => p * q) ?_ ?_
  · show X _ = X _
    refine congrArg X ?_
    funext i; apply Fin.ext
    fin_cases i
    · show 0 + 1 * a.val = a.val; omega
    · show s.val * 512 + 1 * k.val = s.val * 512 + k.val; omega
  · refine congrArg C ?_
    funext i; apply Fin.ext
    fin_cases i
    · show s.val * 512 + 1 * k.val = s.val * 512 + k.val; omega
    · show 0 + 1 * b.val = b.val; omega

variable (X : Vec Ideal S1664x4096 .bf16) (W : Vec Ideal S1x4096x512 .f32)

theorem outF_eq : outF X W
    = addf (addf (addf (addf (addf (addf (addf (mm (x0 X) (w0 W)) (mm (x1 X) (w1 W))) (mm (x2 X) (w2 W))) (mm (x3 X) (w3 W))) (mm (x4 X) (w4 W)))
      (mm (x5 X) (w5 W))) (mm (x6 X) (w6 W))) (mm (x7 X) (w7 W)) := by
  unfold outF k0_pay3 k0_pay11 k0_pay7 mm
  rfl

theorem outF_at (a : Fin 1664) (b : Fin 512) :
    (outF X W (ix2 a b) : EReal) = dotE (fun k => X (ix2 a k)) (fun k => W (ix3 0 k b)) := by
  rw [outF_eq]
  refine Eq.trans ?_ (dotE_parts (fun k => X (ix2 a k)) (fun k => castW W (ix2 k b)))
  rw [← chunk_mm 0 0 rfl inb_S1664x4096_S1664x512_0_0 inb_S4096x512_S512x512_0_0 X (castW W) (w0 W) (fun x => chunk_apply 0 _ _ W x) a b,
    ← chunk_mm 1 512 rfl inb_S1664x4096_S1664x512_0_512 inb_S4096x512_S512x512_512_0 X (castW W) (w1 W) (fun x => chunk_apply 512 _ _ W x) a b,
    ← chunk_mm 2 1024 rfl inb_S1664x4096_S1664x512_0_1024 inb_S4096x512_S512x512_1024_0 X (castW W) (w2 W) (fun x => chunk_apply 1024 _ _ W x) a b,
    ← chunk_mm 3 1536 rfl inb_S1664x4096_S1664x512_0_1536 inb_S4096x512_S512x512_1536_0 X (castW W) (w3 W) (fun x => chunk_apply 1536 _ _ W x) a b,
    ← chunk_mm 4 2048 rfl inb_S1664x4096_S1664x512_0_2048 inb_S4096x512_S512x512_2048_0 X (castW W) (w4 W) (fun x => chunk_apply 2048 _ _ W x) a b,
    ← chunk_mm 5 2560 rfl inb_S1664x4096_S1664x512_0_2560 inb_S4096x512_S512x512_2560_0 X (castW W) (w5 W) (fun x => chunk_apply 2560 _ _ W x) a b,
    ← chunk_mm 6 3072 rfl inb_S1664x4096_S1664x512_0_3072 inb_S4096x512_S512x512_3072_0 X (castW W) (w6 W) (fun x => chunk_apply 3072 _ _ W x) a b,
    ← chunk_mm 7 3584 rfl inb_S1664x4096_S1664x512_0_3584 inb_S4096x512_S512x512_3584_0 X (castW W) (w7 W) (fun x => chunk_apply 3584 _ _ W x) a b]
  rfl

theorem pay4_at (a : Fin 1664) (b : Fin 512) :
    (k0_pay4 X (castW W) (ix2 a b) : EReal) = dotE (fun k => X (ix2 a k)) (fun k => W (ix3 0 k b)) := by
  unfold dotE
  pointwise [k0_pay4, castW]

end Cert.Kernel6Ideal.Gate

end
-- ==== Proof.InZAlgebra.lean ====
module

public import proofs.«01_k».proof.Defs
public import proofs.«01_k».proof.Proof.InZVal
public import proofs.«01_k».proof.Proof.Gen.Kernel6.Frame
public import proofs.«01_k».proof.Proof.Gen.Reference6Ideal.Run
public import Idealize.ShloMosaic.Lib.Pipeline.ValueKit.Geometry

/-! The gate's projection: the run and the reference's, with one and the same result. -/

@[expose] public section

set_option maxRecDepth 16384

noncomputable section

namespace Cert.Kernel6Ideal.Gate

open Cert.Kernel6Ideal Cert.Kernel6Ideal.Gen
open Idealize.ShloMosaic Idealize.ShloMosaic.TcCoe Idealize.ShloMosaic.Tactic Idealize.SL.Sem
open Cert.Kernel2Ideal.Up (dotE)

/-! ## Which blocks a point sees -/

theorem idxIn : ∀ t : Fin grid0.N, cc0_transform_0 (grid0.coords t) = ![t.val % 5, 0] := by decide +kernel
theorem idxWt : ∀ t : Fin grid0.N, cc0_transform_1 (grid0.coords t) = ![0, 0, t.val / 5 + 24] := by decide +kernel
theorem idxOut : ∀ t : Fin grid0.N, cc0_transform_2 (grid0.coords t) = ![t.val % 5, t.val / 5] := by decide +kernel
theorem flushOut : ∀ t : Fin grid0.N, Pipeline.Window.flushOf grid0 true cc0_transform_2 t = true := by decide +kernel

theorem idx0 (t : Fin cfg0.N) : (cfg0.win 0).index t = ![t.val % 5, 0] := idxIn t
theorem idx1 (t : Fin cfg0.N) : (cfg0.win 1).index t = ![0, 0, t.val / 5 + 24] := idxWt t
theorem idx2 (t : Fin cfg0.N) : (cfg0.win 2).index t = ![t.val % 5, t.val / 5] := idxOut t
theorem flush2 (t : Fin cfg0.N) : (cfg0.win 2).flush t = true := flushOut t

variable {F : FTy → Type} [FloatOps F] (m : (ℓ : Loc nD τ sig) → Buf (Elt F) ℓ)

theorem blk0_apply (c : Dev nD) (t : Fin cfg0.N) (a : Fin 1664) (k : Fin 4096) :
    (iblk m c 0 t : Vec F S1664x4096 .bf16) (ix2 a k)
      = V m c main_arg0 (ix2 (n0 := 8320) (n1 := 4096) ⟨t.val % 5 * 1664 + a.val, by have := a.isLt; omega⟩ k) := by
  show V m c main_arg0 _ = V m c main_arg0 _
  blk_ext [iblk, idx0 t]

theorem blk1_apply (c : Dev nD) (t : Fin cfg0.N) (k : Fin 4096) (b : Fin 512) :
    (X0_1 m c t : Vec F S1x4096x512 .f32) (ix3 0 k b)
      = V m c main_arg1 (ix3 (n0 := 2) (n1 := 4096) (n2 := 39040) 0 k
          ⟨(t.val / 5 + 24) * 512 + b.val, by have := b.isLt; have : t.val < 80 := t.isLt; omega⟩) := by
  unfold X0_1 Pipeline.Window.fill
  rw [dif_pos (moved0_1 t _)]
  show V m c main_arg1 _ = V m c main_arg1 _
  blk_ext [iblk, idx1 t]

/-! ## What the scratch buffer holds between points: the cast weights of the column block -/

theorem weights_keep (c : Dev nD) (t u : Fin cfg0.N) (h : t.val / 5 = u.val / 5) :
    castW (X0_1 m c t) = castW (X0_1 m c u) := by
  funext y; unfold castW; refine congrArg _ ?_
  refine (blk1_apply m c t (y 0) (y 1)).trans (Eq.trans ?_ (blk1_apply m c u (y 0) (y 1)).symm)
  refine congrArg (V m c main_arg1) ?_
  funext k; apply Fin.ext; fin_cases k
  · rfl
  · rfl
  · exact congrArg (fun z => (z + 24) * 512 + (y 1).val) h

theorem scratch_A (c : Dev nD) (t : Fin cfg0.N) (h : t.val % 5 = 0) : (outsAt0 m c t.val t.isLt).2 = castW (X0_1 m c t) := by
  rw [outsAt0_A m c t h (by omega)]
  dsimp only
  rw [sout_A]

theorem scratch_B (c : Dev nD) (t : Fin cfg0.N) (h : ¬t.val % 5 = 0) :
    (outsAt0 m c t.val t.isLt).2 = (outsAt0 m c (t.val - 1) (Nat.lt_of_le_of_lt (Nat.sub_le _ _) t.isLt)).2 := by
  rw [outsAt0_B m c t h (by omega)]
  dsimp only
  unfold sout0_B_0
  rfl

theorem scratch_eq (c : Dev nD) : ∀ (n : ℕ) (t : Fin cfg0.N), t.val = n → (outsAt0 m c t.val t.isLt).2 = castW (X0_1 m c t) := by
  intro n
  induction n with
  | zero => exact fun t ht => scratch_A m c t (by omega)
  | succ n ih =>
    intro t ht
    by_cases h : t.val % 5 = 0
    · exact scratch_A m c t h
    · have e := ih ⟨t.val - 1, Nat.lt_of_le_of_lt (Nat.sub_le _ _) t.isLt⟩ (show t.val - 1 = n by omega)
      exact (scratch_B m c t h).trans (e.trans (weights_keep m c _ t (show (t.val - 1) / 5 = t.val / 5 by omega)))

/-! ## The result -/

/-- What a point leaves of the result, entry by entry. -/
theorem out_at (m : (ℓ : Loc nD τ sig) → Buf (Elt Ideal) ℓ) (c : Dev nD) (t : Fin cfg0.N) (a : Fin 1664) (b : Fin 512) :
    ((outsAt0 m c t.val t.isLt).1 (ix2 a b) : EReal)
      = dotE (fun k => (iblk m c 0 t : Vec Ideal S1664x4096 .bf16) (ix2 a k)) (fun k => (X0_1 m c t : Vec Ideal S1x4096x512 .f32) (ix3 0 k b)) := by
  by_cases h : t.val % 5 = 0
  · rw [outsAt0_A m c t h (by omega)]
    dsimp only
    rw [out_A]
    exact outF_at _ _ a b
  · rw [outsAt0_B m c t h (by omega)]
    dsimp only
    rw [out_B, ← scratch_B m c t h, scratch_eq m c t.val t rfl]
    exact pay4_at _ _ a b

/-- The result, entry by entry: a row of the operand against a column of the layer's weights. -/
def res (x : FVec Ideal S8320x4096 .bf16) (w : FVec Ideal S2x4096x39040 .f32) : FVec Ideal S8320x8192 .f32 := fun i =>
  (dotE (fun k => x (ix2 (i 0) k)) (fun k => w (ix3 0 k ⟨12288 + (i 1).val, lt_of_lt_of_le (Nat.add_lt_add_left (i 1).isLt 12288) (by decide)⟩)) : EReal)

theorem covers2 : (cfg0.win 2).Covers := by
  refine ⟨(by decide : ∀ a : Fin 2, 0 < S1664x512.size a), fun β => ?_⟩
  have h0 : (β (0 : Fin 2)).val < 5 := lt_of_lt_of_eq (β (0 : Fin 2)).isLt (show (S8320x8192.size 0 + S1664x512.size 0 - 1) / S1664x512.size 0 = 5 by decide)
  have h1 : (β (1 : Fin 2)).val < 16 := lt_of_lt_of_eq (β (1 : Fin 2)).isLt (show (S8320x8192.size 1 + S1664x512.size 1 - 1) / S1664x512.size 1 = 16 by decide)
  refine ⟨⟨5 * (β (1 : Fin 2)).val + (β (0 : Fin 2)).val, lt_of_lt_of_eq (by omega : _ < 80) N_0.symm⟩, flush2 _, fun a => ⟨?_, Or.inl rfl⟩⟩
  rw [idx2]
  match a with
  | ⟨0, _⟩ => show (5 * (β (1 : Fin 2)).val + (β (0 : Fin 2)).val) % 5 = (β (0 : Fin 2)).val; omega
  | ⟨1, _⟩ => show (5 * (β (1 : Fin 2)).val + (β (0 : Fin 2)).val) / 5 = (β (1 : Fin 2)).val; omega

theorem entry_at (m : (ℓ : Loc nD τ sig) → Buf (Elt Ideal) ℓ) (c : Dev nD) (t : Fin cfg0.N) (a : Fin 1664) (b : Fin 512)
    (r : Fin 8320) (j : Fin 8192) (hr : r.val = t.val % 5 * 1664 + a.val) (hj : j.val = t.val / 5 * 512 + b.val) :
    ((outsAt0 m c t.val t.isLt).1 (ix2 a b) : EReal) = res (V m c main_arg0) (V m c main_arg1) (ix2 r j) := by
  refine (out_at m c t a b).trans ?_
  unfold res
  refine congrArg₂ dotE (funext fun k => ?_) (funext fun k => ?_)
  · refine (blk0_apply m c t a k).trans (congrArg (fun z => V m c main_arg0 (ix2 (n0 := 8320) (n1 := 4096) z k)) (Fin.ext ?_))
    exact hr.symm
  · refine (blk1_apply m c t k b).trans (congrArg (fun z => V m c main_arg1 (ix3 (n0 := 2) (n1 := 4096) (n2 := 39040) 0 k z)) (Fin.ext ?_))
    show (t.val / 5 + 24) * 512 + b.val = 12288 + j.val
    omega

/-- The result's array after the whole run. -/
theorem arr_out (m : (ℓ : Loc nD τ sig) → Buf (Elt Ideal) ℓ) (c : Dev nD) :
    (dats m 0 c).arrAt 2 cfg0.N = res (V m c main_arg0) (V m c main_arg1) := by
  refine Pipeline.Dat.arrAt_eq_of_covers (dats m 0 c) 2 _ covers2 (fun t _ y => ?_)
  obtain ⟨a, b, hy⟩ : ∃ a b, (cfg0.win 2).xinj (cfg0.grid.coords t) y = ix2 a b := ⟨_, _, eq_ix2 (n0 := 1664) (n1 := 512) _⟩
  have h0 : (y (0 : Fin 2)).val = a.val := congrArg (fun x : S1664x512.Idx => (x 0).val) hy
  have h1 : (y (1 : Fin 2)).val = b.val := congrArg (fun x : S1664x512.Idx => (x 1).val) hy
  refine (congrFun (after0_2 m c t) _).trans ?_
  rw [hy]
  obtain ⟨r, j, hz⟩ : ∃ r j, ((cfg0.win 2).blk t).view.emb y = ix2 r j := ⟨_, _, eq_ix2 (n0 := 8320) (n1 := 8192) _⟩
  have g0 : r.val = t.val % 5 * 1664 + a.val := by
    rw [← h0, ← show (((cfg0.win 2).blk t).view.emb y (0 : Fin 2)).val = r.val from congrArg (fun x : S8320x8192.Idx => (x 0).val) hz]
    blk_simp [idx2 t]
  have g1 : j.val = t.val / 5 * 512 + b.val := by
    rw [← h1, ← show (((cfg0.win 2).blk t).view.emb y (1 : Fin 2)).val = j.val from congrArg (fun x : S8320x8192.Idx => (x 1).val) hz]
    blk_simp [idx2 t]
  refine (entry_at m c t a b r j g0 g1).trans ?_
  exact (congrArg (res (V m c main_arg0) (V m c main_arg1)) hz).symm

/-! ## The reference -/

theorem ref_eq (x : FVec Ideal S8320x4096 .bf16) (w : FVec Ideal S2x4096x39040 .f32) : Host.dotGeneral (φ₁ := .f32) (φ₂ := .f32) Cert.Reference6Ideal.dot_S8320x4096_S4096x8192_S8320x8192_1_0_0_1_n_n none (extf .f32 x Cert.Reference6Ideal.Gen.bitsLt_bf16_f32)
    (extractStridedSlice Cert.Reference6Ideal.S4096x8192 ![0, 12288] (shapeCast _ (extractStridedSlice Cert.Reference6Ideal.S1x4096x39040 ![0, 0, 0] w Cert.Reference6Ideal.Gen.slices_S2x4096x39040_S1x4096x39040_0_0_0)
      Cert.Reference6Ideal.Gen.shapeCasts_S1x4096x39040_S4096x39040) Cert.Reference6Ideal.Gen.slices_S4096x39040_S4096x8192_0_12288) = res x w := by
  funext i
  obtain ⟨r, j, rfl⟩ : ∃ r j, i = ix2 r j := ⟨_, _, eq_ix2 (n0 := 8320) (n1 := 8192) i⟩
  unfold res dotE
  pointwise []

/-! ## The claims -/

theorem frame_kernel6 : Cert.quiescent_Kernel6 := fun m ρ _ => Cert.Kernel6.Gen.frame m ρ

theorem frame_ideal6 : Cert.quiescent_Kernel6Ideal := fun m ρ _ => Cert.Kernel6Ideal.Gen.frame m ρ

theorem frame_reference6 : Cert.quiescent_Reference6Ideal := fun m ρ _ =>
  (θ_run Cert.Reference6Ideal.defs _ _).mono
    (fun r h => ⟨fun c => (h c).2, sem_eq_zero_of_no_sems (by decide) r.2⟩)
    (Cert.Reference6Ideal.Value.run (F := Ideal) m ρ)

theorem algebraic6 : Cert.algebraic_Kernel6Ideal_Reference6Ideal := by
  intro m g m' g' hp hm
  refine ⟨fun c => res (m ((c : Thread nD τ).loc main_arg0)) (m ((c : Thread nD τ).loc main_arg1)), ?_, ?_⟩
  · refine (θ_run defs _ _).mono (fun r hr c => ⟨(hr c).1.trans ((arr_out m c).trans ?_), (hr c).2⟩) (Cert.Kernel6Ideal.Value.run_blocks (F := Ideal) m g)
    rw [V_main_arg0, V_main_arg1]
  · refine (θ_run Cert.Reference6Ideal.defs _ _).mono (fun r hr c => ⟨(hr c).1.trans ?_, (hr c).2⟩) (Cert.Reference6Ideal.Value.run (F := Ideal) m' g')
    obtain ⟨e0, e1⟩ := hm c
    rw [e0, e1]
    exact ref_eq _ _

end Cert.Kernel6Ideal.Gate

end
-- ==== Proof.InXbcVal.lean ====
module

public import proofs.«01_k».proof.Proof.Gen.Kernel7Ideal.Value
public import proofs.«01_k».proof.Proof.UpVal
public import Idealize.ShloMosaic.Lib.Pipeline.Value
public import Idealize.ShloMosaic.Lib.Pipeline.ValueKit
public import Idealize.ShloMosaic.Lib.ValueLayout
public import Idealize.ShloMosaic.Lib.Pointwise
public import Idealize.ShloMosaic.Lib.Tactic

/-! The scan's projection: what a run of the body leaves, entry by entry. -/

@[expose] public section

set_option maxRecDepth 16384

noncomputable section

namespace Cert.Kernel7Ideal.Xbc

open Cert.Kernel7Ideal Cert.Kernel7Ideal.Gen
open Idealize.ShloMosaic Idealize.ShloMosaic.TcCoe
open Cert.Kernel2Ideal.Up (part dotE dotE_parts)

variable {F : FTy → Type} [FloatOps F]

theorem hz : (![0, 0] : Fin 2 → Nat) = fun _ => 0 := funext fun a => by fin_cases a <;> rfl

/-- A block of weights at the narrower type, as a matrix. -/
def castW (X : Vec F S1x4096x512 .f32) : Vec F S4096x512 .bf16 :=
  fun y => FloatOps.truncf .bf16 bitsLt_bf16_f32 (X (ix3 (n0 := 1) (n1 := 4096) (n2 := 512) 0 (y 0) (y 1)))

/-- A chunk of 512 rows, cast, is those rows of the cast block. -/
theorem chunk_apply (o : ℕ) (inb : ∀ a, (![0, o, 0] : Fin 3 → ℕ) a + S1x512x512.size a ≤ S1x4096x512.size a)
    (inb' : ∀ a, (![o, 0] : Fin 2 → ℕ) a + S512x512.size a ≤ S4096x512.size a) (X : Vec F S1x4096x512 .f32) (x : S512x512.Idx) :
    shapeCast S512x512 (truncf (F := F) .bf16 (shapeCast S512x512
        (View.ld (Val := Elt F) X (Rect.unit (s := S1x4096x512) ![0, o, 0] S1x512x512.size inb)) shapeCasts_S1x512x512_S512x512) bitsLt_bf16_f32)
      shapeCasts_S512x512_S512x512 x
      = castW X ((Rect.unit (s := S4096x512) ![o, 0] S512x512.size inb').emb x) := by
  rw [shapeCast_self]
  obtain ⟨a, b, rfl⟩ : ∃ a b, x = ix2 a b := ⟨_, _, eq_ix2 (n0 := 512) (n1 := 512) x⟩
  show FloatOps.truncf .bf16 bitsLt_bf16_f32 (shapeCast (α := F .f32) S512x512 _ shapeCasts_S1x512x512_S512x512 (ix2 a b)) = _
  have e := shapeCast_apply (View.ld (Val := Elt F) X (Rect.unit (s := S1x4096x512) ![0, o, 0] S1x512x512.size inb))
    shapeCasts_S1x512x512_S512x512 (ix2 a b) (ix3 (n0 := 1) (n1 := 512) (n2 := 512) 0 a b) (by
      rw [Shape.rowMajor_val_three, Shape.rowMajor_val_two]
      show (0 * 512 + a.val) * 512 + b.val = a.val * 512 + b.val
      omega)
  refine (congrArg _ e).trans ?_
  unfold castW
  refine congrArg (fun z => FloatOps.truncf .bf16 bitsLt_bf16_f32 (X z)) ?_
  funext k
  apply Fin.ext
  fin_cases k
  · rfl
  · rfl
  · rfl

/-! ## The chunks of weights, cast, and of rows -/

def w0 (X : Vec F S1x4096x512 .f32) : FVec F S512x512 .bf16 := k0_pay5 (View.ld X (Rect.unit (s := S1x4096x512) ![0, 0, 0] S1x512x512.size inb_S1x4096x512_S1x512x512_0_0_0))
def x0 (X : Vec F S1664x4096 .bf16) : Vec F S1664x512 .bf16 := View.ld X (Rect.unit (s := S1664x4096) ![0, 0] S1664x512.size inb_S1664x4096_S1664x512_0_0)
def w1 (X : Vec F S1x4096x512 .f32) : FVec F S512x512 .bf16 := k0_pay6 (View.ld X (Rect.unit (s := S1x4096x512) ![0, 512, 0] S1x512x512.size inb_S1x4096x512_S1x512x512_0_512_0))
def x1 (X : Vec F S1664x4096 .bf16) : Vec F S1664x512 .bf16 := View.ld X (Rect.unit (s := S1664x4096) ![0, 512] S1664x512.size inb_S1664x4096_S1664x512_0_512)
def w2 (X : Vec F S1x4096x512 .f32) : FVec F S512x512 .bf16 := k0_pay8 (View.ld X (Rect.unit (s := S1x4096x512) ![0, 1024, 0] S1x512x512.size inb_S1x4096x512_S1x512x512_0_1024_0))
def x2 (X : Vec F S1664x4096 .bf16) : Vec F S1664x512 .bf16 := View.ld X (Rect.unit (s := S1664x4096) ![0, 1024] S1664x512.size inb_S1664x4096_S1664x512_0_1024)
def w3 (X : Vec F S1x4096x512 .f32) : FVec F S512x512 .bf16 := k0_pay9 (View.ld X (Rect.unit (s := S1x4096x512) ![0, 1536, 0] S1x512x512.size inb_S1x4096x512_S1x512x512_0_1536_0))
def x3 (X : Vec F S1664x4096 .bf16) : Vec F S1664x512 .bf16 := View.ld X (Rect.unit (s := S1664x4096) ![0, 1536] S1664x512.size inb_S1664x4096_S1664x512_0_1536)
def w4 (X : Vec F S1x4096x512 .f32) : FVec F S512x512 .bf16 := k0_pay10 (View.ld X (Rect.unit (s := S1x4096x512) ![0, 2048, 0] S1x512x512.size inb_S1x4096x512_S1x512x512_0_2048_0))
def x4 (X : Vec F S1664x4096 .bf16) : Vec F S1664x512 .bf16 := View.ld X (Rect.unit (s := S1664x4096) ![0, 2048] S1664x512.size inb_S1664x4096_S1664x512_0_2048)
def w5 (X : Vec F S1x4096x512 .f32) : FVec F S512x512 .bf16 := k0_pay12 (View.ld X (Rect.unit (s := S1x4096x512) ![0, 2560, 0] S1x512x512.size inb_S1x4096x512_S1x512x512_0_2560_0))
def x5 (X : Vec F S1664x4096 .bf16) : Vec F S1664x512 .bf16 := View.ld X (Rect.unit (s := S1664x4096) ![0, 2560] S1664x512.size inb_S1664x4096_S1664x512_0_2560)
def w6 (X : Vec F S1x4096x512 .f32) : FVec F S512x512 .bf16 := k0_pay1 (View.ld X (Rect.unit (s := S1x4096x512) ![0, 3072, 0] S1x512x512.size inb_S1x4096x512_S1x512x512_0_3072_0))
def x6 (X : Vec F S1664x4096 .bf16) : Vec F S1664x512 .bf16 := View.ld X (Rect.unit (s := S1664x4096) ![0, 3072] S1664x512.size inb_S1664x4096_S1664x512_0_3072)
def w7 (X : Vec F S1x4096x512 .f32) : FVec F S512x512 .bf16 := k0_pay2 (View.ld X (Rect.unit (s := S1x4096x512) ![0, 3584, 0] S1x512x512.size inb_S1x4096x512_S1x512x512_0_3584_0))
def x7 (X : Vec F S1664x4096 .bf16) : Vec F S1664x512 .bf16 := View.ld X (Rect.unit (s := S1664x4096) ![0, 3584] S1664x512.size inb_S1664x4096_S1664x512_0_3584)

/-- What the body stores where it casts the weights. -/
def outF (X : Vec F S1664x4096 .bf16) (W : Vec F S1x4096x512 .f32) : FVec F S1664x512 .f32 :=
  k0_pay3 (k0_pay11 (k0_pay7 (x0 X) (w0 W) (x1 X) (w1 W)) (x2 X) (w2 W) (constant S1664x512 .f32 0x00000000#32) (x3 X) (w3 W) (x4 X) (w4 W))
    (x5 X) (w5 W) (x6 X) (w6 W) (x7 X) (w7 W)

theorem out_A (c : Dev nD) (i : grid0.Coords) (arg2 : Memref sig .tc .vmem S1664x4096 .bf16) (harg2 : arg2.IsWhole)
    (arg3 : Memref sig .tc .vmem S1x4096x512 .f32) (harg3 : arg3.IsWhole) (arg4 : Memref sig .tc .vmem S1664x512 .f32) (harg4 : arg4.IsWhole)
    (arg5 : Memref sig .tc .vmem S4096x512 .bf16) (harg5 : arg5.IsWhole)
    (hc0 : cond0_0 i) (hc1 : ¬cond0_1 i) (x0 : Vec F S1664x4096 .bf16) (x1 : Vec F S1x4096x512 .f32) :
    out0_A_2 c i arg2 harg2 arg3 harg3 arg4 harg4 arg5 harg5 hc0 hc1 x0 x1 = outF x0 x1 := by
  unfold out0_A_2
  rw [View.read_writes_eq_canon _ _ _ (cover0_A_2 c i arg2 harg2 arg3 harg3 arg4 harg4 arg5 harg5 hc0 hc1 x0 x1)]
  unfold kernelRun0_A
  dsimp only
  rw [View.canon_unit_zero hz]
  sl_unfold_words
  simp only [View.readAt_eq_ld, harg2.read_unread, harg3.read_unread, View.readCov_cons_toLoadRect]
  rfl

theorem out_B (c : Dev nD) (i : grid0.Coords) (arg2 : Memref sig .tc .vmem S1664x4096 .bf16) (harg2 : arg2.IsWhole)
    (arg3 : Memref sig .tc .vmem S1x4096x512 .f32) (harg3 : arg3.IsWhole) (arg4 : Memref sig .tc .vmem S1664x512 .f32) (harg4 : arg4.IsWhole)
    (arg5 : Memref sig .tc .vmem S4096x512 .bf16) (harg5 : arg5.IsWhole)
    (hc0 : ¬cond0_0 i) (hc1 : cond0_1 i) (x0 : Vec F S1664x4096 .bf16) (x1 : Vec F S1x4096x512 .f32) (xs0 : Vec F S4096x512 .bf16) :
    out0_B_2 c i arg2 harg2 arg3 harg3 arg4 harg4 arg5 harg5 hc0 hc1 x0 x1 xs0 = k0_pay4 x0 xs0 := by
  unfold out0_B_2
  rw [View.read_writes_eq_canon _ _ _ (cover0_B_2 c i arg2 harg2 arg3 harg3 arg4 harg4 arg5 harg5 hc0 hc1 x0 x1 xs0)]
  unfold kernelRun0_B
  dsimp only
  rw [View.canon_unit_zero hz]
  simp only [View.readAt_eq_ld, harg2.read_unread, harg5.read_unread, View.ld_unit_zero (S := S1664x4096) hz, View.ld_unit_zero (S := S4096x512) hz]

theorem sout_A (c : Dev nD) (i : grid0.Coords) (arg2 : Memref sig .tc .vmem S1664x4096 .bf16) (harg2 : arg2.IsWhole)
    (arg3 : Memref sig .tc .vmem S1x4096x512 .f32) (harg3 : arg3.IsWhole) (arg4 : Memref sig .tc .vmem S1664x512 .f32) (harg4 : arg4.IsWhole)
    (arg5 : Memref sig .tc .vmem S4096x512 .bf16) (harg5 : arg5.IsWhole)
    (hc0 : cond0_0 i) (hc1 : ¬cond0_1 i) (x0 : Vec F S1664x4096 .bf16) (x1 : Vec F S1x4096x512 .f32) :
    sout0_A_0 c i arg2 harg2 arg3 harg3 arg4 harg4 arg5 harg5 hc0 hc1 x0 x1 = castW x1 := by
  have hcov := scover0_A_0 c i arg2 harg2 arg3 harg3 arg4 harg4 arg5 harg5 hc0 hc1 x0 x1
  funext y
  have hy := hcov y
  unfold sout0_A_0
  rw [View.read_writes_eq_canon _ _ _ hcov]
  revert hy
  unfold kernelRun0_A
  dsimp only
  sl_unfold_words
  simp only [View.readAt_eq_ld, harg2.read_unread, harg3.read_unread]
  intro hy
  refine View.canon_apply_of_pieces (castW x1) _ (fun p hp => ?_) y hy
  simp only [List.mem_cons, List.mem_nil_iff, or_false] at hp
  rcases hp with rfl | rfl | rfl | rfl | rfl | rfl | rfl | rfl
  · exact fun x => chunk_apply 3584 _ inb_S4096x512_S512x512_3584_0 x1 x
  · exact fun x => chunk_apply 3072 _ inb_S4096x512_S512x512_3072_0 x1 x
  · exact fun x => chunk_apply 2560 _ inb_S4096x512_S512x512_2560_0 x1 x
  · exact fun x => chunk_apply 2048 _ inb_S4096x512_S512x512_2048_0 x1 x
  · exact fun x => chunk_apply 1536 _ inb_S4096x512_S512x512_1536_0 x1 x
  · exact fun x => chunk_apply 1024 _ inb_S4096x512_S512x512_1024_0 x1 x
  · exact fun x => chunk_apply 512 _ inb_S4096x512_S512x512_512_0 x1 x
  · exact fun x => chunk_apply 0 _ inb_S4096x512_S512x512_0_0 x1 x

/-! ## Over the extended reals -/

/-- One chunk's product. -/
def mm (A : FVec Ideal S1664x512 .bf16) (B : FVec Ideal S512x512 .bf16) : FVec Ideal S1664x512 .f32 :=
  matmul (φ₁ := .bf16) (φ₂ := .bf16) dot_S1664x512_S512x512_S1664x512_1_0_0_1_n_n none A B (constant S1664x512 .f32 0x00000000#32)

theorem mm_at (A : FVec Ideal S1664x512 .bf16) (B : FVec Ideal S512x512 .bf16) (a : Fin 1664) (b : Fin 512) :
    (mm A B (ix2 a b) : EReal) = ∑ k : Fin 512, (A (ix2 a k) : EReal) * (B (ix2 k b) : EReal) := by
  pointwise [mm]

theorem chunk_mm (s : Fin 8) (o : ℕ) (ho : o = s.val * 512) (inbX : ∀ a, (![0, o] : Fin 2 → ℕ) a + S1664x512.size a ≤ S1664x4096.size a)
    (inbS : ∀ a, (![o, 0] : Fin 2 → ℕ) a + S512x512.size a ≤ S4096x512.size a)
    (X : Vec Ideal S1664x4096 .bf16) (C : Vec Ideal S4096x512 .bf16) (B : Vec Ideal S512x512 .bf16)
    (hB : ∀ x, B x = C ((Rect.unit (s := S4096x512) ![o, 0] S512x512.size inbS).emb x)) (a : Fin 1664) (b : Fin 512) :
    (mm (View.ld (Val := Elt Ideal) X (Rect.unit (s := S1664x4096) ![0, o] S1664x512.size inbX)) B (ix2 a b) : EReal)
      = part (fun k => X (ix2 a k)) (fun k => C (ix2 k b)) s := by
  subst ho
  rw [mm_at]
  unfold part
  refine Finset.sum_congr rfl fun k _ => ?_
  rw [hB]
  refine congrArg₂ (fun p q : EReal => p * q) ?_ ?_
  · show X _ = X _
    refine congrArg X ?_
    funext i; apply Fin.ext
    fin_cases i
    · show 0 + 1 * a.val = a.val; omega
    · show s.val * 512 + 1 * k.val = s.val * 512 + k.val; omega
  · refine congrArg C ?_
    funext i; apply Fin.ext
    fin_cases i
    · show s.val * 512 + 1 * k.val = s.val * 512 + k.val; omega
    · show 0 + 1 * b.val = b.val; omega

variable (X : Vec Ideal S1664x4096 .bf16) (W : Vec Ideal S1x4096x512 .f32)

theorem outF_eq : outF X W
    = addf (addf (addf (addf (addf (addf (addf (mm (x0 X) (w0 W)) (mm (x1 X) (w1 W))) (mm (x2 X) (w2 W))) (mm (x3 X) (w3 W))) (mm (x4 X) (w4 W)))
      (mm (x5 X) (w5 W))) (mm (x6 X) (w6 W))) (mm (x7 X) (w7 W)) := by
  unfold outF k0_pay3 k0_pay11 k0_pay7 mm
  rfl

theorem outF_at (a : Fin 1664) (b : Fin 512) :
    (outF X W (ix2 a b) : EReal) = dotE (fun k => X (ix2 a k)) (fun k => W (ix3 0 k b)) := by
  rw [outF_eq]
  refine Eq.trans ?_ (dotE_parts (fun k => X (ix2 a k)) (fun k => castW W (ix2 k b)))
  rw [← chunk_mm 0 0 rfl inb_S1664x4096_S1664x512_0_0 inb_S4096x512_S512x512_0_0 X (castW W) (w0 W) (fun x => chunk_apply 0 _ _ W x) a b,
    ← chunk_mm 1 512 rfl inb_S1664x4096_S1664x512_0_512 inb_S4096x512_S512x512_512_0 X (castW W) (w1 W) (fun x => chunk_apply 512 _ _ W x) a b,
    ← chunk_mm 2 1024 rfl inb_S1664x4096_S1664x512_0_1024 inb_S4096x512_S512x512_1024_0 X (castW W) (w2 W) (fun x => chunk_apply 1024 _ _ W x) a b,
    ← chunk_mm 3 1536 rfl inb_S1664x4096_S1664x512_0_1536 inb_S4096x512_S512x512_1536_0 X (castW W) (w3 W) (fun x => chunk_apply 1536 _ _ W x) a b,
    ← chunk_mm 4 2048 rfl inb_S1664x4096_S1664x512_0_2048 inb_S4096x512_S512x512_2048_0 X (castW W) (w4 W) (fun x => chunk_apply 2048 _ _ W x) a b,
    ← chunk_mm 5 2560 rfl inb_S1664x4096_S1664x512_0_2560 inb_S4096x512_S512x512_2560_0 X (castW W) (w5 W) (fun x => chunk_apply 2560 _ _ W x) a b,
    ← chunk_mm 6 3072 rfl inb_S1664x4096_S1664x512_0_3072 inb_S4096x512_S512x512_3072_0 X (castW W) (w6 W) (fun x => chunk_apply 3072 _ _ W x) a b,
    ← chunk_mm 7 3584 rfl inb_S1664x4096_S1664x512_0_3584 inb_S4096x512_S512x512_3584_0 X (castW W) (w7 W) (fun x => chunk_apply 3584 _ _ W x) a b]
  rfl

theorem pay4_at (a : Fin 1664) (b : Fin 512) :
    (k0_pay4 X (castW W) (ix2 a b) : EReal) = dotE (fun k => X (ix2 a k)) (fun k => W (ix3 0 k b)) := by
  unfold dotE
  pointwise [k0_pay4, castW]

end Cert.Kernel7Ideal.Xbc

end
-- ==== Proof.InXbcAlgebra.lean ====
module

public import proofs.«01_k».proof.Defs
public import proofs.«01_k».proof.Proof.InXbcVal
public import proofs.«01_k».proof.Proof.Gen.Kernel7.Frame
public import proofs.«01_k».proof.Proof.Gen.Reference7Ideal.Run
public import Idealize.ShloMosaic.Lib.Pipeline.ValueKit.Geometry

/-! The scan's projection: the run and the reference's, with one and the same result. -/

@[expose] public section

set_option maxRecDepth 16384

noncomputable section

namespace Cert.Kernel7Ideal.Xbc

open Cert.Kernel7Ideal Cert.Kernel7Ideal.Gen
open Idealize.ShloMosaic Idealize.ShloMosaic.TcCoe Idealize.ShloMosaic.Tactic Idealize.SL.Sem
open Cert.Kernel2Ideal.Up (dotE)

/-! ## Which blocks a point sees -/

theorem idxIn : ∀ t : Fin grid0.N, cc0_transform_0 (grid0.coords t) = ![t.val % 5, 0] := by decide +kernel
theorem idxWt : ∀ t : Fin grid0.N, cc0_transform_1 (grid0.coords t) = ![0, 0, t.val / 5 + 40] := by decide +kernel
theorem idxOut : ∀ t : Fin grid0.N, cc0_transform_2 (grid0.coords t) = ![t.val % 5, t.val / 5] := by decide +kernel
theorem flushOut : ∀ t : Fin grid0.N, Pipeline.Window.flushOf grid0 true cc0_transform_2 t = true := by decide +kernel

theorem idx0 (t : Fin cfg0.N) : (cfg0.win 0).index t = ![t.val % 5, 0] := idxIn t
theorem idx1 (t : Fin cfg0.N) : (cfg0.win 1).index t = ![0, 0, t.val / 5 + 40] := idxWt t
theorem idx2 (t : Fin cfg0.N) : (cfg0.win 2).index t = ![t.val % 5, t.val / 5] := idxOut t
theorem flush2 (t : Fin cfg0.N) : (cfg0.win 2).flush t = true := flushOut t

variable {F : FTy → Type} [FloatOps F] (m : (ℓ : Loc nD τ sig) → Buf (Elt F) ℓ)

theorem blk0_apply (c : Dev nD) (t : Fin cfg0.N) (a : Fin 1664) (k : Fin 4096) :
    (iblk m c 0 t : Vec F S1664x4096 .bf16) (ix2 a k)
      = V m c main_arg0 (ix2 (n0 := 8320) (n1 := 4096) ⟨t.val % 5 * 1664 + a.val, by have := a.isLt; omega⟩ k) := by
  show V m c main_arg0 _ = V m c main_arg0 _
  blk_ext [iblk, idx0 t]

theorem blk1_apply (c : Dev nD) (t : Fin cfg0.N) (k : Fin 4096) (b : Fin 512) :
    (X0_1 m c t : Vec F S1x4096x512 .f32) (ix3 0 k b)
      = V m c main_arg1 (ix3 (n0 := 2) (n1 := 4096) (n2 := 39040) 0 k
          ⟨(t.val / 5 + 40) * 512 + b.val, by have := b.isLt; have : t.val < 100 := t.isLt; omega⟩) := by
  unfold X0_1 Pipeline.Window.fill
  rw [dif_pos (moved0_1 t _)]
  show V m c main_arg1 _ = V m c main_arg1 _
  blk_ext [iblk, idx1 t]

/-! ## What the scratch buffer holds between points: the cast weights of the column block -/

theorem weights_keep (c : Dev nD) (t u : Fin cfg0.N) (h : t.val / 5 = u.val / 5) :
    castW (X0_1 m c t) = castW (X0_1 m c u) := by
  funext y; unfold castW; refine congrArg _ ?_
  refine (blk1_apply m c t (y 0) (y 1)).trans (Eq.trans ?_ (blk1_apply m c u (y 0) (y 1)).symm)
  refine congrArg (V m c main_arg1) ?_
  funext k; apply Fin.ext; fin_cases k
  · rfl
  · rfl
  · exact congrArg (fun z => (z + 40) * 512 + (y 1).val) h

theorem scratch_A (c : Dev nD) (t : Fin cfg0.N) (h : t.val % 5 = 0) : (outsAt0 m c t.val t.isLt).2 = castW (X0_1 m c t) := by
  rw [outsAt0_A m c t h (by omega)]
  dsimp only
  rw [sout_A]

theorem scratch_B (c : Dev nD) (t : Fin cfg0.N) (h : ¬t.val % 5 = 0) :
    (outsAt0 m c t.val t.isLt).2 = (outsAt0 m c (t.val - 1) (Nat.lt_of_le_of_lt (Nat.sub_le _ _) t.isLt)).2 := by
  rw [outsAt0_B m c t h (by omega)]
  dsimp only
  unfold sout0_B_0
  rfl

theorem scratch_eq (c : Dev nD) : ∀ (n : ℕ) (t : Fin cfg0.N), t.val = n → (outsAt0 m c t.val t.isLt).2 = castW (X0_1 m c t) := by
  intro n
  induction n with
  | zero => exact fun t ht => scratch_A m c t (by omega)
  | succ n ih =>
    intro t ht
    by_cases h : t.val % 5 = 0
    · exact scratch_A m c t h
    · have e := ih ⟨t.val - 1, Nat.lt_of_le_of_lt (Nat.sub_le _ _) t.isLt⟩ (show t.val - 1 = n by omega)
      exact (scratch_B m c t h).trans (e.trans (weights_keep m c _ t (show (t.val - 1) / 5 = t.val / 5 by omega)))

/-! ## The result -/

/-- What a point leaves of the result, entry by entry. -/
theorem out_at (m : (ℓ : Loc nD τ sig) → Buf (Elt Ideal) ℓ) (c : Dev nD) (t : Fin cfg0.N) (a : Fin 1664) (b : Fin 512) :
    ((outsAt0 m c t.val t.isLt).1 (ix2 a b) : EReal)
      = dotE (fun k => (iblk m c 0 t : Vec Ideal S1664x4096 .bf16) (ix2 a k)) (fun k => (X0_1 m c t : Vec Ideal S1x4096x512 .f32) (ix3 0 k b)) := by
  by_cases h : t.val % 5 = 0
  · rw [outsAt0_A m c t h (by omega)]
    dsimp only
    rw [out_A]
    exact outF_at _ _ a b
  · rw [outsAt0_B m c t h (by omega)]
    dsimp only
    rw [out_B, ← scratch_B m c t h, scratch_eq m c t.val t rfl]
    exact pay4_at _ _ a b

/-- The result, entry by entry: a row of the operand against a column of the layer's weights. -/
def res (x : FVec Ideal S8320x4096 .bf16) (w : FVec Ideal S2x4096x39040 .f32) : FVec Ideal S8320x10240 .f32 := fun i =>
  (dotE (fun k => x (ix2 (i 0) k)) (fun k => w (ix3 0 k ⟨20480 + (i 1).val, lt_of_lt_of_le (Nat.add_lt_add_left (i 1).isLt 20480) (by decide)⟩)) : EReal)

theorem covers2 : (cfg0.win 2).Covers := by
  refine ⟨(by decide : ∀ a : Fin 2, 0 < S1664x512.size a), fun β => ?_⟩
  have h0 : (β (0 : Fin 2)).val < 5 := lt_of_lt_of_eq (β (0 : Fin 2)).isLt (show (S8320x10240.size 0 + S1664x512.size 0 - 1) / S1664x512.size 0 = 5 by decide)
  have h1 : (β (1 : Fin 2)).val < 20 := lt_of_lt_of_eq (β (1 : Fin 2)).isLt (show (S8320x10240.size 1 + S1664x512.size 1 - 1) / S1664x512.size 1 = 20 by decide)
  refine ⟨⟨5 * (β (1 : Fin 2)).val + (β (0 : Fin 2)).val, lt_of_lt_of_eq (by omega : _ < 100) N_0.symm⟩, flush2 _, fun a => ⟨?_, Or.inl rfl⟩⟩
  rw [idx2]
  match a with
  | ⟨0, _⟩ => show (5 * (β (1 : Fin 2)).val + (β (0 : Fin 2)).val) % 5 = (β (0 : Fin 2)).val; omega
  | ⟨1, _⟩ => show (5 * (β (1 : Fin 2)).val + (β (0 : Fin 2)).val) / 5 = (β (1 : Fin 2)).val; omega

theorem entry_at (m : (ℓ : Loc nD τ sig) → Buf (Elt Ideal) ℓ) (c : Dev nD) (t : Fin cfg0.N) (a : Fin 1664) (b : Fin 512)
    (r : Fin 8320) (j : Fin 10240) (hr : r.val = t.val % 5 * 1664 + a.val) (hj : j.val = t.val / 5 * 512 + b.val) :
    ((outsAt0 m c t.val t.isLt).1 (ix2 a b) : EReal) = res (V m c main_arg0) (V m c main_arg1) (ix2 r j) := by
  refine (out_at m c t a b).trans ?_
  unfold res
  refine congrArg₂ dotE (funext fun k => ?_) (funext fun k => ?_)
  · refine (blk0_apply m c t a k).trans (congrArg (fun z => V m c main_arg0 (ix2 (n0 := 8320) (n1 := 4096) z k)) (Fin.ext ?_))
    exact hr.symm
  · refine (blk1_apply m c t k b).trans (congrArg (fun z => V m c main_arg1 (ix3 (n0 := 2) (n1 := 4096) (n2 := 39040) 0 k z)) (Fin.ext ?_))
    show (t.val / 5 + 40) * 512 + b.val = 20480 + j.val
    omega

/-- The result's array after the whole run. -/
theorem arr_out (m : (ℓ : Loc nD τ sig) → Buf (Elt Ideal) ℓ) (c : Dev nD) :
    (dats m 0 c).arrAt 2 cfg0.N = res (V m c main_arg0) (V m c main_arg1) := by
  refine Pipeline.Dat.arrAt_eq_of_covers (dats m 0 c) 2 _ covers2 (fun t _ y => ?_)
  obtain ⟨a, b, hy⟩ : ∃ a b, (cfg0.win 2).xinj (cfg0.grid.coords t) y = ix2 a b := ⟨_, _, eq_ix2 (n0 := 1664) (n1 := 512) _⟩
  have h0 : (y (0 : Fin 2)).val = a.val := congrArg (fun x : S1664x512.Idx => (x 0).val) hy
  have h1 : (y (1 : Fin 2)).val = b.val := congrArg (fun x : S1664x512.Idx => (x 1).val) hy
  refine (congrFun (after0_2 m c t) _).trans ?_
  rw [hy]
  obtain ⟨r, j, hz⟩ : ∃ r j, ((cfg0.win 2).blk t).view.emb y = ix2 r j := ⟨_, _, eq_ix2 (n0 := 8320) (n1 := 10240) _⟩
  have g0 : r.val = t.val % 5 * 1664 + a.val := by
    rw [← h0, ← show (((cfg0.win 2).blk t).view.emb y (0 : Fin 2)).val = r.val from congrArg (fun x : S8320x10240.Idx => (x 0).val) hz]
    blk_simp [idx2 t]
  have g1 : j.val = t.val / 5 * 512 + b.val := by
    rw [← h1, ← show (((cfg0.win 2).blk t).view.emb y (1 : Fin 2)).val = j.val from congrArg (fun x : S8320x10240.Idx => (x 1).val) hz]
    blk_simp [idx2 t]
  refine (entry_at m c t a b r j g0 g1).trans ?_
  exact (congrArg (res (V m c main_arg0) (V m c main_arg1)) hz).symm

/-! ## The reference -/

theorem ref_eq (x : FVec Ideal S8320x4096 .bf16) (w : FVec Ideal S2x4096x39040 .f32) : Host.dotGeneral (φ₁ := .f32) (φ₂ := .f32) Cert.Reference7Ideal.dot_S8320x4096_S4096x10240_S8320x10240_1_0_0_1_n_n none (extf .f32 x Cert.Reference7Ideal.Gen.bitsLt_bf16_f32)
    (extractStridedSlice Cert.Reference7Ideal.S4096x10240 ![0, 20480] (shapeCast _ (extractStridedSlice Cert.Reference7Ideal.S1x4096x39040 ![0, 0, 0] w Cert.Reference7Ideal.Gen.slices_S2x4096x39040_S1x4096x39040_0_0_0)
      Cert.Reference7Ideal.Gen.shapeCasts_S1x4096x39040_S4096x39040) Cert.Reference7Ideal.Gen.slices_S4096x39040_S4096x10240_0_20480) = res x w := by
  funext i
  obtain ⟨r, j, rfl⟩ : ∃ r j, i = ix2 r j := ⟨_, _, eq_ix2 (n0 := 8320) (n1 := 10240) i⟩
  unfold res dotE
  pointwise []

/-! ## The claims -/

theorem frame_kernel7 : Cert.quiescent_Kernel7 := fun m ρ _ => Cert.Kernel7.Gen.frame m ρ

theorem frame_ideal7 : Cert.quiescent_Kernel7Ideal := fun m ρ _ => Cert.Kernel7Ideal.Gen.frame m ρ

theorem frame_reference7 : Cert.quiescent_Reference7Ideal := fun m ρ _ =>
  (θ_run Cert.Reference7Ideal.defs _ _).mono
    (fun r h => ⟨fun c => (h c).2, sem_eq_zero_of_no_sems (by decide) r.2⟩)
    (Cert.Reference7Ideal.Value.run (F := Ideal) m ρ)

theorem algebraic7 : Cert.algebraic_Kernel7Ideal_Reference7Ideal := by
  intro m g m' g' hp hm
  refine ⟨fun c => res (m ((c : Thread nD τ).loc main_arg0)) (m ((c : Thread nD τ).loc main_arg1)), ?_, ?_⟩
  · refine (θ_run defs _ _).mono (fun r hr c => ⟨(hr c).1.trans ((arr_out m c).trans ?_), (hr c).2⟩) (Cert.Kernel7Ideal.Value.run_blocks (F := Ideal) m g)
    rw [V_main_arg0, V_main_arg1]
  · refine (θ_run Cert.Reference7Ideal.defs _ _).mono (fun r hr c => ⟨(hr c).1.trans ?_, (hr c).2⟩) (Cert.Reference7Ideal.Value.run (F := Ideal) m' g')
    obtain ⟨e0, e1⟩ := hm c
    rw [e0, e1]
    exact ref_eq _ _

end Cert.Kernel7Ideal.Xbc

end
-- ==== Proof.InGatesVal.lean ====
module

public import proofs.«01_k».proof.Proof.Gen.Kernel8Ideal.Value
public import proofs.«01_k».proof.Proof.UpVal
public import Idealize.ShloMosaic.Lib.Pipeline.Value
public import Idealize.ShloMosaic.Lib.Pipeline.ValueKit
public import Idealize.ShloMosaic.Lib.ValueLayout
public import Idealize.ShloMosaic.Lib.Pointwise
public import Idealize.ShloMosaic.Lib.Tactic

/-! The gates' projection: what a run of the body leaves, entry by entry. -/

@[expose] public section

set_option maxRecDepth 16384

noncomputable section

namespace Cert.Kernel8Ideal.Gates

open Cert.Kernel8Ideal Cert.Kernel8Ideal.Gen
open Idealize.ShloMosaic Idealize.ShloMosaic.TcCoe
open Cert.Kernel2Ideal.Up (part dotE dotE_parts)

variable {F : FTy → Type} [FloatOps F]

theorem hz : (![0, 0] : Fin 2 → Nat) = fun _ => 0 := funext fun a => by fin_cases a <;> rfl

/-- A block of weights at the narrower type, as a matrix. -/
def castW (X : Vec F S1x4096x512 .f32) : Vec F S4096x512 .bf16 :=
  fun y => FloatOps.truncf .bf16 bitsLt_bf16_f32 (X (ix3 (n0 := 1) (n1 := 4096) (n2 := 512) 0 (y 0) (y 1)))

/-- A chunk of 512 rows, cast, is those rows of the cast block. -/
theorem chunk_apply (o : ℕ) (inb : ∀ a, (![0, o, 0] : Fin 3 → ℕ) a + S1x512x512.size a ≤ S1x4096x512.size a)
    (inb' : ∀ a, (![o, 0] : Fin 2 → ℕ) a + S512x512.size a ≤ S4096x512.size a) (X : Vec F S1x4096x512 .f32) (x : S512x512.Idx) :
    shapeCast S512x512 (truncf (F := F) .bf16 (shapeCast S512x512
        (View.ld (Val := Elt F) X (Rect.unit (s := S1x4096x512) ![0, o, 0] S1x512x512.size inb)) shapeCasts_S1x512x512_S512x512) bitsLt_bf16_f32)
      shapeCasts_S512x512_S512x512 x
      = castW X ((Rect.unit (s := S4096x512) ![o, 0] S512x512.size inb').emb x) := by
  rw [shapeCast_self]
  obtain ⟨a, b, rfl⟩ : ∃ a b, x = ix2 a b := ⟨_, _, eq_ix2 (n0 := 512) (n1 := 512) x⟩
  show FloatOps.truncf .bf16 bitsLt_bf16_f32 (shapeCast (α := F .f32) S512x512 _ shapeCasts_S1x512x512_S512x512 (ix2 a b)) = _
  have e := shapeCast_apply (View.ld (Val := Elt F) X (Rect.unit (s := S1x4096x512) ![0, o, 0] S1x512x512.size inb))
    shapeCasts_S1x512x512_S512x512 (ix2 a b) (ix3 (n0 := 1) (n1 := 512) (n2 := 512) 0 a b) (by
      rw [Shape.rowMajor_val_three, Shape.rowMajor_val_two]
      show (0 * 512 + a.val) * 512 + b.val = a.val * 512 + b.val
      omega)
  refine (congrArg _ e).trans ?_
  unfold castW
  refine congrArg (fun z => FloatOps.truncf .bf16 bitsLt_bf16_f32 (X z)) ?_
  funext k
  apply Fin.ext
  fin_cases k
  · rfl
  · rfl
  · rfl

/-! ## The chunks of weights, cast, and of rows -/

def w0 (X : Vec F S1x4096x512 .f32) : FVec F S512x512 .bf16 := k0_pay5 (View.ld X (Rect.unit (s := S1x4096x512) ![0, 0, 0] S1x512x512.size inb_S1x4096x512_S1x512x512_0_0_0))
def x0 (X : Vec F S1664x4096 .bf16) : Vec F S1664x512 .bf16 := View.ld X (Rect.unit (s := S1664x4096) ![0, 0] S1664x512.size inb_S1664x4096_S1664x512_0_0)
def w1 (X : Vec F S1x4096x512 .f32) : FVec F S512x512 .bf16 := k0_pay6 (View.ld X (Rect.unit (s := S1x4096x512) ![0, 512, 0] S1x512x512.size inb_S1x4096x512_S1x512x512_0_512_0))
def x1 (X : Vec F S1664x4096 .bf16) : Vec F S1664x512 .bf16 := View.ld X (Rect.unit (s := S1664x4096) ![0, 512] S1664x512.size inb_S1664x4096_S1664x512_0_512)
def w2 (X : Vec F S1x4096x512 .f32) : FVec F S512x512 .bf16 := k0_pay8 (View.ld X (Rect.unit (s := S1x4096x512) ![0, 1024, 0] S1x512x512.size inb_S1x4096x512_S1x512x512_0_1024_0))
def x2 (X : Vec F S1664x4096 .bf16) : Vec F S1664x512 .bf16 := View.ld X (Rect.unit (s := S1664x4096) ![0, 1024] S1664x512.size inb_S1664x4096_S1664x512_0_1024)
def w3 (X : Vec F S1x4096x512 .f32) : FVec F S512x512 .bf16 := k0_pay9 (View.ld X (Rect.unit (s := S1x4096x512) ![0, 1536, 0] S1x512x512.size inb_S1x4096x512_S1x512x512_0_1536_0))
def x3 (X : Vec F S1664x4096 .bf16) : Vec F S1664x512 .bf16 := View.ld X (Rect.unit (s := S1664x4096) ![0, 1536] S1664x512.size inb_S1664x4096_S1664x512_0_1536)
def w4 (X : Vec F S1x4096x512 .f32) : FVec F S512x512 .bf16 := k0_pay10 (View.ld X (Rect.unit (s := S1x4096x512) ![0, 2048, 0] S1x512x512.size inb_S1x4096x512_S1x512x512_0_2048_0))
def x4 (X : Vec F S1664x4096 .bf16) : Vec F S1664x512 .bf16 := View.ld X (Rect.unit (s := S1664x4096) ![0, 2048] S1664x512.size inb_S1664x4096_S1664x512_0_2048)
def w5 (X : Vec F S1x4096x512 .f32) : FVec F S512x512 .bf16 := k0_pay12 (View.ld X (Rect.unit (s := S1x4096x512) ![0, 2560, 0] S1x512x512.size inb_S1x4096x512_S1x512x512_0_2560_0))
def x5 (X : Vec F S1664x4096 .bf16) : Vec F S1664x512 .bf16 := View.ld X (Rect.unit (s := S1664x4096) ![0, 2560] S1664x512.size inb_S1664x4096_S1664x512_0_2560)
def w6 (X : Vec F S1x4096x512 .f32) : FVec F S512x512 .bf16 := k0_pay1 (View.ld X (Rect.unit (s := S1x4096x512) ![0, 3072, 0] S1x512x512.size inb_S1x4096x512_S1x512x512_0_3072_0))
def x6 (X : Vec F S1664x4096 .bf16) : Vec F S1664x512 .bf16 := View.ld X (Rect.unit (s := S1664x4096) ![0, 3072] S1664x512.size inb_S1664x4096_S1664x512_0_3072)
def w7 (X : Vec F S1x4096x512 .f32) : FVec F S512x512 .bf16 := k0_pay2 (View.ld X (Rect.unit (s := S1x4096x512) ![0, 3584, 0] S1x512x512.size inb_S1x4096x512_S1x512x512_0_3584_0))
def x7 (X : Vec F S1664x4096 .bf16) : Vec F S1664x512 .bf16 := View.ld X (Rect.unit (s := S1664x4096) ![0, 3584] S1664x512.size inb_S1664x4096_S1664x512_0_3584)

/-- What the body stores where it casts the weights. -/
def outF (X : Vec F S1664x4096 .bf16) (W : Vec F S1x4096x512 .f32) : FVec F S1664x512 .f32 :=
  k0_pay3 (k0_pay11 (k0_pay7 (x0 X) (w0 W) (x1 X) (w1 W)) (x2 X) (w2 W) (constant S1664x512 .f32 0x00000000#32) (x3 X) (w3 W) (x4 X) (w4 W))
    (x5 X) (w5 W) (x6 X) (w6 W) (x7 X) (w7 W)

theorem out_A (c : Dev nD) (i : grid0.Coords) (arg2 : Memref sig .tc .vmem S1664x4096 .bf16) (harg2 : arg2.IsWhole)
    (arg3 : Memref sig .tc .vmem S1x4096x512 .f32) (harg3 : arg3.IsWhole) (arg4 : Memref sig .tc .vmem S1664x512 .f32) (harg4 : arg4.IsWhole)
    (arg5 : Memref sig .tc .vmem S4096x512 .bf16) (harg5 : arg5.IsWhole)
    (hc0 : cond0_0 i) (hc1 : ¬cond0_1 i) (x0 : Vec F S1664x4096 .bf16) (x1 : Vec F S1x4096x512 .f32) :
    out0_A_2 c i arg2 harg2 arg3 harg3 arg4 harg4 arg5 harg5 hc0 hc1 x0 x1 = outF x0 x1 := by
  unfold out0_A_2
  rw [View.read_writes_eq_canon _ _ _ (cover0_A_2 c i arg2 harg2 arg3 harg3 arg4 harg4 arg5 harg5 hc0 hc1 x0 x1)]
  unfold kernelRun0_A
  dsimp only
  rw [View.canon_unit_zero hz]
  sl_unfold_words
  simp only [View.readAt_eq_ld, harg2.read_unread, harg3.read_unread, View.readCov_cons_toLoadRect]
  rfl

theorem out_B (c : Dev nD) (i : grid0.Coords) (arg2 : Memref sig .tc .vmem S1664x4096 .bf16) (harg2 : arg2.IsWhole)
    (arg3 : Memref sig .tc .vmem S1x4096x512 .f32) (harg3 : arg3.IsWhole) (arg4 : Memref sig .tc .vmem S1664x512 .f32) (harg4 : arg4.IsWhole)
    (arg5 : Memref sig .tc .vmem S4096x512 .bf16) (harg5 : arg5.IsWhole)
    (hc0 : ¬cond0_0 i) (hc1 : cond0_1 i) (x0 : Vec F S1664x4096 .bf16) (x1 : Vec F S1x4096x512 .f32) (xs0 : Vec F S4096x512 .bf16) :
    out0_B_2 c i arg2 harg2 arg3 harg3 arg4 harg4 arg5 harg5 hc0 hc1 x0 x1 xs0 = k0_pay4 x0 xs0 := by
  unfold out0_B_2
  rw [View.read_writes_eq_canon _ _ _ (cover0_B_2 c i arg2 harg2 arg3 harg3 arg4 harg4 arg5 harg5 hc0 hc1 x0 x1 xs0)]
  unfold kernelRun0_B
  dsimp only
  rw [View.canon_unit_zero hz]
  simp only [View.readAt_eq_ld, harg2.read_unread, harg5.read_unread, View.ld_unit_zero (S := S1664x4096) hz, View.ld_unit_zero (S := S4096x512) hz]

theorem sout_A (c : Dev nD) (i : grid0.Coords) (arg2 : Memref sig .tc .vmem S1664x4096 .bf16) (harg2 : arg2.IsWhole)
    (arg3 : Memref sig .tc .vmem S1x4096x512 .f32) (harg3 : arg3.IsWhole) (arg4 : Memref sig .tc .vmem S1664x512 .f32) (harg4 : arg4.IsWhole)
    (arg5 : Memref sig .tc .vmem S4096x512 .bf16) (harg5 : arg5.IsWhole)
    (hc0 : cond0_0 i) (hc1 : ¬cond0_1 i) (x0 : Vec F S1664x4096 .bf16) (x1 : Vec F S1x4096x512 .f32) :
    sout0_A_0 c i arg2 harg2 arg3 harg3 arg4 harg4 arg5 harg5 hc0 hc1 x0 x1 = castW x1 := by
  have hcov := scover0_A_0 c i arg2 harg2 arg3 harg3 arg4 harg4 arg5 harg5 hc0 hc1 x0 x1
  funext y
  have hy := hcov y
  unfold sout0_A_0
  rw [View.read_writes_eq_canon _ _ _ hcov]
  revert hy
  unfold kernelRun0_A
  dsimp only
  sl_unfold_words
  simp only [View.readAt_eq_ld, harg2.read_unread, harg3.read_unread]
  intro hy
  refine View.canon_apply_of_pieces (castW x1) _ (fun p hp => ?_) y hy
  simp only [List.mem_cons, List.mem_nil_iff, or_false] at hp
  rcases hp with rfl | rfl | rfl | rfl | rfl | rfl | rfl | rfl
  · exact fun x => chunk_apply 3584 _ inb_S4096x512_S512x512_3584_0 x1 x
  · exact fun x => chunk_apply 3072 _ inb_S4096x512_S512x512_3072_0 x1 x
  · exact fun x => chunk_apply 2560 _ inb_S4096x512_S512x512_2560_0 x1 x
  · exact fun x => chunk_apply 2048 _ inb_S4096x512_S512x512_2048_0 x1 x
  · exact fun x => chunk_apply 1536 _ inb_S4096x512_S512x512_1536_0 x1 x
  · exact fun x => chunk_apply 1024 _ inb_S4096x512_S512x512_1024_0 x1 x
  · exact fun x => chunk_apply 512 _ inb_S4096x512_S512x512_512_0 x1 x
  · exact fun x => chunk_apply 0 _ inb_S4096x512_S512x512_0_0 x1 x

/-! ## Over the extended reals -/

/-- One chunk's product. -/
def mm (A : FVec Ideal S1664x512 .bf16) (B : FVec Ideal S512x512 .bf16) : FVec Ideal S1664x512 .f32 :=
  matmul (φ₁ := .bf16) (φ₂ := .bf16) dot_S1664x512_S512x512_S1664x512_1_0_0_1_n_n none A B (constant S1664x512 .f32 0x00000000#32)

theorem mm_at (A : FVec Ideal S1664x512 .bf16) (B : FVec Ideal S512x512 .bf16) (a : Fin 1664) (b : Fin 512) :
    (mm A B (ix2 a b) : EReal) = ∑ k : Fin 512, (A (ix2 a k) : EReal) * (B (ix2 k b) : EReal) := by
  pointwise [mm]

theorem chunk_mm (s : Fin 8) (o : ℕ) (ho : o = s.val * 512) (inbX : ∀ a, (![0, o] : Fin 2 → ℕ) a + S1664x512.size a ≤ S1664x4096.size a)
    (inbS : ∀ a, (![o, 0] : Fin 2 → ℕ) a + S512x512.size a ≤ S4096x512.size a)
    (X : Vec Ideal S1664x4096 .bf16) (C : Vec Ideal S4096x512 .bf16) (B : Vec Ideal S512x512 .bf16)
    (hB : ∀ x, B x = C ((Rect.unit (s := S4096x512) ![o, 0] S512x512.size inbS).emb x)) (a : Fin 1664) (b : Fin 512) :
    (mm (View.ld (Val := Elt Ideal) X (Rect.unit (s := S1664x4096) ![0, o] S1664x512.size inbX)) B (ix2 a b) : EReal)
      = part (fun k => X (ix2 a k)) (fun k => C (ix2 k b)) s := by
  subst ho
  rw [mm_at]
  unfold part
  refine Finset.sum_congr rfl fun k _ => ?_
  rw [hB]
  refine congrArg₂ (fun p q : EReal => p * q) ?_ ?_
  · show X _ = X _
    refine congrArg X ?_
    funext i; apply Fin.ext
    fin_cases i
    · show 0 + 1 * a.val = a.val; omega
    · show s.val * 512 + 1 * k.val = s.val * 512 + k.val; omega
  · refine congrArg C ?_
    funext i; apply Fin.ext
    fin_cases i
    · show s.val * 512 + 1 * k.val = s.val * 512 + k.val; omega
    · show 0 + 1 * b.val = b.val; omega

variable (X : Vec Ideal S1664x4096 .bf16) (W : Vec Ideal S1x4096x512 .f32)

theorem outF_eq : outF X W
    = logistic (addf (addf (addf (addf (addf (addf (addf (mm (x0 X) (w0 W)) (mm (x1 X) (w1 W))) (mm (x2 X) (w2 W))) (mm (x3 X) (w3 W))) (mm (x4 X) (w4 W)))
      (mm (x5 X) (w5 W))) (mm (x6 X) (w6 W))) (mm (x7 X) (w7 W))) := by
  unfold outF k0_pay3 k0_pay11 k0_pay7 mm
  rfl

theorem outF_at (a : Fin 1664) (b : Fin 512) :
    (outF X W (ix2 a b) : EReal) = Ideal.logistic (dotE (fun k => X (ix2 a k)) (fun k => W (ix3 0 k b))) := by
  rw [outF_eq]
  refine congrArg Ideal.logistic ?_
  refine Eq.trans ?_ (dotE_parts (fun k => X (ix2 a k)) (fun k => castW W (ix2 k b)))
  rw [← chunk_mm 0 0 rfl inb_S1664x4096_S1664x512_0_0 inb_S4096x512_S512x512_0_0 X (castW W) (w0 W) (fun x => chunk_apply 0 _ _ W x) a b,
    ← chunk_mm 1 512 rfl inb_S1664x4096_S1664x512_0_512 inb_S4096x512_S512x512_512_0 X (castW W) (w1 W) (fun x => chunk_apply 512 _ _ W x) a b,
    ← chunk_mm 2 1024 rfl inb_S1664x4096_S1664x512_0_1024 inb_S4096x512_S512x512_1024_0 X (castW W) (w2 W) (fun x => chunk_apply 1024 _ _ W x) a b,
    ← chunk_mm 3 1536 rfl inb_S1664x4096_S1664x512_0_1536 inb_S4096x512_S512x512_1536_0 X (castW W) (w3 W) (fun x => chunk_apply 1536 _ _ W x) a b,
    ← chunk_mm 4 2048 rfl inb_S1664x4096_S1664x512_0_2048 inb_S4096x512_S512x512_2048_0 X (castW W) (w4 W) (fun x => chunk_apply 2048 _ _ W x) a b,
    ← chunk_mm 5 2560 rfl inb_S1664x4096_S1664x512_0_2560 inb_S4096x512_S512x512_2560_0 X (castW W) (w5 W) (fun x => chunk_apply 2560 _ _ W x) a b,
    ← chunk_mm 6 3072 rfl inb_S1664x4096_S1664x512_0_3072 inb_S4096x512_S512x512_3072_0 X (castW W) (w6 W) (fun x => chunk_apply 3072 _ _ W x) a b,
    ← chunk_mm 7 3584 rfl inb_S1664x4096_S1664x512_0_3584 inb_S4096x512_S512x512_3584_0 X (castW W) (w7 W) (fun x => chunk_apply 3584 _ _ W x) a b]
  rfl

theorem pay4_at (a : Fin 1664) (b : Fin 512) :
    (k0_pay4 X (castW W) (ix2 a b) : EReal) = Ideal.logistic (dotE (fun k => X (ix2 a k)) (fun k => W (ix3 0 k b))) := by
  unfold dotE
  pointwise [k0_pay4, castW]

end Cert.Kernel8Ideal.Gates

end
-- ==== Proof.InGatesAlgebra.lean ====
module

public import proofs.«01_k».proof.Defs
public import proofs.«01_k».proof.Proof.InGatesVal
public import proofs.«01_k».proof.Proof.Gen.Kernel8.Frame
public import proofs.«01_k».proof.Proof.Gen.Reference8Ideal.Run
public import Idealize.ShloMosaic.Lib.Pipeline.ValueKit.Geometry

/-! The gates' projection: the run and the reference's, with one and the same result. -/

@[expose] public section

set_option maxRecDepth 16384

noncomputable section

namespace Cert.Kernel8Ideal.Gates

open Cert.Kernel8Ideal Cert.Kernel8Ideal.Gen
open Idealize.ShloMosaic Idealize.ShloMosaic.TcCoe Idealize.ShloMosaic.Tactic Idealize.SL.Sem
open Cert.Kernel2Ideal.Up (dotE)

/-! ## Which blocks a point sees -/

theorem idxIn : ∀ t : Fin grid0.N, cc0_transform_0 (grid0.coords t) = ![t.val % 5, 0] := by decide +kernel
theorem idxWt : ∀ t : Fin grid0.N, cc0_transform_1 (grid0.coords t) = ![0, 0, t.val / 5 * 512 + 30848] := by decide +kernel
theorem idxOut : ∀ t : Fin grid0.N, cc0_transform_2 (grid0.coords t) = ![t.val % 5, t.val / 5] := by decide +kernel
theorem flushOut : ∀ t : Fin grid0.N, Pipeline.Window.flushOf grid0 true cc0_transform_2 t = true := by decide +kernel

theorem idx0 (t : Fin cfg0.N) : (cfg0.win 0).index t = ![t.val % 5, 0] := idxIn t
theorem idx1 (t : Fin cfg0.N) : (cfg0.win 1).index t = ![0, 0, t.val / 5 * 512 + 30848] := idxWt t
theorem idx2 (t : Fin cfg0.N) : (cfg0.win 2).index t = ![t.val % 5, t.val / 5] := idxOut t
theorem flush2 (t : Fin cfg0.N) : (cfg0.win 2).flush t = true := flushOut t

variable {F : FTy → Type} [FloatOps F] (m : (ℓ : Loc nD τ sig) → Buf (Elt F) ℓ)

theorem blk0_apply (c : Dev nD) (t : Fin cfg0.N) (a : Fin 1664) (k : Fin 4096) :
    (iblk m c 0 t : Vec F S1664x4096 .bf16) (ix2 a k)
      = V m c main_arg0 (ix2 (n0 := 8320) (n1 := 4096) ⟨t.val % 5 * 1664 + a.val, by have := a.isLt; omega⟩ k) := by
  show V m c main_arg0 _ = V m c main_arg0 _
  blk_ext [iblk, idx0 t]

theorem blk1_apply (c : Dev nD) (t : Fin cfg0.N) (k : Fin 4096) (b : Fin 512) :
    (iblk m c 1 t : Vec F S1x4096x512 .f32) (ix3 0 k b)
      = V m c main_arg1 (ix3 (n0 := 2) (n1 := 4096) (n2 := 39040) 0 k
          ⟨t.val / 5 * 512 + 30848 + b.val, by have := b.isLt; have : t.val < 80 := t.isLt; omega⟩) := by
  show V m c main_arg1 _ = V m c main_arg1 _
  refine congrArg (V m c main_arg1) ?_
  funext i
  apply Fin.ext
  fin_cases i
  · show cc0_transform_1 (grid0.coords t) 0 + 1 * 0 = 0
    rw [idxWt t]; rfl
  · show cc0_transform_1 (grid0.coords t) 1 + 1 * k.val = k.val
    rw [idxWt t]
    show 0 + 1 * k.val = k.val
    omega
  · show cc0_transform_1 (grid0.coords t) 2 + 1 * b.val = t.val / 5 * 512 + 30848 + b.val
    rw [idxWt t]
    show t.val / 5 * 512 + 30848 + 1 * b.val = t.val / 5 * 512 + 30848 + b.val
    omega

/-! ## What the scratch buffer holds between points: the cast weights of the column block -/

theorem weights_keep (c : Dev nD) (t u : Fin cfg0.N) (h : t.val / 5 = u.val / 5) :
    castW (iblk m c 1 t) = castW (iblk m c 1 u) := by
  funext y; unfold castW; refine congrArg _ ?_
  refine (blk1_apply m c t (y 0) (y 1)).trans (Eq.trans ?_ (blk1_apply m c u (y 0) (y 1)).symm)
  refine congrArg (V m c main_arg1) ?_
  funext k; apply Fin.ext; fin_cases k
  · rfl
  · rfl
  · exact congrArg (fun z => z * 512 + 30848 + (y 1).val) h

theorem scratch_A (c : Dev nD) (t : Fin cfg0.N) (h : t.val % 5 = 0) : (outsAt0 m c t.val t.isLt).2 = castW (iblk m c 1 t) := by
  rw [outsAt0_A m c t h (by omega)]
  dsimp only
  rw [sout_A]

theorem scratch_B (c : Dev nD) (t : Fin cfg0.N) (h : ¬t.val % 5 = 0) :
    (outsAt0 m c t.val t.isLt).2 = (outsAt0 m c (t.val - 1) (Nat.lt_of_le_of_lt (Nat.sub_le _ _) t.isLt)).2 := by
  rw [outsAt0_B m c t h (by omega)]
  dsimp only
  unfold sout0_B_0
  rfl

theorem scratch_eq (c : Dev nD) : ∀ (n : ℕ) (t : Fin cfg0.N), t.val = n → (outsAt0 m c t.val t.isLt).2 = castW (iblk m c 1 t) := by
  intro n
  induction n with
  | zero => exact fun t ht => scratch_A m c t (by omega)
  | succ n ih =>
    intro t ht
    by_cases h : t.val % 5 = 0
    · exact scratch_A m c t h
    · have e := ih ⟨t.val - 1, Nat.lt_of_le_of_lt (Nat.sub_le _ _) t.isLt⟩ (show t.val - 1 = n by omega)
      exact (scratch_B m c t h).trans (e.trans (weights_keep m c _ t (show (t.val - 1) / 5 = t.val / 5 by omega)))

/-! ## The result -/

/-- What a point leaves of the result, entry by entry. -/
theorem out_at (m : (ℓ : Loc nD τ sig) → Buf (Elt Ideal) ℓ) (c : Dev nD) (t : Fin cfg0.N) (a : Fin 1664) (b : Fin 512) :
    ((outsAt0 m c t.val t.isLt).1 (ix2 a b) : EReal)
      = Ideal.logistic (dotE (fun k => (iblk m c 0 t : Vec Ideal S1664x4096 .bf16) (ix2 a k)) (fun k => (iblk m c 1 t : Vec Ideal S1x4096x512 .f32) (ix3 0 k b))) := by
  by_cases h : t.val % 5 = 0
  · rw [outsAt0_A m c t h (by omega)]
    dsimp only
    rw [out_A]
    exact outF_at _ _ a b
  · rw [outsAt0_B m c t h (by omega)]
    dsimp only
    rw [out_B, ← scratch_B m c t h, scratch_eq m c t.val t rfl]
    exact pay4_at _ _ a b

/-- The result, entry by entry: the logistic of a row of the operand against a column of the layer's weights. -/
def res (x : FVec Ideal S8320x4096 .bf16) (w : FVec Ideal S2x4096x39040 .f32) : FVec Ideal S8320x8192 .f32 := fun i =>
  (Ideal.logistic (dotE (fun k => x (ix2 (i 0) k)) (fun k => w (ix3 0 k ⟨30848 + (i 1).val, lt_of_lt_of_le (Nat.add_lt_add_left (i 1).isLt 30848) (by decide)⟩))) : EReal)

theorem covers2 : (cfg0.win 2).Covers := by
  refine ⟨(by decide : ∀ a : Fin 2, 0 < S1664x512.size a), fun β => ?_⟩
  have h0 : (β (0 : Fin 2)).val < 5 := lt_of_lt_of_eq (β (0 : Fin 2)).isLt (show (S8320x8192.size 0 + S1664x512.size 0 - 1) / S1664x512.size 0 = 5 by decide)
  have h1 : (β (1 : Fin 2)).val < 16 := lt_of_lt_of_eq (β (1 : Fin 2)).isLt (show (S8320x8192.size 1 + S1664x512.size 1 - 1) / S1664x512.size 1 = 16 by decide)
  refine ⟨⟨5 * (β (1 : Fin 2)).val + (β (0 : Fin 2)).val, lt_of_lt_of_eq (by omega : _ < 80) N_0.symm⟩, flush2 _, fun a => ⟨?_, Or.inl rfl⟩⟩
  rw [idx2]
  match a with
  | ⟨0, _⟩ => show (5 * (β (1 : Fin 2)).val + (β (0 : Fin 2)).val) % 5 = (β (0 : Fin 2)).val; omega
  | ⟨1, _⟩ => show (5 * (β (1 : Fin 2)).val + (β (0 : Fin 2)).val) / 5 = (β (1 : Fin 2)).val; omega

theorem entry_at (m : (ℓ : Loc nD τ sig) → Buf (Elt Ideal) ℓ) (c : Dev nD) (t : Fin cfg0.N) (a : Fin 1664) (b : Fin 512)
    (r : Fin 8320) (j : Fin 8192) (hr : r.val = t.val % 5 * 1664 + a.val) (hj : j.val = t.val / 5 * 512 + b.val) :
    ((outsAt0 m c t.val t.isLt).1 (ix2 a b) : EReal) = res (V m c main_arg0) (V m c main_arg1) (ix2 r j) := by
  refine (out_at m c t a b).trans ?_
  unfold res
  refine congrArg Ideal.logistic (congrArg₂ dotE (funext fun k => ?_) (funext fun k => ?_))
  · refine (blk0_apply m c t a k).trans (congrArg (fun z => V m c main_arg0 (ix2 (n0 := 8320) (n1 := 4096) z k)) (Fin.ext ?_))
    exact hr.symm
  · refine (blk1_apply m c t k b).trans (congrArg (fun z => V m c main_arg1 (ix3 (n0 := 2) (n1 := 4096) (n2 := 39040) 0 k z)) (Fin.ext ?_))
    show t.val / 5 * 512 + 30848 + b.val = 30848 + j.val
    omega

/-- The result's array after the whole run. -/
theorem arr_out (m : (ℓ : Loc nD τ sig) → Buf (Elt Ideal) ℓ) (c : Dev nD) :
    (dats m 0 c).arrAt 2 cfg0.N = res (V m c main_arg0) (V m c main_arg1) := by
  refine Pipeline.Dat.arrAt_eq_of_covers (dats m 0 c) 2 _ covers2 (fun t _ y => ?_)
  obtain ⟨a, b, hy⟩ : ∃ a b, (cfg0.win 2).xinj (cfg0.grid.coords t) y = ix2 a b := ⟨_, _, eq_ix2 (n0 := 1664) (n1 := 512) _⟩
  have h0 : (y (0 : Fin 2)).val = a.val := congrArg (fun x : S1664x512.Idx => (x 0).val) hy
  have h1 : (y (1 : Fin 2)).val = b.val := congrArg (fun x : S1664x512.Idx => (x 1).val) hy
  refine (congrFun (after0_2 m c t) _).trans ?_
  rw [hy]
  obtain ⟨r, j, hz⟩ : ∃ r j, ((cfg0.win 2).blk t).view.emb y = ix2 r j := ⟨_, _, eq_ix2 (n0 := 8320) (n1 := 8192) _⟩
  have g0 : r.val = t.val % 5 * 1664 + a.val := by
    rw [← h0, ← show (((cfg0.win 2).blk t).view.emb y (0 : Fin 2)).val = r.val from congrArg (fun x : S8320x8192.Idx => (x 0).val) hz]
    blk_simp [idx2 t]
  have g1 : j.val = t.val / 5 * 512 + b.val := by
    rw [← h1, ← show (((cfg0.win 2).blk t).view.emb y (1 : Fin 2)).val = j.val from congrArg (fun x : S8320x8192.Idx => (x 1).val) hz]
    blk_simp [idx2 t]
  refine (entry_at m c t a b r j g0 g1).trans ?_
  exact (congrArg (res (V m c main_arg0) (V m c main_arg1)) hz).symm

/-! ## The reference -/

theorem ref_eq (x : FVec Ideal S8320x4096 .bf16) (w : FVec Ideal S2x4096x39040 .f32) : Host.divf (broadcastInDim Cert.Reference8Ideal.S8320x8192 ![] Cert.Reference8Ideal.Gen.bcast_S_S8320x8192 (constant Cert.Reference8Ideal.S_ .f32 0x3F800000#32))
    (addf (broadcastInDim Cert.Reference8Ideal.S8320x8192 ![] Cert.Reference8Ideal.Gen.bcast_S_S8320x8192 (constant Cert.Reference8Ideal.S_ .f32 0x3F800000#32)) (Host.exp (Host.negf (Host.dotGeneral (φ₁ := .f32) (φ₂ := .f32) Cert.Reference8Ideal.dot_S8320x4096_S4096x8192_S8320x8192_1_0_0_1_n_n none (extf .f32 x Cert.Reference8Ideal.Gen.bitsLt_bf16_f32)
    (extractStridedSlice Cert.Reference8Ideal.S4096x8192 ![0, 30848] (shapeCast _ (extractStridedSlice Cert.Reference8Ideal.S1x4096x39040 ![0, 0, 0] w Cert.Reference8Ideal.Gen.slices_S2x4096x39040_S1x4096x39040_0_0_0)
      Cert.Reference8Ideal.Gen.shapeCasts_S1x4096x39040_S4096x39040) Cert.Reference8Ideal.Gen.slices_S4096x39040_S4096x8192_0_30848))))) = res x w := by
  funext i
  obtain ⟨r, j, rfl⟩ : ∃ r j, i = ix2 r j := ⟨_, _, eq_ix2 (n0 := 8320) (n1 := 8192) i⟩
  unfold res dotE Ideal.logistic
  pointwise []

/-! ## The claims -/

theorem frame_kernel8 : Cert.quiescent_Kernel8 := fun m ρ _ => Cert.Kernel8.Gen.frame m ρ

theorem frame_ideal8 : Cert.quiescent_Kernel8Ideal := fun m ρ _ => Cert.Kernel8Ideal.Gen.frame m ρ

theorem frame_reference8 : Cert.quiescent_Reference8Ideal := fun m ρ _ =>
  (θ_run Cert.Reference8Ideal.defs _ _).mono
    (fun r h => ⟨fun c => (h c).2, sem_eq_zero_of_no_sems (by decide) r.2⟩)
    (Cert.Reference8Ideal.Value.run (F := Ideal) m ρ)

theorem algebraic8 : Cert.algebraic_Kernel8Ideal_Reference8Ideal := by
  intro m g m' g' hp hm
  refine ⟨fun c => res (m ((c : Thread nD τ).loc main_arg0)) (m ((c : Thread nD τ).loc main_arg1)), ?_, ?_⟩
  · refine (θ_run defs _ _).mono (fun r hr c => ⟨(hr c).1.trans ((arr_out m c).trans ?_), (hr c).2⟩) (Cert.Kernel8Ideal.Value.run_blocks (F := Ideal) m g)
    rw [V_main_arg0, V_main_arg1]
  · refine (θ_run Cert.Reference8Ideal.defs _ _).mono (fun r hr c => ⟨(hr c).1.trans ?_, (hr c).2⟩) (Cert.Reference8Ideal.Value.run (F := Ideal) m' g')
    obtain ⟨e0, e1⟩ := hm c
    rw [e0, e1]
    exact ref_eq _ _

end Cert.Kernel8Ideal.Gates

end
-- ==== Proof.OutLowVal.lean ====
module

public import proofs.«01_k».proof.Proof.Gen.Kernel9Ideal.Value
public import proofs.«01_k».proof.Proof.UpVal
public import Idealize.ShloMosaic.Lib.Pipeline.Value
public import Idealize.ShloMosaic.Lib.Pipeline.ValueKit
public import Idealize.ShloMosaic.Lib.ValueLayout
public import Idealize.ShloMosaic.Lib.Pointwise
public import Idealize.ShloMosaic.Lib.Tactic

/-! The output projection's first half: what a run of the body leaves, entry by entry. -/

@[expose] public section

set_option maxRecDepth 16384

noncomputable section

namespace Cert.Kernel9Ideal.OutLow

open Cert.Kernel9Ideal Cert.Kernel9Ideal.Gen
open Idealize.ShloMosaic Idealize.ShloMosaic.TcCoe
open Cert.Kernel2Ideal.Up (part dotE dotE_parts)

variable {F : FTy → Type} [FloatOps F]

theorem hz : (![0, 0] : Fin 2 → Nat) = fun _ => 0 := funext fun a => by fin_cases a <;> rfl

/-- A block of weights at the narrower type, as a matrix. -/
def castW (X : Vec F S1x4096x512 .f32) : Vec F S4096x512 .bf16 :=
  fun y => FloatOps.truncf .bf16 bitsLt_bf16_f32 (X (ix3 (n0 := 1) (n1 := 4096) (n2 := 512) 0 (y 0) (y 1)))

/-- A chunk of 512 rows, cast, is those rows of the cast block. -/
theorem chunk_apply (o : ℕ) (inb : ∀ a, (![0, o, 0] : Fin 3 → ℕ) a + S1x512x512.size a ≤ S1x4096x512.size a)
    (inb' : ∀ a, (![o, 0] : Fin 2 → ℕ) a + S512x512.size a ≤ S4096x512.size a) (X : Vec F S1x4096x512 .f32) (x : S512x512.Idx) :
    shapeCast S512x512 (truncf (F := F) .bf16 (shapeCast S512x512
        (View.ld (Val := Elt F) X (Rect.unit (s := S1x4096x512) ![0, o, 0] S1x512x512.size inb)) shapeCasts_S1x512x512_S512x512) bitsLt_bf16_f32)
      shapeCasts_S512x512_S512x512 x
      = castW X ((Rect.unit (s := S4096x512) ![o, 0] S512x512.size inb').emb x) := by
  rw [shapeCast_self]
  obtain ⟨a, b, rfl⟩ : ∃ a b, x = ix2 a b := ⟨_, _, eq_ix2 (n0 := 512) (n1 := 512) x⟩
  show FloatOps.truncf .bf16 bitsLt_bf16_f32 (shapeCast (α := F .f32) S512x512 _ shapeCasts_S1x512x512_S512x512 (ix2 a b)) = _
  have e := shapeCast_apply (View.ld (Val := Elt F) X (Rect.unit (s := S1x4096x512) ![0, o, 0] S1x512x512.size inb))
    shapeCasts_S1x512x512_S512x512 (ix2 a b) (ix3 (n0 := 1) (n1 := 512) (n2 := 512) 0 a b) (by
      rw [Shape.rowMajor_val_three, Shape.rowMajor_val_two]
      show (0 * 512 + a.val) * 512 + b.val = a.val * 512 + b.val
      omega)
  refine (congrArg _ e).trans ?_
  unfold castW
  refine congrArg (fun z => FloatOps.truncf .bf16 bitsLt_bf16_f32 (X z)) ?_
  funext k
  apply Fin.ext
  fin_cases k
  · rfl
  · rfl
  · rfl

/-! ## The chunks of weights, cast, and of rows -/

def w0 (X : Vec F S1x4096x512 .f32) : FVec F S512x512 .bf16 := k0_pay5 (View.ld X (Rect.unit (s := S1x4096x512) ![0, 0, 0] S1x512x512.size inb_S1x4096x512_S1x512x512_0_0_0))
def x0 (X : Vec F S1664x4096 .bf16) : Vec F S1664x512 .bf16 := View.ld X (Rect.unit (s := S1664x4096) ![0, 0] S1664x512.size inb_S1664x4096_S1664x512_0_0)
def w1 (X : Vec F S1x4096x512 .f32) : FVec F S512x512 .bf16 := k0_pay6 (View.ld X (Rect.unit (s := S1x4096x512) ![0, 512, 0] S1x512x512.size inb_S1x4096x512_S1x512x512_0_512_0))
def x1 (X : Vec F S1664x4096 .bf16) : Vec F S1664x512 .bf16 := View.ld X (Rect.unit (s := S1664x4096) ![0, 512] S1664x512.size inb_S1664x4096_S1664x512_0_512)
def w2 (X : Vec F S1x4096x512 .f32) : FVec F S512x512 .bf16 := k0_pay8 (View.ld X (Rect.unit (s := S1x4096x512) ![0, 1024, 0] S1x512x512.size inb_S1x4096x512_S1x512x512_0_1024_0))
def x2 (X : Vec F S1664x4096 .bf16) : Vec F S1664x512 .bf16 := View.ld X (Rect.unit (s := S1664x4096) ![0, 1024] S1664x512.size inb_S1664x4096_S1664x512_0_1024)
def w3 (X : Vec F S1x4096x512 .f32) : FVec F S512x512 .bf16 := k0_pay9 (View.ld X (Rect.unit (s := S1x4096x512) ![0, 1536, 0] S1x512x512.size inb_S1x4096x512_S1x512x512_0_1536_0))
def x3 (X : Vec F S1664x4096 .bf16) : Vec F S1664x512 .bf16 := View.ld X (Rect.unit (s := S1664x4096) ![0, 1536] S1664x512.size inb_S1664x4096_S1664x512_0_1536)
def w4 (X : Vec F S1x4096x512 .f32) : FVec F S512x512 .bf16 := k0_pay10 (View.ld X (Rect.unit (s := S1x4096x512) ![0, 2048, 0] S1x512x512.size inb_S1x4096x512_S1x512x512_0_2048_0))
def x4 (X : Vec F S1664x4096 .bf16) : Vec F S1664x512 .bf16 := View.ld X (Rect.unit (s := S1664x4096) ![0, 2048] S1664x512.size inb_S1664x4096_S1664x512_0_2048)
def w5 (X : Vec F S1x4096x512 .f32) : FVec F S512x512 .bf16 := k0_pay12 (View.ld X (Rect.unit (s := S1x4096x512) ![0, 2560, 0] S1x512x512.size inb_S1x4096x512_S1x512x512_0_2560_0))
def x5 (X : Vec F S1664x4096 .bf16) : Vec F S1664x512 .bf16 := View.ld X (Rect.unit (s := S1664x4096) ![0, 2560] S1664x512.size inb_S1664x4096_S1664x512_0_2560)
def w6 (X : Vec F S1x4096x512 .f32) : FVec F S512x512 .bf16 := k0_pay1 (View.ld X (Rect.unit (s := S1x4096x512) ![0, 3072, 0] S1x512x512.size inb_S1x4096x512_S1x512x512_0_3072_0))
def x6 (X : Vec F S1664x4096 .bf16) : Vec F S1664x512 .bf16 := View.ld X (Rect.unit (s := S1664x4096) ![0, 3072] S1664x512.size inb_S1664x4096_S1664x512_0_3072)
def w7 (X : Vec F S1x4096x512 .f32) : FVec F S512x512 .bf16 := k0_pay2 (View.ld X (Rect.unit (s := S1x4096x512) ![0, 3584, 0] S1x512x512.size inb_S1x4096x512_S1x512x512_0_3584_0))
def x7 (X : Vec F S1664x4096 .bf16) : Vec F S1664x512 .bf16 := View.ld X (Rect.unit (s := S1664x4096) ![0, 3584] S1664x512.size inb_S1664x4096_S1664x512_0_3584)

/-- What the body stores where it casts the weights. -/
def outF (X : Vec F S1664x4096 .bf16) (W : Vec F S1x4096x512 .f32) : FVec F S1664x512 .f32 :=
  k0_pay3 (k0_pay11 (k0_pay7 (x0 X) (w0 W) (x1 X) (w1 W)) (x2 X) (w2 W) (constant S1664x512 .f32 0x00000000#32) (x3 X) (w3 W) (x4 X) (w4 W))
    (x5 X) (w5 W) (x6 X) (w6 W) (x7 X) (w7 W)

theorem out_A (c : Dev nD) (i : grid0.Coords) (arg2 : Memref sig .tc .vmem S1664x4096 .bf16) (harg2 : arg2.IsWhole)
    (arg3 : Memref sig .tc .vmem S1x4096x512 .f32) (harg3 : arg3.IsWhole) (arg4 : Memref sig .tc .vmem S1664x512 .f32) (harg4 : arg4.IsWhole)
    (arg5 : Memref sig .tc .vmem S4096x512 .bf16) (harg5 : arg5.IsWhole)
    (hc0 : cond0_0 i) (hc1 : ¬cond0_1 i) (x0 : Vec F S1664x4096 .bf16) (x1 : Vec F S1x4096x512 .f32) :
    out0_A_2 c i arg2 harg2 arg3 harg3 arg4 harg4 arg5 harg5 hc0 hc1 x0 x1 = outF x0 x1 := by
  unfold out0_A_2
  rw [View.read_writes_eq_canon _ _ _ (cover0_A_2 c i arg2 harg2 arg3 harg3 arg4 harg4 arg5 harg5 hc0 hc1 x0 x1)]
  unfold kernelRun0_A
  dsimp only
  rw [View.canon_unit_zero hz]
  sl_unfold_words
  simp only [View.readAt_eq_ld, harg2.read_unread, harg3.read_unread, View.readCov_cons_toLoadRect]
  rfl

theorem out_B (c : Dev nD) (i : grid0.Coords) (arg2 : Memref sig .tc .vmem S1664x4096 .bf16) (harg2 : arg2.IsWhole)
    (arg3 : Memref sig .tc .vmem S1x4096x512 .f32) (harg3 : arg3.IsWhole) (arg4 : Memref sig .tc .vmem S1664x512 .f32) (harg4 : arg4.IsWhole)
    (arg5 : Memref sig .tc .vmem S4096x512 .bf16) (harg5 : arg5.IsWhole)
    (hc0 : ¬cond0_0 i) (hc1 : cond0_1 i) (x0 : Vec F S1664x4096 .bf16) (x1 : Vec F S1x4096x512 .f32) (xs0 : Vec F S4096x512 .bf16) :
    out0_B_2 c i arg2 harg2 arg3 harg3 arg4 harg4 arg5 harg5 hc0 hc1 x0 x1 xs0 = k0_pay4 x0 xs0 := by
  unfold out0_B_2
  rw [View.read_writes_eq_canon _ _ _ (cover0_B_2 c i arg2 harg2 arg3 harg3 arg4 harg4 arg5 harg5 hc0 hc1 x0 x1 xs0)]
  unfold kernelRun0_B
  dsimp only
  rw [View.canon_unit_zero hz]
  simp only [View.readAt_eq_ld, harg2.read_unread, harg5.read_unread, View.ld_unit_zero (S := S1664x4096) hz, View.ld_unit_zero (S := S4096x512) hz]

theorem sout_A (c : Dev nD) (i : grid0.Coords) (arg2 : Memref sig .tc .vmem S1664x4096 .bf16) (harg2 : arg2.IsWhole)
    (arg3 : Memref sig .tc .vmem S1x4096x512 .f32) (harg3 : arg3.IsWhole) (arg4 : Memref sig .tc .vmem S1664x512 .f32) (harg4 : arg4.IsWhole)
    (arg5 : Memref sig .tc .vmem S4096x512 .bf16) (harg5 : arg5.IsWhole)
    (hc0 : cond0_0 i) (hc1 : ¬cond0_1 i) (x0 : Vec F S1664x4096 .bf16) (x1 : Vec F S1x4096x512 .f32) :
    sout0_A_0 c i arg2 harg2 arg3 harg3 arg4 harg4 arg5 harg5 hc0 hc1 x0 x1 = castW x1 := by
  have hcov := scover0_A_0 c i arg2 harg2 arg3 harg3 arg4 harg4 arg5 harg5 hc0 hc1 x0 x1
  funext y
  have hy := hcov y
  unfold sout0_A_0
  rw [View.read_writes_eq_canon _ _ _ hcov]
  revert hy
  unfold kernelRun0_A
  dsimp only
  sl_unfold_words
  simp only [View.readAt_eq_ld, harg2.read_unread, harg3.read_unread]
  intro hy
  refine View.canon_apply_of_pieces (castW x1) _ (fun p hp => ?_) y hy
  simp only [List.mem_cons, List.mem_nil_iff, or_false] at hp
  rcases hp with rfl | rfl | rfl | rfl | rfl | rfl | rfl | rfl
  · exact fun x => chunk_apply 3584 _ inb_S4096x512_S512x512_3584_0 x1 x
  · exact fun x => chunk_apply 3072 _ inb_S4096x512_S512x512_3072_0 x1 x
  · exact fun x => chunk_apply 2560 _ inb_S4096x512_S512x512_2560_0 x1 x
  · exact fun x => chunk_apply 2048 _ inb_S4096x512_S512x512_2048_0 x1 x
  · exact fun x => chunk_apply 1536 _ inb_S4096x512_S512x512_1536_0 x1 x
  · exact fun x => chunk_apply 1024 _ inb_S4096x512_S512x512_1024_0 x1 x
  · exact fun x => chunk_apply 512 _ inb_S4096x512_S512x512_512_0 x1 x
  · exact fun x => chunk_apply 0 _ inb_S4096x512_S512x512_0_0 x1 x

/-! ## Over the extended reals -/

/-- One chunk's product. -/
def mm (A : FVec Ideal S1664x512 .bf16) (B : FVec Ideal S512x512 .bf16) : FVec Ideal S1664x512 .f32 :=
  matmul (φ₁ := .bf16) (φ₂ := .bf16) dot_S1664x512_S512x512_S1664x512_1_0_0_1_n_n none A B (constant S1664x512 .f32 0x00000000#32)

theorem mm_at (A : FVec Ideal S1664x512 .bf16) (B : FVec Ideal S512x512 .bf16) (a : Fin 1664) (b : Fin 512) :
    (mm A B (ix2 a b) : EReal) = ∑ k : Fin 512, (A (ix2 a k) : EReal) * (B (ix2 k b) : EReal) := by
  pointwise [mm]

theorem chunk_mm (s : Fin 8) (o : ℕ) (ho : o = s.val * 512) (inbX : ∀ a, (![0, o] : Fin 2 → ℕ) a + S1664x512.size a ≤ S1664x4096.size a)
    (inbS : ∀ a, (![o, 0] : Fin 2 → ℕ) a + S512x512.size a ≤ S4096x512.size a)
    (X : Vec Ideal S1664x4096 .bf16) (C : Vec Ideal S4096x512 .bf16) (B : Vec Ideal S512x512 .bf16)
    (hB : ∀ x, B x = C ((Rect.unit (s := S4096x512) ![o, 0] S512x512.size inbS).emb x)) (a : Fin 1664) (b : Fin 512) :
    (mm (View.ld (Val := Elt Ideal) X (Rect.unit (s := S1664x4096) ![0, o] S1664x512.size inbX)) B (ix2 a b) : EReal)
      = part (fun k => X (ix2 a k)) (fun k => C (ix2 k b)) s := by
  subst ho
  rw [mm_at]
  unfold part
  refine Finset.sum_congr rfl fun k _ => ?_
  rw [hB]
  refine congrArg₂ (fun p q : EReal => p * q) ?_ ?_
  · show X _ = X _
    refine congrArg X ?_
    funext i; apply Fin.ext
    fin_cases i
    · show 0 + 1 * a.val = a.val; omega
    · show s.val * 512 + 1 * k.val = s.val * 512 + k.val; omega
  · refine congrArg C ?_
    funext i; apply Fin.ext
    fin_cases i
    · show s.val * 512 + 1 * k.val = s.val * 512 + k.val; omega
    · show 0 + 1 * b.val = b.val; omega

variable (X : Vec Ideal S1664x4096 .bf16) (W : Vec Ideal S1x4096x512 .f32)

theorem outF_eq : outF X W
    = addf (addf (addf (addf (addf (addf (addf (mm (x0 X) (w0 W)) (mm (x1 X) (w1 W))) (mm (x2 X) (w2 W))) (mm (x3 X) (w3 W))) (mm (x4 X) (w4 W)))
      (mm (x5 X) (w5 W))) (mm (x6 X) (w6 W))) (mm (x7 X) (w7 W)) := by
  unfold outF k0_pay3 k0_pay11 k0_pay7 mm
  rfl

theorem outF_at (a : Fin 1664) (b : Fin 512) :
    (outF X W (ix2 a b) : EReal) = dotE (fun k => X (ix2 a k)) (fun k => W (ix3 0 k b)) := by
  rw [outF_eq]
  refine Eq.trans ?_ (dotE_parts (fun k => X (ix2 a k)) (fun k => castW W (ix2 k b)))
  rw [← chunk_mm 0 0 rfl inb_S1664x4096_S1664x512_0_0 inb_S4096x512_S512x512_0_0 X (castW W) (w0 W) (fun x => chunk_apply 0 _ _ W x) a b,
    ← chunk_mm 1 512 rfl inb_S1664x4096_S1664x512_0_512 inb_S4096x512_S512x512_512_0 X (castW W) (w1 W) (fun x => chunk_apply 512 _ _ W x) a b,
    ← chunk_mm 2 1024 rfl inb_S1664x4096_S1664x512_0_1024 inb_S4096x512_S512x512_1024_0 X (castW W) (w2 W) (fun x => chunk_apply 1024 _ _ W x) a b,
    ← chunk_mm 3 1536 rfl inb_S1664x4096_S1664x512_0_1536 inb_S4096x512_S512x512_1536_0 X (castW W) (w3 W) (fun x => chunk_apply 1536 _ _ W x) a b,
    ← chunk_mm 4 2048 rfl inb_S1664x4096_S1664x512_0_2048 inb_S4096x512_S512x512_2048_0 X (castW W) (w4 W) (fun x => chunk_apply 2048 _ _ W x) a b,
    ← chunk_mm 5 2560 rfl inb_S1664x4096_S1664x512_0_2560 inb_S4096x512_S512x512_2560_0 X (castW W) (w5 W) (fun x => chunk_apply 2560 _ _ W x) a b,
    ← chunk_mm 6 3072 rfl inb_S1664x4096_S1664x512_0_3072 inb_S4096x512_S512x512_3072_0 X (castW W) (w6 W) (fun x => chunk_apply 3072 _ _ W x) a b,
    ← chunk_mm 7 3584 rfl inb_S1664x4096_S1664x512_0_3584 inb_S4096x512_S512x512_3584_0 X (castW W) (w7 W) (fun x => chunk_apply 3584 _ _ W x) a b]
  rfl

theorem pay4_at (a : Fin 1664) (b : Fin 512) :
    (k0_pay4 X (castW W) (ix2 a b) : EReal) = dotE (fun k => X (ix2 a k)) (fun k => W (ix3 0 k b)) := by
  unfold dotE
  pointwise [k0_pay4, castW]

end Cert.Kernel9Ideal.OutLow

end
-- ==== Proof.OutLowAlgebra.lean ====
module

public import proofs.«01_k».proof.Defs
public import proofs.«01_k».proof.Proof.OutLowVal
public import proofs.«01_k».proof.Proof.Gen.Kernel9.Frame
public import proofs.«01_k».proof.Proof.Gen.Reference9Ideal.Run
public import Idealize.ShloMosaic.Lib.Pipeline.ValueKit.Geometry

/-! The output projection's first half: the run and the reference's, with one and the same result. -/

@[expose] public section

set_option maxRecDepth 16384

noncomputable section

namespace Cert.Kernel9Ideal.OutLow

open Cert.Kernel9Ideal Cert.Kernel9Ideal.Gen
open Idealize.ShloMosaic Idealize.ShloMosaic.TcCoe Idealize.ShloMosaic.Tactic Idealize.SL.Sem
open Cert.Kernel2Ideal.Up (dotE)

/-! ## Which blocks a point sees -/

theorem idxIn : ∀ t : Fin grid0.N, cc0_transform_0 (grid0.coords t) = ![t.val % 5, 0] := by decide +kernel
theorem idxWt : ∀ t : Fin grid0.N, cc0_transform_1 (grid0.coords t) = ![0, 0, t.val / 5] := by decide +kernel
theorem idxOut : ∀ t : Fin grid0.N, cc0_transform_2 (grid0.coords t) = ![t.val % 5, t.val / 5] := by decide +kernel
theorem flushOut : ∀ t : Fin grid0.N, Pipeline.Window.flushOf grid0 true cc0_transform_2 t = true := by decide +kernel

theorem idx0 (t : Fin cfg0.N) : (cfg0.win 0).index t = ![t.val % 5, 0] := idxIn t
theorem idx1 (t : Fin cfg0.N) : (cfg0.win 1).index t = ![0, 0, t.val / 5] := idxWt t
theorem idx2 (t : Fin cfg0.N) : (cfg0.win 2).index t = ![t.val % 5, t.val / 5] := idxOut t
theorem flush2 (t : Fin cfg0.N) : (cfg0.win 2).flush t = true := flushOut t

variable {F : FTy → Type} [FloatOps F] (m : (ℓ : Loc nD τ sig) → Buf (Elt F) ℓ)

theorem blk0_apply (c : Dev nD) (t : Fin cfg0.N) (a : Fin 1664) (k : Fin 4096) :
    (iblk m c 0 t : Vec F S1664x4096 .bf16) (ix2 a k)
      = V m c main_arg0 (ix2 (n0 := 8320) (n1 := 8192) ⟨t.val % 5 * 1664 + a.val, by have := a.isLt; omega⟩ ⟨k.val, lt_trans k.isLt (by decide)⟩) := by
  show V m c main_arg0 _ = V m c main_arg0 _
  blk_ext [iblk, idx0 t]

theorem blk1_apply (c : Dev nD) (t : Fin cfg0.N) (k : Fin 4096) (b : Fin 512) :
    (iblk m c 1 t : Vec F S1x4096x512 .f32) (ix3 0 k b)
      = V m c main_arg1 (ix3 (n0 := 2) (n1 := 8192) (n2 := 4096) 0 ⟨k.val, lt_trans k.isLt (by decide)⟩
          ⟨t.val / 5 * 512 + b.val, by have := b.isLt; have : t.val < 40 := t.isLt; omega⟩) := by
  show V m c main_arg1 _ = V m c main_arg1 _
  blk_ext [iblk, idx1 t]

/-! ## What the scratch buffer holds between points: the cast weights of the column block -/

theorem weights_keep (c : Dev nD) (t u : Fin cfg0.N) (h : t.val / 5 = u.val / 5) :
    castW (iblk m c 1 t) = castW (iblk m c 1 u) := by
  funext y; unfold castW; refine congrArg _ ?_
  refine (blk1_apply m c t (y 0) (y 1)).trans (Eq.trans ?_ (blk1_apply m c u (y 0) (y 1)).symm)
  refine congrArg (V m c main_arg1) ?_
  funext k; apply Fin.ext; fin_cases k
  · rfl
  · rfl
  · exact congrArg (fun z => z * 512 + (y 1).val) h

theorem scratch_A (c : Dev nD) (t : Fin cfg0.N) (h : t.val % 5 = 0) : (outsAt0 m c t.val t.isLt).2 = castW (iblk m c 1 t) := by
  rw [outsAt0_A m c t h (by omega)]
  dsimp only
  rw [sout_A]

theorem scratch_B (c : Dev nD) (t : Fin cfg0.N) (h : ¬t.val % 5 = 0) :
    (outsAt0 m c t.val t.isLt).2 = (outsAt0 m c (t.val - 1) (Nat.lt_of_le_of_lt (Nat.sub_le _ _) t.isLt)).2 := by
  rw [outsAt0_B m c t h (by omega)]
  dsimp only
  unfold sout0_B_0
  rfl

theorem scratch_eq (c : Dev nD) : ∀ (n : ℕ) (t : Fin cfg0.N), t.val = n → (outsAt0 m c t.val t.isLt).2 = castW (iblk m c 1 t) := by
  intro n
  induction n with
  | zero => exact fun t ht => scratch_A m c t (by omega)
  | succ n ih =>
    intro t ht
    by_cases h : t.val % 5 = 0
    · exact scratch_A m c t h
    · have e := ih ⟨t.val - 1, Nat.lt_of_le_of_lt (Nat.sub_le _ _) t.isLt⟩ (show t.val - 1 = n by omega)
      exact (scratch_B m c t h).trans (e.trans (weights_keep m c _ t (show (t.val - 1) / 5 = t.val / 5 by omega)))

/-! ## The result -/

/-- What a point leaves of the result, entry by entry. -/
theorem out_at (m : (ℓ : Loc nD τ sig) → Buf (Elt Ideal) ℓ) (c : Dev nD) (t : Fin cfg0.N) (a : Fin 1664) (b : Fin 512) :
    ((outsAt0 m c t.val t.isLt).1 (ix2 a b) : EReal)
      = dotE (fun k => (iblk m c 0 t : Vec Ideal S1664x4096 .bf16) (ix2 a k)) (fun k => (iblk m c 1 t : Vec Ideal S1x4096x512 .f32) (ix3 0 k b)) := by
  by_cases h : t.val % 5 = 0
  · rw [outsAt0_A m c t h (by omega)]
    dsimp only
    rw [out_A]
    exact outF_at _ _ a b
  · rw [outsAt0_B m c t h (by omega)]
    dsimp only
    rw [out_B, ← scratch_B m c t h, scratch_eq m c t.val t rfl]
    exact pay4_at _ _ a b

/-- The result, entry by entry: a row of the operand against a column of the layer's weights. -/
def res (x : FVec Ideal S8320x8192 .bf16) (w : FVec Ideal S2x8192x4096 .f32) : FVec Ideal S8320x4096 .f32 := fun i =>
  (dotE (fun k => x (ix2 (i 0) ⟨k.val, lt_trans k.isLt (by decide)⟩)) (fun k => w (ix3 0 ⟨k.val, lt_trans k.isLt (by decide)⟩ (i 1))) : EReal)

theorem covers2 : (cfg0.win 2).Covers := by
  refine ⟨(by decide : ∀ a : Fin 2, 0 < S1664x512.size a), fun β => ?_⟩
  have h0 : (β (0 : Fin 2)).val < 5 := lt_of_lt_of_eq (β (0 : Fin 2)).isLt (show (S8320x4096.size 0 + S1664x512.size 0 - 1) / S1664x512.size 0 = 5 by decide)
  have h1 : (β (1 : Fin 2)).val < 8 := lt_of_lt_of_eq (β (1 : Fin 2)).isLt (show (S8320x4096.size 1 + S1664x512.size 1 - 1) / S1664x512.size 1 = 8 by decide)
  refine ⟨⟨5 * (β (1 : Fin 2)).val + (β (0 : Fin 2)).val, lt_of_lt_of_eq (by omega : _ < 40) N_0.symm⟩, flush2 _, fun a => ⟨?_, Or.inl rfl⟩⟩
  rw [idx2]
  match a with
  | ⟨0, _⟩ => show (5 * (β (1 : Fin 2)).val + (β (0 : Fin 2)).val) % 5 = (β (0 : Fin 2)).val; omega
  | ⟨1, _⟩ => show (5 * (β (1 : Fin 2)).val + (β (0 : Fin 2)).val) / 5 = (β (1 : Fin 2)).val; omega

theorem entry_at (m : (ℓ : Loc nD τ sig) → Buf (Elt Ideal) ℓ) (c : Dev nD) (t : Fin cfg0.N) (a : Fin 1664) (b : Fin 512)
    (r : Fin 8320) (j : Fin 4096) (hr : r.val = t.val % 5 * 1664 + a.val) (hj : j.val = t.val / 5 * 512 + b.val) :
    ((outsAt0 m c t.val t.isLt).1 (ix2 a b) : EReal) = res (V m c main_arg0) (V m c main_arg1) (ix2 r j) := by
  refine (out_at m c t a b).trans ?_
  unfold res
  refine congrArg₂ dotE (funext fun k => ?_) (funext fun k => ?_)
  · refine (blk0_apply m c t a k).trans (congrArg (fun z => V m c main_arg0 (ix2 (n0 := 8320) (n1 := 8192) z ⟨k.val, lt_trans k.isLt (by decide)⟩)) (Fin.ext ?_))
    exact hr.symm
  · refine (blk1_apply m c t k b).trans (congrArg (fun z => V m c main_arg1 (ix3 (n0 := 2) (n1 := 8192) (n2 := 4096) 0 ⟨k.val, lt_trans k.isLt (by decide)⟩ z)) (Fin.ext ?_))
    exact hj.symm

/-- The result's array after the whole run. -/
theorem arr_out (m : (ℓ : Loc nD τ sig) → Buf (Elt Ideal) ℓ) (c : Dev nD) :
    (dats m 0 c).arrAt 2 cfg0.N = res (V m c main_arg0) (V m c main_arg1) := by
  refine Pipeline.Dat.arrAt_eq_of_covers (dats m 0 c) 2 _ covers2 (fun t _ y => ?_)
  obtain ⟨a, b, hy⟩ : ∃ a b, (cfg0.win 2).xinj (cfg0.grid.coords t) y = ix2 a b := ⟨_, _, eq_ix2 (n0 := 1664) (n1 := 512) _⟩
  have h0 : (y (0 : Fin 2)).val = a.val := congrArg (fun x : S1664x512.Idx => (x 0).val) hy
  have h1 : (y (1 : Fin 2)).val = b.val := congrArg (fun x : S1664x512.Idx => (x 1).val) hy
  refine (congrFun (after0_2 m c t) _).trans ?_
  rw [hy]
  obtain ⟨r, j, hz⟩ : ∃ r j, ((cfg0.win 2).blk t).view.emb y = ix2 r j := ⟨_, _, eq_ix2 (n0 := 8320) (n1 := 4096) _⟩
  have g0 : r.val = t.val % 5 * 1664 + a.val := by
    rw [← h0, ← show (((cfg0.win 2).blk t).view.emb y (0 : Fin 2)).val = r.val from congrArg (fun x : S8320x4096.Idx => (x 0).val) hz]
    blk_simp [idx2 t]
  have g1 : j.val = t.val / 5 * 512 + b.val := by
    rw [← h1, ← show (((cfg0.win 2).blk t).view.emb y (1 : Fin 2)).val = j.val from congrArg (fun x : S8320x4096.Idx => (x 1).val) hz]
    blk_simp [idx2 t]
  refine (entry_at m c t a b r j g0 g1).trans ?_
  exact (congrArg (res (V m c main_arg0) (V m c main_arg1)) hz).symm

/-! ## The reference -/

theorem ref_eq (x : FVec Ideal S8320x8192 .bf16) (w : FVec Ideal S2x8192x4096 .f32) : Host.dotGeneral (φ₁ := .f32) (φ₂ := .f32) Cert.Reference9Ideal.dot_S8320x4096_S4096x4096_S8320x4096_1_0_0_1_n_n none (extf .f32 (extractStridedSlice Cert.Reference9Ideal.S8320x4096 ![0, 0] x Cert.Reference9Ideal.Gen.slices_S8320x8192_S8320x4096_0_0) Cert.Reference9Ideal.Gen.bitsLt_bf16_f32)
    (extractStridedSlice Cert.Reference9Ideal.S4096x4096 ![0, 0] (shapeCast _ (extractStridedSlice Cert.Reference9Ideal.S1x8192x4096 ![0, 0, 0] w Cert.Reference9Ideal.Gen.slices_S2x8192x4096_S1x8192x4096_0_0_0)
      Cert.Reference9Ideal.Gen.shapeCasts_S1x8192x4096_S8192x4096) Cert.Reference9Ideal.Gen.slices_S8192x4096_S4096x4096_0_0) = res x w := by
  funext i
  obtain ⟨r, j, rfl⟩ : ∃ r j, i = ix2 r j := ⟨_, _, eq_ix2 (n0 := 8320) (n1 := 4096) i⟩
  unfold res dotE
  pointwise []

/-! ## The claims -/

theorem frame_kernel9 : Cert.quiescent_Kernel9 := fun m ρ _ => Cert.Kernel9.Gen.frame m ρ

theorem frame_ideal9 : Cert.quiescent_Kernel9Ideal := fun m ρ _ => Cert.Kernel9Ideal.Gen.frame m ρ

theorem frame_reference9 : Cert.quiescent_Reference9Ideal := fun m ρ _ =>
  (θ_run Cert.Reference9Ideal.defs _ _).mono
    (fun r h => ⟨fun c => (h c).2, sem_eq_zero_of_no_sems (by decide) r.2⟩)
    (Cert.Reference9Ideal.Value.run (F := Ideal) m ρ)

theorem algebraic9 : Cert.algebraic_Kernel9Ideal_Reference9Ideal := by
  intro m g m' g' hp hm
  refine ⟨fun c => res (m ((c : Thread nD τ).loc main_arg0)) (m ((c : Thread nD τ).loc main_arg1)), ?_, ?_⟩
  · refine (θ_run defs _ _).mono (fun r hr c => ⟨(hr c).1.trans ((arr_out m c).trans ?_), (hr c).2⟩) (Cert.Kernel9Ideal.Value.run_blocks (F := Ideal) m g)
    rw [V_main_arg0, V_main_arg1]
  · refine (θ_run Cert.Reference9Ideal.defs _ _).mono (fun r hr c => ⟨(hr c).1.trans ?_, (hr c).2⟩) (Cert.Reference9Ideal.Value.run (F := Ideal) m' g')
    obtain ⟨e0, e1⟩ := hm c
    rw [e0, e1]
    exact ref_eq _ _

end Cert.Kernel9Ideal.OutLow

end
-- ==== Proof.NormPrompt.lean ====
module

public import proofs.«01_k».proof.Defs
public import proofs.«01_k».proof.Proof.Gen.Kernel10.Frame
public import proofs.«01_k».proof.Proof.Gen.Kernel10Ideal.Value
public import proofs.«01_k».proof.Proof.Gen.Reference10Ideal.Run
public import Idealize.ShloMosaic.Lib.Pipeline.Value
public import Idealize.ShloMosaic.Lib.Pipeline.ValueKit
public import Idealize.ShloMosaic.Lib.Pipeline.ValueKit.Geometry
public import Idealize.ShloMosaic.Lib.ValueLayout
public import Idealize.ShloMosaic.Lib.Pointwise
public import Idealize.ShloMosaic.Lib.Tactic

/-! The last norm of the prompts' rows: the run and the reference's, with one and the same result. -/

@[expose] public section

set_option maxRecDepth 16384

noncomputable section

namespace Cert.Kernel10Ideal.Prompt

open Cert.Kernel10Ideal Cert.Kernel10Ideal.Gen
open Idealize.ShloMosaic Idealize.ShloMosaic.TcCoe Idealize.ShloMosaic.Tactic Idealize.SL.Sem

theorem hz : (![0, 0] : Fin 2 → Nat) = fun _ => 0 := funext fun a => by fin_cases a <;> rfl

/-- An entry of a row, divided by the root of the row's mean square and multiplied by its gain. -/
def nrmE (x : Fin 4096 → EReal) (g : EReal) (j : Fin 4096) : EReal :=
  x j * Ideal.rsqrt (Ideal.div (∑ k, x k * x k) (Ideal.ofBits .f32 0x45800000#32) + Ideal.ofBits .f32 0x358637BD#32) * g

section
variable {F : FTy → Type} [FloatOps F]

theorem out_A (c : Dev nD) (i : grid0.Coords) (arg1 : Memref sig .tc .vmem S512x4096 .f32) (harg1 : arg1.IsWhole)
    (arg2 : Memref sig .tc .vmem S1x4096 .f32) (harg2 : arg2.IsWhole) (arg3 : Memref sig .tc .vmem S512x4096 .f32) (harg3 : arg3.IsWhole)
    (x0 : Vec F S512x4096 .f32) (x1 : Vec F S1x4096 .f32) :
    out0_A_2 c i arg1 harg1 arg2 harg2 arg3 harg3 x0 x1 = k0_pay1 x0 x1 := by
  unfold out0_A_2
  rw [View.read_writes_eq_canon _ _ _ (cover0_A_2 c i arg1 harg1 arg2 harg2 arg3 harg3 x0 x1)]
  unfold kernelRun0_A
  dsimp only
  rw [View.canon_unit_zero hz]
  simp only [View.readAt_eq_ld, harg1.read_unread, harg2.read_unread, View.ld_unit_zero (S := S512x4096) hz, View.ld_unit_zero (S := S1x4096) hz]
end

theorem pay_at (X : Vec Ideal S512x4096 .f32) (G : Vec Ideal S1x4096 .f32) (a : Fin 512) (j : Fin 4096) :
    (k0_pay1 X G (ix2 a j) : EReal) = nrmE (fun k => X (ix2 a k)) (G (ix2 0 j)) j := by
  unfold nrmE
  pointwise [k0_pay1]

/-! ## Which blocks a point sees -/

theorem idxIn : ∀ t : Fin grid0.N, cc0_transform_0 (grid0.coords t) = ![t.val, 0] := by decide +kernel
theorem idxGain : ∀ t : Fin grid0.N, cc0_transform_1 (grid0.coords t) = ![0, 0] := by decide +kernel
theorem idxOut : ∀ t : Fin grid0.N, cc0_transform_2 (grid0.coords t) = ![t.val, 0] := by decide +kernel
theorem flushOut : ∀ t : Fin grid0.N, Pipeline.Window.flushOf grid0 true cc0_transform_2 t = true := by decide +kernel

theorem idx0 (t : Fin cfg0.N) : (cfg0.win 0).index t = ![t.val, 0] := idxIn t
theorem idx1 (t : Fin cfg0.N) : (cfg0.win 1).index t = ![0, 0] := idxGain t
theorem idx2 (t : Fin cfg0.N) : (cfg0.win 2).index t = ![t.val, 0] := idxOut t
theorem flush2 (t : Fin cfg0.N) : (cfg0.win 2).flush t = true := flushOut t

section
variable {F : FTy → Type} [FloatOps F] (m : (ℓ : Loc nD τ sig) → Buf (Elt F) ℓ)

/-- The gains, which the host makes a row. -/
theorem gain_eq (c : Dev nD) : V m c main_v0 = shapeCast S1x4096 (m ((c : Thread nD τ).loc main_arg1)) shapeCasts_S4096_S1x4096 := by
  simp only [V, hostOps0]
  after_results <;> rfl

theorem blk0_apply (c : Dev nD) (t : Fin cfg0.N) (a : Fin 512) (k : Fin 4096) :
    (X0_0 m c t : Vec F S512x4096 .f32) (ix2 a k)
      = V m c main_arg0 (ix2 (n0 := 8320) (n1 := 4096) ⟨(t.val) * 512 + a.val, by have := a.isLt; have : t.val < 16 := t.isLt; omega⟩ k) := by
  unfold X0_0 Pipeline.Window.fill
  rw [dif_pos (moved0_0 t _)]
  show V m c main_arg0 _ = V m c main_arg0 _
  blk_ext [iblk, idx0 t]

theorem blk1_apply (c : Dev nD) (t : Fin cfg0.N) (j : Fin 4096) :
    (iblk m c 1 t : Vec F S1x4096 .f32) (ix2 0 j) = m ((c : Thread nD τ).loc main_arg1) (ix1 j) := by
  have e : (iblk m c 1 t : Vec F S1x4096 .f32) (ix2 0 j) = V m c main_v0 (ix2 (n0 := 1) (n1 := 4096) 0 j) := by
    show V m c main_v0 _ = V m c main_v0 _
    blk_ext [iblk, idx1 t]
  rw [e, gain_eq]
  exact shapeCast_apply _ _ (ix2 0 j) (ix1 j) (by
    rw [Shape.rowMajor_val_one, Shape.rowMajor_val_two]
    show j.val = 0 * 4096 + j.val
    omega)
end

/-! ## The result -/

/-- The result, entry by entry. -/
def res (x : FVec Ideal S8320x4096 .f32) (g : FVec Ideal S4096 .f32) : FVec Ideal S8192x4096 .f32 := fun i =>
  nrmE (fun k => x (ix2 ⟨(i 0).val, lt_of_lt_of_le (i 0).isLt (by decide)⟩ k)) (g (ix1 (i 1))) (i 1)

theorem covers2 : (cfg0.win 2).Covers := by
  refine ⟨(by decide : ∀ a : Fin 2, 0 < S512x4096.size a), fun β => ?_⟩
  have h0 : (β (0 : Fin 2)).val < 16 := lt_of_lt_of_eq (β (0 : Fin 2)).isLt (show (S8192x4096.size 0 + S512x4096.size 0 - 1) / S512x4096.size 0 = 16 by decide)
  have h1 : (β (1 : Fin 2)).val < 1 := lt_of_lt_of_eq (β (1 : Fin 2)).isLt (show (S8192x4096.size 1 + S512x4096.size 1 - 1) / S512x4096.size 1 = 1 by decide)
  refine ⟨⟨(β (0 : Fin 2)).val, lt_of_lt_of_eq h0 N_0.symm⟩, flush2 _, fun a => ⟨?_, Or.inl rfl⟩⟩
  rw [idx2]
  match a with
  | ⟨0, _⟩ => rfl
  | ⟨1, _⟩ => show 0 = (β (1 : Fin 2)).val; omega

variable (m : (ℓ : Loc nD τ sig) → Buf (Elt Ideal) ℓ)

theorem entry_at (c : Dev nD) (t : Fin cfg0.N) (a : Fin 512) (b : Fin 4096)
    (r : Fin 8192) (j : Fin 4096) (hr : r.val = t.val * 512 + a.val) (hj : j = b) :
    (outsAt0 m c t (ix2 a b) : EReal) = res (V m c main_arg0) (m ((c : Thread nD τ).loc main_arg1)) (ix2 r j) := by
  subst hj
  unfold outsAt0
  rw [out_A]
  refine (pay_at _ _ a j).trans ?_
  unfold res
  refine congrArg₂ (fun p q => nrmE p q j) (funext fun k => ?_) (blk1_apply m c t j)
  refine (blk0_apply m c t a k).trans (congrArg (fun z => V m c main_arg0 (ix2 (n0 := 8320) (n1 := 4096) z k)) (Fin.ext ?_))
  show (t.val) * 512 + a.val = r.val
  omega

/-- The result's array after the whole run. -/
theorem arr_out (c : Dev nD) :
    (dats m 0 c).arrAt 2 cfg0.N = res (V m c main_arg0) (m ((c : Thread nD τ).loc main_arg1)) := by
  refine Pipeline.Dat.arrAt_eq_of_covers (dats m 0 c) 2 _ covers2 (fun t _ y => ?_)
  obtain ⟨a, b, hy⟩ : ∃ a b, (cfg0.win 2).xinj (cfg0.grid.coords t) y = ix2 a b := ⟨_, _, eq_ix2 (n0 := 512) (n1 := 4096) _⟩
  have h0 : (y (0 : Fin 2)).val = a.val := congrArg (fun x : S512x4096.Idx => (x 0).val) hy
  have h1 : (y (1 : Fin 2)).val = b.val := congrArg (fun x : S512x4096.Idx => (x 1).val) hy
  refine (congrFun (after0_2 m c t) _).trans ?_
  rw [hy]
  obtain ⟨r, j, hz⟩ : ∃ r j, ((cfg0.win 2).blk t).view.emb y = ix2 r j := ⟨_, _, eq_ix2 (n0 := 8192) (n1 := 4096) _⟩
  have g0 : r.val = t.val * 512 + a.val := by
    rw [← h0, ← show (((cfg0.win 2).blk t).view.emb y (0 : Fin 2)).val = r.val from congrArg (fun x : S8192x4096.Idx => (x 0).val) hz]
    blk_simp [idx2 t]
  have g1 : j.val = 0 * 4096 + b.val := by
    rw [← h1, ← show (((cfg0.win 2).blk t).view.emb y (1 : Fin 2)).val = j.val from congrArg (fun x : S8192x4096.Idx => (x 1).val) hz]
    blk_simp [idx2 t]
  refine (entry_at m c t a b r j g0 (Fin.ext (by omega))).trans ?_
  exact (congrArg (res (V m c main_arg0) (m ((c : Thread nD τ).loc main_arg1))) hz).symm

/-! ## The reference -/

theorem ref_eq (x : FVec Ideal S8320x4096 .f32) (g : FVec Ideal S4096 .f32) :
    mulf (mulf (extractStridedSlice Cert.Reference10Ideal.S8192x4096 ![0, 0] x Cert.Reference10Ideal.Gen.slices_S8320x4096_S8192x4096_0_0)
      (broadcastInDim Cert.Reference10Ideal.S8192x4096 ![0, 1] Cert.Reference10Ideal.Gen.bcast_S8192x1_S8192x4096_0_1 (Host.rsqrt (addf (Host.divf (broadcastInDim Cert.Reference10Ideal.S8192x1 ![0] Cert.Reference10Ideal.Gen.bcast_S8192_S8192x1_0
        (Host.reduceAdd (mulf (extractStridedSlice Cert.Reference10Ideal.S8192x4096 ![0, 0] x Cert.Reference10Ideal.Gen.slices_S8320x4096_S8192x4096_0_0) (extractStridedSlice Cert.Reference10Ideal.S8192x4096 ![0, 0] x Cert.Reference10Ideal.Gen.slices_S8320x4096_S8192x4096_0_0))
          (constant Cert.Reference10Ideal.S_ .f32 0x00000000#32) Cert.Reference10Ideal.Gen.reducesTo_S8192x4096_S8192_d1 Cert.Reference10Ideal.Gen.h_S_))
        (broadcastInDim Cert.Reference10Ideal.S8192x1 ![] Cert.Reference10Ideal.Gen.bcast_S_S8192x1 (constant Cert.Reference10Ideal.S_ .f32 0x45800000#32))) (broadcastInDim Cert.Reference10Ideal.S8192x1 ![] Cert.Reference10Ideal.Gen.bcast_S_S8192x1 (constant Cert.Reference10Ideal.S_ .f32 0x358637BD#32))))))
      (broadcastInDim Cert.Reference10Ideal.S8192x4096 ![0, 1] Cert.Reference10Ideal.Gen.bcast_S1x4096_S8192x4096_0_1 (broadcastInDim Cert.Reference10Ideal.S1x4096 ![1] Cert.Reference10Ideal.Gen.bcast_S4096_S1x4096_1 g)) = res x g := by
  funext i
  obtain ⟨r, j, rfl⟩ : ∃ r j, i = ix2 r j := ⟨_, _, eq_ix2 (n0 := 8192) (n1 := 4096) i⟩
  unfold res nrmE
  pointwise []

/-! ## The claims -/

theorem frame_kernel10 : Cert.quiescent_Kernel10 := fun m ρ _ => Cert.Kernel10.Gen.frame m ρ

theorem frame_ideal10 : Cert.quiescent_Kernel10Ideal := fun m ρ _ => Cert.Kernel10Ideal.Gen.frame m ρ

theorem frame_reference10 : Cert.quiescent_Reference10Ideal := fun m ρ _ =>
  (θ_run Cert.Reference10Ideal.defs _ _).mono
    (fun r h => ⟨fun c => (h c).2, sem_eq_zero_of_no_sems (by decide) r.2⟩)
    (Cert.Reference10Ideal.Value.run (F := Ideal) m ρ)

theorem algebraic10 : Cert.algebraic_Kernel10Ideal_Reference10Ideal := by
  intro m g m' g' hp hm
  refine ⟨fun c => res (m ((c : Thread nD τ).loc main_arg0)) (m ((c : Thread nD τ).loc main_arg1)), ?_, ?_⟩
  · refine (θ_run defs _ _).mono (fun r hr c => ⟨(hr c).1.trans ((arr_out m c).trans ?_), (hr c).2⟩) (Cert.Kernel10Ideal.Value.run_blocks (F := Ideal) m g)
    rw [V_main_arg0]
  · refine (θ_run Cert.Reference10Ideal.defs _ _).mono (fun r hr c => ⟨(hr c).1.trans ?_, (hr c).2⟩) (Cert.Reference10Ideal.Value.run (F := Ideal) m' g')
    obtain ⟨e0, e1⟩ := hm c
    rw [e0, e1]
    exact ref_eq _ _

end Cert.Kernel10Ideal.Prompt

end
-- ==== Proof.NormSample.lean ====
module

public import proofs.«01_k».proof.Defs
public import proofs.«01_k».proof.Proof.Gen.Kernel11.Frame
public import proofs.«01_k».proof.Proof.Gen.Kernel11Ideal.Value
public import proofs.«01_k».proof.Proof.Gen.Reference11Ideal.Run
public import Idealize.ShloMosaic.Lib.Pipeline.Value
public import Idealize.ShloMosaic.Lib.Pipeline.ValueKit
public import Idealize.ShloMosaic.Lib.Pipeline.ValueKit.Geometry
public import Idealize.ShloMosaic.Lib.ValueLayout
public import Idealize.ShloMosaic.Lib.Pointwise
public import Idealize.ShloMosaic.Lib.Tactic

/-! The last norm of the sample group's rows: the run and the reference's, with one and the same result. -/

@[expose] public section

set_option maxRecDepth 16384

noncomputable section

namespace Cert.Kernel11Ideal.Sample

open Cert.Kernel11Ideal Cert.Kernel11Ideal.Gen
open Idealize.ShloMosaic Idealize.ShloMosaic.TcCoe Idealize.ShloMosaic.Tactic Idealize.SL.Sem

theorem hz : (![0, 0] : Fin 2 → Nat) = fun _ => 0 := funext fun a => by fin_cases a <;> rfl

/-- An entry of a row, divided by the root of the row's mean square and multiplied by its gain. -/
def nrmE (x : Fin 4096 → EReal) (g : EReal) (j : Fin 4096) : EReal :=
  x j * Ideal.rsqrt (Ideal.div (∑ k, x k * x k) (Ideal.ofBits .f32 0x45800000#32) + Ideal.ofBits .f32 0x358637BD#32) * g

section
variable {F : FTy → Type} [FloatOps F]

theorem out_A (x0 : Vec F S128x4096 .f32) (x1 : Vec F S1x4096 .f32) : out0_2 x0 x1 = k0_pay1 x0 x1 := by
  unfold out0_2
  rw [View.canon_unit_zero hz]
  simp only [View.ld_unit_zero (S := S128x4096) hz, View.ld_unit_zero (S := S1x4096) hz]
end

theorem pay_at (X : Vec Ideal S128x4096 .f32) (G : Vec Ideal S1x4096 .f32) (a : Fin 128) (j : Fin 4096) :
    (k0_pay1 X G (ix2 a j) : EReal) = nrmE (fun k => X (ix2 a k)) (G (ix2 0 j)) j := by
  unfold nrmE
  pointwise [k0_pay1]

/-! ## Which blocks a point sees -/

theorem idxIn : ∀ t : Fin grid0.N, cc0_transform_0 (grid0.coords t) = ![64 + t.val, 0] := by decide +kernel
theorem idxGain : ∀ t : Fin grid0.N, cc0_transform_1 (grid0.coords t) = ![0, 0] := by decide +kernel
theorem idxOut : ∀ t : Fin grid0.N, cc0_transform_2 (grid0.coords t) = ![t.val, 0] := by decide +kernel
theorem flushOut : ∀ t : Fin grid0.N, Pipeline.Window.flushOf grid0 true cc0_transform_2 t = true := by decide +kernel

theorem idx0 (t : Fin cfg0.N) : (cfg0.win 0).index t = ![64 + t.val, 0] := idxIn t
theorem idx1 (t : Fin cfg0.N) : (cfg0.win 1).index t = ![0, 0] := idxGain t
theorem idx2 (t : Fin cfg0.N) : (cfg0.win 2).index t = ![t.val, 0] := idxOut t
theorem flush2 (t : Fin cfg0.N) : (cfg0.win 2).flush t = true := flushOut t

section
variable {F : FTy → Type} [FloatOps F] (m : (ℓ : Loc nD τ sig) → Buf (Elt F) ℓ)

/-- The gains, which the host makes a row. -/
theorem gain_eq (c : Dev nD) : V m c main_v0 = shapeCast S1x4096 (m ((c : Thread nD τ).loc main_arg1)) shapeCasts_S4096_S1x4096 := by
  simp only [V, hostOps0]
  after_results <;> rfl

theorem blk0_apply (c : Dev nD) (t : Fin cfg0.N) (a : Fin 128) (k : Fin 4096) :
    (iblk m c 0 t : Vec F S128x4096 .f32) (ix2 a k)
      = V m c main_arg0 (ix2 (n0 := 8320) (n1 := 4096) ⟨(64 + t.val) * 128 + a.val, by have := a.isLt; have : t.val < 1 := t.isLt; omega⟩ k) := by

  show V m c main_arg0 _ = V m c main_arg0 _
  blk_ext [iblk, idx0 t]

theorem blk1_apply (c : Dev nD) (t : Fin cfg0.N) (j : Fin 4096) :
    (iblk m c 1 t : Vec F S1x4096 .f32) (ix2 0 j) = m ((c : Thread nD τ).loc main_arg1) (ix1 j) := by
  have e : (iblk m c 1 t : Vec F S1x4096 .f32) (ix2 0 j) = V m c main_v0 (ix2 (n0 := 1) (n1 := 4096) 0 j) := by
    show V m c main_v0 _ = V m c main_v0 _
    blk_ext [iblk, idx1 t]
  rw [e, gain_eq]
  exact shapeCast_apply _ _ (ix2 0 j) (ix1 j) (by
    rw [Shape.rowMajor_val_one, Shape.rowMajor_val_two]
    show j.val = 0 * 4096 + j.val
    omega)
end

/-! ## The result -/

/-- The result, entry by entry. -/
def res (x : FVec Ideal S8320x4096 .f32) (g : FVec Ideal S4096 .f32) : FVec Ideal S128x4096 .f32 := fun i =>
  nrmE (fun k => x (ix2 ⟨8192 + (i 0).val, lt_of_lt_of_le (Nat.add_lt_add_left (i 0).isLt 8192) (by decide)⟩ k)) (g (ix1 (i 1))) (i 1)

theorem covers2 : (cfg0.win 2).Covers := by
  refine ⟨(by decide : ∀ a : Fin 2, 0 < S128x4096.size a), fun β => ?_⟩
  have h0 : (β (0 : Fin 2)).val < 1 := lt_of_lt_of_eq (β (0 : Fin 2)).isLt (show (S128x4096.size 0 + S128x4096.size 0 - 1) / S128x4096.size 0 = 1 by decide)
  have h1 : (β (1 : Fin 2)).val < 1 := lt_of_lt_of_eq (β (1 : Fin 2)).isLt (show (S128x4096.size 1 + S128x4096.size 1 - 1) / S128x4096.size 1 = 1 by decide)
  refine ⟨⟨(β (0 : Fin 2)).val, lt_of_lt_of_eq h0 N_0.symm⟩, flush2 _, fun a => ⟨?_, Or.inl rfl⟩⟩
  rw [idx2]
  match a with
  | ⟨0, _⟩ => rfl
  | ⟨1, _⟩ => show 0 = (β (1 : Fin 2)).val; omega

variable (m : (ℓ : Loc nD τ sig) → Buf (Elt Ideal) ℓ)

theorem entry_at (c : Dev nD) (t : Fin cfg0.N) (a : Fin 128) (b : Fin 4096)
    (r : Fin 128) (j : Fin 4096) (hr : r.val = t.val * 128 + a.val) (hj : j = b) :
    (out0_2 (iblk m c 0 t) (iblk m c 1 t) (ix2 a b) : EReal) = res (V m c main_arg0) (m ((c : Thread nD τ).loc main_arg1)) (ix2 r j) := by
  subst hj
  rw [out_A]
  refine (pay_at _ _ a j).trans ?_
  unfold res
  refine congrArg₂ (fun p q => nrmE p q j) (funext fun k => ?_) (blk1_apply m c t j)
  refine (blk0_apply m c t a k).trans (congrArg (fun z => V m c main_arg0 (ix2 (n0 := 8320) (n1 := 4096) z k)) (Fin.ext ?_))
  show (64 + t.val) * 128 + a.val = 8192 + r.val
  omega

/-- The result's array after the whole run. -/
theorem arr_out (c : Dev nD) :
    (dats m 0 c).arrAt 2 cfg0.N = res (V m c main_arg0) (m ((c : Thread nD τ).loc main_arg1)) := by
  refine Pipeline.Dat.arrAt_eq_of_covers (dats m 0 c) 2 _ covers2 (fun t _ y => ?_)
  obtain ⟨a, b, hy⟩ : ∃ a b, (cfg0.win 2).xinj (cfg0.grid.coords t) y = ix2 a b := ⟨_, _, eq_ix2 (n0 := 128) (n1 := 4096) _⟩
  have h0 : (y (0 : Fin 2)).val = a.val := congrArg (fun x : S128x4096.Idx => (x 0).val) hy
  have h1 : (y (1 : Fin 2)).val = b.val := congrArg (fun x : S128x4096.Idx => (x 1).val) hy
  refine (congrFun (after0_2 m c t) _).trans ?_
  rw [hy]
  obtain ⟨r, j, hz⟩ : ∃ r j, ((cfg0.win 2).blk t).view.emb y = ix2 r j := ⟨_, _, eq_ix2 (n0 := 128) (n1 := 4096) _⟩
  have g0 : r.val = t.val * 128 + a.val := by
    rw [← h0, ← show (((cfg0.win 2).blk t).view.emb y (0 : Fin 2)).val = r.val from congrArg (fun x : S128x4096.Idx => (x 0).val) hz]
    blk_simp [idx2 t]
  have g1 : j.val = 0 * 4096 + b.val := by
    rw [← h1, ← show (((cfg0.win 2).blk t).view.emb y (1 : Fin 2)).val = j.val from congrArg (fun x : S128x4096.Idx => (x 1).val) hz]
    blk_simp [idx2 t]
  refine (entry_at m c t a b r j g0 (Fin.ext (by omega))).trans ?_
  exact (congrArg (res (V m c main_arg0) (m ((c : Thread nD τ).loc main_arg1))) hz).symm

/-! ## The reference -/

theorem ref_eq (x : FVec Ideal S8320x4096 .f32) (g : FVec Ideal S4096 .f32) :
    mulf (mulf (extractStridedSlice Cert.Reference11Ideal.S128x4096 ![8192, 0] x Cert.Reference11Ideal.Gen.slices_S8320x4096_S128x4096_8192_0)
      (broadcastInDim Cert.Reference11Ideal.S128x4096 ![0, 1] Cert.Reference11Ideal.Gen.bcast_S128x1_S128x4096_0_1 (Host.rsqrt (addf (Host.divf (broadcastInDim Cert.Reference11Ideal.S128x1 ![0] Cert.Reference11Ideal.Gen.bcast_S128_S128x1_0
        (Host.reduceAdd (mulf (extractStridedSlice Cert.Reference11Ideal.S128x4096 ![8192, 0] x Cert.Reference11Ideal.Gen.slices_S8320x4096_S128x4096_8192_0) (extractStridedSlice Cert.Reference11Ideal.S128x4096 ![8192, 0] x Cert.Reference11Ideal.Gen.slices_S8320x4096_S128x4096_8192_0))
          (constant Cert.Reference11Ideal.S_ .f32 0x00000000#32) Cert.Reference11Ideal.Gen.reducesTo_S128x4096_S128_d1 Cert.Reference11Ideal.Gen.h_S_))
        (broadcastInDim Cert.Reference11Ideal.S128x1 ![] Cert.Reference11Ideal.Gen.bcast_S_S128x1 (constant Cert.Reference11Ideal.S_ .f32 0x45800000#32))) (broadcastInDim Cert.Reference11Ideal.S128x1 ![] Cert.Reference11Ideal.Gen.bcast_S_S128x1 (constant Cert.Reference11Ideal.S_ .f32 0x358637BD#32))))))
      (broadcastInDim Cert.Reference11Ideal.S128x4096 ![0, 1] Cert.Reference11Ideal.Gen.bcast_S1x4096_S128x4096_0_1 (broadcastInDim Cert.Reference11Ideal.S1x4096 ![1] Cert.Reference11Ideal.Gen.bcast_S4096_S1x4096_1 g)) = res x g := by
  funext i
  obtain ⟨r, j, rfl⟩ : ∃ r j, i = ix2 r j := ⟨_, _, eq_ix2 (n0 := 128) (n1 := 4096) i⟩
  unfold res nrmE
  pointwise []

/-! ## The claims -/

theorem frame_kernel11 : Cert.quiescent_Kernel11 := fun m ρ _ => Cert.Kernel11.Gen.frame m ρ

theorem frame_ideal11 : Cert.quiescent_Kernel11Ideal := fun m ρ _ => Cert.Kernel11Ideal.Gen.frame m ρ

theorem frame_reference11 : Cert.quiescent_Reference11Ideal := fun m ρ _ =>
  (θ_run Cert.Reference11Ideal.defs _ _).mono
    (fun r h => ⟨fun c => (h c).2, sem_eq_zero_of_no_sems (by decide) r.2⟩)
    (Cert.Reference11Ideal.Value.run (F := Ideal) m ρ)

theorem algebraic11 : Cert.algebraic_Kernel11Ideal_Reference11Ideal := by
  intro m g m' g' hp hm
  refine ⟨fun c => res (m ((c : Thread nD τ).loc main_arg0)) (m ((c : Thread nD τ).loc main_arg1)), ?_, ?_⟩
  · refine (θ_run defs _ _).mono (fun r hr c => ⟨(hr c).1.trans ((arr_out m c).trans ?_), (hr c).2⟩) (Cert.Kernel11Ideal.Value.run_blocks (F := Ideal) m g)
    rw [V_main_arg0]
  · refine (θ_run Cert.Reference11Ideal.defs _ _).mono (fun r hr c => ⟨(hr c).1.trans ?_, (hr c).2⟩) (Cert.Reference11Ideal.Value.run (F := Ideal) m' g')
    obtain ⟨e0, e1⟩ := hm c
    rw [e0, e1]
    exact ref_eq _ _

end Cert.Kernel11Ideal.Sample

end
-- ==== Proof.MixOutVal.lean ====
module

public import proofs.«01_k».proof.Proof.Gen.Kernel12Ideal.Value
public import proofs.«01_k».proof.Proof.UpVal
public import Idealize.ShloMosaic.Lib.Pipeline.Value
public import Idealize.ShloMosaic.Lib.Pipeline.ValueKit
public import Idealize.ShloMosaic.Lib.ValueLayout
public import Idealize.ShloMosaic.Lib.Pointwise
public import Idealize.ShloMosaic.Lib.Tactic

/-! The projection after the merge: what a run of the body leaves, entry by entry. -/

@[expose] public section

set_option maxRecDepth 16384

noncomputable section

namespace Cert.Kernel12Ideal.Mix

open Cert.Kernel12Ideal Cert.Kernel12Ideal.Gen
open Idealize.ShloMosaic Idealize.ShloMosaic.TcCoe
open Cert.Kernel2Ideal.Up (part dotE dotE_parts)

variable {F : FTy → Type} [FloatOps F]

theorem hz : (![0, 0] : Fin 2 → Nat) = fun _ => 0 := funext fun a => by fin_cases a <;> rfl

/-- A block of weights at the narrower type, as a matrix. -/
def castW (X : Vec F S1x4096x512 .f32) : Vec F S4096x512 .bf16 :=
  fun y => FloatOps.truncf .bf16 bitsLt_bf16_f32 (X (ix3 (n0 := 1) (n1 := 4096) (n2 := 512) 0 (y 0) (y 1)))

/-- A chunk of 512 rows, cast, is those rows of the cast block. -/
theorem chunk_apply (o : ℕ) (inb : ∀ a, (![0, o, 0] : Fin 3 → ℕ) a + S1x512x512.size a ≤ S1x4096x512.size a)
    (inb' : ∀ a, (![o, 0] : Fin 2 → ℕ) a + S512x512.size a ≤ S4096x512.size a) (X : Vec F S1x4096x512 .f32) (x : S512x512.Idx) :
    shapeCast S512x512 (truncf (F := F) .bf16 (shapeCast S512x512
        (View.ld (Val := Elt F) X (Rect.unit (s := S1x4096x512) ![0, o, 0] S1x512x512.size inb)) shapeCasts_S1x512x512_S512x512) bitsLt_bf16_f32)
      shapeCasts_S512x512_S512x512 x
      = castW X ((Rect.unit (s := S4096x512) ![o, 0] S512x512.size inb').emb x) := by
  rw [shapeCast_self]
  obtain ⟨a, b, rfl⟩ : ∃ a b, x = ix2 a b := ⟨_, _, eq_ix2 (n0 := 512) (n1 := 512) x⟩
  show FloatOps.truncf .bf16 bitsLt_bf16_f32 (shapeCast (α := F .f32) S512x512 _ shapeCasts_S1x512x512_S512x512 (ix2 a b)) = _
  have e := shapeCast_apply (View.ld (Val := Elt F) X (Rect.unit (s := S1x4096x512) ![0, o, 0] S1x512x512.size inb))
    shapeCasts_S1x512x512_S512x512 (ix2 a b) (ix3 (n0 := 1) (n1 := 512) (n2 := 512) 0 a b) (by
      rw [Shape.rowMajor_val_three, Shape.rowMajor_val_two]
      show (0 * 512 + a.val) * 512 + b.val = a.val * 512 + b.val
      omega)
  refine (congrArg _ e).trans ?_
  unfold castW
  refine congrArg (fun z => FloatOps.truncf .bf16 bitsLt_bf16_f32 (X z)) ?_
  funext k
  apply Fin.ext
  fin_cases k
  · rfl
  · rfl
  · rfl

/-! ## The chunks of weights, cast, and of rows -/

def w0 (X : Vec F S1x4096x512 .f32) : FVec F S512x512 .bf16 := k0_pay5 (View.ld X (Rect.unit (s := S1x4096x512) ![0, 0, 0] S1x512x512.size inb_S1x4096x512_S1x512x512_0_0_0))
def x0 (X : Vec F S1040x4096 .bf16) : Vec F S1040x512 .bf16 := View.ld X (Rect.unit (s := S1040x4096) ![0, 0] S1040x512.size inb_S1040x4096_S1040x512_0_0)
def w1 (X : Vec F S1x4096x512 .f32) : FVec F S512x512 .bf16 := k0_pay6 (View.ld X (Rect.unit (s := S1x4096x512) ![0, 512, 0] S1x512x512.size inb_S1x4096x512_S1x512x512_0_512_0))
def x1 (X : Vec F S1040x4096 .bf16) : Vec F S1040x512 .bf16 := View.ld X (Rect.unit (s := S1040x4096) ![0, 512] S1040x512.size inb_S1040x4096_S1040x512_0_512)
def w2 (X : Vec F S1x4096x512 .f32) : FVec F S512x512 .bf16 := k0_pay8 (View.ld X (Rect.unit (s := S1x4096x512) ![0, 1024, 0] S1x512x512.size inb_S1x4096x512_S1x512x512_0_1024_0))
def x2 (X : Vec F S1040x4096 .bf16) : Vec F S1040x512 .bf16 := View.ld X (Rect.unit (s := S1040x4096) ![0, 1024] S1040x512.size inb_S1040x4096_S1040x512_0_1024)
def w3 (X : Vec F S1x4096x512 .f32) : FVec F S512x512 .bf16 := k0_pay9 (View.ld X (Rect.unit (s := S1x4096x512) ![0, 1536, 0] S1x512x512.size inb_S1x4096x512_S1x512x512_0_1536_0))
def x3 (X : Vec F S1040x4096 .bf16) : Vec F S1040x512 .bf16 := View.ld X (Rect.unit (s := S1040x4096) ![0, 1536] S1040x512.size inb_S1040x4096_S1040x512_0_1536)
def w4 (X : Vec F S1x4096x512 .f32) : FVec F S512x512 .bf16 := k0_pay10 (View.ld X (Rect.unit (s := S1x4096x512) ![0, 2048, 0] S1x512x512.size inb_S1x4096x512_S1x512x512_0_2048_0))
def x4 (X : Vec F S1040x4096 .bf16) : Vec F S1040x512 .bf16 := View.ld X (Rect.unit (s := S1040x4096) ![0, 2048] S1040x512.size inb_S1040x4096_S1040x512_0_2048)
def w5 (X : Vec F S1x4096x512 .f32) : FVec F S512x512 .bf16 := k0_pay12 (View.ld X (Rect.unit (s := S1x4096x512) ![0, 2560, 0] S1x512x512.size inb_S1x4096x512_S1x512x512_0_2560_0))
def x5 (X : Vec F S1040x4096 .bf16) : Vec F S1040x512 .bf16 := View.ld X (Rect.unit (s := S1040x4096) ![0, 2560] S1040x512.size inb_S1040x4096_S1040x512_0_2560)
def w6 (X : Vec F S1x4096x512 .f32) : FVec F S512x512 .bf16 := k0_pay1 (View.ld X (Rect.unit (s := S1x4096x512) ![0, 3072, 0] S1x512x512.size inb_S1x4096x512_S1x512x512_0_3072_0))
def x6 (X : Vec F S1040x4096 .bf16) : Vec F S1040x512 .bf16 := View.ld X (Rect.unit (s := S1040x4096) ![0, 3072] S1040x512.size inb_S1040x4096_S1040x512_0_3072)
def w7 (X : Vec F S1x4096x512 .f32) : FVec F S512x512 .bf16 := k0_pay2 (View.ld X (Rect.unit (s := S1x4096x512) ![0, 3584, 0] S1x512x512.size inb_S1x4096x512_S1x512x512_0_3584_0))
def x7 (X : Vec F S1040x4096 .bf16) : Vec F S1040x512 .bf16 := View.ld X (Rect.unit (s := S1040x4096) ![0, 3584] S1040x512.size inb_S1040x4096_S1040x512_0_3584)

/-- What the body stores where it casts the weights. -/
def outF (X : Vec F S1040x4096 .bf16) (W : Vec F S1x4096x512 .f32) (E0 : Vec F S1040x512 .f32) : FVec F S1040x512 .f32 :=
  k0_pay3 (k0_pay11 (k0_pay7 (x0 X) (w0 W) (x1 X) (w1 W)) (x2 X) (w2 W) (constant S1040x512 .f32 0x00000000#32) (x3 X) (w3 W) (x4 X) (w4 W))
    (x5 X) (w5 W) (x6 X) (w6 W) (x7 X) (w7 W) E0

theorem out_A (c : Dev nD) (i : grid0.Coords) (arg2 : Memref sig .tc .vmem S1040x4096 .bf16) (harg2 : arg2.IsWhole)
    (arg3 : Memref sig .tc .vmem S1x4096x512 .f32) (harg3 : arg3.IsWhole)
    (arg4 : Memref sig .tc .vmem S1040x512 .f32) (harg4 : arg4.IsWhole)
    (arg5 : Memref sig .tc .vmem S1040x512 .f32) (harg5 : arg5.IsWhole)
    (arg6 : Memref sig .tc .vmem S4096x512 .bf16) (harg6 : arg6.IsWhole)
    (hc0 : cond0_0 i) (hc1 : ¬cond0_1 i) (x0 : Vec F S1040x4096 .bf16) (x1 : Vec F S1x4096x512 .f32) (x2 : Vec F S1040x512 .f32) :
    out0_A_3 c i arg2 harg2 arg3 harg3 arg4 harg4 arg5 harg5 arg6 harg6 hc0 hc1 x0 x1 x2 = outF x0 x1 x2 := by
  unfold out0_A_3
  rw [View.read_writes_eq_canon _ _ _ (cover0_A_3 c i arg2 harg2 arg3 harg3 arg4 harg4 arg5 harg5 arg6 harg6 hc0 hc1 x0 x1 x2)]
  unfold kernelRun0_A
  dsimp only
  rw [View.canon_unit_zero hz]
  sl_unfold_words
  simp only [View.readAt_eq_ld, harg2.read_unread, harg3.read_unread, harg4.read_unread, View.readCov_cons_toLoadRect, View.ld_unit_zero (S := S1040x512) hz]
  rfl

theorem out_B (c : Dev nD) (i : grid0.Coords) (arg2 : Memref sig .tc .vmem S1040x4096 .bf16) (harg2 : arg2.IsWhole)
    (arg3 : Memref sig .tc .vmem S1x4096x512 .f32) (harg3 : arg3.IsWhole)
    (arg4 : Memref sig .tc .vmem S1040x512 .f32) (harg4 : arg4.IsWhole)
    (arg5 : Memref sig .tc .vmem S1040x512 .f32) (harg5 : arg5.IsWhole)
    (arg6 : Memref sig .tc .vmem S4096x512 .bf16) (harg6 : arg6.IsWhole)
    (hc0 : ¬cond0_0 i) (hc1 : cond0_1 i) (x0 : Vec F S1040x4096 .bf16) (x1 : Vec F S1x4096x512 .f32) (x2 : Vec F S1040x512 .f32) (xs0 : Vec F S4096x512 .bf16) :
    out0_B_3 c i arg2 harg2 arg3 harg3 arg4 harg4 arg5 harg5 arg6 harg6 hc0 hc1 x0 x1 x2 xs0 = k0_pay4 x0 xs0 x2 := by
  unfold out0_B_3
  rw [View.read_writes_eq_canon _ _ _ (cover0_B_3 c i arg2 harg2 arg3 harg3 arg4 harg4 arg5 harg5 arg6 harg6 hc0 hc1 x0 x1 x2 xs0)]
  unfold kernelRun0_B
  dsimp only
  rw [View.canon_unit_zero hz]
  simp only [View.readAt_eq_ld, harg2.read_unread, harg6.read_unread, harg4.read_unread, View.ld_unit_zero (S := S1040x4096) hz, View.ld_unit_zero (S := S4096x512) hz,
    View.ld_unit_zero (S := S1040x512) hz]

theorem sout_A (c : Dev nD) (i : grid0.Coords) (arg2 : Memref sig .tc .vmem S1040x4096 .bf16) (harg2 : arg2.IsWhole)
    (arg3 : Memref sig .tc .vmem S1x4096x512 .f32) (harg3 : arg3.IsWhole)
    (arg4 : Memref sig .tc .vmem S1040x512 .f32) (harg4 : arg4.IsWhole)
    (arg5 : Memref sig .tc .vmem S1040x512 .f32) (harg5 : arg5.IsWhole)
    (arg6 : Memref sig .tc .vmem S4096x512 .bf16) (harg6 : arg6.IsWhole)
    (hc0 : cond0_0 i) (hc1 : ¬cond0_1 i) (x0 : Vec F S1040x4096 .bf16) (x1 : Vec F S1x4096x512 .f32) (x2 : Vec F S1040x512 .f32) :
    sout0_A_0 c i arg2 harg2 arg3 harg3 arg4 harg4 arg5 harg5 arg6 harg6 hc0 hc1 x0 x1 x2 = castW x1 := by
  have hcov := scover0_A_0 c i arg2 harg2 arg3 harg3 arg4 harg4 arg5 harg5 arg6 harg6 hc0 hc1 x0 x1 x2
  funext y
  have hy := hcov y
  unfold sout0_A_0
  rw [View.read_writes_eq_canon _ _ _ hcov]
  revert hy
  unfold kernelRun0_A
  dsimp only
  sl_unfold_words
  simp only [View.readAt_eq_ld, harg2.read_unread, harg3.read_unread]
  intro hy
  refine View.canon_apply_of_pieces (castW x1) _ (fun p hp => ?_) y hy
  simp only [List.mem_cons, List.mem_nil_iff, or_false] at hp
  rcases hp with rfl | rfl | rfl | rfl | rfl | rfl | rfl | rfl
  · exact fun x => chunk_apply 3584 _ inb_S4096x512_S512x512_3584_0 x1 x
  · exact fun x => chunk_apply 3072 _ inb_S4096x512_S512x512_3072_0 x1 x
  · exact fun x => chunk_apply 2560 _ inb_S4096x512_S512x512_2560_0 x1 x
  · exact fun x => chunk_apply 2048 _ inb_S4096x512_S512x512_2048_0 x1 x
  · exact fun x => chunk_apply 1536 _ inb_S4096x512_S512x512_1536_0 x1 x
  · exact fun x => chunk_apply 1024 _ inb_S4096x512_S512x512_1024_0 x1 x
  · exact fun x => chunk_apply 512 _ inb_S4096x512_S512x512_512_0 x1 x
  · exact fun x => chunk_apply 0 _ inb_S4096x512_S512x512_0_0 x1 x

/-! ## Over the extended reals -/

/-- One chunk's product. -/
def mm (A : FVec Ideal S1040x512 .bf16) (B : FVec Ideal S512x512 .bf16) : FVec Ideal S1040x512 .f32 :=
  matmul (φ₁ := .bf16) (φ₂ := .bf16) dot_S1040x512_S512x512_S1040x512_1_0_0_1_n_n none A B (constant S1040x512 .f32 0x00000000#32)

theorem mm_at (A : FVec Ideal S1040x512 .bf16) (B : FVec Ideal S512x512 .bf16) (a : Fin 1040) (b : Fin 512) :
    (mm A B (ix2 a b) : EReal) = ∑ k : Fin 512, (A (ix2 a k) : EReal) * (B (ix2 k b) : EReal) := by
  pointwise [mm]

theorem chunk_mm (s : Fin 8) (o : ℕ) (ho : o = s.val * 512) (inbX : ∀ a, (![0, o] : Fin 2 → ℕ) a + S1040x512.size a ≤ S1040x4096.size a)
    (inbS : ∀ a, (![o, 0] : Fin 2 → ℕ) a + S512x512.size a ≤ S4096x512.size a)
    (X : Vec Ideal S1040x4096 .bf16) (C : Vec Ideal S4096x512 .bf16) (B : Vec Ideal S512x512 .bf16)
    (hB : ∀ x, B x = C ((Rect.unit (s := S4096x512) ![o, 0] S512x512.size inbS).emb x)) (a : Fin 1040) (b : Fin 512) :
    (mm (View.ld (Val := Elt Ideal) X (Rect.unit (s := S1040x4096) ![0, o] S1040x512.size inbX)) B (ix2 a b) : EReal)
      = part (fun k => X (ix2 a k)) (fun k => C (ix2 k b)) s := by
  subst ho
  rw [mm_at]
  unfold part
  refine Finset.sum_congr rfl fun k _ => ?_
  rw [hB]
  refine congrArg₂ (fun p q : EReal => p * q) ?_ ?_
  · show X _ = X _
    refine congrArg X ?_
    funext i; apply Fin.ext
    fin_cases i
    · show 0 + 1 * a.val = a.val; omega
    · show s.val * 512 + 1 * k.val = s.val * 512 + k.val; omega
  · refine congrArg C ?_
    funext i; apply Fin.ext
    fin_cases i
    · show s.val * 512 + 1 * k.val = s.val * 512 + k.val; omega
    · show 0 + 1 * b.val = b.val; omega

variable (X : Vec Ideal S1040x4096 .bf16) (W : Vec Ideal S1x4096x512 .f32) (E0 : Vec Ideal S1040x512 .f32)

/-- The product, chunk after chunk. -/
def acc : FVec Ideal S1040x512 .f32 :=
  addf (addf (addf (addf (addf (addf (addf (mm (x0 X) (w0 W)) (mm (x1 X) (w1 W))) (mm (x2 X) (w2 W))) (mm (x3 X) (w3 W))) (mm (x4 X) (w4 W)))
      (mm (x5 X) (w5 W))) (mm (x6 X) (w6 W))) (mm (x7 X) (w7 W))

/-- An entry of the result, of the product's entry and the extra operands'. -/
def ep (d e0 : EReal) : EReal := e0 + d

theorem outF_eq : outF X W E0 = addf E0 (acc X W) := by
  unfold outF k0_pay3 k0_pay11 k0_pay7 acc mm
  rfl

theorem acc_at (a : Fin 1040) (b : Fin 512) : (acc X W (ix2 a b) : EReal) = dotE (fun k => X (ix2 a k)) (fun k => W (ix3 0 k b)) := by
  unfold acc
  refine Eq.trans ?_ (dotE_parts (fun k => X (ix2 a k)) (fun k => castW W (ix2 k b)))
  rw [← chunk_mm 0 0 rfl inb_S1040x4096_S1040x512_0_0 inb_S4096x512_S512x512_0_0 X (castW W) (w0 W) (fun x => chunk_apply 0 _ _ W x) a b,
    ← chunk_mm 1 512 rfl inb_S1040x4096_S1040x512_0_512 inb_S4096x512_S512x512_512_0 X (castW W) (w1 W) (fun x => chunk_apply 512 _ _ W x) a b,
    ← chunk_mm 2 1024 rfl inb_S1040x4096_S1040x512_0_1024 inb_S4096x512_S512x512_1024_0 X (castW W) (w2 W) (fun x => chunk_apply 1024 _ _ W x) a b,
    ← chunk_mm 3 1536 rfl inb_S1040x4096_S1040x512_0_1536 inb_S4096x512_S512x512_1536_0 X (castW W) (w3 W) (fun x => chunk_apply 1536 _ _ W x) a b,
    ← chunk_mm 4 2048 rfl inb_S1040x4096_S1040x512_0_2048 inb_S4096x512_S512x512_2048_0 X (castW W) (w4 W) (fun x => chunk_apply 2048 _ _ W x) a b,
    ← chunk_mm 5 2560 rfl inb_S1040x4096_S1040x512_0_2560 inb_S4096x512_S512x512_2560_0 X (castW W) (w5 W) (fun x => chunk_apply 2560 _ _ W x) a b,
    ← chunk_mm 6 3072 rfl inb_S1040x4096_S1040x512_0_3072 inb_S4096x512_S512x512_3072_0 X (castW W) (w6 W) (fun x => chunk_apply 3072 _ _ W x) a b,
    ← chunk_mm 7 3584 rfl inb_S1040x4096_S1040x512_0_3584 inb_S4096x512_S512x512_3584_0 X (castW W) (w7 W) (fun x => chunk_apply 3584 _ _ W x) a b]
  rfl

theorem outF_at (a : Fin 1040) (b : Fin 512) :
    (outF X W E0 (ix2 a b) : EReal) = ep (dotE (fun k => X (ix2 a k)) (fun k => W (ix3 0 k b))) (E0 (ix2 a b)) := by
  rw [outF_eq, ← acc_at]
  unfold ep
  rfl

theorem whole_at (a : Fin 1040) (b : Fin 512) :
    (k0_pay4 X (castW W) E0 (ix2 a b) : EReal) = ep (dotE (fun k => X (ix2 a k)) (fun k => W (ix3 0 k b))) (E0 (ix2 a b)) := by
  unfold ep dotE
  pointwise [k0_pay4, castW]

end Cert.Kernel12Ideal.Mix

end
-- ==== Proof.MixOutAlgebra.lean ====
module

public import proofs.«01_k».proof.Defs
public import proofs.«01_k».proof.Proof.MixOutVal
public import proofs.«01_k».proof.Proof.Gen.Kernel12.Frame
public import proofs.«01_k».proof.Proof.Gen.Reference12Ideal.Run
public import Idealize.ShloMosaic.Lib.Pipeline.ValueKit.Geometry

/-! The projection after the merge: the run and the reference's, with one and the same result. -/

@[expose] public section

set_option maxRecDepth 16384

noncomputable section

namespace Cert.Kernel12Ideal.Mix

open Cert.Kernel12Ideal Cert.Kernel12Ideal.Gen
open Idealize.ShloMosaic Idealize.ShloMosaic.TcCoe Idealize.ShloMosaic.Tactic Idealize.SL.Sem
open Cert.Kernel2Ideal.Up (dotE)

/-! ## Which blocks a point sees -/

theorem idxIn : ∀ t : Fin grid0.N, cc0_transform_0 (grid0.coords t) = ![t.val % 8, 0] := by decide +kernel
theorem idxWt : ∀ t : Fin grid0.N, cc0_transform_1 (grid0.coords t) = ![0, 0, t.val / 8] := by decide +kernel
theorem idxE0 : ∀ t : Fin grid0.N, cc0_transform_2 (grid0.coords t) = ![t.val % 8, t.val / 8] := by decide +kernel
theorem idxOut : ∀ t : Fin grid0.N, cc0_transform_3 (grid0.coords t) = ![t.val % 8, t.val / 8] := by decide +kernel
theorem flushOut : ∀ t : Fin grid0.N, Pipeline.Window.flushOf grid0 true cc0_transform_3 t = true := by decide +kernel

theorem idx0 (t : Fin cfg0.N) : (cfg0.win 0).index t = ![t.val % 8, 0] := idxIn t
theorem idx1 (t : Fin cfg0.N) : (cfg0.win 1).index t = ![0, 0, t.val / 8] := idxWt t
theorem idx2 (t : Fin cfg0.N) : (cfg0.win 2).index t = ![t.val % 8, t.val / 8] := idxE0 t
theorem idx3 (t : Fin cfg0.N) : (cfg0.win 3).index t = ![t.val % 8, t.val / 8] := idxOut t
theorem flush3 (t : Fin cfg0.N) : (cfg0.win 3).flush t = true := flushOut t

variable {F : FTy → Type} [FloatOps F] (m : (ℓ : Loc nD τ sig) → Buf (Elt F) ℓ)

theorem blk0_apply (c : Dev nD) (t : Fin cfg0.N) (a : Fin 1040) (k : Fin 4096) :
    (iblk m c 0 t : Vec F S1040x4096 .bf16) (ix2 a k)
      = V m c main_arg0 (ix2 (n0 := 8320) (n1 := 4096) ⟨t.val % 8 * 1040 + a.val, by have := a.isLt; omega⟩ k) := by
  show V m c main_arg0 _ = V m c main_arg0 _
  blk_ext [iblk, idx0 t]

theorem blk1_apply (c : Dev nD) (t : Fin cfg0.N) (k : Fin 4096) (b : Fin 512) :
    (iblk m c 1 t : Vec F S1x4096x512 .f32) (ix3 0 k b)
      = V m c main_arg1 (ix3 (n0 := 2) (n1 := 4096) (n2 := 4096) 0 k
          ⟨t.val / 8 * 512 + b.val, by have := b.isLt; have : t.val < 64 := t.isLt; omega⟩) := by
  show V m c main_arg1 _ = V m c main_arg1 _
  blk_ext [iblk, idx1 t]

theorem blk2_apply (c : Dev nD) (t : Fin cfg0.N) (a : Fin 1040) (b : Fin 512) :
    (iblk m c 2 t : Vec F S1040x512 .f32) (ix2 a b)
      = V m c main_arg2 (ix2 (n0 := 8320) (n1 := 4096) ⟨t.val % 8 * 1040 + a.val, by have := a.isLt; omega⟩
          ⟨(t.val / 8) * 512 + b.val, by have := b.isLt; have : t.val < 64 := t.isLt; omega⟩) := by
  show V m c main_arg2 _ = V m c main_arg2 _
  blk_ext [iblk, idx2 t]

/-! ## What the scratch buffer holds between points: the cast weights of the column block -/

theorem weights_keep (c : Dev nD) (t u : Fin cfg0.N) (h : t.val / 8 = u.val / 8) :
    castW (iblk m c 1 t) = castW (iblk m c 1 u) := by
  funext y; unfold castW; refine congrArg _ ?_
  refine (blk1_apply m c t (y 0) (y 1)).trans (Eq.trans ?_ (blk1_apply m c u (y 0) (y 1)).symm)
  refine congrArg (V m c main_arg1) ?_
  funext k; apply Fin.ext; fin_cases k
  · rfl
  · rfl
  · exact congrArg (fun z => z * 512 + (y 1).val) h

theorem scratch_A (c : Dev nD) (t : Fin cfg0.N) (h : t.val % 8 = 0) : (outsAt0 m c t.val t.isLt).2 = castW (iblk m c 1 t) := by
  rw [outsAt0_A m c t h (by omega)]
  dsimp only
  rw [sout_A]

theorem scratch_B (c : Dev nD) (t : Fin cfg0.N) (h : ¬t.val % 8 = 0) :
    (outsAt0 m c t.val t.isLt).2 = (outsAt0 m c (t.val - 1) (Nat.lt_of_le_of_lt (Nat.sub_le _ _) t.isLt)).2 := by
  rw [outsAt0_B m c t h (by omega)]
  dsimp only
  unfold sout0_B_0
  rfl

theorem scratch_eq (c : Dev nD) : ∀ (n : ℕ) (t : Fin cfg0.N), t.val = n → (outsAt0 m c t.val t.isLt).2 = castW (iblk m c 1 t) := by
  intro n
  induction n with
  | zero => exact fun t ht => scratch_A m c t (by omega)
  | succ n ih =>
    intro t ht
    by_cases h : t.val % 8 = 0
    · exact scratch_A m c t h
    · have e := ih ⟨t.val - 1, Nat.lt_of_le_of_lt (Nat.sub_le _ _) t.isLt⟩ (show t.val - 1 = n by omega)
      exact (scratch_B m c t h).trans (e.trans (weights_keep m c _ t (show (t.val - 1) / 8 = t.val / 8 by omega)))

/-! ## The result -/

/-- What a point leaves of the result, entry by entry. -/
theorem out_at (m : (ℓ : Loc nD τ sig) → Buf (Elt Ideal) ℓ) (c : Dev nD) (t : Fin cfg0.N) (a : Fin 1040) (b : Fin 512) :
    ((outsAt0 m c t.val t.isLt).1 (ix2 a b) : EReal)
      = ep (dotE (fun k => (iblk m c 0 t : Vec Ideal S1040x4096 .bf16) (ix2 a k)) (fun k => (iblk m c 1 t : Vec Ideal S1x4096x512 .f32) (ix3 0 k b)))
          ((iblk m c 2 t : Vec Ideal S1040x512 .f32) (ix2 a b)) := by
  by_cases h : t.val % 8 = 0
  · rw [outsAt0_A m c t h (by omega)]
    dsimp only
    rw [out_A]
    exact outF_at _ _ _ a b
  · rw [outsAt0_B m c t h (by omega)]
    dsimp only
    rw [out_B, ← scratch_B m c t h, scratch_eq m c t.val t rfl]
    exact whole_at _ _ _ a b

/-- The result, entry by entry: the layer's input and a row of the merge against a column of the layer's weights. -/
def res (x : FVec Ideal S8320x4096 .bf16) (w : FVec Ideal S2x4096x4096 .f32) (e0 : FVec Ideal S8320x4096 .f32) : FVec Ideal S8320x4096 .f32 := fun i =>
  (ep (dotE (fun k => x (ix2 (i 0) k)) (fun k => w (ix3 0 k (i 1)))) (e0 (ix2 (i 0) (i 1))) : EReal)

theorem covers3 : (cfg0.win 3).Covers := by
  refine ⟨(by decide : ∀ a : Fin 2, 0 < S1040x512.size a), fun β => ?_⟩
  have h0 : (β (0 : Fin 2)).val < 8 := lt_of_lt_of_eq (β (0 : Fin 2)).isLt (show (S8320x4096.size 0 + S1040x512.size 0 - 1) / S1040x512.size 0 = 8 by decide)
  have h1 : (β (1 : Fin 2)).val < 8 := lt_of_lt_of_eq (β (1 : Fin 2)).isLt (show (S8320x4096.size 1 + S1040x512.size 1 - 1) / S1040x512.size 1 = 8 by decide)
  refine ⟨⟨8 * (β (1 : Fin 2)).val + (β (0 : Fin 2)).val, lt_of_lt_of_eq (by omega : _ < 64) N_0.symm⟩, flush3 _, fun a => ⟨?_, Or.inl rfl⟩⟩
  rw [idx3]
  match a with
  | ⟨0, _⟩ => show (8 * (β (1 : Fin 2)).val + (β (0 : Fin 2)).val) % 8 = (β (0 : Fin 2)).val; omega
  | ⟨1, _⟩ => show (8 * (β (1 : Fin 2)).val + (β (0 : Fin 2)).val) / 8 = (β (1 : Fin 2)).val; omega

theorem ep_congr {d d' e0 e0' : EReal} (h : d = d') (h0 : e0 = e0') : ep d e0 = ep d' e0' := by
  subst h h0
  rfl

theorem entry_at (m : (ℓ : Loc nD τ sig) → Buf (Elt Ideal) ℓ) (c : Dev nD) (t : Fin cfg0.N) (a : Fin 1040) (b : Fin 512)
    (r : Fin 8320) (j : Fin 4096) (hr : r.val = t.val % 8 * 1040 + a.val) (hj : j.val = t.val / 8 * 512 + b.val) :
    ((outsAt0 m c t.val t.isLt).1 (ix2 a b) : EReal) = res (V m c main_arg0) (V m c main_arg1) (V m c main_arg2) (ix2 r j) := by
  refine (out_at m c t a b).trans ?_
  unfold res
  refine ep_congr (congrArg₂ dotE (funext fun k => ?_) (funext fun k => ?_)) ?_
  · refine (blk0_apply m c t a k).trans (congrArg (fun z => V m c main_arg0 (ix2 (n0 := 8320) (n1 := 4096) z k)) (Fin.ext ?_))
    exact hr.symm
  · refine (blk1_apply m c t k b).trans (congrArg (fun z => V m c main_arg1 (ix3 (n0 := 2) (n1 := 4096) (n2 := 4096) 0 k z)) (Fin.ext ?_))
    exact hj.symm
  · refine (blk2_apply m c t a b).trans (congrArg₂ (fun y z => V m c main_arg2 (ix2 (n0 := 8320) (n1 := 4096) y z)) (Fin.ext hr.symm) (Fin.ext ?_))
    exact hj.symm

/-- The result's array after the whole run. -/
theorem arr_out (m : (ℓ : Loc nD τ sig) → Buf (Elt Ideal) ℓ) (c : Dev nD) :
    (dats m 0 c).arrAt 3 cfg0.N = res (V m c main_arg0) (V m c main_arg1) (V m c main_arg2) := by
  refine Pipeline.Dat.arrAt_eq_of_covers (dats m 0 c) 3 _ covers3 (fun t _ y => ?_)
  obtain ⟨a, b, hy⟩ : ∃ a b, (cfg0.win 3).xinj (cfg0.grid.coords t) y = ix2 a b := ⟨_, _, eq_ix2 (n0 := 1040) (n1 := 512) _⟩
  have h0 : (y (0 : Fin 2)).val = a.val := congrArg (fun x : S1040x512.Idx => (x 0).val) hy
  have h1 : (y (1 : Fin 2)).val = b.val := congrArg (fun x : S1040x512.Idx => (x 1).val) hy
  refine (congrFun (after0_3 m c t) _).trans ?_
  rw [hy]
  obtain ⟨r, j, hz⟩ : ∃ r j, ((cfg0.win 3).blk t).view.emb y = ix2 r j := ⟨_, _, eq_ix2 (n0 := 8320) (n1 := 4096) _⟩
  have g0 : r.val = t.val % 8 * 1040 + a.val := by
    rw [← h0, ← show (((cfg0.win 3).blk t).view.emb y (0 : Fin 2)).val = r.val from congrArg (fun x : S8320x4096.Idx => (x 0).val) hz]
    blk_simp [idx3 t]
  have g1 : j.val = t.val / 8 * 512 + b.val := by
    rw [← h1, ← show (((cfg0.win 3).blk t).view.emb y (1 : Fin 2)).val = j.val from congrArg (fun x : S8320x4096.Idx => (x 1).val) hz]
    blk_simp [idx3 t]
  refine (entry_at m c t a b r j g0 g1).trans ?_
  exact (congrArg (res (V m c main_arg0) (V m c main_arg1) (V m c main_arg2)) hz).symm

/-! ## The reference -/

theorem ref_eq (x : FVec Ideal S8320x4096 .bf16) (w : FVec Ideal S2x4096x4096 .f32) (e0 : FVec Ideal S8320x4096 .f32) :
    addf e0 (Host.dotGeneral (φ₁ := .f32) (φ₂ := .f32) Cert.Reference12Ideal.dot_S8320x4096_S4096x4096_S8320x4096_1_0_0_1_n_n none (extf .f32 x Cert.Reference12Ideal.Gen.bitsLt_bf16_f32)
      (shapeCast _ (extractStridedSlice Cert.Reference12Ideal.S1x4096x4096 ![0, 0, 0] w Cert.Reference12Ideal.Gen.slices_S2x4096x4096_S1x4096x4096_0_0_0) Cert.Reference12Ideal.Gen.shapeCasts_S1x4096x4096_S4096x4096)) = res x w e0 := by
  funext i
  obtain ⟨r, j, rfl⟩ : ∃ r j, i = ix2 r j := ⟨_, _, eq_ix2 (n0 := 8320) (n1 := 4096) i⟩
  unfold res ep dotE
  pointwise []

/-! ## The claims -/

theorem frame_kernel12 : Cert.quiescent_Kernel12 := fun m ρ _ => Cert.Kernel12.Gen.frame m ρ

theorem frame_ideal12 : Cert.quiescent_Kernel12Ideal := fun m ρ _ => Cert.Kernel12Ideal.Gen.frame m ρ

theorem frame_reference12 : Cert.quiescent_Reference12Ideal := fun m ρ _ =>
  (θ_run Cert.Reference12Ideal.defs _ _).mono
    (fun r h => ⟨fun c => (h c).2, sem_eq_zero_of_no_sems (by decide) r.2⟩)
    (Cert.Reference12Ideal.Value.run (F := Ideal) m ρ)

theorem algebraic12 : Cert.algebraic_Kernel12Ideal_Reference12Ideal := by
  intro m g m' g' hp hm
  refine ⟨fun c => res (m ((c : Thread nD τ).loc main_arg0)) (m ((c : Thread nD τ).loc main_arg1)) (m ((c : Thread nD τ).loc main_arg2)), ?_, ?_⟩
  · refine (θ_run defs _ _).mono (fun r hr c => ⟨(hr c).1.trans ((arr_out m c).trans ?_), (hr c).2⟩) (Cert.Kernel12Ideal.Value.run_blocks (F := Ideal) m g)
    rw [V_main_arg0, V_main_arg1, V_main_arg2]
  · refine (θ_run Cert.Reference12Ideal.defs _ _).mono (fun r hr c => ⟨(hr c).1.trans ?_, (hr c).2⟩) (Cert.Reference12Ideal.Value.run (F := Ideal) m' g')
    obtain ⟨e0, e1, e2⟩ := hm c
    rw [e0, e1, e2]
    exact ref_eq _ _ _

end Cert.Kernel12Ideal.Mix

end
-- ==== Proof.SconvOutVal.lean ====
module

public import proofs.«01_k».proof.Proof.Gen.Kernel13Ideal.Value
public import proofs.«01_k».proof.Proof.UpVal
public import Idealize.ShloMosaic.Lib.Pipeline.Value
public import Idealize.ShloMosaic.Lib.Pipeline.ValueKit
public import Idealize.ShloMosaic.Lib.ValueLayout
public import Idealize.ShloMosaic.Lib.Pointwise
public import Idealize.ShloMosaic.Lib.Tactic

/-! The short convolution's output projection: what a run of the body leaves, entry by entry. -/

@[expose] public section

set_option maxRecDepth 16384

noncomputable section

namespace Cert.Kernel13Ideal.Sconv

open Cert.Kernel13Ideal Cert.Kernel13Ideal.Gen
open Idealize.ShloMosaic Idealize.ShloMosaic.TcCoe
open Cert.Kernel2Ideal.Up (part dotE dotE_parts)

variable {F : FTy → Type} [FloatOps F]

theorem hz : (![0, 0] : Fin 2 → Nat) = fun _ => 0 := funext fun a => by fin_cases a <;> rfl

/-- A block of weights at the narrower type, as a matrix. -/
def castW (X : Vec F S1x4096x512 .f32) : Vec F S4096x512 .bf16 :=
  fun y => FloatOps.truncf .bf16 bitsLt_bf16_f32 (X (ix3 (n0 := 1) (n1 := 4096) (n2 := 512) 0 (y 0) (y 1)))

/-- A chunk of 512 rows, cast, is those rows of the cast block. -/
theorem chunk_apply (o : ℕ) (inb : ∀ a, (![0, o, 0] : Fin 3 → ℕ) a + S1x512x512.size a ≤ S1x4096x512.size a)
    (inb' : ∀ a, (![o, 0] : Fin 2 → ℕ) a + S512x512.size a ≤ S4096x512.size a) (X : Vec F S1x4096x512 .f32) (x : S512x512.Idx) :
    shapeCast S512x512 (truncf (F := F) .bf16 (shapeCast S512x512
        (View.ld (Val := Elt F) X (Rect.unit (s := S1x4096x512) ![0, o, 0] S1x512x512.size inb)) shapeCasts_S1x512x512_S512x512) bitsLt_bf16_f32)
      shapeCasts_S512x512_S512x512 x
      = castW X ((Rect.unit (s := S4096x512) ![o, 0] S512x512.size inb').emb x) := by
  rw [shapeCast_self]
  obtain ⟨a, b, rfl⟩ : ∃ a b, x = ix2 a b := ⟨_, _, eq_ix2 (n0 := 512) (n1 := 512) x⟩
  show FloatOps.truncf .bf16 bitsLt_bf16_f32 (shapeCast (α := F .f32) S512x512 _ shapeCasts_S1x512x512_S512x512 (ix2 a b)) = _
  have e := shapeCast_apply (View.ld (Val := Elt F) X (Rect.unit (s := S1x4096x512) ![0, o, 0] S1x512x512.size inb))
    shapeCasts_S1x512x512_S512x512 (ix2 a b) (ix3 (n0 := 1) (n1 := 512) (n2 := 512) 0 a b) (by
      rw [Shape.rowMajor_val_three, Shape.rowMajor_val_two]
      show (0 * 512 + a.val) * 512 + b.val = a.val * 512 + b.val
      omega)
  refine (congrArg _ e).trans ?_
  unfold castW
  refine congrArg (fun z => FloatOps.truncf .bf16 bitsLt_bf16_f32 (X z)) ?_
  funext k
  apply Fin.ext
  fin_cases k
  · rfl
  · rfl
  · rfl

/-! ## The chunks of weights, cast, and of rows -/

def w0 (X : Vec F S1x4096x512 .f32) : FVec F S512x512 .bf16 := k0_pay5 (View.ld X (Rect.unit (s := S1x4096x512) ![0, 0, 0] S1x512x512.size inb_S1x4096x512_S1x512x512_0_0_0))
def x0 (X : Vec F S1040x4096 .bf16) : Vec F S1040x512 .bf16 := View.ld X (Rect.unit (s := S1040x4096) ![0, 0] S1040x512.size inb_S1040x4096_S1040x512_0_0)
def w1 (X : Vec F S1x4096x512 .f32) : FVec F S512x512 .bf16 := k0_pay6 (View.ld X (Rect.unit (s := S1x4096x512) ![0, 512, 0] S1x512x512.size inb_S1x4096x512_S1x512x512_0_512_0))
def x1 (X : Vec F S1040x4096 .bf16) : Vec F S1040x512 .bf16 := View.ld X (Rect.unit (s := S1040x4096) ![0, 512] S1040x512.size inb_S1040x4096_S1040x512_0_512)
def w2 (X : Vec F S1x4096x512 .f32) : FVec F S512x512 .bf16 := k0_pay8 (View.ld X (Rect.unit (s := S1x4096x512) ![0, 1024, 0] S1x512x512.size inb_S1x4096x512_S1x512x512_0_1024_0))
def x2 (X : Vec F S1040x4096 .bf16) : Vec F S1040x512 .bf16 := View.ld X (Rect.unit (s := S1040x4096) ![0, 1024] S1040x512.size inb_S1040x4096_S1040x512_0_1024)
def w3 (X : Vec F S1x4096x512 .f32) : FVec F S512x512 .bf16 := k0_pay9 (View.ld X (Rect.unit (s := S1x4096x512) ![0, 1536, 0] S1x512x512.size inb_S1x4096x512_S1x512x512_0_1536_0))
def x3 (X : Vec F S1040x4096 .bf16) : Vec F S1040x512 .bf16 := View.ld X (Rect.unit (s := S1040x4096) ![0, 1536] S1040x512.size inb_S1040x4096_S1040x512_0_1536)
def w4 (X : Vec F S1x4096x512 .f32) : FVec F S512x512 .bf16 := k0_pay10 (View.ld X (Rect.unit (s := S1x4096x512) ![0, 2048, 0] S1x512x512.size inb_S1x4096x512_S1x512x512_0_2048_0))
def x4 (X : Vec F S1040x4096 .bf16) : Vec F S1040x512 .bf16 := View.ld X (Rect.unit (s := S1040x4096) ![0, 2048] S1040x512.size inb_S1040x4096_S1040x512_0_2048)
def w5 (X : Vec F S1x4096x512 .f32) : FVec F S512x512 .bf16 := k0_pay12 (View.ld X (Rect.unit (s := S1x4096x512) ![0, 2560, 0] S1x512x512.size inb_S1x4096x512_S1x512x512_0_2560_0))
def x5 (X : Vec F S1040x4096 .bf16) : Vec F S1040x512 .bf16 := View.ld X (Rect.unit (s := S1040x4096) ![0, 2560] S1040x512.size inb_S1040x4096_S1040x512_0_2560)
def w6 (X : Vec F S1x4096x512 .f32) : FVec F S512x512 .bf16 := k0_pay1 (View.ld X (Rect.unit (s := S1x4096x512) ![0, 3072, 0] S1x512x512.size inb_S1x4096x512_S1x512x512_0_3072_0))
def x6 (X : Vec F S1040x4096 .bf16) : Vec F S1040x512 .bf16 := View.ld X (Rect.unit (s := S1040x4096) ![0, 3072] S1040x512.size inb_S1040x4096_S1040x512_0_3072)
def w7 (X : Vec F S1x4096x512 .f32) : FVec F S512x512 .bf16 := k0_pay2 (View.ld X (Rect.unit (s := S1x4096x512) ![0, 3584, 0] S1x512x512.size inb_S1x4096x512_S1x512x512_0_3584_0))
def x7 (X : Vec F S1040x4096 .bf16) : Vec F S1040x512 .bf16 := View.ld X (Rect.unit (s := S1040x4096) ![0, 3584] S1040x512.size inb_S1040x4096_S1040x512_0_3584)

/-- What the body stores where it casts the weights. -/
def outF (X : Vec F S1040x4096 .bf16) (W : Vec F S1x4096x512 .f32) (E0 : Vec F S1040x512 .f32) : FVec F S1040x512 .f32 :=
  k0_pay3 (k0_pay11 (k0_pay7 (x0 X) (w0 W) (x1 X) (w1 W)) (x2 X) (w2 W) (constant S1040x512 .f32 0x00000000#32) (x3 X) (w3 W) (x4 X) (w4 W))
    (x5 X) (w5 W) (x6 X) (w6 W) (x7 X) (w7 W) E0

theorem out_A (c : Dev nD) (i : grid0.Coords) (arg2 : Memref sig .tc .vmem S1040x4096 .bf16) (harg2 : arg2.IsWhole)
    (arg3 : Memref sig .tc .vmem S1x4096x512 .f32) (harg3 : arg3.IsWhole)
    (arg4 : Memref sig .tc .vmem S1040x512 .f32) (harg4 : arg4.IsWhole)
    (arg5 : Memref sig .tc .vmem S1040x512 .f32) (harg5 : arg5.IsWhole)
    (arg6 : Memref sig .tc .vmem S4096x512 .bf16) (harg6 : arg6.IsWhole)
    (hc0 : cond0_0 i) (hc1 : ¬cond0_1 i) (x0 : Vec F S1040x4096 .bf16) (x1 : Vec F S1x4096x512 .f32) (x2 : Vec F S1040x512 .f32) :
    out0_A_3 c i arg2 harg2 arg3 harg3 arg4 harg4 arg5 harg5 arg6 harg6 hc0 hc1 x0 x1 x2 = outF x0 x1 x2 := by
  unfold out0_A_3
  rw [View.read_writes_eq_canon _ _ _ (cover0_A_3 c i arg2 harg2 arg3 harg3 arg4 harg4 arg5 harg5 arg6 harg6 hc0 hc1 x0 x1 x2)]
  unfold kernelRun0_A
  dsimp only
  rw [View.canon_unit_zero hz]
  sl_unfold_words
  simp only [View.readAt_eq_ld, harg2.read_unread, harg3.read_unread, harg4.read_unread, View.readCov_cons_toLoadRect, View.ld_unit_zero (S := S1040x512) hz]
  rfl

theorem out_B (c : Dev nD) (i : grid0.Coords) (arg2 : Memref sig .tc .vmem S1040x4096 .bf16) (harg2 : arg2.IsWhole)
    (arg3 : Memref sig .tc .vmem S1x4096x512 .f32) (harg3 : arg3.IsWhole)
    (arg4 : Memref sig .tc .vmem S1040x512 .f32) (harg4 : arg4.IsWhole)
    (arg5 : Memref sig .tc .vmem S1040x512 .f32) (harg5 : arg5.IsWhole)
    (arg6 : Memref sig .tc .vmem S4096x512 .bf16) (harg6 : arg6.IsWhole)
    (hc0 : ¬cond0_0 i) (hc1 : cond0_1 i) (x0 : Vec F S1040x4096 .bf16) (x1 : Vec F S1x4096x512 .f32) (x2 : Vec F S1040x512 .f32) (xs0 : Vec F S4096x512 .bf16) :
    out0_B_3 c i arg2 harg2 arg3 harg3 arg4 harg4 arg5 harg5 arg6 harg6 hc0 hc1 x0 x1 x2 xs0 = k0_pay4 x0 xs0 x2 := by
  unfold out0_B_3
  rw [View.read_writes_eq_canon _ _ _ (cover0_B_3 c i arg2 harg2 arg3 harg3 arg4 harg4 arg5 harg5 arg6 harg6 hc0 hc1 x0 x1 x2 xs0)]
  unfold kernelRun0_B
  dsimp only
  rw [View.canon_unit_zero hz]
  simp only [View.readAt_eq_ld, harg2.read_unread, harg6.read_unread, harg4.read_unread, View.ld_unit_zero (S := S1040x4096) hz, View.ld_unit_zero (S := S4096x512) hz,
    View.ld_unit_zero (S := S1040x512) hz]

theorem sout_A (c : Dev nD) (i : grid0.Coords) (arg2 : Memref sig .tc .vmem S1040x4096 .bf16) (harg2 : arg2.IsWhole)
    (arg3 : Memref sig .tc .vmem S1x4096x512 .f32) (harg3 : arg3.IsWhole)
    (arg4 : Memref sig .tc .vmem S1040x512 .f32) (harg4 : arg4.IsWhole)
    (arg5 : Memref sig .tc .vmem S1040x512 .f32) (harg5 : arg5.IsWhole)
    (arg6 : Memref sig .tc .vmem S4096x512 .bf16) (harg6 : arg6.IsWhole)
    (hc0 : cond0_0 i) (hc1 : ¬cond0_1 i) (x0 : Vec F S1040x4096 .bf16) (x1 : Vec F S1x4096x512 .f32) (x2 : Vec F S1040x512 .f32) :
    sout0_A_0 c i arg2 harg2 arg3 harg3 arg4 harg4 arg5 harg5 arg6 harg6 hc0 hc1 x0 x1 x2 = castW x1 := by
  have hcov := scover0_A_0 c i arg2 harg2 arg3 harg3 arg4 harg4 arg5 harg5 arg6 harg6 hc0 hc1 x0 x1 x2
  funext y
  have hy := hcov y
  unfold sout0_A_0
  rw [View.read_writes_eq_canon _ _ _ hcov]
  revert hy
  unfold kernelRun0_A
  dsimp only
  sl_unfold_words
  simp only [View.readAt_eq_ld, harg2.read_unread, harg3.read_unread]
  intro hy
  refine View.canon_apply_of_pieces (castW x1) _ (fun p hp => ?_) y hy
  simp only [List.mem_cons, List.mem_nil_iff, or_false] at hp
  rcases hp with rfl | rfl | rfl | rfl | rfl | rfl | rfl | rfl
  · exact fun x => chunk_apply 3584 _ inb_S4096x512_S512x512_3584_0 x1 x
  · exact fun x => chunk_apply 3072 _ inb_S4096x512_S512x512_3072_0 x1 x
  · exact fun x => chunk_apply 2560 _ inb_S4096x512_S512x512_2560_0 x1 x
  · exact fun x => chunk_apply 2048 _ inb_S4096x512_S512x512_2048_0 x1 x
  · exact fun x => chunk_apply 1536 _ inb_S4096x512_S512x512_1536_0 x1 x
  · exact fun x => chunk_apply 1024 _ inb_S4096x512_S512x512_1024_0 x1 x
  · exact fun x => chunk_apply 512 _ inb_S4096x512_S512x512_512_0 x1 x
  · exact fun x => chunk_apply 0 _ inb_S4096x512_S512x512_0_0 x1 x

/-! ## Over the extended reals -/

/-- One chunk's product. -/
def mm (A : FVec Ideal S1040x512 .bf16) (B : FVec Ideal S512x512 .bf16) : FVec Ideal S1040x512 .f32 :=
  matmul (φ₁ := .bf16) (φ₂ := .bf16) dot_S1040x512_S512x512_S1040x512_1_0_0_1_n_n none A B (constant S1040x512 .f32 0x00000000#32)

theorem mm_at (A : FVec Ideal S1040x512 .bf16) (B : FVec Ideal S512x512 .bf16) (a : Fin 1040) (b : Fin 512) :
    (mm A B (ix2 a b) : EReal) = ∑ k : Fin 512, (A (ix2 a k) : EReal) * (B (ix2 k b) : EReal) := by
  pointwise [mm]

theorem chunk_mm (s : Fin 8) (o : ℕ) (ho : o = s.val * 512) (inbX : ∀ a, (![0, o] : Fin 2 → ℕ) a + S1040x512.size a ≤ S1040x4096.size a)
    (inbS : ∀ a, (![o, 0] : Fin 2 → ℕ) a + S512x512.size a ≤ S4096x512.size a)
    (X : Vec Ideal S1040x4096 .bf16) (C : Vec Ideal S4096x512 .bf16) (B : Vec Ideal S512x512 .bf16)
    (hB : ∀ x, B x = C ((Rect.unit (s := S4096x512) ![o, 0] S512x512.size inbS).emb x)) (a : Fin 1040) (b : Fin 512) :
    (mm (View.ld (Val := Elt Ideal) X (Rect.unit (s := S1040x4096) ![0, o] S1040x512.size inbX)) B (ix2 a b) : EReal)
      = part (fun k => X (ix2 a k)) (fun k => C (ix2 k b)) s := by
  subst ho
  rw [mm_at]
  unfold part
  refine Finset.sum_congr rfl fun k _ => ?_
  rw [hB]
  refine congrArg₂ (fun p q : EReal => p * q) ?_ ?_
  · show X _ = X _
    refine congrArg X ?_
    funext i; apply Fin.ext
    fin_cases i
    · show 0 + 1 * a.val = a.val; omega
    · show s.val * 512 + 1 * k.val = s.val * 512 + k.val; omega
  · refine congrArg C ?_
    funext i; apply Fin.ext
    fin_cases i
    · show s.val * 512 + 1 * k.val = s.val * 512 + k.val; omega
    · show 0 + 1 * b.val = b.val; omega

variable (X : Vec Ideal S1040x4096 .bf16) (W : Vec Ideal S1x4096x512 .f32) (E0 : Vec Ideal S1040x512 .f32)

/-- The product, chunk after chunk. -/
def acc : FVec Ideal S1040x512 .f32 :=
  addf (addf (addf (addf (addf (addf (addf (mm (x0 X) (w0 W)) (mm (x1 X) (w1 W))) (mm (x2 X) (w2 W))) (mm (x3 X) (w3 W))) (mm (x4 X) (w4 W)))
      (mm (x5 X) (w5 W))) (mm (x6 X) (w6 W))) (mm (x7 X) (w7 W))

/-- An entry of the result, of the product's entry and the extra operands'. -/
def ep (d e0 : EReal) : EReal := e0 * d

theorem outF_eq : outF X W E0 = mulf (acc X W) E0 := by
  unfold outF k0_pay3 k0_pay11 k0_pay7 acc mm
  rfl

theorem acc_at (a : Fin 1040) (b : Fin 512) : (acc X W (ix2 a b) : EReal) = dotE (fun k => X (ix2 a k)) (fun k => W (ix3 0 k b)) := by
  unfold acc
  refine Eq.trans ?_ (dotE_parts (fun k => X (ix2 a k)) (fun k => castW W (ix2 k b)))
  rw [← chunk_mm 0 0 rfl inb_S1040x4096_S1040x512_0_0 inb_S4096x512_S512x512_0_0 X (castW W) (w0 W) (fun x => chunk_apply 0 _ _ W x) a b,
    ← chunk_mm 1 512 rfl inb_S1040x4096_S1040x512_0_512 inb_S4096x512_S512x512_512_0 X (castW W) (w1 W) (fun x => chunk_apply 512 _ _ W x) a b,
    ← chunk_mm 2 1024 rfl inb_S1040x4096_S1040x512_0_1024 inb_S4096x512_S512x512_1024_0 X (castW W) (w2 W) (fun x => chunk_apply 1024 _ _ W x) a b,
    ← chunk_mm 3 1536 rfl inb_S1040x4096_S1040x512_0_1536 inb_S4096x512_S512x512_1536_0 X (castW W) (w3 W) (fun x => chunk_apply 1536 _ _ W x) a b,
    ← chunk_mm 4 2048 rfl inb_S1040x4096_S1040x512_0_2048 inb_S4096x512_S512x512_2048_0 X (castW W) (w4 W) (fun x => chunk_apply 2048 _ _ W x) a b,
    ← chunk_mm 5 2560 rfl inb_S1040x4096_S1040x512_0_2560 inb_S4096x512_S512x512_2560_0 X (castW W) (w5 W) (fun x => chunk_apply 2560 _ _ W x) a b,
    ← chunk_mm 6 3072 rfl inb_S1040x4096_S1040x512_0_3072 inb_S4096x512_S512x512_3072_0 X (castW W) (w6 W) (fun x => chunk_apply 3072 _ _ W x) a b,
    ← chunk_mm 7 3584 rfl inb_S1040x4096_S1040x512_0_3584 inb_S4096x512_S512x512_3584_0 X (castW W) (w7 W) (fun x => chunk_apply 3584 _ _ W x) a b]
  rfl

theorem outF_at (a : Fin 1040) (b : Fin 512) :
    (outF X W E0 (ix2 a b) : EReal) = ep (dotE (fun k => X (ix2 a k)) (fun k => W (ix3 0 k b))) (E0 (ix2 a b)) := by
  rw [outF_eq, ← acc_at]
  unfold ep
  exact mul_comm (acc X W (ix2 a b) : EReal) (E0 (ix2 a b))

theorem whole_at (a : Fin 1040) (b : Fin 512) :
    (k0_pay4 X (castW W) E0 (ix2 a b) : EReal) = ep (dotE (fun k => X (ix2 a k)) (fun k => W (ix3 0 k b))) (E0 (ix2 a b)) := by
  unfold ep dotE
  rw [mul_comm]
  pointwise [k0_pay4, castW]

end Cert.Kernel13Ideal.Sconv

end
-- ==== Proof.SconvOutAlgebra.lean ====
module

public import proofs.«01_k».proof.Defs
public import proofs.«01_k».proof.Proof.SconvOutVal
public import proofs.«01_k».proof.Proof.Gen.Kernel13.Frame
public import proofs.«01_k».proof.Proof.Gen.Reference13Ideal.Run
public import Idealize.ShloMosaic.Lib.Pipeline.ValueKit.Geometry

/-! The short convolution's output projection: the run and the reference's, with one and the same result. -/

@[expose] public section

set_option maxRecDepth 16384

noncomputable section

namespace Cert.Kernel13Ideal.Sconv

open Cert.Kernel13Ideal Cert.Kernel13Ideal.Gen
open Idealize.ShloMosaic Idealize.ShloMosaic.TcCoe Idealize.ShloMosaic.Tactic Idealize.SL.Sem
open Cert.Kernel2Ideal.Up (dotE)

/-! ## Which blocks a point sees -/

theorem idxIn : ∀ t : Fin grid0.N, cc0_transform_0 (grid0.coords t) = ![t.val % 8, 0] := by decide +kernel
theorem idxWt : ∀ t : Fin grid0.N, cc0_transform_1 (grid0.coords t) = ![0, 0, t.val / 8] := by decide +kernel
theorem idxE0 : ∀ t : Fin grid0.N, cc0_transform_2 (grid0.coords t) = ![t.val % 8, t.val / 8] := by decide +kernel
theorem idxOut : ∀ t : Fin grid0.N, cc0_transform_3 (grid0.coords t) = ![t.val % 8, t.val / 8] := by decide +kernel
theorem flushOut : ∀ t : Fin grid0.N, Pipeline.Window.flushOf grid0 true cc0_transform_3 t = true := by decide +kernel

theorem idx0 (t : Fin cfg0.N) : (cfg0.win 0).index t = ![t.val % 8, 0] := idxIn t
theorem idx1 (t : Fin cfg0.N) : (cfg0.win 1).index t = ![0, 0, t.val / 8] := idxWt t
theorem idx2 (t : Fin cfg0.N) : (cfg0.win 2).index t = ![t.val % 8, t.val / 8] := idxE0 t
theorem idx3 (t : Fin cfg0.N) : (cfg0.win 3).index t = ![t.val % 8, t.val / 8] := idxOut t
theorem flush3 (t : Fin cfg0.N) : (cfg0.win 3).flush t = true := flushOut t

variable {F : FTy → Type} [FloatOps F] (m : (ℓ : Loc nD τ sig) → Buf (Elt F) ℓ)

theorem blk0_apply (c : Dev nD) (t : Fin cfg0.N) (a : Fin 1040) (k : Fin 4096) :
    (iblk m c 0 t : Vec F S1040x4096 .bf16) (ix2 a k)
      = V m c main_arg0 (ix2 (n0 := 8320) (n1 := 4096) ⟨t.val % 8 * 1040 + a.val, by have := a.isLt; omega⟩ k) := by
  show V m c main_arg0 _ = V m c main_arg0 _
  blk_ext [iblk, idx0 t]

theorem blk1_apply (c : Dev nD) (t : Fin cfg0.N) (k : Fin 4096) (b : Fin 512) :
    (iblk m c 1 t : Vec F S1x4096x512 .f32) (ix3 0 k b)
      = V m c main_arg1 (ix3 (n0 := 2) (n1 := 4096) (n2 := 4096) 0 k
          ⟨t.val / 8 * 512 + b.val, by have := b.isLt; have : t.val < 64 := t.isLt; omega⟩) := by
  show V m c main_arg1 _ = V m c main_arg1 _
  blk_ext [iblk, idx1 t]

theorem blk2_apply (c : Dev nD) (t : Fin cfg0.N) (a : Fin 1040) (b : Fin 512) :
    (iblk m c 2 t : Vec F S1040x512 .f32) (ix2 a b)
      = V m c main_arg2 (ix2 (n0 := 8320) (n1 := 8192) ⟨t.val % 8 * 1040 + a.val, by have := a.isLt; omega⟩
          ⟨(t.val / 8) * 512 + b.val, by have := b.isLt; have : t.val < 64 := t.isLt; omega⟩) := by
  show V m c main_arg2 _ = V m c main_arg2 _
  blk_ext [iblk, idx2 t]

/-! ## What the scratch buffer holds between points: the cast weights of the column block -/

theorem weights_keep (c : Dev nD) (t u : Fin cfg0.N) (h : t.val / 8 = u.val / 8) :
    castW (iblk m c 1 t) = castW (iblk m c 1 u) := by
  funext y; unfold castW; refine congrArg _ ?_
  refine (blk1_apply m c t (y 0) (y 1)).trans (Eq.trans ?_ (blk1_apply m c u (y 0) (y 1)).symm)
  refine congrArg (V m c main_arg1) ?_
  funext k; apply Fin.ext; fin_cases k
  · rfl
  · rfl
  · exact congrArg (fun z => z * 512 + (y 1).val) h

theorem scratch_A (c : Dev nD) (t : Fin cfg0.N) (h : t.val % 8 = 0) : (outsAt0 m c t.val t.isLt).2 = castW (iblk m c 1 t) := by
  rw [outsAt0_A m c t h (by omega)]
  dsimp only
  rw [sout_A]

theorem scratch_B (c : Dev nD) (t : Fin cfg0.N) (h : ¬t.val % 8 = 0) :
    (outsAt0 m c t.val t.isLt).2 = (outsAt0 m c (t.val - 1) (Nat.lt_of_le_of_lt (Nat.sub_le _ _) t.isLt)).2 := by
  rw [outsAt0_B m c t h (by omega)]
  dsimp only
  unfold sout0_B_0
  rfl

theorem scratch_eq (c : Dev nD) : ∀ (n : ℕ) (t : Fin cfg0.N), t.val = n → (outsAt0 m c t.val t.isLt).2 = castW (iblk m c 1 t) := by
  intro n
  induction n with
  | zero => exact fun t ht => scratch_A m c t (by omega)
  | succ n ih =>
    intro t ht
    by_cases h : t.val % 8 = 0
    · exact scratch_A m c t h
    · have e := ih ⟨t.val - 1, Nat.lt_of_le_of_lt (Nat.sub_le _ _) t.isLt⟩ (show t.val - 1 = n by omega)
      exact (scratch_B m c t h).trans (e.trans (weights_keep m c _ t (show (t.val - 1) / 8 = t.val / 8 by omega)))

/-! ## The result -/

/-- What a point leaves of the result, entry by entry. -/
theorem out_at (m : (ℓ : Loc nD τ sig) → Buf (Elt Ideal) ℓ) (c : Dev nD) (t : Fin cfg0.N) (a : Fin 1040) (b : Fin 512) :
    ((outsAt0 m c t.val t.isLt).1 (ix2 a b) : EReal)
      = ep (dotE (fun k => (iblk m c 0 t : Vec Ideal S1040x4096 .bf16) (ix2 a k)) (fun k => (iblk m c 1 t : Vec Ideal S1x4096x512 .f32) (ix3 0 k b)))
          ((iblk m c 2 t : Vec Ideal S1040x512 .f32) (ix2 a b)) := by
  by_cases h : t.val % 8 = 0
  · rw [outsAt0_A m c t h (by omega)]
    dsimp only
    rw [out_A]
    exact outF_at _ _ _ a b
  · rw [outsAt0_B m c t h (by omega)]
    dsimp only
    rw [out_B, ← scratch_B m c t h, scratch_eq m c t.val t rfl]
    exact whole_at _ _ _ a b

/-- The result, entry by entry: the gate times a row of the operand against a column of the layer's weights. -/
def res (x : FVec Ideal S8320x4096 .bf16) (w : FVec Ideal S2x4096x4096 .f32) (e0 : FVec Ideal S8320x8192 .f32) : FVec Ideal S8320x4096 .f32 := fun i =>
  (ep (dotE (fun k => x (ix2 (i 0) k)) (fun k => w (ix3 0 k (i 1)))) (e0 (ix2 (i 0) ⟨((i 1)).val, lt_of_lt_of_le ((i 1)).isLt (by decide)⟩)) : EReal)

theorem covers3 : (cfg0.win 3).Covers := by
  refine ⟨(by decide : ∀ a : Fin 2, 0 < S1040x512.size a), fun β => ?_⟩
  have h0 : (β (0 : Fin 2)).val < 8 := lt_of_lt_of_eq (β (0 : Fin 2)).isLt (show (S8320x4096.size 0 + S1040x512.size 0 - 1) / S1040x512.size 0 = 8 by decide)
  have h1 : (β (1 : Fin 2)).val < 8 := lt_of_lt_of_eq (β (1 : Fin 2)).isLt (show (S8320x4096.size 1 + S1040x512.size 1 - 1) / S1040x512.size 1 = 8 by decide)
  refine ⟨⟨8 * (β (1 : Fin 2)).val + (β (0 : Fin 2)).val, lt_of_lt_of_eq (by omega : _ < 64) N_0.symm⟩, flush3 _, fun a => ⟨?_, Or.inl rfl⟩⟩
  rw [idx3]
  match a with
  | ⟨0, _⟩ => show (8 * (β (1 : Fin 2)).val + (β (0 : Fin 2)).val) % 8 = (β (0 : Fin 2)).val; omega
  | ⟨1, _⟩ => show (8 * (β (1 : Fin 2)).val + (β (0 : Fin 2)).val) / 8 = (β (1 : Fin 2)).val; omega

theorem ep_congr {d d' e0 e0' : EReal} (h : d = d') (h0 : e0 = e0') : ep d e0 = ep d' e0' := by
  subst h h0
  rfl

theorem entry_at (m : (ℓ : Loc nD τ sig) → Buf (Elt Ideal) ℓ) (c : Dev nD) (t : Fin cfg0.N) (a : Fin 1040) (b : Fin 512)
    (r : Fin 8320) (j : Fin 4096) (hr : r.val = t.val % 8 * 1040 + a.val) (hj : j.val = t.val / 8 * 512 + b.val) :
    ((outsAt0 m c t.val t.isLt).1 (ix2 a b) : EReal) = res (V m c main_arg0) (V m c main_arg1) (V m c main_arg2) (ix2 r j) := by
  refine (out_at m c t a b).trans ?_
  unfold res
  refine ep_congr (congrArg₂ dotE (funext fun k => ?_) (funext fun k => ?_)) ?_
  · refine (blk0_apply m c t a k).trans (congrArg (fun z => V m c main_arg0 (ix2 (n0 := 8320) (n1 := 4096) z k)) (Fin.ext ?_))
    exact hr.symm
  · refine (blk1_apply m c t k b).trans (congrArg (fun z => V m c main_arg1 (ix3 (n0 := 2) (n1 := 4096) (n2 := 4096) 0 k z)) (Fin.ext ?_))
    exact hj.symm
  · refine (blk2_apply m c t a b).trans (congrArg₂ (fun y z => V m c main_arg2 (ix2 (n0 := 8320) (n1 := 8192) y z)) (Fin.ext hr.symm) (Fin.ext ?_))
    exact hj.symm

/-- The result's array after the whole run. -/
theorem arr_out (m : (ℓ : Loc nD τ sig) → Buf (Elt Ideal) ℓ) (c : Dev nD) :
    (dats m 0 c).arrAt 3 cfg0.N = res (V m c main_arg0) (V m c main_arg1) (V m c main_arg2) := by
  refine Pipeline.Dat.arrAt_eq_of_covers (dats m 0 c) 3 _ covers3 (fun t _ y => ?_)
  obtain ⟨a, b, hy⟩ : ∃ a b, (cfg0.win 3).xinj (cfg0.grid.coords t) y = ix2 a b := ⟨_, _, eq_ix2 (n0 := 1040) (n1 := 512) _⟩
  have h0 : (y (0 : Fin 2)).val = a.val := congrArg (fun x : S1040x512.Idx => (x 0).val) hy
  have h1 : (y (1 : Fin 2)).val = b.val := congrArg (fun x : S1040x512.Idx => (x 1).val) hy
  refine (congrFun (after0_3 m c t) _).trans ?_
  rw [hy]
  obtain ⟨r, j, hz⟩ : ∃ r j, ((cfg0.win 3).blk t).view.emb y = ix2 r j := ⟨_, _, eq_ix2 (n0 := 8320) (n1 := 4096) _⟩
  have g0 : r.val = t.val % 8 * 1040 + a.val := by
    rw [← h0, ← show (((cfg0.win 3).blk t).view.emb y (0 : Fin 2)).val = r.val from congrArg (fun x : S8320x4096.Idx => (x 0).val) hz]
    blk_simp [idx3 t]
  have g1 : j.val = t.val / 8 * 512 + b.val := by
    rw [← h1, ← show (((cfg0.win 3).blk t).view.emb y (1 : Fin 2)).val = j.val from congrArg (fun x : S8320x4096.Idx => (x 1).val) hz]
    blk_simp [idx3 t]
  refine (entry_at m c t a b r j g0 g1).trans ?_
  exact (congrArg (res (V m c main_arg0) (V m c main_arg1) (V m c main_arg2)) hz).symm

/-! ## The reference -/

theorem ref_eq (x : FVec Ideal S8320x4096 .bf16) (w : FVec Ideal S2x4096x4096 .f32) (e0 : FVec Ideal S8320x8192 .f32) :
    mulf (extractStridedSlice Cert.Reference13Ideal.S8320x4096 ![0, 0] e0 Cert.Reference13Ideal.Gen.slices_S8320x8192_S8320x4096_0_0) (Host.dotGeneral (φ₁ := .f32) (φ₂ := .f32) Cert.Reference13Ideal.dot_S8320x4096_S4096x4096_S8320x4096_1_0_0_1_n_n none (extf .f32 x Cert.Reference13Ideal.Gen.bitsLt_bf16_f32)
      (shapeCast _ (extractStridedSlice Cert.Reference13Ideal.S1x4096x4096 ![0, 0, 0] w Cert.Reference13Ideal.Gen.slices_S2x4096x4096_S1x4096x4096_0_0_0) Cert.Reference13Ideal.Gen.shapeCasts_S1x4096x4096_S4096x4096)) = res x w e0 := by
  funext i
  obtain ⟨r, j, rfl⟩ : ∃ r j, i = ix2 r j := ⟨_, _, eq_ix2 (n0 := 8320) (n1 := 4096) i⟩
  unfold res ep dotE
  pointwise []

/-! ## The claims -/

theorem frame_kernel13 : Cert.quiescent_Kernel13 := fun m ρ _ => Cert.Kernel13.Gen.frame m ρ

theorem frame_ideal13 : Cert.quiescent_Kernel13Ideal := fun m ρ _ => Cert.Kernel13Ideal.Gen.frame m ρ

theorem frame_reference13 : Cert.quiescent_Reference13Ideal := fun m ρ _ =>
  (θ_run Cert.Reference13Ideal.defs _ _).mono
    (fun r h => ⟨fun c => (h c).2, sem_eq_zero_of_no_sems (by decide) r.2⟩)
    (Cert.Reference13Ideal.Value.run (F := Ideal) m ρ)

theorem algebraic13 : Cert.algebraic_Kernel13Ideal_Reference13Ideal := by
  intro m g m' g' hp hm
  refine ⟨fun c => res (m ((c : Thread nD τ).loc main_arg0)) (m ((c : Thread nD τ).loc main_arg1)) (m ((c : Thread nD τ).loc main_arg2)), ?_, ?_⟩
  · refine (θ_run defs _ _).mono (fun r hr c => ⟨(hr c).1.trans ((arr_out m c).trans ?_), (hr c).2⟩) (Cert.Kernel13Ideal.Value.run_blocks (F := Ideal) m g)
    rw [V_main_arg0, V_main_arg1, V_main_arg2]
  · refine (θ_run Cert.Reference13Ideal.defs _ _).mono (fun r hr c => ⟨(hr c).1.trans ?_, (hr c).2⟩) (Cert.Reference13Ideal.Value.run (F := Ideal) m' g')
    obtain ⟨e0, e1, e2⟩ := hm c
    rw [e0, e1, e2]
    exact ref_eq _ _ _

end Cert.Kernel13Ideal.Sconv

end
-- ==== Proof.OutHighVal.lean ====
module

public import proofs.«01_k».proof.Proof.Gen.Kernel14Ideal.Value
public import proofs.«01_k».proof.Proof.UpVal
public import Idealize.ShloMosaic.Lib.Pipeline.Value
public import Idealize.ShloMosaic.Lib.Pipeline.ValueKit
public import Idealize.ShloMosaic.Lib.ValueLayout
public import Idealize.ShloMosaic.Lib.Pointwise
public import Idealize.ShloMosaic.Lib.Tactic

/-! The scan's output projection, second half, with the merge: what a run of the body leaves, entry by entry. -/

@[expose] public section

set_option maxRecDepth 16384

noncomputable section

namespace Cert.Kernel14Ideal.OutHigh

open Cert.Kernel14Ideal Cert.Kernel14Ideal.Gen
open Idealize.ShloMosaic Idealize.ShloMosaic.TcCoe
open Cert.Kernel2Ideal.Up (part dotE dotE_parts)

variable {F : FTy → Type} [FloatOps F]

theorem hz : (![0, 0] : Fin 2 → Nat) = fun _ => 0 := funext fun a => by fin_cases a <;> rfl

/-- A block of weights at the narrower type, as a matrix. -/
def castW (X : Vec F S1x4096x512 .f32) : Vec F S4096x512 .bf16 :=
  fun y => FloatOps.truncf .bf16 bitsLt_bf16_f32 (X (ix3 (n0 := 1) (n1 := 4096) (n2 := 512) 0 (y 0) (y 1)))

/-- A chunk of 512 rows, cast, is those rows of the cast block. -/
theorem chunk_apply (o : ℕ) (inb : ∀ a, (![0, o, 0] : Fin 3 → ℕ) a + S1x512x512.size a ≤ S1x4096x512.size a)
    (inb' : ∀ a, (![o, 0] : Fin 2 → ℕ) a + S512x512.size a ≤ S4096x512.size a) (X : Vec F S1x4096x512 .f32) (x : S512x512.Idx) :
    shapeCast S512x512 (truncf (F := F) .bf16 (shapeCast S512x512
        (View.ld (Val := Elt F) X (Rect.unit (s := S1x4096x512) ![0, o, 0] S1x512x512.size inb)) shapeCasts_S1x512x512_S512x512) bitsLt_bf16_f32)
      shapeCasts_S512x512_S512x512 x
      = castW X ((Rect.unit (s := S4096x512) ![o, 0] S512x512.size inb').emb x) := by
  rw [shapeCast_self]
  obtain ⟨a, b, rfl⟩ : ∃ a b, x = ix2 a b := ⟨_, _, eq_ix2 (n0 := 512) (n1 := 512) x⟩
  show FloatOps.truncf .bf16 bitsLt_bf16_f32 (shapeCast (α := F .f32) S512x512 _ shapeCasts_S1x512x512_S512x512 (ix2 a b)) = _
  have e := shapeCast_apply (View.ld (Val := Elt F) X (Rect.unit (s := S1x4096x512) ![0, o, 0] S1x512x512.size inb))
    shapeCasts_S1x512x512_S512x512 (ix2 a b) (ix3 (n0 := 1) (n1 := 512) (n2 := 512) 0 a b) (by
      rw [Shape.rowMajor_val_three, Shape.rowMajor_val_two]
      show (0 * 512 + a.val) * 512 + b.val = a.val * 512 + b.val
      omega)
  refine (congrArg _ e).trans ?_
  unfold castW
  refine congrArg (fun z => FloatOps.truncf .bf16 bitsLt_bf16_f32 (X z)) ?_
  funext k
  apply Fin.ext
  fin_cases k
  · rfl
  · rfl
  · rfl

/-! ## The chunks of weights, cast, and of rows -/

def w0 (X : Vec F S1x4096x512 .f32) : FVec F S512x512 .bf16 := k0_pay2 (View.ld X (Rect.unit (s := S1x4096x512) ![0, 0, 0] S1x512x512.size inb_S1x4096x512_S1x512x512_0_0_0))
def x0 (X : Vec F S1040x4096 .bf16) : Vec F S1040x512 .bf16 := View.ld X (Rect.unit (s := S1040x4096) ![0, 0] S1040x512.size inb_S1040x4096_S1040x512_0_0)
def w1 (X : Vec F S1x4096x512 .f32) : FVec F S512x512 .bf16 := k0_pay3 (View.ld X (Rect.unit (s := S1x4096x512) ![0, 512, 0] S1x512x512.size inb_S1x4096x512_S1x512x512_0_512_0))
def x1 (X : Vec F S1040x4096 .bf16) : Vec F S1040x512 .bf16 := View.ld X (Rect.unit (s := S1040x4096) ![0, 512] S1040x512.size inb_S1040x4096_S1040x512_0_512)
def w2 (X : Vec F S1x4096x512 .f32) : FVec F S512x512 .bf16 := k0_pay5 (View.ld X (Rect.unit (s := S1x4096x512) ![0, 1024, 0] S1x512x512.size inb_S1x4096x512_S1x512x512_0_1024_0))
def x2 (X : Vec F S1040x4096 .bf16) : Vec F S1040x512 .bf16 := View.ld X (Rect.unit (s := S1040x4096) ![0, 1024] S1040x512.size inb_S1040x4096_S1040x512_0_1024)
def w3 (X : Vec F S1x4096x512 .f32) : FVec F S512x512 .bf16 := k0_pay6 (View.ld X (Rect.unit (s := S1x4096x512) ![0, 1536, 0] S1x512x512.size inb_S1x4096x512_S1x512x512_0_1536_0))
def x3 (X : Vec F S1040x4096 .bf16) : Vec F S1040x512 .bf16 := View.ld X (Rect.unit (s := S1040x4096) ![0, 1536] S1040x512.size inb_S1040x4096_S1040x512_0_1536)
def w4 (X : Vec F S1x4096x512 .f32) : FVec F S512x512 .bf16 := k0_pay7 (View.ld X (Rect.unit (s := S1x4096x512) ![0, 2048, 0] S1x512x512.size inb_S1x4096x512_S1x512x512_0_2048_0))
def x4 (X : Vec F S1040x4096 .bf16) : Vec F S1040x512 .bf16 := View.ld X (Rect.unit (s := S1040x4096) ![0, 2048] S1040x512.size inb_S1040x4096_S1040x512_0_2048)
def w5 (X : Vec F S1x4096x512 .f32) : FVec F S512x512 .bf16 := k0_pay9 (View.ld X (Rect.unit (s := S1x4096x512) ![0, 2560, 0] S1x512x512.size inb_S1x4096x512_S1x512x512_0_2560_0))
def x5 (X : Vec F S1040x4096 .bf16) : Vec F S1040x512 .bf16 := View.ld X (Rect.unit (s := S1040x4096) ![0, 2560] S1040x512.size inb_S1040x4096_S1040x512_0_2560)
def w6 (X : Vec F S1x4096x512 .f32) : FVec F S512x512 .bf16 := k0_pay10 (View.ld X (Rect.unit (s := S1x4096x512) ![0, 3072, 0] S1x512x512.size inb_S1x4096x512_S1x512x512_0_3072_0))
def x6 (X : Vec F S1040x4096 .bf16) : Vec F S1040x512 .bf16 := View.ld X (Rect.unit (s := S1040x4096) ![0, 3072] S1040x512.size inb_S1040x4096_S1040x512_0_3072)
def w7 (X : Vec F S1x4096x512 .f32) : FVec F S512x512 .bf16 := k0_pay11 (View.ld X (Rect.unit (s := S1x4096x512) ![0, 3584, 0] S1x512x512.size inb_S1x4096x512_S1x512x512_0_3584_0))
def x7 (X : Vec F S1040x4096 .bf16) : Vec F S1040x512 .bf16 := View.ld X (Rect.unit (s := S1040x4096) ![0, 3584] S1040x512.size inb_S1040x4096_S1040x512_0_3584)

/-- What the body stores where it casts the weights. -/
def outF (X : Vec F S1040x4096 .bf16) (W : Vec F S1x4096x512 .f32) (E0 : Vec F S1040x512 .f32) (E1 : Vec F S1040x512 .f32) (E2 : Vec F S1040x512 .f32) : FVec F S1040x512 .bf16 :=
  k0_pay12 (k0_pay8 (k0_pay4 (x0 X) (w0 W) (x1 X) (w1 W)) (x2 X) (w2 W) (constant S1040x512 .f32 0x00000000#32) (x3 X) (w3 W) (x4 X) (w4 W))
    (x5 X) (w5 W) (x6 X) (w6 W) (x7 X) (w7 W) E0 E1 E2

theorem out_A (c : Dev nD) (i : grid0.Coords) (arg2 : Memref sig .tc .vmem S1040x4096 .bf16) (harg2 : arg2.IsWhole)
    (arg3 : Memref sig .tc .vmem S1x4096x512 .f32) (harg3 : arg3.IsWhole)
    (arg4 : Memref sig .tc .vmem S1040x512 .f32) (harg4 : arg4.IsWhole)
    (arg5 : Memref sig .tc .vmem S1040x512 .f32) (harg5 : arg5.IsWhole)
    (arg6 : Memref sig .tc .vmem S1040x512 .f32) (harg6 : arg6.IsWhole)
    (arg7 : Memref sig .tc .vmem S1040x512 .bf16) (harg7 : arg7.IsWhole)
    (arg8 : Memref sig .tc .vmem S4096x512 .bf16) (harg8 : arg8.IsWhole)
    (hc0 : cond0_0 i) (hc1 : ¬cond0_1 i) (x0 : Vec F S1040x4096 .bf16) (x1 : Vec F S1x4096x512 .f32) (x2 : Vec F S1040x512 .f32) (x3 : Vec F S1040x512 .f32) (x4 : Vec F S1040x512 .f32) :
    out0_A_5 c i arg2 harg2 arg3 harg3 arg4 harg4 arg5 harg5 arg6 harg6 arg7 harg7 arg8 harg8 hc0 hc1 x0 x1 x2 x3 x4 = outF x0 x1 x2 x3 x4 := by
  unfold out0_A_5
  rw [View.read_writes_eq_canon _ _ _ (cover0_A_5 c i arg2 harg2 arg3 harg3 arg4 harg4 arg5 harg5 arg6 harg6 arg7 harg7 arg8 harg8 hc0 hc1 x0 x1 x2 x3 x4)]
  unfold kernelRun0_A
  dsimp only
  rw [View.canon_unit_zero hz]
  sl_unfold_words
  simp only [View.readAt_eq_ld, harg2.read_unread, harg3.read_unread, harg4.read_unread, harg5.read_unread, harg6.read_unread, View.readCov_cons_toLoadRect, View.ld_unit_zero (S := S1040x512) hz]
  rfl

theorem out_B (c : Dev nD) (i : grid0.Coords) (arg2 : Memref sig .tc .vmem S1040x4096 .bf16) (harg2 : arg2.IsWhole)
    (arg3 : Memref sig .tc .vmem S1x4096x512 .f32) (harg3 : arg3.IsWhole)
    (arg4 : Memref sig .tc .vmem S1040x512 .f32) (harg4 : arg4.IsWhole)
    (arg5 : Memref sig .tc .vmem S1040x512 .f32) (harg5 : arg5.IsWhole)
    (arg6 : Memref sig .tc .vmem S1040x512 .f32) (harg6 : arg6.IsWhole)
    (arg7 : Memref sig .tc .vmem S1040x512 .bf16) (harg7 : arg7.IsWhole)
    (arg8 : Memref sig .tc .vmem S4096x512 .bf16) (harg8 : arg8.IsWhole)
    (hc0 : ¬cond0_0 i) (hc1 : cond0_1 i) (x0 : Vec F S1040x4096 .bf16) (x1 : Vec F S1x4096x512 .f32) (x2 : Vec F S1040x512 .f32) (x3 : Vec F S1040x512 .f32) (x4 : Vec F S1040x512 .f32) (xs0 : Vec F S4096x512 .bf16) :
    out0_B_5 c i arg2 harg2 arg3 harg3 arg4 harg4 arg5 harg5 arg6 harg6 arg7 harg7 arg8 harg8 hc0 hc1 x0 x1 x2 x3 x4 xs0 = k0_pay1 x0 xs0 x2 x3 x4 := by
  unfold out0_B_5
  rw [View.read_writes_eq_canon _ _ _ (cover0_B_5 c i arg2 harg2 arg3 harg3 arg4 harg4 arg5 harg5 arg6 harg6 arg7 harg7 arg8 harg8 hc0 hc1 x0 x1 x2 x3 x4 xs0)]
  unfold kernelRun0_B
  dsimp only
  rw [View.canon_unit_zero hz]
  simp only [View.readAt_eq_ld, harg2.read_unread, harg8.read_unread, harg4.read_unread, harg5.read_unread, harg6.read_unread, View.ld_unit_zero (S := S1040x4096) hz, View.ld_unit_zero (S := S4096x512) hz,
    View.ld_unit_zero (S := S1040x512) hz]

theorem sout_A (c : Dev nD) (i : grid0.Coords) (arg2 : Memref sig .tc .vmem S1040x4096 .bf16) (harg2 : arg2.IsWhole)
    (arg3 : Memref sig .tc .vmem S1x4096x512 .f32) (harg3 : arg3.IsWhole)
    (arg4 : Memref sig .tc .vmem S1040x512 .f32) (harg4 : arg4.IsWhole)
    (arg5 : Memref sig .tc .vmem S1040x512 .f32) (harg5 : arg5.IsWhole)
    (arg6 : Memref sig .tc .vmem S1040x512 .f32) (harg6 : arg6.IsWhole)
    (arg7 : Memref sig .tc .vmem S1040x512 .bf16) (harg7 : arg7.IsWhole)
    (arg8 : Memref sig .tc .vmem S4096x512 .bf16) (harg8 : arg8.IsWhole)
    (hc0 : cond0_0 i) (hc1 : ¬cond0_1 i) (x0 : Vec F S1040x4096 .bf16) (x1 : Vec F S1x4096x512 .f32) (x2 : Vec F S1040x512 .f32) (x3 : Vec F S1040x512 .f32) (x4 : Vec F S1040x512 .f32) :
    sout0_A_0 c i arg2 harg2 arg3 harg3 arg4 harg4 arg5 harg5 arg6 harg6 arg7 harg7 arg8 harg8 hc0 hc1 x0 x1 x2 x3 x4 = castW x1 := by
  have hcov := scover0_A_0 c i arg2 harg2 arg3 harg3 arg4 harg4 arg5 harg5 arg6 harg6 arg7 harg7 arg8 harg8 hc0 hc1 x0 x1 x2 x3 x4
  funext y
  have hy := hcov y
  unfold sout0_A_0
  rw [View.read_writes_eq_canon _ _ _ hcov]
  revert hy
  unfold kernelRun0_A
  dsimp only
  sl_unfold_words
  simp only [View.readAt_eq_ld, harg2.read_unread, harg3.read_unread]
  intro hy
  refine View.canon_apply_of_pieces (castW x1) _ (fun p hp => ?_) y hy
  simp only [List.mem_cons, List.mem_nil_iff, or_false] at hp
  rcases hp with rfl | rfl | rfl | rfl | rfl | rfl | rfl | rfl
  · exact fun x => chunk_apply 3584 _ inb_S4096x512_S512x512_3584_0 x1 x
  · exact fun x => chunk_apply 3072 _ inb_S4096x512_S512x512_3072_0 x1 x
  · exact fun x => chunk_apply 2560 _ inb_S4096x512_S512x512_2560_0 x1 x
  · exact fun x => chunk_apply 2048 _ inb_S4096x512_S512x512_2048_0 x1 x
  · exact fun x => chunk_apply 1536 _ inb_S4096x512_S512x512_1536_0 x1 x
  · exact fun x => chunk_apply 1024 _ inb_S4096x512_S512x512_1024_0 x1 x
  · exact fun x => chunk_apply 512 _ inb_S4096x512_S512x512_512_0 x1 x
  · exact fun x => chunk_apply 0 _ inb_S4096x512_S512x512_0_0 x1 x

/-! ## Over the extended reals -/

/-- One chunk's product. -/
def mm (A : FVec Ideal S1040x512 .bf16) (B : FVec Ideal S512x512 .bf16) : FVec Ideal S1040x512 .f32 :=
  matmul (φ₁ := .bf16) (φ₂ := .bf16) dot_S1040x512_S512x512_S1040x512_1_0_0_1_n_n none A B (constant S1040x512 .f32 0x00000000#32)

theorem mm_at (A : FVec Ideal S1040x512 .bf16) (B : FVec Ideal S512x512 .bf16) (a : Fin 1040) (b : Fin 512) :
    (mm A B (ix2 a b) : EReal) = ∑ k : Fin 512, (A (ix2 a k) : EReal) * (B (ix2 k b) : EReal) := by
  pointwise [mm]

theorem chunk_mm (s : Fin 8) (o : ℕ) (ho : o = s.val * 512) (inbX : ∀ a, (![0, o] : Fin 2 → ℕ) a + S1040x512.size a ≤ S1040x4096.size a)
    (inbS : ∀ a, (![o, 0] : Fin 2 → ℕ) a + S512x512.size a ≤ S4096x512.size a)
    (X : Vec Ideal S1040x4096 .bf16) (C : Vec Ideal S4096x512 .bf16) (B : Vec Ideal S512x512 .bf16)
    (hB : ∀ x, B x = C ((Rect.unit (s := S4096x512) ![o, 0] S512x512.size inbS).emb x)) (a : Fin 1040) (b : Fin 512) :
    (mm (View.ld (Val := Elt Ideal) X (Rect.unit (s := S1040x4096) ![0, o] S1040x512.size inbX)) B (ix2 a b) : EReal)
      = part (fun k => X (ix2 a k)) (fun k => C (ix2 k b)) s := by
  subst ho
  rw [mm_at]
  unfold part
  refine Finset.sum_congr rfl fun k _ => ?_
  rw [hB]
  refine congrArg₂ (fun p q : EReal => p * q) ?_ ?_
  · show X _ = X _
    refine congrArg X ?_
    funext i; apply Fin.ext
    fin_cases i
    · show 0 + 1 * a.val = a.val; omega
    · show s.val * 512 + 1 * k.val = s.val * 512 + k.val; omega
  · refine congrArg C ?_
    funext i; apply Fin.ext
    fin_cases i
    · show s.val * 512 + 1 * k.val = s.val * 512 + k.val; omega
    · show 0 + 1 * b.val = b.val; omega

variable (X : Vec Ideal S1040x4096 .bf16) (W : Vec Ideal S1x4096x512 .f32) (E0 : Vec Ideal S1040x512 .f32) (E1 : Vec Ideal S1040x512 .f32) (E2 : Vec Ideal S1040x512 .f32)

/-- The product, chunk after chunk. -/
def acc : FVec Ideal S1040x512 .f32 :=
  addf (addf (addf (addf (addf (addf (addf (mm (x0 X) (w0 W)) (mm (x1 X) (w1 W))) (mm (x2 X) (w2 W))) (mm (x3 X) (w3 W))) (mm (x4 X) (w4 W)))
      (mm (x5 X) (w5 W))) (mm (x6 X) (w6 W))) (mm (x7 X) (w7 W))

/-- An entry of the result, of the product's entry and the extra operands'. -/
def ep (d e0 e1 e2 : EReal) : EReal := e1 + e2 * (e0 + d)

theorem outF_eq : outF X W E0 E1 E2 = truncf .bf16 (addf E1 (mulf E2 (addf E0 (acc X W)))) bitsLt_bf16_f32 := by
  unfold outF k0_pay12 k0_pay8 k0_pay4 acc mm
  rfl

theorem acc_at (a : Fin 1040) (b : Fin 512) : (acc X W (ix2 a b) : EReal) = dotE (fun k => X (ix2 a k)) (fun k => W (ix3 0 k b)) := by
  unfold acc
  refine Eq.trans ?_ (dotE_parts (fun k => X (ix2 a k)) (fun k => castW W (ix2 k b)))
  rw [← chunk_mm 0 0 rfl inb_S1040x4096_S1040x512_0_0 inb_S4096x512_S512x512_0_0 X (castW W) (w0 W) (fun x => chunk_apply 0 _ _ W x) a b,
    ← chunk_mm 1 512 rfl inb_S1040x4096_S1040x512_0_512 inb_S4096x512_S512x512_512_0 X (castW W) (w1 W) (fun x => chunk_apply 512 _ _ W x) a b,
    ← chunk_mm 2 1024 rfl inb_S1040x4096_S1040x512_0_1024 inb_S4096x512_S512x512_1024_0 X (castW W) (w2 W) (fun x => chunk_apply 1024 _ _ W x) a b,
    ← chunk_mm 3 1536 rfl inb_S1040x4096_S1040x512_0_1536 inb_S4096x512_S512x512_1536_0 X (castW W) (w3 W) (fun x => chunk_apply 1536 _ _ W x) a b,
    ← chunk_mm 4 2048 rfl inb_S1040x4096_S1040x512_0_2048 inb_S4096x512_S512x512_2048_0 X (castW W) (w4 W) (fun x => chunk_apply 2048 _ _ W x) a b,
    ← chunk_mm 5 2560 rfl inb_S1040x4096_S1040x512_0_2560 inb_S4096x512_S512x512_2560_0 X (castW W) (w5 W) (fun x => chunk_apply 2560 _ _ W x) a b,
    ← chunk_mm 6 3072 rfl inb_S1040x4096_S1040x512_0_3072 inb_S4096x512_S512x512_3072_0 X (castW W) (w6 W) (fun x => chunk_apply 3072 _ _ W x) a b,
    ← chunk_mm 7 3584 rfl inb_S1040x4096_S1040x512_0_3584 inb_S4096x512_S512x512_3584_0 X (castW W) (w7 W) (fun x => chunk_apply 3584 _ _ W x) a b]
  rfl

theorem outF_at (a : Fin 1040) (b : Fin 512) :
    (outF X W E0 E1 E2 (ix2 a b) : EReal) = ep (dotE (fun k => X (ix2 a k)) (fun k => W (ix3 0 k b))) (E0 (ix2 a b)) (E1 (ix2 a b)) (E2 (ix2 a b)) := by
  rw [outF_eq, ← acc_at]
  unfold ep
  rfl

theorem whole_at (a : Fin 1040) (b : Fin 512) :
    (k0_pay1 X (castW W) E0 E1 E2 (ix2 a b) : EReal) = ep (dotE (fun k => X (ix2 a k)) (fun k => W (ix3 0 k b))) (E0 (ix2 a b)) (E1 (ix2 a b)) (E2 (ix2 a b)) := by
  unfold ep dotE
  pointwise [k0_pay1, castW]

end Cert.Kernel14Ideal.OutHigh

end
-- ==== Proof.OutHighAlgebra.lean ====
module

public import proofs.«01_k».proof.Defs
public import proofs.«01_k».proof.Proof.OutHighVal
public import proofs.«01_k».proof.Proof.Gen.Kernel14.Frame
public import proofs.«01_k».proof.Proof.Gen.Reference14Ideal.Run
public import Idealize.ShloMosaic.Lib.Pipeline.ValueKit.Geometry

/-! The scan's output projection, second half, with the merge: the run and the reference's, with one and the same result. -/

@[expose] public section

set_option maxRecDepth 16384

noncomputable section

namespace Cert.Kernel14Ideal.OutHigh

open Cert.Kernel14Ideal Cert.Kernel14Ideal.Gen
open Idealize.ShloMosaic Idealize.ShloMosaic.TcCoe Idealize.ShloMosaic.Tactic Idealize.SL.Sem
open Cert.Kernel2Ideal.Up (dotE)

/-! ## Which blocks a point sees -/

theorem idxIn : ∀ t : Fin grid0.N, cc0_transform_0 (grid0.coords t) = ![t.val % 8, 1] := by decide +kernel
theorem idxWt : ∀ t : Fin grid0.N, cc0_transform_1 (grid0.coords t) = ![0, 1, t.val / 8] := by decide +kernel
theorem idxE0 : ∀ t : Fin grid0.N, cc0_transform_2 (grid0.coords t) = ![t.val % 8, t.val / 8] := by decide +kernel
theorem idxE1 : ∀ t : Fin grid0.N, cc0_transform_3 (grid0.coords t) = ![t.val % 8, t.val / 8] := by decide +kernel
theorem idxE2 : ∀ t : Fin grid0.N, cc0_transform_4 (grid0.coords t) = ![t.val % 8, t.val / 8 + 8] := by decide +kernel
theorem idxOut : ∀ t : Fin grid0.N, cc0_transform_5 (grid0.coords t) = ![t.val % 8, t.val / 8] := by decide +kernel
theorem flushOut : ∀ t : Fin grid0.N, Pipeline.Window.flushOf grid0 true cc0_transform_5 t = true := by decide +kernel

theorem idx0 (t : Fin cfg0.N) : (cfg0.win 0).index t = ![t.val % 8, 1] := idxIn t
theorem idx1 (t : Fin cfg0.N) : (cfg0.win 1).index t = ![0, 1, t.val / 8] := idxWt t
theorem idx2 (t : Fin cfg0.N) : (cfg0.win 2).index t = ![t.val % 8, t.val / 8] := idxE0 t
theorem idx3 (t : Fin cfg0.N) : (cfg0.win 3).index t = ![t.val % 8, t.val / 8] := idxE1 t
theorem idx4 (t : Fin cfg0.N) : (cfg0.win 4).index t = ![t.val % 8, t.val / 8 + 8] := idxE2 t
theorem idx5 (t : Fin cfg0.N) : (cfg0.win 5).index t = ![t.val % 8, t.val / 8] := idxOut t
theorem flush5 (t : Fin cfg0.N) : (cfg0.win 5).flush t = true := flushOut t

variable {F : FTy → Type} [FloatOps F] (m : (ℓ : Loc nD τ sig) → Buf (Elt F) ℓ)

theorem blk0_apply (c : Dev nD) (t : Fin cfg0.N) (a : Fin 1040) (k : Fin 4096) :
    (iblk m c 0 t : Vec F S1040x4096 .bf16) (ix2 a k)
      = V m c main_arg0 (ix2 (n0 := 8320) (n1 := 8192) ⟨t.val % 8 * 1040 + a.val, by have := a.isLt; omega⟩ ⟨4096 + k.val, Nat.add_lt_add_left k.isLt 4096⟩) := by
  show V m c main_arg0 _ = V m c main_arg0 _
  blk_ext [iblk, idx0 t]

theorem blk1_apply (c : Dev nD) (t : Fin cfg0.N) (k : Fin 4096) (b : Fin 512) :
    (iblk m c 1 t : Vec F S1x4096x512 .f32) (ix3 0 k b)
      = V m c main_arg1 (ix3 (n0 := 2) (n1 := 8192) (n2 := 4096) 0 ⟨4096 + k.val, Nat.add_lt_add_left k.isLt 4096⟩
          ⟨t.val / 8 * 512 + b.val, by have := b.isLt; have : t.val < 64 := t.isLt; omega⟩) := by
  show V m c main_arg1 _ = V m c main_arg1 _
  blk_ext [iblk, idx1 t]

theorem blk2_apply (c : Dev nD) (t : Fin cfg0.N) (a : Fin 1040) (b : Fin 512) :
    (iblk m c 2 t : Vec F S1040x512 .f32) (ix2 a b)
      = V m c main_arg2 (ix2 (n0 := 8320) (n1 := 4096) ⟨t.val % 8 * 1040 + a.val, by have := a.isLt; omega⟩
          ⟨(t.val / 8) * 512 + b.val, by have := b.isLt; have : t.val < 64 := t.isLt; omega⟩) := by
  show V m c main_arg2 _ = V m c main_arg2 _
  blk_ext [iblk, idx2 t]

theorem blk3_apply (c : Dev nD) (t : Fin cfg0.N) (a : Fin 1040) (b : Fin 512) :
    (iblk m c 3 t : Vec F S1040x512 .f32) (ix2 a b)
      = V m c main_arg3 (ix2 (n0 := 8320) (n1 := 4096) ⟨t.val % 8 * 1040 + a.val, by have := a.isLt; omega⟩
          ⟨(t.val / 8) * 512 + b.val, by have := b.isLt; have : t.val < 64 := t.isLt; omega⟩) := by
  show V m c main_arg3 _ = V m c main_arg3 _
  blk_ext [iblk, idx3 t]

theorem blk4_apply (c : Dev nD) (t : Fin cfg0.N) (a : Fin 1040) (b : Fin 512) :
    (iblk m c 4 t : Vec F S1040x512 .f32) (ix2 a b)
      = V m c main_arg4 (ix2 (n0 := 8320) (n1 := 8192) ⟨t.val % 8 * 1040 + a.val, by have := a.isLt; omega⟩
          ⟨(t.val / 8 + 8) * 512 + b.val, by have := b.isLt; have : t.val < 64 := t.isLt; omega⟩) := by
  show V m c main_arg4 _ = V m c main_arg4 _
  blk_ext [iblk, idx4 t]

/-! ## What the scratch buffer holds between points: the cast weights of the column block -/

theorem weights_keep (c : Dev nD) (t u : Fin cfg0.N) (h : t.val / 8 = u.val / 8) :
    castW (iblk m c 1 t) = castW (iblk m c 1 u) := by
  funext y; unfold castW; refine congrArg _ ?_
  refine (blk1_apply m c t (y 0) (y 1)).trans (Eq.trans ?_ (blk1_apply m c u (y 0) (y 1)).symm)
  refine congrArg (V m c main_arg1) ?_
  funext k; apply Fin.ext; fin_cases k
  · rfl
  · rfl
  · exact congrArg (fun z => z * 512 + (y 1).val) h

theorem scratch_A (c : Dev nD) (t : Fin cfg0.N) (h : t.val % 8 = 0) : (outsAt0 m c t.val t.isLt).2 = castW (iblk m c 1 t) := by
  rw [outsAt0_A m c t h (by omega)]
  dsimp only
  rw [sout_A]

theorem scratch_B (c : Dev nD) (t : Fin cfg0.N) (h : ¬t.val % 8 = 0) :
    (outsAt0 m c t.val t.isLt).2 = (outsAt0 m c (t.val - 1) (Nat.lt_of_le_of_lt (Nat.sub_le _ _) t.isLt)).2 := by
  rw [outsAt0_B m c t h (by omega)]
  dsimp only
  unfold sout0_B_0
  rfl

theorem scratch_eq (c : Dev nD) : ∀ (n : ℕ) (t : Fin cfg0.N), t.val = n → (outsAt0 m c t.val t.isLt).2 = castW (iblk m c 1 t) := by
  intro n
  induction n with
  | zero => exact fun t ht => scratch_A m c t (by omega)
  | succ n ih =>
    intro t ht
    by_cases h : t.val % 8 = 0
    · exact scratch_A m c t h
    · have e := ih ⟨t.val - 1, Nat.lt_of_le_of_lt (Nat.sub_le _ _) t.isLt⟩ (show t.val - 1 = n by omega)
      exact (scratch_B m c t h).trans (e.trans (weights_keep m c _ t (show (t.val - 1) / 8 = t.val / 8 by omega)))

/-! ## The result -/

/-- What a point leaves of the result, entry by entry. -/
theorem out_at (m : (ℓ : Loc nD τ sig) → Buf (Elt Ideal) ℓ) (c : Dev nD) (t : Fin cfg0.N) (a : Fin 1040) (b : Fin 512) :
    ((outsAt0 m c t.val t.isLt).1 (ix2 a b) : EReal)
      = ep (dotE (fun k => (iblk m c 0 t : Vec Ideal S1040x4096 .bf16) (ix2 a k)) (fun k => (iblk m c 1 t : Vec Ideal S1x4096x512 .f32) (ix3 0 k b)))
          ((iblk m c 2 t : Vec Ideal S1040x512 .f32) (ix2 a b)) ((iblk m c 3 t : Vec Ideal S1040x512 .f32) (ix2 a b)) ((iblk m c 4 t : Vec Ideal S1040x512 .f32) (ix2 a b)) := by
  by_cases h : t.val % 8 = 0
  · rw [outsAt0_A m c t h (by omega)]
    dsimp only
    rw [out_A]
    exact outF_at _ _ _ _ _ a b
  · rw [outsAt0_B m c t h (by omega)]
    dsimp only
    rw [out_B, ← scratch_B m c t h, scratch_eq m c t.val t rfl]
    exact whole_at _ _ _ _ _ a b

/-- The merge, entry by entry: the convolution's row and the gate times the two halves' sum. -/
def res (x : FVec Ideal S8320x8192 .bf16) (w : FVec Ideal S2x8192x4096 .f32) (e0 : FVec Ideal S8320x4096 .f32) (e1 : FVec Ideal S8320x4096 .f32) (e2 : FVec Ideal S8320x8192 .f32) : FVec Ideal S8320x4096 .bf16 := fun i =>
  (ep (dotE (fun k => x (ix2 (i 0) ⟨4096 + k.val, Nat.add_lt_add_left k.isLt 4096⟩)) (fun k => w (ix3 0 ⟨4096 + k.val, Nat.add_lt_add_left k.isLt 4096⟩ (i 1)))) (e0 (ix2 (i 0) (i 1))) (e1 (ix2 (i 0) (i 1))) (e2 (ix2 (i 0) ⟨4096 + ((i 1)).val, Nat.add_lt_add_left ((i 1)).isLt 4096⟩)) : EReal)

theorem covers5 : (cfg0.win 5).Covers := by
  refine ⟨(by decide : ∀ a : Fin 2, 0 < S1040x512.size a), fun β => ?_⟩
  have h0 : (β (0 : Fin 2)).val < 8 := lt_of_lt_of_eq (β (0 : Fin 2)).isLt (show (S8320x4096.size 0 + S1040x512.size 0 - 1) / S1040x512.size 0 = 8 by decide)
  have h1 : (β (1 : Fin 2)).val < 8 := lt_of_lt_of_eq (β (1 : Fin 2)).isLt (show (S8320x4096.size 1 + S1040x512.size 1 - 1) / S1040x512.size 1 = 8 by decide)
  refine ⟨⟨8 * (β (1 : Fin 2)).val + (β (0 : Fin 2)).val, lt_of_lt_of_eq (by omega : _ < 64) N_0.symm⟩, flush5 _, fun a => ⟨?_, Or.inl rfl⟩⟩
  rw [idx5]
  match a with
  | ⟨0, _⟩ => show (8 * (β (1 : Fin 2)).val + (β (0 : Fin 2)).val) % 8 = (β (0 : Fin 2)).val; omega
  | ⟨1, _⟩ => show (8 * (β (1 : Fin 2)).val + (β (0 : Fin 2)).val) / 8 = (β (1 : Fin 2)).val; omega

theorem ep_congr {d d' e0 e0' e1 e1' e2 e2' : EReal} (h : d = d') (h0 : e0 = e0') (h1 : e1 = e1') (h2 : e2 = e2') : ep d e0 e1 e2 = ep d' e0' e1' e2' := by
  subst h h0 h1 h2
  rfl

theorem entry_at (m : (ℓ : Loc nD τ sig) → Buf (Elt Ideal) ℓ) (c : Dev nD) (t : Fin cfg0.N) (a : Fin 1040) (b : Fin 512)
    (r : Fin 8320) (j : Fin 4096) (hr : r.val = t.val % 8 * 1040 + a.val) (hj : j.val = t.val / 8 * 512 + b.val) :
    ((outsAt0 m c t.val t.isLt).1 (ix2 a b) : EReal) = res (V m c main_arg0) (V m c main_arg1) (V m c main_arg2) (V m c main_arg3) (V m c main_arg4) (ix2 r j) := by
  refine (out_at m c t a b).trans ?_
  unfold res
  refine ep_congr (congrArg₂ dotE (funext fun k => ?_) (funext fun k => ?_)) ?_ ?_ ?_
  · refine (blk0_apply m c t a k).trans (congrArg (fun z => V m c main_arg0 (ix2 (n0 := 8320) (n1 := 8192) z ⟨4096 + k.val, Nat.add_lt_add_left k.isLt 4096⟩)) (Fin.ext ?_))
    exact hr.symm
  · refine (blk1_apply m c t k b).trans (congrArg (fun z => V m c main_arg1 (ix3 (n0 := 2) (n1 := 8192) (n2 := 4096) 0 ⟨4096 + k.val, Nat.add_lt_add_left k.isLt 4096⟩ z)) (Fin.ext ?_))
    exact hj.symm
  · refine (blk2_apply m c t a b).trans (congrArg₂ (fun y z => V m c main_arg2 (ix2 (n0 := 8320) (n1 := 4096) y z)) (Fin.ext hr.symm) (Fin.ext ?_))
    exact hj.symm
  · refine (blk3_apply m c t a b).trans (congrArg₂ (fun y z => V m c main_arg3 (ix2 (n0 := 8320) (n1 := 4096) y z)) (Fin.ext hr.symm) (Fin.ext ?_))
    exact hj.symm
  · refine (blk4_apply m c t a b).trans (congrArg₂ (fun y z => V m c main_arg4 (ix2 (n0 := 8320) (n1 := 8192) y z)) (Fin.ext hr.symm) (Fin.ext ?_))
    show (t.val / 8 + 8) * 512 + b.val = 4096 + j.val
    omega

/-- The result's array after the whole run. -/
theorem arr_out (m : (ℓ : Loc nD τ sig) → Buf (Elt Ideal) ℓ) (c : Dev nD) :
    (dats m 0 c).arrAt 5 cfg0.N = res (V m c main_arg0) (V m c main_arg1) (V m c main_arg2) (V m c main_arg3) (V m c main_arg4) := by
  refine Pipeline.Dat.arrAt_eq_of_covers (dats m 0 c) 5 _ covers5 (fun t _ y => ?_)
  obtain ⟨a, b, hy⟩ : ∃ a b, (cfg0.win 5).xinj (cfg0.grid.coords t) y = ix2 a b := ⟨_, _, eq_ix2 (n0 := 1040) (n1 := 512) _⟩
  have h0 : (y (0 : Fin 2)).val = a.val := congrArg (fun x : S1040x512.Idx => (x 0).val) hy
  have h1 : (y (1 : Fin 2)).val = b.val := congrArg (fun x : S1040x512.Idx => (x 1).val) hy
  refine (congrFun (after0_5 m c t) _).trans ?_
  rw [hy]
  obtain ⟨r, j, hz⟩ : ∃ r j, ((cfg0.win 5).blk t).view.emb y = ix2 r j := ⟨_, _, eq_ix2 (n0 := 8320) (n1 := 4096) _⟩
  have g0 : r.val = t.val % 8 * 1040 + a.val := by
    rw [← h0, ← show (((cfg0.win 5).blk t).view.emb y (0 : Fin 2)).val = r.val from congrArg (fun x : S8320x4096.Idx => (x 0).val) hz]
    blk_simp [idx5 t]
  have g1 : j.val = t.val / 8 * 512 + b.val := by
    rw [← h1, ← show (((cfg0.win 5).blk t).view.emb y (1 : Fin 2)).val = j.val from congrArg (fun x : S8320x4096.Idx => (x 1).val) hz]
    blk_simp [idx5 t]
  refine (entry_at m c t a b r j g0 g1).trans ?_
  exact (congrArg (res (V m c main_arg0) (V m c main_arg1) (V m c main_arg2) (V m c main_arg3) (V m c main_arg4)) hz).symm

/-! ## The reference -/

theorem ref_eq (x : FVec Ideal S8320x8192 .bf16) (w : FVec Ideal S2x8192x4096 .f32) (e0 : FVec Ideal S8320x4096 .f32) (e1 : FVec Ideal S8320x4096 .f32) (e2 : FVec Ideal S8320x8192 .f32) :
    truncf .bf16 (addf e1 (mulf (extractStridedSlice Cert.Reference14Ideal.S8320x4096 ![0, 4096] e2 Cert.Reference14Ideal.Gen.slices_S8320x8192_S8320x4096_0_4096)
      (addf e0 (Host.dotGeneral (φ₁ := .f32) (φ₂ := .f32) Cert.Reference14Ideal.dot_S8320x4096_S4096x4096_S8320x4096_1_0_0_1_n_n none
        (extf .f32 (extractStridedSlice Cert.Reference14Ideal.S8320x4096 ![0, 4096] x Cert.Reference14Ideal.Gen.slices_S8320x8192_S8320x4096_0_4096) Cert.Reference14Ideal.Gen.bitsLt_bf16_f32)
        (extractStridedSlice Cert.Reference14Ideal.S4096x4096 ![4096, 0] (shapeCast _ (extractStridedSlice Cert.Reference14Ideal.S1x8192x4096 ![0, 0, 0] w Cert.Reference14Ideal.Gen.slices_S2x8192x4096_S1x8192x4096_0_0_0)
          Cert.Reference14Ideal.Gen.shapeCasts_S1x8192x4096_S8192x4096) Cert.Reference14Ideal.Gen.slices_S8192x4096_S4096x4096_4096_0))))) Cert.Reference14Ideal.Gen.bitsLt_bf16_f32 = res x w e0 e1 e2 := by
  funext i
  obtain ⟨r, j, rfl⟩ : ∃ r j, i = ix2 r j := ⟨_, _, eq_ix2 (n0 := 8320) (n1 := 4096) i⟩
  unfold res ep dotE
  pointwise []

/-! ## The claims -/

theorem frame_kernel14 : Cert.quiescent_Kernel14 := fun m ρ _ => Cert.Kernel14.Gen.frame m ρ

theorem frame_ideal14 : Cert.quiescent_Kernel14Ideal := fun m ρ _ => Cert.Kernel14Ideal.Gen.frame m ρ

theorem frame_reference14 : Cert.quiescent_Reference14Ideal := fun m ρ _ =>
  (θ_run Cert.Reference14Ideal.defs _ _).mono
    (fun r h => ⟨fun c => (h c).2, sem_eq_zero_of_no_sems (by decide) r.2⟩)
    (Cert.Reference14Ideal.Value.run (F := Ideal) m ρ)

theorem algebraic14 : Cert.algebraic_Kernel14Ideal_Reference14Ideal := by
  intro m g m' g' hp hm
  refine ⟨fun c => res (m ((c : Thread nD τ).loc main_arg0)) (m ((c : Thread nD τ).loc main_arg1)) (m ((c : Thread nD τ).loc main_arg2)) (m ((c : Thread nD τ).loc main_arg3)) (m ((c : Thread nD τ).loc main_arg4)), ?_, ?_⟩
  · refine (θ_run defs _ _).mono (fun r hr c => ⟨(hr c).1.trans ((arr_out m c).trans ?_), (hr c).2⟩) (Cert.Kernel14Ideal.Value.run_blocks (F := Ideal) m g)
    rw [V_main_arg0, V_main_arg1, V_main_arg2, V_main_arg3, V_main_arg4]
  · refine (θ_run Cert.Reference14Ideal.defs _ _).mono (fun r hr c => ⟨(hr c).1.trans ?_, (hr c).2⟩) (Cert.Reference14Ideal.Value.run (F := Ideal) m' g')
    obtain ⟨e0, e1, e2, e3, e4⟩ := hm c
    rw [e0, e1, e2, e3, e4]
    exact ref_eq _ _ _ _ _

end Cert.Kernel14Ideal.OutHigh

end
-- ==== Proof.MemVal.lean ====
module

public import proofs.«01_k».proof.Proof.Gen.Kernel4Ideal.Value
public import proofs.«01_k».proof.Proof.UpVal
public import Idealize.ShloMosaic.Lib.Pipeline.Value
public import Idealize.ShloMosaic.Lib.Pipeline.ValueKit
public import Idealize.ShloMosaic.Lib.ValueLayout
public import Idealize.ShloMosaic.Lib.Pointwise
public import Idealize.ShloMosaic.Lib.Tactic

/-! The memory's keys: what a run of the body leaves, entry by entry. -/

@[expose] public section

set_option maxRecDepth 16384

noncomputable section

namespace Cert.Kernel4Ideal.Mem

open Cert.Kernel4Ideal Cert.Kernel4Ideal.Gen
open Idealize.ShloMosaic Idealize.ShloMosaic.TcCoe
open Cert.Kernel2Ideal.Up (part dotE dotE_parts)

variable {F : FTy → Type} [FloatOps F]

theorem hz : (![0, 0] : Fin 2 → Nat) = fun _ => 0 := funext fun a => by fin_cases a <;> rfl

/-- A block of weights at the narrower type, as a matrix. -/
def castW (X : Vec F S1x4096x512 .f32) : Vec F S4096x512 .bf16 :=
  fun y => FloatOps.truncf .bf16 bitsLt_bf16_f32 (X (ix3 (n0 := 1) (n1 := 4096) (n2 := 512) 0 (y 0) (y 1)))

/-- A chunk of 512 rows, cast, is those rows of the cast block. -/
theorem chunk_apply (o : ℕ) (inb : ∀ a, (![0, o, 0] : Fin 3 → ℕ) a + S1x512x512.size a ≤ S1x4096x512.size a)
    (inb' : ∀ a, (![o, 0] : Fin 2 → ℕ) a + S512x512.size a ≤ S4096x512.size a) (X : Vec F S1x4096x512 .f32) (x : S512x512.Idx) :
    shapeCast S512x512 (truncf (F := F) .bf16 (shapeCast S512x512
        (View.ld (Val := Elt F) X (Rect.unit (s := S1x4096x512) ![0, o, 0] S1x512x512.size inb)) shapeCasts_S1x512x512_S512x512) bitsLt_bf16_f32)
      shapeCasts_S512x512_S512x512 x
      = castW X ((Rect.unit (s := S4096x512) ![o, 0] S512x512.size inb').emb x) := by
  rw [shapeCast_self]
  obtain ⟨a, b, rfl⟩ : ∃ a b, x = ix2 a b := ⟨_, _, eq_ix2 (n0 := 512) (n1 := 512) x⟩
  show FloatOps.truncf .bf16 bitsLt_bf16_f32 (shapeCast (α := F .f32) S512x512 _ shapeCasts_S1x512x512_S512x512 (ix2 a b)) = _
  have e := shapeCast_apply (View.ld (Val := Elt F) X (Rect.unit (s := S1x4096x512) ![0, o, 0] S1x512x512.size inb))
    shapeCasts_S1x512x512_S512x512 (ix2 a b) (ix3 (n0 := 1) (n1 := 512) (n2 := 512) 0 a b) (by
      rw [Shape.rowMajor_val_three, Shape.rowMajor_val_two]
      show (0 * 512 + a.val) * 512 + b.val = a.val * 512 + b.val
      omega)
  refine (congrArg _ e).trans ?_
  unfold castW
  refine congrArg (fun z => FloatOps.truncf .bf16 bitsLt_bf16_f32 (X z)) ?_
  funext k
  apply Fin.ext
  fin_cases k
  · rfl
  · rfl
  · rfl

/-! ## The chunks of weights, cast, and of rows -/

def w0 (X : Vec F S1x4096x512 .f32) : FVec F S512x512 .bf16 := k0_pay5 (View.ld X (Rect.unit (s := S1x4096x512) ![0, 0, 0] S1x512x512.size inb_S1x4096x512_S1x512x512_0_0_0))
def x0 (X : Vec F S1024x4096 .bf16) : Vec F S1024x512 .bf16 := View.ld X (Rect.unit (s := S1024x4096) ![0, 0] S1024x512.size inb_S1024x4096_S1024x512_0_0)
def w1 (X : Vec F S1x4096x512 .f32) : FVec F S512x512 .bf16 := k0_pay6 (View.ld X (Rect.unit (s := S1x4096x512) ![0, 512, 0] S1x512x512.size inb_S1x4096x512_S1x512x512_0_512_0))
def x1 (X : Vec F S1024x4096 .bf16) : Vec F S1024x512 .bf16 := View.ld X (Rect.unit (s := S1024x4096) ![0, 512] S1024x512.size inb_S1024x4096_S1024x512_0_512)
def w2 (X : Vec F S1x4096x512 .f32) : FVec F S512x512 .bf16 := k0_pay8 (View.ld X (Rect.unit (s := S1x4096x512) ![0, 1024, 0] S1x512x512.size inb_S1x4096x512_S1x512x512_0_1024_0))
def x2 (X : Vec F S1024x4096 .bf16) : Vec F S1024x512 .bf16 := View.ld X (Rect.unit (s := S1024x4096) ![0, 1024] S1024x512.size inb_S1024x4096_S1024x512_0_1024)
def w3 (X : Vec F S1x4096x512 .f32) : FVec F S512x512 .bf16 := k0_pay9 (View.ld X (Rect.unit (s := S1x4096x512) ![0, 1536, 0] S1x512x512.size inb_S1x4096x512_S1x512x512_0_1536_0))
def x3 (X : Vec F S1024x4096 .bf16) : Vec F S1024x512 .bf16 := View.ld X (Rect.unit (s := S1024x4096) ![0, 1536] S1024x512.size inb_S1024x4096_S1024x512_0_1536)
def w4 (X : Vec F S1x4096x512 .f32) : FVec F S512x512 .bf16 := k0_pay10 (View.ld X (Rect.unit (s := S1x4096x512) ![0, 2048, 0] S1x512x512.size inb_S1x4096x512_S1x512x512_0_2048_0))
def x4 (X : Vec F S1024x4096 .bf16) : Vec F S1024x512 .bf16 := View.ld X (Rect.unit (s := S1024x4096) ![0, 2048] S1024x512.size inb_S1024x4096_S1024x512_0_2048)
def w5 (X : Vec F S1x4096x512 .f32) : FVec F S512x512 .bf16 := k0_pay12 (View.ld X (Rect.unit (s := S1x4096x512) ![0, 2560, 0] S1x512x512.size inb_S1x4096x512_S1x512x512_0_2560_0))
def x5 (X : Vec F S1024x4096 .bf16) : Vec F S1024x512 .bf16 := View.ld X (Rect.unit (s := S1024x4096) ![0, 2560] S1024x512.size inb_S1024x4096_S1024x512_0_2560)
def w6 (X : Vec F S1x4096x512 .f32) : FVec F S512x512 .bf16 := k0_pay1 (View.ld X (Rect.unit (s := S1x4096x512) ![0, 3072, 0] S1x512x512.size inb_S1x4096x512_S1x512x512_0_3072_0))
def x6 (X : Vec F S1024x4096 .bf16) : Vec F S1024x512 .bf16 := View.ld X (Rect.unit (s := S1024x4096) ![0, 3072] S1024x512.size inb_S1024x4096_S1024x512_0_3072)
def w7 (X : Vec F S1x4096x512 .f32) : FVec F S512x512 .bf16 := k0_pay2 (View.ld X (Rect.unit (s := S1x4096x512) ![0, 3584, 0] S1x512x512.size inb_S1x4096x512_S1x512x512_0_3584_0))
def x7 (X : Vec F S1024x4096 .bf16) : Vec F S1024x512 .bf16 := View.ld X (Rect.unit (s := S1024x4096) ![0, 3584] S1024x512.size inb_S1024x4096_S1024x512_0_3584)

/-- What the body stores where it casts the weights. -/
def outF (X : Vec F S1024x4096 .bf16) (W : Vec F S1x4096x512 .f32) : FVec F S1024x512 .f32 :=
  k0_pay3 (k0_pay11 (k0_pay7 (x0 X) (w0 W) (x1 X) (w1 W)) (x2 X) (w2 W) (constant S1024x512 .f32 0x00000000#32) (x3 X) (w3 W) (x4 X) (w4 W))
    (x5 X) (w5 W) (x6 X) (w6 W) (x7 X) (w7 W)

theorem out_A (c : Dev nD) (i : grid0.Coords) (arg2 : Memref sig .tc .vmem S1024x4096 .bf16) (harg2 : arg2.IsWhole)
    (arg3 : Memref sig .tc .vmem S1x4096x512 .f32) (harg3 : arg3.IsWhole) (arg4 : Memref sig .tc .vmem S1024x512 .f32) (harg4 : arg4.IsWhole)
    (arg5 : Memref sig .tc .vmem S4096x512 .bf16) (harg5 : arg5.IsWhole)
    (hc0 : cond0_0 i) (hc1 : ¬cond0_1 i) (x0 : Vec F S1024x4096 .bf16) (x1 : Vec F S1x4096x512 .f32) :
    out0_A_2 c i arg2 harg2 arg3 harg3 arg4 harg4 arg5 harg5 hc0 hc1 x0 x1 = outF x0 x1 := by
  unfold out0_A_2
  rw [View.read_writes_eq_canon _ _ _ (cover0_A_2 c i arg2 harg2 arg3 harg3 arg4 harg4 arg5 harg5 hc0 hc1 x0 x1)]
  unfold kernelRun0_A
  dsimp only
  rw [View.canon_unit_zero hz]
  sl_unfold_words
  simp only [View.readAt_eq_ld, harg2.read_unread, harg3.read_unread, View.readCov_cons_toLoadRect]
  rfl

/-! ## Over the extended reals -/

/-- One chunk's product. -/
def mm (A : FVec Ideal S1024x512 .bf16) (B : FVec Ideal S512x512 .bf16) : FVec Ideal S1024x512 .f32 :=
  matmul (φ₁ := .bf16) (φ₂ := .bf16) dot_S1024x512_S512x512_S1024x512_1_0_0_1_n_n none A B (constant S1024x512 .f32 0x00000000#32)

theorem mm_at (A : FVec Ideal S1024x512 .bf16) (B : FVec Ideal S512x512 .bf16) (a : Fin 1024) (b : Fin 512) :
    (mm A B (ix2 a b) : EReal) = ∑ k : Fin 512, (A (ix2 a k) : EReal) * (B (ix2 k b) : EReal) := by
  pointwise [mm]

theorem chunk_mm (s : Fin 8) (o : ℕ) (ho : o = s.val * 512) (inbX : ∀ a, (![0, o] : Fin 2 → ℕ) a + S1024x512.size a ≤ S1024x4096.size a)
    (inbS : ∀ a, (![o, 0] : Fin 2 → ℕ) a + S512x512.size a ≤ S4096x512.size a)
    (X : Vec Ideal S1024x4096 .bf16) (C : Vec Ideal S4096x512 .bf16) (B : Vec Ideal S512x512 .bf16)
    (hB : ∀ x, B x = C ((Rect.unit (s := S4096x512) ![o, 0] S512x512.size inbS).emb x)) (a : Fin 1024) (b : Fin 512) :
    (mm (View.ld (Val := Elt Ideal) X (Rect.unit (s := S1024x4096) ![0, o] S1024x512.size inbX)) B (ix2 a b) : EReal)
      = part (fun k => X (ix2 a k)) (fun k => C (ix2 k b)) s := by
  subst ho
  rw [mm_at]
  unfold part
  refine Finset.sum_congr rfl fun k _ => ?_
  rw [hB]
  refine congrArg₂ (fun p q : EReal => p * q) ?_ ?_
  · show X _ = X _
    refine congrArg X ?_
    funext i; apply Fin.ext
    fin_cases i
    · show 0 + 1 * a.val = a.val; omega
    · show s.val * 512 + 1 * k.val = s.val * 512 + k.val; omega
  · refine congrArg C ?_
    funext i; apply Fin.ext
    fin_cases i
    · show s.val * 512 + 1 * k.val = s.val * 512 + k.val; omega
    · show 0 + 1 * b.val = b.val; omega

variable (X : Vec Ideal S1024x4096 .bf16) (W : Vec Ideal S1x4096x512 .f32)

theorem outF_eq : outF X W
    = addf (addf (addf (addf (addf (addf (addf (mm (x0 X) (w0 W)) (mm (x1 X) (w1 W))) (mm (x2 X) (w2 W))) (mm (x3 X) (w3 W))) (mm (x4 X) (w4 W)))
      (mm (x5 X) (w5 W))) (mm (x6 X) (w6 W))) (mm (x7 X) (w7 W)) := by
  unfold outF k0_pay3 k0_pay11 k0_pay7 mm
  rfl

theorem outF_at (a : Fin 1024) (b : Fin 512) :
    (outF X W (ix2 a b) : EReal) = dotE (fun k => X (ix2 a k)) (fun k => W (ix3 0 k b)) := by
  rw [outF_eq]
  refine Eq.trans ?_ (dotE_parts (fun k => X (ix2 a k)) (fun k => castW W (ix2 k b)))
  rw [← chunk_mm 0 0 rfl inb_S1024x4096_S1024x512_0_0 inb_S4096x512_S512x512_0_0 X (castW W) (w0 W) (fun x => chunk_apply 0 _ _ W x) a b,
    ← chunk_mm 1 512 rfl inb_S1024x4096_S1024x512_0_512 inb_S4096x512_S512x512_512_0 X (castW W) (w1 W) (fun x => chunk_apply 512 _ _ W x) a b,
    ← chunk_mm 2 1024 rfl inb_S1024x4096_S1024x512_0_1024 inb_S4096x512_S512x512_1024_0 X (castW W) (w2 W) (fun x => chunk_apply 1024 _ _ W x) a b,
    ← chunk_mm 3 1536 rfl inb_S1024x4096_S1024x512_0_1536 inb_S4096x512_S512x512_1536_0 X (castW W) (w3 W) (fun x => chunk_apply 1536 _ _ W x) a b,
    ← chunk_mm 4 2048 rfl inb_S1024x4096_S1024x512_0_2048 inb_S4096x512_S512x512_2048_0 X (castW W) (w4 W) (fun x => chunk_apply 2048 _ _ W x) a b,
    ← chunk_mm 5 2560 rfl inb_S1024x4096_S1024x512_0_2560 inb_S4096x512_S512x512_2560_0 X (castW W) (w5 W) (fun x => chunk_apply 2560 _ _ W x) a b,
    ← chunk_mm 6 3072 rfl inb_S1024x4096_S1024x512_0_3072 inb_S4096x512_S512x512_3072_0 X (castW W) (w6 W) (fun x => chunk_apply 3072 _ _ W x) a b,
    ← chunk_mm 7 3584 rfl inb_S1024x4096_S1024x512_0_3584 inb_S4096x512_S512x512_3584_0 X (castW W) (w7 W) (fun x => chunk_apply 3584 _ _ W x) a b]
  rfl

end Cert.Kernel4Ideal.Mem

end
-- ==== Proof.MemAlgebra.lean ====
module

public import proofs.«01_k».proof.Defs
public import proofs.«01_k».proof.Proof.MemVal
public import proofs.«01_k».proof.Proof.Gen.Kernel4.Frame
public import proofs.«01_k».proof.Proof.Gen.Reference4Ideal.Run
public import Idealize.ShloMosaic.Lib.Pipeline.ValueKit.Geometry

/-! The memory's keys: the run and the reference's, with one and the same result. -/

@[expose] public section

set_option maxRecDepth 16384

noncomputable section

namespace Cert.Kernel4Ideal.Mem

open Cert.Kernel4Ideal Cert.Kernel4Ideal.Gen
open Idealize.ShloMosaic Idealize.ShloMosaic.TcCoe Idealize.ShloMosaic.Tactic Idealize.SL.Sem
open Cert.Kernel2Ideal.Up (dotE)

/-! ## Which blocks a point sees -/

theorem idxIn : ∀ t : Fin grid0.N, cc0_transform_0 (grid0.coords t) = ![0, 0] := by decide +kernel
theorem idxWt : ∀ t : Fin grid0.N, cc0_transform_1 (grid0.coords t) = ![0, 0, 0] := by decide +kernel
theorem idxOut : ∀ t : Fin grid0.N, cc0_transform_2 (grid0.coords t) = ![0, 0] := by decide +kernel
theorem flushOut : ∀ t : Fin grid0.N, Pipeline.Window.flushOf grid0 true cc0_transform_2 t = true := by decide +kernel

theorem idx0 (t : Fin cfg0.N) : (cfg0.win 0).index t = ![0, 0] := idxIn t
theorem idx1 (t : Fin cfg0.N) : (cfg0.win 1).index t = ![0, 0, 0] := idxWt t
theorem idx2 (t : Fin cfg0.N) : (cfg0.win 2).index t = ![0, 0] := idxOut t
theorem flush2 (t : Fin cfg0.N) : (cfg0.win 2).flush t = true := flushOut t

variable {F : FTy → Type} [FloatOps F] (m : (ℓ : Loc nD τ sig) → Buf (Elt F) ℓ)

theorem blk0_apply (c : Dev nD) (t : Fin cfg0.N) (a : Fin 1024) (k : Fin 4096) :
    (iblk m c 0 t : Vec F S1024x4096 .bf16) (ix2 a k) = V m c main_arg0 (ix2 (n0 := 1024) (n1 := 4096) ⟨0 * 1024 + a.val, by have := a.isLt; omega⟩ k) := by
  show V m c main_arg0 _ = V m c main_arg0 _
  blk_ext [iblk, idx0 t]

theorem blk1_apply (c : Dev nD) (t : Fin cfg0.N) (k : Fin 4096) (b : Fin 512) :
    (iblk m c 1 t : Vec F S1x4096x512 .f32) (ix3 0 k b) = V m c main_arg1 (ix3 (n0 := 2) (n1 := 4096) (n2 := 512) 0 k ⟨0 * 512 + b.val, by have := b.isLt; omega⟩) := by
  show V m c main_arg1 _ = V m c main_arg1 _
  blk_ext [iblk, idx1 t]

/-! ## The result -/

/-- What the point leaves of the result, entry by entry. -/
theorem out_at (m : (ℓ : Loc nD τ sig) → Buf (Elt Ideal) ℓ) (c : Dev nD) (t : Fin cfg0.N) (a : Fin 1024) (b : Fin 512) :
    (outsAt0 m c t (ix2 a b) : EReal)
      = dotE (fun k => (iblk m c 0 t : Vec Ideal S1024x4096 .bf16) (ix2 a k)) (fun k => (iblk m c 1 t : Vec Ideal S1x4096x512 .f32) (ix3 0 k b)) := by
  unfold outsAt0
  rw [out_A]
  exact outF_at _ _ a b

/-- The result, entry by entry: a row of the operand against a column of the layer's weights. -/
def res (x : FVec Ideal S1024x4096 .bf16) (w : FVec Ideal S2x4096x512 .f32) : FVec Ideal S1024x512 .f32 := fun i =>
  (dotE (fun k => x (ix2 (i 0) k)) (fun k => w (ix3 0 k (i 1))) : EReal)

theorem covers2 : (cfg0.win 2).Covers := by
  refine ⟨(by decide : ∀ a : Fin 2, 0 < S1024x512.size a), fun β => ?_⟩
  have h0 : (β (0 : Fin 2)).val < 1 := lt_of_lt_of_eq (β (0 : Fin 2)).isLt (show (S1024x512.size 0 + S1024x512.size 0 - 1) / S1024x512.size 0 = 1 by decide)
  have h1 : (β (1 : Fin 2)).val < 1 := lt_of_lt_of_eq (β (1 : Fin 2)).isLt (show (S1024x512.size 1 + S1024x512.size 1 - 1) / S1024x512.size 1 = 1 by decide)
  refine ⟨⟨1 * (β (1 : Fin 2)).val + (β (0 : Fin 2)).val, lt_of_lt_of_eq (by omega : _ < 1) N_0.symm⟩, flush2 _, fun a => ⟨?_, Or.inl rfl⟩⟩
  rw [idx2]
  match a with
  | ⟨0, _⟩ => show 0 = (β (0 : Fin 2)).val; omega
  | ⟨1, _⟩ => show 0 = (β (1 : Fin 2)).val; omega

theorem entry_at (m : (ℓ : Loc nD τ sig) → Buf (Elt Ideal) ℓ) (c : Dev nD) (t : Fin cfg0.N) (a : Fin 1024) (b : Fin 512)
    (r : Fin 1024) (j : Fin 512) (hr : r.val = 0 * 1024 + a.val) (hj : j.val = 0 * 512 + b.val) :
    (outsAt0 m c t (ix2 a b) : EReal) = res (V m c main_arg0) (V m c main_arg1) (ix2 r j) := by
  refine (out_at m c t a b).trans ?_
  unfold res
  refine congrArg₂ dotE (funext fun k => ?_) (funext fun k => ?_)
  · refine (blk0_apply m c t a k).trans (congrArg (fun z => V m c main_arg0 (ix2 (n0 := 1024) (n1 := 4096) z k)) (Fin.ext ?_))
    exact hr.symm
  · refine (blk1_apply m c t k b).trans (congrArg (fun z => V m c main_arg1 (ix3 (n0 := 2) (n1 := 4096) (n2 := 512) 0 k z)) (Fin.ext ?_))
    exact hj.symm

/-- The result's array after the whole run. -/
theorem arr_out (m : (ℓ : Loc nD τ sig) → Buf (Elt Ideal) ℓ) (c : Dev nD) :
    (dats m 0 c).arrAt 2 cfg0.N = res (V m c main_arg0) (V m c main_arg1) := by
  refine Pipeline.Dat.arrAt_eq_of_covers (dats m 0 c) 2 _ covers2 (fun t _ y => ?_)
  obtain ⟨a, b, hy⟩ : ∃ a b, (cfg0.win 2).xinj (cfg0.grid.coords t) y = ix2 a b := ⟨_, _, eq_ix2 (n0 := 1024) (n1 := 512) _⟩
  have h0 : (y (0 : Fin 2)).val = a.val := congrArg (fun x : S1024x512.Idx => (x 0).val) hy
  have h1 : (y (1 : Fin 2)).val = b.val := congrArg (fun x : S1024x512.Idx => (x 1).val) hy
  refine (congrFun (after0_2 m c t) _).trans ?_
  rw [hy]
  obtain ⟨r, j, hz⟩ : ∃ r j, ((cfg0.win 2).blk t).view.emb y = ix2 r j := ⟨_, _, eq_ix2 (n0 := 1024) (n1 := 512) _⟩
  have g0 : r.val = 0 * 1024 + a.val := by
    rw [← h0, ← show (((cfg0.win 2).blk t).view.emb y (0 : Fin 2)).val = r.val from congrArg (fun x : S1024x512.Idx => (x 0).val) hz]
    blk_simp [idx2 t]
  have g1 : j.val = 0 * 512 + b.val := by
    rw [← h1, ← show (((cfg0.win 2).blk t).view.emb y (1 : Fin 2)).val = j.val from congrArg (fun x : S1024x512.Idx => (x 1).val) hz]
    blk_simp [idx2 t]
  refine (entry_at m c t a b r j g0 g1).trans ?_
  exact (congrArg (res (V m c main_arg0) (V m c main_arg1)) hz).symm

/-! ## The reference -/

theorem ref_eq (x : FVec Ideal S1024x4096 .bf16) (w : FVec Ideal S2x4096x512 .f32) : Host.dotGeneral (φ₁ := .f32) (φ₂ := .f32) Cert.Reference4Ideal.dot_S1024x4096_S4096x512_S1024x512_1_0_0_1_n_n none (extf .f32 x Cert.Reference4Ideal.Gen.bitsLt_bf16_f32)
    (shapeCast _ (extractStridedSlice Cert.Reference4Ideal.S1x4096x512 ![0, 0, 0] w Cert.Reference4Ideal.Gen.slices_S2x4096x512_S1x4096x512_0_0_0) Cert.Reference4Ideal.Gen.shapeCasts_S1x4096x512_S4096x512) = res x w := by
  funext i
  obtain ⟨r, j, rfl⟩ : ∃ r j, i = ix2 r j := ⟨_, _, eq_ix2 (n0 := 1024) (n1 := 512) i⟩
  unfold res dotE
  pointwise []

/-! ## The claims -/

theorem frame_kernel4 : Cert.quiescent_Kernel4 := fun m ρ _ => Cert.Kernel4.Gen.frame m ρ

theorem frame_ideal4 : Cert.quiescent_Kernel4Ideal := fun m ρ _ => Cert.Kernel4Ideal.Gen.frame m ρ

theorem frame_reference4 : Cert.quiescent_Reference4Ideal := fun m ρ _ =>
  (θ_run Cert.Reference4Ideal.defs _ _).mono
    (fun r h => ⟨fun c => (h c).2, sem_eq_zero_of_no_sems (by decide) r.2⟩)
    (Cert.Reference4Ideal.Value.run (F := Ideal) m ρ)

theorem algebraic4 : Cert.algebraic_Kernel4Ideal_Reference4Ideal := by
  intro m g m' g' hp hm
  refine ⟨fun c => res (m ((c : Thread nD τ).loc main_arg0)) (m ((c : Thread nD τ).loc main_arg1)), ?_, ?_⟩
  · refine (θ_run defs _ _).mono (fun r hr c => ⟨(hr c).1.trans ((arr_out m c).trans ?_), (hr c).2⟩) (Cert.Kernel4Ideal.Value.run_blocks (F := Ideal) m g)
    rw [V_main_arg0, V_main_arg1]
  · refine (θ_run Cert.Reference4Ideal.defs _ _).mono (fun r hr c => ⟨(hr c).1.trans ?_, (hr c).2⟩) (Cert.Reference4Ideal.Value.run (F := Ideal) m' g')
    obtain ⟨e0, e1⟩ := hm c
    rw [e0, e1]
    exact ref_eq _ _

end Cert.Kernel4Ideal.Mem

end
-- ==== Proof.lean ====
/- The claims about the programs, assembled from the modules under Proof/. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Run
public import proofs.«01_k».proof.Proof.Twin
public import proofs.«01_k».proof.Proof.Algebra
public import proofs.«01_k».proof.Proof.DownAlgebra
public import proofs.«01_k».proof.Proof.InAlgebra
public import proofs.«01_k».proof.Proof.InZAlgebra
public import proofs.«01_k».proof.Proof.InXbcAlgebra
public import proofs.«01_k».proof.Proof.InGatesAlgebra
public import proofs.«01_k».proof.Proof.OutLowAlgebra
public import proofs.«01_k».proof.Proof.NormPrompt
public import proofs.«01_k».proof.Proof.NormSample
public import proofs.«01_k».proof.Proof.MixOutAlgebra
public import proofs.«01_k».proof.Proof.SconvOutAlgebra
public import proofs.«01_k».proof.Proof.OutHighAlgebra
public import proofs.«01_k».proof.Proof.MemAlgebra
public import proofs.«01_k».proof.Proof.UpAlgebra
public import Idealize.ShloMosaic.Adequacy
public import Idealize.ShloMosaic.Init

@[expose] public section

noncomputable section

namespace Cert.Proof

open Idealize.ShloMosaic Idealize.SL.Sem

/-- The kernel over bits: the run of the scan, which is written for any float values, at the bits. -/
theorem frame_kernel : Cert.quiescent_Kernel := fun m ρ _ =>
  Cert.Twin.run_eq _ _ (Cert.KernelIdeal.Scan.run_frame (F := Bits) m ρ)

/-- The same run over the extended reals. -/
theorem frame_ideal : Cert.quiescent_KernelIdeal := fun m ρ _ => Cert.KernelIdeal.Scan.run_frame (F := Ideal) m ρ

/-- The reference over the extended reals: it is host code alone and declares no semaphore. -/
theorem frame_reference : Cert.quiescent_ReferenceIdeal := fun m ρ _ =>
  (θ_run Cert.ReferenceIdeal.defs _ _).mono
    (fun r h => ⟨fun c => (h c).2.2, sem_eq_zero_of_no_sems (by decide) r.2⟩)
    (Cert.ReferenceIdeal.Value.run (F := Ideal) m ρ)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Ssd.preFacts, Cert.Kernel2Ideal.Up.pre2Facts, Cert.Kernel3Ideal.Down.pre3Facts, Cert.Ssd.writtenFacts,
    frame_kernel, frame_ideal, fun m ρ _ => frame_ideal m ρ trivial, frame_reference, fun m ρ _ => frame_reference m ρ trivial,
    Cert.Kernel2Ideal.Up.frame_kernel2, Cert.Kernel2Ideal.Up.frame_ideal2, Cert.Kernel2Ideal.Up.frame_reference2,
    Cert.Kernel3Ideal.Down.frame_kernel3, Cert.Kernel3Ideal.Down.frame_ideal3, Cert.Kernel3Ideal.Down.frame_reference3,
    Cert.Kernel4Ideal.Mem.frame_kernel4, Cert.Kernel4Ideal.Mem.frame_ideal4, Cert.Kernel4Ideal.Mem.frame_reference4,
    Cert.Kernel5Ideal.In.frame_kernel5, Cert.Kernel5Ideal.In.frame_ideal5, Cert.Kernel5Ideal.In.frame_reference5,
    Cert.Kernel6Ideal.Gate.frame_kernel6, Cert.Kernel6Ideal.Gate.frame_ideal6, Cert.Kernel6Ideal.Gate.frame_reference6,
    Cert.Kernel7Ideal.Xbc.frame_kernel7, Cert.Kernel7Ideal.Xbc.frame_ideal7, Cert.Kernel7Ideal.Xbc.frame_reference7,
    Cert.Kernel8Ideal.Gates.frame_kernel8, Cert.Kernel8Ideal.Gates.frame_ideal8, Cert.Kernel8Ideal.Gates.frame_reference8,
    Cert.Kernel9Ideal.OutLow.frame_kernel9, Cert.Kernel9Ideal.OutLow.frame_ideal9, Cert.Kernel9Ideal.OutLow.frame_reference9,
    Cert.Kernel10Ideal.Prompt.frame_kernel10, Cert.Kernel10Ideal.Prompt.frame_ideal10, Cert.Kernel10Ideal.Prompt.frame_reference10,
    Cert.Kernel11Ideal.Sample.frame_kernel11, Cert.Kernel11Ideal.Sample.frame_ideal11, Cert.Kernel11Ideal.Sample.frame_reference11,
    Cert.Kernel12Ideal.Mix.frame_kernel12, Cert.Kernel12Ideal.Mix.frame_ideal12, Cert.Kernel12Ideal.Mix.frame_reference12,
    Cert.Kernel13Ideal.Sconv.frame_kernel13, Cert.Kernel13Ideal.Sconv.frame_ideal13, Cert.Kernel13Ideal.Sconv.frame_reference13,
    Cert.Kernel14Ideal.OutHigh.frame_kernel14, Cert.Kernel14Ideal.OutHigh.frame_ideal14, Cert.Kernel14Ideal.OutHigh.frame_reference14,
    trivial, Cert.Ssd.algebraic, trivial, Cert.Kernel2Ideal.Up.algebraic2, trivial, Cert.Kernel3Ideal.Down.algebraic3,
    trivial, Cert.Kernel4Ideal.Mem.algebraic4, trivial, Cert.Kernel5Ideal.In.algebraic5,
    trivial, Cert.Kernel6Ideal.Gate.algebraic6,
    trivial, Cert.Kernel7Ideal.Xbc.algebraic7,
    trivial, Cert.Kernel8Ideal.Gates.algebraic8,
    trivial, Cert.Kernel9Ideal.OutLow.algebraic9,
    trivial, Cert.Kernel10Ideal.Prompt.algebraic10,
    trivial, Cert.Kernel11Ideal.Sample.algebraic11,
    trivial, Cert.Kernel12Ideal.Mix.algebraic12,
    trivial, Cert.Kernel13Ideal.Sconv.algebraic13,
    trivial, Cert.Kernel14Ideal.OutHigh.algebraic14⟩

end Cert.Proof

end
